-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelQb (m : (ℓ : Loc Cert.KernelQb.nD Cert.KernelQb.τ Cert.KernelQb.sig) → Buf (Elt Bits) ℓ) : Prop :=
  True

def Pre_KernelQbIdeal (m : (ℓ : Loc Cert.KernelQbIdeal.nD Cert.KernelQbIdeal.τ Cert.KernelQbIdeal.sig) → Buf (Elt Ideal) ℓ) : Prop :=
  True

def Pre_ReferenceQbIdeal (m : (ℓ : Loc Cert.ReferenceQbIdeal.nD Cert.ReferenceQbIdeal.τ Cert.ReferenceQbIdeal.sig) → Buf (Elt Ideal) ℓ) : Prop :=
  True

def Pre_KernelKb (m : (ℓ : Loc Cert.KernelKb.nD Cert.KernelKb.τ Cert.KernelKb.sig) → Buf (Elt Bits) ℓ) : Prop :=
  True

def Pre_KernelKbIdeal (m : (ℓ : Loc Cert.KernelKbIdeal.nD Cert.KernelKbIdeal.τ Cert.KernelKbIdeal.sig) → Buf (Elt Ideal) ℓ) : Prop :=
  True

def Pre_ReferenceKbIdeal (m : (ℓ : Loc Cert.ReferenceKbIdeal.nD Cert.ReferenceKbIdeal.τ Cert.ReferenceKbIdeal.sig) → Buf (Elt Ideal) ℓ) : Prop :=
  True

def Pre_KernelVb (m : (ℓ : Loc Cert.KernelVb.nD Cert.KernelVb.τ Cert.KernelVb.sig) → Buf (Elt Bits) ℓ) : Prop :=
  True

def Pre_KernelVbIdeal (m : (ℓ : Loc Cert.KernelVbIdeal.nD Cert.KernelVbIdeal.τ Cert.KernelVbIdeal.sig) → Buf (Elt Ideal) ℓ) : Prop :=
  True

def Pre_ReferenceVbIdeal (m : (ℓ : Loc Cert.ReferenceVbIdeal.nD Cert.ReferenceVbIdeal.τ Cert.ReferenceVbIdeal.sig) → Buf (Elt Ideal) ℓ) : Prop :=
  True

def Pre_KernelQc (m : (ℓ : Loc Cert.KernelQc.nD Cert.KernelQc.τ Cert.KernelQc.sig) → Buf (Elt Bits) ℓ) : Prop :=
  True

def Pre_KernelQcIdeal (m : (ℓ : Loc Cert.KernelQcIdeal.nD Cert.KernelQcIdeal.τ Cert.KernelQcIdeal.sig) → Buf (Elt Ideal) ℓ) : Prop :=
  True

def Pre_ReferenceQcIdeal (m : (ℓ : Loc Cert.ReferenceQcIdeal.nD Cert.ReferenceQcIdeal.τ Cert.ReferenceQcIdeal.sig) → Buf (Elt Ideal) ℓ) : Prop :=
  True

def Pre_KernelKc (m : (ℓ : Loc Cert.KernelKc.nD Cert.KernelKc.τ Cert.KernelKc.sig) → Buf (Elt Bits) ℓ) : Prop :=
  True

def Pre_KernelKcIdeal (m : (ℓ : Loc Cert.KernelKcIdeal.nD Cert.KernelKcIdeal.τ Cert.KernelKcIdeal.sig) → Buf (Elt Ideal) ℓ) : Prop :=
  True

def Pre_ReferenceKcIdeal (m : (ℓ : Loc Cert.ReferenceKcIdeal.nD Cert.ReferenceKcIdeal.τ Cert.ReferenceKcIdeal.sig) → Buf (Elt Ideal) ℓ) : Prop :=
  True

def Pre_KernelVc (m : (ℓ : Loc Cert.KernelVc.nD Cert.KernelVc.τ Cert.KernelVc.sig) → Buf (Elt Bits) ℓ) : Prop :=
  True

def Pre_KernelVcIdeal (m : (ℓ : Loc Cert.KernelVcIdeal.nD Cert.KernelVcIdeal.τ Cert.KernelVcIdeal.sig) → Buf (Elt Ideal) ℓ) : Prop :=
  True

def Pre_ReferenceVcIdeal (m : (ℓ : Loc Cert.ReferenceVcIdeal.nD Cert.ReferenceVcIdeal.τ Cert.ReferenceVcIdeal.sig) → Buf (Elt Ideal) ℓ) : Prop :=
  True

def Pre_KernelQi (m : (ℓ : Loc Cert.KernelQi.nD Cert.KernelQi.τ Cert.KernelQi.sig) → Buf (Elt Bits) ℓ) : Prop :=
  True

def Pre_KernelQiIdeal (m : (ℓ : Loc Cert.KernelQiIdeal.nD Cert.KernelQiIdeal.τ Cert.KernelQiIdeal.sig) → Buf (Elt Ideal) ℓ) : Prop :=
  True

def Pre_ReferenceQiIdeal (m : (ℓ : Loc Cert.ReferenceQiIdeal.nD Cert.ReferenceQiIdeal.τ Cert.ReferenceQiIdeal.sig) → Buf (Elt Ideal) ℓ) : Prop :=
  True

def Pre_KernelKi (m : (ℓ : Loc Cert.KernelKi.nD Cert.KernelKi.τ Cert.KernelKi.sig) → Buf (Elt Bits) ℓ) : Prop :=
  True

def Pre_KernelKiIdeal (m : (ℓ : Loc Cert.KernelKiIdeal.nD Cert.KernelKiIdeal.τ Cert.KernelKiIdeal.sig) → Buf (Elt Ideal) ℓ) : Prop :=
  True

def Pre_ReferenceKiIdeal (m : (ℓ : Loc Cert.ReferenceKiIdeal.nD Cert.ReferenceKiIdeal.τ Cert.ReferenceKiIdeal.sig) → Buf (Elt Ideal) ℓ) : Prop :=
  True

def Pre_KernelWi (m : (ℓ : Loc Cert.KernelWi.nD Cert.KernelWi.τ Cert.KernelWi.sig) → Buf (Elt Bits) ℓ) : Prop :=
  True

def Pre_KernelWiIdeal (m : (ℓ : Loc Cert.KernelWiIdeal.nD Cert.KernelWiIdeal.τ Cert.KernelWiIdeal.sig) → Buf (Elt Ideal) ℓ) : Prop :=
  True

def Pre_ReferenceWiIdeal (m : (ℓ : Loc Cert.ReferenceWiIdeal.nD Cert.ReferenceWiIdeal.τ Cert.ReferenceWiIdeal.sig) → Buf (Elt Ideal) ℓ) : Prop :=
  True

def Pre_KernelQkd (m : (ℓ : Loc Cert.KernelQkd.nD Cert.KernelQkd.τ Cert.KernelQkd.sig) → Buf (Elt Bits) ℓ) : Prop :=
  True

def Pre_KernelQkdIdeal (m : (ℓ : Loc Cert.KernelQkdIdeal.nD Cert.KernelQkdIdeal.τ Cert.KernelQkdIdeal.sig) → Buf (Elt Ideal) ℓ) : Prop :=
  True

def Pre_ReferenceQkdIdeal (m : (ℓ : Loc Cert.ReferenceQkdIdeal.nD Cert.ReferenceQkdIdeal.τ Cert.ReferenceQkdIdeal.sig) → Buf (Elt Ideal) ℓ) : Prop :=
  True

def Pre_KernelVgd (m : (ℓ : Loc Cert.KernelVgd.nD Cert.KernelVgd.τ Cert.KernelVgd.sig) → Buf (Elt Bits) ℓ) : Prop :=
  True

def Pre_KernelVgdIdeal (m : (ℓ : Loc Cert.KernelVgdIdeal.nD Cert.KernelVgdIdeal.τ Cert.KernelVgdIdeal.sig) → Buf (Elt Ideal) ℓ) : Prop :=
  True

def Pre_ReferenceVgdIdeal (m : (ℓ : Loc Cert.ReferenceVgdIdeal.nD Cert.ReferenceVgdIdeal.τ Cert.ReferenceVgdIdeal.sig) → Buf (Elt Ideal) ℓ) : Prop :=
  True

def Pre_KernelKbs (m : (ℓ : Loc Cert.KernelKbs.nD Cert.KernelKbs.τ Cert.KernelKbs.sig) → Buf (Elt Bits) ℓ) : Prop :=
  True

def Pre_KernelKbsIdeal (m : (ℓ : Loc Cert.KernelKbsIdeal.nD Cert.KernelKbsIdeal.τ Cert.KernelKbsIdeal.sig) → Buf (Elt Ideal) ℓ) : Prop :=
  True

def Pre_ReferenceKbsIdeal (m : (ℓ : Loc Cert.ReferenceKbsIdeal.nD Cert.ReferenceKbsIdeal.τ Cert.ReferenceKbsIdeal.sig) → Buf (Elt Ideal) ℓ) : Prop :=
  True

def Pre_KernelVbs (m : (ℓ : Loc Cert.KernelVbs.nD Cert.KernelVbs.τ Cert.KernelVbs.sig) → Buf (Elt Bits) ℓ) : Prop :=
  True

def Pre_KernelVbsIdeal (m : (ℓ : Loc Cert.KernelVbsIdeal.nD Cert.KernelVbsIdeal.τ Cert.KernelVbsIdeal.sig) → Buf (Elt Ideal) ℓ) : Prop :=
  True

def Pre_ReferenceVbsIdeal (m : (ℓ : Loc Cert.ReferenceVbsIdeal.nD Cert.ReferenceVbsIdeal.τ Cert.ReferenceVbsIdeal.sig) → Buf (Elt Ideal) ℓ) : Prop :=
  True

def Pre_KernelKcs (m : (ℓ : Loc Cert.KernelKcs.nD Cert.KernelKcs.τ Cert.KernelKcs.sig) → Buf (Elt Bits) ℓ) : Prop :=
  True

def Pre_KernelKcsIdeal (m : (ℓ : Loc Cert.KernelKcsIdeal.nD Cert.KernelKcsIdeal.τ Cert.KernelKcsIdeal.sig) → Buf (Elt Ideal) ℓ) : Prop :=
  True

def Pre_ReferenceKcsIdeal (m : (ℓ : Loc Cert.ReferenceKcsIdeal.nD Cert.ReferenceKcsIdeal.τ Cert.ReferenceKcsIdeal.sig) → Buf (Elt Ideal) ℓ) : Prop :=
  True

def Pre_KernelVcs (m : (ℓ : Loc Cert.KernelVcs.nD Cert.KernelVcs.τ Cert.KernelVcs.sig) → Buf (Elt Bits) ℓ) : Prop :=
  True

def Pre_KernelVcsIdeal (m : (ℓ : Loc Cert.KernelVcsIdeal.nD Cert.KernelVcsIdeal.τ Cert.KernelVcsIdeal.sig) → Buf (Elt Ideal) ℓ) : Prop :=
  True

def Pre_ReferenceVcsIdeal (m : (ℓ : Loc Cert.ReferenceVcsIdeal.nD Cert.ReferenceVcsIdeal.τ Cert.ReferenceVcsIdeal.sig) → Buf (Elt Ideal) ℓ) : Prop :=
  True

def Pre_KernelKis (m : (ℓ : Loc Cert.KernelKis.nD Cert.KernelKis.τ Cert.KernelKis.sig) → Buf (Elt Bits) ℓ) : Prop :=
  True

def Pre_KernelKisIdeal (m : (ℓ : Loc Cert.KernelKisIdeal.nD Cert.KernelKisIdeal.τ Cert.KernelKisIdeal.sig) → Buf (Elt Ideal) ℓ) : Prop :=
  True

def Pre_ReferenceKisIdeal (m : (ℓ : Loc Cert.ReferenceKisIdeal.nD Cert.ReferenceKisIdeal.τ Cert.ReferenceKisIdeal.sig) → Buf (Elt Ideal) ℓ) : Prop :=
  True

def Pre_KernelLg (m : (ℓ : Loc Cert.KernelLg.nD Cert.KernelLg.τ Cert.KernelLg.sig) → Buf (Elt Bits) ℓ) : Prop :=
  True

def Pre_KernelLgIdeal (m : (ℓ : Loc Cert.KernelLgIdeal.nD Cert.KernelLgIdeal.τ Cert.KernelLgIdeal.sig) → Buf (Elt Ideal) ℓ) : Prop :=
  True

def Pre_ReferenceLgIdeal (m : (ℓ : Loc Cert.ReferenceLgIdeal.nD Cert.ReferenceLgIdeal.τ Cert.ReferenceLgIdeal.sig) → Buf (Elt Ideal) ℓ) : Prop :=
  True

def Pre_KernelPln (m : (ℓ : Loc Cert.KernelPln.nD Cert.KernelPln.τ Cert.KernelPln.sig) → Buf (Elt Bits) ℓ) : Prop :=
  True

def Pre_KernelPlnIdeal (m : (ℓ : Loc Cert.KernelPlnIdeal.nD Cert.KernelPlnIdeal.τ Cert.KernelPlnIdeal.sig) → Buf (Elt Ideal) ℓ) : Prop :=
  True

def Pre_ReferencePlnIdeal (m : (ℓ : Loc Cert.ReferencePlnIdeal.nD Cert.ReferencePlnIdeal.τ Cert.ReferencePlnIdeal.sig) → Buf (Elt Ideal) ℓ) : Prop :=
  True

def Pre_KernelRets (m : (ℓ : Loc Cert.KernelRets.nD Cert.KernelRets.τ Cert.KernelRets.sig) → Buf (Elt Bits) ℓ) : Prop :=
  True

def Pre_KernelRetsIdeal (m : (ℓ : Loc Cert.KernelRetsIdeal.nD Cert.KernelRetsIdeal.τ Cert.KernelRetsIdeal.sig) → Buf (Elt Ideal) ℓ) : Prop :=
  True

def Pre_ReferenceRetsIdeal (m : (ℓ : Loc Cert.ReferenceRetsIdeal.nD Cert.ReferenceRetsIdeal.τ Cert.ReferenceRetsIdeal.sig) → Buf (Elt Ideal) ℓ) : Prop :=
  True

def Pre_KernelMls (m : (ℓ : Loc Cert.KernelMls.nD Cert.KernelMls.τ Cert.KernelMls.sig) → Buf (Elt Bits) ℓ) : Prop :=
  True

def Pre_KernelMlsIdeal (m : (ℓ : Loc Cert.KernelMlsIdeal.nD Cert.KernelMlsIdeal.τ Cert.KernelMlsIdeal.sig) → Buf (Elt Ideal) ℓ) : Prop :=
  True

def Pre_ReferenceMlsIdeal (m : (ℓ : Loc Cert.ReferenceMlsIdeal.nD Cert.ReferenceMlsIdeal.τ Cert.ReferenceMlsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1))
      ∧ r.2.sem = fun _ => 0)

def quiescent_KernelQb [hKernelQb : Cert.KernelQb.Facts] : Prop :=
  ∀ (m : (ℓ : Loc Cert.KernelQb.nD Cert.KernelQb.τ Cert.KernelQb.sig) → Buf (Elt Bits) ℓ) (g : Dev Cert.KernelQb.nD → PrngReg), Pre_KernelQb m →
    θ_run (Cert.KernelQb.defs (F := Bits)) (onTc (τ := Cert.KernelQb.τ) (Cert.KernelQb.main (F := Bits))) ⟨m, fun _ => 0, g⟩ (fun r => (∀ c : Dev Cert.KernelQb.nD,
      r.2.mem ((c.tc : Thread Cert.KernelQb.nD Cert.KernelQb.τ).loc Cert.KernelQb.main_arg0) = m ((c.tc : Thread Cert.KernelQb.nD Cert.KernelQb.τ).loc Cert.KernelQb.main_arg0)
      ∧ r.2.mem ((c.tc : Thread Cert.KernelQb.nD Cert.KernelQb.τ).loc Cert.KernelQb.main_arg1) = m ((c.tc : Thread Cert.KernelQb.nD Cert.KernelQb.τ).loc Cert.KernelQb.main_arg1))
      ∧ r.2.sem = fun _ => 0)

def quiescent_KernelQbIdeal [hKernelQbIdeal : Cert.KernelQbIdeal.Facts] : Prop :=
  ∀ (m : (ℓ : Loc Cert.KernelQbIdeal.nD Cert.KernelQbIdeal.τ Cert.KernelQbIdeal.sig) → Buf (Elt Ideal) ℓ) (g : Dev Cert.KernelQbIdeal.nD → PrngReg), Pre_KernelQbIdeal m →
    θ_run (Cert.KernelQbIdeal.defs (F := Ideal)) (onTc (τ := Cert.KernelQbIdeal.τ) (Cert.KernelQbIdeal.main (F := Ideal))) ⟨m, fun _ => 0, g⟩ (fun r => (∀ c : Dev Cert.KernelQbIdeal.nD,
      r.2.mem ((c.tc : Thread Cert.KernelQbIdeal.nD Cert.KernelQbIdeal.τ).loc Cert.KernelQbIdeal.main_arg0) = m ((c.tc : Thread Cert.KernelQbIdeal.nD Cert.KernelQbIdeal.τ).loc Cert.KernelQbIdeal.main_arg0)
      ∧ r.2.mem ((c.tc : Thread Cert.KernelQbIdeal.nD Cert.KernelQbIdeal.τ).loc Cert.KernelQbIdeal.main_arg1) = m ((c.tc : Thread Cert.KernelQbIdeal.nD Cert.KernelQbIdeal.τ).loc Cert.KernelQbIdeal.main_arg1))
      ∧ r.2.sem = fun _ => 0)

def quiescent_ReferenceQbIdeal [hReferenceQbIdeal : Cert.ReferenceQbIdeal.Facts] : Prop :=
  ∀ (m : (ℓ : Loc Cert.ReferenceQbIdeal.nD Cert.ReferenceQbIdeal.τ Cert.ReferenceQbIdeal.sig) → Buf (Elt Ideal) ℓ) (g : Dev Cert.ReferenceQbIdeal.nD → PrngReg), Pre_ReferenceQbIdeal m →
    θ_run (Cert.ReferenceQbIdeal.defs (F := Ideal)) (onTc (τ := Cert.ReferenceQbIdeal.τ) (Cert.ReferenceQbIdeal.main (F := Ideal))) ⟨m, fun _ => 0, g⟩ (fun r => (∀ c : Dev Cert.ReferenceQbIdeal.nD,
      r.2.mem ((c.tc : Thread Cert.ReferenceQbIdeal.nD Cert.ReferenceQbIdeal.τ).loc Cert.ReferenceQbIdeal.main_arg0) = m ((c.tc : Thread Cert.ReferenceQbIdeal.nD Cert.ReferenceQbIdeal.τ).loc Cert.ReferenceQbIdeal.main_arg0)
      ∧ r.2.mem ((c.tc : Thread Cert.ReferenceQbIdeal.nD Cert.ReferenceQbIdeal.τ).loc Cert.ReferenceQbIdeal.main_arg1) = m ((c.tc : Thread Cert.ReferenceQbIdeal.nD Cert.ReferenceQbIdeal.τ).loc Cert.ReferenceQbIdeal.main_arg1))
      ∧ r.2.sem = fun _ => 0)

def quiescent_KernelKb [hKernelKb : Cert.KernelKb.Facts] : Prop :=
  ∀ (m : (ℓ : Loc Cert.KernelKb.nD Cert.KernelKb.τ Cert.KernelKb.sig) → Buf (Elt Bits) ℓ) (g : Dev Cert.KernelKb.nD → PrngReg), Pre_KernelKb m →
    θ_run (Cert.KernelKb.defs (F := Bits)) (onTc (τ := Cert.KernelKb.τ) (Cert.KernelKb.main (F := Bits))) ⟨m, fun _ => 0, g⟩ (fun r => (∀ c : Dev Cert.KernelKb.nD,
      r.2.mem ((c.tc : Thread Cert.KernelKb.nD Cert.KernelKb.τ).loc Cert.KernelKb.main_arg0) = m ((c.tc : Thread Cert.KernelKb.nD Cert.KernelKb.τ).loc Cert.KernelKb.main_arg0)
      ∧ r.2.mem ((c.tc : Thread Cert.KernelKb.nD Cert.KernelKb.τ).loc Cert.KernelKb.main_arg1) = m ((c.tc : Thread Cert.KernelKb.nD Cert.KernelKb.τ).loc Cert.KernelKb.main_arg1))
      ∧ r.2.sem = fun _ => 0)

def quiescent_KernelKbIdeal [hKernelKbIdeal : Cert.KernelKbIdeal.Facts] : Prop :=
  ∀ (m : (ℓ : Loc Cert.KernelKbIdeal.nD Cert.KernelKbIdeal.τ Cert.KernelKbIdeal.sig) → Buf (Elt Ideal) ℓ) (g : Dev Cert.KernelKbIdeal.nD → PrngReg), Pre_KernelKbIdeal m →
    θ_run (Cert.KernelKbIdeal.defs (F := Ideal)) (onTc (τ := Cert.KernelKbIdeal.τ) (Cert.KernelKbIdeal.main (F := Ideal))) ⟨m, fun _ => 0, g⟩ (fun r => (∀ c : Dev Cert.KernelKbIdeal.nD,
      r.2.mem ((c.tc : Thread Cert.KernelKbIdeal.nD Cert.KernelKbIdeal.τ).loc Cert.KernelKbIdeal.main_arg0) = m ((c.tc : Thread Cert.KernelKbIdeal.nD Cert.KernelKbIdeal.τ).loc Cert.KernelKbIdeal.main_arg0)
      ∧ r.2.mem ((c.tc : Thread Cert.KernelKbIdeal.nD Cert.KernelKbIdeal.τ).loc Cert.KernelKbIdeal.main_arg1) = m ((c.tc : Thread Cert.KernelKbIdeal.nD Cert.KernelKbIdeal.τ).loc Cert.KernelKbIdeal.main_arg1))
      ∧ r.2.sem = fun _ => 0)

def quiescent_ReferenceKbIdeal [hReferenceKbIdeal : Cert.ReferenceKbIdeal.Facts] : Prop :=
  ∀ (m : (ℓ : Loc Cert.ReferenceKbIdeal.nD Cert.ReferenceKbIdeal.τ Cert.ReferenceKbIdeal.sig) → Buf (Elt Ideal) ℓ) (g : Dev Cert.ReferenceKbIdeal.nD → PrngReg), Pre_ReferenceKbIdeal m →
    θ_run (Cert.ReferenceKbIdeal.defs (F := Ideal)) (onTc (τ := Cert.ReferenceKbIdeal.τ) (Cert.ReferenceKbIdeal.main (F := Ideal))) ⟨m, fun _ => 0, g⟩ (fun r => (∀ c : Dev Cert.ReferenceKbIdeal.nD,
      r.2.mem ((c.tc : Thread Cert.ReferenceKbIdeal.nD Cert.ReferenceKbIdeal.τ).loc Cert.ReferenceKbIdeal.main_arg0) = m ((c.tc : Thread Cert.ReferenceKbIdeal.nD Cert.ReferenceKbIdeal.τ).loc Cert.ReferenceKbIdeal.main_arg0)
      ∧ r.2.mem ((c.tc : Thread Cert.ReferenceKbIdeal.nD Cert.ReferenceKbIdeal.τ).loc Cert.ReferenceKbIdeal.main_arg1) = m ((c.tc : Thread Cert.ReferenceKbIdeal.nD Cert.ReferenceKbIdeal.τ).loc Cert.ReferenceKbIdeal.main_arg1))
      ∧ r.2.sem = fun _ => 0)

def quiescent_KernelVb [hKernelVb : Cert.KernelVb.Facts] : Prop :=
  ∀ (m : (ℓ : Loc Cert.KernelVb.nD Cert.KernelVb.τ Cert.KernelVb.sig) → Buf (Elt Bits) ℓ) (g : Dev Cert.KernelVb.nD → PrngReg), Pre_KernelVb m →
    θ_run (Cert.KernelVb.defs (F := Bits)) (onTc (τ := Cert.KernelVb.τ) (Cert.KernelVb.main (F := Bits))) ⟨m, fun _ => 0, g⟩ (fun r => (∀ c : Dev Cert.KernelVb.nD,
      r.2.mem ((c.tc : Thread Cert.KernelVb.nD Cert.KernelVb.τ).loc Cert.KernelVb.main_arg0) = m ((c.tc : Thread Cert.KernelVb.nD Cert.KernelVb.τ).loc Cert.KernelVb.main_arg0)
      ∧ r.2.mem ((c.tc : Thread Cert.KernelVb.nD Cert.KernelVb.τ).loc Cert.KernelVb.main_arg1) = m ((c.tc : Thread Cert.KernelVb.nD Cert.KernelVb.τ).loc Cert.KernelVb.main_arg1))
      ∧ r.2.sem = fun _ => 0)

def quiescent_KernelVbIdeal [hKernelVbIdeal : Cert.KernelVbIdeal.Facts] : Prop :=
  ∀ (m : (ℓ : Loc Cert.KernelVbIdeal.nD Cert.KernelVbIdeal.τ Cert.KernelVbIdeal.sig) → Buf (Elt Ideal) ℓ) (g : Dev Cert.KernelVbIdeal.nD → PrngReg), Pre_KernelVbIdeal m →
    θ_run (Cert.KernelVbIdeal.defs (F := Ideal)) (onTc (τ := Cert.KernelVbIdeal.τ) (Cert.KernelVbIdeal.main (F := Ideal))) ⟨m, fun _ => 0, g⟩ (fun r => (∀ c : Dev Cert.KernelVbIdeal.nD,
      r.2.mem ((c.tc : Thread Cert.KernelVbIdeal.nD Cert.KernelVbIdeal.τ).loc Cert.KernelVbIdeal.main_arg0) = m ((c.tc : Thread Cert.KernelVbIdeal.nD Cert.KernelVbIdeal.τ).loc Cert.KernelVbIdeal.main_arg0)
      ∧ r.2.mem ((c.tc : Thread Cert.KernelVbIdeal.nD Cert.KernelVbIdeal.τ).loc Cert.KernelVbIdeal.main_arg1) = m ((c.tc : Thread Cert.KernelVbIdeal.nD Cert.KernelVbIdeal.τ).loc Cert.KernelVbIdeal.main_arg1))
      ∧ r.2.sem = fun _ => 0)

def quiescent_ReferenceVbIdeal [hReferenceVbIdeal : Cert.ReferenceVbIdeal.Facts] : Prop :=
  ∀ (m : (ℓ : Loc Cert.ReferenceVbIdeal.nD Cert.ReferenceVbIdeal.τ Cert.ReferenceVbIdeal.sig) → Buf (Elt Ideal) ℓ) (g : Dev Cert.ReferenceVbIdeal.nD → PrngReg), Pre_ReferenceVbIdeal m →
    θ_run (Cert.ReferenceVbIdeal.defs (F := Ideal)) (onTc (τ := Cert.ReferenceVbIdeal.τ) (Cert.ReferenceVbIdeal.main (F := Ideal))) ⟨m, fun _ => 0, g⟩ (fun r => (∀ c : Dev Cert.ReferenceVbIdeal.nD,
      r.2.mem ((c.tc : Thread Cert.ReferenceVbIdeal.nD Cert.ReferenceVbIdeal.τ).loc Cert.ReferenceVbIdeal.main_arg0) = m ((c.tc : Thread Cert.ReferenceVbIdeal.nD Cert.ReferenceVbIdeal.τ).loc Cert.ReferenceVbIdeal.main_arg0)
      ∧ r.2.mem ((c.tc : Thread Cert.ReferenceVbIdeal.nD Cert.ReferenceVbIdeal.τ).loc Cert.ReferenceVbIdeal.main_arg1) = m ((c.tc : Thread Cert.ReferenceVbIdeal.nD Cert.ReferenceVbIdeal.τ).loc Cert.ReferenceVbIdeal.main_arg1))
      ∧ r.2.sem = fun _ => 0)

def quiescent_KernelQc [hKernelQc : Cert.KernelQc.Facts] : Prop :=
  ∀ (m : (ℓ : Loc Cert.KernelQc.nD Cert.KernelQc.τ Cert.KernelQc.sig) → Buf (Elt Bits) ℓ) (g : Dev Cert.KernelQc.nD → PrngReg), Pre_KernelQc m →
    θ_run (Cert.KernelQc.defs (F := Bits)) (onTc (τ := Cert.KernelQc.τ) (Cert.KernelQc.main (F := Bits))) ⟨m, fun _ => 0, g⟩ (fun r => (∀ c : Dev Cert.KernelQc.nD,
      r.2.mem ((c.tc : Thread Cert.KernelQc.nD Cert.KernelQc.τ).loc Cert.KernelQc.main_arg0) = m ((c.tc : Thread Cert.KernelQc.nD Cert.KernelQc.τ).loc Cert.KernelQc.main_arg0)
      ∧ r.2.mem ((c.tc : Thread Cert.KernelQc.nD Cert.KernelQc.τ).loc Cert.KernelQc.main_arg1) = m ((c.tc : Thread Cert.KernelQc.nD Cert.KernelQc.τ).loc Cert.KernelQc.main_arg1))
      ∧ r.2.sem = fun _ => 0)

def quiescent_KernelQcIdeal [hKernelQcIdeal : Cert.KernelQcIdeal.Facts] : Prop :=
  ∀ (m : (ℓ : Loc Cert.KernelQcIdeal.nD Cert.KernelQcIdeal.τ Cert.KernelQcIdeal.sig) → Buf (Elt Ideal) ℓ) (g : Dev Cert.KernelQcIdeal.nD → PrngReg), Pre_KernelQcIdeal m →
    θ_run (Cert.KernelQcIdeal.defs (F := Ideal)) (onTc (τ := Cert.KernelQcIdeal.τ) (Cert.KernelQcIdeal.main (F := Ideal))) ⟨m, fun _ => 0, g⟩ (fun r => (∀ c : Dev Cert.KernelQcIdeal.nD,
      r.2.mem ((c.tc : Thread Cert.KernelQcIdeal.nD Cert.KernelQcIdeal.τ).loc Cert.KernelQcIdeal.main_arg0) = m ((c.tc : Thread Cert.KernelQcIdeal.nD Cert.KernelQcIdeal.τ).loc Cert.KernelQcIdeal.main_arg0)
      ∧ r.2.mem ((c.tc : Thread Cert.KernelQcIdeal.nD Cert.KernelQcIdeal.τ).loc Cert.KernelQcIdeal.main_arg1) = m ((c.tc : Thread Cert.KernelQcIdeal.nD Cert.KernelQcIdeal.τ).loc Cert.KernelQcIdeal.main_arg1))
      ∧ r.2.sem = fun _ => 0)

def quiescent_ReferenceQcIdeal [hReferenceQcIdeal : Cert.ReferenceQcIdeal.Facts] : Prop :=
  ∀ (m : (ℓ : Loc Cert.ReferenceQcIdeal.nD Cert.ReferenceQcIdeal.τ Cert.ReferenceQcIdeal.sig) → Buf (Elt Ideal) ℓ) (g : Dev Cert.ReferenceQcIdeal.nD → PrngReg), Pre_ReferenceQcIdeal m →
    θ_run (Cert.ReferenceQcIdeal.defs (F := Ideal)) (onTc (τ := Cert.ReferenceQcIdeal.τ) (Cert.ReferenceQcIdeal.main (F := Ideal))) ⟨m, fun _ => 0, g⟩ (fun r => (∀ c : Dev Cert.ReferenceQcIdeal.nD,
      r.2.mem ((c.tc : Thread Cert.ReferenceQcIdeal.nD Cert.ReferenceQcIdeal.τ).loc Cert.ReferenceQcIdeal.main_arg0) = m ((c.tc : Thread Cert.ReferenceQcIdeal.nD Cert.ReferenceQcIdeal.τ).loc Cert.ReferenceQcIdeal.main_arg0)
      ∧ r.2.mem ((c.tc : Thread Cert.ReferenceQcIdeal.nD Cert.ReferenceQcIdeal.τ).loc Cert.ReferenceQcIdeal.main_arg1) = m ((c.tc : Thread Cert.ReferenceQcIdeal.nD Cert.ReferenceQcIdeal.τ).loc Cert.ReferenceQcIdeal.main_arg1))
      ∧ r.2.sem = fun _ => 0)

def quiescent_KernelKc [hKernelKc : Cert.KernelKc.Facts] : Prop :=
  ∀ (m : (ℓ : Loc Cert.KernelKc.nD Cert.KernelKc.τ Cert.KernelKc.sig) → Buf (Elt Bits) ℓ) (g : Dev Cert.KernelKc.nD → PrngReg), Pre_KernelKc m →
    θ_run (Cert.KernelKc.defs (F := Bits)) (onTc (τ := Cert.KernelKc.τ) (Cert.KernelKc.main (F := Bits))) ⟨m, fun _ => 0, g⟩ (fun r => (∀ c : Dev Cert.KernelKc.nD,
      r.2.mem ((c.tc : Thread Cert.KernelKc.nD Cert.KernelKc.τ).loc Cert.KernelKc.main_arg0) = m ((c.tc : Thread Cert.KernelKc.nD Cert.KernelKc.τ).loc Cert.KernelKc.main_arg0)
      ∧ r.2.mem ((c.tc : Thread Cert.KernelKc.nD Cert.KernelKc.τ).loc Cert.KernelKc.main_arg1) = m ((c.tc : Thread Cert.KernelKc.nD Cert.KernelKc.τ).loc Cert.KernelKc.main_arg1))
      ∧ r.2.sem = fun _ => 0)

def quiescent_KernelKcIdeal [hKernelKcIdeal : Cert.KernelKcIdeal.Facts] : Prop :=
  ∀ (m : (ℓ : Loc Cert.KernelKcIdeal.nD Cert.KernelKcIdeal.τ Cert.KernelKcIdeal.sig) → Buf (Elt Ideal) ℓ) (g : Dev Cert.KernelKcIdeal.nD → PrngReg), Pre_KernelKcIdeal m →
    θ_run (Cert.KernelKcIdeal.defs (F := Ideal)) (onTc (τ := Cert.KernelKcIdeal.τ) (Cert.KernelKcIdeal.main (F := Ideal))) ⟨m, fun _ => 0, g⟩ (fun r => (∀ c : Dev Cert.KernelKcIdeal.nD,
      r.2.mem ((c.tc : Thread Cert.KernelKcIdeal.nD Cert.KernelKcIdeal.τ).loc Cert.KernelKcIdeal.main_arg0) = m ((c.tc : Thread Cert.KernelKcIdeal.nD Cert.KernelKcIdeal.τ).loc Cert.KernelKcIdeal.main_arg0)
      ∧ r.2.mem ((c.tc : Thread Cert.KernelKcIdeal.nD Cert.KernelKcIdeal.τ).loc Cert.KernelKcIdeal.main_arg1) = m ((c.tc : Thread Cert.KernelKcIdeal.nD Cert.KernelKcIdeal.τ).loc Cert.KernelKcIdeal.main_arg1))
      ∧ r.2.sem = fun _ => 0)

def quiescent_ReferenceKcIdeal [hReferenceKcIdeal : Cert.ReferenceKcIdeal.Facts] : Prop :=
  ∀ (m : (ℓ : Loc Cert.ReferenceKcIdeal.nD Cert.ReferenceKcIdeal.τ Cert.ReferenceKcIdeal.sig) → Buf (Elt Ideal) ℓ) (g : Dev Cert.ReferenceKcIdeal.nD → PrngReg), Pre_ReferenceKcIdeal m →
    θ_run (Cert.ReferenceKcIdeal.defs (F := Ideal)) (onTc (τ := Cert.ReferenceKcIdeal.τ) (Cert.ReferenceKcIdeal.main (F := Ideal))) ⟨m, fun _ => 0, g⟩ (fun r => (∀ c : Dev Cert.ReferenceKcIdeal.nD,
      r.2.mem ((c.tc : Thread Cert.ReferenceKcIdeal.nD Cert.ReferenceKcIdeal.τ).loc Cert.ReferenceKcIdeal.main_arg0) = m ((c.tc : Thread Cert.ReferenceKcIdeal.nD Cert.ReferenceKcIdeal.τ).loc Cert.ReferenceKcIdeal.main_arg0)
      ∧ r.2.mem ((c.tc : Thread Cert.ReferenceKcIdeal.nD Cert.ReferenceKcIdeal.τ).loc Cert.ReferenceKcIdeal.main_arg1) = m ((c.tc : Thread Cert.ReferenceKcIdeal.nD Cert.ReferenceKcIdeal.τ).loc Cert.ReferenceKcIdeal.main_arg1))
      ∧ r.2.sem = fun _ => 0)

def quiescent_KernelVc [hKernelVc : Cert.KernelVc.Facts] : Prop :=
  ∀ (m : (ℓ : Loc Cert.KernelVc.nD Cert.KernelVc.τ Cert.KernelVc.sig) → Buf (Elt Bits) ℓ) (g : Dev Cert.KernelVc.nD → PrngReg), Pre_KernelVc m →
    θ_run (Cert.KernelVc.defs (F := Bits)) (onTc (τ := Cert.KernelVc.τ) (Cert.KernelVc.main (F := Bits))) ⟨m, fun _ => 0, g⟩ (fun r => (∀ c : Dev Cert.KernelVc.nD,
      r.2.mem ((c.tc : Thread Cert.KernelVc.nD Cert.KernelVc.τ).loc Cert.KernelVc.main_arg0) = m ((c.tc : Thread Cert.KernelVc.nD Cert.KernelVc.τ).loc Cert.KernelVc.main_arg0)
      ∧ r.2.mem ((c.tc : Thread Cert.KernelVc.nD Cert.KernelVc.τ).loc Cert.KernelVc.main_arg1) = m ((c.tc : Thread Cert.KernelVc.nD Cert.KernelVc.τ).loc Cert.KernelVc.main_arg1))
      ∧ r.2.sem = fun _ => 0)

def quiescent_KernelVcIdeal [hKernelVcIdeal : Cert.KernelVcIdeal.Facts] : Prop :=
  ∀ (m : (ℓ : Loc Cert.KernelVcIdeal.nD Cert.KernelVcIdeal.τ Cert.KernelVcIdeal.sig) → Buf (Elt Ideal) ℓ) (g : Dev Cert.KernelVcIdeal.nD → PrngReg), Pre_KernelVcIdeal m →
    θ_run (Cert.KernelVcIdeal.defs (F := Ideal)) (onTc (τ := Cert.KernelVcIdeal.τ) (Cert.KernelVcIdeal.main (F := Ideal))) ⟨m, fun _ => 0, g⟩ (fun r => (∀ c : Dev Cert.KernelVcIdeal.nD,
      r.2.mem ((c.tc : Thread Cert.KernelVcIdeal.nD Cert.KernelVcIdeal.τ).loc Cert.KernelVcIdeal.main_arg0) = m ((c.tc : Thread Cert.KernelVcIdeal.nD Cert.KernelVcIdeal.τ).loc Cert.KernelVcIdeal.main_arg0)
      ∧ r.2.mem ((c.tc : Thread Cert.KernelVcIdeal.nD Cert.KernelVcIdeal.τ).loc Cert.KernelVcIdeal.main_arg1) = m ((c.tc : Thread Cert.KernelVcIdeal.nD Cert.KernelVcIdeal.τ).loc Cert.KernelVcIdeal.main_arg1))
      ∧ r.2.sem = fun _ => 0)

def quiescent_ReferenceVcIdeal [hReferenceVcIdeal : Cert.ReferenceVcIdeal.Facts] : Prop :=
  ∀ (m : (ℓ : Loc Cert.ReferenceVcIdeal.nD Cert.ReferenceVcIdeal.τ Cert.ReferenceVcIdeal.sig) → Buf (Elt Ideal) ℓ) (g : Dev Cert.ReferenceVcIdeal.nD → PrngReg), Pre_ReferenceVcIdeal m →
    θ_run (Cert.ReferenceVcIdeal.defs (F := Ideal)) (onTc (τ := Cert.ReferenceVcIdeal.τ) (Cert.ReferenceVcIdeal.main (F := Ideal))) ⟨m, fun _ => 0, g⟩ (fun r => (∀ c : Dev Cert.ReferenceVcIdeal.nD,
      r.2.mem ((c.tc : Thread Cert.ReferenceVcIdeal.nD Cert.ReferenceVcIdeal.τ).loc Cert.ReferenceVcIdeal.main_arg0) = m ((c.tc : Thread Cert.ReferenceVcIdeal.nD Cert.ReferenceVcIdeal.τ).loc Cert.ReferenceVcIdeal.main_arg0)
      ∧ r.2.mem ((c.tc : Thread Cert.ReferenceVcIdeal.nD Cert.ReferenceVcIdeal.τ).loc Cert.ReferenceVcIdeal.main_arg1) = m ((c.tc : Thread Cert.ReferenceVcIdeal.nD Cert.ReferenceVcIdeal.τ).loc Cert.ReferenceVcIdeal.main_arg1))
      ∧ r.2.sem = fun _ => 0)

def quiescent_KernelQi [hKernelQi : Cert.KernelQi.Facts] : Prop :=
  ∀ (m : (ℓ : Loc Cert.KernelQi.nD Cert.KernelQi.τ Cert.KernelQi.sig) → Buf (Elt Bits) ℓ) (g : Dev Cert.KernelQi.nD → PrngReg), Pre_KernelQi m →
    θ_run (Cert.KernelQi.defs (F := Bits)) (onTc (τ := Cert.KernelQi.τ) (Cert.KernelQi.main (F := Bits))) ⟨m, fun _ => 0, g⟩ (fun r => (∀ c : Dev Cert.KernelQi.nD,
      r.2.mem ((c.tc : Thread Cert.KernelQi.nD Cert.KernelQi.τ).loc Cert.KernelQi.main_arg0) = m ((c.tc : Thread Cert.KernelQi.nD Cert.KernelQi.τ).loc Cert.KernelQi.main_arg0)
      ∧ r.2.mem ((c.tc : Thread Cert.KernelQi.nD Cert.KernelQi.τ).loc Cert.KernelQi.main_arg1) = m ((c.tc : Thread Cert.KernelQi.nD Cert.KernelQi.τ).loc Cert.KernelQi.main_arg1))
      ∧ r.2.sem = fun _ => 0)

def quiescent_KernelQiIdeal [hKernelQiIdeal : Cert.KernelQiIdeal.Facts] : Prop :=
  ∀ (m : (ℓ : Loc Cert.KernelQiIdeal.nD Cert.KernelQiIdeal.τ Cert.KernelQiIdeal.sig) → Buf (Elt Ideal) ℓ) (g : Dev Cert.KernelQiIdeal.nD → PrngReg), Pre_KernelQiIdeal m →
    θ_run (Cert.KernelQiIdeal.defs (F := Ideal)) (onTc (τ := Cert.KernelQiIdeal.τ) (Cert.KernelQiIdeal.main (F := Ideal))) ⟨m, fun _ => 0, g⟩ (fun r => (∀ c : Dev Cert.KernelQiIdeal.nD,
      r.2.mem ((c.tc : Thread Cert.KernelQiIdeal.nD Cert.KernelQiIdeal.τ).loc Cert.KernelQiIdeal.main_arg0) = m ((c.tc : Thread Cert.KernelQiIdeal.nD Cert.KernelQiIdeal.τ).loc Cert.KernelQiIdeal.main_arg0)
      ∧ r.2.mem ((c.tc : Thread Cert.KernelQiIdeal.nD Cert.KernelQiIdeal.τ).loc Cert.KernelQiIdeal.main_arg1) = m ((c.tc : Thread Cert.KernelQiIdeal.nD Cert.KernelQiIdeal.τ).loc Cert.KernelQiIdeal.main_arg1))
      ∧ r.2.sem = fun _ => 0)

def quiescent_ReferenceQiIdeal [hReferenceQiIdeal : Cert.ReferenceQiIdeal.Facts] : Prop :=
  ∀ (m : (ℓ : Loc Cert.ReferenceQiIdeal.nD Cert.ReferenceQiIdeal.τ Cert.ReferenceQiIdeal.sig) → Buf (Elt Ideal) ℓ) (g : Dev Cert.ReferenceQiIdeal.nD → PrngReg), Pre_ReferenceQiIdeal m →
    θ_run (Cert.ReferenceQiIdeal.defs (F := Ideal)) (onTc (τ := Cert.ReferenceQiIdeal.τ) (Cert.ReferenceQiIdeal.main (F := Ideal))) ⟨m, fun _ => 0, g⟩ (fun r => (∀ c : Dev Cert.ReferenceQiIdeal.nD,
      r.2.mem ((c.tc : Thread Cert.ReferenceQiIdeal.nD Cert.ReferenceQiIdeal.τ).loc Cert.ReferenceQiIdeal.main_arg0) = m ((c.tc : Thread Cert.ReferenceQiIdeal.nD Cert.ReferenceQiIdeal.τ).loc Cert.ReferenceQiIdeal.main_arg0)
      ∧ r.2.mem ((c.tc : Thread Cert.ReferenceQiIdeal.nD Cert.ReferenceQiIdeal.τ).loc Cert.ReferenceQiIdeal.main_arg1) = m ((c.tc : Thread Cert.ReferenceQiIdeal.nD Cert.ReferenceQiIdeal.τ).loc Cert.ReferenceQiIdeal.main_arg1))
      ∧ r.2.sem = fun _ => 0)

def quiescent_KernelKi [hKernelKi : Cert.KernelKi.Facts] : Prop :=
  ∀ (m : (ℓ : Loc Cert.KernelKi.nD Cert.KernelKi.τ Cert.KernelKi.sig) → Buf (Elt Bits) ℓ) (g : Dev Cert.KernelKi.nD → PrngReg), Pre_KernelKi m →
    θ_run (Cert.KernelKi.defs (F := Bits)) (onTc (τ := Cert.KernelKi.τ) (Cert.KernelKi.main (F := Bits))) ⟨m, fun _ => 0, g⟩ (fun r => (∀ c : Dev Cert.KernelKi.nD,
      r.2.mem ((c.tc : Thread Cert.KernelKi.nD Cert.KernelKi.τ).loc Cert.KernelKi.main_arg0) = m ((c.tc : Thread Cert.KernelKi.nD Cert.KernelKi.τ).loc Cert.KernelKi.main_arg0)
      ∧ r.2.mem ((c.tc : Thread Cert.KernelKi.nD Cert.KernelKi.τ).loc Cert.KernelKi.main_arg1) = m ((c.tc : Thread Cert.KernelKi.nD Cert.KernelKi.τ).loc Cert.KernelKi.main_arg1))
      ∧ r.2.sem = fun _ => 0)

def quiescent_KernelKiIdeal [hKernelKiIdeal : Cert.KernelKiIdeal.Facts] : Prop :=
  ∀ (m : (ℓ : Loc Cert.KernelKiIdeal.nD Cert.KernelKiIdeal.τ Cert.KernelKiIdeal.sig) → Buf (Elt Ideal) ℓ) (g : Dev Cert.KernelKiIdeal.nD → PrngReg), Pre_KernelKiIdeal m →
    θ_run (Cert.KernelKiIdeal.defs (F := Ideal)) (onTc (τ := Cert.KernelKiIdeal.τ) (Cert.KernelKiIdeal.main (F := Ideal))) ⟨m, fun _ => 0, g⟩ (fun r => (∀ c : Dev Cert.KernelKiIdeal.nD,
      r.2.mem ((c.tc : Thread Cert.KernelKiIdeal.nD Cert.KernelKiIdeal.τ).loc Cert.KernelKiIdeal.main_arg0) = m ((c.tc : Thread Cert.KernelKiIdeal.nD Cert.KernelKiIdeal.τ).loc Cert.KernelKiIdeal.main_arg0)
      ∧ r.2.mem ((c.tc : Thread Cert.KernelKiIdeal.nD Cert.KernelKiIdeal.τ).loc Cert.KernelKiIdeal.main_arg1) = m ((c.tc : Thread Cert.KernelKiIdeal.nD Cert.KernelKiIdeal.τ).loc Cert.KernelKiIdeal.main_arg1))
      ∧ r.2.sem = fun _ => 0)

def quiescent_ReferenceKiIdeal [hReferenceKiIdeal : Cert.ReferenceKiIdeal.Facts] : Prop :=
  ∀ (m : (ℓ : Loc Cert.ReferenceKiIdeal.nD Cert.ReferenceKiIdeal.τ Cert.ReferenceKiIdeal.sig) → Buf (Elt Ideal) ℓ) (g : Dev Cert.ReferenceKiIdeal.nD → PrngReg), Pre_ReferenceKiIdeal m →
    θ_run (Cert.ReferenceKiIdeal.defs (F := Ideal)) (onTc (τ := Cert.ReferenceKiIdeal.τ) (Cert.ReferenceKiIdeal.main (F := Ideal))) ⟨m, fun _ => 0, g⟩ (fun r => (∀ c : Dev Cert.ReferenceKiIdeal.nD,
      r.2.mem ((c.tc : Thread Cert.ReferenceKiIdeal.nD Cert.ReferenceKiIdeal.τ).loc Cert.ReferenceKiIdeal.main_arg0) = m ((c.tc : Thread Cert.ReferenceKiIdeal.nD Cert.ReferenceKiIdeal.τ).loc Cert.ReferenceKiIdeal.main_arg0)
      ∧ r.2.mem ((c.tc : Thread Cert.ReferenceKiIdeal.nD Cert.ReferenceKiIdeal.τ).loc Cert.ReferenceKiIdeal.main_arg1) = m ((c.tc : Thread Cert.ReferenceKiIdeal.nD Cert.ReferenceKiIdeal.τ).loc Cert.ReferenceKiIdeal.main_arg1))
      ∧ r.2.sem = fun _ => 0)

def quiescent_KernelWi [hKernelWi : Cert.KernelWi.Facts] : Prop :=
  ∀ (m : (ℓ : Loc Cert.KernelWi.nD Cert.KernelWi.τ Cert.KernelWi.sig) → Buf (Elt Bits) ℓ) (g : Dev Cert.KernelWi.nD → PrngReg), Pre_KernelWi m →
    θ_run (Cert.KernelWi.defs (F := Bits)) (onTc (τ := Cert.KernelWi.τ) (Cert.KernelWi.main (F := Bits))) ⟨m, fun _ => 0, g⟩ (fun r => (∀ c : Dev Cert.KernelWi.nD,
      r.2.mem ((c.tc : Thread Cert.KernelWi.nD Cert.KernelWi.τ).loc Cert.KernelWi.main_arg0) = m ((c.tc : Thread Cert.KernelWi.nD Cert.KernelWi.τ).loc Cert.KernelWi.main_arg0)
      ∧ r.2.mem ((c.tc : Thread Cert.KernelWi.nD Cert.KernelWi.τ).loc Cert.KernelWi.main_arg1) = m ((c.tc : Thread Cert.KernelWi.nD Cert.KernelWi.τ).loc Cert.KernelWi.main_arg1))
      ∧ r.2.sem = fun _ => 0)

def quiescent_KernelWiIdeal [hKernelWiIdeal : Cert.KernelWiIdeal.Facts] : Prop :=
  ∀ (m : (ℓ : Loc Cert.KernelWiIdeal.nD Cert.KernelWiIdeal.τ Cert.KernelWiIdeal.sig) → Buf (Elt Ideal) ℓ) (g : Dev Cert.KernelWiIdeal.nD → PrngReg), Pre_KernelWiIdeal m →
    θ_run (Cert.KernelWiIdeal.defs (F := Ideal)) (onTc (τ := Cert.KernelWiIdeal.τ) (Cert.KernelWiIdeal.main (F := Ideal))) ⟨m, fun _ => 0, g⟩ (fun r => (∀ c : Dev Cert.KernelWiIdeal.nD,
      r.2.mem ((c.tc : Thread Cert.KernelWiIdeal.nD Cert.KernelWiIdeal.τ).loc Cert.KernelWiIdeal.main_arg0) = m ((c.tc : Thread Cert.KernelWiIdeal.nD Cert.KernelWiIdeal.τ).loc Cert.KernelWiIdeal.main_arg0)
      ∧ r.2.mem ((c.tc : Thread Cert.KernelWiIdeal.nD Cert.KernelWiIdeal.τ).loc Cert.KernelWiIdeal.main_arg1) = m ((c.tc : Thread Cert.KernelWiIdeal.nD Cert.KernelWiIdeal.τ).loc Cert.KernelWiIdeal.main_arg1))
      ∧ r.2.sem = fun _ => 0)

def quiescent_ReferenceWiIdeal [hReferenceWiIdeal : Cert.ReferenceWiIdeal.Facts] : Prop :=
  ∀ (m : (ℓ : Loc Cert.ReferenceWiIdeal.nD Cert.ReferenceWiIdeal.τ Cert.ReferenceWiIdeal.sig) → Buf (Elt Ideal) ℓ) (g : Dev Cert.ReferenceWiIdeal.nD → PrngReg), Pre_ReferenceWiIdeal m →
    θ_run (Cert.ReferenceWiIdeal.defs (F := Ideal)) (onTc (τ := Cert.ReferenceWiIdeal.τ) (Cert.ReferenceWiIdeal.main (F := Ideal))) ⟨m, fun _ => 0, g⟩ (fun r => (∀ c : Dev Cert.ReferenceWiIdeal.nD,
      r.2.mem ((c.tc : Thread Cert.ReferenceWiIdeal.nD Cert.ReferenceWiIdeal.τ).loc Cert.ReferenceWiIdeal.main_arg0) = m ((c.tc : Thread Cert.ReferenceWiIdeal.nD Cert.ReferenceWiIdeal.τ).loc Cert.ReferenceWiIdeal.main_arg0)
      ∧ r.2.mem ((c.tc : Thread Cert.ReferenceWiIdeal.nD Cert.ReferenceWiIdeal.τ).loc Cert.ReferenceWiIdeal.main_arg1) = m ((c.tc : Thread Cert.ReferenceWiIdeal.nD Cert.ReferenceWiIdeal.τ).loc Cert.ReferenceWiIdeal.main_arg1))
      ∧ r.2.sem = fun _ => 0)

def quiescent_KernelQkd [hKernelQkd : Cert.KernelQkd.Facts] : Prop :=
  ∀ (m : (ℓ : Loc Cert.KernelQkd.nD Cert.KernelQkd.τ Cert.KernelQkd.sig) → Buf (Elt Bits) ℓ) (g : Dev Cert.KernelQkd.nD → PrngReg), Pre_KernelQkd m →
    θ_run (Cert.KernelQkd.defs (F := Bits)) (onTc (τ := Cert.KernelQkd.τ) (Cert.KernelQkd.main (F := Bits))) ⟨m, fun _ => 0, g⟩ (fun r => (∀ c : Dev Cert.KernelQkd.nD,
      r.2.mem ((c.tc : Thread Cert.KernelQkd.nD Cert.KernelQkd.τ).loc Cert.KernelQkd.main_arg0) = m ((c.tc : Thread Cert.KernelQkd.nD Cert.KernelQkd.τ).loc Cert.KernelQkd.main_arg0)
      ∧ r.2.mem ((c.tc : Thread Cert.KernelQkd.nD Cert.KernelQkd.τ).loc Cert.KernelQkd.main_arg1) = m ((c.tc : Thread Cert.KernelQkd.nD Cert.KernelQkd.τ).loc Cert.KernelQkd.main_arg1))
      ∧ r.2.sem = fun _ => 0)

def quiescent_KernelQkdIdeal [hKernelQkdIdeal : Cert.KernelQkdIdeal.Facts] : Prop :=
  ∀ (m : (ℓ : Loc Cert.KernelQkdIdeal.nD Cert.KernelQkdIdeal.τ Cert.KernelQkdIdeal.sig) → Buf (Elt Ideal) ℓ) (g : Dev Cert.KernelQkdIdeal.nD → PrngReg), Pre_KernelQkdIdeal m →
    θ_run (Cert.KernelQkdIdeal.defs (F := Ideal)) (onTc (τ := Cert.KernelQkdIdeal.τ) (Cert.KernelQkdIdeal.main (F := Ideal))) ⟨m, fun _ => 0, g⟩ (fun r => (∀ c : Dev Cert.KernelQkdIdeal.nD,
      r.2.mem ((c.tc : Thread Cert.KernelQkdIdeal.nD Cert.KernelQkdIdeal.τ).loc Cert.KernelQkdIdeal.main_arg0) = m ((c.tc : Thread Cert.KernelQkdIdeal.nD Cert.KernelQkdIdeal.τ).loc Cert.KernelQkdIdeal.main_arg0)
      ∧ r.2.mem ((c.tc : Thread Cert.KernelQkdIdeal.nD Cert.KernelQkdIdeal.τ).loc Cert.KernelQkdIdeal.main_arg1) = m ((c.tc : Thread Cert.KernelQkdIdeal.nD Cert.KernelQkdIdeal.τ).loc Cert.KernelQkdIdeal.main_arg1))
      ∧ r.2.sem = fun _ => 0)

def quiescent_ReferenceQkdIdeal [hReferenceQkdIdeal : Cert.ReferenceQkdIdeal.Facts] : Prop :=
  ∀ (m : (ℓ : Loc Cert.ReferenceQkdIdeal.nD Cert.ReferenceQkdIdeal.τ Cert.ReferenceQkdIdeal.sig) → Buf (Elt Ideal) ℓ) (g : Dev Cert.ReferenceQkdIdeal.nD → PrngReg), Pre_ReferenceQkdIdeal m →
    θ_run (Cert.ReferenceQkdIdeal.defs (F := Ideal)) (onTc (τ := Cert.ReferenceQkdIdeal.τ) (Cert.ReferenceQkdIdeal.main (F := Ideal))) ⟨m, fun _ => 0, g⟩ (fun r => (∀ c : Dev Cert.ReferenceQkdIdeal.nD,
      r.2.mem ((c.tc : Thread Cert.ReferenceQkdIdeal.nD Cert.ReferenceQkdIdeal.τ).loc Cert.ReferenceQkdIdeal.main_arg0) = m ((c.tc : Thread Cert.ReferenceQkdIdeal.nD Cert.ReferenceQkdIdeal.τ).loc Cert.ReferenceQkdIdeal.main_arg0)
      ∧ r.2.mem ((c.tc : Thread Cert.ReferenceQkdIdeal.nD Cert.ReferenceQkdIdeal.τ).loc Cert.ReferenceQkdIdeal.main_arg1) = m ((c.tc : Thread Cert.ReferenceQkdIdeal.nD Cert.ReferenceQkdIdeal.τ).loc Cert.ReferenceQkdIdeal.main_arg1))
      ∧ r.2.sem = fun _ => 0)

def quiescent_KernelVgd [hKernelVgd : Cert.KernelVgd.Facts] : Prop :=
  ∀ (m : (ℓ : Loc Cert.KernelVgd.nD Cert.KernelVgd.τ Cert.KernelVgd.sig) → Buf (Elt Bits) ℓ) (g : Dev Cert.KernelVgd.nD → PrngReg), Pre_KernelVgd m →
    θ_run (Cert.KernelVgd.defs (F := Bits)) (onTc (τ := Cert.KernelVgd.τ) (Cert.KernelVgd.main (F := Bits))) ⟨m, fun _ => 0, g⟩ (fun r => (∀ c : Dev Cert.KernelVgd.nD,
      r.2.mem ((c.tc : Thread Cert.KernelVgd.nD Cert.KernelVgd.τ).loc Cert.KernelVgd.main_arg0) = m ((c.tc : Thread Cert.KernelVgd.nD Cert.KernelVgd.τ).loc Cert.KernelVgd.main_arg0)
      ∧ r.2.mem ((c.tc : Thread Cert.KernelVgd.nD Cert.KernelVgd.τ).loc Cert.KernelVgd.main_arg1) = m ((c.tc : Thread Cert.KernelVgd.nD Cert.KernelVgd.τ).loc Cert.KernelVgd.main_arg1))
      ∧ r.2.sem = fun _ => 0)

def quiescent_KernelVgdIdeal [hKernelVgdIdeal : Cert.KernelVgdIdeal.Facts] : Prop :=
  ∀ (m : (ℓ : Loc Cert.KernelVgdIdeal.nD Cert.KernelVgdIdeal.τ Cert.KernelVgdIdeal.sig) → Buf (Elt Ideal) ℓ) (g : Dev Cert.KernelVgdIdeal.nD → PrngReg), Pre_KernelVgdIdeal m →
    θ_run (Cert.KernelVgdIdeal.defs (F := Ideal)) (onTc (τ := Cert.KernelVgdIdeal.τ) (Cert.KernelVgdIdeal.main (F := Ideal))) ⟨m, fun _ => 0, g⟩ (fun r => (∀ c : Dev Cert.KernelVgdIdeal.nD,
      r.2.mem ((c.tc : Thread Cert.KernelVgdIdeal.nD Cert.KernelVgdIdeal.τ).loc Cert.KernelVgdIdeal.main_arg0) = m ((c.tc : Thread Cert.KernelVgdIdeal.nD Cert.KernelVgdIdeal.τ).loc Cert.KernelVgdIdeal.main_arg0)
      ∧ r.2.mem ((c.tc : Thread Cert.KernelVgdIdeal.nD Cert.KernelVgdIdeal.τ).loc Cert.KernelVgdIdeal.main_arg1) = m ((c.tc : Thread Cert.KernelVgdIdeal.nD Cert.KernelVgdIdeal.τ).loc Cert.KernelVgdIdeal.main_arg1))
      ∧ r.2.sem = fun _ => 0)

def quiescent_ReferenceVgdIdeal [hReferenceVgdIdeal : Cert.ReferenceVgdIdeal.Facts] : Prop :=
  ∀ (m : (ℓ : Loc Cert.ReferenceVgdIdeal.nD Cert.ReferenceVgdIdeal.τ Cert.ReferenceVgdIdeal.sig) → Buf (Elt Ideal) ℓ) (g : Dev Cert.ReferenceVgdIdeal.nD → PrngReg), Pre_ReferenceVgdIdeal m →
    θ_run (Cert.ReferenceVgdIdeal.defs (F := Ideal)) (onTc (τ := Cert.ReferenceVgdIdeal.τ) (Cert.ReferenceVgdIdeal.main (F := Ideal))) ⟨m, fun _ => 0, g⟩ (fun r => (∀ c : Dev Cert.ReferenceVgdIdeal.nD,
      r.2.mem ((c.tc : Thread Cert.ReferenceVgdIdeal.nD Cert.ReferenceVgdIdeal.τ).loc Cert.ReferenceVgdIdeal.main_arg0) = m ((c.tc : Thread Cert.ReferenceVgdIdeal.nD Cert.ReferenceVgdIdeal.τ).loc Cert.ReferenceVgdIdeal.main_arg0)
      ∧ r.2.mem ((c.tc : Thread Cert.ReferenceVgdIdeal.nD Cert.ReferenceVgdIdeal.τ).loc Cert.ReferenceVgdIdeal.main_arg1) = m ((c.tc : Thread Cert.ReferenceVgdIdeal.nD Cert.ReferenceVgdIdeal.τ).loc Cert.ReferenceVgdIdeal.main_arg1))
      ∧ r.2.sem = fun _ => 0)

def quiescent_KernelKbs [hKernelKbs : Cert.KernelKbs.Facts] : Prop :=
  ∀ (m : (ℓ : Loc Cert.KernelKbs.nD Cert.KernelKbs.τ Cert.KernelKbs.sig) → Buf (Elt Bits) ℓ) (g : Dev Cert.KernelKbs.nD → PrngReg), Pre_KernelKbs m →
    θ_run (Cert.KernelKbs.defs (F := Bits)) (onTc (τ := Cert.KernelKbs.τ) (Cert.KernelKbs.main (F := Bits))) ⟨m, fun _ => 0, g⟩ (fun r => (∀ c : Dev Cert.KernelKbs.nD,
      r.2.mem ((c.tc : Thread Cert.KernelKbs.nD Cert.KernelKbs.τ).loc Cert.KernelKbs.main_arg0) = m ((c.tc : Thread Cert.KernelKbs.nD Cert.KernelKbs.τ).loc Cert.KernelKbs.main_arg0)
      ∧ r.2.mem ((c.tc : Thread Cert.KernelKbs.nD Cert.KernelKbs.τ).loc Cert.KernelKbs.main_arg1) = m ((c.tc : Thread Cert.KernelKbs.nD Cert.KernelKbs.τ).loc Cert.KernelKbs.main_arg1))
      ∧ r.2.sem = fun _ => 0)

def quiescent_KernelKbsIdeal [hKernelKbsIdeal : Cert.KernelKbsIdeal.Facts] : Prop :=
  ∀ (m : (ℓ : Loc Cert.KernelKbsIdeal.nD Cert.KernelKbsIdeal.τ Cert.KernelKbsIdeal.sig) → Buf (Elt Ideal) ℓ) (g : Dev Cert.KernelKbsIdeal.nD → PrngReg), Pre_KernelKbsIdeal m →
    θ_run (Cert.KernelKbsIdeal.defs (F := Ideal)) (onTc (τ := Cert.KernelKbsIdeal.τ) (Cert.KernelKbsIdeal.main (F := Ideal))) ⟨m, fun _ => 0, g⟩ (fun r => (∀ c : Dev Cert.KernelKbsIdeal.nD,
      r.2.mem ((c.tc : Thread Cert.KernelKbsIdeal.nD Cert.KernelKbsIdeal.τ).loc Cert.KernelKbsIdeal.main_arg0) = m ((c.tc : Thread Cert.KernelKbsIdeal.nD Cert.KernelKbsIdeal.τ).loc Cert.KernelKbsIdeal.main_arg0)
      ∧ r.2.mem ((c.tc : Thread Cert.KernelKbsIdeal.nD Cert.KernelKbsIdeal.τ).loc Cert.KernelKbsIdeal.main_arg1) = m ((c.tc : Thread Cert.KernelKbsIdeal.nD Cert.KernelKbsIdeal.τ).loc Cert.KernelKbsIdeal.main_arg1))
      ∧ r.2.sem = fun _ => 0)

def quiescent_ReferenceKbsIdeal [hReferenceKbsIdeal : Cert.ReferenceKbsIdeal.Facts] : Prop :=
  ∀ (m : (ℓ : Loc Cert.ReferenceKbsIdeal.nD Cert.ReferenceKbsIdeal.τ Cert.ReferenceKbsIdeal.sig) → Buf (Elt Ideal) ℓ) (g : Dev Cert.ReferenceKbsIdeal.nD → PrngReg), Pre_ReferenceKbsIdeal m →
    θ_run (Cert.ReferenceKbsIdeal.defs (F := Ideal)) (onTc (τ := Cert.ReferenceKbsIdeal.τ) (Cert.ReferenceKbsIdeal.main (F := Ideal))) ⟨m, fun _ => 0, g⟩ (fun r => (∀ c : Dev Cert.ReferenceKbsIdeal.nD,
      r.2.mem ((c.tc : Thread Cert.ReferenceKbsIdeal.nD Cert.ReferenceKbsIdeal.τ).loc Cert.ReferenceKbsIdeal.main_arg0) = m ((c.tc : Thread Cert.ReferenceKbsIdeal.nD Cert.ReferenceKbsIdeal.τ).loc Cert.ReferenceKbsIdeal.main_arg0)
      ∧ r.2.mem ((c.tc : Thread Cert.ReferenceKbsIdeal.nD Cert.ReferenceKbsIdeal.τ).loc Cert.ReferenceKbsIdeal.main_arg1) = m ((c.tc : Thread Cert.ReferenceKbsIdeal.nD Cert.ReferenceKbsIdeal.τ).loc Cert.ReferenceKbsIdeal.main_arg1))
      ∧ r.2.sem = fun _ => 0)

def quiescent_KernelVbs [hKernelVbs : Cert.KernelVbs.Facts] : Prop :=
  ∀ (m : (ℓ : Loc Cert.KernelVbs.nD Cert.KernelVbs.τ Cert.KernelVbs.sig) → Buf (Elt Bits) ℓ) (g : Dev Cert.KernelVbs.nD → PrngReg), Pre_KernelVbs m →
    θ_run (Cert.KernelVbs.defs (F := Bits)) (onTc (τ := Cert.KernelVbs.τ) (Cert.KernelVbs.main (F := Bits))) ⟨m, fun _ => 0, g⟩ (fun r => (∀ c : Dev Cert.KernelVbs.nD,
      r.2.mem ((c.tc : Thread Cert.KernelVbs.nD Cert.KernelVbs.τ).loc Cert.KernelVbs.main_arg0) = m ((c.tc : Thread Cert.KernelVbs.nD Cert.KernelVbs.τ).loc Cert.KernelVbs.main_arg0)
      ∧ r.2.mem ((c.tc : Thread Cert.KernelVbs.nD Cert.KernelVbs.τ).loc Cert.KernelVbs.main_arg1) = m ((c.tc : Thread Cert.KernelVbs.nD Cert.KernelVbs.τ).loc Cert.KernelVbs.main_arg1))
      ∧ r.2.sem = fun _ => 0)

def quiescent_KernelVbsIdeal [hKernelVbsIdeal : Cert.KernelVbsIdeal.Facts] : Prop :=
  ∀ (m : (ℓ : Loc Cert.KernelVbsIdeal.nD Cert.KernelVbsIdeal.τ Cert.KernelVbsIdeal.sig) → Buf (Elt Ideal) ℓ) (g : Dev Cert.KernelVbsIdeal.nD → PrngReg), Pre_KernelVbsIdeal m →
    θ_run (Cert.KernelVbsIdeal.defs (F := Ideal)) (onTc (τ := Cert.KernelVbsIdeal.τ) (Cert.KernelVbsIdeal.main (F := Ideal))) ⟨m, fun _ => 0, g⟩ (fun r => (∀ c : Dev Cert.KernelVbsIdeal.nD,
      r.2.mem ((c.tc : Thread Cert.KernelVbsIdeal.nD Cert.KernelVbsIdeal.τ).loc Cert.KernelVbsIdeal.main_arg0) = m ((c.tc : Thread Cert.KernelVbsIdeal.nD Cert.KernelVbsIdeal.τ).loc Cert.KernelVbsIdeal.main_arg0)
      ∧ r.2.mem ((c.tc : Thread Cert.KernelVbsIdeal.nD Cert.KernelVbsIdeal.τ).loc Cert.KernelVbsIdeal.main_arg1) = m ((c.tc : Thread Cert.KernelVbsIdeal.nD Cert.KernelVbsIdeal.τ).loc Cert.KernelVbsIdeal.main_arg1))
      ∧ r.2.sem = fun _ => 0)

def quiescent_ReferenceVbsIdeal [hReferenceVbsIdeal : Cert.ReferenceVbsIdeal.Facts] : Prop :=
  ∀ (m : (ℓ : Loc Cert.ReferenceVbsIdeal.nD Cert.ReferenceVbsIdeal.τ Cert.ReferenceVbsIdeal.sig) → Buf (Elt Ideal) ℓ) (g : Dev Cert.ReferenceVbsIdeal.nD → PrngReg), Pre_ReferenceVbsIdeal m →
    θ_run (Cert.ReferenceVbsIdeal.defs (F := Ideal)) (onTc (τ := Cert.ReferenceVbsIdeal.τ) (Cert.ReferenceVbsIdeal.main (F := Ideal))) ⟨m, fun _ => 0, g⟩ (fun r => (∀ c : Dev Cert.ReferenceVbsIdeal.nD,
      r.2.mem ((c.tc : Thread Cert.ReferenceVbsIdeal.nD Cert.ReferenceVbsIdeal.τ).loc Cert.ReferenceVbsIdeal.main_arg0) = m ((c.tc : Thread Cert.ReferenceVbsIdeal.nD Cert.ReferenceVbsIdeal.τ).loc Cert.ReferenceVbsIdeal.main_arg0)
      ∧ r.2.mem ((c.tc : Thread Cert.ReferenceVbsIdeal.nD Cert.ReferenceVbsIdeal.τ).loc Cert.ReferenceVbsIdeal.main_arg1) = m ((c.tc : Thread Cert.ReferenceVbsIdeal.nD Cert.ReferenceVbsIdeal.τ).loc Cert.ReferenceVbsIdeal.main_arg1))
      ∧ r.2.sem = fun _ => 0)

def quiescent_KernelKcs [hKernelKcs : Cert.KernelKcs.Facts] : Prop :=
  ∀ (m : (ℓ : Loc Cert.KernelKcs.nD Cert.KernelKcs.τ Cert.KernelKcs.sig) → Buf (Elt Bits) ℓ) (g : Dev Cert.KernelKcs.nD → PrngReg), Pre_KernelKcs m →
    θ_run (Cert.KernelKcs.defs (F := Bits)) (onTc (τ := Cert.KernelKcs.τ) (Cert.KernelKcs.main (F := Bits))) ⟨m, fun _ => 0, g⟩ (fun r => (∀ c : Dev Cert.KernelKcs.nD,
      r.2.mem ((c.tc : Thread Cert.KernelKcs.nD Cert.KernelKcs.τ).loc Cert.KernelKcs.main_arg0) = m ((c.tc : Thread Cert.KernelKcs.nD Cert.KernelKcs.τ).loc Cert.KernelKcs.main_arg0)
      ∧ r.2.mem ((c.tc : Thread Cert.KernelKcs.nD Cert.KernelKcs.τ).loc Cert.KernelKcs.main_arg1) = m ((c.tc : Thread Cert.KernelKcs.nD Cert.KernelKcs.τ).loc Cert.KernelKcs.main_arg1))
      ∧ r.2.sem = fun _ => 0)

def quiescent_KernelKcsIdeal [hKernelKcsIdeal : Cert.KernelKcsIdeal.Facts] : Prop :=
  ∀ (m : (ℓ : Loc Cert.KernelKcsIdeal.nD Cert.KernelKcsIdeal.τ Cert.KernelKcsIdeal.sig) → Buf (Elt Ideal) ℓ) (g : Dev Cert.KernelKcsIdeal.nD → PrngReg), Pre_KernelKcsIdeal m →
    θ_run (Cert.KernelKcsIdeal.defs (F := Ideal)) (onTc (τ := Cert.KernelKcsIdeal.τ) (Cert.KernelKcsIdeal.main (F := Ideal))) ⟨m, fun _ => 0, g⟩ (fun r => (∀ c : Dev Cert.KernelKcsIdeal.nD,
      r.2.mem ((c.tc : Thread Cert.KernelKcsIdeal.nD Cert.KernelKcsIdeal.τ).loc Cert.KernelKcsIdeal.main_arg0) = m ((c.tc : Thread Cert.KernelKcsIdeal.nD Cert.KernelKcsIdeal.τ).loc Cert.KernelKcsIdeal.main_arg0)
      ∧ r.2.mem ((c.tc : Thread Cert.KernelKcsIdeal.nD Cert.KernelKcsIdeal.τ).loc Cert.KernelKcsIdeal.main_arg1) = m ((c.tc : Thread Cert.KernelKcsIdeal.nD Cert.KernelKcsIdeal.τ).loc Cert.KernelKcsIdeal.main_arg1))
      ∧ r.2.sem = fun _ => 0)

def quiescent_ReferenceKcsIdeal [hReferenceKcsIdeal : Cert.ReferenceKcsIdeal.Facts] : Prop :=
  ∀ (m : (ℓ : Loc Cert.ReferenceKcsIdeal.nD Cert.ReferenceKcsIdeal.τ Cert.ReferenceKcsIdeal.sig) → Buf (Elt Ideal) ℓ) (g : Dev Cert.ReferenceKcsIdeal.nD → PrngReg), Pre_ReferenceKcsIdeal m →
    θ_run (Cert.ReferenceKcsIdeal.defs (F := Ideal)) (onTc (τ := Cert.ReferenceKcsIdeal.τ) (Cert.ReferenceKcsIdeal.main (F := Ideal))) ⟨m, fun _ => 0, g⟩ (fun r => (∀ c : Dev Cert.ReferenceKcsIdeal.nD,
      r.2.mem ((c.tc : Thread Cert.ReferenceKcsIdeal.nD Cert.ReferenceKcsIdeal.τ).loc Cert.ReferenceKcsIdeal.main_arg0) = m ((c.tc : Thread Cert.ReferenceKcsIdeal.nD Cert.ReferenceKcsIdeal.τ).loc Cert.ReferenceKcsIdeal.main_arg0)
      ∧ r.2.mem ((c.tc : Thread Cert.ReferenceKcsIdeal.nD Cert.ReferenceKcsIdeal.τ).loc Cert.ReferenceKcsIdeal.main_arg1) = m ((c.tc : Thread Cert.ReferenceKcsIdeal.nD Cert.ReferenceKcsIdeal.τ).loc Cert.ReferenceKcsIdeal.main_arg1))
      ∧ r.2.sem = fun _ => 0)

def quiescent_KernelVcs [hKernelVcs : Cert.KernelVcs.Facts] : Prop :=
  ∀ (m : (ℓ : Loc Cert.KernelVcs.nD Cert.KernelVcs.τ Cert.KernelVcs.sig) → Buf (Elt Bits) ℓ) (g : Dev Cert.KernelVcs.nD → PrngReg), Pre_KernelVcs m →
    θ_run (Cert.KernelVcs.defs (F := Bits)) (onTc (τ := Cert.KernelVcs.τ) (Cert.KernelVcs.main (F := Bits))) ⟨m, fun _ => 0, g⟩ (fun r => (∀ c : Dev Cert.KernelVcs.nD,
      r.2.mem ((c.tc : Thread Cert.KernelVcs.nD Cert.KernelVcs.τ).loc Cert.KernelVcs.main_arg0) = m ((c.tc : Thread Cert.KernelVcs.nD Cert.KernelVcs.τ).loc Cert.KernelVcs.main_arg0)
      ∧ r.2.mem ((c.tc : Thread Cert.KernelVcs.nD Cert.KernelVcs.τ).loc Cert.KernelVcs.main_arg1) = m ((c.tc : Thread Cert.KernelVcs.nD Cert.KernelVcs.τ).loc Cert.KernelVcs.main_arg1))
      ∧ r.2.sem = fun _ => 0)

def quiescent_KernelVcsIdeal [hKernelVcsIdeal : Cert.KernelVcsIdeal.Facts] : Prop :=
  ∀ (m : (ℓ : Loc Cert.KernelVcsIdeal.nD Cert.KernelVcsIdeal.τ Cert.KernelVcsIdeal.sig) → Buf (Elt Ideal) ℓ) (g : Dev Cert.KernelVcsIdeal.nD → PrngReg), Pre_KernelVcsIdeal m →
    θ_run (Cert.KernelVcsIdeal.defs (F := Ideal)) (onTc (τ := Cert.KernelVcsIdeal.τ) (Cert.KernelVcsIdeal.main (F := Ideal))) ⟨m, fun _ => 0, g⟩ (fun r => (∀ c : Dev Cert.KernelVcsIdeal.nD,
      r.2.mem ((c.tc : Thread Cert.KernelVcsIdeal.nD Cert.KernelVcsIdeal.τ).loc Cert.KernelVcsIdeal.main_arg0) = m ((c.tc : Thread Cert.KernelVcsIdeal.nD Cert.KernelVcsIdeal.τ).loc Cert.KernelVcsIdeal.main_arg0)
      ∧ r.2.mem ((c.tc : Thread Cert.KernelVcsIdeal.nD Cert.KernelVcsIdeal.τ).loc Cert.KernelVcsIdeal.main_arg1) = m ((c.tc : Thread Cert.KernelVcsIdeal.nD Cert.KernelVcsIdeal.τ).loc Cert.KernelVcsIdeal.main_arg1))
      ∧ r.2.sem = fun _ => 0)

def quiescent_ReferenceVcsIdeal [hReferenceVcsIdeal : Cert.ReferenceVcsIdeal.Facts] : Prop :=
  ∀ (m : (ℓ : Loc Cert.ReferenceVcsIdeal.nD Cert.ReferenceVcsIdeal.τ Cert.ReferenceVcsIdeal.sig) → Buf (Elt Ideal) ℓ) (g : Dev Cert.ReferenceVcsIdeal.nD → PrngReg), Pre_ReferenceVcsIdeal m →
    θ_run (Cert.ReferenceVcsIdeal.defs (F := Ideal)) (onTc (τ := Cert.ReferenceVcsIdeal.τ) (Cert.ReferenceVcsIdeal.main (F := Ideal))) ⟨m, fun _ => 0, g⟩ (fun r => (∀ c : Dev Cert.ReferenceVcsIdeal.nD,
      r.2.mem ((c.tc : Thread Cert.ReferenceVcsIdeal.nD Cert.ReferenceVcsIdeal.τ).loc Cert.ReferenceVcsIdeal.main_arg0) = m ((c.tc : Thread Cert.ReferenceVcsIdeal.nD Cert.ReferenceVcsIdeal.τ).loc Cert.ReferenceVcsIdeal.main_arg0)
      ∧ r.2.mem ((c.tc : Thread Cert.ReferenceVcsIdeal.nD Cert.ReferenceVcsIdeal.τ).loc Cert.ReferenceVcsIdeal.main_arg1) = m ((c.tc : Thread Cert.ReferenceVcsIdeal.nD Cert.ReferenceVcsIdeal.τ).loc Cert.ReferenceVcsIdeal.main_arg1))
      ∧ r.2.sem = fun _ => 0)

def quiescent_KernelKis [hKernelKis : Cert.KernelKis.Facts] : Prop :=
  ∀ (m : (ℓ : Loc Cert.KernelKis.nD Cert.KernelKis.τ Cert.KernelKis.sig) → Buf (Elt Bits) ℓ) (g : Dev Cert.KernelKis.nD → PrngReg), Pre_KernelKis m →
    θ_run (Cert.KernelKis.defs (F := Bits)) (onTc (τ := Cert.KernelKis.τ) (Cert.KernelKis.main (F := Bits))) ⟨m, fun _ => 0, g⟩ (fun r => (∀ c : Dev Cert.KernelKis.nD,
      r.2.mem ((c.tc : Thread Cert.KernelKis.nD Cert.KernelKis.τ).loc Cert.KernelKis.main_arg0) = m ((c.tc : Thread Cert.KernelKis.nD Cert.KernelKis.τ).loc Cert.KernelKis.main_arg0)
      ∧ r.2.mem ((c.tc : Thread Cert.KernelKis.nD Cert.KernelKis.τ).loc Cert.KernelKis.main_arg1) = m ((c.tc : Thread Cert.KernelKis.nD Cert.KernelKis.τ).loc Cert.KernelKis.main_arg1))
      ∧ r.2.sem = fun _ => 0)

def quiescent_KernelKisIdeal [hKernelKisIdeal : Cert.KernelKisIdeal.Facts] : Prop :=
  ∀ (m : (ℓ : Loc Cert.KernelKisIdeal.nD Cert.KernelKisIdeal.τ Cert.KernelKisIdeal.sig) → Buf (Elt Ideal) ℓ) (g : Dev Cert.KernelKisIdeal.nD → PrngReg), Pre_KernelKisIdeal m →
    θ_run (Cert.KernelKisIdeal.defs (F := Ideal)) (onTc (τ := Cert.KernelKisIdeal.τ) (Cert.KernelKisIdeal.main (F := Ideal))) ⟨m, fun _ => 0, g⟩ (fun r => (∀ c : Dev Cert.KernelKisIdeal.nD,
      r.2.mem ((c.tc : Thread Cert.KernelKisIdeal.nD Cert.KernelKisIdeal.τ).loc Cert.KernelKisIdeal.main_arg0) = m ((c.tc : Thread Cert.KernelKisIdeal.nD Cert.KernelKisIdeal.τ).loc Cert.KernelKisIdeal.main_arg0)
      ∧ r.2.mem ((c.tc : Thread Cert.KernelKisIdeal.nD Cert.KernelKisIdeal.τ).loc Cert.KernelKisIdeal.main_arg1) = m ((c.tc : Thread Cert.KernelKisIdeal.nD Cert.KernelKisIdeal.τ).loc Cert.KernelKisIdeal.main_arg1))
      ∧ r.2.sem = fun _ => 0)

def quiescent_ReferenceKisIdeal [hReferenceKisIdeal : Cert.ReferenceKisIdeal.Facts] : Prop :=
  ∀ (m : (ℓ : Loc Cert.ReferenceKisIdeal.nD Cert.ReferenceKisIdeal.τ Cert.ReferenceKisIdeal.sig) → Buf (Elt Ideal) ℓ) (g : Dev Cert.ReferenceKisIdeal.nD → PrngReg), Pre_ReferenceKisIdeal m →
    θ_run (Cert.ReferenceKisIdeal.defs (F := Ideal)) (onTc (τ := Cert.ReferenceKisIdeal.τ) (Cert.ReferenceKisIdeal.main (F := Ideal))) ⟨m, fun _ => 0, g⟩ (fun r => (∀ c : Dev Cert.ReferenceKisIdeal.nD,
      r.2.mem ((c.tc : Thread Cert.ReferenceKisIdeal.nD Cert.ReferenceKisIdeal.τ).loc Cert.ReferenceKisIdeal.main_arg0) = m ((c.tc : Thread Cert.ReferenceKisIdeal.nD Cert.ReferenceKisIdeal.τ).loc Cert.ReferenceKisIdeal.main_arg0)
      ∧ r.2.mem ((c.tc : Thread Cert.ReferenceKisIdeal.nD Cert.ReferenceKisIdeal.τ).loc Cert.ReferenceKisIdeal.main_arg1) = m ((c.tc : Thread Cert.ReferenceKisIdeal.nD Cert.ReferenceKisIdeal.τ).loc Cert.ReferenceKisIdeal.main_arg1))
      ∧ r.2.sem = fun _ => 0)

def quiescent_KernelLg [hKernelLg : Cert.KernelLg.Facts] : Prop :=
  ∀ (m : (ℓ : Loc Cert.KernelLg.nD Cert.KernelLg.τ Cert.KernelLg.sig) → Buf (Elt Bits) ℓ) (g : Dev Cert.KernelLg.nD → PrngReg), Pre_KernelLg m →
    θ_run (Cert.KernelLg.defs (F := Bits)) (onTc (τ := Cert.KernelLg.τ) (Cert.KernelLg.main (F := Bits))) ⟨m, fun _ => 0, g⟩ (fun r => (∀ c : Dev Cert.KernelLg.nD,
      r.2.mem ((c.tc : Thread Cert.KernelLg.nD Cert.KernelLg.τ).loc Cert.KernelLg.main_arg0) = m ((c.tc : Thread Cert.KernelLg.nD Cert.KernelLg.τ).loc Cert.KernelLg.main_arg0)
      ∧ r.2.mem ((c.tc : Thread Cert.KernelLg.nD Cert.KernelLg.τ).loc Cert.KernelLg.main_arg1) = m ((c.tc : Thread Cert.KernelLg.nD Cert.KernelLg.τ).loc Cert.KernelLg.main_arg1))
      ∧ r.2.sem = fun _ => 0)

def quiescent_KernelLgIdeal [hKernelLgIdeal : Cert.KernelLgIdeal.Facts] : Prop :=
  ∀ (m : (ℓ : Loc Cert.KernelLgIdeal.nD Cert.KernelLgIdeal.τ Cert.KernelLgIdeal.sig) → Buf (Elt Ideal) ℓ) (g : Dev Cert.KernelLgIdeal.nD → PrngReg), Pre_KernelLgIdeal m →
    θ_run (Cert.KernelLgIdeal.defs (F := Ideal)) (onTc (τ := Cert.KernelLgIdeal.τ) (Cert.KernelLgIdeal.main (F := Ideal))) ⟨m, fun _ => 0, g⟩ (fun r => (∀ c : Dev Cert.KernelLgIdeal.nD,
      r.2.mem ((c.tc : Thread Cert.KernelLgIdeal.nD Cert.KernelLgIdeal.τ).loc Cert.KernelLgIdeal.main_arg0) = m ((c.tc : Thread Cert.KernelLgIdeal.nD Cert.KernelLgIdeal.τ).loc Cert.KernelLgIdeal.main_arg0)
      ∧ r.2.mem ((c.tc : Thread Cert.KernelLgIdeal.nD Cert.KernelLgIdeal.τ).loc Cert.KernelLgIdeal.main_arg1) = m ((c.tc : Thread Cert.KernelLgIdeal.nD Cert.KernelLgIdeal.τ).loc Cert.KernelLgIdeal.main_arg1))
      ∧ r.2.sem = fun _ => 0)

def quiescent_ReferenceLgIdeal [hReferenceLgIdeal : Cert.ReferenceLgIdeal.Facts] : Prop :=
  ∀ (m : (ℓ : Loc Cert.ReferenceLgIdeal.nD Cert.ReferenceLgIdeal.τ Cert.ReferenceLgIdeal.sig) → Buf (Elt Ideal) ℓ) (g : Dev Cert.ReferenceLgIdeal.nD → PrngReg), Pre_ReferenceLgIdeal m →
    θ_run (Cert.ReferenceLgIdeal.defs (F := Ideal)) (onTc (τ := Cert.ReferenceLgIdeal.τ) (Cert.ReferenceLgIdeal.main (F := Ideal))) ⟨m, fun _ => 0, g⟩ (fun r => (∀ c : Dev Cert.ReferenceLgIdeal.nD,
      r.2.mem ((c.tc : Thread Cert.ReferenceLgIdeal.nD Cert.ReferenceLgIdeal.τ).loc Cert.ReferenceLgIdeal.main_arg0) = m ((c.tc : Thread Cert.ReferenceLgIdeal.nD Cert.ReferenceLgIdeal.τ).loc Cert.ReferenceLgIdeal.main_arg0)
      ∧ r.2.mem ((c.tc : Thread Cert.ReferenceLgIdeal.nD Cert.ReferenceLgIdeal.τ).loc Cert.ReferenceLgIdeal.main_arg1) = m ((c.tc : Thread Cert.ReferenceLgIdeal.nD Cert.ReferenceLgIdeal.τ).loc Cert.ReferenceLgIdeal.main_arg1))
      ∧ r.2.sem = fun _ => 0)

def quiescent_KernelPln [hKernelPln : Cert.KernelPln.Facts] : Prop :=
  ∀ (m : (ℓ : Loc Cert.KernelPln.nD Cert.KernelPln.τ Cert.KernelPln.sig) → Buf (Elt Bits) ℓ) (g : Dev Cert.KernelPln.nD → PrngReg), Pre_KernelPln m →
    θ_run (Cert.KernelPln.defs (F := Bits)) (onTc (τ := Cert.KernelPln.τ) (Cert.KernelPln.main (F := Bits))) ⟨m, fun _ => 0, g⟩ (fun r => (∀ c : Dev Cert.KernelPln.nD,
      r.2.mem ((c.tc : Thread Cert.KernelPln.nD Cert.KernelPln.τ).loc Cert.KernelPln.main_arg0) = m ((c.tc : Thread Cert.KernelPln.nD Cert.KernelPln.τ).loc Cert.KernelPln.main_arg0)
      ∧ r.2.mem ((c.tc : Thread Cert.KernelPln.nD Cert.KernelPln.τ).loc Cert.KernelPln.main_arg1) = m ((c.tc : Thread Cert.KernelPln.nD Cert.KernelPln.τ).loc Cert.KernelPln.main_arg1)
      ∧ r.2.mem ((c.tc : Thread Cert.KernelPln.nD Cert.KernelPln.τ).loc Cert.KernelPln.main_arg2) = m ((c.tc : Thread Cert.KernelPln.nD Cert.KernelPln.τ).loc Cert.KernelPln.main_arg2)
      ∧ r.2.mem ((c.tc : Thread Cert.KernelPln.nD Cert.KernelPln.τ).loc Cert.KernelPln.main_arg3) = m ((c.tc : Thread Cert.KernelPln.nD Cert.KernelPln.τ).loc Cert.KernelPln.main_arg3)
      ∧ r.2.mem ((c.tc : Thread Cert.KernelPln.nD Cert.KernelPln.τ).loc Cert.KernelPln.main_arg4) = m ((c.tc : Thread Cert.KernelPln.nD Cert.KernelPln.τ).loc Cert.KernelPln.main_arg4)
      ∧ r.2.mem ((c.tc : Thread Cert.KernelPln.nD Cert.KernelPln.τ).loc Cert.KernelPln.main_arg5) = m ((c.tc : Thread Cert.KernelPln.nD Cert.KernelPln.τ).loc Cert.KernelPln.main_arg5))
      ∧ r.2.sem = fun _ => 0)

def quiescent_KernelPlnIdeal [hKernelPlnIdeal : Cert.KernelPlnIdeal.Facts] : Prop :=
  ∀ (m : (ℓ : Loc Cert.KernelPlnIdeal.nD Cert.KernelPlnIdeal.τ Cert.KernelPlnIdeal.sig) → Buf (Elt Ideal) ℓ) (g : Dev Cert.KernelPlnIdeal.nD → PrngReg), Pre_KernelPlnIdeal m →
    θ_run (Cert.KernelPlnIdeal.defs (F := Ideal)) (onTc (τ := Cert.KernelPlnIdeal.τ) (Cert.KernelPlnIdeal.main (F := Ideal))) ⟨m, fun _ => 0, g⟩ (fun r => (∀ c : Dev Cert.KernelPlnIdeal.nD,
      r.2.mem ((c.tc : Thread Cert.KernelPlnIdeal.nD Cert.KernelPlnIdeal.τ).loc Cert.KernelPlnIdeal.main_arg0) = m ((c.tc : Thread Cert.KernelPlnIdeal.nD Cert.KernelPlnIdeal.τ).loc Cert.KernelPlnIdeal.main_arg0)
      ∧ r.2.mem ((c.tc : Thread Cert.KernelPlnIdeal.nD Cert.KernelPlnIdeal.τ).loc Cert.KernelPlnIdeal.main_arg1) = m ((c.tc : Thread Cert.KernelPlnIdeal.nD Cert.KernelPlnIdeal.τ).loc Cert.KernelPlnIdeal.main_arg1)
      ∧ r.2.mem ((c.tc : Thread Cert.KernelPlnIdeal.nD Cert.KernelPlnIdeal.τ).loc Cert.KernelPlnIdeal.main_arg2) = m ((c.tc : Thread Cert.KernelPlnIdeal.nD Cert.KernelPlnIdeal.τ).loc Cert.KernelPlnIdeal.main_arg2)
      ∧ r.2.mem ((c.tc : Thread Cert.KernelPlnIdeal.nD Cert.KernelPlnIdeal.τ).loc Cert.KernelPlnIdeal.main_arg3) = m ((c.tc : Thread Cert.KernelPlnIdeal.nD Cert.KernelPlnIdeal.τ).loc Cert.KernelPlnIdeal.main_arg3)
      ∧ r.2.mem ((c.tc : Thread Cert.KernelPlnIdeal.nD Cert.KernelPlnIdeal.τ).loc Cert.KernelPlnIdeal.main_arg4) = m ((c.tc : Thread Cert.KernelPlnIdeal.nD Cert.KernelPlnIdeal.τ).loc Cert.KernelPlnIdeal.main_arg4)
      ∧ r.2.mem ((c.tc : Thread Cert.KernelPlnIdeal.nD Cert.KernelPlnIdeal.τ).loc Cert.KernelPlnIdeal.main_arg5) = m ((c.tc : Thread Cert.KernelPlnIdeal.nD Cert.KernelPlnIdeal.τ).loc Cert.KernelPlnIdeal.main_arg5))
      ∧ r.2.sem = fun _ => 0)

def quiescent_ReferencePlnIdeal [hReferencePlnIdeal : Cert.ReferencePlnIdeal.Facts] : Prop :=
  ∀ (m : (ℓ : Loc Cert.ReferencePlnIdeal.nD Cert.ReferencePlnIdeal.τ Cert.ReferencePlnIdeal.sig) → Buf (Elt Ideal) ℓ) (g : Dev Cert.ReferencePlnIdeal.nD → PrngReg), Pre_ReferencePlnIdeal m →
    θ_run (Cert.ReferencePlnIdeal.defs (F := Ideal)) (onTc (τ := Cert.ReferencePlnIdeal.τ) (Cert.ReferencePlnIdeal.main (F := Ideal))) ⟨m, fun _ => 0, g⟩ (fun r => (∀ c : Dev Cert.ReferencePlnIdeal.nD,
      r.2.mem ((c.tc : Thread Cert.ReferencePlnIdeal.nD Cert.ReferencePlnIdeal.τ).loc Cert.ReferencePlnIdeal.main_arg0) = m ((c.tc : Thread Cert.ReferencePlnIdeal.nD Cert.ReferencePlnIdeal.τ).loc Cert.ReferencePlnIdeal.main_arg0)
      ∧ r.2.mem ((c.tc : Thread Cert.ReferencePlnIdeal.nD Cert.ReferencePlnIdeal.τ).loc Cert.ReferencePlnIdeal.main_arg1) = m ((c.tc : Thread Cert.ReferencePlnIdeal.nD Cert.ReferencePlnIdeal.τ).loc Cert.ReferencePlnIdeal.main_arg1)
      ∧ r.2.mem ((c.tc : Thread Cert.ReferencePlnIdeal.nD Cert.ReferencePlnIdeal.τ).loc Cert.ReferencePlnIdeal.main_arg2) = m ((c.tc : Thread Cert.ReferencePlnIdeal.nD Cert.ReferencePlnIdeal.τ).loc Cert.ReferencePlnIdeal.main_arg2)
      ∧ r.2.mem ((c.tc : Thread Cert.ReferencePlnIdeal.nD Cert.ReferencePlnIdeal.τ).loc Cert.ReferencePlnIdeal.main_arg3) = m ((c.tc : Thread Cert.ReferencePlnIdeal.nD Cert.ReferencePlnIdeal.τ).loc Cert.ReferencePlnIdeal.main_arg3)
      ∧ r.2.mem ((c.tc : Thread Cert.ReferencePlnIdeal.nD Cert.ReferencePlnIdeal.τ).loc Cert.ReferencePlnIdeal.main_arg4) = m ((c.tc : Thread Cert.ReferencePlnIdeal.nD Cert.ReferencePlnIdeal.τ).loc Cert.ReferencePlnIdeal.main_arg4)
      ∧ r.2.mem ((c.tc : Thread Cert.ReferencePlnIdeal.nD Cert.ReferencePlnIdeal.τ).loc Cert.ReferencePlnIdeal.main_arg5) = m ((c.tc : Thread Cert.ReferencePlnIdeal.nD Cert.ReferencePlnIdeal.τ).loc Cert.ReferencePlnIdeal.main_arg5))
      ∧ r.2.sem = fun _ => 0)

def quiescent_KernelRets [hKernelRets : Cert.KernelRets.Facts] : Prop :=
  ∀ (m : (ℓ : Loc Cert.KernelRets.nD Cert.KernelRets.τ Cert.KernelRets.sig) → Buf (Elt Bits) ℓ) (g : Dev Cert.KernelRets.nD → PrngReg), Pre_KernelRets m →
    θ_run (Cert.KernelRets.defs (F := Bits)) (onTc (τ := Cert.KernelRets.τ) (Cert.KernelRets.main (F := Bits))) ⟨m, fun _ => 0, g⟩ (fun r => (∀ c : Dev Cert.KernelRets.nD,
      r.2.mem ((c.tc : Thread Cert.KernelRets.nD Cert.KernelRets.τ).loc Cert.KernelRets.main_arg0) = m ((c.tc : Thread Cert.KernelRets.nD Cert.KernelRets.τ).loc Cert.KernelRets.main_arg0)
      ∧ r.2.mem ((c.tc : Thread Cert.KernelRets.nD Cert.KernelRets.τ).loc Cert.KernelRets.main_arg1) = m ((c.tc : Thread Cert.KernelRets.nD Cert.KernelRets.τ).loc Cert.KernelRets.main_arg1)
      ∧ r.2.mem ((c.tc : Thread Cert.KernelRets.nD Cert.KernelRets.τ).loc Cert.KernelRets.main_arg2) = m ((c.tc : Thread Cert.KernelRets.nD Cert.KernelRets.τ).loc Cert.KernelRets.main_arg2)
      ∧ r.2.mem ((c.tc : Thread Cert.KernelRets.nD Cert.KernelRets.τ).loc Cert.KernelRets.main_arg3) = m ((c.tc : Thread Cert.KernelRets.nD Cert.KernelRets.τ).loc Cert.KernelRets.main_arg3))
      ∧ r.2.sem = fun _ => 0)

def quiescent_KernelRetsIdeal [hKernelRetsIdeal : Cert.KernelRetsIdeal.Facts] : Prop :=
  ∀ (m : (ℓ : Loc Cert.KernelRetsIdeal.nD Cert.KernelRetsIdeal.τ Cert.KernelRetsIdeal.sig) → Buf (Elt Ideal) ℓ) (g : Dev Cert.KernelRetsIdeal.nD → PrngReg), Pre_KernelRetsIdeal m →
    θ_run (Cert.KernelRetsIdeal.defs (F := Ideal)) (onTc (τ := Cert.KernelRetsIdeal.τ) (Cert.KernelRetsIdeal.main (F := Ideal))) ⟨m, fun _ => 0, g⟩ (fun r => (∀ c : Dev Cert.KernelRetsIdeal.nD,
      r.2.mem ((c.tc : Thread Cert.KernelRetsIdeal.nD Cert.KernelRetsIdeal.τ).loc Cert.KernelRetsIdeal.main_arg0) = m ((c.tc : Thread Cert.KernelRetsIdeal.nD Cert.KernelRetsIdeal.τ).loc Cert.KernelRetsIdeal.main_arg0)
      ∧ r.2.mem ((c.tc : Thread Cert.KernelRetsIdeal.nD Cert.KernelRetsIdeal.τ).loc Cert.KernelRetsIdeal.main_arg1) = m ((c.tc : Thread Cert.KernelRetsIdeal.nD Cert.KernelRetsIdeal.τ).loc Cert.KernelRetsIdeal.main_arg1)
      ∧ r.2.mem ((c.tc : Thread Cert.KernelRetsIdeal.nD Cert.KernelRetsIdeal.τ).loc Cert.KernelRetsIdeal.main_arg2) = m ((c.tc : Thread Cert.KernelRetsIdeal.nD Cert.KernelRetsIdeal.τ).loc Cert.KernelRetsIdeal.main_arg2)
      ∧ r.2.mem ((c.tc : Thread Cert.KernelRetsIdeal.nD Cert.KernelRetsIdeal.τ).loc Cert.KernelRetsIdeal.main_arg3) = m ((c.tc : Thread Cert.KernelRetsIdeal.nD Cert.KernelRetsIdeal.τ).loc Cert.KernelRetsIdeal.main_arg3))
      ∧ r.2.sem = fun _ => 0)

def quiescent_ReferenceRetsIdeal [hReferenceRetsIdeal : Cert.ReferenceRetsIdeal.Facts] : Prop :=
  ∀ (m : (ℓ : Loc Cert.ReferenceRetsIdeal.nD Cert.ReferenceRetsIdeal.τ Cert.ReferenceRetsIdeal.sig) → Buf (Elt Ideal) ℓ) (g : Dev Cert.ReferenceRetsIdeal.nD → PrngReg), Pre_ReferenceRetsIdeal m →
    θ_run (Cert.ReferenceRetsIdeal.defs (F := Ideal)) (onTc (τ := Cert.ReferenceRetsIdeal.τ) (Cert.ReferenceRetsIdeal.main (F := Ideal))) ⟨m, fun _ => 0, g⟩ (fun r => (∀ c : Dev Cert.ReferenceRetsIdeal.nD,
      r.2.mem ((c.tc : Thread Cert.ReferenceRetsIdeal.nD Cert.ReferenceRetsIdeal.τ).loc Cert.ReferenceRetsIdeal.main_arg0) = m ((c.tc : Thread Cert.ReferenceRetsIdeal.nD Cert.ReferenceRetsIdeal.τ).loc Cert.ReferenceRetsIdeal.main_arg0)
      ∧ r.2.mem ((c.tc : Thread Cert.ReferenceRetsIdeal.nD Cert.ReferenceRetsIdeal.τ).loc Cert.ReferenceRetsIdeal.main_arg1) = m ((c.tc : Thread Cert.ReferenceRetsIdeal.nD Cert.ReferenceRetsIdeal.τ).loc Cert.ReferenceRetsIdeal.main_arg1)
      ∧ r.2.mem ((c.tc : Thread Cert.ReferenceRetsIdeal.nD Cert.ReferenceRetsIdeal.τ).loc Cert.ReferenceRetsIdeal.main_arg2) = m ((c.tc : Thread Cert.ReferenceRetsIdeal.nD Cert.ReferenceRetsIdeal.τ).loc Cert.ReferenceRetsIdeal.main_arg2)
      ∧ r.2.mem ((c.tc : Thread Cert.ReferenceRetsIdeal.nD Cert.ReferenceRetsIdeal.τ).loc Cert.ReferenceRetsIdeal.main_arg3) = m ((c.tc : Thread Cert.ReferenceRetsIdeal.nD Cert.ReferenceRetsIdeal.τ).loc Cert.ReferenceRetsIdeal.main_arg3))
      ∧ r.2.sem = fun _ => 0)

def quiescent_KernelMls [hKernelMls : Cert.KernelMls.Facts] : Prop :=
  ∀ (m : (ℓ : Loc Cert.KernelMls.nD Cert.KernelMls.τ Cert.KernelMls.sig) → Buf (Elt Bits) ℓ) (g : Dev Cert.KernelMls.nD → PrngReg), Pre_KernelMls m →
    θ_run (Cert.KernelMls.defs (F := Bits)) (onTc (τ := Cert.KernelMls.τ) (Cert.KernelMls.main (F := Bits))) ⟨m, fun _ => 0, g⟩ (fun r => (∀ c : Dev Cert.KernelMls.nD,
      r.2.mem ((c.tc : Thread Cert.KernelMls.nD Cert.KernelMls.τ).loc Cert.KernelMls.main_arg0) = m ((c.tc : Thread Cert.KernelMls.nD Cert.KernelMls.τ).loc Cert.KernelMls.main_arg0)
      ∧ r.2.mem ((c.tc : Thread Cert.KernelMls.nD Cert.KernelMls.τ).loc Cert.KernelMls.main_arg1) = m ((c.tc : Thread Cert.KernelMls.nD Cert.KernelMls.τ).loc Cert.KernelMls.main_arg1)
      ∧ r.2.mem ((c.tc : Thread Cert.KernelMls.nD Cert.KernelMls.τ).loc Cert.KernelMls.main_arg2) = m ((c.tc : Thread Cert.KernelMls.nD Cert.KernelMls.τ).loc Cert.KernelMls.main_arg2)
      ∧ r.2.mem ((c.tc : Thread Cert.KernelMls.nD Cert.KernelMls.τ).loc Cert.KernelMls.main_arg3) = m ((c.tc : Thread Cert.KernelMls.nD Cert.KernelMls.τ).loc Cert.KernelMls.main_arg3)
      ∧ r.2.mem ((c.tc : Thread Cert.KernelMls.nD Cert.KernelMls.τ).loc Cert.KernelMls.main_arg4) = m ((c.tc : Thread Cert.KernelMls.nD Cert.KernelMls.τ).loc Cert.KernelMls.main_arg4)
      ∧ r.2.mem ((c.tc : Thread Cert.KernelMls.nD Cert.KernelMls.τ).loc Cert.KernelMls.main_arg5) = m ((c.tc : Thread Cert.KernelMls.nD Cert.KernelMls.τ).loc Cert.KernelMls.main_arg5)
      ∧ r.2.mem ((c.tc : Thread Cert.KernelMls.nD Cert.KernelMls.τ).loc Cert.KernelMls.main_arg6) = m ((c.tc : Thread Cert.KernelMls.nD Cert.KernelMls.τ).loc Cert.KernelMls.main_arg6)
      ∧ r.2.mem ((c.tc : Thread Cert.KernelMls.nD Cert.KernelMls.τ).loc Cert.KernelMls.main_arg7) = m ((c.tc : Thread Cert.KernelMls.nD Cert.KernelMls.τ).loc Cert.KernelMls.main_arg7))
      ∧ r.2.sem = fun _ => 0)

def quiescent_KernelMlsIdeal [hKernelMlsIdeal : Cert.KernelMlsIdeal.Facts] : Prop :=
  ∀ (m : (ℓ : Loc Cert.KernelMlsIdeal.nD Cert.KernelMlsIdeal.τ Cert.KernelMlsIdeal.sig) → Buf (Elt Ideal) ℓ) (g : Dev Cert.KernelMlsIdeal.nD → PrngReg), Pre_KernelMlsIdeal m →
    θ_run (Cert.KernelMlsIdeal.defs (F := Ideal)) (onTc (τ := Cert.KernelMlsIdeal.τ) (Cert.KernelMlsIdeal.main (F := Ideal))) ⟨m, fun _ => 0, g⟩ (fun r => (∀ c : Dev Cert.KernelMlsIdeal.nD,
      r.2.mem ((c.tc : Thread Cert.KernelMlsIdeal.nD Cert.KernelMlsIdeal.τ).loc Cert.KernelMlsIdeal.main_arg0) = m ((c.tc : Thread Cert.KernelMlsIdeal.nD Cert.KernelMlsIdeal.τ).loc Cert.KernelMlsIdeal.main_arg0)
      ∧ r.2.mem ((c.tc : Thread Cert.KernelMlsIdeal.nD Cert.KernelMlsIdeal.τ).loc Cert.KernelMlsIdeal.main_arg1) = m ((c.tc : Thread Cert.KernelMlsIdeal.nD Cert.KernelMlsIdeal.τ).loc Cert.KernelMlsIdeal.main_arg1)
      ∧ r.2.mem ((c.tc : Thread Cert.KernelMlsIdeal.nD Cert.KernelMlsIdeal.τ).loc Cert.KernelMlsIdeal.main_arg2) = m ((c.tc : Thread Cert.KernelMlsIdeal.nD Cert.KernelMlsIdeal.τ).loc Cert.KernelMlsIdeal.main_arg2)
      ∧ r.2.mem ((c.tc : Thread Cert.KernelMlsIdeal.nD Cert.KernelMlsIdeal.τ).loc Cert.KernelMlsIdeal.main_arg3) = m ((c.tc : Thread Cert.KernelMlsIdeal.nD Cert.KernelMlsIdeal.τ).loc Cert.KernelMlsIdeal.main_arg3)
      ∧ r.2.mem ((c.tc : Thread Cert.KernelMlsIdeal.nD Cert.KernelMlsIdeal.τ).loc Cert.KernelMlsIdeal.main_arg4) = m ((c.tc : Thread Cert.KernelMlsIdeal.nD Cert.KernelMlsIdeal.τ).loc Cert.KernelMlsIdeal.main_arg4)
      ∧ r.2.mem ((c.tc : Thread Cert.KernelMlsIdeal.nD Cert.KernelMlsIdeal.τ).loc Cert.KernelMlsIdeal.main_arg5) = m ((c.tc : Thread Cert.KernelMlsIdeal.nD Cert.KernelMlsIdeal.τ).loc Cert.KernelMlsIdeal.main_arg5)
      ∧ r.2.mem ((c.tc : Thread Cert.KernelMlsIdeal.nD Cert.KernelMlsIdeal.τ).loc Cert.KernelMlsIdeal.main_arg6) = m ((c.tc : Thread Cert.KernelMlsIdeal.nD Cert.KernelMlsIdeal.τ).loc Cert.KernelMlsIdeal.main_arg6)
      ∧ r.2.mem ((c.tc : Thread Cert.KernelMlsIdeal.nD Cert.KernelMlsIdeal.τ).loc Cert.KernelMlsIdeal.main_arg7) = m ((c.tc : Thread Cert.KernelMlsIdeal.nD Cert.KernelMlsIdeal.τ).loc Cert.KernelMlsIdeal.main_arg7))
      ∧ r.2.sem = fun _ => 0)

def quiescent_ReferenceMlsIdeal [hReferenceMlsIdeal : Cert.ReferenceMlsIdeal.Facts] : Prop :=
  ∀ (m : (ℓ : Loc Cert.ReferenceMlsIdeal.nD Cert.ReferenceMlsIdeal.τ Cert.ReferenceMlsIdeal.sig) → Buf (Elt Ideal) ℓ) (g : Dev Cert.ReferenceMlsIdeal.nD → PrngReg), Pre_ReferenceMlsIdeal m →
    θ_run (Cert.ReferenceMlsIdeal.defs (F := Ideal)) (onTc (τ := Cert.ReferenceMlsIdeal.τ) (Cert.ReferenceMlsIdeal.main (F := Ideal))) ⟨m, fun _ => 0, g⟩ (fun r => (∀ c : Dev Cert.ReferenceMlsIdeal.nD,
      r.2.mem ((c.tc : Thread Cert.ReferenceMlsIdeal.nD Cert.ReferenceMlsIdeal.τ).loc Cert.ReferenceMlsIdeal.main_arg0) = m ((c.tc : Thread Cert.ReferenceMlsIdeal.nD Cert.ReferenceMlsIdeal.τ).loc Cert.ReferenceMlsIdeal.main_arg0)
      ∧ r.2.mem ((c.tc : Thread Cert.ReferenceMlsIdeal.nD Cert.ReferenceMlsIdeal.τ).loc Cert.ReferenceMlsIdeal.main_arg1) = m ((c.tc : Thread Cert.ReferenceMlsIdeal.nD Cert.ReferenceMlsIdeal.τ).loc Cert.ReferenceMlsIdeal.main_arg1)
      ∧ r.2.mem ((c.tc : Thread Cert.ReferenceMlsIdeal.nD Cert.ReferenceMlsIdeal.τ).loc Cert.ReferenceMlsIdeal.main_arg2) = m ((c.tc : Thread Cert.ReferenceMlsIdeal.nD Cert.ReferenceMlsIdeal.τ).loc Cert.ReferenceMlsIdeal.main_arg2)
      ∧ r.2.mem ((c.tc : Thread Cert.ReferenceMlsIdeal.nD Cert.ReferenceMlsIdeal.τ).loc Cert.ReferenceMlsIdeal.main_arg3) = m ((c.tc : Thread Cert.ReferenceMlsIdeal.nD Cert.ReferenceMlsIdeal.τ).loc Cert.ReferenceMlsIdeal.main_arg3)
      ∧ r.2.mem ((c.tc : Thread Cert.ReferenceMlsIdeal.nD Cert.ReferenceMlsIdeal.τ).loc Cert.ReferenceMlsIdeal.main_arg4) = m ((c.tc : Thread Cert.ReferenceMlsIdeal.nD Cert.ReferenceMlsIdeal.τ).loc Cert.ReferenceMlsIdeal.main_arg4)
      ∧ r.2.mem ((c.tc : Thread Cert.ReferenceMlsIdeal.nD Cert.ReferenceMlsIdeal.τ).loc Cert.ReferenceMlsIdeal.main_arg5) = m ((c.tc : Thread Cert.ReferenceMlsIdeal.nD Cert.ReferenceMlsIdeal.τ).loc Cert.ReferenceMlsIdeal.main_arg5)
      ∧ r.2.mem ((c.tc : Thread Cert.ReferenceMlsIdeal.nD Cert.ReferenceMlsIdeal.τ).loc Cert.ReferenceMlsIdeal.main_arg6) = m ((c.tc : Thread Cert.ReferenceMlsIdeal.nD Cert.ReferenceMlsIdeal.τ).loc Cert.ReferenceMlsIdeal.main_arg6)
      ∧ r.2.mem ((c.tc : Thread Cert.ReferenceMlsIdeal.nD Cert.ReferenceMlsIdeal.τ).loc Cert.ReferenceMlsIdeal.main_arg7) = m ((c.tc : Thread Cert.ReferenceMlsIdeal.nD Cert.ReferenceMlsIdeal.τ).loc Cert.ReferenceMlsIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v24_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)) →
    ∃ (v0 : (c : Dev Cert.KernelZIdeal.nD) → Buf (Elt Ideal) ((c.tc : Thread Cert.KernelZIdeal.nD Cert.KernelZIdeal.τ).loc Cert.KernelZIdeal.main_v5)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v5) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v11) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1))

def preserves_KernelQb_KernelQbIdeal : Prop :=
  True

def algebraic_KernelQbIdeal_ReferenceQbIdeal [hKernelQbIdeal : Cert.KernelQbIdeal.Facts] [hReferenceQbIdeal : Cert.ReferenceQbIdeal.Facts] : Prop :=
  ∀ (m : (ℓ : Loc Cert.KernelQbIdeal.nD Cert.KernelQbIdeal.τ Cert.KernelQbIdeal.sig) → Buf (Elt Ideal) ℓ) (g : Dev Cert.KernelQbIdeal.nD → PrngReg)
    (m' : (ℓ : Loc Cert.ReferenceQbIdeal.nD Cert.ReferenceQbIdeal.τ Cert.ReferenceQbIdeal.sig) → Buf (Elt Ideal) ℓ) (g' : Dev Cert.ReferenceQbIdeal.nD → PrngReg), Pre_KernelQbIdeal m →
    (∀ c : Dev Cert.KernelQbIdeal.nD,
      m' ((c.tc : Thread Cert.ReferenceQbIdeal.nD Cert.ReferenceQbIdeal.τ).loc Cert.ReferenceQbIdeal.main_arg0) = m ((c.tc : Thread Cert.KernelQbIdeal.nD Cert.KernelQbIdeal.τ).loc Cert.KernelQbIdeal.main_arg0)
      ∧ m' ((c.tc : Thread Cert.ReferenceQbIdeal.nD Cert.ReferenceQbIdeal.τ).loc Cert.ReferenceQbIdeal.main_arg1) = m ((c.tc : Thread Cert.KernelQbIdeal.nD Cert.KernelQbIdeal.τ).loc Cert.KernelQbIdeal.main_arg1)) →
    ∃ (v0 : (c : Dev Cert.KernelQbIdeal.nD) → Buf (Elt Ideal) ((c.tc : Thread Cert.KernelQbIdeal.nD Cert.KernelQbIdeal.τ).loc Cert.KernelQbIdeal.main_v28)),
      θ_run (Cert.KernelQbIdeal.defs (F := Ideal)) (onTc (τ := Cert.KernelQbIdeal.τ) (Cert.KernelQbIdeal.main (F := Ideal))) ⟨m, fun _ => 0, g⟩ (fun r => ∀ c : Dev Cert.KernelQbIdeal.nD,
          r.2.mem ((c.tc : Thread Cert.KernelQbIdeal.nD Cert.KernelQbIdeal.τ).loc Cert.KernelQbIdeal.main_v28) = v0 c
          ∧ r.2.mem ((c.tc : Thread Cert.KernelQbIdeal.nD Cert.KernelQbIdeal.τ).loc Cert.KernelQbIdeal.main_arg0) = m ((c.tc : Thread Cert.KernelQbIdeal.nD Cert.KernelQbIdeal.τ).loc Cert.KernelQbIdeal.main_arg0)
          ∧ r.2.mem ((c.tc : Thread Cert.KernelQbIdeal.nD Cert.KernelQbIdeal.τ).loc Cert.KernelQbIdeal.main_arg1) = m ((c.tc : Thread Cert.KernelQbIdeal.nD Cert.KernelQbIdeal.τ).loc Cert.KernelQbIdeal.main_arg1))
      ∧ θ_run (Cert.ReferenceQbIdeal.defs (F := Ideal)) (onTc (τ := Cert.ReferenceQbIdeal.τ) (Cert.ReferenceQbIdeal.main (F := Ideal))) ⟨m', fun _ => 0, g'⟩ (fun r => ∀ c : Dev Cert.ReferenceQbIdeal.nD,
          r.2.mem ((c.tc : Thread Cert.ReferenceQbIdeal.nD Cert.ReferenceQbIdeal.τ).loc Cert.ReferenceQbIdeal.main_v46) = v0 c
          ∧ r.2.mem ((c.tc : Thread Cert.ReferenceQbIdeal.nD Cert.ReferenceQbIdeal.τ).loc Cert.ReferenceQbIdeal.main_arg0) = m' ((c.tc : Thread Cert.ReferenceQbIdeal.nD Cert.ReferenceQbIdeal.τ).loc Cert.ReferenceQbIdeal.main_arg0)
          ∧ r.2.mem ((c.tc : Thread Cert.ReferenceQbIdeal.nD Cert.ReferenceQbIdeal.τ).loc Cert.ReferenceQbIdeal.main_arg1) = m' ((c.tc : Thread Cert.ReferenceQbIdeal.nD Cert.ReferenceQbIdeal.τ).loc Cert.ReferenceQbIdeal.main_arg1))

def preserves_KernelKb_KernelKbIdeal : Prop :=
  True

def algebraic_KernelKbIdeal_ReferenceKbIdeal [hKernelKbIdeal : Cert.KernelKbIdeal.Facts] [hReferenceKbIdeal : Cert.ReferenceKbIdeal.Facts] : Prop :=
  ∀ (m : (ℓ : Loc Cert.KernelKbIdeal.nD Cert.KernelKbIdeal.τ Cert.KernelKbIdeal.sig) → Buf (Elt Ideal) ℓ) (g : Dev Cert.KernelKbIdeal.nD → PrngReg)
    (m' : (ℓ : Loc Cert.ReferenceKbIdeal.nD Cert.ReferenceKbIdeal.τ Cert.ReferenceKbIdeal.sig) → Buf (Elt Ideal) ℓ) (g' : Dev Cert.ReferenceKbIdeal.nD → PrngReg), Pre_KernelKbIdeal m →
    (∀ c : Dev Cert.KernelKbIdeal.nD,
      m' ((c.tc : Thread Cert.ReferenceKbIdeal.nD Cert.ReferenceKbIdeal.τ).loc Cert.ReferenceKbIdeal.main_arg0) = m ((c.tc : Thread Cert.KernelKbIdeal.nD Cert.KernelKbIdeal.τ).loc Cert.KernelKbIdeal.main_arg0)
      ∧ m' ((c.tc : Thread Cert.ReferenceKbIdeal.nD Cert.ReferenceKbIdeal.τ).loc Cert.ReferenceKbIdeal.main_arg1) = m ((c.tc : Thread Cert.KernelKbIdeal.nD Cert.KernelKbIdeal.τ).loc Cert.KernelKbIdeal.main_arg1)) →
    ∃ (v0 : (c : Dev Cert.KernelKbIdeal.nD) → Buf (Elt Ideal) ((c.tc : Thread Cert.KernelKbIdeal.nD Cert.KernelKbIdeal.τ).loc Cert.KernelKbIdeal.main_v28_0)) (v1 : (c : Dev Cert.KernelKbIdeal.nD) → Buf (Elt Ideal) ((c.tc : Thread Cert.KernelKbIdeal.nD Cert.KernelKbIdeal.τ).loc Cert.KernelKbIdeal.main_v28_1)),
      θ_run (Cert.KernelKbIdeal.defs (F := Ideal)) (onTc (τ := Cert.KernelKbIdeal.τ) (Cert.KernelKbIdeal.main (F := Ideal))) ⟨m, fun _ => 0, g⟩ (fun r => ∀ c : Dev Cert.KernelKbIdeal.nD,
          r.2.mem ((c.tc : Thread Cert.KernelKbIdeal.nD Cert.KernelKbIdeal.τ).loc Cert.KernelKbIdeal.main_v28_0) = v0 c
          ∧ r.2.mem ((c.tc : Thread Cert.KernelKbIdeal.nD Cert.KernelKbIdeal.τ).loc Cert.KernelKbIdeal.main_v28_1) = v1 c
          ∧ r.2.mem ((c.tc : Thread Cert.KernelKbIdeal.nD Cert.KernelKbIdeal.τ).loc Cert.KernelKbIdeal.main_arg0) = m ((c.tc : Thread Cert.KernelKbIdeal.nD Cert.KernelKbIdeal.τ).loc Cert.KernelKbIdeal.main_arg0)
          ∧ r.2.mem ((c.tc : Thread Cert.KernelKbIdeal.nD Cert.KernelKbIdeal.τ).loc Cert.KernelKbIdeal.main_arg1) = m ((c.tc : Thread Cert.KernelKbIdeal.nD Cert.KernelKbIdeal.τ).loc Cert.KernelKbIdeal.main_arg1))
      ∧ θ_run (Cert.ReferenceKbIdeal.defs (F := Ideal)) (onTc (τ := Cert.ReferenceKbIdeal.τ) (Cert.ReferenceKbIdeal.main (F := Ideal))) ⟨m', fun _ => 0, g'⟩ (fun r => ∀ c : Dev Cert.ReferenceKbIdeal.nD,
          r.2.mem ((c.tc : Thread Cert.ReferenceKbIdeal.nD Cert.ReferenceKbIdeal.τ).loc Cert.ReferenceKbIdeal.main_v45) = v0 c
          ∧ r.2.mem ((c.tc : Thread Cert.ReferenceKbIdeal.nD Cert.ReferenceKbIdeal.τ).loc Cert.ReferenceKbIdeal.main_v46) = v1 c
          ∧ r.2.mem ((c.tc : Thread Cert.ReferenceKbIdeal.nD Cert.ReferenceKbIdeal.τ).loc Cert.ReferenceKbIdeal.main_arg0) = m' ((c.tc : Thread Cert.ReferenceKbIdeal.nD Cert.ReferenceKbIdeal.τ).loc Cert.ReferenceKbIdeal.main_arg0)
          ∧ r.2.mem ((c.tc : Thread Cert.ReferenceKbIdeal.nD Cert.ReferenceKbIdeal.τ).loc Cert.ReferenceKbIdeal.main_arg1) = m' ((c.tc : Thread Cert.ReferenceKbIdeal.nD Cert.ReferenceKbIdeal.τ).loc Cert.ReferenceKbIdeal.main_arg1))

def preserves_KernelVb_KernelVbIdeal : Prop :=
  True

def algebraic_KernelVbIdeal_ReferenceVbIdeal [hKernelVbIdeal : Cert.KernelVbIdeal.Facts] [hReferenceVbIdeal : Cert.ReferenceVbIdeal.Facts] : Prop :=
  ∀ (m : (ℓ : Loc Cert.KernelVbIdeal.nD Cert.KernelVbIdeal.τ Cert.KernelVbIdeal.sig) → Buf (Elt Ideal) ℓ) (g : Dev Cert.KernelVbIdeal.nD → PrngReg)
    (m' : (ℓ : Loc Cert.ReferenceVbIdeal.nD Cert.ReferenceVbIdeal.τ Cert.ReferenceVbIdeal.sig) → Buf (Elt Ideal) ℓ) (g' : Dev Cert.ReferenceVbIdeal.nD → PrngReg), Pre_KernelVbIdeal m →
    (∀ c : Dev Cert.KernelVbIdeal.nD,
      m' ((c.tc : Thread Cert.ReferenceVbIdeal.nD Cert.ReferenceVbIdeal.τ).loc Cert.ReferenceVbIdeal.main_arg0) = m ((c.tc : Thread Cert.KernelVbIdeal.nD Cert.KernelVbIdeal.τ).loc Cert.KernelVbIdeal.main_arg0)
      ∧ m' ((c.tc : Thread Cert.ReferenceVbIdeal.nD Cert.ReferenceVbIdeal.τ).loc Cert.ReferenceVbIdeal.main_arg1) = m ((c.tc : Thread Cert.KernelVbIdeal.nD Cert.KernelVbIdeal.τ).loc Cert.KernelVbIdeal.main_arg1)) →
    ∃ (v0 : (c : Dev Cert.KernelVbIdeal.nD) → Buf (Elt Ideal) ((c.tc : Thread Cert.KernelVbIdeal.nD Cert.KernelVbIdeal.τ).loc Cert.KernelVbIdeal.main_v5_0)) (v1 : (c : Dev Cert.KernelVbIdeal.nD) → Buf (Elt Ideal) ((c.tc : Thread Cert.KernelVbIdeal.nD Cert.KernelVbIdeal.τ).loc Cert.KernelVbIdeal.main_v5_1)),
      θ_run (Cert.KernelVbIdeal.defs (F := Ideal)) (onTc (τ := Cert.KernelVbIdeal.τ) (Cert.KernelVbIdeal.main (F := Ideal))) ⟨m, fun _ => 0, g⟩ (fun r => ∀ c : Dev Cert.KernelVbIdeal.nD,
          r.2.mem ((c.tc : Thread Cert.KernelVbIdeal.nD Cert.KernelVbIdeal.τ).loc Cert.KernelVbIdeal.main_v5_0) = v0 c
          ∧ r.2.mem ((c.tc : Thread Cert.KernelVbIdeal.nD Cert.KernelVbIdeal.τ).loc Cert.KernelVbIdeal.main_v5_1) = v1 c
          ∧ r.2.mem ((c.tc : Thread Cert.KernelVbIdeal.nD Cert.KernelVbIdeal.τ).loc Cert.KernelVbIdeal.main_arg0) = m ((c.tc : Thread Cert.KernelVbIdeal.nD Cert.KernelVbIdeal.τ).loc Cert.KernelVbIdeal.main_arg0)
          ∧ r.2.mem ((c.tc : Thread Cert.KernelVbIdeal.nD Cert.KernelVbIdeal.τ).loc Cert.KernelVbIdeal.main_arg1) = m ((c.tc : Thread Cert.KernelVbIdeal.nD Cert.KernelVbIdeal.τ).loc Cert.KernelVbIdeal.main_arg1))
      ∧ θ_run (Cert.ReferenceVbIdeal.defs (F := Ideal)) (onTc (τ := Cert.ReferenceVbIdeal.τ) (Cert.ReferenceVbIdeal.main (F := Ideal))) ⟨m', fun _ => 0, g'⟩ (fun r => ∀ c : Dev Cert.ReferenceVbIdeal.nD,
          r.2.mem ((c.tc : Thread Cert.ReferenceVbIdeal.nD Cert.ReferenceVbIdeal.τ).loc Cert.ReferenceVbIdeal.main_v10) = v0 c
          ∧ r.2.mem ((c.tc : Thread Cert.ReferenceVbIdeal.nD Cert.ReferenceVbIdeal.τ).loc Cert.ReferenceVbIdeal.main_v11) = v1 c
          ∧ r.2.mem ((c.tc : Thread Cert.ReferenceVbIdeal.nD Cert.ReferenceVbIdeal.τ).loc Cert.ReferenceVbIdeal.main_arg0) = m' ((c.tc : Thread Cert.ReferenceVbIdeal.nD Cert.ReferenceVbIdeal.τ).loc Cert.ReferenceVbIdeal.main_arg0)
          ∧ r.2.mem ((c.tc : Thread Cert.ReferenceVbIdeal.nD Cert.ReferenceVbIdeal.τ).loc Cert.ReferenceVbIdeal.main_arg1) = m' ((c.tc : Thread Cert.ReferenceVbIdeal.nD Cert.ReferenceVbIdeal.τ).loc Cert.ReferenceVbIdeal.main_arg1))

def preserves_KernelQc_KernelQcIdeal : Prop :=
  True

def algebraic_KernelQcIdeal_ReferenceQcIdeal [hKernelQcIdeal : Cert.KernelQcIdeal.Facts] [hReferenceQcIdeal : Cert.ReferenceQcIdeal.Facts] : Prop :=
  ∀ (m : (ℓ : Loc Cert.KernelQcIdeal.nD Cert.KernelQcIdeal.τ Cert.KernelQcIdeal.sig) → Buf (Elt Ideal) ℓ) (g : Dev Cert.KernelQcIdeal.nD → PrngReg)
    (m' : (ℓ : Loc Cert.ReferenceQcIdeal.nD Cert.ReferenceQcIdeal.τ Cert.ReferenceQcIdeal.sig) → Buf (Elt Ideal) ℓ) (g' : Dev Cert.ReferenceQcIdeal.nD → PrngReg), Pre_KernelQcIdeal m →
    (∀ c : Dev Cert.KernelQcIdeal.nD,
      m' ((c.tc : Thread Cert.ReferenceQcIdeal.nD Cert.ReferenceQcIdeal.τ).loc Cert.ReferenceQcIdeal.main_arg0) = m ((c.tc : Thread Cert.KernelQcIdeal.nD Cert.KernelQcIdeal.τ).loc Cert.KernelQcIdeal.main_arg0)
      ∧ m' ((c.tc : Thread Cert.ReferenceQcIdeal.nD Cert.ReferenceQcIdeal.τ).loc Cert.ReferenceQcIdeal.main_arg1) = m ((c.tc : Thread Cert.KernelQcIdeal.nD Cert.KernelQcIdeal.τ).loc Cert.KernelQcIdeal.main_arg1)) →
    ∃ (v0 : (c : Dev Cert.KernelQcIdeal.nD) → Buf (Elt Ideal) ((c.tc : Thread Cert.KernelQcIdeal.nD Cert.KernelQcIdeal.τ).loc Cert.KernelQcIdeal.main_v28)),
      θ_run (Cert.KernelQcIdeal.defs (F := Ideal)) (onTc (τ := Cert.KernelQcIdeal.τ) (Cert.KernelQcIdeal.main (F := Ideal))) ⟨m, fun _ => 0, g⟩ (fun r => ∀ c : Dev Cert.KernelQcIdeal.nD,
          r.2.mem ((c.tc : Thread Cert.KernelQcIdeal.nD Cert.KernelQcIdeal.τ).loc Cert.KernelQcIdeal.main_v28) = v0 c
          ∧ r.2.mem ((c.tc : Thread Cert.KernelQcIdeal.nD Cert.KernelQcIdeal.τ).loc Cert.KernelQcIdeal.main_arg0) = m ((c.tc : Thread Cert.KernelQcIdeal.nD Cert.KernelQcIdeal.τ).loc Cert.KernelQcIdeal.main_arg0)
          ∧ r.2.mem ((c.tc : Thread Cert.KernelQcIdeal.nD Cert.KernelQcIdeal.τ).loc Cert.KernelQcIdeal.main_arg1) = m ((c.tc : Thread Cert.KernelQcIdeal.nD Cert.KernelQcIdeal.τ).loc Cert.KernelQcIdeal.main_arg1))
      ∧ θ_run (Cert.ReferenceQcIdeal.defs (F := Ideal)) (onTc (τ := Cert.ReferenceQcIdeal.τ) (Cert.ReferenceQcIdeal.main (F := Ideal))) ⟨m', fun _ => 0, g'⟩ (fun r => ∀ c : Dev Cert.ReferenceQcIdeal.nD,
          r.2.mem ((c.tc : Thread Cert.ReferenceQcIdeal.nD Cert.ReferenceQcIdeal.τ).loc Cert.ReferenceQcIdeal.main_v47) = v0 c
          ∧ r.2.mem ((c.tc : Thread Cert.ReferenceQcIdeal.nD Cert.ReferenceQcIdeal.τ).loc Cert.ReferenceQcIdeal.main_arg0) = m' ((c.tc : Thread Cert.ReferenceQcIdeal.nD Cert.ReferenceQcIdeal.τ).loc Cert.ReferenceQcIdeal.main_arg0)
          ∧ r.2.mem ((c.tc : Thread Cert.ReferenceQcIdeal.nD Cert.ReferenceQcIdeal.τ).loc Cert.ReferenceQcIdeal.main_arg1) = m' ((c.tc : Thread Cert.ReferenceQcIdeal.nD Cert.ReferenceQcIdeal.τ).loc Cert.ReferenceQcIdeal.main_arg1))

def preserves_KernelKc_KernelKcIdeal : Prop :=
  True

def algebraic_KernelKcIdeal_ReferenceKcIdeal [hKernelKcIdeal : Cert.KernelKcIdeal.Facts] [hReferenceKcIdeal : Cert.ReferenceKcIdeal.Facts] : Prop :=
  ∀ (m : (ℓ : Loc Cert.KernelKcIdeal.nD Cert.KernelKcIdeal.τ Cert.KernelKcIdeal.sig) → Buf (Elt Ideal) ℓ) (g : Dev Cert.KernelKcIdeal.nD → PrngReg)
    (m' : (ℓ : Loc Cert.ReferenceKcIdeal.nD Cert.ReferenceKcIdeal.τ Cert.ReferenceKcIdeal.sig) → Buf (Elt Ideal) ℓ) (g' : Dev Cert.ReferenceKcIdeal.nD → PrngReg), Pre_KernelKcIdeal m →
    (∀ c : Dev Cert.KernelKcIdeal.nD,
      m' ((c.tc : Thread Cert.ReferenceKcIdeal.nD Cert.ReferenceKcIdeal.τ).loc Cert.ReferenceKcIdeal.main_arg0) = m ((c.tc : Thread Cert.KernelKcIdeal.nD Cert.KernelKcIdeal.τ).loc Cert.KernelKcIdeal.main_arg0)
      ∧ m' ((c.tc : Thread Cert.ReferenceKcIdeal.nD Cert.ReferenceKcIdeal.τ).loc Cert.ReferenceKcIdeal.main_arg1) = m ((c.tc : Thread Cert.KernelKcIdeal.nD Cert.KernelKcIdeal.τ).loc Cert.KernelKcIdeal.main_arg1)) →
    ∃ (v0 : (c : Dev Cert.KernelKcIdeal.nD) → Buf (Elt Ideal) ((c.tc : Thread Cert.KernelKcIdeal.nD Cert.KernelKcIdeal.τ).loc Cert.KernelKcIdeal.main_v28_0)) (v1 : (c : Dev Cert.KernelKcIdeal.nD) → Buf (Elt Ideal) ((c.tc : Thread Cert.KernelKcIdeal.nD Cert.KernelKcIdeal.τ).loc Cert.KernelKcIdeal.main_v28_1)),
      θ_run (Cert.KernelKcIdeal.defs (F := Ideal)) (onTc (τ := Cert.KernelKcIdeal.τ) (Cert.KernelKcIdeal.main (F := Ideal))) ⟨m, fun _ => 0, g⟩ (fun r => ∀ c : Dev Cert.KernelKcIdeal.nD,
          r.2.mem ((c.tc : Thread Cert.KernelKcIdeal.nD Cert.KernelKcIdeal.τ).loc Cert.KernelKcIdeal.main_v28_0) = v0 c
          ∧ r.2.mem ((c.tc : Thread Cert.KernelKcIdeal.nD Cert.KernelKcIdeal.τ).loc Cert.KernelKcIdeal.main_v28_1) = v1 c
          ∧ r.2.mem ((c.tc : Thread Cert.KernelKcIdeal.nD Cert.KernelKcIdeal.τ).loc Cert.KernelKcIdeal.main_arg0) = m ((c.tc : Thread Cert.KernelKcIdeal.nD Cert.KernelKcIdeal.τ).loc Cert.KernelKcIdeal.main_arg0)
          ∧ r.2.mem ((c.tc : Thread Cert.KernelKcIdeal.nD Cert.KernelKcIdeal.τ).loc Cert.KernelKcIdeal.main_arg1) = m ((c.tc : Thread Cert.KernelKcIdeal.nD Cert.KernelKcIdeal.τ).loc Cert.KernelKcIdeal.main_arg1))
      ∧ θ_run (Cert.ReferenceKcIdeal.defs (F := Ideal)) (onTc (τ := Cert.ReferenceKcIdeal.τ) (Cert.ReferenceKcIdeal.main (F := Ideal))) ⟨m', fun _ => 0, g'⟩ (fun r => ∀ c : Dev Cert.ReferenceKcIdeal.nD,
          r.2.mem ((c.tc : Thread Cert.ReferenceKcIdeal.nD Cert.ReferenceKcIdeal.τ).loc Cert.ReferenceKcIdeal.main_v46) = v0 c
          ∧ r.2.mem ((c.tc : Thread Cert.ReferenceKcIdeal.nD Cert.ReferenceKcIdeal.τ).loc Cert.ReferenceKcIdeal.main_v47) = v1 c
          ∧ r.2.mem ((c.tc : Thread Cert.ReferenceKcIdeal.nD Cert.ReferenceKcIdeal.τ).loc Cert.ReferenceKcIdeal.main_arg0) = m' ((c.tc : Thread Cert.ReferenceKcIdeal.nD Cert.ReferenceKcIdeal.τ).loc Cert.ReferenceKcIdeal.main_arg0)
          ∧ r.2.mem ((c.tc : Thread Cert.ReferenceKcIdeal.nD Cert.ReferenceKcIdeal.τ).loc Cert.ReferenceKcIdeal.main_arg1) = m' ((c.tc : Thread Cert.ReferenceKcIdeal.nD Cert.ReferenceKcIdeal.τ).loc Cert.ReferenceKcIdeal.main_arg1))

def preserves_KernelVc_KernelVcIdeal : Prop :=
  True

def algebraic_KernelVcIdeal_ReferenceVcIdeal [hKernelVcIdeal : Cert.KernelVcIdeal.Facts] [hReferenceVcIdeal : Cert.ReferenceVcIdeal.Facts] : Prop :=
  ∀ (m : (ℓ : Loc Cert.KernelVcIdeal.nD Cert.KernelVcIdeal.τ Cert.KernelVcIdeal.sig) → Buf (Elt Ideal) ℓ) (g : Dev Cert.KernelVcIdeal.nD → PrngReg)
    (m' : (ℓ : Loc Cert.ReferenceVcIdeal.nD Cert.ReferenceVcIdeal.τ Cert.ReferenceVcIdeal.sig) → Buf (Elt Ideal) ℓ) (g' : Dev Cert.ReferenceVcIdeal.nD → PrngReg), Pre_KernelVcIdeal m →
    (∀ c : Dev Cert.KernelVcIdeal.nD,
      m' ((c.tc : Thread Cert.ReferenceVcIdeal.nD Cert.ReferenceVcIdeal.τ).loc Cert.ReferenceVcIdeal.main_arg0) = m ((c.tc : Thread Cert.KernelVcIdeal.nD Cert.KernelVcIdeal.τ).loc Cert.KernelVcIdeal.main_arg0)
      ∧ m' ((c.tc : Thread Cert.ReferenceVcIdeal.nD Cert.ReferenceVcIdeal.τ).loc Cert.ReferenceVcIdeal.main_arg1) = m ((c.tc : Thread Cert.KernelVcIdeal.nD Cert.KernelVcIdeal.τ).loc Cert.KernelVcIdeal.main_arg1)) →
    ∃ (v0 : (c : Dev Cert.KernelVcIdeal.nD) → Buf (Elt Ideal) ((c.tc : Thread Cert.KernelVcIdeal.nD Cert.KernelVcIdeal.τ).loc Cert.KernelVcIdeal.main_v5_0)) (v1 : (c : Dev Cert.KernelVcIdeal.nD) → Buf (Elt Ideal) ((c.tc : Thread Cert.KernelVcIdeal.nD Cert.KernelVcIdeal.τ).loc Cert.KernelVcIdeal.main_v5_1)),
      θ_run (Cert.KernelVcIdeal.defs (F := Ideal)) (onTc (τ := Cert.KernelVcIdeal.τ) (Cert.KernelVcIdeal.main (F := Ideal))) ⟨m, fun _ => 0, g⟩ (fun r => ∀ c : Dev Cert.KernelVcIdeal.nD,
          r.2.mem ((c.tc : Thread Cert.KernelVcIdeal.nD Cert.KernelVcIdeal.τ).loc Cert.KernelVcIdeal.main_v5_0) = v0 c
          ∧ r.2.mem ((c.tc : Thread Cert.KernelVcIdeal.nD Cert.KernelVcIdeal.τ).loc Cert.KernelVcIdeal.main_v5_1) = v1 c
          ∧ r.2.mem ((c.tc : Thread Cert.KernelVcIdeal.nD Cert.KernelVcIdeal.τ).loc Cert.KernelVcIdeal.main_arg0) = m ((c.tc : Thread Cert.KernelVcIdeal.nD Cert.KernelVcIdeal.τ).loc Cert.KernelVcIdeal.main_arg0)
          ∧ r.2.mem ((c.tc : Thread Cert.KernelVcIdeal.nD Cert.KernelVcIdeal.τ).loc Cert.KernelVcIdeal.main_arg1) = m ((c.tc : Thread Cert.KernelVcIdeal.nD Cert.KernelVcIdeal.τ).loc Cert.KernelVcIdeal.main_arg1))
      ∧ θ_run (Cert.ReferenceVcIdeal.defs (F := Ideal)) (onTc (τ := Cert.ReferenceVcIdeal.τ) (Cert.ReferenceVcIdeal.main (F := Ideal))) ⟨m', fun _ => 0, g'⟩ (fun r => ∀ c : Dev Cert.ReferenceVcIdeal.nD,
          r.2.mem ((c.tc : Thread Cert.ReferenceVcIdeal.nD Cert.ReferenceVcIdeal.τ).loc Cert.ReferenceVcIdeal.main_v11) = v0 c
          ∧ r.2.mem ((c.tc : Thread Cert.ReferenceVcIdeal.nD Cert.ReferenceVcIdeal.τ).loc Cert.ReferenceVcIdeal.main_v12) = v1 c
          ∧ r.2.mem ((c.tc : Thread Cert.ReferenceVcIdeal.nD Cert.ReferenceVcIdeal.τ).loc Cert.ReferenceVcIdeal.main_arg0) = m' ((c.tc : Thread Cert.ReferenceVcIdeal.nD Cert.ReferenceVcIdeal.τ).loc Cert.ReferenceVcIdeal.main_arg0)
          ∧ r.2.mem ((c.tc : Thread Cert.ReferenceVcIdeal.nD Cert.ReferenceVcIdeal.τ).loc Cert.ReferenceVcIdeal.main_arg1) = m' ((c.tc : Thread Cert.ReferenceVcIdeal.nD Cert.ReferenceVcIdeal.τ).loc Cert.ReferenceVcIdeal.main_arg1))

def preserves_KernelQi_KernelQiIdeal : Prop :=
  True

def algebraic_KernelQiIdeal_ReferenceQiIdeal [hKernelQiIdeal : Cert.KernelQiIdeal.Facts] [hReferenceQiIdeal : Cert.ReferenceQiIdeal.Facts] : Prop :=
  ∀ (m : (ℓ : Loc Cert.KernelQiIdeal.nD Cert.KernelQiIdeal.τ Cert.KernelQiIdeal.sig) → Buf (Elt Ideal) ℓ) (g : Dev Cert.KernelQiIdeal.nD → PrngReg)
    (m' : (ℓ : Loc Cert.ReferenceQiIdeal.nD Cert.ReferenceQiIdeal.τ Cert.ReferenceQiIdeal.sig) → Buf (Elt Ideal) ℓ) (g' : Dev Cert.ReferenceQiIdeal.nD → PrngReg), Pre_KernelQiIdeal m →
    (∀ c : Dev Cert.KernelQiIdeal.nD,
      m' ((c.tc : Thread Cert.ReferenceQiIdeal.nD Cert.ReferenceQiIdeal.τ).loc Cert.ReferenceQiIdeal.main_arg0) = m ((c.tc : Thread Cert.KernelQiIdeal.nD Cert.KernelQiIdeal.τ).loc Cert.KernelQiIdeal.main_arg0)
      ∧ m' ((c.tc : Thread Cert.ReferenceQiIdeal.nD Cert.ReferenceQiIdeal.τ).loc Cert.ReferenceQiIdeal.main_arg1) = m ((c.tc : Thread Cert.KernelQiIdeal.nD Cert.KernelQiIdeal.τ).loc Cert.KernelQiIdeal.main_arg1)) →
    ∃ (v0 : (c : Dev Cert.KernelQiIdeal.nD) → Buf (Elt Ideal) ((c.tc : Thread Cert.KernelQiIdeal.nD Cert.KernelQiIdeal.τ).loc Cert.KernelQiIdeal.main_v28)),
      θ_run (Cert.KernelQiIdeal.defs (F := Ideal)) (onTc (τ := Cert.KernelQiIdeal.τ) (Cert.KernelQiIdeal.main (F := Ideal))) ⟨m, fun _ => 0, g⟩ (fun r => ∀ c : Dev Cert.KernelQiIdeal.nD,
          r.2.mem ((c.tc : Thread Cert.KernelQiIdeal.nD Cert.KernelQiIdeal.τ).loc Cert.KernelQiIdeal.main_v28) = v0 c
          ∧ r.2.mem ((c.tc : Thread Cert.KernelQiIdeal.nD Cert.KernelQiIdeal.τ).loc Cert.KernelQiIdeal.main_arg0) = m ((c.tc : Thread Cert.KernelQiIdeal.nD Cert.KernelQiIdeal.τ).loc Cert.KernelQiIdeal.main_arg0)
          ∧ r.2.mem ((c.tc : Thread Cert.KernelQiIdeal.nD Cert.KernelQiIdeal.τ).loc Cert.KernelQiIdeal.main_arg1) = m ((c.tc : Thread Cert.KernelQiIdeal.nD Cert.KernelQiIdeal.τ).loc Cert.KernelQiIdeal.main_arg1))
      ∧ θ_run (Cert.ReferenceQiIdeal.defs (F := Ideal)) (onTc (τ := Cert.ReferenceQiIdeal.τ) (Cert.ReferenceQiIdeal.main (F := Ideal))) ⟨m', fun _ => 0, g'⟩ (fun r => ∀ c : Dev Cert.ReferenceQiIdeal.nD,
          r.2.mem ((c.tc : Thread Cert.ReferenceQiIdeal.nD Cert.ReferenceQiIdeal.τ).loc Cert.ReferenceQiIdeal.main_v47) = v0 c
          ∧ r.2.mem ((c.tc : Thread Cert.ReferenceQiIdeal.nD Cert.ReferenceQiIdeal.τ).loc Cert.ReferenceQiIdeal.main_arg0) = m' ((c.tc : Thread Cert.ReferenceQiIdeal.nD Cert.ReferenceQiIdeal.τ).loc Cert.ReferenceQiIdeal.main_arg0)
          ∧ r.2.mem ((c.tc : Thread Cert.ReferenceQiIdeal.nD Cert.ReferenceQiIdeal.τ).loc Cert.ReferenceQiIdeal.main_arg1) = m' ((c.tc : Thread Cert.ReferenceQiIdeal.nD Cert.ReferenceQiIdeal.τ).loc Cert.ReferenceQiIdeal.main_arg1))

def preserves_KernelKi_KernelKiIdeal : Prop :=
  True

def algebraic_KernelKiIdeal_ReferenceKiIdeal [hKernelKiIdeal : Cert.KernelKiIdeal.Facts] [hReferenceKiIdeal : Cert.ReferenceKiIdeal.Facts] : Prop :=
  ∀ (m : (ℓ : Loc Cert.KernelKiIdeal.nD Cert.KernelKiIdeal.τ Cert.KernelKiIdeal.sig) → Buf (Elt Ideal) ℓ) (g : Dev Cert.KernelKiIdeal.nD → PrngReg)
    (m' : (ℓ : Loc Cert.ReferenceKiIdeal.nD Cert.ReferenceKiIdeal.τ Cert.ReferenceKiIdeal.sig) → Buf (Elt Ideal) ℓ) (g' : Dev Cert.ReferenceKiIdeal.nD → PrngReg), Pre_KernelKiIdeal m →
    (∀ c : Dev Cert.KernelKiIdeal.nD,
      m' ((c.tc : Thread Cert.ReferenceKiIdeal.nD Cert.ReferenceKiIdeal.τ).loc Cert.ReferenceKiIdeal.main_arg0) = m ((c.tc : Thread Cert.KernelKiIdeal.nD Cert.KernelKiIdeal.τ).loc Cert.KernelKiIdeal.main_arg0)
      ∧ m' ((c.tc : Thread Cert.ReferenceKiIdeal.nD Cert.ReferenceKiIdeal.τ).loc Cert.ReferenceKiIdeal.main_arg1) = m ((c.tc : Thread Cert.KernelKiIdeal.nD Cert.KernelKiIdeal.τ).loc Cert.KernelKiIdeal.main_arg1)) →
    ∃ (v0 : (c : Dev Cert.KernelKiIdeal.nD) → Buf (Elt Ideal) ((c.tc : Thread Cert.KernelKiIdeal.nD Cert.KernelKiIdeal.τ).loc Cert.KernelKiIdeal.main_v29)),
      θ_run (Cert.KernelKiIdeal.defs (F := Ideal)) (onTc (τ := Cert.KernelKiIdeal.τ) (Cert.KernelKiIdeal.main (F := Ideal))) ⟨m, fun _ => 0, g⟩ (fun r => ∀ c : Dev Cert.KernelKiIdeal.nD,
          r.2.mem ((c.tc : Thread Cert.KernelKiIdeal.nD Cert.KernelKiIdeal.τ).loc Cert.KernelKiIdeal.main_v29) = v0 c
          ∧ r.2.mem ((c.tc : Thread Cert.KernelKiIdeal.nD Cert.KernelKiIdeal.τ).loc Cert.KernelKiIdeal.main_arg0) = m ((c.tc : Thread Cert.KernelKiIdeal.nD Cert.KernelKiIdeal.τ).loc Cert.KernelKiIdeal.main_arg0)
          ∧ r.2.mem ((c.tc : Thread Cert.KernelKiIdeal.nD Cert.KernelKiIdeal.τ).loc Cert.KernelKiIdeal.main_arg1) = m ((c.tc : Thread Cert.KernelKiIdeal.nD Cert.KernelKiIdeal.τ).loc Cert.KernelKiIdeal.main_arg1))
      ∧ θ_run (Cert.ReferenceKiIdeal.defs (F := Ideal)) (onTc (τ := Cert.ReferenceKiIdeal.τ) (Cert.ReferenceKiIdeal.main (F := Ideal))) ⟨m', fun _ => 0, g'⟩ (fun r => ∀ c : Dev Cert.ReferenceKiIdeal.nD,
          r.2.mem ((c.tc : Thread Cert.ReferenceKiIdeal.nD Cert.ReferenceKiIdeal.τ).loc Cert.ReferenceKiIdeal.main_v47) = v0 c
          ∧ r.2.mem ((c.tc : Thread Cert.ReferenceKiIdeal.nD Cert.ReferenceKiIdeal.τ).loc Cert.ReferenceKiIdeal.main_arg0) = m' ((c.tc : Thread Cert.ReferenceKiIdeal.nD Cert.ReferenceKiIdeal.τ).loc Cert.ReferenceKiIdeal.main_arg0)
          ∧ r.2.mem ((c.tc : Thread Cert.ReferenceKiIdeal.nD Cert.ReferenceKiIdeal.τ).loc Cert.ReferenceKiIdeal.main_arg1) = m' ((c.tc : Thread Cert.ReferenceKiIdeal.nD Cert.ReferenceKiIdeal.τ).loc Cert.ReferenceKiIdeal.main_arg1))

def preserves_KernelWi_KernelWiIdeal : Prop :=
  True

def algebraic_KernelWiIdeal_ReferenceWiIdeal [hKernelWiIdeal : Cert.KernelWiIdeal.Facts] [hReferenceWiIdeal : Cert.ReferenceWiIdeal.Facts] : Prop :=
  ∀ (m : (ℓ : Loc Cert.KernelWiIdeal.nD Cert.KernelWiIdeal.τ Cert.KernelWiIdeal.sig) → Buf (Elt Ideal) ℓ) (g : Dev Cert.KernelWiIdeal.nD → PrngReg)
    (m' : (ℓ : Loc Cert.ReferenceWiIdeal.nD Cert.ReferenceWiIdeal.τ Cert.ReferenceWiIdeal.sig) → Buf (Elt Ideal) ℓ) (g' : Dev Cert.ReferenceWiIdeal.nD → PrngReg), Pre_KernelWiIdeal m →
    (∀ c : Dev Cert.KernelWiIdeal.nD,
      m' ((c.tc : Thread Cert.ReferenceWiIdeal.nD Cert.ReferenceWiIdeal.τ).loc Cert.ReferenceWiIdeal.main_arg0) = m ((c.tc : Thread Cert.KernelWiIdeal.nD Cert.KernelWiIdeal.τ).loc Cert.KernelWiIdeal.main_arg0)
      ∧ m' ((c.tc : Thread Cert.ReferenceWiIdeal.nD Cert.ReferenceWiIdeal.τ).loc Cert.ReferenceWiIdeal.main_arg1) = m ((c.tc : Thread Cert.KernelWiIdeal.nD Cert.KernelWiIdeal.τ).loc Cert.KernelWiIdeal.main_arg1)) →
    ∃ (v0 : (c : Dev Cert.KernelWiIdeal.nD) → Buf (Elt Ideal) ((c.tc : Thread Cert.KernelWiIdeal.nD Cert.KernelWiIdeal.τ).loc Cert.KernelWiIdeal.main_v6)),
      θ_run (Cert.KernelWiIdeal.defs (F := Ideal)) (onTc (τ := Cert.KernelWiIdeal.τ) (Cert.KernelWiIdeal.main (F := Ideal))) ⟨m, fun _ => 0, g⟩ (fun r => ∀ c : Dev Cert.KernelWiIdeal.nD,
          r.2.mem ((c.tc : Thread Cert.KernelWiIdeal.nD Cert.KernelWiIdeal.τ).loc Cert.KernelWiIdeal.main_v6) = v0 c
          ∧ r.2.mem ((c.tc : Thread Cert.KernelWiIdeal.nD Cert.KernelWiIdeal.τ).loc Cert.KernelWiIdeal.main_arg0) = m ((c.tc : Thread Cert.KernelWiIdeal.nD Cert.KernelWiIdeal.τ).loc Cert.KernelWiIdeal.main_arg0)
          ∧ r.2.mem ((c.tc : Thread Cert.KernelWiIdeal.nD Cert.KernelWiIdeal.τ).loc Cert.KernelWiIdeal.main_arg1) = m ((c.tc : Thread Cert.KernelWiIdeal.nD Cert.KernelWiIdeal.τ).loc Cert.KernelWiIdeal.main_arg1))
      ∧ θ_run (Cert.ReferenceWiIdeal.defs (F := Ideal)) (onTc (τ := Cert.ReferenceWiIdeal.τ) (Cert.ReferenceWiIdeal.main (F := Ideal))) ⟨m', fun _ => 0, g'⟩ (fun r => ∀ c : Dev Cert.ReferenceWiIdeal.nD,
          r.2.mem ((c.tc : Thread Cert.ReferenceWiIdeal.nD Cert.ReferenceWiIdeal.τ).loc Cert.ReferenceWiIdeal.main_v12) = v0 c
          ∧ r.2.mem ((c.tc : Thread Cert.ReferenceWiIdeal.nD Cert.ReferenceWiIdeal.τ).loc Cert.ReferenceWiIdeal.main_arg0) = m' ((c.tc : Thread Cert.ReferenceWiIdeal.nD Cert.ReferenceWiIdeal.τ).loc Cert.ReferenceWiIdeal.main_arg0)
          ∧ r.2.mem ((c.tc : Thread Cert.ReferenceWiIdeal.nD Cert.ReferenceWiIdeal.τ).loc Cert.ReferenceWiIdeal.main_arg1) = m' ((c.tc : Thread Cert.ReferenceWiIdeal.nD Cert.ReferenceWiIdeal.τ).loc Cert.ReferenceWiIdeal.main_arg1))

def preserves_KernelQkd_KernelQkdIdeal : Prop :=
  True

def algebraic_KernelQkdIdeal_ReferenceQkdIdeal [hKernelQkdIdeal : Cert.KernelQkdIdeal.Facts] [hReferenceQkdIdeal : Cert.ReferenceQkdIdeal.Facts] : Prop :=
  ∀ (m : (ℓ : Loc Cert.KernelQkdIdeal.nD Cert.KernelQkdIdeal.τ Cert.KernelQkdIdeal.sig) → Buf (Elt Ideal) ℓ) (g : Dev Cert.KernelQkdIdeal.nD → PrngReg)
    (m' : (ℓ : Loc Cert.ReferenceQkdIdeal.nD Cert.ReferenceQkdIdeal.τ Cert.ReferenceQkdIdeal.sig) → Buf (Elt Ideal) ℓ) (g' : Dev Cert.ReferenceQkdIdeal.nD → PrngReg), Pre_KernelQkdIdeal m →
    (∀ c : Dev Cert.KernelQkdIdeal.nD,
      m' ((c.tc : Thread Cert.ReferenceQkdIdeal.nD Cert.ReferenceQkdIdeal.τ).loc Cert.ReferenceQkdIdeal.main_arg0) = m ((c.tc : Thread Cert.KernelQkdIdeal.nD Cert.KernelQkdIdeal.τ).loc Cert.KernelQkdIdeal.main_arg0)
      ∧ m' ((c.tc : Thread Cert.ReferenceQkdIdeal.nD Cert.ReferenceQkdIdeal.τ).loc Cert.ReferenceQkdIdeal.main_arg1) = m ((c.tc : Thread Cert.KernelQkdIdeal.nD Cert.KernelQkdIdeal.τ).loc Cert.KernelQkdIdeal.main_arg1)) →
    ∃ (v0 : (c : Dev Cert.KernelQkdIdeal.nD) → Buf (Elt Ideal) ((c.tc : Thread Cert.KernelQkdIdeal.nD Cert.KernelQkdIdeal.τ).loc Cert.KernelQkdIdeal.main_v28)),
      θ_run (Cert.KernelQkdIdeal.defs (F := Ideal)) (onTc (τ := Cert.KernelQkdIdeal.τ) (Cert.KernelQkdIdeal.main (F := Ideal))) ⟨m, fun _ => 0, g⟩ (fun r => ∀ c : Dev Cert.KernelQkdIdeal.nD,
          r.2.mem ((c.tc : Thread Cert.KernelQkdIdeal.nD Cert.KernelQkdIdeal.τ).loc Cert.KernelQkdIdeal.main_v28) = v0 c
          ∧ r.2.mem ((c.tc : Thread Cert.KernelQkdIdeal.nD Cert.KernelQkdIdeal.τ).loc Cert.KernelQkdIdeal.main_arg0) = m ((c.tc : Thread Cert.KernelQkdIdeal.nD Cert.KernelQkdIdeal.τ).loc Cert.KernelQkdIdeal.main_arg0)
          ∧ r.2.mem ((c.tc : Thread Cert.KernelQkdIdeal.nD Cert.KernelQkdIdeal.τ).loc Cert.KernelQkdIdeal.main_arg1) = m ((c.tc : Thread Cert.KernelQkdIdeal.nD Cert.KernelQkdIdeal.τ).loc Cert.KernelQkdIdeal.main_arg1))
      ∧ θ_run (Cert.ReferenceQkdIdeal.defs (F := Ideal)) (onTc (τ := Cert.ReferenceQkdIdeal.τ) (Cert.ReferenceQkdIdeal.main (F := Ideal))) ⟨m', fun _ => 0, g'⟩ (fun r => ∀ c : Dev Cert.ReferenceQkdIdeal.nD,
          r.2.mem ((c.tc : Thread Cert.ReferenceQkdIdeal.nD Cert.ReferenceQkdIdeal.τ).loc Cert.ReferenceQkdIdeal.main_v82) = v0 c
          ∧ r.2.mem ((c.tc : Thread Cert.ReferenceQkdIdeal.nD Cert.ReferenceQkdIdeal.τ).loc Cert.ReferenceQkdIdeal.main_arg0) = m' ((c.tc : Thread Cert.ReferenceQkdIdeal.nD Cert.ReferenceQkdIdeal.τ).loc Cert.ReferenceQkdIdeal.main_arg0)
          ∧ r.2.mem ((c.tc : Thread Cert.ReferenceQkdIdeal.nD Cert.ReferenceQkdIdeal.τ).loc Cert.ReferenceQkdIdeal.main_arg1) = m' ((c.tc : Thread Cert.ReferenceQkdIdeal.nD Cert.ReferenceQkdIdeal.τ).loc Cert.ReferenceQkdIdeal.main_arg1))

def preserves_KernelVgd_KernelVgdIdeal : Prop :=
  True

def algebraic_KernelVgdIdeal_ReferenceVgdIdeal [hKernelVgdIdeal : Cert.KernelVgdIdeal.Facts] [hReferenceVgdIdeal : Cert.ReferenceVgdIdeal.Facts] : Prop :=
  ∀ (m : (ℓ : Loc Cert.KernelVgdIdeal.nD Cert.KernelVgdIdeal.τ Cert.KernelVgdIdeal.sig) → Buf (Elt Ideal) ℓ) (g : Dev Cert.KernelVgdIdeal.nD → PrngReg)
    (m' : (ℓ : Loc Cert.ReferenceVgdIdeal.nD Cert.ReferenceVgdIdeal.τ Cert.ReferenceVgdIdeal.sig) → Buf (Elt Ideal) ℓ) (g' : Dev Cert.ReferenceVgdIdeal.nD → PrngReg), Pre_KernelVgdIdeal m →
    (∀ c : Dev Cert.KernelVgdIdeal.nD,
      m' ((c.tc : Thread Cert.ReferenceVgdIdeal.nD Cert.ReferenceVgdIdeal.τ).loc Cert.ReferenceVgdIdeal.main_arg0) = m ((c.tc : Thread Cert.KernelVgdIdeal.nD Cert.KernelVgdIdeal.τ).loc Cert.KernelVgdIdeal.main_arg0)
      ∧ m' ((c.tc : Thread Cert.ReferenceVgdIdeal.nD Cert.ReferenceVgdIdeal.τ).loc Cert.ReferenceVgdIdeal.main_arg1) = m ((c.tc : Thread Cert.KernelVgdIdeal.nD Cert.KernelVgdIdeal.τ).loc Cert.KernelVgdIdeal.main_arg1)) →
    ∃ (v0 : (c : Dev Cert.KernelVgdIdeal.nD) → Buf (Elt Ideal) ((c.tc : Thread Cert.KernelVgdIdeal.nD Cert.KernelVgdIdeal.τ).loc Cert.KernelVgdIdeal.main_v5)),
      θ_run (Cert.KernelVgdIdeal.defs (F := Ideal)) (onTc (τ := Cert.KernelVgdIdeal.τ) (Cert.KernelVgdIdeal.main (F := Ideal))) ⟨m, fun _ => 0, g⟩ (fun r => ∀ c : Dev Cert.KernelVgdIdeal.nD,
          r.2.mem ((c.tc : Thread Cert.KernelVgdIdeal.nD Cert.KernelVgdIdeal.τ).loc Cert.KernelVgdIdeal.main_v5) = v0 c
          ∧ r.2.mem ((c.tc : Thread Cert.KernelVgdIdeal.nD Cert.KernelVgdIdeal.τ).loc Cert.KernelVgdIdeal.main_arg0) = m ((c.tc : Thread Cert.KernelVgdIdeal.nD Cert.KernelVgdIdeal.τ).loc Cert.KernelVgdIdeal.main_arg0)
          ∧ r.2.mem ((c.tc : Thread Cert.KernelVgdIdeal.nD Cert.KernelVgdIdeal.τ).loc Cert.KernelVgdIdeal.main_arg1) = m ((c.tc : Thread Cert.KernelVgdIdeal.nD Cert.KernelVgdIdeal.τ).loc Cert.KernelVgdIdeal.main_arg1))
      ∧ θ_run (Cert.ReferenceVgdIdeal.defs (F := Ideal)) (onTc (τ := Cert.ReferenceVgdIdeal.τ) (Cert.ReferenceVgdIdeal.main (F := Ideal))) ⟨m', fun _ => 0, g'⟩ (fun r => ∀ c : Dev Cert.ReferenceVgdIdeal.nD,
          r.2.mem ((c.tc : Thread Cert.ReferenceVgdIdeal.nD Cert.ReferenceVgdIdeal.τ).loc Cert.ReferenceVgdIdeal.main_v12) = v0 c
          ∧ r.2.mem ((c.tc : Thread Cert.ReferenceVgdIdeal.nD Cert.ReferenceVgdIdeal.τ).loc Cert.ReferenceVgdIdeal.main_arg0) = m' ((c.tc : Thread Cert.ReferenceVgdIdeal.nD Cert.ReferenceVgdIdeal.τ).loc Cert.ReferenceVgdIdeal.main_arg0)
          ∧ r.2.mem ((c.tc : Thread Cert.ReferenceVgdIdeal.nD Cert.ReferenceVgdIdeal.τ).loc Cert.ReferenceVgdIdeal.main_arg1) = m' ((c.tc : Thread Cert.ReferenceVgdIdeal.nD Cert.ReferenceVgdIdeal.τ).loc Cert.ReferenceVgdIdeal.main_arg1))

def preserves_KernelKbs_KernelKbsIdeal : Prop :=
  True

def algebraic_KernelKbsIdeal_ReferenceKbsIdeal [hKernelKbsIdeal : Cert.KernelKbsIdeal.Facts] [hReferenceKbsIdeal : Cert.ReferenceKbsIdeal.Facts] : Prop :=
  ∀ (m : (ℓ : Loc Cert.KernelKbsIdeal.nD Cert.KernelKbsIdeal.τ Cert.KernelKbsIdeal.sig) → Buf (Elt Ideal) ℓ) (g : Dev Cert.KernelKbsIdeal.nD → PrngReg)
    (m' : (ℓ : Loc Cert.ReferenceKbsIdeal.nD Cert.ReferenceKbsIdeal.τ Cert.ReferenceKbsIdeal.sig) → Buf (Elt Ideal) ℓ) (g' : Dev Cert.ReferenceKbsIdeal.nD → PrngReg), Pre_KernelKbsIdeal m →
    (∀ c : Dev Cert.KernelKbsIdeal.nD,
      m' ((c.tc : Thread Cert.ReferenceKbsIdeal.nD Cert.ReferenceKbsIdeal.τ).loc Cert.ReferenceKbsIdeal.main_arg0) = m ((c.tc : Thread Cert.KernelKbsIdeal.nD Cert.KernelKbsIdeal.τ).loc Cert.KernelKbsIdeal.main_arg0)
      ∧ m' ((c.tc : Thread Cert.ReferenceKbsIdeal.nD Cert.ReferenceKbsIdeal.τ).loc Cert.ReferenceKbsIdeal.main_arg1) = m ((c.tc : Thread Cert.KernelKbsIdeal.nD Cert.KernelKbsIdeal.τ).loc Cert.KernelKbsIdeal.main_arg1)) →
    ∃ (v0 : (c : Dev Cert.KernelKbsIdeal.nD) → Buf (Elt Ideal) ((c.tc : Thread Cert.KernelKbsIdeal.nD Cert.KernelKbsIdeal.τ).loc Cert.KernelKbsIdeal.main_v30)),
      θ_run (Cert.KernelKbsIdeal.defs (F := Ideal)) (onTc (τ := Cert.KernelKbsIdeal.τ) (Cert.KernelKbsIdeal.main (F := Ideal))) ⟨m, fun _ => 0, g⟩ (fun r => ∀ c : Dev Cert.KernelKbsIdeal.nD,
          r.2.mem ((c.tc : Thread Cert.KernelKbsIdeal.nD Cert.KernelKbsIdeal.τ).loc Cert.KernelKbsIdeal.main_v30) = v0 c
          ∧ r.2.mem ((c.tc : Thread Cert.KernelKbsIdeal.nD Cert.KernelKbsIdeal.τ).loc Cert.KernelKbsIdeal.main_arg0) = m ((c.tc : Thread Cert.KernelKbsIdeal.nD Cert.KernelKbsIdeal.τ).loc Cert.KernelKbsIdeal.main_arg0)
          ∧ r.2.mem ((c.tc : Thread Cert.KernelKbsIdeal.nD Cert.KernelKbsIdeal.τ).loc Cert.KernelKbsIdeal.main_arg1) = m ((c.tc : Thread Cert.KernelKbsIdeal.nD Cert.KernelKbsIdeal.τ).loc Cert.KernelKbsIdeal.main_arg1))
      ∧ θ_run (Cert.ReferenceKbsIdeal.defs (F := Ideal)) (onTc (τ := Cert.ReferenceKbsIdeal.τ) (Cert.ReferenceKbsIdeal.main (F := Ideal))) ⟨m', fun _ => 0, g'⟩ (fun r => ∀ c : Dev Cert.ReferenceKbsIdeal.nD,
          r.2.mem ((c.tc : Thread Cert.ReferenceKbsIdeal.nD Cert.ReferenceKbsIdeal.τ).loc Cert.ReferenceKbsIdeal.main_v46) = v0 c
          ∧ r.2.mem ((c.tc : Thread Cert.ReferenceKbsIdeal.nD Cert.ReferenceKbsIdeal.τ).loc Cert.ReferenceKbsIdeal.main_arg0) = m' ((c.tc : Thread Cert.ReferenceKbsIdeal.nD Cert.ReferenceKbsIdeal.τ).loc Cert.ReferenceKbsIdeal.main_arg0)
          ∧ r.2.mem ((c.tc : Thread Cert.ReferenceKbsIdeal.nD Cert.ReferenceKbsIdeal.τ).loc Cert.ReferenceKbsIdeal.main_arg1) = m' ((c.tc : Thread Cert.ReferenceKbsIdeal.nD Cert.ReferenceKbsIdeal.τ).loc Cert.ReferenceKbsIdeal.main_arg1))

def preserves_KernelVbs_KernelVbsIdeal : Prop :=
  True

def algebraic_KernelVbsIdeal_ReferenceVbsIdeal [hKernelVbsIdeal : Cert.KernelVbsIdeal.Facts] [hReferenceVbsIdeal : Cert.ReferenceVbsIdeal.Facts] : Prop :=
  ∀ (m : (ℓ : Loc Cert.KernelVbsIdeal.nD Cert.KernelVbsIdeal.τ Cert.KernelVbsIdeal.sig) → Buf (Elt Ideal) ℓ) (g : Dev Cert.KernelVbsIdeal.nD → PrngReg)
    (m' : (ℓ : Loc Cert.ReferenceVbsIdeal.nD Cert.ReferenceVbsIdeal.τ Cert.ReferenceVbsIdeal.sig) → Buf (Elt Ideal) ℓ) (g' : Dev Cert.ReferenceVbsIdeal.nD → PrngReg), Pre_KernelVbsIdeal m →
    (∀ c : Dev Cert.KernelVbsIdeal.nD,
      m' ((c.tc : Thread Cert.ReferenceVbsIdeal.nD Cert.ReferenceVbsIdeal.τ).loc Cert.ReferenceVbsIdeal.main_arg0) = m ((c.tc : Thread Cert.KernelVbsIdeal.nD Cert.KernelVbsIdeal.τ).loc Cert.KernelVbsIdeal.main_arg0)
      ∧ m' ((c.tc : Thread Cert.ReferenceVbsIdeal.nD Cert.ReferenceVbsIdeal.τ).loc Cert.ReferenceVbsIdeal.main_arg1) = m ((c.tc : Thread Cert.KernelVbsIdeal.nD Cert.KernelVbsIdeal.τ).loc Cert.KernelVbsIdeal.main_arg1)) →
    ∃ (v0 : (c : Dev Cert.KernelVbsIdeal.nD) → Buf (Elt Ideal) ((c.tc : Thread Cert.KernelVbsIdeal.nD Cert.KernelVbsIdeal.τ).loc Cert.KernelVbsIdeal.main_v7)),
      θ_run (Cert.KernelVbsIdeal.defs (F := Ideal)) (onTc (τ := Cert.KernelVbsIdeal.τ) (Cert.KernelVbsIdeal.main (F := Ideal))) ⟨m, fun _ => 0, g⟩ (fun r => ∀ c : Dev Cert.KernelVbsIdeal.nD,
          r.2.mem ((c.tc : Thread Cert.KernelVbsIdeal.nD Cert.KernelVbsIdeal.τ).loc Cert.KernelVbsIdeal.main_v7) = v0 c
          ∧ r.2.mem ((c.tc : Thread Cert.KernelVbsIdeal.nD Cert.KernelVbsIdeal.τ).loc Cert.KernelVbsIdeal.main_arg0) = m ((c.tc : Thread Cert.KernelVbsIdeal.nD Cert.KernelVbsIdeal.τ).loc Cert.KernelVbsIdeal.main_arg0)
          ∧ r.2.mem ((c.tc : Thread Cert.KernelVbsIdeal.nD Cert.KernelVbsIdeal.τ).loc Cert.KernelVbsIdeal.main_arg1) = m ((c.tc : Thread Cert.KernelVbsIdeal.nD Cert.KernelVbsIdeal.τ).loc Cert.KernelVbsIdeal.main_arg1))
      ∧ θ_run (Cert.ReferenceVbsIdeal.defs (F := Ideal)) (onTc (τ := Cert.ReferenceVbsIdeal.τ) (Cert.ReferenceVbsIdeal.main (F := Ideal))) ⟨m', fun _ => 0, g'⟩ (fun r => ∀ c : Dev Cert.ReferenceVbsIdeal.nD,
          r.2.mem ((c.tc : Thread Cert.ReferenceVbsIdeal.nD Cert.ReferenceVbsIdeal.τ).loc Cert.ReferenceVbsIdeal.main_v10) = v0 c
          ∧ r.2.mem ((c.tc : Thread Cert.ReferenceVbsIdeal.nD Cert.ReferenceVbsIdeal.τ).loc Cert.ReferenceVbsIdeal.main_arg0) = m' ((c.tc : Thread Cert.ReferenceVbsIdeal.nD Cert.ReferenceVbsIdeal.τ).loc Cert.ReferenceVbsIdeal.main_arg0)
          ∧ r.2.mem ((c.tc : Thread Cert.ReferenceVbsIdeal.nD Cert.ReferenceVbsIdeal.τ).loc Cert.ReferenceVbsIdeal.main_arg1) = m' ((c.tc : Thread Cert.ReferenceVbsIdeal.nD Cert.ReferenceVbsIdeal.τ).loc Cert.ReferenceVbsIdeal.main_arg1))

def preserves_KernelKcs_KernelKcsIdeal : Prop :=
  True

def algebraic_KernelKcsIdeal_ReferenceKcsIdeal [hKernelKcsIdeal : Cert.KernelKcsIdeal.Facts] [hReferenceKcsIdeal : Cert.ReferenceKcsIdeal.Facts] : Prop :=
  ∀ (m : (ℓ : Loc Cert.KernelKcsIdeal.nD Cert.KernelKcsIdeal.τ Cert.KernelKcsIdeal.sig) → Buf (Elt Ideal) ℓ) (g : Dev Cert.KernelKcsIdeal.nD → PrngReg)
    (m' : (ℓ : Loc Cert.ReferenceKcsIdeal.nD Cert.ReferenceKcsIdeal.τ Cert.ReferenceKcsIdeal.sig) → Buf (Elt Ideal) ℓ) (g' : Dev Cert.ReferenceKcsIdeal.nD → PrngReg), Pre_KernelKcsIdeal m →
    (∀ c : Dev Cert.KernelKcsIdeal.nD,
      m' ((c.tc : Thread Cert.ReferenceKcsIdeal.nD Cert.ReferenceKcsIdeal.τ).loc Cert.ReferenceKcsIdeal.main_arg0) = m ((c.tc : Thread Cert.KernelKcsIdeal.nD Cert.KernelKcsIdeal.τ).loc Cert.KernelKcsIdeal.main_arg0)
      ∧ m' ((c.tc : Thread Cert.ReferenceKcsIdeal.nD Cert.ReferenceKcsIdeal.τ).loc Cert.ReferenceKcsIdeal.main_arg1) = m ((c.tc : Thread Cert.KernelKcsIdeal.nD Cert.KernelKcsIdeal.τ).loc Cert.KernelKcsIdeal.main_arg1)) →
    ∃ (v0 : (c : Dev Cert.KernelKcsIdeal.nD) → Buf (Elt Ideal) ((c.tc : Thread Cert.KernelKcsIdeal.nD Cert.KernelKcsIdeal.τ).loc Cert.KernelKcsIdeal.main_v30)),
      θ_run (Cert.KernelKcsIdeal.defs (F := Ideal)) (onTc (τ := Cert.KernelKcsIdeal.τ) (Cert.KernelKcsIdeal.main (F := Ideal))) ⟨m, fun _ => 0, g⟩ (fun r => ∀ c : Dev Cert.KernelKcsIdeal.nD,
          r.2.mem ((c.tc : Thread Cert.KernelKcsIdeal.nD Cert.KernelKcsIdeal.τ).loc Cert.KernelKcsIdeal.main_v30) = v0 c
          ∧ r.2.mem ((c.tc : Thread Cert.KernelKcsIdeal.nD Cert.KernelKcsIdeal.τ).loc Cert.KernelKcsIdeal.main_arg0) = m ((c.tc : Thread Cert.KernelKcsIdeal.nD Cert.KernelKcsIdeal.τ).loc Cert.KernelKcsIdeal.main_arg0)
          ∧ r.2.mem ((c.tc : Thread Cert.KernelKcsIdeal.nD Cert.KernelKcsIdeal.τ).loc Cert.KernelKcsIdeal.main_arg1) = m ((c.tc : Thread Cert.KernelKcsIdeal.nD Cert.KernelKcsIdeal.τ).loc Cert.KernelKcsIdeal.main_arg1))
      ∧ θ_run (Cert.ReferenceKcsIdeal.defs (F := Ideal)) (onTc (τ := Cert.ReferenceKcsIdeal.τ) (Cert.ReferenceKcsIdeal.main (F := Ideal))) ⟨m', fun _ => 0, g'⟩ (fun r => ∀ c : Dev Cert.ReferenceKcsIdeal.nD,
          r.2.mem ((c.tc : Thread Cert.ReferenceKcsIdeal.nD Cert.ReferenceKcsIdeal.τ).loc Cert.ReferenceKcsIdeal.main_v47) = v0 c
          ∧ r.2.mem ((c.tc : Thread Cert.ReferenceKcsIdeal.nD Cert.ReferenceKcsIdeal.τ).loc Cert.ReferenceKcsIdeal.main_arg0) = m' ((c.tc : Thread Cert.ReferenceKcsIdeal.nD Cert.ReferenceKcsIdeal.τ).loc Cert.ReferenceKcsIdeal.main_arg0)
          ∧ r.2.mem ((c.tc : Thread Cert.ReferenceKcsIdeal.nD Cert.ReferenceKcsIdeal.τ).loc Cert.ReferenceKcsIdeal.main_arg1) = m' ((c.tc : Thread Cert.ReferenceKcsIdeal.nD Cert.ReferenceKcsIdeal.τ).loc Cert.ReferenceKcsIdeal.main_arg1))

def preserves_KernelVcs_KernelVcsIdeal : Prop :=
  True

def algebraic_KernelVcsIdeal_ReferenceVcsIdeal [hKernelVcsIdeal : Cert.KernelVcsIdeal.Facts] [hReferenceVcsIdeal : Cert.ReferenceVcsIdeal.Facts] : Prop :=
  ∀ (m : (ℓ : Loc Cert.KernelVcsIdeal.nD Cert.KernelVcsIdeal.τ Cert.KernelVcsIdeal.sig) → Buf (Elt Ideal) ℓ) (g : Dev Cert.KernelVcsIdeal.nD → PrngReg)
    (m' : (ℓ : Loc Cert.ReferenceVcsIdeal.nD Cert.ReferenceVcsIdeal.τ Cert.ReferenceVcsIdeal.sig) → Buf (Elt Ideal) ℓ) (g' : Dev Cert.ReferenceVcsIdeal.nD → PrngReg), Pre_KernelVcsIdeal m →
    (∀ c : Dev Cert.KernelVcsIdeal.nD,
      m' ((c.tc : Thread Cert.ReferenceVcsIdeal.nD Cert.ReferenceVcsIdeal.τ).loc Cert.ReferenceVcsIdeal.main_arg0) = m ((c.tc : Thread Cert.KernelVcsIdeal.nD Cert.KernelVcsIdeal.τ).loc Cert.KernelVcsIdeal.main_arg0)
      ∧ m' ((c.tc : Thread Cert.ReferenceVcsIdeal.nD Cert.ReferenceVcsIdeal.τ).loc Cert.ReferenceVcsIdeal.main_arg1) = m ((c.tc : Thread Cert.KernelVcsIdeal.nD Cert.KernelVcsIdeal.τ).loc Cert.KernelVcsIdeal.main_arg1)) →
    ∃ (v0 : (c : Dev Cert.KernelVcsIdeal.nD) → Buf (Elt Ideal) ((c.tc : Thread Cert.KernelVcsIdeal.nD Cert.KernelVcsIdeal.τ).loc Cert.KernelVcsIdeal.main_v7)),
      θ_run (Cert.KernelVcsIdeal.defs (F := Ideal)) (onTc (τ := Cert.KernelVcsIdeal.τ) (Cert.KernelVcsIdeal.main (F := Ideal))) ⟨m, fun _ => 0, g⟩ (fun r => ∀ c : Dev Cert.KernelVcsIdeal.nD,
          r.2.mem ((c.tc : Thread Cert.KernelVcsIdeal.nD Cert.KernelVcsIdeal.τ).loc Cert.KernelVcsIdeal.main_v7) = v0 c
          ∧ r.2.mem ((c.tc : Thread Cert.KernelVcsIdeal.nD Cert.KernelVcsIdeal.τ).loc Cert.KernelVcsIdeal.main_arg0) = m ((c.tc : Thread Cert.KernelVcsIdeal.nD Cert.KernelVcsIdeal.τ).loc Cert.KernelVcsIdeal.main_arg0)
          ∧ r.2.mem ((c.tc : Thread Cert.KernelVcsIdeal.nD Cert.KernelVcsIdeal.τ).loc Cert.KernelVcsIdeal.main_arg1) = m ((c.tc : Thread Cert.KernelVcsIdeal.nD Cert.KernelVcsIdeal.τ).loc Cert.KernelVcsIdeal.main_arg1))
      ∧ θ_run (Cert.ReferenceVcsIdeal.defs (F := Ideal)) (onTc (τ := Cert.ReferenceVcsIdeal.τ) (Cert.ReferenceVcsIdeal.main (F := Ideal))) ⟨m', fun _ => 0, g'⟩ (fun r => ∀ c : Dev Cert.ReferenceVcsIdeal.nD,
          r.2.mem ((c.tc : Thread Cert.ReferenceVcsIdeal.nD Cert.ReferenceVcsIdeal.τ).loc Cert.ReferenceVcsIdeal.main_v11) = v0 c
          ∧ r.2.mem ((c.tc : Thread Cert.ReferenceVcsIdeal.nD Cert.ReferenceVcsIdeal.τ).loc Cert.ReferenceVcsIdeal.main_arg0) = m' ((c.tc : Thread Cert.ReferenceVcsIdeal.nD Cert.ReferenceVcsIdeal.τ).loc Cert.ReferenceVcsIdeal.main_arg0)
          ∧ r.2.mem ((c.tc : Thread Cert.ReferenceVcsIdeal.nD Cert.ReferenceVcsIdeal.τ).loc Cert.ReferenceVcsIdeal.main_arg1) = m' ((c.tc : Thread Cert.ReferenceVcsIdeal.nD Cert.ReferenceVcsIdeal.τ).loc Cert.ReferenceVcsIdeal.main_arg1))

def preserves_KernelKis_KernelKisIdeal : Prop :=
  True

def algebraic_KernelKisIdeal_ReferenceKisIdeal [hKernelKisIdeal : Cert.KernelKisIdeal.Facts] [hReferenceKisIdeal : Cert.ReferenceKisIdeal.Facts] : Prop :=
  ∀ (m : (ℓ : Loc Cert.KernelKisIdeal.nD Cert.KernelKisIdeal.τ Cert.KernelKisIdeal.sig) → Buf (Elt Ideal) ℓ) (g : Dev Cert.KernelKisIdeal.nD → PrngReg)
    (m' : (ℓ : Loc Cert.ReferenceKisIdeal.nD Cert.ReferenceKisIdeal.τ Cert.ReferenceKisIdeal.sig) → Buf (Elt Ideal) ℓ) (g' : Dev Cert.ReferenceKisIdeal.nD → PrngReg), Pre_KernelKisIdeal m →
    (∀ c : Dev Cert.KernelKisIdeal.nD,
      m' ((c.tc : Thread Cert.ReferenceKisIdeal.nD Cert.ReferenceKisIdeal.τ).loc Cert.ReferenceKisIdeal.main_arg0) = m ((c.tc : Thread Cert.KernelKisIdeal.nD Cert.KernelKisIdeal.τ).loc Cert.KernelKisIdeal.main_arg0)
      ∧ m' ((c.tc : Thread Cert.ReferenceKisIdeal.nD Cert.ReferenceKisIdeal.τ).loc Cert.ReferenceKisIdeal.main_arg1) = m ((c.tc : Thread Cert.KernelKisIdeal.nD Cert.KernelKisIdeal.τ).loc Cert.KernelKisIdeal.main_arg1)) →
    ∃ (v0 : (c : Dev Cert.KernelKisIdeal.nD) → Buf (Elt Ideal) ((c.tc : Thread Cert.KernelKisIdeal.nD Cert.KernelKisIdeal.τ).loc Cert.KernelKisIdeal.main_v31)),
      θ_run (Cert.KernelKisIdeal.defs (F := Ideal)) (onTc (τ := Cert.KernelKisIdeal.τ) (Cert.KernelKisIdeal.main (F := Ideal))) ⟨m, fun _ => 0, g⟩ (fun r => ∀ c : Dev Cert.KernelKisIdeal.nD,
          r.2.mem ((c.tc : Thread Cert.KernelKisIdeal.nD Cert.KernelKisIdeal.τ).loc Cert.KernelKisIdeal.main_v31) = v0 c
          ∧ r.2.mem ((c.tc : Thread Cert.KernelKisIdeal.nD Cert.KernelKisIdeal.τ).loc Cert.KernelKisIdeal.main_arg0) = m ((c.tc : Thread Cert.KernelKisIdeal.nD Cert.KernelKisIdeal.τ).loc Cert.KernelKisIdeal.main_arg0)
          ∧ r.2.mem ((c.tc : Thread Cert.KernelKisIdeal.nD Cert.KernelKisIdeal.τ).loc Cert.KernelKisIdeal.main_arg1) = m ((c.tc : Thread Cert.KernelKisIdeal.nD Cert.KernelKisIdeal.τ).loc Cert.KernelKisIdeal.main_arg1))
      ∧ θ_run (Cert.ReferenceKisIdeal.defs (F := Ideal)) (onTc (τ := Cert.ReferenceKisIdeal.τ) (Cert.ReferenceKisIdeal.main (F := Ideal))) ⟨m', fun _ => 0, g'⟩ (fun r => ∀ c : Dev Cert.ReferenceKisIdeal.nD,
          r.2.mem ((c.tc : Thread Cert.ReferenceKisIdeal.nD Cert.ReferenceKisIdeal.τ).loc Cert.ReferenceKisIdeal.main_v48) = v0 c
          ∧ r.2.mem ((c.tc : Thread Cert.ReferenceKisIdeal.nD Cert.ReferenceKisIdeal.τ).loc Cert.ReferenceKisIdeal.main_arg0) = m' ((c.tc : Thread Cert.ReferenceKisIdeal.nD Cert.ReferenceKisIdeal.τ).loc Cert.ReferenceKisIdeal.main_arg0)
          ∧ r.2.mem ((c.tc : Thread Cert.ReferenceKisIdeal.nD Cert.ReferenceKisIdeal.τ).loc Cert.ReferenceKisIdeal.main_arg1) = m' ((c.tc : Thread Cert.ReferenceKisIdeal.nD Cert.ReferenceKisIdeal.τ).loc Cert.ReferenceKisIdeal.main_arg1))

def preserves_KernelLg_KernelLgIdeal : Prop :=
  True

def algebraic_KernelLgIdeal_ReferenceLgIdeal [hKernelLgIdeal : Cert.KernelLgIdeal.Facts] [hReferenceLgIdeal : Cert.ReferenceLgIdeal.Facts] : Prop :=
  ∀ (m : (ℓ : Loc Cert.KernelLgIdeal.nD Cert.KernelLgIdeal.τ Cert.KernelLgIdeal.sig) → Buf (Elt Ideal) ℓ) (g : Dev Cert.KernelLgIdeal.nD → PrngReg)
    (m' : (ℓ : Loc Cert.ReferenceLgIdeal.nD Cert.ReferenceLgIdeal.τ Cert.ReferenceLgIdeal.sig) → Buf (Elt Ideal) ℓ) (g' : Dev Cert.ReferenceLgIdeal.nD → PrngReg), Pre_KernelLgIdeal m →
    (∀ c : Dev Cert.KernelLgIdeal.nD,
      m' ((c.tc : Thread Cert.ReferenceLgIdeal.nD Cert.ReferenceLgIdeal.τ).loc Cert.ReferenceLgIdeal.main_arg0) = m ((c.tc : Thread Cert.KernelLgIdeal.nD Cert.KernelLgIdeal.τ).loc Cert.KernelLgIdeal.main_arg0)
      ∧ m' ((c.tc : Thread Cert.ReferenceLgIdeal.nD Cert.ReferenceLgIdeal.τ).loc Cert.ReferenceLgIdeal.main_arg1) = m ((c.tc : Thread Cert.KernelLgIdeal.nD Cert.KernelLgIdeal.τ).loc Cert.KernelLgIdeal.main_arg1)) →
    ∃ (v0 : (c : Dev Cert.KernelLgIdeal.nD) → Buf (Elt Ideal) ((c.tc : Thread Cert.KernelLgIdeal.nD Cert.KernelLgIdeal.τ).loc Cert.KernelLgIdeal.main_v2)),
      θ_run (Cert.KernelLgIdeal.defs (F := Ideal)) (onTc (τ := Cert.KernelLgIdeal.τ) (Cert.KernelLgIdeal.main (F := Ideal))) ⟨m, fun _ => 0, g⟩ (fun r => ∀ c : Dev Cert.KernelLgIdeal.nD,
          r.2.mem ((c.tc : Thread Cert.KernelLgIdeal.nD Cert.KernelLgIdeal.τ).loc Cert.KernelLgIdeal.main_v2) = v0 c
          ∧ r.2.mem ((c.tc : Thread Cert.KernelLgIdeal.nD Cert.KernelLgIdeal.τ).loc Cert.KernelLgIdeal.main_arg0) = m ((c.tc : Thread Cert.KernelLgIdeal.nD Cert.KernelLgIdeal.τ).loc Cert.KernelLgIdeal.main_arg0)
          ∧ r.2.mem ((c.tc : Thread Cert.KernelLgIdeal.nD Cert.KernelLgIdeal.τ).loc Cert.KernelLgIdeal.main_arg1) = m ((c.tc : Thread Cert.KernelLgIdeal.nD Cert.KernelLgIdeal.τ).loc Cert.KernelLgIdeal.main_arg1))
      ∧ θ_run (Cert.ReferenceLgIdeal.defs (F := Ideal)) (onTc (τ := Cert.ReferenceLgIdeal.τ) (Cert.ReferenceLgIdeal.main (F := Ideal))) ⟨m', fun _ => 0, g'⟩ (fun r => ∀ c : Dev Cert.ReferenceLgIdeal.nD,
          r.2.mem ((c.tc : Thread Cert.ReferenceLgIdeal.nD Cert.ReferenceLgIdeal.τ).loc Cert.ReferenceLgIdeal.main_v2) = v0 c
          ∧ r.2.mem ((c.tc : Thread Cert.ReferenceLgIdeal.nD Cert.ReferenceLgIdeal.τ).loc Cert.ReferenceLgIdeal.main_arg0) = m' ((c.tc : Thread Cert.ReferenceLgIdeal.nD Cert.ReferenceLgIdeal.τ).loc Cert.ReferenceLgIdeal.main_arg0)
          ∧ r.2.mem ((c.tc : Thread Cert.ReferenceLgIdeal.nD Cert.ReferenceLgIdeal.τ).loc Cert.ReferenceLgIdeal.main_arg1) = m' ((c.tc : Thread Cert.ReferenceLgIdeal.nD Cert.ReferenceLgIdeal.τ).loc Cert.ReferenceLgIdeal.main_arg1))

def preserves_KernelPln_KernelPlnIdeal : Prop :=
  True

def algebraic_KernelPlnIdeal_ReferencePlnIdeal [hKernelPlnIdeal : Cert.KernelPlnIdeal.Facts] [hReferencePlnIdeal : Cert.ReferencePlnIdeal.Facts] : Prop :=
  ∀ (m : (ℓ : Loc Cert.KernelPlnIdeal.nD Cert.KernelPlnIdeal.τ Cert.KernelPlnIdeal.sig) → Buf (Elt Ideal) ℓ) (g : Dev Cert.KernelPlnIdeal.nD → PrngReg)
    (m' : (ℓ : Loc Cert.ReferencePlnIdeal.nD Cert.ReferencePlnIdeal.τ Cert.ReferencePlnIdeal.sig) → Buf (Elt Ideal) ℓ) (g' : Dev Cert.ReferencePlnIdeal.nD → PrngReg), Pre_KernelPlnIdeal m →
    (∀ c : Dev Cert.KernelPlnIdeal.nD,
      m' ((c.tc : Thread Cert.ReferencePlnIdeal.nD Cert.ReferencePlnIdeal.τ).loc Cert.ReferencePlnIdeal.main_arg0) = m ((c.tc : Thread Cert.KernelPlnIdeal.nD Cert.KernelPlnIdeal.τ).loc Cert.KernelPlnIdeal.main_arg0)
      ∧ m' ((c.tc : Thread Cert.ReferencePlnIdeal.nD Cert.ReferencePlnIdeal.τ).loc Cert.ReferencePlnIdeal.main_arg1) = m ((c.tc : Thread Cert.KernelPlnIdeal.nD Cert.KernelPlnIdeal.τ).loc Cert.KernelPlnIdeal.main_arg1)
      ∧ m' ((c.tc : Thread Cert.ReferencePlnIdeal.nD Cert.ReferencePlnIdeal.τ).loc Cert.ReferencePlnIdeal.main_arg2) = m ((c.tc : Thread Cert.KernelPlnIdeal.nD Cert.KernelPlnIdeal.τ).loc Cert.KernelPlnIdeal.main_arg2)
      ∧ m' ((c.tc : Thread Cert.ReferencePlnIdeal.nD Cert.ReferencePlnIdeal.τ).loc Cert.ReferencePlnIdeal.main_arg3) = m ((c.tc : Thread Cert.KernelPlnIdeal.nD Cert.KernelPlnIdeal.τ).loc Cert.KernelPlnIdeal.main_arg3)
      ∧ m' ((c.tc : Thread Cert.ReferencePlnIdeal.nD Cert.ReferencePlnIdeal.τ).loc Cert.ReferencePlnIdeal.main_arg4) = m ((c.tc : Thread Cert.KernelPlnIdeal.nD Cert.KernelPlnIdeal.τ).loc Cert.KernelPlnIdeal.main_arg4)
      ∧ m' ((c.tc : Thread Cert.ReferencePlnIdeal.nD Cert.ReferencePlnIdeal.τ).loc Cert.ReferencePlnIdeal.main_arg5) = m ((c.tc : Thread Cert.KernelPlnIdeal.nD Cert.KernelPlnIdeal.τ).loc Cert.KernelPlnIdeal.main_arg5)) →
    ∃ (v0 : (c : Dev Cert.KernelPlnIdeal.nD) → Buf (Elt Ideal) ((c.tc : Thread Cert.KernelPlnIdeal.nD Cert.KernelPlnIdeal.τ).loc Cert.KernelPlnIdeal.main_v5_0)) (v1 : (c : Dev Cert.KernelPlnIdeal.nD) → Buf (Elt Ideal) ((c.tc : Thread Cert.KernelPlnIdeal.nD Cert.KernelPlnIdeal.τ).loc Cert.KernelPlnIdeal.main_v5_1)),
      θ_run (Cert.KernelPlnIdeal.defs (F := Ideal)) (onTc (τ := Cert.KernelPlnIdeal.τ) (Cert.KernelPlnIdeal.main (F := Ideal))) ⟨m, fun _ => 0, g⟩ (fun r => ∀ c : Dev Cert.KernelPlnIdeal.nD,
          r.2.mem ((c.tc : Thread Cert.KernelPlnIdeal.nD Cert.KernelPlnIdeal.τ).loc Cert.KernelPlnIdeal.main_v5_0) = v0 c
          ∧ r.2.mem ((c.tc : Thread Cert.KernelPlnIdeal.nD Cert.KernelPlnIdeal.τ).loc Cert.KernelPlnIdeal.main_v5_1) = v1 c
          ∧ r.2.mem ((c.tc : Thread Cert.KernelPlnIdeal.nD Cert.KernelPlnIdeal.τ).loc Cert.KernelPlnIdeal.main_arg0) = m ((c.tc : Thread Cert.KernelPlnIdeal.nD Cert.KernelPlnIdeal.τ).loc Cert.KernelPlnIdeal.main_arg0)
          ∧ r.2.mem ((c.tc : Thread Cert.KernelPlnIdeal.nD Cert.KernelPlnIdeal.τ).loc Cert.KernelPlnIdeal.main_arg1) = m ((c.tc : Thread Cert.KernelPlnIdeal.nD Cert.KernelPlnIdeal.τ).loc Cert.KernelPlnIdeal.main_arg1)
          ∧ r.2.mem ((c.tc : Thread Cert.KernelPlnIdeal.nD Cert.KernelPlnIdeal.τ).loc Cert.KernelPlnIdeal.main_arg2) = m ((c.tc : Thread Cert.KernelPlnIdeal.nD Cert.KernelPlnIdeal.τ).loc Cert.KernelPlnIdeal.main_arg2)
          ∧ r.2.mem ((c.tc : Thread Cert.KernelPlnIdeal.nD Cert.KernelPlnIdeal.τ).loc Cert.KernelPlnIdeal.main_arg3) = m ((c.tc : Thread Cert.KernelPlnIdeal.nD Cert.KernelPlnIdeal.τ).loc Cert.KernelPlnIdeal.main_arg3)
          ∧ r.2.mem ((c.tc : Thread Cert.KernelPlnIdeal.nD Cert.KernelPlnIdeal.τ).loc Cert.KernelPlnIdeal.main_arg4) = m ((c.tc : Thread Cert.KernelPlnIdeal.nD Cert.KernelPlnIdeal.τ).loc Cert.KernelPlnIdeal.main_arg4)
          ∧ r.2.mem ((c.tc : Thread Cert.KernelPlnIdeal.nD Cert.KernelPlnIdeal.τ).loc Cert.KernelPlnIdeal.main_arg5) = m ((c.tc : Thread Cert.KernelPlnIdeal.nD Cert.KernelPlnIdeal.τ).loc Cert.KernelPlnIdeal.main_arg5))
      ∧ θ_run (Cert.ReferencePlnIdeal.defs (F := Ideal)) (onTc (τ := Cert.ReferencePlnIdeal.τ) (Cert.ReferencePlnIdeal.main (F := Ideal))) ⟨m', fun _ => 0, g'⟩ (fun r => ∀ c : Dev Cert.ReferencePlnIdeal.nD,
          r.2.mem ((c.tc : Thread Cert.ReferencePlnIdeal.nD Cert.ReferencePlnIdeal.τ).loc Cert.ReferencePlnIdeal.main_v29) = v0 c
          ∧ r.2.mem ((c.tc : Thread Cert.ReferencePlnIdeal.nD Cert.ReferencePlnIdeal.τ).loc Cert.ReferencePlnIdeal.main_v30) = v1 c
          ∧ r.2.mem ((c.tc : Thread Cert.ReferencePlnIdeal.nD Cert.ReferencePlnIdeal.τ).loc Cert.ReferencePlnIdeal.main_arg0) = m' ((c.tc : Thread Cert.ReferencePlnIdeal.nD Cert.ReferencePlnIdeal.τ).loc Cert.ReferencePlnIdeal.main_arg0)
          ∧ r.2.mem ((c.tc : Thread Cert.ReferencePlnIdeal.nD Cert.ReferencePlnIdeal.τ).loc Cert.ReferencePlnIdeal.main_arg1) = m' ((c.tc : Thread Cert.ReferencePlnIdeal.nD Cert.ReferencePlnIdeal.τ).loc Cert.ReferencePlnIdeal.main_arg1)
          ∧ r.2.mem ((c.tc : Thread Cert.ReferencePlnIdeal.nD Cert.ReferencePlnIdeal.τ).loc Cert.ReferencePlnIdeal.main_arg2) = m' ((c.tc : Thread Cert.ReferencePlnIdeal.nD Cert.ReferencePlnIdeal.τ).loc Cert.ReferencePlnIdeal.main_arg2)
          ∧ r.2.mem ((c.tc : Thread Cert.ReferencePlnIdeal.nD Cert.ReferencePlnIdeal.τ).loc Cert.ReferencePlnIdeal.main_arg3) = m' ((c.tc : Thread Cert.ReferencePlnIdeal.nD Cert.ReferencePlnIdeal.τ).loc Cert.ReferencePlnIdeal.main_arg3)
          ∧ r.2.mem ((c.tc : Thread Cert.ReferencePlnIdeal.nD Cert.ReferencePlnIdeal.τ).loc Cert.ReferencePlnIdeal.main_arg4) = m' ((c.tc : Thread Cert.ReferencePlnIdeal.nD Cert.ReferencePlnIdeal.τ).loc Cert.ReferencePlnIdeal.main_arg4)
          ∧ r.2.mem ((c.tc : Thread Cert.ReferencePlnIdeal.nD Cert.ReferencePlnIdeal.τ).loc Cert.ReferencePlnIdeal.main_arg5) = m' ((c.tc : Thread Cert.ReferencePlnIdeal.nD Cert.ReferencePlnIdeal.τ).loc Cert.ReferencePlnIdeal.main_arg5))

def preserves_KernelRets_KernelRetsIdeal : Prop :=
  True

def algebraic_KernelRetsIdeal_ReferenceRetsIdeal [hKernelRetsIdeal : Cert.KernelRetsIdeal.Facts] [hReferenceRetsIdeal : Cert.ReferenceRetsIdeal.Facts] : Prop :=
  ∀ (m : (ℓ : Loc Cert.KernelRetsIdeal.nD Cert.KernelRetsIdeal.τ Cert.KernelRetsIdeal.sig) → Buf (Elt Ideal) ℓ) (g : Dev Cert.KernelRetsIdeal.nD → PrngReg)
    (m' : (ℓ : Loc Cert.ReferenceRetsIdeal.nD Cert.ReferenceRetsIdeal.τ Cert.ReferenceRetsIdeal.sig) → Buf (Elt Ideal) ℓ) (g' : Dev Cert.ReferenceRetsIdeal.nD → PrngReg), Pre_KernelRetsIdeal m →
    (∀ c : Dev Cert.KernelRetsIdeal.nD,
      m' ((c.tc : Thread Cert.ReferenceRetsIdeal.nD Cert.ReferenceRetsIdeal.τ).loc Cert.ReferenceRetsIdeal.main_arg0) = m ((c.tc : Thread Cert.KernelRetsIdeal.nD Cert.KernelRetsIdeal.τ).loc Cert.KernelRetsIdeal.main_arg0)
      ∧ m' ((c.tc : Thread Cert.ReferenceRetsIdeal.nD Cert.ReferenceRetsIdeal.τ).loc Cert.ReferenceRetsIdeal.main_arg1) = m ((c.tc : Thread Cert.KernelRetsIdeal.nD Cert.KernelRetsIdeal.τ).loc Cert.KernelRetsIdeal.main_arg1)
      ∧ m' ((c.tc : Thread Cert.ReferenceRetsIdeal.nD Cert.ReferenceRetsIdeal.τ).loc Cert.ReferenceRetsIdeal.main_arg2) = m ((c.tc : Thread Cert.KernelRetsIdeal.nD Cert.KernelRetsIdeal.τ).loc Cert.KernelRetsIdeal.main_arg2)
      ∧ m' ((c.tc : Thread Cert.ReferenceRetsIdeal.nD Cert.ReferenceRetsIdeal.τ).loc Cert.ReferenceRetsIdeal.main_arg3) = m ((c.tc : Thread Cert.KernelRetsIdeal.nD Cert.KernelRetsIdeal.τ).loc Cert.KernelRetsIdeal.main_arg3)) →
    ∃ (v0 : (c : Dev Cert.KernelRetsIdeal.nD) → Buf (Elt Ideal) ((c.tc : Thread Cert.KernelRetsIdeal.nD Cert.KernelRetsIdeal.τ).loc Cert.KernelRetsIdeal.main_v16)) (v1 : (c : Dev Cert.KernelRetsIdeal.nD) → Buf (Elt Ideal) ((c.tc : Thread Cert.KernelRetsIdeal.nD Cert.KernelRetsIdeal.τ).loc Cert.KernelRetsIdeal.main_v14_1)),
      θ_run (Cert.KernelRetsIdeal.defs (F := Ideal)) (onTc (τ := Cert.KernelRetsIdeal.τ) (Cert.KernelRetsIdeal.main (F := Ideal))) ⟨m, fun _ => 0, g⟩ (fun r => ∀ c : Dev Cert.KernelRetsIdeal.nD,
          r.2.mem ((c.tc : Thread Cert.KernelRetsIdeal.nD Cert.KernelRetsIdeal.τ).loc Cert.KernelRetsIdeal.main_v16) = v0 c
          ∧ r.2.mem ((c.tc : Thread Cert.KernelRetsIdeal.nD Cert.KernelRetsIdeal.τ).loc Cert.KernelRetsIdeal.main_v14_1) = v1 c
          ∧ r.2.mem ((c.tc : Thread Cert.KernelRetsIdeal.nD Cert.KernelRetsIdeal.τ).loc Cert.KernelRetsIdeal.main_arg0) = m ((c.tc : Thread Cert.KernelRetsIdeal.nD Cert.KernelRetsIdeal.τ).loc Cert.KernelRetsIdeal.main_arg0)
          ∧ r.2.mem ((c.tc : Thread Cert.KernelRetsIdeal.nD Cert.KernelRetsIdeal.τ).loc Cert.KernelRetsIdeal.main_arg1) = m ((c.tc : Thread Cert.KernelRetsIdeal.nD Cert.KernelRetsIdeal.τ).loc Cert.KernelRetsIdeal.main_arg1)
          ∧ r.2.mem ((c.tc : Thread Cert.KernelRetsIdeal.nD Cert.KernelRetsIdeal.τ).loc Cert.KernelRetsIdeal.main_arg2) = m ((c.tc : Thread Cert.KernelRetsIdeal.nD Cert.KernelRetsIdeal.τ).loc Cert.KernelRetsIdeal.main_arg2)
          ∧ r.2.mem ((c.tc : Thread Cert.KernelRetsIdeal.nD Cert.KernelRetsIdeal.τ).loc Cert.KernelRetsIdeal.main_arg3) = m ((c.tc : Thread Cert.KernelRetsIdeal.nD Cert.KernelRetsIdeal.τ).loc Cert.KernelRetsIdeal.main_arg3))
      ∧ θ_run (Cert.ReferenceRetsIdeal.defs (F := Ideal)) (onTc (τ := Cert.ReferenceRetsIdeal.τ) (Cert.ReferenceRetsIdeal.main (F := Ideal))) ⟨m', fun _ => 0, g'⟩ (fun r => ∀ c : Dev Cert.ReferenceRetsIdeal.nD,
          r.2.mem ((c.tc : Thread Cert.ReferenceRetsIdeal.nD Cert.ReferenceRetsIdeal.τ).loc Cert.ReferenceRetsIdeal.main_v97) = v0 c
          ∧ r.2.mem ((c.tc : Thread Cert.ReferenceRetsIdeal.nD Cert.ReferenceRetsIdeal.τ).loc Cert.ReferenceRetsIdeal.main_v70) = v1 c
          ∧ r.2.mem ((c.tc : Thread Cert.ReferenceRetsIdeal.nD Cert.ReferenceRetsIdeal.τ).loc Cert.ReferenceRetsIdeal.main_arg0) = m' ((c.tc : Thread Cert.ReferenceRetsIdeal.nD Cert.ReferenceRetsIdeal.τ).loc Cert.ReferenceRetsIdeal.main_arg0)
          ∧ r.2.mem ((c.tc : Thread Cert.ReferenceRetsIdeal.nD Cert.ReferenceRetsIdeal.τ).loc Cert.ReferenceRetsIdeal.main_arg1) = m' ((c.tc : Thread Cert.ReferenceRetsIdeal.nD Cert.ReferenceRetsIdeal.τ).loc Cert.ReferenceRetsIdeal.main_arg1)
          ∧ r.2.mem ((c.tc : Thread Cert.ReferenceRetsIdeal.nD Cert.ReferenceRetsIdeal.τ).loc Cert.ReferenceRetsIdeal.main_arg2) = m' ((c.tc : Thread Cert.ReferenceRetsIdeal.nD Cert.ReferenceRetsIdeal.τ).loc Cert.ReferenceRetsIdeal.main_arg2)
          ∧ r.2.mem ((c.tc : Thread Cert.ReferenceRetsIdeal.nD Cert.ReferenceRetsIdeal.τ).loc Cert.ReferenceRetsIdeal.main_arg3) = m' ((c.tc : Thread Cert.ReferenceRetsIdeal.nD Cert.ReferenceRetsIdeal.τ).loc Cert.ReferenceRetsIdeal.main_arg3))

def preserves_KernelMls_KernelMlsIdeal : Prop :=
  True

def algebraic_KernelMlsIdeal_ReferenceMlsIdeal [hKernelMlsIdeal : Cert.KernelMlsIdeal.Facts] [hReferenceMlsIdeal : Cert.ReferenceMlsIdeal.Facts] : Prop :=
  ∀ (m : (ℓ : Loc Cert.KernelMlsIdeal.nD Cert.KernelMlsIdeal.τ Cert.KernelMlsIdeal.sig) → Buf (Elt Ideal) ℓ) (g : Dev Cert.KernelMlsIdeal.nD → PrngReg)
    (m' : (ℓ : Loc Cert.ReferenceMlsIdeal.nD Cert.ReferenceMlsIdeal.τ Cert.ReferenceMlsIdeal.sig) → Buf (Elt Ideal) ℓ) (g' : Dev Cert.ReferenceMlsIdeal.nD → PrngReg), Pre_KernelMlsIdeal m →
    (∀ c : Dev Cert.KernelMlsIdeal.nD,
      m' ((c.tc : Thread Cert.ReferenceMlsIdeal.nD Cert.ReferenceMlsIdeal.τ).loc Cert.ReferenceMlsIdeal.main_arg0) = m ((c.tc : Thread Cert.KernelMlsIdeal.nD Cert.KernelMlsIdeal.τ).loc Cert.KernelMlsIdeal.main_arg0)
      ∧ m' ((c.tc : Thread Cert.ReferenceMlsIdeal.nD Cert.ReferenceMlsIdeal.τ).loc Cert.ReferenceMlsIdeal.main_arg1) = m ((c.tc : Thread Cert.KernelMlsIdeal.nD Cert.KernelMlsIdeal.τ).loc Cert.KernelMlsIdeal.main_arg1)
      ∧ m' ((c.tc : Thread Cert.ReferenceMlsIdeal.nD Cert.ReferenceMlsIdeal.τ).loc Cert.ReferenceMlsIdeal.main_arg2) = m ((c.tc : Thread Cert.KernelMlsIdeal.nD Cert.KernelMlsIdeal.τ).loc Cert.KernelMlsIdeal.main_arg2)
      ∧ m' ((c.tc : Thread Cert.ReferenceMlsIdeal.nD Cert.ReferenceMlsIdeal.τ).loc Cert.ReferenceMlsIdeal.main_arg3) = m ((c.tc : Thread Cert.KernelMlsIdeal.nD Cert.KernelMlsIdeal.τ).loc Cert.KernelMlsIdeal.main_arg3)
      ∧ m' ((c.tc : Thread Cert.ReferenceMlsIdeal.nD Cert.ReferenceMlsIdeal.τ).loc Cert.ReferenceMlsIdeal.main_arg4) = m ((c.tc : Thread Cert.KernelMlsIdeal.nD Cert.KernelMlsIdeal.τ).loc Cert.KernelMlsIdeal.main_arg4)
      ∧ m' ((c.tc : Thread Cert.ReferenceMlsIdeal.nD Cert.ReferenceMlsIdeal.τ).loc Cert.ReferenceMlsIdeal.main_arg5) = m ((c.tc : Thread Cert.KernelMlsIdeal.nD Cert.KernelMlsIdeal.τ).loc Cert.KernelMlsIdeal.main_arg5)
      ∧ m' ((c.tc : Thread Cert.ReferenceMlsIdeal.nD Cert.ReferenceMlsIdeal.τ).loc Cert.ReferenceMlsIdeal.main_arg6) = m ((c.tc : Thread Cert.KernelMlsIdeal.nD Cert.KernelMlsIdeal.τ).loc Cert.KernelMlsIdeal.main_arg6)
      ∧ m' ((c.tc : Thread Cert.ReferenceMlsIdeal.nD Cert.ReferenceMlsIdeal.τ).loc Cert.ReferenceMlsIdeal.main_arg7) = m ((c.tc : Thread Cert.KernelMlsIdeal.nD Cert.KernelMlsIdeal.τ).loc Cert.KernelMlsIdeal.main_arg7)) →
    ∃ (v0 : (c : Dev Cert.KernelMlsIdeal.nD) → Buf (Elt Ideal) ((c.tc : Thread Cert.KernelMlsIdeal.nD Cert.KernelMlsIdeal.τ).loc Cert.KernelMlsIdeal.main_v9_1)) (v1 : (c : Dev Cert.KernelMlsIdeal.nD) → Buf (Elt Ideal) ((c.tc : Thread Cert.KernelMlsIdeal.nD Cert.KernelMlsIdeal.τ).loc Cert.KernelMlsIdeal.main_v10)) (v2 : (c : Dev Cert.KernelMlsIdeal.nD) → Buf (Elt Ideal) ((c.tc : Thread Cert.KernelMlsIdeal.nD Cert.KernelMlsIdeal.τ).loc Cert.KernelMlsIdeal.main_v11)),
      θ_run (Cert.KernelMlsIdeal.defs (F := Ideal)) (onTc (τ := Cert.KernelMlsIdeal.τ) (Cert.KernelMlsIdeal.main (F := Ideal))) ⟨m, fun _ => 0, g⟩ (fun r => ∀ c : Dev Cert.KernelMlsIdeal.nD,
          r.2.mem ((c.tc : Thread Cert.KernelMlsIdeal.nD Cert.KernelMlsIdeal.τ).loc Cert.KernelMlsIdeal.main_v9_1) = v0 c
          ∧ r.2.mem ((c.tc : Thread Cert.KernelMlsIdeal.nD Cert.KernelMlsIdeal.τ).loc Cert.KernelMlsIdeal.main_v10) = v1 c
          ∧ r.2.mem ((c.tc : Thread Cert.KernelMlsIdeal.nD Cert.KernelMlsIdeal.τ).loc Cert.KernelMlsIdeal.main_v11) = v2 c
          ∧ r.2.mem ((c.tc : Thread Cert.KernelMlsIdeal.nD Cert.KernelMlsIdeal.τ).loc Cert.KernelMlsIdeal.main_arg0) = m ((c.tc : Thread Cert.KernelMlsIdeal.nD Cert.KernelMlsIdeal.τ).loc Cert.KernelMlsIdeal.main_arg0)
          ∧ r.2.mem ((c.tc : Thread Cert.KernelMlsIdeal.nD Cert.KernelMlsIdeal.τ).loc Cert.KernelMlsIdeal.main_arg1) = m ((c.tc : Thread Cert.KernelMlsIdeal.nD Cert.KernelMlsIdeal.τ).loc Cert.KernelMlsIdeal.main_arg1)
          ∧ r.2.mem ((c.tc : Thread Cert.KernelMlsIdeal.nD Cert.KernelMlsIdeal.τ).loc Cert.KernelMlsIdeal.main_arg2) = m ((c.tc : Thread Cert.KernelMlsIdeal.nD Cert.KernelMlsIdeal.τ).loc Cert.KernelMlsIdeal.main_arg2)
          ∧ r.2.mem ((c.tc : Thread Cert.KernelMlsIdeal.nD Cert.KernelMlsIdeal.τ).loc Cert.KernelMlsIdeal.main_arg3) = m ((c.tc : Thread Cert.KernelMlsIdeal.nD Cert.KernelMlsIdeal.τ).loc Cert.KernelMlsIdeal.main_arg3)
          ∧ r.2.mem ((c.tc : Thread Cert.KernelMlsIdeal.nD Cert.KernelMlsIdeal.τ).loc Cert.KernelMlsIdeal.main_arg4) = m ((c.tc : Thread Cert.KernelMlsIdeal.nD Cert.KernelMlsIdeal.τ).loc Cert.KernelMlsIdeal.main_arg4)
          ∧ r.2.mem ((c.tc : Thread Cert.KernelMlsIdeal.nD Cert.KernelMlsIdeal.τ).loc Cert.KernelMlsIdeal.main_arg5) = m ((c.tc : Thread Cert.KernelMlsIdeal.nD Cert.KernelMlsIdeal.τ).loc Cert.KernelMlsIdeal.main_arg5)
          ∧ r.2.mem ((c.tc : Thread Cert.KernelMlsIdeal.nD Cert.KernelMlsIdeal.τ).loc Cert.KernelMlsIdeal.main_arg6) = m ((c.tc : Thread Cert.KernelMlsIdeal.nD Cert.KernelMlsIdeal.τ).loc Cert.KernelMlsIdeal.main_arg6)
          ∧ r.2.mem ((c.tc : Thread Cert.KernelMlsIdeal.nD Cert.KernelMlsIdeal.τ).loc Cert.KernelMlsIdeal.main_arg7) = m ((c.tc : Thread Cert.KernelMlsIdeal.nD Cert.KernelMlsIdeal.τ).loc Cert.KernelMlsIdeal.main_arg7))
      ∧ θ_run (Cert.ReferenceMlsIdeal.defs (F := Ideal)) (onTc (τ := Cert.ReferenceMlsIdeal.τ) (Cert.ReferenceMlsIdeal.main (F := Ideal))) ⟨m', fun _ => 0, g'⟩ (fun r => ∀ c : Dev Cert.ReferenceMlsIdeal.nD,
          r.2.mem ((c.tc : Thread Cert.ReferenceMlsIdeal.nD Cert.ReferenceMlsIdeal.τ).loc Cert.ReferenceMlsIdeal.main_v50) = v0 c
          ∧ r.2.mem ((c.tc : Thread Cert.ReferenceMlsIdeal.nD Cert.ReferenceMlsIdeal.τ).loc Cert.ReferenceMlsIdeal.main_v55) = v1 c
          ∧ r.2.mem ((c.tc : Thread Cert.ReferenceMlsIdeal.nD Cert.ReferenceMlsIdeal.τ).loc Cert.ReferenceMlsIdeal.main_v33) = v2 c
          ∧ r.2.mem ((c.tc : Thread Cert.ReferenceMlsIdeal.nD Cert.ReferenceMlsIdeal.τ).loc Cert.ReferenceMlsIdeal.main_arg0) = m' ((c.tc : Thread Cert.ReferenceMlsIdeal.nD Cert.ReferenceMlsIdeal.τ).loc Cert.ReferenceMlsIdeal.main_arg0)
          ∧ r.2.mem ((c.tc : Thread Cert.ReferenceMlsIdeal.nD Cert.ReferenceMlsIdeal.τ).loc Cert.ReferenceMlsIdeal.main_arg1) = m' ((c.tc : Thread Cert.ReferenceMlsIdeal.nD Cert.ReferenceMlsIdeal.τ).loc Cert.ReferenceMlsIdeal.main_arg1)
          ∧ r.2.mem ((c.tc : Thread Cert.ReferenceMlsIdeal.nD Cert.ReferenceMlsIdeal.τ).loc Cert.ReferenceMlsIdeal.main_arg2) = m' ((c.tc : Thread Cert.ReferenceMlsIdeal.nD Cert.ReferenceMlsIdeal.τ).loc Cert.ReferenceMlsIdeal.main_arg2)
          ∧ r.2.mem ((c.tc : Thread Cert.ReferenceMlsIdeal.nD Cert.ReferenceMlsIdeal.τ).loc Cert.ReferenceMlsIdeal.main_arg3) = m' ((c.tc : Thread Cert.ReferenceMlsIdeal.nD Cert.ReferenceMlsIdeal.τ).loc Cert.ReferenceMlsIdeal.main_arg3)
          ∧ r.2.mem ((c.tc : Thread Cert.ReferenceMlsIdeal.nD Cert.ReferenceMlsIdeal.τ).loc Cert.ReferenceMlsIdeal.main_arg4) = m' ((c.tc : Thread Cert.ReferenceMlsIdeal.nD Cert.ReferenceMlsIdeal.τ).loc Cert.ReferenceMlsIdeal.main_arg4)
          ∧ r.2.mem ((c.tc : Thread Cert.ReferenceMlsIdeal.nD Cert.ReferenceMlsIdeal.τ).loc Cert.ReferenceMlsIdeal.main_arg5) = m' ((c.tc : Thread Cert.ReferenceMlsIdeal.nD Cert.ReferenceMlsIdeal.τ).loc Cert.ReferenceMlsIdeal.main_arg5)
          ∧ r.2.mem ((c.tc : Thread Cert.ReferenceMlsIdeal.nD Cert.ReferenceMlsIdeal.τ).loc Cert.ReferenceMlsIdeal.main_arg6) = m' ((c.tc : Thread Cert.ReferenceMlsIdeal.nD Cert.ReferenceMlsIdeal.τ).loc Cert.ReferenceMlsIdeal.main_arg6)
          ∧ r.2.mem ((c.tc : Thread Cert.ReferenceMlsIdeal.nD Cert.ReferenceMlsIdeal.τ).loc Cert.ReferenceMlsIdeal.main_arg7) = m' ((c.tc : Thread Cert.ReferenceMlsIdeal.nD Cert.ReferenceMlsIdeal.τ).loc Cert.ReferenceMlsIdeal.main_arg7))

def Claim : Prop :=
  ∃ (hKernel : Cert.Kernel.Facts) (hKernelIdeal : Cert.KernelIdeal.Facts) (hReferenceIdeal : Cert.ReferenceIdeal.Facts) (hKernelZ : Cert.KernelZ.Facts) (hKernelZIdeal : Cert.KernelZIdeal.Facts) (hReferenceZIdeal : Cert.ReferenceZIdeal.Facts) (hKernelQb : Cert.KernelQb.Facts) (hKernelQbIdeal : Cert.KernelQbIdeal.Facts) (hReferenceQbIdeal : Cert.ReferenceQbIdeal.Facts) (hKernelKb : Cert.KernelKb.Facts) (hKernelKbIdeal : Cert.KernelKbIdeal.Facts) (hReferenceKbIdeal : Cert.ReferenceKbIdeal.Facts) (hKernelVb : Cert.KernelVb.Facts) (hKernelVbIdeal : Cert.KernelVbIdeal.Facts) (hReferenceVbIdeal : Cert.ReferenceVbIdeal.Facts) (hKernelQc : Cert.KernelQc.Facts) (hKernelQcIdeal : Cert.KernelQcIdeal.Facts) (hReferenceQcIdeal : Cert.ReferenceQcIdeal.Facts) (hKernelKc : Cert.KernelKc.Facts) (hKernelKcIdeal : Cert.KernelKcIdeal.Facts) (hReferenceKcIdeal : Cert.ReferenceKcIdeal.Facts) (hKernelVc : Cert.KernelVc.Facts) (hKernelVcIdeal : Cert.KernelVcIdeal.Facts) (hReferenceVcIdeal : Cert.ReferenceVcIdeal.Facts) (hKernelQi : Cert.KernelQi.Facts) (hKernelQiIdeal : Cert.KernelQiIdeal.Facts) (hReferenceQiIdeal : Cert.ReferenceQiIdeal.Facts) (hKernelKi : Cert.KernelKi.Facts) (hKernelKiIdeal : Cert.KernelKiIdeal.Facts) (hReferenceKiIdeal : Cert.ReferenceKiIdeal.Facts) (hKernelWi : Cert.KernelWi.Facts) (hKernelWiIdeal : Cert.KernelWiIdeal.Facts) (hReferenceWiIdeal : Cert.ReferenceWiIdeal.Facts) (hKernelQkd : Cert.KernelQkd.Facts) (hKernelQkdIdeal : Cert.KernelQkdIdeal.Facts) (hReferenceQkdIdeal : Cert.ReferenceQkdIdeal.Facts) (hKernelVgd : Cert.KernelVgd.Facts) (hKernelVgdIdeal : Cert.KernelVgdIdeal.Facts) (hReferenceVgdIdeal : Cert.ReferenceVgdIdeal.Facts) (hKernelKbs : Cert.KernelKbs.Facts) (hKernelKbsIdeal : Cert.KernelKbsIdeal.Facts) (hReferenceKbsIdeal : Cert.ReferenceKbsIdeal.Facts) (hKernelVbs : Cert.KernelVbs.Facts) (hKernelVbsIdeal : Cert.KernelVbsIdeal.Facts) (hReferenceVbsIdeal : Cert.ReferenceVbsIdeal.Facts) (hKernelKcs : Cert.KernelKcs.Facts) (hKernelKcsIdeal : Cert.KernelKcsIdeal.Facts) (hReferenceKcsIdeal : Cert.ReferenceKcsIdeal.Facts) (hKernelVcs : Cert.KernelVcs.Facts) (hKernelVcsIdeal : Cert.KernelVcsIdeal.Facts) (hReferenceVcsIdeal : Cert.ReferenceVcsIdeal.Facts) (hKernelKis : Cert.KernelKis.Facts) (hKernelKisIdeal : Cert.KernelKisIdeal.Facts) (hReferenceKisIdeal : Cert.ReferenceKisIdeal.Facts) (hKernelLg : Cert.KernelLg.Facts) (hKernelLgIdeal : Cert.KernelLgIdeal.Facts) (hReferenceLgIdeal : Cert.ReferenceLgIdeal.Facts) (hKernelPln : Cert.KernelPln.Facts) (hKernelPlnIdeal : Cert.KernelPlnIdeal.Facts) (hReferencePlnIdeal : Cert.ReferencePlnIdeal.Facts) (hKernelRets : Cert.KernelRets.Facts) (hKernelRetsIdeal : Cert.KernelRetsIdeal.Facts) (hReferenceRetsIdeal : Cert.ReferenceRetsIdeal.Facts) (hKernelMls : Cert.KernelMls.Facts) (hKernelMlsIdeal : Cert.KernelMlsIdeal.Facts) (hReferenceMlsIdeal : Cert.ReferenceMlsIdeal.Facts),
    quiescent_Kernel (hKernel := hKernel)
    ∧ quiescent_KernelIdeal (hKernelIdeal := hKernelIdeal)
    ∧ quiescent_ReferenceIdeal (hReferenceIdeal := hReferenceIdeal)
    ∧ quiescent_KernelZ (hKernelZ := hKernelZ)
    ∧ quiescent_KernelZIdeal (hKernelZIdeal := hKernelZIdeal)
    ∧ quiescent_ReferenceZIdeal (hReferenceZIdeal := hReferenceZIdeal)
    ∧ quiescent_KernelQb (hKernelQb := hKernelQb)
    ∧ quiescent_KernelQbIdeal (hKernelQbIdeal := hKernelQbIdeal)
    ∧ quiescent_ReferenceQbIdeal (hReferenceQbIdeal := hReferenceQbIdeal)
    ∧ quiescent_KernelKb (hKernelKb := hKernelKb)
    ∧ quiescent_KernelKbIdeal (hKernelKbIdeal := hKernelKbIdeal)
    ∧ quiescent_ReferenceKbIdeal (hReferenceKbIdeal := hReferenceKbIdeal)
    ∧ quiescent_KernelVb (hKernelVb := hKernelVb)
    ∧ quiescent_KernelVbIdeal (hKernelVbIdeal := hKernelVbIdeal)
    ∧ quiescent_ReferenceVbIdeal (hReferenceVbIdeal := hReferenceVbIdeal)
    ∧ quiescent_KernelQc (hKernelQc := hKernelQc)
    ∧ quiescent_KernelQcIdeal (hKernelQcIdeal := hKernelQcIdeal)
    ∧ quiescent_ReferenceQcIdeal (hReferenceQcIdeal := hReferenceQcIdeal)
    ∧ quiescent_KernelKc (hKernelKc := hKernelKc)
    ∧ quiescent_KernelKcIdeal (hKernelKcIdeal := hKernelKcIdeal)
    ∧ quiescent_ReferenceKcIdeal (hReferenceKcIdeal := hReferenceKcIdeal)
    ∧ quiescent_KernelVc (hKernelVc := hKernelVc)
    ∧ quiescent_KernelVcIdeal (hKernelVcIdeal := hKernelVcIdeal)
    ∧ quiescent_ReferenceVcIdeal (hReferenceVcIdeal := hReferenceVcIdeal)
    ∧ quiescent_KernelQi (hKernelQi := hKernelQi)
    ∧ quiescent_KernelQiIdeal (hKernelQiIdeal := hKernelQiIdeal)
    ∧ quiescent_ReferenceQiIdeal (hReferenceQiIdeal := hReferenceQiIdeal)
    ∧ quiescent_KernelKi (hKernelKi := hKernelKi)
    ∧ quiescent_KernelKiIdeal (hKernelKiIdeal := hKernelKiIdeal)
    ∧ quiescent_ReferenceKiIdeal (hReferenceKiIdeal := hReferenceKiIdeal)
    ∧ quiescent_KernelWi (hKernelWi := hKernelWi)
    ∧ quiescent_KernelWiIdeal (hKernelWiIdeal := hKernelWiIdeal)
    ∧ quiescent_ReferenceWiIdeal (hReferenceWiIdeal := hReferenceWiIdeal)
    ∧ quiescent_KernelQkd (hKernelQkd := hKernelQkd)
    ∧ quiescent_KernelQkdIdeal (hKernelQkdIdeal := hKernelQkdIdeal)
    ∧ quiescent_ReferenceQkdIdeal (hReferenceQkdIdeal := hReferenceQkdIdeal)
    ∧ quiescent_KernelVgd (hKernelVgd := hKernelVgd)
    ∧ quiescent_KernelVgdIdeal (hKernelVgdIdeal := hKernelVgdIdeal)
    ∧ quiescent_ReferenceVgdIdeal (hReferenceVgdIdeal := hReferenceVgdIdeal)
    ∧ quiescent_KernelKbs (hKernelKbs := hKernelKbs)
    ∧ quiescent_KernelKbsIdeal (hKernelKbsIdeal := hKernelKbsIdeal)
    ∧ quiescent_ReferenceKbsIdeal (hReferenceKbsIdeal := hReferenceKbsIdeal)
    ∧ quiescent_KernelVbs (hKernelVbs := hKernelVbs)
    ∧ quiescent_KernelVbsIdeal (hKernelVbsIdeal := hKernelVbsIdeal)
    ∧ quiescent_ReferenceVbsIdeal (hReferenceVbsIdeal := hReferenceVbsIdeal)
    ∧ quiescent_KernelKcs (hKernelKcs := hKernelKcs)
    ∧ quiescent_KernelKcsIdeal (hKernelKcsIdeal := hKernelKcsIdeal)
    ∧ quiescent_ReferenceKcsIdeal (hReferenceKcsIdeal := hReferenceKcsIdeal)
    ∧ quiescent_KernelVcs (hKernelVcs := hKernelVcs)
    ∧ quiescent_KernelVcsIdeal (hKernelVcsIdeal := hKernelVcsIdeal)
    ∧ quiescent_ReferenceVcsIdeal (hReferenceVcsIdeal := hReferenceVcsIdeal)
    ∧ quiescent_KernelKis (hKernelKis := hKernelKis)
    ∧ quiescent_KernelKisIdeal (hKernelKisIdeal := hKernelKisIdeal)
    ∧ quiescent_ReferenceKisIdeal (hReferenceKisIdeal := hReferenceKisIdeal)
    ∧ quiescent_KernelLg (hKernelLg := hKernelLg)
    ∧ quiescent_KernelLgIdeal (hKernelLgIdeal := hKernelLgIdeal)
    ∧ quiescent_ReferenceLgIdeal (hReferenceLgIdeal := hReferenceLgIdeal)
    ∧ quiescent_KernelPln (hKernelPln := hKernelPln)
    ∧ quiescent_KernelPlnIdeal (hKernelPlnIdeal := hKernelPlnIdeal)
    ∧ quiescent_ReferencePlnIdeal (hReferencePlnIdeal := hReferencePlnIdeal)
    ∧ quiescent_KernelRets (hKernelRets := hKernelRets)
    ∧ quiescent_KernelRetsIdeal (hKernelRetsIdeal := hKernelRetsIdeal)
    ∧ quiescent_ReferenceRetsIdeal (hReferenceRetsIdeal := hReferenceRetsIdeal)
    ∧ quiescent_KernelMls (hKernelMls := hKernelMls)
    ∧ quiescent_KernelMlsIdeal (hKernelMlsIdeal := hKernelMlsIdeal)
    ∧ quiescent_ReferenceMlsIdeal (hReferenceMlsIdeal := hReferenceMlsIdeal)
    ∧ preserves_Kernel_KernelIdeal
    ∧ algebraic_KernelIdeal_ReferenceIdeal (hKernelIdeal := hKernelIdeal) (hReferenceIdeal := hReferenceIdeal)
    ∧ preserves_KernelZ_KernelZIdeal
    ∧ algebraic_KernelZIdeal_ReferenceZIdeal (hKernelZIdeal := hKernelZIdeal) (hReferenceZIdeal := hReferenceZIdeal)
    ∧ preserves_KernelQb_KernelQbIdeal
    ∧ algebraic_KernelQbIdeal_ReferenceQbIdeal (hKernelQbIdeal := hKernelQbIdeal) (hReferenceQbIdeal := hReferenceQbIdeal)
    ∧ preserves_KernelKb_KernelKbIdeal
    ∧ algebraic_KernelKbIdeal_ReferenceKbIdeal (hKernelKbIdeal := hKernelKbIdeal) (hReferenceKbIdeal := hReferenceKbIdeal)
    ∧ preserves_KernelVb_KernelVbIdeal
    ∧ algebraic_KernelVbIdeal_ReferenceVbIdeal (hKernelVbIdeal := hKernelVbIdeal) (hReferenceVbIdeal := hReferenceVbIdeal)
    ∧ preserves_KernelQc_KernelQcIdeal
    ∧ algebraic_KernelQcIdeal_ReferenceQcIdeal (hKernelQcIdeal := hKernelQcIdeal) (hReferenceQcIdeal := hReferenceQcIdeal)
    ∧ preserves_KernelKc_KernelKcIdeal
    ∧ algebraic_KernelKcIdeal_ReferenceKcIdeal (hKernelKcIdeal := hKernelKcIdeal) (hReferenceKcIdeal := hReferenceKcIdeal)
    ∧ preserves_KernelVc_KernelVcIdeal
    ∧ algebraic_KernelVcIdeal_ReferenceVcIdeal (hKernelVcIdeal := hKernelVcIdeal) (hReferenceVcIdeal := hReferenceVcIdeal)
    ∧ preserves_KernelQi_KernelQiIdeal
    ∧ algebraic_KernelQiIdeal_ReferenceQiIdeal (hKernelQiIdeal := hKernelQiIdeal) (hReferenceQiIdeal := hReferenceQiIdeal)
    ∧ preserves_KernelKi_KernelKiIdeal
    ∧ algebraic_KernelKiIdeal_ReferenceKiIdeal (hKernelKiIdeal := hKernelKiIdeal) (hReferenceKiIdeal := hReferenceKiIdeal)
    ∧ preserves_KernelWi_KernelWiIdeal
    ∧ algebraic_KernelWiIdeal_ReferenceWiIdeal (hKernelWiIdeal := hKernelWiIdeal) (hReferenceWiIdeal := hReferenceWiIdeal)
    ∧ preserves_KernelQkd_KernelQkdIdeal
    ∧ algebraic_KernelQkdIdeal_ReferenceQkdIdeal (hKernelQkdIdeal := hKernelQkdIdeal) (hReferenceQkdIdeal := hReferenceQkdIdeal)
    ∧ preserves_KernelVgd_KernelVgdIdeal
    ∧ algebraic_KernelVgdIdeal_ReferenceVgdIdeal (hKernelVgdIdeal := hKernelVgdIdeal) (hReferenceVgdIdeal := hReferenceVgdIdeal)
    ∧ preserves_KernelKbs_KernelKbsIdeal
    ∧ algebraic_KernelKbsIdeal_ReferenceKbsIdeal (hKernelKbsIdeal := hKernelKbsIdeal) (hReferenceKbsIdeal := hReferenceKbsIdeal)
    ∧ preserves_KernelVbs_KernelVbsIdeal
    ∧ algebraic_KernelVbsIdeal_ReferenceVbsIdeal (hKernelVbsIdeal := hKernelVbsIdeal) (hReferenceVbsIdeal := hReferenceVbsIdeal)
    ∧ preserves_KernelKcs_KernelKcsIdeal
    ∧ algebraic_KernelKcsIdeal_ReferenceKcsIdeal (hKernelKcsIdeal := hKernelKcsIdeal) (hReferenceKcsIdeal := hReferenceKcsIdeal)
    ∧ preserves_KernelVcs_KernelVcsIdeal
    ∧ algebraic_KernelVcsIdeal_ReferenceVcsIdeal (hKernelVcsIdeal := hKernelVcsIdeal) (hReferenceVcsIdeal := hReferenceVcsIdeal)
    ∧ preserves_KernelKis_KernelKisIdeal
    ∧ algebraic_KernelKisIdeal_ReferenceKisIdeal (hKernelKisIdeal := hKernelKisIdeal) (hReferenceKisIdeal := hReferenceKisIdeal)
    ∧ preserves_KernelLg_KernelLgIdeal
    ∧ algebraic_KernelLgIdeal_ReferenceLgIdeal (hKernelLgIdeal := hKernelLgIdeal) (hReferenceLgIdeal := hReferenceLgIdeal)
    ∧ preserves_KernelPln_KernelPlnIdeal
    ∧ algebraic_KernelPlnIdeal_ReferencePlnIdeal (hKernelPlnIdeal := hKernelPlnIdeal) (hReferencePlnIdeal := hReferencePlnIdeal)
    ∧ preserves_KernelRets_KernelRetsIdeal
    ∧ algebraic_KernelRetsIdeal_ReferenceRetsIdeal (hKernelRetsIdeal := hKernelRetsIdeal) (hReferenceRetsIdeal := hReferenceRetsIdeal)
    ∧ preserves_KernelMls_KernelMlsIdeal
    ∧ algebraic_KernelMlsIdeal_ReferenceMlsIdeal (hKernelMlsIdeal := hKernelMlsIdeal) (hReferenceMlsIdeal := hReferenceMlsIdeal)
-- ==== Kernel.lean ====
abbrev S2x4096x1024 : Shape := ⟨3, ![2, 4096, 1024]⟩
abbrev S2x4096x2048 : Shape := ⟨3, ![2, 4096, 2048]⟩
abbrev S4x256 : Shape := ⟨2, ![4, 256]⟩
abbrev S4 : Shape := ⟨1, ![4]⟩
abbrev S_ : Shape := ⟨0, ![]⟩
abbrev S2x4x128x256 : Shape := ⟨4, ![2, 4, 128, 256]⟩
abbrev S4x1x1 : Shape := ⟨3, ![4, 1, 1]⟩
abbrev S4x1x256 : Shape := ⟨3, ![4, 1, 256]⟩
abbrev S1x128x512 : Shape := ⟨3, ![1, 128, 512]⟩
abbrev S1x128x1024 : Shape := ⟨3, ![1, 128, 1024]⟩
abbrev S1x4x128x256 : Shape := ⟨4, ![1, 4, 128, 256]⟩
abbrev S4x128x256 : Shape := ⟨3, ![4, 128, 256]⟩
abbrev S128x1 : Shape := ⟨2, ![128, 1]⟩
abbrev S128x128 : Shape := ⟨2, ![128, 128]⟩
abbrev S1x128x128 : Shape := ⟨3, ![1, 128, 128]⟩
abbrev S1x128x256 : Shape := ⟨3, ![1, 128, 256]⟩
abbrev S128x256 : Shape := ⟨2, ![128, 256]⟩
abbrev S1x1x1 : Shape := ⟨3, ![1, 1, 1]⟩
abbrev S1x1 : Shape := ⟨2, ![1, 1]⟩
abbrev S1x1x256 : Shape := ⟨3, ![1, 1, 256]⟩
abbrev S1x256 : Shape := ⟨2, ![1, 256]⟩
abbrev S128 : Shape := ⟨1, ![128]⟩

abbrev nBuf : Space → Nat
  | .hbm => 20
  | .vmem => 17
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2048, .f32⟩
  | .hbm, ⟨2, _⟩ => ⟨S4x256, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S2x4x128x256, .f32⟩
  | .hbm, ⟨16, _⟩ => ⟨S4x1x1, .f32⟩
  | .hbm, ⟨17, _⟩ => ⟨S4x1x256, .f32⟩
  | .hbm, ⟨18, _⟩ => ⟨S2x4096x1024, .bf16⟩
  | .hbm, ⟨19, _⟩ => ⟨S2x4x128x256, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S4x1x1, .f32⟩
  | .local _ .vmem, ⟨9, _⟩ => ⟨S4x1x256, .f32⟩
  | .local _ .vmem, ⟨10, _⟩ => ⟨S1x4x128x256, .f32⟩
  | .local _ .vmem, ⟨11, _⟩ => ⟨S1x4x128x256, .f32⟩
  | .local _ .vmem, ⟨12, _⟩ => ⟨S1x128x1024, .bf16⟩
  | .local _ .vmem, ⟨13, _⟩ => ⟨S1x128x1024, .bf16⟩
  | .local _ .vmem, ⟨14, _⟩ => ⟨S1x4x128x256, .f32⟩
  | .local _ .vmem, ⟨15, _⟩ => ⟨S1x4x128x256, .f32⟩
  | .local _ .vmem, ⟨16, _⟩ => ⟨S4x128x256, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v395 : BitVec 1 := Scalar.cmpi .eq arg1 c31_i32
  let v396 : BitVec 32 := Scalar.extui v395
  let c0_i32_180 : BitVec 32 := 0#32
  let v397 : BitVec 1 := Scalar.cmpi .ne v396 c0_i32_180
  v397

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2x4096x1024 : Shape := ⟨3, ![2, 4096, 1024]⟩
abbrev S2x4096x2048 : Shape := ⟨3, ![2, 4096, 2048]⟩
abbrev S4x256 : Shape := ⟨2, ![4, 256]⟩
abbrev S2x4096x512 : Shape := ⟨3, ![2, 4096, 512]⟩
abbrev S2x4096x4x128 : Shape := ⟨4, ![2, 4096, 4, 128]⟩
abbrev S_ : Shape := ⟨0, ![]⟩
abbrev S2x4096x4x256 : Shape := ⟨4, ![2, 4096, 4, 256]⟩
abbrev S4 : Shape := ⟨1, ![4]⟩
abbrev S2x4x128x256 : Shape := ⟨4, ![2, 4, 128, 256]⟩
abbrev S2x32x128x4x128 : Shape := ⟨5, ![2, 32, 128, 4, 128]⟩
abbrev S32x2x4x128x128 : Shape := ⟨5, ![32, 2, 4, 128, 128]⟩
abbrev S2x32x128x4x256 : Shape := ⟨5, ![2, 32, 128, 4, 256]⟩
abbrev S32x2x4x128x256 : Shape := ⟨5, ![32, 2, 4, 128, 256]⟩
abbrev S1x2x4x128x128 : Shape := ⟨5, ![1, 2, 4, 128, 128]⟩
abbrev S2x4x128x128 : Shape := ⟨4, ![2, 4, 128, 128]⟩
abbrev S1x2x4x128x256 : Shape := ⟨5, ![1, 2, 4, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x128x128 : Shape := ⟨4, ![1, 4, 128, 128]⟩
abbrev S4x1 : Shape := ⟨2, ![4, 1]⟩
abbrev S4x128 : Shape := ⟨2, ![4, 128]⟩
abbrev S4x128x1 : Shape := ⟨3, ![4, 128, 1]⟩
abbrev S1x4x128x1 : Shape := ⟨4, ![1, 4, 128, 1]⟩
abbrev S1x4x1x1 : Shape := ⟨4, ![1, 4, 1, 1]⟩
abbrev S2x4096x4 : Shape := ⟨3, ![2, 4096, 4]⟩
abbrev S2x4096x4x1 : Shape := ⟨4, ![2, 4096, 4, 1]⟩
abbrev S1x1x4x256 : Shape := ⟨4, ![1, 1, 4, 256]⟩

abbrev nBuf : Space → Nat
  | .hbm => 178
  | .vmem => 0
  | .smem => 0
  | _ => 0

abbrev hbmTy0_0 (i : Nat) : BufTy := match i % 128 with
  | 0 => ⟨S2x4096x1024, .f32⟩
  | 1 => ⟨S2x4096x2048, .f32⟩
  | 2 => ⟨S4x256, .f32⟩
  | 3 => ⟨S2x4096x512, .f32⟩
  | 4 => ⟨S2x4096x512, .f32⟩
  | 5 => ⟨S2x4096x1024, .f32⟩
  | 6 => ⟨S2x4096x4x128, .f32⟩
  | 7 => ⟨S2x4096x4x128, .f32⟩
  | 8 => ⟨S_, .f32⟩
  | 9 => ⟨S2x4096x4x128, .f32⟩
  | 10 => ⟨S2x4096x4x128, .f32⟩
  | 11 => ⟨S2x4096x4x256, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S_, .f32⟩
  | 24 => ⟨S2x4x128x256, .f32⟩
  | 25 => ⟨S2x32x128x4x128, .f32⟩
  | 26 => ⟨S32x2x4x128x128, .f32⟩
  | 27 => ⟨S2x32x128x4x128, .f32⟩
  | 28 => ⟨S32x2x4x128x128, .f32⟩
  | 29 => ⟨S2x32x128x4x256, .f32⟩
  | 30 => ⟨S32x2x4x128x256, .f32⟩
  | 31 => ⟨S_, .f32⟩
  | 32 => ⟨S32x2x4x128x256, .f32⟩
  | 33 => ⟨S_, .i32⟩
  | 34 => ⟨S32x2x4x128x128, .f32⟩
  | 35 => ⟨S32x2x4x128x128, .f32⟩
  | 36 => ⟨S32x2x4x128x256, .f32⟩
  | 37 => ⟨S4, .f32⟩
  | 38 => ⟨S_, .i32⟩
  | 39 => ⟨S2x4x128x256, .f32⟩
  | 40 => ⟨S32x2x4x128x256, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S1x2x4x128x128, .f32⟩
  | 48 => ⟨S2x4x128x128, .f32⟩
  | 49 => ⟨S_, .i32⟩
  | 50 => ⟨S_, .i32⟩
  | 51 => ⟨S_, .i32⟩
  | 52 => ⟨S_, .i32⟩
  | 53 => ⟨S1x2x4x128x128, .f32⟩
  | 54 => ⟨S2x4x128x128, .f32⟩
  | 55 => ⟨S_, .i32⟩
  | 56 => ⟨S_, .i32⟩
  | 57 => ⟨S_, .i32⟩
  | 58 => ⟨S_, .i32⟩
  | 59 => ⟨S1x2x4x128x256, .f32⟩
  | 60 => ⟨S2x4x128x256, .f32⟩
  | 61 => ⟨S128, .f32⟩
  | 62 => ⟨S128x1, .f32⟩
  | 63 => ⟨S1x128, .f32⟩
  | 64 => ⟨S128x128, .f32⟩
  | 65 => ⟨S128x128, .f32⟩
  | 66 => ⟨S128x128, .f32⟩
  | 67 => ⟨S_, .f32⟩
  | 68 => ⟨S128x128, .f32⟩
  | 69 => ⟨S128x128, .i1⟩
  | 70 => ⟨S4x1x1, .f32⟩
  | 71 => ⟨S_, .f32⟩
  | 72 => ⟨S_, .f32⟩
  | 73 => ⟨S128x128, .f32⟩
  | 74 => ⟨S128x128, .f32⟩
  | 75 => ⟨S1x128x128, .f32⟩
  | 76 => ⟨S4x128x128, .f32⟩
  | 77 => ⟨S4x128x128, .f32⟩
  | 78 => ⟨S4x128x128, .f32⟩
  | 79 => ⟨S4x128x128, .f32⟩
  | 80 => ⟨S_, .f32⟩
  | 81 => ⟨S_, .f32⟩
  | 82 => ⟨S4x128x128, .i1⟩
  | 83 => ⟨S4x128x128, .f32⟩
  | 84 => ⟨S4x128x128, .f32⟩
  | 85 => ⟨S2x4x128x128, .f32⟩
  | 86 => ⟨S1x4x128x128, .f32⟩
  | 87 => ⟨S2x4x128x128, .f32⟩
  | 88 => ⟨S2x4x128x128, .f32⟩
  | 89 => ⟨S2x4x128x256, .f32⟩
  | 90 => ⟨S_, .f32⟩
  | 91 => ⟨S128, .f32⟩
  | 92 => ⟨S128, .f32⟩
  | 93 => ⟨S4x1, .f32⟩
  | 94 => ⟨S1x128, .f32⟩
  | 95 => ⟨S4x128, .f32⟩
  | 96 => ⟨S4x128, .f32⟩
  | 97 => ⟨S4x128, .f32⟩
  | 98 => ⟨S4x128, .f32⟩
  | 99 => ⟨S4x128x1, .f32⟩
  | 100 => ⟨S2x4x128x256, .f32⟩
  | 101 => ⟨S1x4x128x1, .f32⟩
  | 102 => ⟨S2x4x128x256, .f32⟩
  | 103 => ⟨S2x4x128x256, .f32⟩
  | 104 => ⟨S2x4x128x256, .f32⟩
  | 105 => ⟨S_, .f32⟩
  | 106 => ⟨S128, .f32⟩
  | 107 => ⟨S128, .f32⟩
  | 108 => ⟨S4x1, .f32⟩
  | 109 => ⟨S1x128, .f32⟩
  | 110 => ⟨S4x128, .f32⟩
  | 111 => ⟨S4x128, .f32⟩
  | 112 => ⟨S4x128, .f32⟩
  | 113 => ⟨S4x128, .f32⟩
  | 114 => ⟨S_, .f32⟩
  | 115 => ⟨S4, .f32⟩
  | 116 => ⟨S4, .f32⟩
  | 117 => ⟨S4, .f32⟩
  | 118 => ⟨S4x1x1, .f32⟩
  | 119 => ⟨S1x4x1x1, .f32⟩
  | 120 => ⟨S2x4x128x256, .f32⟩
  | 121 => ⟨S2x4x128x256, .f32⟩
  | 122 => ⟨S4x128x1, .f32⟩
  | 123 => ⟨S1x4x128x1, .f32⟩
  | 124 => ⟨S2x4x128x128, .f32⟩
  | 125 => ⟨S2x4x128x128, .f32⟩
  | 126 => ⟨S2x4x128x256, .f32⟩
  | 127 => ⟨S2x4x128x256, .f32⟩
  | _ => ⟨S2x4096x1024, .f32⟩

abbrev hbmTy0_1 (i : Nat) : BufTy := match i % 128 with
  | 0 => ⟨S1x2x4x128x256, .f32⟩
  | 1 => ⟨S_, .i32⟩
  | 2 => ⟨S_, .i32⟩
  | 3 => ⟨S_, .i32⟩
  | 4 => ⟨S_, .i32⟩
  | 5 => ⟨S32x2x4x128x256, .f32⟩
  | 6 => ⟨S_, .i32⟩
  | 7 => ⟨S_, .i32⟩
  | 8 => ⟨S2x4096x1024, .f32⟩
  | 9 => ⟨S2x32x128x4x256, .f32⟩
  | 10 => ⟨S2x4096x4x256, .f32⟩
  | 11 => ⟨S_, .f32⟩
  | 12 => ⟨S2x4096x4, .f32⟩
  | 13 => ⟨S2x4096x4x1, .f32⟩
  | 14 => ⟨S_, .f32⟩
  | 15 => ⟨S2x4096x4x1, .f32⟩
  | 16 => ⟨S2x4096x4x1, .f32⟩
  | 17 => ⟨S2x4096x4x256, .f32⟩
  | 18 => ⟨S2x4096x4x256, .f32⟩
  | 19 => ⟨S2x4096x4x256, .f32⟩
  | 20 => ⟨S_, .f32⟩
  | 21 => ⟨S2x4096x4, .f32⟩
  | 22 => ⟨S2x4096x4x1, .f32⟩
  | 23 => ⟨S_, .f32⟩
  | 24 => ⟨S2x4096x4x1, .f32⟩
  | 25 => ⟨S2x4096x4x1, .f32⟩
  | 26 => ⟨S2x4096x4x256, .f32⟩
  | 27 => ⟨S2x4096x4x256, .f32⟩
  | 28 => ⟨S_, .f32⟩
  | 29 => ⟨S2x4096x4x1, .f32⟩
  | 30 => ⟨S2x4096x4x1, .f32⟩
  | 31 => ⟨S2x4096x4x1, .f32⟩
  | 32 => ⟨S2x4096x4x256, .f32⟩
  | 33 => ⟨S2x4096x4x256, .f32⟩
  | 34 => ⟨S1x1x4x256, .f32⟩
  | 35 => ⟨S2x4096x4x256, .f32⟩
  | 36 => ⟨S2x4096x4x256, .f32⟩
  | 37 => ⟨S2x4096x4x256, .f32⟩
  | 38 => ⟨S2x4096x4x256, .f32⟩
  | 39 => ⟨S2x4096x4x256, .f32⟩
  | 40 => ⟨S_, .f32⟩
  | 41 => ⟨S2x4096x4x256, .f32⟩
  | 42 => ⟨S2x4096x4x256, .f32⟩
  | 43 => ⟨S_, .f32⟩
  | 44 => ⟨S2x4096x4x256, .f32⟩
  | 45 => ⟨S2x4096x4x256, .f32⟩
  | 46 => ⟨S2x4096x4x256, .f32⟩
  | 47 => ⟨S2x4096x4x256, .f32⟩
  | 48 => ⟨S2x4096x1024, .f32⟩
  | 49 => ⟨S2x4096x1024, .bf16⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_c : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_v24_5 : Ref sig .tc := ⟨.hbm, 39, rfl⟩
abbrev main_v24_6 : Ref sig .tc := ⟨.hbm, 40, rfl⟩
abbrev main_while0c_c_16 : Ref sig .tc := ⟨.hbm, 41, rfl⟩
abbrev main_while0c_v54 : Ref sig .tc := ⟨.hbm, 42, rfl⟩
abbrev main_while0b_call0_c : Ref sig .tc := ⟨.hbm, 43, rfl⟩
abbrev main_while0b_call0_c_0 : Ref sig .tc := ⟨.hbm, 44, rfl⟩
abbrev main_while0b_call0_c_1 : Ref sig .tc := ⟨.hbm, 45, rfl⟩
abbrev main_while0b_call0_c_2 : Ref sig .tc := ⟨.hbm, 46, rfl⟩
abbrev main_while0b_call0_v0 : Ref sig .tc := ⟨.hbm, 47, rfl⟩
abbrev main_while0b_v54 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_c_2 : Ref sig .tc := ⟨.hbm, 52, rfl⟩
abbrev main_while0b_call1_v0 : Ref sig .tc := ⟨.hbm, 53, rfl⟩
abbrev main_while0b_v55 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_c_2 : Ref sig .tc := ⟨.hbm, 58, rfl⟩
abbrev main_while0b_call2_v0 : Ref sig .tc := ⟨.hbm, 59, rfl⟩
abbrev main_while0b_v56 : Ref sig .tc := ⟨.hbm, 60, rfl⟩
abbrev main_while0b_v57 : Ref sig .tc := ⟨.hbm, 61, rfl⟩
abbrev main_while0b_v58 : Ref sig .tc := ⟨.hbm, 62, rfl⟩
abbrev main_while0b_v59 : Ref sig .tc := ⟨.hbm, 63, rfl⟩
abbrev main_while0b_v60 : Ref sig .tc := ⟨.hbm, 64, rfl⟩
abbrev main_while0b_v61 : Ref sig .tc := ⟨.hbm, 65, rfl⟩
abbrev main_while0b_v62 : Ref sig .tc := ⟨.hbm, 66, rfl⟩
abbrev main_while0b_cst_16 : Ref sig .tc := ⟨.hbm, 67, rfl⟩
abbrev main_while0b_v63 : Ref sig .tc := ⟨.hbm, 68, rfl⟩
abbrev main_while0b_v64 : Ref sig .tc := ⟨.hbm, 69, rfl⟩
abbrev main_while0b_v65 : Ref sig .tc := ⟨.hbm, 70, rfl⟩
abbrev main_while0b_cst_17 : Ref sig .tc := ⟨.hbm, 71, rfl⟩
abbrev main_while0b_call3_v0 : Ref sig .tc := ⟨.hbm, 72, rfl⟩
abbrev main_while0b_call3_v1 : Ref sig .tc := ⟨.hbm, 73, rfl⟩
abbrev main_while0b_v66 : Ref sig .tc := ⟨.hbm, 74, rfl⟩
abbrev main_while0b_v67 : Ref sig .tc := ⟨.hbm, 75, rfl⟩
abbrev main_while0b_v68 : Ref sig .tc := ⟨.hbm, 76, rfl⟩
abbrev main_while0b_v69 : Ref sig .tc := ⟨.hbm, 77, rfl⟩
abbrev main_while0b_v70 : Ref sig .tc := ⟨.hbm, 78, rfl⟩
abbrev main_while0b_v71 : Ref sig .tc := ⟨.hbm, 79, rfl⟩
abbrev main_while0b_cst_18 : Ref sig .tc := ⟨.hbm, 80, rfl⟩
abbrev main_while0b_call4_v0 : Ref sig .tc := ⟨.hbm, 81, rfl⟩
abbrev main_while0b_call4_v1 : Ref sig .tc := ⟨.hbm, 82, rfl⟩
abbrev main_while0b_call4_v2 : Ref sig .tc := ⟨.hbm, 83, rfl⟩
abbrev main_while0b_v72 : Ref sig .tc := ⟨.hbm, 84, rfl⟩
abbrev main_while0b_v73 : Ref sig .tc := ⟨.hbm, 85, rfl⟩
abbrev main_while0b_v74 : Ref sig .tc := ⟨.hbm, 86, rfl⟩
abbrev main_while0b_v75 : Ref sig .tc := ⟨.hbm, 87, rfl⟩
abbrev main_while0b_v76 : Ref sig .tc := ⟨.hbm, 88, rfl⟩
abbrev main_while0b_v77 : Ref sig .tc := ⟨.hbm, 89, rfl⟩
abbrev main_while0b_cst_19 : Ref sig .tc := ⟨.hbm, 90, rfl⟩
abbrev main_while0b_v78 : Ref sig .tc := ⟨.hbm, 91, rfl⟩
abbrev main_while0b_v79 : Ref sig .tc := ⟨.hbm, 92, rfl⟩
abbrev main_while0b_v80 : Ref sig .tc := ⟨.hbm, 93, rfl⟩
abbrev main_while0b_v81 : Ref sig .tc := ⟨.hbm, 94, rfl⟩
abbrev main_while0b_v82 : Ref sig .tc := ⟨.hbm, 95, rfl⟩
abbrev main_while0b_v83 : Ref sig .tc := ⟨.hbm, 96, rfl⟩
abbrev main_while0b_v84 : Ref sig .tc := ⟨.hbm, 97, rfl⟩
abbrev main_while0b_v85 : Ref sig .tc := ⟨.hbm, 98, rfl⟩
abbrev main_while0b_v86 : Ref sig .tc := ⟨.hbm, 99, rfl⟩
abbrev main_while0b_v87 : Ref sig .tc := ⟨.hbm, 100, rfl⟩
abbrev main_while0b_v88 : Ref sig .tc := ⟨.hbm, 101, rfl⟩
abbrev main_while0b_v89 : Ref sig .tc := ⟨.hbm, 102, rfl⟩
abbrev main_while0b_v90 : Ref sig .tc := ⟨.hbm, 103, rfl⟩
abbrev main_while0b_v91 : Ref sig .tc := ⟨.hbm, 104, rfl⟩
abbrev main_while0b_cst_20 : Ref sig .tc := ⟨.hbm, 105, rfl⟩
abbrev main_while0b_v92 : Ref sig .tc := ⟨.hbm, 106, rfl⟩
abbrev main_while0b_v93 : Ref sig .tc := ⟨.hbm, 107, rfl⟩
abbrev main_while0b_v94 : Ref sig .tc := ⟨.hbm, 108, rfl⟩
abbrev main_while0b_v95 : Ref sig .tc := ⟨.hbm, 109, rfl⟩
abbrev main_while0b_v96 : Ref sig .tc := ⟨.hbm, 110, rfl⟩
abbrev main_while0b_v97 : Ref sig .tc := ⟨.hbm, 111, rfl⟩
abbrev main_while0b_v98 : Ref sig .tc := ⟨.hbm, 112, rfl⟩
abbrev main_while0b_v99 : Ref sig .tc := ⟨.hbm, 113, rfl⟩
abbrev main_while0b_cst_21 : Ref sig .tc := ⟨.hbm, 114, rfl⟩
abbrev main_while0b_v100 : Ref sig .tc := ⟨.hbm, 115, rfl⟩
abbrev main_while0b_v101 : Ref sig .tc := ⟨.hbm, 116, rfl⟩
abbrev main_while0b_v102 : Ref sig .tc := ⟨.hbm, 117, rfl⟩
abbrev main_while0b_v103 : Ref sig .tc := ⟨.hbm, 118, rfl⟩
abbrev main_while0b_v104 : Ref sig .tc := ⟨.hbm, 119, rfl⟩
abbrev main_while0b_v105 : Ref sig .tc := ⟨.hbm, 120, rfl⟩
abbrev main_while0b_v106 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_v110 : Ref sig .tc := ⟨.hbm, 125, rfl⟩
abbrev main_while0b_v111 : Ref sig .tc := ⟨.hbm, 126, rfl⟩
abbrev main_while0b_v112 : Ref sig .tc := ⟨.hbm, 127, rfl⟩
abbrev main_while0b_call5_v0 : Ref sig .tc := ⟨.hbm, 128, rfl⟩
abbrev main_while0b_call5_c : Ref sig .tc := ⟨.hbm, 129, rfl⟩
abbrev main_while0b_call5_c_0 : Ref sig .tc := ⟨.hbm, 130, rfl⟩
abbrev main_while0b_call5_c_1 : Ref sig .tc := ⟨.hbm, 131, rfl⟩
abbrev main_while0b_call5_c_2 : Ref sig .tc := ⟨.hbm, 132, rfl⟩
abbrev main_while0b_v113 : Ref sig .tc := ⟨.hbm, 133, rfl⟩
abbrev main_while0b_c_22 : Ref sig .tc := ⟨.hbm, 134, rfl⟩
abbrev main_while0b_v114 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_cst_5 : Ref sig .tc := ⟨.hbm, 139, rfl⟩
abbrev main_v28 : Ref sig .tc := ⟨.hbm, 140, rfl⟩
abbrev main_v29 : Ref sig .tc := ⟨.hbm, 141, rfl⟩
abbrev main_cst_6 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_cst_7 : Ref sig .tc := ⟨.hbm, 148, rfl⟩
abbrev main_v35 : Ref sig .tc := ⟨.hbm, 149, rfl⟩
abbrev main_v36 : Ref sig .tc := ⟨.hbm, 150, rfl⟩
abbrev main_cst_8 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_v40 : Ref sig .tc := ⟨.hbm, 155, rfl⟩
abbrev main_cst_9 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_call6_v0 : Ref sig .tc := ⟨.hbm, 166, rfl⟩
abbrev main_call6_v1 : Ref sig .tc := ⟨.hbm, 167, rfl⟩
abbrev main_call6_cst : Ref sig .tc := ⟨.hbm, 168, rfl⟩
abbrev main_call6_v2 : Ref sig .tc := ⟨.hbm, 169, rfl⟩
abbrev main_call6_v3 : Ref sig .tc := ⟨.hbm, 170, rfl⟩
abbrev main_call6_cst_0 : Ref sig .tc := ⟨.hbm, 171, rfl⟩
abbrev main_call6_v4 : Ref sig .tc := ⟨.hbm, 172, rfl⟩
abbrev main_call6_v5 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩

abbrev nD : Nat := 1
abbrev τ : Topo := Topo.v7x

variable {F : FTy → Type} [FloatOps F]

abbrev main_while0_count : Scf.Loop 32 := ⟨0#32, 32#32, 1#32⟩
-- ==== KernelZ.lean ====
abbrev S2x4096x2048 : Shape := ⟨3, ![2, 4096, 2048]⟩
abbrev S2048x7184 : Shape := ⟨2, ![2048, 7184]⟩
abbrev S8192x2048 : Shape := ⟨2, ![8192, 2048]⟩
abbrev S4096 : Shape := ⟨1, ![4096]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x7184, .f32⟩
  | .hbm, ⟨2, _⟩ => ⟨S8192x2048, .f32⟩
  | .hbm, ⟨3, _⟩ => ⟨S8192x2048, .bf16⟩
  | .hbm, ⟨4, _⟩ => ⟨S4096, .i32⟩
  | .hbm, ⟨5, _⟩ => ⟨S2048x4096, .f32⟩
  | .hbm, ⟨6, _⟩ => ⟨S2048x4096, .bf16⟩
  | .hbm, ⟨7, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZIdeal.lean ====
abbrev S2x4096x2048 : Shape := ⟨3, ![2, 4096, 2048]⟩
abbrev S2048x7184 : Shape := ⟨2, ![2048, 7184]⟩
abbrev S2x4096x7184 : Shape := ⟨3, ![2, 4096, 7184]⟩
abbrev S2x4096x1024 : Shape := ⟨3, ![2, 4096, 1024]⟩
abbrev S2x4096x8 : Shape := ⟨3, ![2, 4096, 8]⟩
abbrev S2x4096x4096 : Shape := ⟨3, ![2, 4096, 4096]⟩
abbrev S8192x4096 : Shape := ⟨2, ![8192, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7184, .f32⟩
  | .hbm, ⟨2, _⟩ => ⟨S2x4096x7184, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x8, .f32⟩
  | .hbm, ⟨8, _⟩ => ⟨S2x4096x8, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S2x4096x4096, .f32⟩
  | .hbm, ⟨13, _⟩ => ⟨S8192x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== KernelQb.lean ====
abbrev S2x4096x2048 : Shape := ⟨3, ![2, 4096, 2048]⟩
abbrev S2048x7184 : Shape := ⟨2, ![2048, 7184]⟩
abbrev S8192x2048 : Shape := ⟨2, ![8192, 2048]⟩
abbrev S4096 : Shape := ⟨1, ![4096]⟩
abbrev S2048x1024 : Shape := ⟨2, ![2048, 1024]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S8192x1024 : Shape := ⟨2, ![8192, 1024]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 33
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2048x7184, .f32⟩
  | .hbm, ⟨2, _⟩ => ⟨S8192x2048, .f32⟩
  | .hbm, ⟨3, _⟩ => ⟨S8192x2048, .bf16⟩
  | .hbm, ⟨4, _⟩ => ⟨S4096, .i32⟩
  | .hbm, ⟨5, _⟩ => ⟨S2048x1024, .f32⟩
  | .hbm, ⟨6, _⟩ => ⟨S2048x1024, .bf16⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S4096, .f32⟩
  | .hbm, ⟨16, _⟩ => ⟨S4096x1, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S1x4096x1x128, .f32⟩
  | .hbm, ⟨25, _⟩ => ⟨S1x4096x1x128, .f32⟩
  | .hbm, ⟨26, _⟩ => ⟨S4096x128, .f32⟩
  | .hbm, ⟨27, _⟩ => ⟨S4096x64, .f32⟩
  | .hbm, ⟨28, _⟩ => ⟨S4096x128, .f32⟩
  | .hbm, ⟨29, _⟩ => ⟨S1x4096x1x128, .f32⟩
  | .hbm, ⟨30, _⟩ => ⟨S1x4096x1x128, .f32⟩
  | .hbm, ⟨31, _⟩ => ⟨S4096x128, .f32⟩
  | .hbm, ⟨32, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .bf16⟩
  | .local _ .vmem, ⟨8, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceQbIdeal.lean ====
abbrev S2x4096x2048 : Shape := ⟨3, ![2, 4096, 2048]⟩
abbrev S2048x7184 : Shape := ⟨2, ![2048, 7184]⟩
abbrev S2x4096x7184 : Shape := ⟨3, ![2, 4096, 7184]⟩
abbrev S2x4096x1024 : Shape := ⟨3, ![2, 4096, 1024]⟩
abbrev S2x4096x8 : Shape := ⟨3, ![2, 4096, 8]⟩
abbrev S4096 : Shape := ⟨1, ![4096]⟩
abbrev S2x4096x8x128 : Shape := ⟨4, ![2, 4096, 8, 128]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x8x64 : Shape := ⟨4, ![2, 4096, 8, 64]⟩
abbrev S1x4096x1x64 : Shape := ⟨4, ![1, 4096, 1, 64]⟩
abbrev S8192x1024 : Shape := ⟨2, ![8192, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7184, .f32⟩
  | .hbm, ⟨2, _⟩ => ⟨S2x4096x7184, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x8, .f32⟩
  | .hbm, ⟨8, _⟩ => ⟨S2x4096x8, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S4096, .i32⟩
  | .hbm, ⟨13, _⟩ => ⟨S2x4096x8x128, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S4096, .f32⟩
  | .hbm, ⟨23, _⟩ => ⟨S4096x1, .f32⟩
  | .hbm, ⟨24, _⟩ => ⟨S1x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x1x64, .f32⟩
  | .hbm, ⟨30, _⟩ => ⟨S4096x64, .f32⟩
  | .hbm, ⟨31, _⟩ => ⟨S4096x1x64, .f32⟩
  | .hbm, ⟨32, _⟩ => ⟨S2x4096x8x64, .f32⟩
  | .hbm, ⟨33, _⟩ => ⟨S2x4096x8x64, .f32⟩
  | .hbm, ⟨34, _⟩ => ⟨S1x4096x1x64, .f32⟩
  | .hbm, ⟨35, _⟩ => ⟨S2x4096x8x64, .f32⟩
  | .hbm, ⟨36, _⟩ => ⟨S2x4096x8x64, .f32⟩
  | .hbm, ⟨37, _⟩ => ⟨S1x4096x1x64, .f32⟩
  | .hbm, ⟨38, _⟩ => ⟨S2x4096x8x64, .f32⟩
  | .hbm, ⟨39, _⟩ => ⟨S2x4096x8x64, .f32⟩
  | .hbm, ⟨40, _⟩ => ⟨S2x4096x8x64, .f32⟩
  | .hbm, ⟨41, _⟩ => ⟨S1x4096x1x64, .f32⟩
  | .hbm, ⟨42, _⟩ => ⟨S2x4096x8x64, .f32⟩
  | .hbm, ⟨43, _⟩ => ⟨S2x4096x8x64, .f32⟩
  | .hbm, ⟨44, _⟩ => ⟨S1x4096x1x64, .f32⟩
  | .hbm, ⟨45, _⟩ => ⟨S2x4096x8x64, .f32⟩
  | .hbm, ⟨46, _⟩ => ⟨S2x4096x8x64, .f32⟩
  | .hbm, ⟨47, _⟩ => ⟨S2x4096x8x64, .f32⟩
  | .hbm, ⟨48, _⟩ => ⟨S2x4096x8x128, .f32⟩
  | .hbm, ⟨49, _⟩ => ⟨S8192x1024, .f32⟩
  | .hbm, ⟨50, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩

abbrev nD : Nat := 1
abbrev τ : Topo := Topo.v7x

variable {F : FTy → Type} [FloatOps F]
-- ==== KernelKb.lean ====
abbrev S2x4096x2048 : Shape := ⟨3, ![2, 4096, 2048]⟩
abbrev S2048x7184 : Shape := ⟨2, ![2048, 7184]⟩
abbrev S8192x2048 : Shape := ⟨2, ![8192, 2048]⟩
abbrev S4096 : Shape := ⟨1, ![4096]⟩
abbrev S2048x1024 : Shape := ⟨2, ![2048, 1024]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S8192x1024 : Shape := ⟨2, ![8192, 1024]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 34
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2048x7184, .f32⟩
  | .hbm, ⟨2, _⟩ => ⟨S8192x2048, .f32⟩
  | .hbm, ⟨3, _⟩ => ⟨S8192x2048, .bf16⟩
  | .hbm, ⟨4, _⟩ => ⟨S4096, .i32⟩
  | .hbm, ⟨5, _⟩ => ⟨S2048x1024, .f32⟩
  | .hbm, ⟨6, _⟩ => ⟨S2048x1024, .bf16⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S4096, .f32⟩
  | .hbm, ⟨16, _⟩ => ⟨S4096x1, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S1x4096x1x128, .f32⟩
  | .hbm, ⟨25, _⟩ => ⟨S1x4096x1x128, .f32⟩
  | .hbm, ⟨26, _⟩ => ⟨S4096x128, .f32⟩
  | .hbm, ⟨27, _⟩ => ⟨S4096x64, .f32⟩
  | .hbm, ⟨28, _⟩ => ⟨S4096x128, .f32⟩
  | .hbm, ⟨29, _⟩ => ⟨S1x4096x1x128, .f32⟩
  | .hbm, ⟨30, _⟩ => ⟨S1x4096x1x128, .f32⟩
  | .hbm, ⟨31, _⟩ => ⟨S4096x128, .f32⟩
  | .hbm, ⟨32, _⟩ => ⟨S8192x1024, .f32⟩
  | .hbm, ⟨33, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28_0 : Ref sig .tc := ⟨.hbm, 32, rfl⟩
abbrev main_v28_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceKbIdeal.lean ====
abbrev S2x4096x2048 : Shape := ⟨3, ![2, 4096, 2048]⟩
abbrev S2048x7184 : Shape := ⟨2, ![2048, 7184]⟩
abbrev S2x4096x7184 : Shape := ⟨3, ![2, 4096, 7184]⟩
abbrev S2x4096x1024 : Shape := ⟨3, ![2, 4096, 1024]⟩
abbrev S2x4096x8 : Shape := ⟨3, ![2, 4096, 8]⟩
abbrev S4096 : Shape := ⟨1, ![4096]⟩
abbrev S2x4096x8x128 : Shape := ⟨4, ![2, 4096, 8, 128]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x8x64 : Shape := ⟨4, ![2, 4096, 8, 64]⟩
abbrev S1x4096x1x64 : Shape := ⟨4, ![1, 4096, 1, 64]⟩
abbrev S8192x1024 : Shape := ⟨2, ![8192, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7184, .f32⟩
  | .hbm, ⟨2, _⟩ => ⟨S2x4096x7184, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x8, .f32⟩
  | .hbm, ⟨8, _⟩ => ⟨S2x4096x8, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S4096, .i32⟩
  | .hbm, ⟨13, _⟩ => ⟨S2x4096x8x128, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S4096, .f32⟩
  | .hbm, ⟨23, _⟩ => ⟨S4096x1, .f32⟩
  | .hbm, ⟨24, _⟩ => ⟨S1x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x1x64, .f32⟩
  | .hbm, ⟨30, _⟩ => ⟨S4096x64, .f32⟩
  | .hbm, ⟨31, _⟩ => ⟨S4096x1x64, .f32⟩
  | .hbm, ⟨32, _⟩ => ⟨S2x4096x8x64, .f32⟩
  | .hbm, ⟨33, _⟩ => ⟨S2x4096x8x64, .f32⟩
  | .hbm, ⟨34, _⟩ => ⟨S1x4096x1x64, .f32⟩
  | .hbm, ⟨35, _⟩ => ⟨S2x4096x8x64, .f32⟩
  | .hbm, ⟨36, _⟩ => ⟨S2x4096x8x64, .f32⟩
  | .hbm, ⟨37, _⟩ => ⟨S1x4096x1x64, .f32⟩
  | .hbm, ⟨38, _⟩ => ⟨S2x4096x8x64, .f32⟩
  | .hbm, ⟨39, _⟩ => ⟨S2x4096x8x64, .f32⟩
  | .hbm, ⟨40, _⟩ => ⟨S2x4096x8x64, .f32⟩
  | .hbm, ⟨41, _⟩ => ⟨S1x4096x1x64, .f32⟩
  | .hbm, ⟨42, _⟩ => ⟨S2x4096x8x64, .f32⟩
  | .hbm, ⟨43, _⟩ => ⟨S2x4096x8x64, .f32⟩
  | .hbm, ⟨44, _⟩ => ⟨S1x4096x1x64, .f32⟩
  | .hbm, ⟨45, _⟩ => ⟨S2x4096x8x64, .f32⟩
  | .hbm, ⟨46, _⟩ => ⟨S2x4096x8x64, .f32⟩
  | .hbm, ⟨47, _⟩ => ⟨S2x4096x8x64, .f32⟩
  | .hbm, ⟨48, _⟩ => ⟨S2x4096x8x128, .f32⟩
  | .hbm, ⟨49, _⟩ => ⟨S8192x1024, .f32⟩
  | .hbm, ⟨50, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩

abbrev nD : Nat := 1
abbrev τ : Topo := Topo.v7x

variable {F : FTy → Type} [FloatOps F]
-- ==== KernelVb.lean ====
abbrev S2x4096x2048 : Shape := ⟨3, ![2, 4096, 2048]⟩
abbrev S2048x7184 : Shape := ⟨2, ![2048, 7184]⟩
abbrev S8192x2048 : Shape := ⟨2, ![8192, 2048]⟩
abbrev S4096 : Shape := ⟨1, ![4096]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2048x7184, .f32⟩
  | .hbm, ⟨2, _⟩ => ⟨S8192x2048, .f32⟩
  | .hbm, ⟨3, _⟩ => ⟨S8192x2048, .bf16⟩
  | .hbm, ⟨4, _⟩ => ⟨S4096, .i32⟩
  | .hbm, ⟨5, _⟩ => ⟨S2048x1024, .f32⟩
  | .hbm, ⟨6, _⟩ => ⟨S2048x1024, .bf16⟩
  | .hbm, ⟨7, _⟩ => ⟨S8192x1024, .f32⟩
  | .hbm, ⟨8, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceVbIdeal.lean ====
abbrev S2x4096x2048 : Shape := ⟨3, ![2, 4096, 2048]⟩
abbrev S2048x7184 : Shape := ⟨2, ![2048, 7184]⟩
abbrev S2x4096x7184 : Shape := ⟨3, ![2, 4096, 7184]⟩
abbrev S2x4096x1024 : Shape := ⟨3, ![2, 4096, 1024]⟩
abbrev S2x4096x8 : Shape := ⟨3, ![2, 4096, 8]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7184, .f32⟩
  | .hbm, ⟨2, _⟩ => ⟨S2x4096x7184, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x8, .f32⟩
  | .hbm, ⟨8, _⟩ => ⟨S2x4096x8, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S8192x1024, .f32⟩
  | .hbm, ⟨13, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== KernelQc.lean ====
abbrev S2x4096x2048 : Shape := ⟨3, ![2, 4096, 2048]⟩
abbrev S2048x7248 : Shape := ⟨2, ![2048, 7248]⟩
abbrev S8192x2048 : Shape := ⟨2, ![8192, 2048]⟩
abbrev S4096 : Shape := ⟨1, ![4096]⟩
abbrev S2048x1024 : Shape := ⟨2, ![2048, 1024]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S8192x1024 : Shape := ⟨2, ![8192, 1024]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 33
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S8192x2048, .f32⟩
  | .hbm, ⟨3, _⟩ => ⟨S8192x2048, .bf16⟩
  | .hbm, ⟨4, _⟩ => ⟨S4096, .i32⟩
  | .hbm, ⟨5, _⟩ => ⟨S2048x1024, .f32⟩
  | .hbm, ⟨6, _⟩ => ⟨S2048x1024, .bf16⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S4096, .f32⟩
  | .hbm, ⟨16, _⟩ => ⟨S4096x1, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S1x4096x1x128, .f32⟩
  | .hbm, ⟨25, _⟩ => ⟨S1x4096x1x128, .f32⟩
  | .hbm, ⟨26, _⟩ => ⟨S4096x128, .f32⟩
  | .hbm, ⟨27, _⟩ => ⟨S4096x64, .f32⟩
  | .hbm, ⟨28, _⟩ => ⟨S4096x128, .f32⟩
  | .hbm, ⟨29, _⟩ => ⟨S1x4096x1x128, .f32⟩
  | .hbm, ⟨30, _⟩ => ⟨S1x4096x1x128, .f32⟩
  | .hbm, ⟨31, _⟩ => ⟨S4096x128, .f32⟩
  | .hbm, ⟨32, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .bf16⟩
  | .local _ .vmem, ⟨8, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceQcIdeal.lean ====
abbrev S2x4096x2048 : Shape := ⟨3, ![2, 4096, 2048]⟩
abbrev S2048x7248 : Shape := ⟨2, ![2048, 7248]⟩
abbrev S2x4096x7248 : Shape := ⟨3, ![2, 4096, 7248]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x512 : Shape := ⟨3, ![2, 4096, 512]⟩
abbrev S4096 : Shape := ⟨1, ![4096]⟩
abbrev S2x4096x8x128 : Shape := ⟨4, ![2, 4096, 8, 128]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x8x64 : Shape := ⟨4, ![2, 4096, 8, 64]⟩
abbrev S1x4096x1x64 : Shape := ⟨4, ![1, 4096, 1, 64]⟩
abbrev S8192x1024 : Shape := ⟨2, ![8192, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S2x4096x7248, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x64, .f32⟩
  | .hbm, ⟨8, _⟩ => ⟨S2x4096x16, .f32⟩
  | .hbm, ⟨9, _⟩ => ⟨S2x4096x512, .f32⟩
  | .hbm, ⟨10, _⟩ => ⟨S2x4096x512, .f32⟩
  | .hbm, ⟨11, _⟩ => ⟨S2x4096x1024, .f32⟩
  | .hbm, ⟨12, _⟩ => ⟨S2x4096x1024, .f32⟩
  | .hbm, ⟨13, _⟩ => ⟨S4096, .i32⟩
  | .hbm, ⟨14, _⟩ => ⟨S2x4096x8x128, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S4096, .f32⟩
  | .hbm, ⟨24, _⟩ => ⟨S4096x1, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x1x64, .f32⟩
  | .hbm, ⟨31, _⟩ => ⟨S4096x64, .f32⟩
  | .hbm, ⟨32, _⟩ => ⟨S4096x1x64, .f32⟩
  | .hbm, ⟨33, _⟩ => ⟨S2x4096x8x64, .f32⟩
  | .hbm, ⟨34, _⟩ => ⟨S2x4096x8x64, .f32⟩
  | .hbm, ⟨35, _⟩ => ⟨S1x4096x1x64, .f32⟩
  | .hbm, ⟨36, _⟩ => ⟨S2x4096x8x64, .f32⟩
  | .hbm, ⟨37, _⟩ => ⟨S2x4096x8x64, .f32⟩
  | .hbm, ⟨38, _⟩ => ⟨S1x4096x1x64, .f32⟩
  | .hbm, ⟨39, _⟩ => ⟨S2x4096x8x64, .f32⟩
  | .hbm, ⟨40, _⟩ => ⟨S2x4096x8x64, .f32⟩
  | .hbm, ⟨41, _⟩ => ⟨S2x4096x8x64, .f32⟩
  | .hbm, ⟨42, _⟩ => ⟨S1x4096x1x64, .f32⟩
  | .hbm, ⟨43, _⟩ => ⟨S2x4096x8x64, .f32⟩
  | .hbm, ⟨44, _⟩ => ⟨S2x4096x8x64, .f32⟩
  | .hbm, ⟨45, _⟩ => ⟨S1x4096x1x64, .f32⟩
  | .hbm, ⟨46, _⟩ => ⟨S2x4096x8x64, .f32⟩
  | .hbm, ⟨47, _⟩ => ⟨S2x4096x8x64, .f32⟩
  | .hbm, ⟨48, _⟩ => ⟨S2x4096x8x64, .f32⟩
  | .hbm, ⟨49, _⟩ => ⟨S2x4096x8x128, .f32⟩
  | .hbm, ⟨50, _⟩ => ⟨S8192x1024, .f32⟩
  | .hbm, ⟨51, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩

abbrev nD : Nat := 1
abbrev τ : Topo := Topo.v7x

variable {F : FTy → Type} [FloatOps F]
-- ==== KernelKc.lean ====
abbrev S2x4096x2048 : Shape := ⟨3, ![2, 4096, 2048]⟩
abbrev S2048x7248 : Shape := ⟨2, ![2048, 7248]⟩
abbrev S8192x2048 : Shape := ⟨2, ![8192, 2048]⟩
abbrev S4096 : Shape := ⟨1, ![4096]⟩
abbrev S2048x1024 : Shape := ⟨2, ![2048, 1024]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S8192x1024 : Shape := ⟨2, ![8192, 1024]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 34
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S8192x2048, .f32⟩
  | .hbm, ⟨3, _⟩ => ⟨S8192x2048, .bf16⟩
  | .hbm, ⟨4, _⟩ => ⟨S4096, .i32⟩
  | .hbm, ⟨5, _⟩ => ⟨S2048x1024, .f32⟩
  | .hbm, ⟨6, _⟩ => ⟨S2048x1024, .bf16⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S4096, .f32⟩
  | .hbm, ⟨16, _⟩ => ⟨S4096x1, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S1x4096x1x128, .f32⟩
  | .hbm, ⟨25, _⟩ => ⟨S1x4096x1x128, .f32⟩
  | .hbm, ⟨26, _⟩ => ⟨S4096x128, .f32⟩
  | .hbm, ⟨27, _⟩ => ⟨S4096x64, .f32⟩
  | .hbm, ⟨28, _⟩ => ⟨S4096x128, .f32⟩
  | .hbm, ⟨29, _⟩ => ⟨S1x4096x1x128, .f32⟩
  | .hbm, ⟨30, _⟩ => ⟨S1x4096x1x128, .f32⟩
  | .hbm, ⟨31, _⟩ => ⟨S4096x128, .f32⟩
  | .hbm, ⟨32, _⟩ => ⟨S8192x1024, .f32⟩
  | .hbm, ⟨33, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28_0 : Ref sig .tc := ⟨.hbm, 32, rfl⟩
abbrev main_v28_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceKcIdeal.lean ====
abbrev S2x4096x2048 : Shape := ⟨3, ![2, 4096, 2048]⟩
abbrev S2048x7248 : Shape := ⟨2, ![2048, 7248]⟩
abbrev S2x4096x7248 : Shape := ⟨3, ![2, 4096, 7248]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x512 : Shape := ⟨3, ![2, 4096, 512]⟩
abbrev S4096 : Shape := ⟨1, ![4096]⟩
abbrev S2x4096x8x128 : Shape := ⟨4, ![2, 4096, 8, 128]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x8x64 : Shape := ⟨4, ![2, 4096, 8, 64]⟩
abbrev S1x4096x1x64 : Shape := ⟨4, ![1, 4096, 1, 64]⟩
abbrev S8192x1024 : Shape := ⟨2, ![8192, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S2x4096x7248, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x64, .f32⟩
  | .hbm, ⟨8, _⟩ => ⟨S2x4096x16, .f32⟩
  | .hbm, ⟨9, _⟩ => ⟨S2x4096x512, .f32⟩
  | .hbm, ⟨10, _⟩ => ⟨S2x4096x512, .f32⟩
  | .hbm, ⟨11, _⟩ => ⟨S2x4096x1024, .f32⟩
  | .hbm, ⟨12, _⟩ => ⟨S2x4096x1024, .f32⟩
  | .hbm, ⟨13, _⟩ => ⟨S4096, .i32⟩
  | .hbm, ⟨14, _⟩ => ⟨S2x4096x8x128, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S4096, .f32⟩
  | .hbm, ⟨24, _⟩ => ⟨S4096x1, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x1x64, .f32⟩
  | .hbm, ⟨31, _⟩ => ⟨S4096x64, .f32⟩
  | .hbm, ⟨32, _⟩ => ⟨S4096x1x64, .f32⟩
  | .hbm, ⟨33, _⟩ => ⟨S2x4096x8x64, .f32⟩
  | .hbm, ⟨34, _⟩ => ⟨S2x4096x8x64, .f32⟩
  | .hbm, ⟨35, _⟩ => ⟨S1x4096x1x64, .f32⟩
  | .hbm, ⟨36, _⟩ => ⟨S2x4096x8x64, .f32⟩
  | .hbm, ⟨37, _⟩ => ⟨S2x4096x8x64, .f32⟩
  | .hbm, ⟨38, _⟩ => ⟨S1x4096x1x64, .f32⟩
  | .hbm, ⟨39, _⟩ => ⟨S2x4096x8x64, .f32⟩
  | .hbm, ⟨40, _⟩ => ⟨S2x4096x8x64, .f32⟩
  | .hbm, ⟨41, _⟩ => ⟨S2x4096x8x64, .f32⟩
  | .hbm, ⟨42, _⟩ => ⟨S1x4096x1x64, .f32⟩
  | .hbm, ⟨43, _⟩ => ⟨S2x4096x8x64, .f32⟩
  | .hbm, ⟨44, _⟩ => ⟨S2x4096x8x64, .f32⟩
  | .hbm, ⟨45, _⟩ => ⟨S1x4096x1x64, .f32⟩
  | .hbm, ⟨46, _⟩ => ⟨S2x4096x8x64, .f32⟩
  | .hbm, ⟨47, _⟩ => ⟨S2x4096x8x64, .f32⟩
  | .hbm, ⟨48, _⟩ => ⟨S2x4096x8x64, .f32⟩
  | .hbm, ⟨49, _⟩ => ⟨S2x4096x8x128, .f32⟩
  | .hbm, ⟨50, _⟩ => ⟨S8192x1024, .f32⟩
  | .hbm, ⟨51, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩

abbrev nD : Nat := 1
abbrev τ : Topo := Topo.v7x

variable {F : FTy → Type} [FloatOps F]
-- ==== KernelVc.lean ====
abbrev S2x4096x2048 : Shape := ⟨3, ![2, 4096, 2048]⟩
abbrev S2048x7248 : Shape := ⟨2, ![2048, 7248]⟩
abbrev S8192x2048 : Shape := ⟨2, ![8192, 2048]⟩
abbrev S4096 : Shape := ⟨1, ![4096]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S8192x2048, .f32⟩
  | .hbm, ⟨3, _⟩ => ⟨S8192x2048, .bf16⟩
  | .hbm, ⟨4, _⟩ => ⟨S4096, .i32⟩
  | .hbm, ⟨5, _⟩ => ⟨S2048x1024, .f32⟩
  | .hbm, ⟨6, _⟩ => ⟨S2048x1024, .bf16⟩
  | .hbm, ⟨7, _⟩ => ⟨S8192x1024, .f32⟩
  | .hbm, ⟨8, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceVcIdeal.lean ====
abbrev S2x4096x2048 : Shape := ⟨3, ![2, 4096, 2048]⟩
abbrev S2048x7248 : Shape := ⟨2, ![2048, 7248]⟩
abbrev S2x4096x7248 : Shape := ⟨3, ![2, 4096, 7248]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x512 : Shape := ⟨3, ![2, 4096, 512]⟩
abbrev S8192x1024 : Shape := ⟨2, ![8192, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S2x4096x7248, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x64, .f32⟩
  | .hbm, ⟨8, _⟩ => ⟨S2x4096x16, .f32⟩
  | .hbm, ⟨9, _⟩ => ⟨S2x4096x512, .f32⟩
  | .hbm, ⟨10, _⟩ => ⟨S2x4096x512, .f32⟩
  | .hbm, ⟨11, _⟩ => ⟨S2x4096x1024, .f32⟩
  | .hbm, ⟨12, _⟩ => ⟨S2x4096x1024, .f32⟩
  | .hbm, ⟨13, _⟩ => ⟨S8192x1024, .f32⟩
  | .hbm, ⟨14, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== KernelQi.lean ====
abbrev S2x4096x2048 : Shape := ⟨3, ![2, 4096, 2048]⟩
abbrev S2048x7248 : Shape := ⟨2, ![2048, 7248]⟩
abbrev S8192x2048 : Shape := ⟨2, ![8192, 2048]⟩
abbrev S4096 : Shape := ⟨1, ![4096]⟩
abbrev S2048x1024 : Shape := ⟨2, ![2048, 1024]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8192x1024 : Shape := ⟨2, ![8192, 1024]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 33
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S8192x2048, .f32⟩
  | .hbm, ⟨3, _⟩ => ⟨S8192x2048, .bf16⟩
  | .hbm, ⟨4, _⟩ => ⟨S4096, .i32⟩
  | .hbm, ⟨5, _⟩ => ⟨S2048x1024, .f32⟩
  | .hbm, ⟨6, _⟩ => ⟨S2048x1024, .bf16⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4096, .f32⟩
  | .hbm, ⟨16, _⟩ => ⟨S4096x1, .f32⟩
  | .hbm, ⟨17, _⟩ => ⟨S1x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x64, .f32⟩
  | .hbm, ⟨24, _⟩ => ⟨S1x4096x1x64, .f32⟩
  | .hbm, ⟨25, _⟩ => ⟨S1x4096x2x64, .f32⟩
  | .hbm, ⟨26, _⟩ => ⟨S4096x128, .f32⟩
  | .hbm, ⟨27, _⟩ => ⟨S4096x32, .f32⟩
  | .hbm, ⟨28, _⟩ => ⟨S4096x64, .f32⟩
  | .hbm, ⟨29, _⟩ => ⟨S1x4096x1x64, .f32⟩
  | .hbm, ⟨30, _⟩ => ⟨S1x4096x2x64, .f32⟩
  | .hbm, ⟨31, _⟩ => ⟨S4096x128, .f32⟩
  | .hbm, ⟨32, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .bf16⟩
  | .local _ .vmem, ⟨8, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceQiIdeal.lean ====
abbrev S2x4096x2048 : Shape := ⟨3, ![2, 4096, 2048]⟩
abbrev S2048x7248 : Shape := ⟨2, ![2048, 7248]⟩
abbrev S2x4096x7248 : Shape := ⟨3, ![2, 4096, 7248]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x512 : Shape := ⟨3, ![2, 4096, 512]⟩
abbrev S4096 : Shape := ⟨1, ![4096]⟩
abbrev S2x4096x16x64 : Shape := ⟨4, ![2, 4096, 16, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x16x32 : Shape := ⟨4, ![2, 4096, 16, 32]⟩
abbrev S1x4096x1x32 : Shape := ⟨4, ![1, 4096, 1, 32]⟩
abbrev S8192x1024 : Shape := ⟨2, ![8192, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S2x4096x7248, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x64, .f32⟩
  | .hbm, ⟨8, _⟩ => ⟨S2x4096x16, .f32⟩
  | .hbm, ⟨9, _⟩ => ⟨S2x4096x512, .f32⟩
  | .hbm, ⟨10, _⟩ => ⟨S2x4096x512, .f32⟩
  | .hbm, ⟨11, _⟩ => ⟨S2x4096x1024, .f32⟩
  | .hbm, ⟨12, _⟩ => ⟨S2x4096x1024, .f32⟩
  | .hbm, ⟨13, _⟩ => ⟨S4096, .i32⟩
  | .hbm, ⟨14, _⟩ => ⟨S2x4096x16x64, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S4096, .f32⟩
  | .hbm, ⟨24, _⟩ => ⟨S4096x1, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x1x32, .f32⟩
  | .hbm, ⟨31, _⟩ => ⟨S4096x32, .f32⟩
  | .hbm, ⟨32, _⟩ => ⟨S4096x1x32, .f32⟩
  | .hbm, ⟨33, _⟩ => ⟨S2x4096x16x32, .f32⟩
  | .hbm, ⟨34, _⟩ => ⟨S2x4096x16x32, .f32⟩
  | .hbm, ⟨35, _⟩ => ⟨S1x4096x1x32, .f32⟩
  | .hbm, ⟨36, _⟩ => ⟨S2x4096x16x32, .f32⟩
  | .hbm, ⟨37, _⟩ => ⟨S2x4096x16x32, .f32⟩
  | .hbm, ⟨38, _⟩ => ⟨S1x4096x1x32, .f32⟩
  | .hbm, ⟨39, _⟩ => ⟨S2x4096x16x32, .f32⟩
  | .hbm, ⟨40, _⟩ => ⟨S2x4096x16x32, .f32⟩
  | .hbm, ⟨41, _⟩ => ⟨S2x4096x16x32, .f32⟩
  | .hbm, ⟨42, _⟩ => ⟨S1x4096x1x32, .f32⟩
  | .hbm, ⟨43, _⟩ => ⟨S2x4096x16x32, .f32⟩
  | .hbm, ⟨44, _⟩ => ⟨S2x4096x16x32, .f32⟩
  | .hbm, ⟨45, _⟩ => ⟨S1x4096x1x32, .f32⟩
  | .hbm, ⟨46, _⟩ => ⟨S2x4096x16x32, .f32⟩
  | .hbm, ⟨47, _⟩ => ⟨S2x4096x16x32, .f32⟩
  | .hbm, ⟨48, _⟩ => ⟨S2x4096x16x32, .f32⟩
  | .hbm, ⟨49, _⟩ => ⟨S2x4096x16x64, .f32⟩
  | .hbm, ⟨50, _⟩ => ⟨S8192x1024, .f32⟩
  | .hbm, ⟨51, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩

abbrev nD : Nat := 1
abbrev τ : Topo := Topo.v7x

variable {F : FTy → Type} [FloatOps F]
-- ==== KernelKi.lean ====
abbrev S2x4096x2048 : Shape := ⟨3, ![2, 4096, 2048]⟩
abbrev S2048x7248 : Shape := ⟨2, ![2048, 7248]⟩
abbrev S8192x2048 : Shape := ⟨2, ![8192, 2048]⟩
abbrev S4096 : Shape := ⟨1, ![4096]⟩
abbrev S2048x64 : Shape := ⟨2, ![2048, 64]⟩
abbrev S_ : Shape := ⟨0, ![]⟩
abbrev S2048x128 : Shape := ⟨2, ![2048, 128]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8192x64 : Shape := ⟨2, ![8192, 64]⟩
abbrev S1024x2048 : Shape := ⟨2, ![1024, 2048]⟩
abbrev S1024x128 : Shape := ⟨2, ![1024, 128]⟩
abbrev S1024x64 : Shape := ⟨2, ![1024, 64]⟩

abbrev nBuf : Space → Nat
  | .hbm => 36
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S8192x2048, .f32⟩
  | .hbm, ⟨3, _⟩ => ⟨S8192x2048, .bf16⟩
  | .hbm, ⟨4, _⟩ => ⟨S4096, .i32⟩
  | .hbm, ⟨5, _⟩ => ⟨S2048x64, .f32⟩
  | .hbm, ⟨6, _⟩ => ⟨S2048x64, .bf16⟩
  | .hbm, ⟨7, _⟩ => ⟨S_, .i32⟩
  | .hbm, ⟨8, _⟩ => ⟨S_, .bf16⟩
  | .hbm, ⟨9, _⟩ => ⟨S2048x128, .bf16⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x64, .f32⟩
  | .hbm, ⟨27, _⟩ => ⟨S1x4096x1x64, .f32⟩
  | .hbm, ⟨28, _⟩ => ⟨S1x4096x2x64, .f32⟩
  | .hbm, ⟨29, _⟩ => ⟨S4096x128, .f32⟩
  | .hbm, ⟨30, _⟩ => ⟨S4096x32, .f32⟩
  | .hbm, ⟨31, _⟩ => ⟨S4096x64, .f32⟩
  | .hbm, ⟨32, _⟩ => ⟨S1x4096x1x64, .f32⟩
  | .hbm, ⟨33, _⟩ => ⟨S1x4096x2x64, .f32⟩
  | .hbm, ⟨34, _⟩ => ⟨S4096x128, .f32⟩
  | .hbm, ⟨35, _⟩ => ⟨S8192x64, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x64, .f32⟩
  | .local _ .vmem, ⟨8, _⟩ => ⟨S1024x64, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceKiIdeal.lean ====
abbrev S2x4096x2048 : Shape := ⟨3, ![2, 4096, 2048]⟩
abbrev S2048x7248 : Shape := ⟨2, ![2048, 7248]⟩
abbrev S2x4096x7248 : Shape := ⟨3, ![2, 4096, 7248]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x512 : Shape := ⟨3, ![2, 4096, 512]⟩
abbrev S4096 : Shape := ⟨1, ![4096]⟩
abbrev S2x4096x1x64 : Shape := ⟨4, ![2, 4096, 1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x1x32 : Shape := ⟨4, ![2, 4096, 1, 32]⟩
abbrev S1x4096x1x32 : Shape := ⟨4, ![1, 4096, 1, 32]⟩
abbrev S8192x64 : Shape := ⟨2, ![8192, 64]⟩

abbrev nBuf : Space → Nat
  | .hbm => 52
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S2x4096x7248, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x64, .f32⟩
  | .hbm, ⟨8, _⟩ => ⟨S2x4096x16, .f32⟩
  | .hbm, ⟨9, _⟩ => ⟨S2x4096x512, .f32⟩
  | .hbm, ⟨10, _⟩ => ⟨S2x4096x512, .f32⟩
  | .hbm, ⟨11, _⟩ => ⟨S2x4096x1024, .f32⟩
  | .hbm, ⟨12, _⟩ => ⟨S2x4096x1024, .f32⟩
  | .hbm, ⟨13, _⟩ => ⟨S4096, .i32⟩
  | .hbm, ⟨14, _⟩ => ⟨S2x4096x1x64, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S4096, .f32⟩
  | .hbm, ⟨24, _⟩ => ⟨S4096x1, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x1x32, .f32⟩
  | .hbm, ⟨31, _⟩ => ⟨S4096x32, .f32⟩
  | .hbm, ⟨32, _⟩ => ⟨S4096x1x32, .f32⟩
  | .hbm, ⟨33, _⟩ => ⟨S2x4096x1x32, .f32⟩
  | .hbm, ⟨34, _⟩ => ⟨S2x4096x1x32, .f32⟩
  | .hbm, ⟨35, _⟩ => ⟨S1x4096x1x32, .f32⟩
  | .hbm, ⟨36, _⟩ => ⟨S2x4096x1x32, .f32⟩
  | .hbm, ⟨37, _⟩ => ⟨S2x4096x1x32, .f32⟩
  | .hbm, ⟨38, _⟩ => ⟨S1x4096x1x32, .f32⟩
  | .hbm, ⟨39, _⟩ => ⟨S2x4096x1x32, .f32⟩
  | .hbm, ⟨40, _⟩ => ⟨S2x4096x1x32, .f32⟩
  | .hbm, ⟨41, _⟩ => ⟨S2x4096x1x32, .f32⟩
  | .hbm, ⟨42, _⟩ => ⟨S1x4096x1x32, .f32⟩
  | .hbm, ⟨43, _⟩ => ⟨S2x4096x1x32, .f32⟩
  | .hbm, ⟨44, _⟩ => ⟨S2x4096x1x32, .f32⟩
  | .hbm, ⟨45, _⟩ => ⟨S1x4096x1x32, .f32⟩
  | .hbm, ⟨46, _⟩ => ⟨S2x4096x1x32, .f32⟩
  | .hbm, ⟨47, _⟩ => ⟨S2x4096x1x32, .f32⟩
  | .hbm, ⟨48, _⟩ => ⟨S2x4096x1x32, .f32⟩
  | .hbm, ⟨49, _⟩ => ⟨S2x4096x1x64, .f32⟩
  | .hbm, ⟨50, _⟩ => ⟨S2x4096x64, .f32⟩
  | .hbm, ⟨51, _⟩ => ⟨S8192x64, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩

abbrev nD : Nat := 1
abbrev τ : Topo := Topo.v7x

variable {F : FTy → Type} [FloatOps F]
-- ==== KernelWi.lean ====
abbrev S2x4096x2048 : Shape := ⟨3, ![2, 4096, 2048]⟩
abbrev S2048x7248 : Shape := ⟨2, ![2048, 7248]⟩
abbrev S8192x2048 : Shape := ⟨2, ![8192, 2048]⟩
abbrev S4096 : Shape := ⟨1, ![4096]⟩
abbrev S2048x16 : Shape := ⟨2, ![2048, 16]⟩
abbrev S_ : Shape := ⟨0, ![]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 11
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S8192x2048, .f32⟩
  | .hbm, ⟨3, _⟩ => ⟨S8192x2048, .bf16⟩
  | .hbm, ⟨4, _⟩ => ⟨S4096, .i32⟩
  | .hbm, ⟨5, _⟩ => ⟨S2048x16, .f32⟩
  | .hbm, ⟨6, _⟩ => ⟨S2048x16, .bf16⟩
  | .hbm, ⟨7, _⟩ => ⟨S_, .i32⟩
  | .hbm, ⟨8, _⟩ => ⟨S_, .bf16⟩
  | .hbm, ⟨9, _⟩ => ⟨S2048x128, .bf16⟩
  | .hbm, ⟨10, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceWiIdeal.lean ====
abbrev S2x4096x2048 : Shape := ⟨3, ![2, 4096, 2048]⟩
abbrev S2048x7248 : Shape := ⟨2, ![2048, 7248]⟩
abbrev S2x4096x7248 : Shape := ⟨3, ![2, 4096, 7248]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x512 : Shape := ⟨3, ![2, 4096, 512]⟩
abbrev S8192x16 : Shape := ⟨2, ![8192, 16]⟩
abbrev S_ : Shape := ⟨0, ![]⟩
abbrev S8192x128 : Shape := ⟨2, ![8192, 128]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S2x4096x7248, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x64, .f32⟩
  | .hbm, ⟨8, _⟩ => ⟨S2x4096x16, .f32⟩
  | .hbm, ⟨9, _⟩ => ⟨S2x4096x512, .f32⟩
  | .hbm, ⟨10, _⟩ => ⟨S2x4096x512, .f32⟩
  | .hbm, ⟨11, _⟩ => ⟨S2x4096x1024, .f32⟩
  | .hbm, ⟨12, _⟩ => ⟨S2x4096x1024, .f32⟩
  | .hbm, ⟨13, _⟩ => ⟨S8192x16, .f32⟩
  | .hbm, ⟨14, _⟩ => ⟨S_, .i32⟩
  | .hbm, ⟨15, _⟩ => ⟨S_, .f32⟩
  | .hbm, ⟨16, _⟩ => ⟨S8192x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== KernelQkd.lean ====
abbrev S2x4096x2048 : Shape := ⟨3, ![2, 4096, 2048]⟩
abbrev S2048x7248 : Shape := ⟨2, ![2048, 7248]⟩
abbrev S8192x2048 : Shape := ⟨2, ![8192, 2048]⟩
abbrev S4096 : Shape := ⟨1, ![4096]⟩
abbrev S2048x1024 : Shape := ⟨2, ![2048, 1024]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S8192x1024 : Shape := ⟨2, ![8192, 1024]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 33
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S8192x2048, .f32⟩
  | .hbm, ⟨3, _⟩ => ⟨S8192x2048, .bf16⟩
  | .hbm, ⟨4, _⟩ => ⟨S4096, .i32⟩
  | .hbm, ⟨5, _⟩ => ⟨S2048x1024, .f32⟩
  | .hbm, ⟨6, _⟩ => ⟨S2048x1024, .bf16⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S4096, .f32⟩
  | .hbm, ⟨16, _⟩ => ⟨S4096x1, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S1x4096x1x128, .f32⟩
  | .hbm, ⟨25, _⟩ => ⟨S1x4096x1x128, .f32⟩
  | .hbm, ⟨26, _⟩ => ⟨S4096x128, .f32⟩
  | .hbm, ⟨27, _⟩ => ⟨S4096x64, .f32⟩
  | .hbm, ⟨28, _⟩ => ⟨S4096x128, .f32⟩
  | .hbm, ⟨29, _⟩ => ⟨S1x4096x1x128, .f32⟩
  | .hbm, ⟨30, _⟩ => ⟨S1x4096x1x128, .f32⟩
  | .hbm, ⟨31, _⟩ => ⟨S4096x128, .f32⟩
  | .hbm, ⟨32, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .f32⟩
  | .local _ .vmem, ⟨8, _⟩ => ⟨S1024x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceQkdIdeal.lean ====
abbrev S2x4096x2048 : Shape := ⟨3, ![2, 4096, 2048]⟩
abbrev S2048x7248 : Shape := ⟨2, ![2048, 7248]⟩
abbrev S2x4096x7248 : Shape := ⟨3, ![2, 4096, 7248]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x512 : Shape := ⟨3, ![2, 4096, 512]⟩
abbrev S4096 : Shape := ⟨1, ![4096]⟩
abbrev S2x4096x4x128 : Shape := ⟨4, ![2, 4096, 4, 128]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x4x64 : Shape := ⟨4, ![2, 4096, 4, 64]⟩
abbrev S1x4096x1x64 : Shape := ⟨4, ![1, 4096, 1, 64]⟩
abbrev S8192x512 : Shape := ⟨2, ![8192, 512]⟩
abbrev S8192x1024 : Shape := ⟨2, ![8192, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S2x4096x7248, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x64, .f32⟩
  | .hbm, ⟨8, _⟩ => ⟨S2x4096x16, .f32⟩
  | .hbm, ⟨9, _⟩ => ⟨S2x4096x512, .f32⟩
  | .hbm, ⟨10, _⟩ => ⟨S2x4096x512, .f32⟩
  | .hbm, ⟨11, _⟩ => ⟨S2x4096x1024, .f32⟩
  | .hbm, ⟨12, _⟩ => ⟨S2x4096x1024, .f32⟩
  | .hbm, ⟨13, _⟩ => ⟨S4096, .i32⟩
  | .hbm, ⟨14, _⟩ => ⟨S2x4096x4x128, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S4096, .f32⟩
  | .hbm, ⟨24, _⟩ => ⟨S4096x1, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x1x64, .f32⟩
  | .hbm, ⟨31, _⟩ => ⟨S4096x64, .f32⟩
  | .hbm, ⟨32, _⟩ => ⟨S4096x1x64, .f32⟩
  | .hbm, ⟨33, _⟩ => ⟨S2x4096x4x64, .f32⟩
  | .hbm, ⟨34, _⟩ => ⟨S2x4096x4x64, .f32⟩
  | .hbm, ⟨35, _⟩ => ⟨S1x4096x1x64, .f32⟩
  | .hbm, ⟨36, _⟩ => ⟨S2x4096x4x64, .f32⟩
  | .hbm, ⟨37, _⟩ => ⟨S2x4096x4x64, .f32⟩
  | .hbm, ⟨38, _⟩ => ⟨S1x4096x1x64, .f32⟩
  | .hbm, ⟨39, _⟩ => ⟨S2x4096x4x64, .f32⟩
  | .hbm, ⟨40, _⟩ => ⟨S2x4096x4x64, .f32⟩
  | .hbm, ⟨41, _⟩ => ⟨S2x4096x4x64, .f32⟩
  | .hbm, ⟨42, _⟩ => ⟨S1x4096x1x64, .f32⟩
  | .hbm, ⟨43, _⟩ => ⟨S2x4096x4x64, .f32⟩
  | .hbm, ⟨44, _⟩ => ⟨S2x4096x4x64, .f32⟩
  | .hbm, ⟨45, _⟩ => ⟨S1x4096x1x64, .f32⟩
  | .hbm, ⟨46, _⟩ => ⟨S2x4096x4x64, .f32⟩
  | .hbm, ⟨47, _⟩ => ⟨S2x4096x4x64, .f32⟩
  | .hbm, ⟨48, _⟩ => ⟨S2x4096x4x64, .f32⟩
  | .hbm, ⟨49, _⟩ => ⟨S2x4096x4x128, .f32⟩
  | .hbm, ⟨50, _⟩ => ⟨S8192x512, .f32⟩
  | .hbm, ⟨51, _⟩ => ⟨S2x4096x4x128, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S4096, .f32⟩
  | .hbm, ⟨61, _⟩ => ⟨S4096x1, .f32⟩
  | .hbm, ⟨62, _⟩ => ⟨S1x64, .f32⟩
  | .hbm, ⟨63, _⟩ => ⟨S4096x64, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S4096x1x64, .f32⟩
  | .hbm, ⟨68, _⟩ => ⟨S4096x64, .f32⟩
  | .hbm, ⟨69, _⟩ => ⟨S4096x1x64, .f32⟩
  | .hbm, ⟨70, _⟩ => ⟨S2x4096x4x64, .f32⟩
  | .hbm, ⟨71, _⟩ => ⟨S2x4096x4x64, .f32⟩
  | .hbm, ⟨72, _⟩ => ⟨S1x4096x1x64, .f32⟩
  | .hbm, ⟨73, _⟩ => ⟨S2x4096x4x64, .f32⟩
  | .hbm, ⟨74, _⟩ => ⟨S2x4096x4x64, .f32⟩
  | .hbm, ⟨75, _⟩ => ⟨S1x4096x1x64, .f32⟩
  | .hbm, ⟨76, _⟩ => ⟨S2x4096x4x64, .f32⟩
  | .hbm, ⟨77, _⟩ => ⟨S2x4096x4x64, .f32⟩
  | .hbm, ⟨78, _⟩ => ⟨S2x4096x4x64, .f32⟩
  | .hbm, ⟨79, _⟩ => ⟨S1x4096x1x64, .f32⟩
  | .hbm, ⟨80, _⟩ => ⟨S2x4096x4x64, .f32⟩
  | .hbm, ⟨81, _⟩ => ⟨S2x4096x4x64, .f32⟩
  | .hbm, ⟨82, _⟩ => ⟨S1x4096x1x64, .f32⟩
  | .hbm, ⟨83, _⟩ => ⟨S2x4096x4x64, .f32⟩
  | .hbm, ⟨84, _⟩ => ⟨S2x4096x4x64, .f32⟩
  | .hbm, ⟨85, _⟩ => ⟨S2x4096x4x64, .f32⟩
  | .hbm, ⟨86, _⟩ => ⟨S2x4096x4x128, .f32⟩
  | .hbm, ⟨87, _⟩ => ⟨S8192x512, .f32⟩
  | .hbm, ⟨88, _⟩ => ⟨S8192x1024, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_cst_1 : Ref sig .tc := ⟨.hbm, 54, rfl⟩
abbrev main_v50 : Ref sig .tc := ⟨.hbm, 55, rfl⟩
abbrev main_v51 : Ref sig .tc := ⟨.hbm, 56, rfl⟩
abbrev main_cst_2 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩

abbrev nD : Nat := 1
abbrev τ : Topo := Topo.v7x

variable {F : FTy → Type} [FloatOps F]
-- ==== KernelVgd.lean ====
abbrev S2x4096x2048 : Shape := ⟨3, ![2, 4096, 2048]⟩
abbrev S2048x7248 : Shape := ⟨2, ![2048, 7248]⟩
abbrev S8192x2048 : Shape := ⟨2, ![8192, 2048]⟩
abbrev S4096 : Shape := ⟨1, ![4096]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S8192x2048, .f32⟩
  | .hbm, ⟨3, _⟩ => ⟨S8192x2048, .bf16⟩
  | .hbm, ⟨4, _⟩ => ⟨S4096, .i32⟩
  | .hbm, ⟨5, _⟩ => ⟨S2048x2048, .f32⟩
  | .hbm, ⟨6, _⟩ => ⟨S2048x2048, .bf16⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceVgdIdeal.lean ====
abbrev S2x4096x2048 : Shape := ⟨3, ![2, 4096, 2048]⟩
abbrev S2048x7248 : Shape := ⟨2, ![2048, 7248]⟩
abbrev S2x4096x7248 : Shape := ⟨3, ![2, 4096, 7248]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x512 : Shape := ⟨3, ![2, 4096, 512]⟩
abbrev S8192x2048 : Shape := ⟨2, ![8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7248, .f32⟩
  | .hbm, ⟨2, _⟩ => ⟨S2x4096x7248, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x64, .f32⟩
  | .hbm, ⟨8, _⟩ => ⟨S2x4096x16, .f32⟩
  | .hbm, ⟨9, _⟩ => ⟨S2x4096x512, .f32⟩
  | .hbm, ⟨10, _⟩ => ⟨S2x4096x512, .f32⟩
  | .hbm, ⟨11, _⟩ => ⟨S2x4096x1024, .f32⟩
  | .hbm, ⟨12, _⟩ => ⟨S2x4096x1024, .f32⟩
  | .hbm, ⟨13, _⟩ => ⟨S2x4096x2048, .f32⟩
  | .hbm, ⟨14, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== KernelKbs.lean ====
abbrev S8x1x2048 : Shape := ⟨3, ![8, 1, 2048]⟩
abbrev S2048x7184 : Shape := ⟨2, ![2048, 7184]⟩
abbrev S8x2048 : Shape := ⟨2, ![8, 2048]⟩
abbrev S_ : Shape := ⟨0, ![]⟩
abbrev S16x2048 : Shape := ⟨2, ![16, 2048]⟩
abbrev S16 : Shape := ⟨1, ![16]⟩
abbrev S2048x1024 : Shape := ⟨2, ![2048, 1024]⟩
abbrev S64 : Shape := ⟨1, ![64]⟩
abbrev S16x1 : Shape := ⟨2, ![16, 1]⟩
abbrev S1x64 : Shape := ⟨2, ![1, 64]⟩
abbrev S16x64 : Shape := ⟨2, ![16, 64]⟩
abbrev S16x128 : Shape := ⟨2, ![16, 128]⟩
abbrev S1x16x1x128 : Shape := ⟨4, ![1, 16, 1, 128]⟩
abbrev S16x1024 : Shape := ⟨2, ![16, 1024]⟩
abbrev S8x1024 : Shape := ⟨2, ![8, 1024]⟩

abbrev nBuf : Space → Nat
  | .hbm => 38
  | .vmem => 5
  | .smem => 0
  | _ => 0

abbrev bufTy : (tb : Table) → Fin (tcTables nBuf tb) → BufTy
  | .hbm, ⟨0, _⟩ => ⟨S8x1x2048, .f32⟩
  | .hbm, ⟨1, _⟩ => ⟨S2048x7184, .f32⟩
  | .hbm, ⟨2, _⟩ => ⟨S8x2048, .f32⟩
  | .hbm, ⟨3, _⟩ => ⟨S_, .i32⟩
  | .hbm, ⟨4, _⟩ => ⟨S_, .f32⟩
  | .hbm, ⟨5, _⟩ => ⟨S16x2048, .f32⟩
  | .hbm, ⟨6, _⟩ => ⟨S16x2048, .bf16⟩
  | .hbm, ⟨7, _⟩ => ⟨S_, .i32⟩
  | .hbm, ⟨8, _⟩ => ⟨S16, .i32⟩
  | .hbm, ⟨9, _⟩ => ⟨S2048x1024, .f32⟩
  | .hbm, ⟨10, _⟩ => ⟨S2048x1024, .bf16⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S16, .f32⟩
  | .hbm, ⟨20, _⟩ => ⟨S16x1, .f32⟩
  | .hbm, ⟨21, _⟩ => ⟨S1x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x128, .f32⟩
  | .hbm, ⟨28, _⟩ => ⟨S1x16x1x128, .f32⟩
  | .hbm, ⟨29, _⟩ => ⟨S1x16x1x128, .f32⟩
  | .hbm, ⟨30, _⟩ => ⟨S16x128, .f32⟩
  | .hbm, ⟨31, _⟩ => ⟨S16x64, .f32⟩
  | .hbm, ⟨32, _⟩ => ⟨S16x128, .f32⟩
  | .hbm, ⟨33, _⟩ => ⟨S1x16x1x128, .f32⟩
  | .hbm, ⟨34, _⟩ => ⟨S1x16x1x128, .f32⟩
  | .hbm, ⟨35, _⟩ => ⟨S16x128, .f32⟩
  | .hbm, ⟨36, _⟩ => ⟨S16x1024, .f32⟩
  | .hbm, ⟨37, _⟩ => ⟨S8x1024, .f32⟩
  | .local _ .vmem, ⟨0, _⟩ => ⟨S16x2048, .bf16⟩
  | .local _ .vmem, ⟨1, _⟩ => ⟨S2048x1024, .bf16⟩
  | .local _ .vmem, ⟨2, _⟩ => ⟨S16x128, .f32⟩
  | .local _ .vmem, ⟨3, _⟩ => ⟨S16x128, .f32⟩
  | .local _ .vmem, ⟨4, _⟩ => ⟨S16x1024, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== ReferenceKbsIdeal.lean ====
abbrev S8x1x2048 : Shape := ⟨3, ![8, 1, 2048]⟩
abbrev S2048x7184 : Shape := ⟨2, ![2048, 7184]⟩
abbrev S1 : Shape := ⟨1, ![1]⟩
abbrev S_ : Shape := ⟨0, ![]⟩
abbrev S8x1x7184 : Shape := ⟨3, ![8, 1, 7184]⟩
abbrev S8x1x1024 : Shape := ⟨3, ![8, 1, 1024]⟩
abbrev S8x1x8 : Shape := ⟨3, ![8, 1, 8]⟩
abbrev S8x1x8x128 : Shape := ⟨4, ![8, 1, 8, 128]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S8x1x8x64 : Shape := ⟨4, ![8, 1, 8, 64]⟩
abbrev S1x1x1x64 : Shape := ⟨4, ![1, 1, 1, 64]⟩
abbrev S8x1024 : Shape := ⟨2, ![8, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048x7184, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i32⟩
  | .hbm, ⟨6, _⟩ => ⟨S8x1x7184, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x8, .f32⟩
  | .hbm, ⟨12, _⟩ => ⟨S8x1x8, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x8x128, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S1, .f32⟩
  | .hbm, ⟨26, _⟩ => ⟨S1x1, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x1x64, .f32⟩
  | .hbm, ⟨32, _⟩ => ⟨S1x64, .f32⟩
  | .hbm, ⟨33, _⟩ => ⟨S1x1x64, .f32⟩
  | .hbm, ⟨34, _⟩ => ⟨S8x1x8x64, .f32⟩
  | .hbm, ⟨35, _⟩ => ⟨S8x1x8x64, .f32⟩
  | .hbm, ⟨36, _⟩ => ⟨S1x1x1x64, .f32⟩
  | .hbm, ⟨37, _⟩ => ⟨S8x1x8x64, .f32⟩
  | .hbm, ⟨38, _⟩ => ⟨S8x1x8x64, .f32⟩
  | .hbm, ⟨39, _⟩ => ⟨S1x1x1x64, .f32⟩
  | .hbm, ⟨40, _⟩ => ⟨S8x1x8x64, .f32⟩
  | .hbm, ⟨41, _⟩ => ⟨S8x1x8x64, .f32⟩
  | .hbm, ⟨42, _⟩ => ⟨S8x1x8x64, .f32⟩
  | .hbm, ⟨43, _⟩ => ⟨S1x1x1x64, .f32⟩
  | .hbm, ⟨44, _⟩ => ⟨S8x1x8x64, .f32⟩
  | .hbm, ⟨45, _⟩ => ⟨S8x1x8x64, .f32⟩
  | .hbm, ⟨46, _⟩ => ⟨S1x1x1x64, .f32⟩
  | .hbm, ⟨47, _⟩ => ⟨S8x1x8x64, .f32⟩
  | .hbm, ⟨48, _⟩ => ⟨S8x1x8x64, .f32⟩
  | .hbm, ⟨49, _⟩ => ⟨S8x1x8x64, .f32⟩
  | .hbm, ⟨50, _⟩ => ⟨S8x1x8x128, .f32⟩
  | .hbm, ⟨51, _⟩ => ⟨S8x1024, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩

abbrev nD : Nat := 1
abbrev τ : Topo := Topo.v7x

variable {F : FTy → Type} [FloatOps F]
-- ==== KernelVbs.lean ====
abbrev S8x1x2048 : Shape := ⟨3, ![8, 1, 2048]⟩
abbrev S2048x7184 : Shape := ⟨2, ![2048, 7184]⟩
abbrev S8x2048 : Shape := ⟨2, ![8, 2048]⟩
abbrev S_ : Shape := ⟨0, ![]⟩
abbrev S16x2048 : Shape := ⟨2, ![16, 2048]⟩
abbrev S16 : Shape := ⟨1, ![16]⟩
abbrev S2048x1024 : Shape := ⟨2, ![2048, 1024]⟩
abbrev S16x1024 : Shape := ⟨2, ![16, 1024]⟩
abbrev S8x1024 : Shape := ⟨2, ![8, 1024]⟩

abbrev nBuf : Space → Nat
  | .hbm => 13
  | .vmem => 3
  | .smem => 0
  | _ => 0

abbrev bufTy : (tb : Table) → Fin (tcTables nBuf tb) → BufTy
  | .hbm, ⟨0, _⟩ => ⟨S8x1x2048, .f32⟩
  | .hbm, ⟨1, _⟩ => ⟨S2048x7184, .f32⟩
  | .hbm, ⟨2, _⟩ => ⟨S8x2048, .f32⟩
  | .hbm, ⟨3, _⟩ => ⟨S_, .i32⟩
  | .hbm, ⟨4, _⟩ => ⟨S_, .f32⟩
  | .hbm, ⟨5, _⟩ => ⟨S16x2048, .f32⟩
  | .hbm, ⟨6, _⟩ => ⟨S16x2048, .bf16⟩
  | .hbm, ⟨7, _⟩ => ⟨S_, .i32⟩
  | .hbm, ⟨8, _⟩ => ⟨S16, .i32⟩
  | .hbm, ⟨9, _⟩ => ⟨S2048x1024, .f32⟩
  | .hbm, ⟨10, _⟩ => ⟨S2048x1024, .bf16⟩
  | .hbm, ⟨11, _⟩ => ⟨S16x1024, .f32⟩
  | .hbm, ⟨12, _⟩ => ⟨S8x1024, .f32⟩
  | .local _ .vmem, ⟨0, _⟩ => ⟨S16x2048, .bf16⟩
  | .local _ .vmem, ⟨1, _⟩ => ⟨S2048x1024, .bf16⟩
  | .local _ .vmem, ⟨2, _⟩ => ⟨S16x1024, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ReferenceVbsIdeal.lean ====
abbrev S8x1x2048 : Shape := ⟨3, ![8, 1, 2048]⟩
abbrev S2048x7184 : Shape := ⟨2, ![2048, 7184]⟩
abbrev S8x1x7184 : Shape := ⟨3, ![8, 1, 7184]⟩
abbrev S8x1x1024 : Shape := ⟨3, ![8, 1, 1024]⟩
abbrev S8x1x8 : Shape := ⟨3, ![8, 1, 8]⟩
abbrev S8x1024 : Shape := ⟨2, ![8, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048x7184, .f32⟩
  | .hbm, ⟨2, _⟩ => ⟨S8x1x7184, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S8x1x8, .f32⟩
  | .hbm, ⟨8, _⟩ => ⟨S8x1x8, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1024, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== KernelKcs.lean ====
abbrev S8x1x2048 : Shape := ⟨3, ![8, 1, 2048]⟩
abbrev S2048x7248 : Shape := ⟨2, ![2048, 7248]⟩
abbrev S8x2048 : Shape := ⟨2, ![8, 2048]⟩
abbrev S_ : Shape := ⟨0, ![]⟩
abbrev S16x2048 : Shape := ⟨2, ![16, 2048]⟩
abbrev S16 : Shape := ⟨1, ![16]⟩
abbrev S2048x1024 : Shape := ⟨2, ![2048, 1024]⟩
abbrev S64 : Shape := ⟨1, ![64]⟩
abbrev S16x1 : Shape := ⟨2, ![16, 1]⟩
abbrev S1x64 : Shape := ⟨2, ![1, 64]⟩
abbrev S16x64 : Shape := ⟨2, ![16, 64]⟩
abbrev S16x128 : Shape := ⟨2, ![16, 128]⟩
abbrev S1x16x1x128 : Shape := ⟨4, ![1, 16, 1, 128]⟩
abbrev S16x1024 : Shape := ⟨2, ![16, 1024]⟩
abbrev S8x1024 : Shape := ⟨2, ![8, 1024]⟩

abbrev nBuf : Space → Nat
  | .hbm => 39
  | .vmem => 6
  | .smem => 0
  | _ => 0

abbrev bufTy : (tb : Table) → Fin (tcTables nBuf tb) → BufTy
  | .hbm, ⟨0, _⟩ => ⟨S8x1x2048, .f32⟩
  | .hbm, ⟨1, _⟩ => ⟨S2048x7248, .f32⟩
  | .hbm, ⟨2, _⟩ => ⟨S8x2048, .f32⟩
  | .hbm, ⟨3, _⟩ => ⟨S_, .i32⟩
  | .hbm, ⟨4, _⟩ => ⟨S_, .f32⟩
  | .hbm, ⟨5, _⟩ => ⟨S16x2048, .f32⟩
  | .hbm, ⟨6, _⟩ => ⟨S16x2048, .bf16⟩
  | .hbm, ⟨7, _⟩ => ⟨S_, .i32⟩
  | .hbm, ⟨8, _⟩ => ⟨S16, .i32⟩
  | .hbm, ⟨9, _⟩ => ⟨S2048x1024, .f32⟩
  | .hbm, ⟨10, _⟩ => ⟨S2048x1024, .bf16⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S16, .f32⟩
  | .hbm, ⟨20, _⟩ => ⟨S16x1, .f32⟩
  | .hbm, ⟨21, _⟩ => ⟨S1x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x128, .f32⟩
  | .hbm, ⟨28, _⟩ => ⟨S1x16x1x128, .f32⟩
  | .hbm, ⟨29, _⟩ => ⟨S1x16x1x128, .f32⟩
  | .hbm, ⟨30, _⟩ => ⟨S16x128, .f32⟩
  | .hbm, ⟨31, _⟩ => ⟨S16x64, .f32⟩
  | .hbm, ⟨32, _⟩ => ⟨S16x128, .f32⟩
  | .hbm, ⟨33, _⟩ => ⟨S1x16x1x128, .f32⟩
  | .hbm, ⟨34, _⟩ => ⟨S1x16x1x128, .f32⟩
  | .hbm, ⟨35, _⟩ => ⟨S16x128, .f32⟩
  | .hbm, ⟨36, _⟩ => ⟨S16x1024, .f32⟩
  | .hbm, ⟨37, _⟩ => ⟨S16x1024, .bf16⟩
  | .hbm, ⟨38, _⟩ => ⟨S8x1024, .f32⟩
  | .local _ .vmem, ⟨0, _⟩ => ⟨S16x2048, .bf16⟩
  | .local _ .vmem, ⟨1, _⟩ => ⟨S2048x1024, .bf16⟩
  | .local _ .vmem, ⟨2, _⟩ => ⟨S16x128, .f32⟩
  | .local _ .vmem, ⟨3, _⟩ => ⟨S16x128, .f32⟩
  | .local _ .vmem, ⟨4, _⟩ => ⟨S16x1024, .f32⟩
  | .local _ .vmem, ⟨5, _⟩ => ⟨S16x1024, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v30 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== ReferenceKcsIdeal.lean ====
abbrev S8x1x2048 : Shape := ⟨3, ![8, 1, 2048]⟩
abbrev S2048x7248 : Shape := ⟨2, ![2048, 7248]⟩
abbrev S1 : Shape := ⟨1, ![1]⟩
abbrev S_ : Shape := ⟨0, ![]⟩
abbrev S8x1x7248 : Shape := ⟨3, ![8, 1, 7248]⟩
abbrev S8x1x1024 : Shape := ⟨3, ![8, 1, 1024]⟩
abbrev S8x1x64 : Shape := ⟨3, ![8, 1, 64]⟩
abbrev S8x1x16 : Shape := ⟨3, ![8, 1, 16]⟩
abbrev S8x1x512 : Shape := ⟨3, ![8, 1, 512]⟩
abbrev S8x1x8x128 : Shape := ⟨4, ![8, 1, 8, 128]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S8x1x8x64 : Shape := ⟨4, ![8, 1, 8, 64]⟩
abbrev S1x1x1x64 : Shape := ⟨4, ![1, 1, 1, 64]⟩
abbrev S8x1024 : Shape := ⟨2, ![8, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048x7248, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i32⟩
  | .hbm, ⟨6, _⟩ => ⟨S8x1x7248, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x64, .f32⟩
  | .hbm, ⟨12, _⟩ => ⟨S8x1x16, .f32⟩
  | .hbm, ⟨13, _⟩ => ⟨S8x1x512, .f32⟩
  | .hbm, ⟨14, _⟩ => ⟨S8x1x512, .f32⟩
  | .hbm, ⟨15, _⟩ => ⟨S8x1x1024, .f32⟩
  | .hbm, ⟨16, _⟩ => ⟨S8x1x1024, .f32⟩
  | .hbm, ⟨17, _⟩ => ⟨S8x1x8x128, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S1, .f32⟩
  | .hbm, ⟨27, _⟩ => ⟨S1x1, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x1x64, .f32⟩
  | .hbm, ⟨33, _⟩ => ⟨S1x64, .f32⟩
  | .hbm, ⟨34, _⟩ => ⟨S1x1x64, .f32⟩
  | .hbm, ⟨35, _⟩ => ⟨S8x1x8x64, .f32⟩
  | .hbm, ⟨36, _⟩ => ⟨S8x1x8x64, .f32⟩
  | .hbm, ⟨37, _⟩ => ⟨S1x1x1x64, .f32⟩
  | .hbm, ⟨38, _⟩ => ⟨S8x1x8x64, .f32⟩
  | .hbm, ⟨39, _⟩ => ⟨S8x1x8x64, .f32⟩
  | .hbm, ⟨40, _⟩ => ⟨S1x1x1x64, .f32⟩
  | .hbm, ⟨41, _⟩ => ⟨S8x1x8x64, .f32⟩
  | .hbm, ⟨42, _⟩ => ⟨S8x1x8x64, .f32⟩
  | .hbm, ⟨43, _⟩ => ⟨S8x1x8x64, .f32⟩
  | .hbm, ⟨44, _⟩ => ⟨S1x1x1x64, .f32⟩
  | .hbm, ⟨45, _⟩ => ⟨S8x1x8x64, .f32⟩
  | .hbm, ⟨46, _⟩ => ⟨S8x1x8x64, .f32⟩
  | .hbm, ⟨47, _⟩ => ⟨S1x1x1x64, .f32⟩
  | .hbm, ⟨48, _⟩ => ⟨S8x1x8x64, .f32⟩
  | .hbm, ⟨49, _⟩ => ⟨S8x1x8x64, .f32⟩
  | .hbm, ⟨50, _⟩ => ⟨S8x1x8x64, .f32⟩
  | .hbm, ⟨51, _⟩ => ⟨S8x1x8x128, .f32⟩
  | .hbm, ⟨52, _⟩ => ⟨S8x1024, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩

abbrev nD : Nat := 1
abbrev τ : Topo := Topo.v7x

variable {F : FTy → Type} [FloatOps F]
-- ==== KernelVcs.lean ====
abbrev S8x1x2048 : Shape := ⟨3, ![8, 1, 2048]⟩
abbrev S2048x7248 : Shape := ⟨2, ![2048, 7248]⟩
abbrev S8x2048 : Shape := ⟨2, ![8, 2048]⟩
abbrev S_ : Shape := ⟨0, ![]⟩
abbrev S16x2048 : Shape := ⟨2, ![16, 2048]⟩
abbrev S16 : Shape := ⟨1, ![16]⟩
abbrev S2048x1024 : Shape := ⟨2, ![2048, 1024]⟩
abbrev S16x1024 : Shape := ⟨2, ![16, 1024]⟩
abbrev S8x1024 : Shape := ⟨2, ![8, 1024]⟩

abbrev nBuf : Space → Nat
  | .hbm => 14
  | .vmem => 4
  | .smem => 0
  | _ => 0

abbrev bufTy : (tb : Table) → Fin (tcTables nBuf tb) → BufTy
  | .hbm, ⟨0, _⟩ => ⟨S8x1x2048, .f32⟩
  | .hbm, ⟨1, _⟩ => ⟨S2048x7248, .f32⟩
  | .hbm, ⟨2, _⟩ => ⟨S8x2048, .f32⟩
  | .hbm, ⟨3, _⟩ => ⟨S_, .i32⟩
  | .hbm, ⟨4, _⟩ => ⟨S_, .f32⟩
  | .hbm, ⟨5, _⟩ => ⟨S16x2048, .f32⟩
  | .hbm, ⟨6, _⟩ => ⟨S16x2048, .bf16⟩
  | .hbm, ⟨7, _⟩ => ⟨S_, .i32⟩
  | .hbm, ⟨8, _⟩ => ⟨S16, .i32⟩
  | .hbm, ⟨9, _⟩ => ⟨S2048x1024, .f32⟩
  | .hbm, ⟨10, _⟩ => ⟨S2048x1024, .bf16⟩
  | .hbm, ⟨11, _⟩ => ⟨S16x1024, .f32⟩
  | .hbm, ⟨12, _⟩ => ⟨S16x1024, .bf16⟩
  | .hbm, ⟨13, _⟩ => ⟨S8x1024, .f32⟩
  | .local _ .vmem, ⟨0, _⟩ => ⟨S16x2048, .bf16⟩
  | .local _ .vmem, ⟨1, _⟩ => ⟨S2048x1024, .bf16⟩
  | .local _ .vmem, ⟨2, _⟩ => ⟨S16x1024, .f32⟩
  | .local _ .vmem, ⟨3, _⟩ => ⟨S16x1024, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== ReferenceVcsIdeal.lean ====
abbrev S8x1x2048 : Shape := ⟨3, ![8, 1, 2048]⟩
abbrev S2048x7248 : Shape := ⟨2, ![2048, 7248]⟩
abbrev S8x1x7248 : Shape := ⟨3, ![8, 1, 7248]⟩
abbrev S8x1x1024 : Shape := ⟨3, ![8, 1, 1024]⟩
abbrev S8x1x64 : Shape := ⟨3, ![8, 1, 64]⟩
abbrev S8x1x16 : Shape := ⟨3, ![8, 1, 16]⟩
abbrev S8x1x512 : Shape := ⟨3, ![8, 1, 512]⟩
abbrev S8x1024 : Shape := ⟨2, ![8, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048x7248, .f32⟩
  | .hbm, ⟨2, _⟩ => ⟨S8x1x7248, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S8x1x64, .f32⟩
  | .hbm, ⟨8, _⟩ => ⟨S8x1x16, .f32⟩
  | .hbm, ⟨9, _⟩ => ⟨S8x1x512, .f32⟩
  | .hbm, ⟨10, _⟩ => ⟨S8x1x512, .f32⟩
  | .hbm, ⟨11, _⟩ => ⟨S8x1x1024, .f32⟩
  | .hbm, ⟨12, _⟩ => ⟨S8x1x1024, .f32⟩
  | .hbm, ⟨13, _⟩ => ⟨S8x1024, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== KernelKis.lean ====
abbrev S8x1x2048 : Shape := ⟨3, ![8, 1, 2048]⟩
abbrev S2048x7248 : Shape := ⟨2, ![2048, 7248]⟩
abbrev S8x2048 : Shape := ⟨2, ![8, 2048]⟩
abbrev S_ : Shape := ⟨0, ![]⟩
abbrev S16x2048 : Shape := ⟨2, ![16, 2048]⟩
abbrev S16 : Shape := ⟨1, ![16]⟩
abbrev S2048x64 : Shape := ⟨2, ![2048, 64]⟩
abbrev S2048x128 : Shape := ⟨2, ![2048, 128]⟩
abbrev S32 : Shape := ⟨1, ![32]⟩
abbrev S16x1 : Shape := ⟨2, ![16, 1]⟩
abbrev S1x32 : Shape := ⟨2, ![1, 32]⟩
abbrev S16x32 : Shape := ⟨2, ![16, 32]⟩
abbrev S16x64 : Shape := ⟨2, ![16, 64]⟩
abbrev S1x16x1x64 : Shape := ⟨4, ![1, 16, 1, 64]⟩
abbrev S1x16x2x64 : Shape := ⟨4, ![1, 16, 2, 64]⟩
abbrev S16x128 : Shape := ⟨2, ![16, 128]⟩
abbrev S8x64 : Shape := ⟨2, ![8, 64]⟩

abbrev nBuf : Space → Nat
  | .hbm => 41
  | .vmem => 5
  | .smem => 0
  | _ => 0

abbrev bufTy : (tb : Table) → Fin (tcTables nBuf tb) → BufTy
  | .hbm, ⟨0, _⟩ => ⟨S8x1x2048, .f32⟩
  | .hbm, ⟨1, _⟩ => ⟨S2048x7248, .f32⟩
  | .hbm, ⟨2, _⟩ => ⟨S8x2048, .f32⟩
  | .hbm, ⟨3, _⟩ => ⟨S_, .i32⟩
  | .hbm, ⟨4, _⟩ => ⟨S_, .f32⟩
  | .hbm, ⟨5, _⟩ => ⟨S16x2048, .f32⟩
  | .hbm, ⟨6, _⟩ => ⟨S16x2048, .bf16⟩
  | .hbm, ⟨7, _⟩ => ⟨S_, .i32⟩
  | .hbm, ⟨8, _⟩ => ⟨S16, .i32⟩
  | .hbm, ⟨9, _⟩ => ⟨S2048x64, .f32⟩
  | .hbm, ⟨10, _⟩ => ⟨S2048x64, .bf16⟩
  | .hbm, ⟨11, _⟩ => ⟨S_, .i32⟩
  | .hbm, ⟨12, _⟩ => ⟨S_, .bf16⟩
  | .hbm, ⟨13, _⟩ => ⟨S2048x128, .bf16⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S16, .f32⟩
  | .hbm, ⟨23, _⟩ => ⟨S16x1, .f32⟩
  | .hbm, ⟨24, _⟩ => ⟨S1x32, .f32⟩
  | .hbm, ⟨25, _⟩ => ⟨S16x32, .f32⟩
  | .hbm, ⟨26, _⟩ => ⟨S16x32, .f32⟩
  | .hbm, ⟨27, _⟩ => ⟨S16x32, .f32⟩
  | .hbm, ⟨28, _⟩ => ⟨S16x32, .f32⟩
  | .hbm, ⟨29, _⟩ => ⟨S16x32, .f32⟩
  | .hbm, ⟨30, _⟩ => ⟨S16x64, .f32⟩
  | .hbm, ⟨31, _⟩ => ⟨S1x16x1x64, .f32⟩
  | .hbm, ⟨32, _⟩ => ⟨S1x16x2x64, .f32⟩
  | .hbm, ⟨33, _⟩ => ⟨S16x128, .f32⟩
  | .hbm, ⟨34, _⟩ => ⟨S16x32, .f32⟩
  | .hbm, ⟨35, _⟩ => ⟨S16x64, .f32⟩
  | .hbm, ⟨36, _⟩ => ⟨S1x16x1x64, .f32⟩
  | .hbm, ⟨37, _⟩ => ⟨S1x16x2x64, .f32⟩
  | .hbm, ⟨38, _⟩ => ⟨S16x128, .f32⟩
  | .hbm, ⟨39, _⟩ => ⟨S16x64, .f32⟩
  | .hbm, ⟨40, _⟩ => ⟨S8x64, .f32⟩
  | .local _ .vmem, ⟨0, _⟩ => ⟨S16x2048, .bf16⟩
  | .local _ .vmem, ⟨1, _⟩ => ⟨S2048x128, .bf16⟩
  | .local _ .vmem, ⟨2, _⟩ => ⟨S16x128, .f32⟩
  | .local _ .vmem, ⟨3, _⟩ => ⟨S16x128, .f32⟩
  | .local _ .vmem, ⟨4, _⟩ => ⟨S16x64, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== ReferenceKisIdeal.lean ====
abbrev S8x1x2048 : Shape := ⟨3, ![8, 1, 2048]⟩
abbrev S2048x7248 : Shape := ⟨2, ![2048, 7248]⟩
abbrev S1 : Shape := ⟨1, ![1]⟩
abbrev S_ : Shape := ⟨0, ![]⟩
abbrev S8x1x7248 : Shape := ⟨3, ![8, 1, 7248]⟩
abbrev S8x1x1024 : Shape := ⟨3, ![8, 1, 1024]⟩
abbrev S8x1x64 : Shape := ⟨3, ![8, 1, 64]⟩
abbrev S8x1x16 : Shape := ⟨3, ![8, 1, 16]⟩
abbrev S8x1x512 : Shape := ⟨3, ![8, 1, 512]⟩
abbrev S8x1x1x64 : Shape := ⟨4, ![8, 1, 1, 64]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S8x1x1x32 : Shape := ⟨4, ![8, 1, 1, 32]⟩
abbrev S1x1x1x32 : Shape := ⟨4, ![1, 1, 1, 32]⟩
abbrev S8x64 : Shape := ⟨2, ![8, 64]⟩

abbrev nBuf : Space → Nat
  | .hbm => 54
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048x7248, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i32⟩
  | .hbm, ⟨6, _⟩ => ⟨S8x1x7248, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x64, .f32⟩
  | .hbm, ⟨12, _⟩ => ⟨S8x1x16, .f32⟩
  | .hbm, ⟨13, _⟩ => ⟨S8x1x512, .f32⟩
  | .hbm, ⟨14, _⟩ => ⟨S8x1x512, .f32⟩
  | .hbm, ⟨15, _⟩ => ⟨S8x1x1024, .f32⟩
  | .hbm, ⟨16, _⟩ => ⟨S8x1x1024, .f32⟩
  | .hbm, ⟨17, _⟩ => ⟨S8x1x1x64, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S1, .f32⟩
  | .hbm, ⟨27, _⟩ => ⟨S1x1, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S1x32, .f32⟩
  | .hbm, ⟨32, _⟩ => ⟨S1x1x32, .f32⟩
  | .hbm, ⟨33, _⟩ => ⟨S1x32, .f32⟩
  | .hbm, ⟨34, _⟩ => ⟨S1x1x32, .f32⟩
  | .hbm, ⟨35, _⟩ => ⟨S8x1x1x32, .f32⟩
  | .hbm, ⟨36, _⟩ => ⟨S8x1x1x32, .f32⟩
  | .hbm, ⟨37, _⟩ => ⟨S1x1x1x32, .f32⟩
  | .hbm, ⟨38, _⟩ => ⟨S8x1x1x32, .f32⟩
  | .hbm, ⟨39, _⟩ => ⟨S8x1x1x32, .f32⟩
  | .hbm, ⟨40, _⟩ => ⟨S1x1x1x32, .f32⟩
  | .hbm, ⟨41, _⟩ => ⟨S8x1x1x32, .f32⟩
  | .hbm, ⟨42, _⟩ => ⟨S8x1x1x32, .f32⟩
  | .hbm, ⟨43, _⟩ => ⟨S8x1x1x32, .f32⟩
  | .hbm, ⟨44, _⟩ => ⟨S1x1x1x32, .f32⟩
  | .hbm, ⟨45, _⟩ => ⟨S8x1x1x32, .f32⟩
  | .hbm, ⟨46, _⟩ => ⟨S8x1x1x32, .f32⟩
  | .hbm, ⟨47, _⟩ => ⟨S1x1x1x32, .f32⟩
  | .hbm, ⟨48, _⟩ => ⟨S8x1x1x32, .f32⟩
  | .hbm, ⟨49, _⟩ => ⟨S8x1x1x32, .f32⟩
  | .hbm, ⟨50, _⟩ => ⟨S8x1x1x32, .f32⟩
  | .hbm, ⟨51, _⟩ => ⟨S8x1x1x64, .f32⟩
  | .hbm, ⟨52, _⟩ => ⟨S8x1x64, .f32⟩
  | .hbm, ⟨53, _⟩ => ⟨S8x64, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩

abbrev nD : Nat := 1
abbrev τ : Topo := Topo.v7x

variable {F : FTy → Type} [FloatOps F]
-- ==== KernelLg.lean ====
abbrev S8192x2048 : Shape := ⟨2, ![8192, 2048]⟩
abbrev S2048x32 : Shape := ⟨2, ![2048, 32]⟩
abbrev S32x2048 : Shape := ⟨2, ![32, 2048]⟩
abbrev S32x8192 : Shape := ⟨2, ![32, 8192]⟩
abbrev S512x2048 : Shape := ⟨2, ![512, 2048]⟩
abbrev S32x512 : Shape := ⟨2, ![32, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x32, .f32⟩
  | .hbm, ⟨2, _⟩ => ⟨S32x2048, .f32⟩
  | .hbm, ⟨3, _⟩ => ⟨S32x2048, .bf16⟩
  | .hbm, ⟨4, _⟩ => ⟨S32x8192, .f32⟩
  | .local _ .vmem, ⟨0, _⟩ => ⟨S32x2048, .bf16⟩
  | .local _ .vmem, ⟨1, _⟩ => ⟨S512x2048, .bf16⟩
  | .local _ .vmem, ⟨2, _⟩ => ⟨S512x2048, .bf16⟩
  | .local _ .vmem, ⟨3, _⟩ => ⟨S32x512, .f32⟩
  | .local _ .vmem, ⟨4, _⟩ => ⟨S32x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceLgIdeal.lean ====
abbrev S8192x2048 : Shape := ⟨2, ![8192, 2048]⟩
abbrev S2048x32 : Shape := ⟨2, ![2048, 32]⟩
abbrev S8192x32 : Shape := ⟨2, ![8192, 32]⟩
abbrev S32x8192 : Shape := ⟨2, ![32, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x32, .f32⟩
  | .hbm, ⟨2, _⟩ => ⟨S8192x2048, .f32⟩
  | .hbm, ⟨3, _⟩ => ⟨S8192x32, .f32⟩
  | .hbm, ⟨4, _⟩ => ⟨S32x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelPln.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S1024x2048 : Shape := ⟨2, ![1024, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferencePlnIdeal.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S8192x2048, .bf16⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== KernelRets.lean ====
abbrev S8x1024 : Shape := ⟨2, ![8, 1024]⟩
abbrev S8x2048 : Shape := ⟨2, ![8, 2048]⟩
abbrev S4x256 : Shape := ⟨2, ![4, 256]⟩
abbrev S8x4x128x256 : Shape := ⟨4, ![8, 4, 128, 256]⟩
abbrev S4 : Shape := ⟨1, ![4]⟩
abbrev S_ : Shape := ⟨0, ![]⟩
abbrev S8x1x1024 : Shape := ⟨3, ![8, 1, 1024]⟩
abbrev S8x128x1024 : Shape := ⟨3, ![8, 128, 1024]⟩
abbrev S8x1x2048 : Shape := ⟨3, ![8, 1, 2048]⟩
abbrev S8x128x2048 : Shape := ⟨3, ![8, 128, 2048]⟩
abbrev S4x1x1 : Shape := ⟨3, ![4, 1, 1]⟩
abbrev S4x1x256 : Shape := ⟨3, ![4, 1, 256]⟩
abbrev S1x128x512 : Shape := ⟨3, ![1, 128, 512]⟩
abbrev S1x128x1024 : Shape := ⟨3, ![1, 128, 1024]⟩
abbrev S1x4x128x256 : Shape := ⟨4, ![1, 4, 128, 256]⟩
abbrev S4x128x256 : Shape := ⟨3, ![4, 128, 256]⟩
abbrev S128x1 : Shape := ⟨2, ![128, 1]⟩
abbrev S128x128 : Shape := ⟨2, ![128, 128]⟩
abbrev S1x128x128 : Shape := ⟨3, ![1, 128, 128]⟩
abbrev S1x128x256 : Shape := ⟨3, ![1, 128, 256]⟩
abbrev S128x256 : Shape := ⟨2, ![128, 256]⟩
abbrev S1x1x1 : Shape := ⟨3, ![1, 1, 1]⟩
abbrev S1x1 : Shape := ⟨2, ![1, 1]⟩
abbrev S1x1x256 : Shape := ⟨3, ![1, 1, 256]⟩
abbrev S1x256 : Shape := ⟨2, ![1, 256]⟩
abbrev S128 : Shape := ⟨1, ![128]⟩

abbrev nBuf : Space → Nat
  | .hbm => 29
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x2048, .f32⟩
  | .hbm, ⟨2, _⟩ => ⟨S4x256, .f32⟩
  | .hbm, ⟨3, _⟩ => ⟨S8x4x128x256, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S8x1x1024, .f32⟩
  | .hbm, ⟨16, _⟩ => ⟨S_, .i32⟩
  | .hbm, ⟨17, _⟩ => ⟨S_, .f32⟩
  | .hbm, ⟨18, _⟩ => ⟨S8x128x1024, .f32⟩
  | .hbm, ⟨19, _⟩ => ⟨S8x1x2048, .f32⟩
  | .hbm, ⟨20, _⟩ => ⟨S_, .i32⟩
  | .hbm, ⟨21, _⟩ => ⟨S_, .f32⟩
  | .hbm, ⟨22, _⟩ => ⟨S8x128x2048, .f32⟩
  | .hbm, ⟨23, _⟩ => ⟨S4x1x1, .f32⟩
  | .hbm, ⟨24, _⟩ => ⟨S4x1x256, .f32⟩
  | .hbm, ⟨25, _⟩ => ⟨S8x128x1024, .bf16⟩
  | .hbm, ⟨26, _⟩ => ⟨S8x4x128x256, .f32⟩
  | .hbm, ⟨27, _⟩ => ⟨S8x1x1024, .bf16⟩
  | .hbm, ⟨28, _⟩ => ⟨S8x1024, .bf16⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S4x1x1, .f32⟩
  | .local _ .vmem, ⟨9, _⟩ => ⟨S4x1x256, .f32⟩
  | .local _ .vmem, ⟨10, _⟩ => ⟨S1x4x128x256, .f32⟩
  | .local _ .vmem, ⟨11, _⟩ => ⟨S1x4x128x256, .f32⟩
  | .local _ .vmem, ⟨12, _⟩ => ⟨S1x128x1024, .bf16⟩
  | .local _ .vmem, ⟨13, _⟩ => ⟨S1x128x1024, .bf16⟩
  | .local _ .vmem, ⟨14, _⟩ => ⟨S1x4x128x256, .f32⟩
  | .local _ .vmem, ⟨15, _⟩ => ⟨S1x4x128x256, .f32⟩
  | .local _ .vmem, ⟨16, _⟩ => ⟨S4x128x256, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_180 : BitVec 32 := 0#32
  let v395 : BitVec 1 := Scalar.cmpi .eq arg1 c0_i32_180
  let v396 : BitVec 32 := Scalar.extui v395
  let c0_i32_181 : BitVec 32 := 0#32
  let v397 : BitVec 1 := Scalar.cmpi .ne v396 c0_i32_181
  v397

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceRetsIdeal.lean ====
abbrev S8x1024 : Shape := ⟨2, ![8, 1024]⟩
abbrev S8x2048 : Shape := ⟨2, ![8, 2048]⟩
abbrev S4x256 : Shape := ⟨2, ![4, 256]⟩
abbrev S8x4x128x256 : Shape := ⟨4, ![8, 4, 128, 256]⟩
abbrev S8x512 : Shape := ⟨2, ![8, 512]⟩
abbrev S8x1x4x128 : Shape := ⟨4, ![8, 1, 4, 128]⟩
abbrev S_ : Shape := ⟨0, ![]⟩
abbrev S8x1x4x256 : Shape := ⟨4, ![8, 1, 4, 256]⟩
abbrev S4 : Shape := ⟨1, ![4]⟩
abbrev S8x4x1x128 : Shape := ⟨4, ![8, 4, 1, 128]⟩
abbrev S8x4x1x256 : Shape := ⟨4, ![8, 4, 1, 256]⟩
abbrev S1 : Shape := ⟨1, ![1]⟩
abbrev S1x1 : Shape := ⟨2, ![1, 1]⟩
abbrev S4x1x1 : Shape := ⟨3, ![4, 1, 1]⟩
abbrev S1x1x1 : Shape := ⟨3, ![1, 1, 1]⟩
abbrev S8x4x1x1 : Shape := ⟨4, ![8, 4, 1, 1]⟩
abbrev S1x4x1x1 : Shape := ⟨4, ![1, 4, 1, 1]⟩
abbrev S4x1 : Shape := ⟨2, ![4, 1]⟩
abbrev S8x1x4 : Shape := ⟨3, ![8, 1, 4]⟩
abbrev S8x1x4x1 : Shape := ⟨4, ![8, 1, 4, 1]⟩
abbrev S1x1x4x256 : Shape := ⟨4, ![1, 1, 4, 256]⟩

abbrev nBuf : Space → Nat
  | .hbm => 130
  | .vmem => 0
  | .smem => 0
  | _ => 0

abbrev hbmTy0_0 (i : Nat) : BufTy := match i % 128 with
  | 0 => ⟨S8x1024, .f32⟩
  | 1 => ⟨S8x2048, .f32⟩
  | 2 => ⟨S4x256, .f32⟩
  | 3 => ⟨S8x4x128x256, .f32⟩
  | 4 => ⟨S8x512, .f32⟩
  | 5 => ⟨S8x512, .f32⟩
  | 6 => ⟨S8x1024, .f32⟩
  | 7 => ⟨S8x1024, .f32⟩
  | 8 => ⟨S8x1x4x128, .f32⟩
  | 9 => ⟨S8x1x4x128, .f32⟩
  | 10 => ⟨S_, .f32⟩
  | 11 => ⟨S8x1x4x128, .f32⟩
  | 12 => ⟨S8x1x4x128, .f32⟩
  | 13 => ⟨S8x1x4x256, .f32⟩
  | 14 => ⟨S4, .f32⟩
  | 15 => ⟨S_, .f32⟩
  | 16 => ⟨S4, .f32⟩
  | 17 => ⟨S4, .f32⟩
  | 18 => ⟨S_, .f32⟩
  | 19 => ⟨S4, .f32⟩
  | 20 => ⟨S4, .f32⟩
  | 21 => ⟨S_, .f32⟩
  | 22 => ⟨S4, .f32⟩
  | 23 => ⟨S4, .f32⟩
  | 24 => ⟨S4, .f32⟩
  | 25 => ⟨S8x4x1x128, .f32⟩
  | 26 => ⟨S8x4x1x128, .f32⟩
  | 27 => ⟨S8x4x1x256, .f32⟩
  | 28 => ⟨S1, .f32⟩
  | 29 => ⟨S1x1, .f32⟩
  | 30 => ⟨S1x1, .f32⟩
  | 31 => ⟨S1x1, .f32⟩
  | 32 => ⟨S_, .f32⟩
  | 33 => ⟨S1x1, .f32⟩
  | 34 => ⟨S1x1, .i1⟩
  | 35 => ⟨S4x1x1, .f32⟩
  | 36 => ⟨S_, .f32⟩
  | 37 => ⟨S_, .f32⟩
  | 38 => ⟨S1x1, .f32⟩
  | 39 => ⟨S1x1, .f32⟩
  | 40 => ⟨S1x1x1, .f32⟩
  | 41 => ⟨S4x1x1, .f32⟩
  | 42 => ⟨S4x1x1, .f32⟩
  | 43 => ⟨S4x1x1, .f32⟩
  | 44 => ⟨S_, .f32⟩
  | 45 => ⟨S_, .f32⟩
  | 46 => ⟨S4x1x1, .i1⟩
  | 47 => ⟨S4x1x1, .f32⟩
  | 48 => ⟨S4x1x1, .f32⟩
  | 49 => ⟨S8x4x1x1, .f32⟩
  | 50 => ⟨S1x4x1x1, .f32⟩
  | 51 => ⟨S8x4x1x1, .f32⟩
  | 52 => ⟨S8x4x1x1, .f32⟩
  | 53 => ⟨S8x4x1x256, .f32⟩
  | 54 => ⟨S_, .f32⟩
  | 55 => ⟨S1, .f32⟩
  | 56 => ⟨S1, .f32⟩
  | 57 => ⟨S4x1, .f32⟩
  | 58 => ⟨S1x1, .f32⟩
  | 59 => ⟨S4x1, .f32⟩
  | 60 => ⟨S4x1, .f32⟩
  | 61 => ⟨S4x1, .f32⟩
  | 62 => ⟨S4x1x1, .f32⟩
  | 63 => ⟨S8x4x1x256, .f32⟩
  | 64 => ⟨S1x4x1x1, .f32⟩
  | 65 => ⟨S8x4x1x256, .f32⟩
  | 66 => ⟨S8x4x1x256, .f32⟩
  | 67 => ⟨S8x4x1x256, .f32⟩
  | 68 => ⟨S_, .f32⟩
  | 69 => ⟨S1, .f32⟩
  | 70 => ⟨S1, .f32⟩
  | 71 => ⟨S4x1, .f32⟩
  | 72 => ⟨S1x1, .f32⟩
  | 73 => ⟨S4x1, .f32⟩
  | 74 => ⟨S4x1, .f32⟩
  | 75 => ⟨S4x1, .f32⟩
  | 76 => ⟨S_, .f32⟩
  | 77 => ⟨S4, .f32⟩
  | 78 => ⟨S4, .f32⟩
  | 79 => ⟨S4, .f32⟩
  | 80 => ⟨S4x1x1, .f32⟩
  | 81 => ⟨S1x4x1x1, .f32⟩
  | 82 => ⟨S8x4x128x256, .f32⟩
  | 83 => ⟨S8x4x128x256, .f32⟩
  | 84 => ⟨S4x1x1, .f32⟩
  | 85 => ⟨S1x4x1x1, .f32⟩
  | 86 => ⟨S8x4x1x128, .f32⟩
  | 87 => ⟨S8x4x1x128, .f32⟩
  | 88 => ⟨S8x4x128x256, .f32⟩
  | 89 => ⟨S8x4x128x256, .f32⟩
  | 90 => ⟨S8x1x4x256, .f32⟩
  | 91 => ⟨S_, .f32⟩
  | 92 => ⟨S8x1x4, .f32⟩
  | 93 => ⟨S8x1x4x1, .f32⟩
  | 94 => ⟨S_, .f32⟩
  | 95 => ⟨S8x1x4x1, .f32⟩
  | 96 => ⟨S8x1x4x1, .f32⟩
  | 97 => ⟨S8x1x4x256, .f32⟩
  | 98 => ⟨S8x1x4x256, .f32⟩
  | 99 => ⟨S8x1x4x256, .f32⟩
  | 100 => ⟨S_, .f32⟩
  | 101 => ⟨S8x1x4, .f32⟩
  | 102 => ⟨S8x1x4x1, .f32⟩
  | 103 => ⟨S_, .f32⟩
  | 104 => ⟨S8x1x4x1, .f32⟩
  | 105 => ⟨S8x1x4x1, .f32⟩
  | 106 => ⟨S8x1x4x256, .f32⟩
  | 107 => ⟨S8x1x4x256, .f32⟩
  | 108 => ⟨S_, .f32⟩
  | 109 => ⟨S8x1x4x1, .f32⟩
  | 110 => ⟨S8x1x4x1, .f32⟩
  | 111 => ⟨S8x1x4x1, .f32⟩
  | 112 => ⟨S8x1x4x256, .f32⟩
  | 113 => ⟨S8x1x4x256, .f32⟩
  | 114 => ⟨S1x1x4x256, .f32⟩
  | 115 => ⟨S8x1x4x256, .f32⟩
  | 116 => ⟨S8x1x4x256, .f32⟩
  | 117 => ⟨S8x1x4x256, .f32⟩
  | 118 => ⟨S8x1x4x256, .f32⟩
  | 119 => ⟨S8x1x4x256, .f32⟩
  | 120 => ⟨S_, .f32⟩
  | 121 => ⟨S8x1x4x256, .f32⟩
  | 122 => ⟨S8x1x4x256, .f32⟩
  | 123 => ⟨S_, .f32⟩
  | 124 => ⟨S8x1x4x256, .f32⟩
  | 125 => ⟨S8x1x4x256, .f32⟩
  | 126 => ⟨S8x1x4x256, .f32⟩
  | 127 => ⟨S8x1x4x256, .f32⟩
  | _ => ⟨S8x1024, .f32⟩

abbrev hbmTy0_1 (i : Nat) : BufTy := match i % 128 with
  | 0 => ⟨S8x1024, .f32⟩
  | 1 => ⟨S8x1024, .bf16⟩
  | _ => ⟨S8x1024, .f32⟩

abbrev hbmTy (i : Nat) : BufTy := match i / 128 with
  | 0 => hbmTy0_0 i
  | 1 => hbmTy0_1 i
  | _ => ⟨S8x1024, .f32⟩

abbrev bufTy : (tb : Table) → Fin (tcTables nBuf tb) → BufTy
  | .hbm, ⟨i, _⟩ => hbmTy i
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_cst_10 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_11 : Ref sig .tc := ⟨.hbm, 100, rfl⟩
abbrev main_v79 : Ref sig .tc := ⟨.hbm, 101, rfl⟩
abbrev main_v80 : Ref sig .tc := ⟨.hbm, 102, rfl⟩
abbrev main_cst_12 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_13 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_call2_v0 : Ref sig .tc := ⟨.hbm, 118, rfl⟩
abbrev main_call2_v1 : Ref sig .tc := ⟨.hbm, 119, rfl⟩
abbrev main_call2_cst : Ref sig .tc := ⟨.hbm, 120, rfl⟩
abbrev main_call2_v2 : Ref sig .tc := ⟨.hbm, 121, rfl⟩
abbrev main_call2_v3 : Ref sig .tc := ⟨.hbm, 122, rfl⟩
abbrev main_call2_cst_0 : Ref sig .tc := ⟨.hbm, 123, rfl⟩
abbrev main_call2_v4 : Ref sig .tc := ⟨.hbm, 124, rfl⟩
abbrev main_call2_v5 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]
-- ==== KernelMls.lean ====
abbrev S8x4096 : Shape := ⟨2, ![8, 4096]⟩
abbrev S8x16 : Shape := ⟨2, ![8, 16]⟩
abbrev S8 : Shape := ⟨1, ![8]⟩
abbrev S8x128 : Shape := ⟨2, ![8, 128]⟩
abbrev S8x8x128x128 : Shape := ⟨4, ![8, 8, 128, 128]⟩
abbrev S8x8x128 : Shape := ⟨3, ![8, 8, 128]⟩
abbrev S8x8 : Shape := ⟨2, ![8, 8]⟩
abbrev S8x16x1x1 : Shape := ⟨4, ![8, 16, 1, 1]⟩
abbrev S_ : Shape := ⟨0, ![]⟩
abbrev S8x16x1x128 : Shape := ⟨4, ![8, 16, 1, 128]⟩
abbrev S8x1x4096 : Shape := ⟨3, ![8, 1, 4096]⟩
abbrev S8x128x4096 : Shape := ⟨3, ![8, 128, 4096]⟩
abbrev S8x1x1 : Shape := ⟨3, ![8, 1, 1]⟩
abbrev S8x1x128 : Shape := ⟨3, ![8, 1, 128]⟩
abbrev S8x8x1x128 : Shape := ⟨4, ![8, 8, 1, 128]⟩
abbrev S8x8x1x1 : Shape := ⟨4, ![8, 8, 1, 1]⟩
abbrev S8x128x1024 : Shape := ⟨3, ![8, 128, 1024]⟩
abbrev S1x128x1024 : Shape := ⟨3, ![1, 128, 1024]⟩
abbrev S1x8x1x128 : Shape := ⟨4, ![1, 8, 1, 128]⟩
abbrev S1x8x128x128 : Shape := ⟨4, ![1, 8, 128, 128]⟩
abbrev S1x8x1x1 : Shape := ⟨4, ![1, 8, 1, 1]⟩
abbrev S8x128x128 : Shape := ⟨3, ![8, 128, 128]⟩
abbrev S1x128x128 : Shape := ⟨3, ![1, 128, 128]⟩
abbrev S128x128 : Shape := ⟨2, ![128, 128]⟩
abbrev S1x1x1x128 : Shape := ⟨4, ![1, 1, 1, 128]⟩
abbrev S1x128 : Shape := ⟨2, ![1, 128]⟩
abbrev S1x1x1 : Shape := ⟨3, ![1, 1, 1]⟩
abbrev S1x1 : Shape := ⟨2, ![1, 1]⟩
abbrev S1x1x128 : Shape := ⟨3, ![1, 1, 128]⟩
abbrev S128 : Shape := ⟨1, ![128]⟩
abbrev S128x1 : Shape := ⟨2, ![128, 1]⟩

abbrev nBuf : Space → Nat
  | .hbm => 27
  | .vmem => 32
  | .smem => 0
  | _ => 0

abbrev bufTy : (tb : Table) → Fin (tcTables nBuf tb) → BufTy
  | .hbm, ⟨0, _⟩ => ⟨S8x4096, .f32⟩
  | .hbm, ⟨1, _⟩ => ⟨S8x16, .f32⟩
  | .hbm, ⟨2, _⟩ => ⟨S8, .f32⟩
  | .hbm, ⟨3, _⟩ => ⟨S8, .f32⟩
  | .hbm, ⟨4, _⟩ => ⟨S8x128, .f32⟩
  | .hbm, ⟨5, _⟩ => ⟨S8x8x128x128, .f32⟩
  | .hbm, ⟨6, _⟩ => ⟨S8x8x128, .f32⟩
  | .hbm, ⟨7, _⟩ => ⟨S8x8, .f32⟩
  | .hbm, ⟨8, _⟩ => ⟨S8x16x1x1, .f32⟩
  | .hbm, ⟨9, _⟩ => ⟨S_, .i32⟩
  | .hbm, ⟨10, _⟩ => ⟨S_, .f32⟩
  | .hbm, ⟨11, _⟩ => ⟨S8x16x1x128, .f32⟩
  | .hbm, ⟨12, _⟩ => ⟨S8x1x4096, .f32⟩
  | .hbm, ⟨13, _⟩ => ⟨S_, .i32⟩
  | .hbm, ⟨14, _⟩ => ⟨S_, .f32⟩
  | .hbm, ⟨15, _⟩ => ⟨S8x128x4096, .f32⟩
  | .hbm, ⟨16, _⟩ => ⟨S8x1x1, .f32⟩
  | .hbm, ⟨17, _⟩ => ⟨S8x1x1, .f32⟩
  | .hbm, ⟨18, _⟩ => ⟨S8x1x128, .f32⟩
  | .hbm, ⟨19, _⟩ => ⟨S8x8x1x128, .f32⟩
  | .hbm, ⟨20, _⟩ => ⟨S8x8x1x1, .f32⟩
  | .hbm, ⟨21, _⟩ => ⟨S8x128x1024, .bf16⟩
  | .hbm, ⟨22, _⟩ => ⟨S8x8x128x128, .f32⟩
  | .hbm, ⟨23, _⟩ => ⟨S8x8x1x128, .f32⟩
  | .hbm, ⟨24, _⟩ => ⟨S8x8x1x1, .f32⟩
  | .hbm, ⟨25, _⟩ => ⟨S8x8x128, .f32⟩
  | .hbm, ⟨26, _⟩ => ⟨S8x8, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x8x1x128, .f32⟩
  | .local _ .vmem, ⟨9, _⟩ => ⟨S1x8x1x128, .f32⟩
  | .local _ .vmem, ⟨10, _⟩ => ⟨S1x8x1x128, .f32⟩
  | .local _ .vmem, ⟨11, _⟩ => ⟨S1x8x1x128, .f32⟩
  | .local _ .vmem, ⟨12, _⟩ => ⟨S8x1x1, .f32⟩
  | .local _ .vmem, ⟨13, _⟩ => ⟨S8x1x1, .f32⟩
  | .local _ .vmem, ⟨14, _⟩ => ⟨S8x1x128, .f32⟩
  | .local _ .vmem, ⟨15, _⟩ => ⟨S1x8x128x128, .f32⟩
  | .local _ .vmem, ⟨16, _⟩ => ⟨S1x8x128x128, .f32⟩
  | .local _ .vmem, ⟨17, _⟩ => ⟨S1x8x1x128, .f32⟩
  | .local _ .vmem, ⟨18, _⟩ => ⟨S1x8x1x128, .f32⟩
  | .local _ .vmem, ⟨19, _⟩ => ⟨S1x8x1x1, .f32⟩
  | .local _ .vmem, ⟨20, _⟩ => ⟨S1x8x1x1, .f32⟩
  | .local _ .vmem, ⟨21, _⟩ => ⟨S1x128x1024, .bf16⟩
  | .local _ .vmem, ⟨22, _⟩ => ⟨S1x128x1024, .bf16⟩
  | .local _ .vmem, ⟨23, _⟩ => ⟨S1x8x128x128, .f32⟩
  | .local _ .vmem, ⟨24, _⟩ => ⟨S1x8x128x128, .f32⟩
  | .local _ .vmem, ⟨25, _⟩ => ⟨S1x8x1x128, .f32⟩
  | .local _ .vmem, ⟨26, _⟩ => ⟨S1x8x1x128, .f32⟩
  | .local _ .vmem, ⟨27, _⟩ => ⟨S1x8x1x1, .f32⟩
  | .local _ .vmem, ⟨28, _⟩ => ⟨S1x8x1x1, .f32⟩
  | .local _ .vmem, ⟨29, _⟩ => ⟨S8x128x128, .f32⟩
  | .local _ .vmem, ⟨30, _⟩ => ⟨S8x1x128, .f32⟩
  | .local _ .vmem, ⟨31, _⟩ => ⟨S8x1x1, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_946 : BitVec 32 := 0#32
  let v2219 : BitVec 1 := Scalar.cmpi .eq arg1 c0_i32_946
  let v2220 : BitVec 32 := Scalar.extui v2219
  let c0_i32_947 : BitVec 32 := 0#32
  let v2221 : BitVec 1 := Scalar.cmpi .ne v2220 c0_i32_947
  v2221

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x1x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceMlsIdeal.lean ====
abbrev S8x4096 : Shape := ⟨2, ![8, 4096]⟩
abbrev S8x16 : Shape := ⟨2, ![8, 16]⟩
abbrev S8 : Shape := ⟨1, ![8]⟩
abbrev S8x128 : Shape := ⟨2, ![8, 128]⟩
abbrev S8x8x128x128 : Shape := ⟨4, ![8, 8, 128, 128]⟩
abbrev S8x8x128 : Shape := ⟨3, ![8, 8, 128]⟩
abbrev S8x8 : Shape := ⟨2, ![8, 8]⟩
abbrev S8x1024 : Shape := ⟨2, ![8, 1024]⟩
abbrev S8x1x8x128 : Shape := ⟨4, ![8, 1, 8, 128]⟩
abbrev S8x8x1x128 : Shape := ⟨4, ![8, 8, 1, 128]⟩
abbrev S_ : Shape := ⟨0, ![]⟩
abbrev S1x8 : Shape := ⟨2, ![1, 8]⟩
abbrev S8x8x1 : Shape := ⟨3, ![8, 8, 1]⟩
abbrev S1x1 : Shape := ⟨2, ![1, 1]⟩
abbrev S8x8x1x1 : Shape := ⟨4, ![8, 8, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x16, .f32⟩
  | .hbm, ⟨2, _⟩ => ⟨S8, .f32⟩
  | .hbm, ⟨3, _⟩ => ⟨S8, .f32⟩
  | .hbm, ⟨4, _⟩ => ⟨S8x128, .f32⟩
  | .hbm, ⟨5, _⟩ => ⟨S8x8x128x128, .f32⟩
  | .hbm, ⟨6, _⟩ => ⟨S8x8x128, .f32⟩
  | .hbm, ⟨7, _⟩ => ⟨S8x8, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x8, .f32⟩
  | .hbm, ⟨13, _⟩ => ⟨S8x8, .f32⟩
  | .hbm, ⟨14, _⟩ => ⟨S8x1x8x128, .f32⟩
  | .hbm, ⟨15, _⟩ => ⟨S8x8x1x128, .f32⟩
  | .hbm, ⟨16, _⟩ => ⟨S_, .f32⟩
  | .hbm, ⟨17, _⟩ => ⟨S8x8x1x128, .f32⟩
  | .hbm, ⟨18, _⟩ => ⟨S8x8x1x128, .f32⟩
  | .hbm, ⟨19, _⟩ => ⟨S8x1x8x128, .f32⟩
  | .hbm, ⟨20, _⟩ => ⟨S8x8x1x128, .f32⟩
  | .hbm, ⟨21, _⟩ => ⟨S1x8, .f32⟩
  | .hbm, ⟨22, _⟩ => ⟨S8x8, .f32⟩
  | .hbm, ⟨23, _⟩ => ⟨S8x8, .f32⟩
  | .hbm, ⟨24, _⟩ => ⟨S8x8x1, .f32⟩
  | .hbm, ⟨25, _⟩ => ⟨S1x8, .f32⟩
  | .hbm, ⟨26, _⟩ => ⟨S8x8, .f32⟩
  | .hbm, ⟨27, _⟩ => ⟨S8x8, .f32⟩
  | .hbm, ⟨28, _⟩ => ⟨S8x8, .f32⟩
  | .hbm, ⟨29, _⟩ => ⟨S_, .f32⟩
  | .hbm, ⟨30, _⟩ => ⟨S8x8, .f32⟩
  | .hbm, ⟨31, _⟩ => ⟨S8x8, .f32⟩
  | .hbm, ⟨32, _⟩ => ⟨S8x8, .f32⟩
  | .hbm, ⟨33, _⟩ => ⟨S8x8, .f32⟩
  | .hbm, ⟨34, _⟩ => ⟨S8x8, .i1⟩
  | .hbm, ⟨35, _⟩ => ⟨S8x8, .f32⟩
  | .hbm, ⟨36, _⟩ => ⟨S8x8, .f32⟩
  | .hbm, ⟨37, _⟩ => ⟨S8x8, .f32⟩
  | .hbm, ⟨38, _⟩ => ⟨S8x8, .f32⟩
  | .hbm, ⟨39, _⟩ => ⟨S8x8, .f32⟩
  | .hbm, ⟨40, _⟩ => ⟨S8x8, .f32⟩
  | .hbm, ⟨41, _⟩ => ⟨S8x8, .f32⟩
  | .hbm, ⟨42, _⟩ => ⟨S8x8, .f32⟩
  | .hbm, ⟨43, _⟩ => ⟨S8x8, .f32⟩
  | .hbm, ⟨44, _⟩ => ⟨S8x8x1, .f32⟩
  | .hbm, ⟨45, _⟩ => ⟨S_, .i1⟩
  | .hbm, ⟨46, _⟩ => ⟨S1x1, .i1⟩
  | .hbm, ⟨47, _⟩ => ⟨S1x1, .i32⟩
  | .hbm, ⟨48, _⟩ => ⟨S_, .i32⟩
  | .hbm, ⟨49, _⟩ => ⟨S1x1, .i32⟩
  | .hbm, ⟨50, _⟩ => ⟨S1x1, .i32⟩
  | .hbm, ⟨51, _⟩ => ⟨S1x1, .i32⟩
  | .hbm, ⟨52, _⟩ => ⟨S1x1, .i1⟩
  | .hbm, ⟨53, _⟩ => ⟨S_, .i1⟩
  | .hbm, ⟨54, _⟩ => ⟨S1x1, .i1⟩
  | .hbm, ⟨55, _⟩ => ⟨S1x1, .i1⟩
  | .hbm, ⟨56, _⟩ => ⟨S8x8x1x1, .f32⟩
  | .hbm, ⟨57, _⟩ => ⟨S8x8x1x1, .f32⟩
  | .hbm, ⟨58, _⟩ => ⟨S8x8x1x1, .f32⟩
  | .hbm, ⟨59, _⟩ => ⟨S8x8x1x1, .f32⟩
  | .hbm, ⟨60, _⟩ => ⟨S8x8x1x1, .f32⟩
  | .hbm, ⟨61, _⟩ => ⟨S_, .f32⟩
  | .hbm, ⟨62, _⟩ => ⟨S_, .f32⟩
  | .hbm, ⟨63, _⟩ => ⟨S8x8x1x1, .i1⟩
  | .hbm, ⟨64, _⟩ => ⟨S8x8x1x1, .f32⟩
  | .hbm, ⟨65, _⟩ => ⟨S8x8x1x1, .f32⟩
  | .hbm, ⟨66, _⟩ => ⟨S8x8x1, .f32⟩
  | .hbm, ⟨67, _⟩ => ⟨S8x8x1, .f32⟩
  | .hbm, ⟨68, _⟩ => ⟨S_, .f32⟩
  | .hbm, ⟨69, _⟩ => ⟨S8x8x1, .f32⟩
  | .hbm, ⟨70, _⟩ => ⟨S8x8x1, .f32⟩
  | .hbm, ⟨71, _⟩ => ⟨S8x8, .f32⟩
  | .hbm, ⟨72, _⟩ => ⟨S8x8, .f32⟩
  | .hbm, ⟨73, _⟩ => ⟨S8x8, .f32⟩
  | .hbm, ⟨74, _⟩ => ⟨S8x8, .f32⟩
  | .hbm, ⟨75, _⟩ => ⟨S8x8, .f32⟩
  | .hbm, ⟨76, _⟩ => ⟨S8x8x1, .f32⟩
  | .hbm, ⟨77, _⟩ => ⟨S8x8x1, .f32⟩
  | .hbm, ⟨78, _⟩ => ⟨S8x8x1, .f32⟩
  | .hbm, ⟨79, _⟩ => ⟨S8x8x1, .f32⟩
  | .hbm, ⟨80, _⟩ => ⟨S8x8x1, .f32⟩
  | .hbm, ⟨81, _⟩ => ⟨S8x8x1x1, .f32⟩
  | .hbm, ⟨82, _⟩ => ⟨S8x8x128x128, .f32⟩
  | .hbm, ⟨83, _⟩ => ⟨S8x8x128x128, .f32⟩
  | .hbm, ⟨84, _⟩ => ⟨S8x8x1x1, .f32⟩
  | .hbm, ⟨85, _⟩ => ⟨S8x8x1x128, .f32⟩
  | .hbm, ⟨86, _⟩ => ⟨S8x8x1x128, .f32⟩
  | .hbm, ⟨87, _⟩ => ⟨S8x8x128x128, .f32⟩
  | .hbm, ⟨88, _⟩ => ⟨S8x8x128x128, .f32⟩
  | .hbm, ⟨89, _⟩ => ⟨S8x8x1, .f32⟩
  | .hbm, ⟨90, _⟩ => ⟨S8x8x128, .f32⟩
  | .hbm, ⟨91, _⟩ => ⟨S8x8x128, .f32⟩
  | .hbm, ⟨92, _⟩ => ⟨S8x8x128, .f32⟩
  | .hbm, ⟨93, _⟩ => ⟨S8x8x128, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v19 : Ref sig .tc := ⟨.hbm, 43, rfl⟩
abbrev main_v20 : Ref sig .tc := ⟨.hbm, 44, rfl⟩
abbrev main_c : Ref sig .tc := ⟨.hbm, 45, rfl⟩
abbrev main_v21 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_0 : Ref sig .tc := ⟨.hbm, 53, rfl⟩
abbrev main_call1_v5 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_0 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_1 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩

abbrev nD : Nat := 1
abbrev τ : Topo := Topo.v7x

variable {F : FTy → Type} [FloatOps F]
-- ==== Proof.Z.lean ====
module

public import proofs.«01_k».proof.Defs
public import proofs.«01_k».proof.Proof.Gen.KernelZIdeal.Frame
public import proofs.«01_k».proof.Proof.Gen.ReferenceZIdeal.Run
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)

/-! The even layers' projection: queries, keys, values and output gates of the recurrent mixer (columns 0 to 4095). -/

namespace Cert.KernelZIdeal.Pt
open Cert.KernelZIdeal Cert.KernelZIdeal.Gen
variable (m : (ℓ : Loc nD τ sig) → Buf (Elt Ideal) ℓ)

/-- The projection's sum for one row (batch and position together) and one of the group's columns. -/
def D (X : FVec Ideal S2x4096x2048 .f32) (W : FVec Ideal S2048x7184 .f32) (row : Fin 8192) (col : Fin 4096) : EReal :=
  ∑ k : Fin 2048, X (ix3 (⟨row.val / 4096, by omega⟩ : Fin 2) (⟨row.val % 4096, by omega⟩ : Fin 4096) k)
    * W (ix2 k (⟨col.val, by omega⟩ : Fin 7184))

/-- The same sum with its column written out. -/
theorem D_eq (X : FVec Ideal S2x4096x2048 .f32) (W : FVec Ideal S2048x7184 .f32) (row : Fin 8192) (col : Fin 4096) (n : ℕ)
    (hn : n < 7184) (h : n = col.val) :
    (∑ k : Fin 2048, X (ix3 (⟨row.val / 4096, by omega⟩ : Fin 2) (⟨row.val % 4096, by omega⟩ : Fin 4096) k)
      * W (ix2 k (⟨n, hn⟩ : Fin 7184))) = D X W row col := by
  subst h; rfl

/-- The grid point's blocks: a block of rows, a block of columns. -/
theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

/-- What a point's product leaves at an element is the sum at the element's place in the result. -/
theorem point2 (c : Dev nD) (t : Fin cfg0.N) (r l : Fin 1024) (row : Fin 8192) (col : Fin 4096)
    (hr : row.val = (t.val / 4) * 1024 + r.val) (hl : col.val = t.val % 4 * 1024 + l.val) :
    k0_pay1 (F := Ideal) (iblk m c 0 t) (iblk m c 1 t) (ix2 r l)
      = D (m ((c : Thread nD τ).loc main_arg0)) (m ((c : Thread nD τ).loc main_arg1)) row col := by
  pointwise [k0_pay1, D]
  blk_point [iblk, V, idx t]

/-- The result's array after the launch. -/
theorem final2 (c : Dev nD) : (dats m 0 c).arrAt 2 (cfgs 0).N
    = fun i => D (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  frame_out
  have ht : t.val < 32 := lt_of_lt_of_eq t.isLt N_0
  have hy0 : (y 0).val < 1024 := (y 0).isLt
  have hy1 : (y 1).val < 1024 := (y 1).isLt
  refine (congrArg _ (ix2_eta y).symm).trans ?_
  refine (point2 m c t (y 0) (y 1) (⟨(t.val / 4) * 1024 + (y 0).val, by omega⟩ : Fin 8192)
    (⟨t.val % 4 * 1024 + (y 1).val, by omega⟩ : Fin 4096) rfl rfl).trans ?_
  refine congrArg₂ (D _ _) (Fin.ext ?_) (Fin.ext ?_) <;> blk_simp [idx t]

end Cert.KernelZIdeal.Pt

namespace Cert.ReferenceZIdeal.Pt

/-- The reference leaves its arguments unchanged, and it has no semaphores. -/
theorem frame : Cert.quiescent_ReferenceZIdeal (hReferenceZIdeal := Cert.ReferenceZIdeal.Gen.facts) := by
  intro m ρ _
  refine (θ_run _ _ _).mono (fun r h => ⟨fun c => (h c).2, ?_⟩) (Cert.ReferenceZIdeal.Value.run m ρ)
  exact sem_eq_zero_of_no_sems rfl _

/-- Over the extended reals the launch leaves the projection's columns that the plain product and its slices give. -/
theorem same : Cert.algebraic_KernelZIdeal_ReferenceZIdeal (hKernelZIdeal := Cert.KernelZIdeal.Gen.facts) (hReferenceZIdeal := Cert.ReferenceZIdeal.Gen.facts) := by
  pair_intro
  · run_from Cert.KernelZIdeal.Gen.run_main m g
  · run_from Cert.ReferenceZIdeal.Value.run m' g'
    rw [Cert.KernelZIdeal.Pt.final2 m c]
    funext i
    rw [← ix2_eta i]
    pointwise
    have h1 : (i 1).val < 4096 := (i 1).isLt
    repeat' split
    all_goals exact Cert.KernelZIdeal.Pt.D_eq _ _ (i 0) (i 1) _ _ (by omega)
end Cert.ReferenceZIdeal.Pt
-- ==== Proof.Rope.lean ====
module

public import Idealize.ShloMosaic.Lib.Pointwise
public import Idealize.ShloMosaic.Lib.Tactic

@[expose] public section

/-! # Rotary position embedding at one element, over the extended reals

`rotVal hw half p d a r` is the rotated value of lane `d` at position `p`: `a` is the lane's own value and `r` the value
of its partner lane, `half` lanes up or down inside a group of `2 * half`.  `hw` is the word of the float that stands for
`half`.  The first half of a group takes `a * cos - r * sin`, the second `a * cos + r * sin`. -/

noncomputable section
open Idealize.ShloMosaic
namespace Cert.Rot

/-- The angle of frequency `j` at position `p`: `p * 10000 ^ (-j / half)`. -/
def ang (hw : BitVec 32) (p j : ℕ) : EReal :=
  FloatOps.sitofp (F := Ideal) .f32 (BitVec.ofNat 32 p) *
    Ideal.pow (Ideal.ofBits FTy.f32 1176256512#32) (Ideal.div (-FloatOps.sitofp (F := Ideal) .f32 (BitVec.ofNat 32 j)) (Ideal.ofBits FTy.f32 hw))

/-- The rotated value of lane `d` of a group. -/
def rotVal (hw : BitVec 32) (half p d : ℕ) (a r : EReal) : EReal :=
  if d < half then a * Ideal.cos (ang hw p d) + r * -Ideal.sin (ang hw p d)
  else a * Ideal.cos (ang hw p (d - half)) + r * Ideal.sin (ang hw p (d - half))

/-- The first half of a group, as a difference. -/
theorem rotVal_lo (hw : BitVec 32) (half p d : ℕ) (a r : EReal) (h : d < half) :
    rotVal hw half p d a r = a * Ideal.cos (ang hw p d) - r * Ideal.sin (ang hw p d) := by
  rw [rotVal, if_pos h, mul_neg, sub_eq_add_neg]

/-- The second half of a group, with the partner's product first. -/
theorem rotVal_hi (hw : BitVec 32) (half p d : ℕ) (a r : EReal) (h : ¬ d < half) :
    rotVal hw half p d a r = r * Ideal.sin (ang hw p (d - half)) + a * Ideal.cos (ang hw p (d - half)) := by
  rw [rotVal, if_neg h, add_comm]

end Cert.Rot
-- ==== Proof.Qb.lean ====
module

public import proofs.«01_k».proof.Defs
public import proofs.«01_k».proof.Proof.Gen.KernelQbIdeal.Frame
public import proofs.«01_k».proof.Proof.Gen.ReferenceQbIdeal.Run
public import proofs.«01_k».proof.Proof.Rope
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)
open Cert.Rot

/-! The even layers' projection: the rotated queries of the differential attention (columns 4112 to 5135). -/

namespace Cert.KernelQbIdeal.Pt
open Cert.KernelQbIdeal Cert.KernelQbIdeal.Gen
variable (m : (ℓ : Loc nD τ sig) → Buf (Elt Ideal) ℓ)

/-- The projection's sum for one row (batch and position together) and one of the group's columns. -/
def D (X : FVec Ideal S2x4096x2048 .f32) (W : FVec Ideal S2048x7184 .f32) (row : Fin 8192) (col : Fin 1024) : EReal :=
  ∑ k : Fin 2048, X (ix3 (⟨row.val / 4096, by omega⟩ : Fin 2) (⟨row.val % 4096, by omega⟩ : Fin 4096) k)
    * W (ix2 k (⟨4112 + col.val, by omega⟩ : Fin 7184))

/-- The same sum with its column written out. -/
theorem D_eq (X : FVec Ideal S2x4096x2048 .f32) (W : FVec Ideal S2048x7184 .f32) (row : Fin 8192) (col : Fin 1024) (n : ℕ)
    (hn : n < 7184) (h : n = 4112 + col.val) :
    (∑ k : Fin 2048, X (ix3 (⟨row.val / 4096, by omega⟩ : Fin 2) (⟨row.val % 4096, by omega⟩ : Fin 4096) k)
      * W (ix2 k (⟨n, hn⟩ : Fin 7184))) = D X W row col := by
  subst h; rfl

/-- The partner of a column within its head. -/
def rot (l : Fin 1024) : Fin 1024 := ⟨l.val / 128 * 128 + (l.val % 128 + 64) % 128, by omega⟩

/-- The rotated projection at one element. -/
def OUT (X : FVec Ideal S2x4096x2048 .f32) (W : FVec Ideal S2048x7184 .f32) (row : Fin 8192) (col : Fin 1024) : EReal :=
  rotVal 1115684864#32 64 (row.val % 4096) (col.val % 128) (D X W row col) (D X W row (rot col))

/-- The grid point's blocks: a block of rows, the columns whole, the tables' block of the positions. -/
theorem idx : ∀ t : Fin cfg0.N, win0_0.index t = ![t.val, 0] ∧ win0_1.index t = ![0, 0] ∧ win0_2.index t = ![t.val % 4, 0]
    ∧ win0_3.index t = ![t.val % 4, 0] ∧ win0_4.index t = ![t.val, 0] :=
  (by decide +kernel : ∀ t : Fin grid0.N, _)

/-- The point's product at an element. -/
theorem acc_at (c : Dev nD) (t : Fin cfg0.N) (r l : Fin 1024) (row : Fin 8192) (h : row.val = t.val * 1024 + r.val) :
    k0_pay5 (F := Ideal) (iblk m c 0 t) (iblk m c 1 t) (ix2 r l)
      = D (m ((c : Thread nD τ).loc main_arg0)) (m ((c : Thread nD τ).loc main_arg1)) row l := by
  pointwise [k0_pay5, D]
  blk_point [iblk, V, idx t]

/-- The table of cosines at an element. -/
theorem cos_at (c : Dev nD) (t : Fin cfg0.N) (r : Fin 1024) (l : Fin 128) (p : ℕ) (hp : t.val % 4 * 1024 + r.val = p) :
    k0_pay6 (F := Ideal) (iblk m c 2 t) (ix2 r l)
      = if l.val < 64 then Ideal.cos (ang 1115684864#32 p (l.val)) else Ideal.cos (ang 1115684864#32 p (l.val - 64)) := by
  subst hp
  pointwise [k0_pay6]
  blk_simp [iblk]
  entry_read
  pointwise
  blk_simp [idx t]
  rfl

/-- The table of signed sines at an element. -/
theorem sin_at (c : Dev nD) (t : Fin cfg0.N) (r : Fin 1024) (l : Fin 128) (p : ℕ) (hp : t.val % 4 * 1024 + r.val = p) :
    k0_pay7 (F := Ideal) (iblk m c 3 t) (ix2 r l)
      = if l.val < 64 then -Ideal.sin (ang 1115684864#32 p (l.val)) else Ideal.sin (ang 1115684864#32 p (l.val - 64)) := by
  subst hp
  pointwise [k0_pay7]
  blk_simp [iblk]
  entry_read
  pointwise
  blk_simp [idx t]
  rfl

/-- Rotation of a block of sums by blocks of tables, at one element. -/
def K (A : FVec Ideal S1024x1024 .f32) (C S : FVec Ideal S1024x128 .f32) (r l : Fin 1024) : EReal :=
  A (ix2 r l) * C (ix2 r (⟨l.val % 128, by omega⟩ : Fin 128)) + A (ix2 r (rot l)) * S (ix2 r (⟨l.val % 128, by omega⟩ : Fin 128))

/-- A point's rotated block is the rotated projection's. -/
theorem core (c : Dev nD) (t : Fin cfg0.N) (r l : Fin 1024) (row : Fin 8192) (h : row.val = t.val * 1024 + r.val) :
    K (k0_pay5 (F := Ideal) (iblk m c 0 t) (iblk m c 1 t)) (k0_pay6 (F := Ideal) (iblk m c 2 t)) (k0_pay7 (F := Ideal) (iblk m c 3 t)) r l
      = OUT (m ((c : Thread nD τ).loc main_arg0)) (m ((c : Thread nD τ).loc main_arg1)) row l := by
  have hp : t.val % 4 * 1024 + r.val = row.val % 4096 := by omega
  have h1 := acc_at m c t r l row h
  have h2 := acc_at m c t r (rot l) row h
  have h3 := cos_at m c t r (⟨l.val % 128, by omega⟩ : Fin 128) _ hp
  have h4 := sin_at m c t r (⟨l.val % 128, by omega⟩ : Fin 128) _ hp
  unfold K OUT
  rw [h1, h2, h3, h4]
  clear h1 h2 h3 h4
  generalize D _ _ row l = a
  generalize D _ _ row (rot l) = b
  dsimp only
  unfold rotVal
  split <;> rfl

/-- The stored tiles of a point together: the rotation at every element. -/
theorem tiles4 (x0 : FVec Ideal S1024x2048 .bf16) (x1 : FVec Ideal S2048x1024 .bf16) (x2 x3 : FVec Ideal S1024x128 .f32)
    (y : S1024x1024.Idx) (r l : Fin 1024) (hr : (y 0).val = r.val) (hl : (y 1).val = l.val) :
    out0_4 (F := Ideal) x0 x1 x2 x3 y = K (k0_pay5 x0 x1) (k0_pay6 x2) (k0_pay7 x3) r l := by
  unfold K rot
  canon_tiles x h
  all_goals
    open_payloads
    pointwise
    blk_point []

/-- The result's array after the launch. -/
theorem final4 (c : Dev nD) : (dats m 0 c).arrAt 4 (cfgs 0).N
    = fun i => OUT (m ((c : Thread nD τ).loc main_arg0)) (m ((c : Thread nD τ).loc main_arg1)) (i 0) (i 1) := by
  refine (dats m 0 c).arrAt_eq_of_covers 4 _ (by decide +kernel) fun t _ y => ?_
  blk_simp
  rw [after0_4]
  have ht : t.val < 8 := lt_of_lt_of_eq t.isLt N_0
  have hy0 : (y 0).val < 1024 := (y 0).isLt
  refine (tiles4 _ _ _ _ y (y 0) (y 1) rfl rfl).trans ?_
  refine (core m c t (y 0) (y 1) (⟨t.val * 1024 + (y 0).val, by omega⟩ : Fin 8192) rfl).trans ?_
  refine congrArg₂ (OUT _ _) (Fin.ext ?_) (Fin.ext ?_) <;> blk_simp [idx t]

end Cert.KernelQbIdeal.Pt

namespace Cert.ReferenceQbIdeal.Pt
open Cert.ReferenceQbIdeal Cert.ReferenceQbIdeal.Gen
variable (m : (ℓ : Loc nD τ sig) → Buf (Elt Ideal) ℓ)

/-- The reference's rotated projection at an element. -/
theorem ref_v46 (c : Dev nD) (row : Fin 8192) (col : Fin 1024) :
    Value.res_main_v46 (F := Ideal) m c (ix2 row col)
      = Cert.KernelQbIdeal.Pt.OUT (m ((c : Thread nD τ).loc main_arg0)) (m ((c : Thread nD τ).loc main_arg1)) row col := by
  pointwise [Value.res_main_v46]
  split
  · rename_i h
    refine Eq.trans ?_ (rotVal_lo 1115684864#32 64 _ _ (Cert.KernelQbIdeal.Pt.D (m ((c : Thread nD τ).loc main_arg0)) (m ((c : Thread nD τ).loc main_arg1)) row col) (Cert.KernelQbIdeal.Pt.D (m ((c : Thread nD τ).loc main_arg0)) (m ((c : Thread nD τ).loc main_arg1)) row (Cert.KernelQbIdeal.Pt.rot col)) h).symm
    exact congrArg₂ (· - ·) (congrArg (· * _) (Cert.KernelQbIdeal.Pt.D_eq _ _ row col _ _ (by omega)))
      (congrArg (· * _) (Cert.KernelQbIdeal.Pt.D_eq _ _ row (Cert.KernelQbIdeal.Pt.rot col) _ _
        (by show _ = 4112 + (col.val / 128 * 128 + (col.val % 128 + 64) % 128); omega)))
  · rename_i h
    refine Eq.trans ?_ (rotVal_hi 1115684864#32 64 _ _ (Cert.KernelQbIdeal.Pt.D (m ((c : Thread nD τ).loc main_arg0)) (m ((c : Thread nD τ).loc main_arg1)) row col) (Cert.KernelQbIdeal.Pt.D (m ((c : Thread nD τ).loc main_arg0)) (m ((c : Thread nD τ).loc main_arg1)) row (Cert.KernelQbIdeal.Pt.rot col)) h).symm
    exact congrArg₂ (· + ·) (congrArg (· * _) (Cert.KernelQbIdeal.Pt.D_eq _ _ row (Cert.KernelQbIdeal.Pt.rot col) _ _
        (by show _ = 4112 + (col.val / 128 * 128 + (col.val % 128 + 64) % 128); omega)))
      (congrArg (· * _) (Cert.KernelQbIdeal.Pt.D_eq _ _ row col _ _ (by omega)))

/-- The reference leaves its arguments unchanged, and it has no semaphores. -/
theorem frame : Cert.quiescent_ReferenceQbIdeal (hReferenceQbIdeal := Cert.ReferenceQbIdeal.Gen.facts) := by
  intro m ρ _
  refine (θ_run _ _ _).mono (fun r h => ⟨fun c => (h c).2, ?_⟩) (Cert.ReferenceQbIdeal.Value.run m ρ)
  exact sem_eq_zero_of_no_sems rfl _

/-- Over the extended reals the launch leaves the rotated projection that the plain product and the rotation give. -/
theorem same : Cert.algebraic_KernelQbIdeal_ReferenceQbIdeal (hKernelQbIdeal := Cert.KernelQbIdeal.Gen.facts) (hReferenceQbIdeal := Cert.ReferenceQbIdeal.Gen.facts) := by
  pair_intro
  · run_from Cert.KernelQbIdeal.Gen.run_main m g
  · run_from Cert.ReferenceQbIdeal.Value.run m' g'
    refine Eq.trans (funext fun i => ?_) (Cert.KernelQbIdeal.Pt.final4 m c).symm
    rw [← ix2_eta i]
    refine (ref_v46 m' c (i 0) (i 1)).trans ?_
    rw [(hagree c).1, (hagree c).2]
    rfl
end Cert.ReferenceQbIdeal.Pt
-- ==== Proof.Kb.lean ====
module

public import proofs.«01_k».proof.Defs
public import proofs.«01_k».proof.Proof.Gen.KernelKbIdeal.Frame
public import proofs.«01_k».proof.Proof.Gen.ReferenceKbIdeal.Run
public import proofs.«01_k».proof.Proof.Rope
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)
open Cert.Rot

/-! The even layers' projection: the rotated keys of the differential attention (columns 5136 to 6159). -/

namespace Cert.KernelKbIdeal.Pt
open Cert.KernelKbIdeal Cert.KernelKbIdeal.Gen
variable (m : (ℓ : Loc nD τ sig) → Buf (Elt Ideal) ℓ)

/-- The projection's sum for one row (batch and position together) and one of the group's columns. -/
def D (X : FVec Ideal S2x4096x2048 .f32) (W : FVec Ideal S2048x7184 .f32) (row : Fin 8192) (col : Fin 1024) : EReal :=
  ∑ k : Fin 2048, X (ix3 (⟨row.val / 4096, by omega⟩ : Fin 2) (⟨row.val % 4096, by omega⟩ : Fin 4096) k)
    * W (ix2 k (⟨5136 + col.val, by omega⟩ : Fin 7184))

/-- The same sum with its column written out. -/
theorem D_eq (X : FVec Ideal S2x4096x2048 .f32) (W : FVec Ideal S2048x7184 .f32) (row : Fin 8192) (col : Fin 1024) (n : ℕ)
    (hn : n < 7184) (h : n = 5136 + col.val) :
    (∑ k : Fin 2048, X (ix3 (⟨row.val / 4096, by omega⟩ : Fin 2) (⟨row.val % 4096, by omega⟩ : Fin 4096) k)
      * W (ix2 k (⟨n, hn⟩ : Fin 7184))) = D X W row col := by
  subst h; rfl

/-- The partner of a column within its head. -/
def rot (l : Fin 1024) : Fin 1024 := ⟨l.val / 128 * 128 + (l.val % 128 + 64) % 128, by omega⟩

/-- The rotated projection at one element. -/
def OUT (X : FVec Ideal S2x4096x2048 .f32) (W : FVec Ideal S2048x7184 .f32) (row : Fin 8192) (col : Fin 1024) : EReal :=
  rotVal 1115684864#32 64 (row.val % 4096) (col.val % 128) (D X W row col) (D X W row (rot col))

/-- The grid point's blocks: a block of rows, the columns whole, the tables' block of the positions. -/
theorem idx : ∀ t : Fin cfg0.N, win0_0.index t = ![t.val, 0] ∧ win0_1.index t = ![0, 0] ∧ win0_2.index t = ![t.val % 4, 0]
    ∧ win0_3.index t = ![t.val % 4, 0] ∧ win0_4.index t = ![t.val, 0] ∧ win0_5.index t = ![t.val, 0] :=
  (by decide +kernel : ∀ t : Fin grid0.N, _)

/-- The point's product at an element. -/
theorem acc_at (c : Dev nD) (t : Fin cfg0.N) (r l : Fin 1024) (row : Fin 8192) (h : row.val = t.val * 1024 + r.val) :
    k0_pay4 (F := Ideal) (iblk m c 0 t) (iblk m c 1 t) (ix2 r l)
      = D (m ((c : Thread nD τ).loc main_arg0)) (m ((c : Thread nD τ).loc main_arg1)) row l := by
  pointwise [k0_pay4, D]
  blk_point [iblk, V, idx t]

/-- The table of cosines at an element. -/
theorem cos_at (c : Dev nD) (t : Fin cfg0.N) (r : Fin 1024) (l : Fin 128) (p : ℕ) (hp : t.val % 4 * 1024 + r.val = p) :
    k0_pay5 (F := Ideal) (iblk m c 2 t) (ix2 r l)
      = if l.val < 64 then Ideal.cos (ang 1115684864#32 p (l.val)) else Ideal.cos (ang 1115684864#32 p (l.val - 64)) := by
  subst hp
  pointwise [k0_pay5]
  blk_simp [iblk]
  entry_read
  pointwise
  blk_simp [idx t]
  rfl

/-- The table of signed sines at an element. -/
theorem sin_at (c : Dev nD) (t : Fin cfg0.N) (r : Fin 1024) (l : Fin 128) (p : ℕ) (hp : t.val % 4 * 1024 + r.val = p) :
    k0_pay6 (F := Ideal) (iblk m c 3 t) (ix2 r l)
      = if l.val < 64 then -Ideal.sin (ang 1115684864#32 p (l.val)) else Ideal.sin (ang 1115684864#32 p (l.val - 64)) := by
  subst hp
  pointwise [k0_pay6]
  blk_simp [iblk]
  entry_read
  pointwise
  blk_simp [idx t]
  rfl

/-- Rotation of a block of sums by blocks of tables, at one element. -/
def K (A : FVec Ideal S1024x1024 .f32) (C S : FVec Ideal S1024x128 .f32) (r l : Fin 1024) : EReal :=
  A (ix2 r l) * C (ix2 r (⟨l.val % 128, by omega⟩ : Fin 128)) + A (ix2 r (rot l)) * S (ix2 r (⟨l.val % 128, by omega⟩ : Fin 128))

/-- A point's rotated block is the rotated projection's. -/
theorem core (c : Dev nD) (t : Fin cfg0.N) (r l : Fin 1024) (row : Fin 8192) (h : row.val = t.val * 1024 + r.val) :
    K (k0_pay4 (F := Ideal) (iblk m c 0 t) (iblk m c 1 t)) (k0_pay5 (F := Ideal) (iblk m c 2 t)) (k0_pay6 (F := Ideal) (iblk m c 3 t)) r l
      = OUT (m ((c : Thread nD τ).loc main_arg0)) (m ((c : Thread nD τ).loc main_arg1)) row l := by
  have hp : t.val % 4 * 1024 + r.val = row.val % 4096 := by omega
  have h1 := acc_at m c t r l row h
  have h2 := acc_at m c t r (rot l) row h
  have h3 := cos_at m c t r (⟨l.val % 128, by omega⟩ : Fin 128) _ hp
  have h4 := sin_at m c t r (⟨l.val % 128, by omega⟩ : Fin 128) _ hp
  unfold K OUT
  rw [h1, h2, h3, h4]
  clear h1 h2 h3 h4
  generalize D _ _ row l = a
  generalize D _ _ row (rot l) = b
  dsimp only
  unfold rotVal
  split <;> rfl

/-- The stored tiles of a point together: the rotation at every element. -/
theorem tiles4 (x0 : FVec Ideal S1024x2048 .bf16) (x1 : FVec Ideal S2048x1024 .bf16) (x2 x3 : FVec Ideal S1024x128 .f32)
    (y : S1024x1024.Idx) (r l : Fin 1024) (hr : (y 0).val = r.val) (hl : (y 1).val = l.val) :
    out0_4 (F := Ideal) x0 x1 x2 x3 y = K (k0_pay4 x0 x1) (k0_pay5 x2) (k0_pay6 x3) r l := by
  unfold K rot
  canon_tiles x h
  all_goals
    open_payloads
    pointwise
    blk_point []

/-- The result's array after the launch. -/
theorem final4 (c : Dev nD) : (dats m 0 c).arrAt 4 (cfgs 0).N
    = fun i => OUT (m ((c : Thread nD τ).loc main_arg0)) (m ((c : Thread nD τ).loc main_arg1)) (i 0) (i 1) := by
  refine (dats m 0 c).arrAt_eq_of_covers 4 _ (by decide +kernel) fun t _ y => ?_
  blk_simp
  rw [after0_4]
  have ht : t.val < 8 := lt_of_lt_of_eq t.isLt N_0
  have hy0 : (y 0).val < 1024 := (y 0).isLt
  refine (tiles4 _ _ _ _ y (y 0) (y 1) rfl rfl).trans ?_
  refine (core m c t (y 0) (y 1) (⟨t.val * 1024 + (y 0).val, by omega⟩ : Fin 8192) rfl).trans ?_
  refine congrArg₂ (OUT _ _) (Fin.ext ?_) (Fin.ext ?_) <;> blk_simp [idx t]

/-- The stored tiles of a point together: the rotation at every element. -/
theorem tiles5 (x0 : FVec Ideal S1024x2048 .bf16) (x1 : FVec Ideal S2048x1024 .bf16) (x2 x3 : FVec Ideal S1024x128 .f32)
    (y : S1024x1024.Idx) (r l : Fin 1024) (hr : (y 0).val = r.val) (hl : (y 1).val = l.val) :
    out0_5 (F := Ideal) x0 x1 x2 x3 y = K (k0_pay4 x0 x1) (k0_pay5 x2) (k0_pay6 x3) r l := by
  unfold K rot
  canon_tiles x h
  all_goals
    open_payloads
    pointwise
    blk_point []

/-- The result's array after the launch. -/
theorem final5 (c : Dev nD) : (dats m 0 c).arrAt 5 (cfgs 0).N
    = fun i => OUT (m ((c : Thread nD τ).loc main_arg0)) (m ((c : Thread nD τ).loc main_arg1)) (i 0) (i 1) := by
  refine (dats m 0 c).arrAt_eq_of_covers 5 _ (by decide +kernel) fun t _ y => ?_
  blk_simp
  rw [after0_5]
  have ht : t.val < 8 := lt_of_lt_of_eq t.isLt N_0
  have hy0 : (y 0).val < 1024 := (y 0).isLt
  refine (tiles5 _ _ _ _ y (y 0) (y 1) rfl rfl).trans ?_
  refine (core m c t (y 0) (y 1) (⟨t.val * 1024 + (y 0).val, by omega⟩ : Fin 8192) rfl).trans ?_
  refine congrArg₂ (OUT _ _) (Fin.ext ?_) (Fin.ext ?_) <;> blk_simp [idx t]

end Cert.KernelKbIdeal.Pt

namespace Cert.ReferenceKbIdeal.Pt
open Cert.ReferenceKbIdeal Cert.ReferenceKbIdeal.Gen
variable (m : (ℓ : Loc nD τ sig) → Buf (Elt Ideal) ℓ)

/-- The reference's rotated projection at an element. -/
theorem ref_v46 (c : Dev nD) (row : Fin 8192) (col : Fin 1024) :
    Value.res_main_v46 (F := Ideal) m c (ix2 row col)
      = Cert.KernelKbIdeal.Pt.OUT (m ((c : Thread nD τ).loc main_arg0)) (m ((c : Thread nD τ).loc main_arg1)) row col := by
  pointwise [Value.res_main_v46]
  split
  · rename_i h
    refine Eq.trans ?_ (rotVal_lo 1115684864#32 64 _ _ (Cert.KernelKbIdeal.Pt.D (m ((c : Thread nD τ).loc main_arg0)) (m ((c : Thread nD τ).loc main_arg1)) row col) (Cert.KernelKbIdeal.Pt.D (m ((c : Thread nD τ).loc main_arg0)) (m ((c : Thread nD τ).loc main_arg1)) row (Cert.KernelKbIdeal.Pt.rot col)) h).symm
    exact congrArg₂ (· - ·) (congrArg (· * _) (Cert.KernelKbIdeal.Pt.D_eq _ _ row col _ _ (by omega)))
      (congrArg (· * _) (Cert.KernelKbIdeal.Pt.D_eq _ _ row (Cert.KernelKbIdeal.Pt.rot col) _ _
        (by show _ = 5136 + (col.val / 128 * 128 + (col.val % 128 + 64) % 128); omega)))
  · rename_i h
    refine Eq.trans ?_ (rotVal_hi 1115684864#32 64 _ _ (Cert.KernelKbIdeal.Pt.D (m ((c : Thread nD τ).loc main_arg0)) (m ((c : Thread nD τ).loc main_arg1)) row col) (Cert.KernelKbIdeal.Pt.D (m ((c : Thread nD τ).loc main_arg0)) (m ((c : Thread nD τ).loc main_arg1)) row (Cert.KernelKbIdeal.Pt.rot col)) h).symm
    exact congrArg₂ (· + ·) (congrArg (· * _) (Cert.KernelKbIdeal.Pt.D_eq _ _ row (Cert.KernelKbIdeal.Pt.rot col) _ _
        (by show _ = 5136 + (col.val / 128 * 128 + (col.val % 128 + 64) % 128); omega)))
      (congrArg (· * _) (Cert.KernelKbIdeal.Pt.D_eq _ _ row col _ _ (by omega)))

/-- The reference's rotated projection at an element. -/
theorem ref_v45 (c : Dev nD) (row : Fin 8192) (col : Fin 1024) :
    Value.res_main_v45 (F := Ideal) m c (ix2 row col)
      = Cert.KernelKbIdeal.Pt.OUT (m ((c : Thread nD τ).loc main_arg0)) (m ((c : Thread nD τ).loc main_arg1)) row col := by
  pointwise [Value.res_main_v45]
  split
  · rename_i h
    refine Eq.trans ?_ (rotVal_lo 1115684864#32 64 _ _ (Cert.KernelKbIdeal.Pt.D (m ((c : Thread nD τ).loc main_arg0)) (m ((c : Thread nD τ).loc main_arg1)) row col) (Cert.KernelKbIdeal.Pt.D (m ((c : Thread nD τ).loc main_arg0)) (m ((c : Thread nD τ).loc main_arg1)) row (Cert.KernelKbIdeal.Pt.rot col)) h).symm
    exact congrArg₂ (· - ·) (congrArg (· * _) (Cert.KernelKbIdeal.Pt.D_eq _ _ row col _ _ (by omega)))
      (congrArg (· * _) (Cert.KernelKbIdeal.Pt.D_eq _ _ row (Cert.KernelKbIdeal.Pt.rot col) _ _
        (by show _ = 5136 + (col.val / 128 * 128 + (col.val % 128 + 64) % 128); omega)))
  · rename_i h
    refine Eq.trans ?_ (rotVal_hi 1115684864#32 64 _ _ (Cert.KernelKbIdeal.Pt.D (m ((c : Thread nD τ).loc main_arg0)) (m ((c : Thread nD τ).loc main_arg1)) row col) (Cert.KernelKbIdeal.Pt.D (m ((c : Thread nD τ).loc main_arg0)) (m ((c : Thread nD τ).loc main_arg1)) row (Cert.KernelKbIdeal.Pt.rot col)) h).symm
    exact congrArg₂ (· + ·) (congrArg (· * _) (Cert.KernelKbIdeal.Pt.D_eq _ _ row (Cert.KernelKbIdeal.Pt.rot col) _ _
        (by show _ = 5136 + (col.val / 128 * 128 + (col.val % 128 + 64) % 128); omega)))
      (congrArg (· * _) (Cert.KernelKbIdeal.Pt.D_eq _ _ row col _ _ (by omega)))

/-- The reference leaves its arguments unchanged, and it has no semaphores. -/
theorem frame : Cert.quiescent_ReferenceKbIdeal (hReferenceKbIdeal := Cert.ReferenceKbIdeal.Gen.facts) := by
  intro m ρ _
  refine (θ_run _ _ _).mono (fun r h => ⟨fun c => (h c).2.2, ?_⟩) (Cert.ReferenceKbIdeal.Value.run m ρ)
  exact sem_eq_zero_of_no_sems rfl _

/-- Over the extended reals the launch leaves the rotated projection that the plain product and the rotation give. -/
theorem same : Cert.algebraic_KernelKbIdeal_ReferenceKbIdeal (hKernelKbIdeal := Cert.KernelKbIdeal.Gen.facts) (hReferenceKbIdeal := Cert.ReferenceKbIdeal.Gen.facts) := by
  pair_intro
  · run_from Cert.KernelKbIdeal.Gen.run_main m g
  · run_from Cert.ReferenceKbIdeal.Value.run m' g'
    · refine Eq.trans (funext fun i => ?_) (Cert.KernelKbIdeal.Pt.final4 m c).symm
      rw [← ix2_eta i]
      refine (ref_v46 m' c (i 0) (i 1)).trans ?_
      rw [(hagree c).1, (hagree c).2]
      rfl
    · refine Eq.trans (funext fun i => ?_) (Cert.KernelKbIdeal.Pt.final5 m c).symm
      rw [← ix2_eta i]
      refine (ref_v45 m' c (i 0) (i 1)).trans ?_
      rw [(hagree c).1, (hagree c).2]
      rfl
end Cert.ReferenceKbIdeal.Pt
-- ==== Proof.Vb.lean ====
module

public import proofs.«01_k».proof.Defs
public import proofs.«01_k».proof.Proof.Gen.KernelVbIdeal.Frame
public import proofs.«01_k».proof.Proof.Gen.ReferenceVbIdeal.Run
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)

/-! The second half of the even layers' projection: the values of the differential attention (columns 6160 to 7183). -/

namespace Cert.KernelVbIdeal.Pt
open Cert.KernelVbIdeal Cert.KernelVbIdeal.Gen
variable (m : (ℓ : Loc nD τ sig) → Buf (Elt Ideal) ℓ)

/-- The projection's sum for one row (batch and position together) and one of the group's columns. -/
def D (X : FVec Ideal S2x4096x2048 .f32) (W : FVec Ideal S2048x7184 .f32) (row : Fin 8192) (col : Fin 1024) : EReal :=
  ∑ k : Fin 2048, X (ix3 (⟨row.val / 4096, by omega⟩ : Fin 2) (⟨row.val % 4096, by omega⟩ : Fin 4096) k)
    * W (ix2 k (⟨6160 + col.val, by omega⟩ : Fin 7184))

/-- The same sum with its column written out. -/
theorem D_eq (X : FVec Ideal S2x4096x2048 .f32) (W : FVec Ideal S2048x7184 .f32) (row : Fin 8192) (col : Fin 1024) (n : ℕ)
    (hn : n < 7184) (h : n = 6160 + col.val) :
    (∑ k : Fin 2048, X (ix3 (⟨row.val / 4096, by omega⟩ : Fin 2) (⟨row.val % 4096, by omega⟩ : Fin 4096) k)
      * W (ix2 k (⟨n, hn⟩ : Fin 7184))) = D X W row col := by
  subst h; rfl

/-- The grid point's blocks: a block of rows, a block of columns. -/
theorem idx : ∀ t : Fin cfg0.N, win0_0.index t = ![t.val, 0] ∧ win0_1.index t = ![0, 0]
    ∧ win0_2.index t = ![t.val, 0]
    ∧ win0_3.index t = ![t.val, 0] :=
  (by decide +kernel : ∀ t : Fin grid0.N, _)

/-- What a point's product leaves at an element is the sum at the element's place in the result. -/
theorem point2 (c : Dev nD) (t : Fin cfg0.N) (r l : Fin 1024) (row : Fin 8192) (col : Fin 1024)
    (hr : row.val = t.val * 1024 + r.val) (hl : col.val = l.val) :
    k0_pay1 (F := Ideal) (iblk m c 0 t) (iblk m c 1 t) (ix2 r l)
      = D (m ((c : Thread nD τ).loc main_arg0)) (m ((c : Thread nD τ).loc main_arg1)) row col := by
  pointwise [k0_pay1, D]
  blk_point [iblk, V, idx t]

/-- The result's array after the launch. -/
theorem final2 (c : Dev nD) : (dats m 0 c).arrAt 2 (cfgs 0).N
    = fun i => D (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  frame_out
  have ht : t.val < 8 := lt_of_lt_of_eq t.isLt N_0
  have hy0 : (y 0).val < 1024 := (y 0).isLt
  have hy1 : (y 1).val < 1024 := (y 1).isLt
  refine (congrArg _ (ix2_eta y).symm).trans ?_
  refine (point2 m c t (y 0) (y 1) (⟨t.val * 1024 + (y 0).val, by omega⟩ : Fin 8192)
    (⟨(y 1).val, by omega⟩ : Fin 1024) rfl rfl).trans ?_
  refine congrArg₂ (D _ _) (Fin.ext ?_) (Fin.ext ?_) <;> blk_simp [idx t]

/-- What a point's product leaves at an element is the sum at the element's place in the result. -/
theorem point3 (c : Dev nD) (t : Fin cfg0.N) (r l : Fin 1024) (row : Fin 8192) (col : Fin 1024)
    (hr : row.val = t.val * 1024 + r.val) (hl : col.val = l.val) :
    k0_pay2 (F := Ideal) (iblk m c 0 t) (iblk m c 1 t) (ix2 r l)
      = D (m ((c : Thread nD τ).loc main_arg0)) (m ((c : Thread nD τ).loc main_arg1)) row col := by
  pointwise [k0_pay2, D]
  blk_point [iblk, V, idx t]

/-- The result's array after the launch. -/
theorem final3 (c : Dev nD) : (dats m 0 c).arrAt 3 (cfgs 0).N
    = fun i => D (m ((c : Thread nD τ).loc main_arg0)) (m ((c : Thread nD τ).loc main_arg1)) (i 0) (i 1) := by
  refine (dats m 0 c).arrAt_eq_of_covers 3 _ (by decide +kernel) fun t _ y => ?_
  blk_simp
  rw [after0_3]
  frame_out
  have ht : t.val < 8 := lt_of_lt_of_eq t.isLt N_0
  have hy0 : (y 0).val < 1024 := (y 0).isLt
  have hy1 : (y 1).val < 1024 := (y 1).isLt
  refine (congrArg _ (ix2_eta y).symm).trans ?_
  refine (point3 m c t (y 0) (y 1) (⟨t.val * 1024 + (y 0).val, by omega⟩ : Fin 8192)
    (⟨(y 1).val, by omega⟩ : Fin 1024) rfl rfl).trans ?_
  refine congrArg₂ (D _ _) (Fin.ext ?_) (Fin.ext ?_) <;> blk_simp [idx t]

end Cert.KernelVbIdeal.Pt

namespace Cert.ReferenceVbIdeal.Pt

/-- The reference leaves its arguments unchanged, and it has no semaphores. -/
theorem frame : Cert.quiescent_ReferenceVbIdeal (hReferenceVbIdeal := Cert.ReferenceVbIdeal.Gen.facts) := by
  intro m ρ _
  refine (θ_run _ _ _).mono (fun r h => ⟨fun c => (h c).2.2, ?_⟩) (Cert.ReferenceVbIdeal.Value.run m ρ)
  exact sem_eq_zero_of_no_sems rfl _

/-- Over the extended reals the launch leaves the projection's columns that the plain product and its slices give. -/
theorem same : Cert.algebraic_KernelVbIdeal_ReferenceVbIdeal (hKernelVbIdeal := Cert.KernelVbIdeal.Gen.facts) (hReferenceVbIdeal := Cert.ReferenceVbIdeal.Gen.facts) := by
  pair_intro
  · run_from Cert.KernelVbIdeal.Gen.run_main m g
  · run_from Cert.ReferenceVbIdeal.Value.run m' g'
    · rw [Cert.KernelVbIdeal.Pt.final2 m c]
      funext i
      rw [← ix2_eta i]
      pointwise [Cert.KernelVbIdeal.Pt.D]
    · rw [Cert.KernelVbIdeal.Pt.final3 m c]
      funext i
      rw [← ix2_eta i]
      pointwise [Cert.KernelVbIdeal.Pt.D]
end Cert.ReferenceVbIdeal.Pt
-- ==== Proof.Qc.lean ====
module

public import proofs.«01_k».proof.Defs
public import proofs.«01_k».proof.Proof.Gen.KernelQcIdeal.Frame
public import proofs.«01_k».proof.Proof.Gen.ReferenceQcIdeal.Run
public import proofs.«01_k».proof.Proof.Rope
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)
open Cert.Rot

/-! The odd layers' projection: the rotated queries of the sparse attention (columns 0 to 1023). -/

namespace Cert.KernelQcIdeal.Pt
open Cert.KernelQcIdeal Cert.KernelQcIdeal.Gen
variable (m : (ℓ : Loc nD τ sig) → Buf (Elt Ideal) ℓ)

/-- The projection's sum for one row (batch and position together) and one of the group's columns. -/
def D (X : FVec Ideal S2x4096x2048 .f32) (W : FVec Ideal S2048x7248 .f32) (row : Fin 8192) (col : Fin 1024) : EReal :=
  ∑ k : Fin 2048, X (ix3 (⟨row.val / 4096, by omega⟩ : Fin 2) (⟨row.val % 4096, by omega⟩ : Fin 4096) k)
    * W (ix2 k (⟨col.val, by omega⟩ : Fin 7248))

/-- The same sum with its column written out. -/
theorem D_eq (X : FVec Ideal S2x4096x2048 .f32) (W : FVec Ideal S2048x7248 .f32) (row : Fin 8192) (col : Fin 1024) (n : ℕ)
    (hn : n < 7248) (h : n = col.val) :
    (∑ k : Fin 2048, X (ix3 (⟨row.val / 4096, by omega⟩ : Fin 2) (⟨row.val % 4096, by omega⟩ : Fin 4096) k)
      * W (ix2 k (⟨n, hn⟩ : Fin 7248))) = D X W row col := by
  subst h; rfl

/-- The partner of a column within its head. -/
def rot (l : Fin 1024) : Fin 1024 := ⟨l.val / 128 * 128 + (l.val % 128 + 64) % 128, by omega⟩

/-- The rotated projection at one element. -/
def OUT (X : FVec Ideal S2x4096x2048 .f32) (W : FVec Ideal S2048x7248 .f32) (row : Fin 8192) (col : Fin 1024) : EReal :=
  rotVal 1115684864#32 64 (row.val % 4096) (col.val % 128) (D X W row col) (D X W row (rot col))

/-- The grid point's blocks: a block of rows, the columns whole, the tables' block of the positions. -/
theorem idx : ∀ t : Fin cfg0.N, win0_0.index t = ![t.val, 0] ∧ win0_1.index t = ![0, 0] ∧ win0_2.index t = ![t.val % 4, 0]
    ∧ win0_3.index t = ![t.val % 4, 0] ∧ win0_4.index t = ![t.val, 0] :=
  (by decide +kernel : ∀ t : Fin grid0.N, _)

/-- The point's product at an element. -/
theorem acc_at (c : Dev nD) (t : Fin cfg0.N) (r l : Fin 1024) (row : Fin 8192) (h : row.val = t.val * 1024 + r.val) :
    k0_pay5 (F := Ideal) (iblk m c 0 t) (iblk m c 1 t) (ix2 r l)
      = D (m ((c : Thread nD τ).loc main_arg0)) (m ((c : Thread nD τ).loc main_arg1)) row l := by
  pointwise [k0_pay5, D]
  blk_point [iblk, V, idx t]

/-- The table of cosines at an element. -/
theorem cos_at (c : Dev nD) (t : Fin cfg0.N) (r : Fin 1024) (l : Fin 128) (p : ℕ) (hp : t.val % 4 * 1024 + r.val = p) :
    k0_pay6 (F := Ideal) (iblk m c 2 t) (ix2 r l)
      = if l.val < 64 then Ideal.cos (ang 1115684864#32 p (l.val)) else Ideal.cos (ang 1115684864#32 p (l.val - 64)) := by
  subst hp
  pointwise [k0_pay6]
  blk_simp [iblk]
  entry_read
  pointwise
  blk_simp [idx t]
  rfl

/-- The table of signed sines at an element. -/
theorem sin_at (c : Dev nD) (t : Fin cfg0.N) (r : Fin 1024) (l : Fin 128) (p : ℕ) (hp : t.val % 4 * 1024 + r.val = p) :
    k0_pay7 (F := Ideal) (iblk m c 3 t) (ix2 r l)
      = if l.val < 64 then -Ideal.sin (ang 1115684864#32 p (l.val)) else Ideal.sin (ang 1115684864#32 p (l.val - 64)) := by
  subst hp
  pointwise [k0_pay7]
  blk_simp [iblk]
  entry_read
  pointwise
  blk_simp [idx t]
  rfl

/-- Rotation of a block of sums by blocks of tables, at one element. -/
def K (A : FVec Ideal S1024x1024 .f32) (C S : FVec Ideal S1024x128 .f32) (r l : Fin 1024) : EReal :=
  A (ix2 r l) * C (ix2 r (⟨l.val % 128, by omega⟩ : Fin 128)) + A (ix2 r (rot l)) * S (ix2 r (⟨l.val % 128, by omega⟩ : Fin 128))

/-- A point's rotated block is the rotated projection's. -/
theorem core (c : Dev nD) (t : Fin cfg0.N) (r l : Fin 1024) (row : Fin 8192) (h : row.val = t.val * 1024 + r.val) :
    K (k0_pay5 (F := Ideal) (iblk m c 0 t) (iblk m c 1 t)) (k0_pay6 (F := Ideal) (iblk m c 2 t)) (k0_pay7 (F := Ideal) (iblk m c 3 t)) r l
      = OUT (m ((c : Thread nD τ).loc main_arg0)) (m ((c : Thread nD τ).loc main_arg1)) row l := by
  have hp : t.val % 4 * 1024 + r.val = row.val % 4096 := by omega
  have h1 := acc_at m c t r l row h
  have h2 := acc_at m c t r (rot l) row h
  have h3 := cos_at m c t r (⟨l.val % 128, by omega⟩ : Fin 128) _ hp
  have h4 := sin_at m c t r (⟨l.val % 128, by omega⟩ : Fin 128) _ hp
  unfold K OUT
  rw [h1, h2, h3, h4]
  clear h1 h2 h3 h4
  generalize D _ _ row l = a
  generalize D _ _ row (rot l) = b
  dsimp only
  unfold rotVal
  split <;> rfl

/-- The stored tiles of a point together: the rotation at every element. -/
theorem tiles4 (x0 : FVec Ideal S1024x2048 .bf16) (x1 : FVec Ideal S2048x1024 .bf16) (x2 x3 : FVec Ideal S1024x128 .f32)
    (y : S1024x1024.Idx) (r l : Fin 1024) (hr : (y 0).val = r.val) (hl : (y 1).val = l.val) :
    out0_4 (F := Ideal) x0 x1 x2 x3 y = K (k0_pay5 x0 x1) (k0_pay6 x2) (k0_pay7 x3) r l := by
  unfold K rot
  canon_tiles x h
  all_goals
    open_payloads
    pointwise
    blk_point []

/-- The result's array after the launch. -/
theorem final4 (c : Dev nD) : (dats m 0 c).arrAt 4 (cfgs 0).N
    = fun i => OUT (m ((c : Thread nD τ).loc main_arg0)) (m ((c : Thread nD τ).loc main_arg1)) (i 0) (i 1) := by
  refine (dats m 0 c).arrAt_eq_of_covers 4 _ (by decide +kernel) fun t _ y => ?_
  blk_simp
  rw [after0_4]
  have ht : t.val < 8 := lt_of_lt_of_eq t.isLt N_0
  have hy0 : (y 0).val < 1024 := (y 0).isLt
  refine (tiles4 _ _ _ _ y (y 0) (y 1) rfl rfl).trans ?_
  refine (core m c t (y 0) (y 1) (⟨t.val * 1024 + (y 0).val, by omega⟩ : Fin 8192) rfl).trans ?_
  refine congrArg₂ (OUT _ _) (Fin.ext ?_) (Fin.ext ?_) <;> blk_simp [idx t]

end Cert.KernelQcIdeal.Pt

namespace Cert.ReferenceQcIdeal.Pt
open Cert.ReferenceQcIdeal Cert.ReferenceQcIdeal.Gen
variable (m : (ℓ : Loc nD τ sig) → Buf (Elt Ideal) ℓ)

/-- The reference's rotated projection at an element. -/
theorem ref_v47 (c : Dev nD) (row : Fin 8192) (col : Fin 1024) :
    Value.res_main_v47 (F := Ideal) m c (ix2 row col)
      = Cert.KernelQcIdeal.Pt.OUT (m ((c : Thread nD τ).loc main_arg0)) (m ((c : Thread nD τ).loc main_arg1)) row col := by
  pointwise [Value.res_main_v47]
  split
  · rename_i h
    refine Eq.trans ?_ (rotVal_lo 1115684864#32 64 _ _ (Cert.KernelQcIdeal.Pt.D (m ((c : Thread nD τ).loc main_arg0)) (m ((c : Thread nD τ).loc main_arg1)) row col) (Cert.KernelQcIdeal.Pt.D (m ((c : Thread nD τ).loc main_arg0)) (m ((c : Thread nD τ).loc main_arg1)) row (Cert.KernelQcIdeal.Pt.rot col)) h).symm
    exact congrArg₂ (· - ·) (congrArg (· * _) (Cert.KernelQcIdeal.Pt.D_eq _ _ row col _ _ (by omega)))
      (congrArg (· * _) (Cert.KernelQcIdeal.Pt.D_eq _ _ row (Cert.KernelQcIdeal.Pt.rot col) _ _
        (by show _ = (col.val / 128 * 128 + (col.val % 128 + 64) % 128); omega)))
  · rename_i h
    refine Eq.trans ?_ (rotVal_hi 1115684864#32 64 _ _ (Cert.KernelQcIdeal.Pt.D (m ((c : Thread nD τ).loc main_arg0)) (m ((c : Thread nD τ).loc main_arg1)) row col) (Cert.KernelQcIdeal.Pt.D (m ((c : Thread nD τ).loc main_arg0)) (m ((c : Thread nD τ).loc main_arg1)) row (Cert.KernelQcIdeal.Pt.rot col)) h).symm
    exact congrArg₂ (· + ·) (congrArg (· * _) (Cert.KernelQcIdeal.Pt.D_eq _ _ row (Cert.KernelQcIdeal.Pt.rot col) _ _
        (by show _ = (col.val / 128 * 128 + (col.val % 128 + 64) % 128); omega)))
      (congrArg (· * _) (Cert.KernelQcIdeal.Pt.D_eq _ _ row col _ _ (by omega)))

/-- The reference leaves its arguments unchanged, and it has no semaphores. -/
theorem frame : Cert.quiescent_ReferenceQcIdeal (hReferenceQcIdeal := Cert.ReferenceQcIdeal.Gen.facts) := by
  intro m ρ _
  refine (θ_run _ _ _).mono (fun r h => ⟨fun c => (h c).2, ?_⟩) (Cert.ReferenceQcIdeal.Value.run m ρ)
  exact sem_eq_zero_of_no_sems rfl _

/-- Over the extended reals the launch leaves the rotated projection that the plain product and the rotation give. -/
theorem same : Cert.algebraic_KernelQcIdeal_ReferenceQcIdeal (hKernelQcIdeal := Cert.KernelQcIdeal.Gen.facts) (hReferenceQcIdeal := Cert.ReferenceQcIdeal.Gen.facts) := by
  pair_intro
  · run_from Cert.KernelQcIdeal.Gen.run_main m g
  · run_from Cert.ReferenceQcIdeal.Value.run m' g'
    refine Eq.trans (funext fun i => ?_) (Cert.KernelQcIdeal.Pt.final4 m c).symm
    rw [← ix2_eta i]
    refine (ref_v47 m' c (i 0) (i 1)).trans ?_
    rw [(hagree c).1, (hagree c).2]
    rfl
end Cert.ReferenceQcIdeal.Pt
-- ==== Proof.Kc.lean ====
module

public import proofs.«01_k».proof.Defs
public import proofs.«01_k».proof.Proof.Gen.KernelKcIdeal.Frame
public import proofs.«01_k».proof.Proof.Gen.ReferenceKcIdeal.Run
public import proofs.«01_k».proof.Proof.Rope
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)
open Cert.Rot

/-! The odd layers' projection: the rotated keys of the sparse attention (columns 1024 to 2047). -/

namespace Cert.KernelKcIdeal.Pt
open Cert.KernelKcIdeal Cert.KernelKcIdeal.Gen
variable (m : (ℓ : Loc nD τ sig) → Buf (Elt Ideal) ℓ)

/-- The projection's sum for one row (batch and position together) and one of the group's columns. -/
def D (X : FVec Ideal S2x4096x2048 .f32) (W : FVec Ideal S2048x7248 .f32) (row : Fin 8192) (col : Fin 1024) : EReal :=
  ∑ k : Fin 2048, X (ix3 (⟨row.val / 4096, by omega⟩ : Fin 2) (⟨row.val % 4096, by omega⟩ : Fin 4096) k)
    * W (ix2 k (⟨1024 + col.val, by omega⟩ : Fin 7248))

/-- The same sum with its column written out. -/
theorem D_eq (X : FVec Ideal S2x4096x2048 .f32) (W : FVec Ideal S2048x7248 .f32) (row : Fin 8192) (col : Fin 1024) (n : ℕ)
    (hn : n < 7248) (h : n = 1024 + col.val) :
    (∑ k : Fin 2048, X (ix3 (⟨row.val / 4096, by omega⟩ : Fin 2) (⟨row.val % 4096, by omega⟩ : Fin 4096) k)
      * W (ix2 k (⟨n, hn⟩ : Fin 7248))) = D X W row col := by
  subst h; rfl

/-- The partner of a column within its head. -/
def rot (l : Fin 1024) : Fin 1024 := ⟨l.val / 128 * 128 + (l.val % 128 + 64) % 128, by omega⟩

/-- The rotated projection at one element. -/
def OUT (X : FVec Ideal S2x4096x2048 .f32) (W : FVec Ideal S2048x7248 .f32) (row : Fin 8192) (col : Fin 1024) : EReal :=
  rotVal 1115684864#32 64 (row.val % 4096) (col.val % 128) (D X W row col) (D X W row (rot col))

/-- The grid point's blocks: a block of rows, the columns whole, the tables' block of the positions. -/
theorem idx : ∀ t : Fin cfg0.N, win0_0.index t = ![t.val, 0] ∧ win0_1.index t = ![0, 0] ∧ win0_2.index t = ![t.val % 4, 0]
    ∧ win0_3.index t = ![t.val % 4, 0] ∧ win0_4.index t = ![t.val, 0] ∧ win0_5.index t = ![t.val, 0] :=
  (by decide +kernel : ∀ t : Fin grid0.N, _)

/-- The point's product at an element. -/
theorem acc_at (c : Dev nD) (t : Fin cfg0.N) (r l : Fin 1024) (row : Fin 8192) (h : row.val = t.val * 1024 + r.val) :
    k0_pay4 (F := Ideal) (iblk m c 0 t) (iblk m c 1 t) (ix2 r l)
      = D (m ((c : Thread nD τ).loc main_arg0)) (m ((c : Thread nD τ).loc main_arg1)) row l := by
  pointwise [k0_pay4, D]
  blk_point [iblk, V, idx t]

/-- The table of cosines at an element. -/
theorem cos_at (c : Dev nD) (t : Fin cfg0.N) (r : Fin 1024) (l : Fin 128) (p : ℕ) (hp : t.val % 4 * 1024 + r.val = p) :
    k0_pay5 (F := Ideal) (iblk m c 2 t) (ix2 r l)
      = if l.val < 64 then Ideal.cos (ang 1115684864#32 p (l.val)) else Ideal.cos (ang 1115684864#32 p (l.val - 64)) := by
  subst hp
  pointwise [k0_pay5]
  blk_simp [iblk]
  entry_read
  pointwise
  blk_simp [idx t]
  rfl

/-- The table of signed sines at an element. -/
theorem sin_at (c : Dev nD) (t : Fin cfg0.N) (r : Fin 1024) (l : Fin 128) (p : ℕ) (hp : t.val % 4 * 1024 + r.val = p) :
    k0_pay6 (F := Ideal) (iblk m c 3 t) (ix2 r l)
      = if l.val < 64 then -Ideal.sin (ang 1115684864#32 p (l.val)) else Ideal.sin (ang 1115684864#32 p (l.val - 64)) := by
  subst hp
  pointwise [k0_pay6]
  blk_simp [iblk]
  entry_read
  pointwise
  blk_simp [idx t]
  rfl

/-- Rotation of a block of sums by blocks of tables, at one element. -/
def K (A : FVec Ideal S1024x1024 .f32) (C S : FVec Ideal S1024x128 .f32) (r l : Fin 1024) : EReal :=
  A (ix2 r l) * C (ix2 r (⟨l.val % 128, by omega⟩ : Fin 128)) + A (ix2 r (rot l)) * S (ix2 r (⟨l.val % 128, by omega⟩ : Fin 128))

/-- A point's rotated block is the rotated projection's. -/
theorem core (c : Dev nD) (t : Fin cfg0.N) (r l : Fin 1024) (row : Fin 8192) (h : row.val = t.val * 1024 + r.val) :
    K (k0_pay4 (F := Ideal) (iblk m c 0 t) (iblk m c 1 t)) (k0_pay5 (F := Ideal) (iblk m c 2 t)) (k0_pay6 (F := Ideal) (iblk m c 3 t)) r l
      = OUT (m ((c : Thread nD τ).loc main_arg0)) (m ((c : Thread nD τ).loc main_arg1)) row l := by
  have hp : t.val % 4 * 1024 + r.val = row.val % 4096 := by omega
  have h1 := acc_at m c t r l row h
  have h2 := acc_at m c t r (rot l) row h
  have h3 := cos_at m c t r (⟨l.val % 128, by omega⟩ : Fin 128) _ hp
  have h4 := sin_at m c t r (⟨l.val % 128, by omega⟩ : Fin 128) _ hp
  unfold K OUT
  rw [h1, h2, h3, h4]
  clear h1 h2 h3 h4
  generalize D _ _ row l = a
  generalize D _ _ row (rot l) = b
  dsimp only
  unfold rotVal
  split <;> rfl

/-- The stored tiles of a point together: the rotation at every element. -/
theorem tiles4 (x0 : FVec Ideal S1024x2048 .bf16) (x1 : FVec Ideal S2048x1024 .bf16) (x2 x3 : FVec Ideal S1024x128 .f32)
    (y : S1024x1024.Idx) (r l : Fin 1024) (hr : (y 0).val = r.val) (hl : (y 1).val = l.val) :
    out0_4 (F := Ideal) x0 x1 x2 x3 y = K (k0_pay4 x0 x1) (k0_pay5 x2) (k0_pay6 x3) r l := by
  unfold K rot
  canon_tiles x h
  all_goals
    open_payloads
    pointwise
    blk_point []

/-- The result's array after the launch. -/
theorem final4 (c : Dev nD) : (dats m 0 c).arrAt 4 (cfgs 0).N
    = fun i => OUT (m ((c : Thread nD τ).loc main_arg0)) (m ((c : Thread nD τ).loc main_arg1)) (i 0) (i 1) := by
  refine (dats m 0 c).arrAt_eq_of_covers 4 _ (by decide +kernel) fun t _ y => ?_
  blk_simp
  rw [after0_4]
  have ht : t.val < 8 := lt_of_lt_of_eq t.isLt N_0
  have hy0 : (y 0).val < 1024 := (y 0).isLt
  refine (tiles4 _ _ _ _ y (y 0) (y 1) rfl rfl).trans ?_
  refine (core m c t (y 0) (y 1) (⟨t.val * 1024 + (y 0).val, by omega⟩ : Fin 8192) rfl).trans ?_
  refine congrArg₂ (OUT _ _) (Fin.ext ?_) (Fin.ext ?_) <;> blk_simp [idx t]

/-- The stored tiles of a point together: the rotation at every element. -/
theorem tiles5 (x0 : FVec Ideal S1024x2048 .bf16) (x1 : FVec Ideal S2048x1024 .bf16) (x2 x3 : FVec Ideal S1024x128 .f32)
    (y : S1024x1024.Idx) (r l : Fin 1024) (hr : (y 0).val = r.val) (hl : (y 1).val = l.val) :
    out0_5 (F := Ideal) x0 x1 x2 x3 y = K (k0_pay4 x0 x1) (k0_pay5 x2) (k0_pay6 x3) r l := by
  unfold K rot
  canon_tiles x h
  all_goals
    open_payloads
    pointwise
    blk_point []

/-- The result's array after the launch. -/
theorem final5 (c : Dev nD) : (dats m 0 c).arrAt 5 (cfgs 0).N
    = fun i => OUT (m ((c : Thread nD τ).loc main_arg0)) (m ((c : Thread nD τ).loc main_arg1)) (i 0) (i 1) := by
  refine (dats m 0 c).arrAt_eq_of_covers 5 _ (by decide +kernel) fun t _ y => ?_
  blk_simp
  rw [after0_5]
  have ht : t.val < 8 := lt_of_lt_of_eq t.isLt N_0
  have hy0 : (y 0).val < 1024 := (y 0).isLt
  refine (tiles5 _ _ _ _ y (y 0) (y 1) rfl rfl).trans ?_
  refine (core m c t (y 0) (y 1) (⟨t.val * 1024 + (y 0).val, by omega⟩ : Fin 8192) rfl).trans ?_
  refine congrArg₂ (OUT _ _) (Fin.ext ?_) (Fin.ext ?_) <;> blk_simp [idx t]

end Cert.KernelKcIdeal.Pt

namespace Cert.ReferenceKcIdeal.Pt
open Cert.ReferenceKcIdeal Cert.ReferenceKcIdeal.Gen
variable (m : (ℓ : Loc nD τ sig) → Buf (Elt Ideal) ℓ)

/-- The reference's rotated projection at an element. -/
theorem ref_v47 (c : Dev nD) (row : Fin 8192) (col : Fin 1024) :
    Value.res_main_v47 (F := Ideal) m c (ix2 row col)
      = Cert.KernelKcIdeal.Pt.OUT (m ((c : Thread nD τ).loc main_arg0)) (m ((c : Thread nD τ).loc main_arg1)) row col := by
  pointwise [Value.res_main_v47]
  split
  · rename_i h
    refine Eq.trans ?_ (rotVal_lo 1115684864#32 64 _ _ (Cert.KernelKcIdeal.Pt.D (m ((c : Thread nD τ).loc main_arg0)) (m ((c : Thread nD τ).loc main_arg1)) row col) (Cert.KernelKcIdeal.Pt.D (m ((c : Thread nD τ).loc main_arg0)) (m ((c : Thread nD τ).loc main_arg1)) row (Cert.KernelKcIdeal.Pt.rot col)) h).symm
    exact congrArg₂ (· - ·) (congrArg (· * _) (Cert.KernelKcIdeal.Pt.D_eq _ _ row col _ _ (by omega)))
      (congrArg (· * _) (Cert.KernelKcIdeal.Pt.D_eq _ _ row (Cert.KernelKcIdeal.Pt.rot col) _ _
        (by show _ = 1024 + (col.val / 128 * 128 + (col.val % 128 + 64) % 128); omega)))
  · rename_i h
    refine Eq.trans ?_ (rotVal_hi 1115684864#32 64 _ _ (Cert.KernelKcIdeal.Pt.D (m ((c : Thread nD τ).loc main_arg0)) (m ((c : Thread nD τ).loc main_arg1)) row col) (Cert.KernelKcIdeal.Pt.D (m ((c : Thread nD τ).loc main_arg0)) (m ((c : Thread nD τ).loc main_arg1)) row (Cert.KernelKcIdeal.Pt.rot col)) h).symm
    exact congrArg₂ (· + ·) (congrArg (· * _) (Cert.KernelKcIdeal.Pt.D_eq _ _ row (Cert.KernelKcIdeal.Pt.rot col) _ _
        (by show _ = 1024 + (col.val / 128 * 128 + (col.val % 128 + 64) % 128); omega)))
      (congrArg (· * _) (Cert.KernelKcIdeal.Pt.D_eq _ _ row col _ _ (by omega)))

/-- The reference's rotated projection at an element. -/
theorem ref_v46 (c : Dev nD) (row : Fin 8192) (col : Fin 1024) :
    Value.res_main_v46 (F := Ideal) m c (ix2 row col)
      = Cert.KernelKcIdeal.Pt.OUT (m ((c : Thread nD τ).loc main_arg0)) (m ((c : Thread nD τ).loc main_arg1)) row col := by
  pointwise [Value.res_main_v46]
  split
  · rename_i h
    refine Eq.trans ?_ (rotVal_lo 1115684864#32 64 _ _ (Cert.KernelKcIdeal.Pt.D (m ((c : Thread nD τ).loc main_arg0)) (m ((c : Thread nD τ).loc main_arg1)) row col) (Cert.KernelKcIdeal.Pt.D (m ((c : Thread nD τ).loc main_arg0)) (m ((c : Thread nD τ).loc main_arg1)) row (Cert.KernelKcIdeal.Pt.rot col)) h).symm
    exact congrArg₂ (· - ·) (congrArg (· * _) (Cert.KernelKcIdeal.Pt.D_eq _ _ row col _ _ (by omega)))
      (congrArg (· * _) (Cert.KernelKcIdeal.Pt.D_eq _ _ row (Cert.KernelKcIdeal.Pt.rot col) _ _
        (by show _ = 1024 + (col.val / 128 * 128 + (col.val % 128 + 64) % 128); omega)))
  · rename_i h
    refine Eq.trans ?_ (rotVal_hi 1115684864#32 64 _ _ (Cert.KernelKcIdeal.Pt.D (m ((c : Thread nD τ).loc main_arg0)) (m ((c : Thread nD τ).loc main_arg1)) row col) (Cert.KernelKcIdeal.Pt.D (m ((c : Thread nD τ).loc main_arg0)) (m ((c : Thread nD τ).loc main_arg1)) row (Cert.KernelKcIdeal.Pt.rot col)) h).symm
    exact congrArg₂ (· + ·) (congrArg (· * _) (Cert.KernelKcIdeal.Pt.D_eq _ _ row (Cert.KernelKcIdeal.Pt.rot col) _ _
        (by show _ = 1024 + (col.val / 128 * 128 + (col.val % 128 + 64) % 128); omega)))
      (congrArg (· * _) (Cert.KernelKcIdeal.Pt.D_eq _ _ row col _ _ (by omega)))

/-- The reference leaves its arguments unchanged, and it has no semaphores. -/
theorem frame : Cert.quiescent_ReferenceKcIdeal (hReferenceKcIdeal := Cert.ReferenceKcIdeal.Gen.facts) := by
  intro m ρ _
  refine (θ_run _ _ _).mono (fun r h => ⟨fun c => (h c).2.2, ?_⟩) (Cert.ReferenceKcIdeal.Value.run m ρ)
  exact sem_eq_zero_of_no_sems rfl _

/-- Over the extended reals the launch leaves the rotated projection that the plain product and the rotation give. -/
theorem same : Cert.algebraic_KernelKcIdeal_ReferenceKcIdeal (hKernelKcIdeal := Cert.KernelKcIdeal.Gen.facts) (hReferenceKcIdeal := Cert.ReferenceKcIdeal.Gen.facts) := by
  pair_intro
  · run_from Cert.KernelKcIdeal.Gen.run_main m g
  · run_from Cert.ReferenceKcIdeal.Value.run m' g'
    · refine Eq.trans (funext fun i => ?_) (Cert.KernelKcIdeal.Pt.final4 m c).symm
      rw [← ix2_eta i]
      refine (ref_v47 m' c (i 0) (i 1)).trans ?_
      rw [(hagree c).1, (hagree c).2]
      rfl
    · refine Eq.trans (funext fun i => ?_) (Cert.KernelKcIdeal.Pt.final5 m c).symm
      rw [← ix2_eta i]
      refine (ref_v46 m' c (i 0) (i 1)).trans ?_
      rw [(hagree c).1, (hagree c).2]
      rfl
end Cert.ReferenceKcIdeal.Pt
-- ==== Proof.Vc.lean ====
module

public import proofs.«01_k».proof.Defs
public import proofs.«01_k».proof.Proof.Gen.KernelVcIdeal.Frame
public import proofs.«01_k».proof.Proof.Gen.ReferenceVcIdeal.Run
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)

/-! The odd layers' projection: the values of the sparse attention (columns 2048 to 3071). -/

namespace Cert.KernelVcIdeal.Pt
open Cert.KernelVcIdeal Cert.KernelVcIdeal.Gen
variable (m : (ℓ : Loc nD τ sig) → Buf (Elt Ideal) ℓ)

/-- The projection's sum for one row (batch and position together) and one of the group's columns. -/
def D (X : FVec Ideal S2x4096x2048 .f32) (W : FVec Ideal S2048x7248 .f32) (row : Fin 8192) (col : Fin 1024) : EReal :=
  ∑ k : Fin 2048, X (ix3 (⟨row.val / 4096, by omega⟩ : Fin 2) (⟨row.val % 4096, by omega⟩ : Fin 4096) k)
    * W (ix2 k (⟨2048 + col.val, by omega⟩ : Fin 7248))

/-- The same sum with its column written out. -/
theorem D_eq (X : FVec Ideal S2x4096x2048 .f32) (W : FVec Ideal S2048x7248 .f32) (row : Fin 8192) (col : Fin 1024) (n : ℕ)
    (hn : n < 7248) (h : n = 2048 + col.val) :
    (∑ k : Fin 2048, X (ix3 (⟨row.val / 4096, by omega⟩ : Fin 2) (⟨row.val % 4096, by omega⟩ : Fin 4096) k)
      * W (ix2 k (⟨n, hn⟩ : Fin 7248))) = D X W row col := by
  subst h; rfl

/-- The grid point's blocks: a block of rows, a block of columns. -/
theorem idx : ∀ t : Fin cfg0.N, win0_0.index t = ![t.val, 0] ∧ win0_1.index t = ![0, 0]
    ∧ win0_2.index t = ![t.val, 0]
    ∧ win0_3.index t = ![t.val, 0] :=
  (by decide +kernel : ∀ t : Fin grid0.N, _)

/-- What a point's product leaves at an element is the sum at the element's place in the result. -/
theorem point2 (c : Dev nD) (t : Fin cfg0.N) (r l : Fin 1024) (row : Fin 8192) (col : Fin 1024)
    (hr : row.val = t.val * 1024 + r.val) (hl : col.val = l.val) :
    k0_pay1 (F := Ideal) (iblk m c 0 t) (iblk m c 1 t) (ix2 r l)
      = D (m ((c : Thread nD τ).loc main_arg0)) (m ((c : Thread nD τ).loc main_arg1)) row col := by
  pointwise [k0_pay1, D]
  blk_point [iblk, V, idx t]

/-- The result's array after the launch. -/
theorem final2 (c : Dev nD) : (dats m 0 c).arrAt 2 (cfgs 0).N
    = fun i => D (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  frame_out
  have ht : t.val < 8 := lt_of_lt_of_eq t.isLt N_0
  have hy0 : (y 0).val < 1024 := (y 0).isLt
  have hy1 : (y 1).val < 1024 := (y 1).isLt
  refine (congrArg _ (ix2_eta y).symm).trans ?_
  refine (point2 m c t (y 0) (y 1) (⟨t.val * 1024 + (y 0).val, by omega⟩ : Fin 8192)
    (⟨(y 1).val, by omega⟩ : Fin 1024) rfl rfl).trans ?_
  refine congrArg₂ (D _ _) (Fin.ext ?_) (Fin.ext ?_) <;> blk_simp [idx t]

/-- What a point's product leaves at an element is the sum at the element's place in the result. -/
theorem point3 (c : Dev nD) (t : Fin cfg0.N) (r l : Fin 1024) (row : Fin 8192) (col : Fin 1024)
    (hr : row.val = t.val * 1024 + r.val) (hl : col.val = l.val) :
    k0_pay2 (F := Ideal) (iblk m c 0 t) (iblk m c 1 t) (ix2 r l)
      = D (m ((c : Thread nD τ).loc main_arg0)) (m ((c : Thread nD τ).loc main_arg1)) row col := by
  pointwise [k0_pay2, D]
  blk_point [iblk, V, idx t]

/-- The result's array after the launch. -/
theorem final3 (c : Dev nD) : (dats m 0 c).arrAt 3 (cfgs 0).N
    = fun i => D (m ((c : Thread nD τ).loc main_arg0)) (m ((c : Thread nD τ).loc main_arg1)) (i 0) (i 1) := by
  refine (dats m 0 c).arrAt_eq_of_covers 3 _ (by decide +kernel) fun t _ y => ?_
  blk_simp
  rw [after0_3]
  frame_out
  have ht : t.val < 8 := lt_of_lt_of_eq t.isLt N_0
  have hy0 : (y 0).val < 1024 := (y 0).isLt
  have hy1 : (y 1).val < 1024 := (y 1).isLt
  refine (congrArg _ (ix2_eta y).symm).trans ?_
  refine (point3 m c t (y 0) (y 1) (⟨t.val * 1024 + (y 0).val, by omega⟩ : Fin 8192)
    (⟨(y 1).val, by omega⟩ : Fin 1024) rfl rfl).trans ?_
  refine congrArg₂ (D _ _) (Fin.ext ?_) (Fin.ext ?_) <;> blk_simp [idx t]

end Cert.KernelVcIdeal.Pt

namespace Cert.ReferenceVcIdeal.Pt

/-- The reference leaves its arguments unchanged, and it has no semaphores. -/
theorem frame : Cert.quiescent_ReferenceVcIdeal (hReferenceVcIdeal := Cert.ReferenceVcIdeal.Gen.facts) := by
  intro m ρ _
  refine (θ_run _ _ _).mono (fun r h => ⟨fun c => (h c).2.2, ?_⟩) (Cert.ReferenceVcIdeal.Value.run m ρ)
  exact sem_eq_zero_of_no_sems rfl _

/-- Over the extended reals the launch leaves the projection's columns that the plain product and its slices give. -/
theorem same : Cert.algebraic_KernelVcIdeal_ReferenceVcIdeal (hKernelVcIdeal := Cert.KernelVcIdeal.Gen.facts) (hReferenceVcIdeal := Cert.ReferenceVcIdeal.Gen.facts) := by
  pair_intro
  · run_from Cert.KernelVcIdeal.Gen.run_main m g
  · run_from Cert.ReferenceVcIdeal.Value.run m' g'
    · rw [Cert.KernelVcIdeal.Pt.final2 m c]
      funext i
      rw [← ix2_eta i]
      pointwise [Cert.KernelVcIdeal.Pt.D]
    · rw [Cert.KernelVcIdeal.Pt.final3 m c]
      funext i
      rw [← ix2_eta i]
      pointwise [Cert.KernelVcIdeal.Pt.D]
end Cert.ReferenceVcIdeal.Pt
-- ==== Proof.Qi.lean ====
module

public import proofs.«01_k».proof.Defs
public import proofs.«01_k».proof.Proof.Gen.KernelQiIdeal.Frame
public import proofs.«01_k».proof.Proof.Gen.ReferenceQiIdeal.Run
public import proofs.«01_k».proof.Proof.Rope
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)
open Cert.Rot

/-! The odd layers' projection: the rotated queries of the sparse attention's index (columns 3072 to 4095, heads of 64). -/

namespace Cert.KernelQiIdeal.Pt
open Cert.KernelQiIdeal Cert.KernelQiIdeal.Gen
variable (m : (ℓ : Loc nD τ sig) → Buf (Elt Ideal) ℓ)

/-- The projection's sum for one row (batch and position together) and one of the group's columns. -/
def D (X : FVec Ideal S2x4096x2048 .f32) (W : FVec Ideal S2048x7248 .f32) (row : Fin 8192) (col : Fin 1024) : EReal :=
  ∑ k : Fin 2048, X (ix3 (⟨row.val / 4096, by omega⟩ : Fin 2) (⟨row.val % 4096, by omega⟩ : Fin 4096) k)
    * W (ix2 k (⟨3072 + col.val, by omega⟩ : Fin 7248))

/-- The same sum with its column written out. -/
theorem D_eq (X : FVec Ideal S2x4096x2048 .f32) (W : FVec Ideal S2048x7248 .f32) (row : Fin 8192) (col : Fin 1024) (n : ℕ)
    (hn : n < 7248) (h : n = 3072 + col.val) :
    (∑ k : Fin 2048, X (ix3 (⟨row.val / 4096, by omega⟩ : Fin 2) (⟨row.val % 4096, by omega⟩ : Fin 4096) k)
      * W (ix2 k (⟨n, hn⟩ : Fin 7248))) = D X W row col := by
  subst h; rfl

/-- The partner of a column within its head. -/
def rot (l : Fin 1024) : Fin 1024 := ⟨l.val / 64 * 64 + (l.val % 64 + 32) % 64, by omega⟩

/-- The rotated projection at one element. -/
def OUT (X : FVec Ideal S2x4096x2048 .f32) (W : FVec Ideal S2048x7248 .f32) (row : Fin 8192) (col : Fin 1024) : EReal :=
  rotVal 1107296256#32 32 (row.val % 4096) (col.val % 64) (D X W row col) (D X W row (rot col))

/-- The grid point's blocks: a block of rows, the columns whole, the tables' block of the positions. -/
theorem idx : ∀ t : Fin cfg0.N, win0_0.index t = ![t.val, 0] ∧ win0_1.index t = ![0, 0] ∧ win0_2.index t = ![t.val % 4, 0]
    ∧ win0_3.index t = ![t.val % 4, 0] ∧ win0_4.index t = ![t.val, 0] :=
  (by decide +kernel : ∀ t : Fin grid0.N, _)

/-- The point's product at an element. -/
theorem acc_at (c : Dev nD) (t : Fin cfg0.N) (r l : Fin 1024) (row : Fin 8192) (h : row.val = t.val * 1024 + r.val) :
    k0_pay2 (F := Ideal) (iblk m c 0 t) (iblk m c 1 t) (ix2 r l)
      = D (m ((c : Thread nD τ).loc main_arg0)) (m ((c : Thread nD τ).loc main_arg1)) row l := by
  pointwise [k0_pay2, D]
  blk_point [iblk, V, idx t]

/-- The table of cosines at an element. -/
theorem cos_at (c : Dev nD) (t : Fin cfg0.N) (r : Fin 1024) (l : Fin 128) (p : ℕ) (hp : t.val % 4 * 1024 + r.val = p) :
    k0_pay3 (F := Ideal) (iblk m c 2 t) (ix2 r l)
      = if l.val % 64 < 32 then Ideal.cos (ang 1107296256#32 p (l.val % 64)) else Ideal.cos (ang 1107296256#32 p (l.val % 64 - 32)) := by
  subst hp
  pointwise [k0_pay3]
  blk_simp [iblk]
  entry_read
  pointwise
  blk_simp [idx t]
  rfl

/-- The table of signed sines at an element. -/
theorem sin_at (c : Dev nD) (t : Fin cfg0.N) (r : Fin 1024) (l : Fin 128) (p : ℕ) (hp : t.val % 4 * 1024 + r.val = p) :
    k0_pay4 (F := Ideal) (iblk m c 3 t) (ix2 r l)
      = if l.val % 64 < 32 then -Ideal.sin (ang 1107296256#32 p (l.val % 64)) else Ideal.sin (ang 1107296256#32 p (l.val % 64 - 32)) := by
  subst hp
  pointwise [k0_pay4]
  blk_simp [iblk]
  entry_read
  pointwise
  blk_simp [idx t]
  rfl

/-- Rotation of a block of sums by blocks of tables, at one element. -/
def K (A : FVec Ideal S1024x1024 .f32) (C S : FVec Ideal S1024x128 .f32) (r l : Fin 1024) : EReal :=
  A (ix2 r l) * C (ix2 r (⟨l.val % 128, by omega⟩ : Fin 128)) + A (ix2 r (rot l)) * S (ix2 r (⟨l.val % 128, by omega⟩ : Fin 128))

/-- A point's rotated block is the rotated projection's. -/
theorem core (c : Dev nD) (t : Fin cfg0.N) (r l : Fin 1024) (row : Fin 8192) (h : row.val = t.val * 1024 + r.val) :
    K (k0_pay2 (F := Ideal) (iblk m c 0 t) (iblk m c 1 t)) (k0_pay3 (F := Ideal) (iblk m c 2 t)) (k0_pay4 (F := Ideal) (iblk m c 3 t)) r l
      = OUT (m ((c : Thread nD τ).loc main_arg0)) (m ((c : Thread nD τ).loc main_arg1)) row l := by
  have hp : t.val % 4 * 1024 + r.val = row.val % 4096 := by omega
  have h1 := acc_at m c t r l row h
  have h2 := acc_at m c t r (rot l) row h
  have h3 := cos_at m c t r (⟨l.val % 128, by omega⟩ : Fin 128) _ hp
  have h4 := sin_at m c t r (⟨l.val % 128, by omega⟩ : Fin 128) _ hp
  have e : l.val % 128 % 64 = l.val % 64 := by omega
  dsimp only at h3 h4
  rw [e] at h3 h4
  unfold K OUT
  rw [h1, h2, h3, h4]
  clear h1 h2 h3 h4
  generalize D _ _ row l = a
  generalize D _ _ row (rot l) = b
  unfold rotVal
  split <;> rfl

/-- The lane's half within its head, as the launch's integer remainder tells it. -/
theorem half_bit : ∀ x : Fin 128, IntOp.cmpi CmpIPredicate.slt (Scalar.select (IntOp.andi
      (IntOp.xori (IntOp.cmpi CmpIPredicate.slt (IntOp.remsi ArithUnit.vector (BitVec.ofNat 32 x.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
      (IntOp.cmpi CmpIPredicate.ne (IntOp.remsi ArithUnit.vector (BitVec.ofNat 32 x.val) (Scalar.select (Scalar.cmpi CmpIPredicate.eq 64#32 0#32) 1#32 64#32)) 0#32)) (IntOp.addi (IntOp.remsi ArithUnit.vector (BitVec.ofNat 32 x.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 x.val) (Scalar.select (Scalar.cmpi CmpIPredicate.eq 64#32 0#32) 1#32 64#32))) 32#32
      = if x.val % 64 < 32 then 1#1 else 0#1 := by decide +kernel

/-- The choice between the two lane shifts: by the lane's half within its head. -/
theorem pick (n : ℕ) (hn : n < 128) (a b : EReal) : Scalar.select (IntOp.cmpi CmpIPredicate.slt (Scalar.select (IntOp.andi
      (IntOp.xori (IntOp.cmpi CmpIPredicate.slt (IntOp.remsi ArithUnit.vector (BitVec.ofNat 32 n) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
      (IntOp.cmpi CmpIPredicate.ne (IntOp.remsi ArithUnit.vector (BitVec.ofNat 32 n) (Scalar.select (Scalar.cmpi CmpIPredicate.eq 64#32 0#32) 1#32 64#32)) 0#32)) (IntOp.addi (IntOp.remsi ArithUnit.vector (BitVec.ofNat 32 n) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 n) (Scalar.select (Scalar.cmpi CmpIPredicate.eq 64#32 0#32) 1#32 64#32))) 32#32) a b
      = if n % 64 < 32 then a else b := by
  rw [half_bit ⟨n, hn⟩]
  split <;> rfl

/-- The stored tiles of a point together: the rotation at every element. -/
theorem tiles4 (x0 : FVec Ideal S1024x2048 .bf16) (x1 : FVec Ideal S2048x1024 .bf16) (x2 x3 : FVec Ideal S1024x128 .f32)
    (y : S1024x1024.Idx) (r l : Fin 1024) (hr : (y 0).val = r.val) (hl : (y 1).val = l.val) :
    out0_4 (F := Ideal) x0 x1 x2 x3 y = K (k0_pay2 x0 x1) (k0_pay3 x2) (k0_pay4 x3) r l := by
  unfold K rot
  canon_tiles x h
  all_goals
    open_payloads
    pointwise
    have hx : (x 1).val < 128 := (x 1).isLt
    rw [pick _ hx]
    split <;> blk_point []

/-- The result's array after the launch. -/
theorem final4 (c : Dev nD) : (dats m 0 c).arrAt 4 (cfgs 0).N
    = fun i => OUT (m ((c : Thread nD τ).loc main_arg0)) (m ((c : Thread nD τ).loc main_arg1)) (i 0) (i 1) := by
  refine (dats m 0 c).arrAt_eq_of_covers 4 _ (by decide +kernel) fun t _ y => ?_
  blk_simp
  rw [after0_4]
  have ht : t.val < 8 := lt_of_lt_of_eq t.isLt N_0
  have hy0 : (y 0).val < 1024 := (y 0).isLt
  refine (tiles4 _ _ _ _ y (y 0) (y 1) rfl rfl).trans ?_
  refine (core m c t (y 0) (y 1) (⟨t.val * 1024 + (y 0).val, by omega⟩ : Fin 8192) rfl).trans ?_
  refine congrArg₂ (OUT _ _) (Fin.ext ?_) (Fin.ext ?_) <;> blk_simp [idx t]

end Cert.KernelQiIdeal.Pt

namespace Cert.ReferenceQiIdeal.Pt
open Cert.ReferenceQiIdeal Cert.ReferenceQiIdeal.Gen
variable (m : (ℓ : Loc nD τ sig) → Buf (Elt Ideal) ℓ)

/-- The reference's rotated projection at an element. -/
theorem ref_v47 (c : Dev nD) (row : Fin 8192) (col : Fin 1024) :
    Value.res_main_v47 (F := Ideal) m c (ix2 row col)
      = Cert.KernelQiIdeal.Pt.OUT (m ((c : Thread nD τ).loc main_arg0)) (m ((c : Thread nD τ).loc main_arg1)) row col := by
  pointwise [Value.res_main_v47]
  split
  · rename_i h
    refine Eq.trans ?_ (rotVal_lo 1107296256#32 32 _ _ (Cert.KernelQiIdeal.Pt.D (m ((c : Thread nD τ).loc main_arg0)) (m ((c : Thread nD τ).loc main_arg1)) row col) (Cert.KernelQiIdeal.Pt.D (m ((c : Thread nD τ).loc main_arg0)) (m ((c : Thread nD τ).loc main_arg1)) row (Cert.KernelQiIdeal.Pt.rot col)) h).symm
    exact congrArg₂ (· - ·) (congrArg (· * _) (Cert.KernelQiIdeal.Pt.D_eq _ _ row col _ _ (by omega)))
      (congrArg (· * _) (Cert.KernelQiIdeal.Pt.D_eq _ _ row (Cert.KernelQiIdeal.Pt.rot col) _ _
        (by show _ = 3072 + (col.val / 64 * 64 + (col.val % 64 + 32) % 64); omega)))
  · rename_i h
    refine Eq.trans ?_ (rotVal_hi 1107296256#32 32 _ _ (Cert.KernelQiIdeal.Pt.D (m ((c : Thread nD τ).loc main_arg0)) (m ((c : Thread nD τ).loc main_arg1)) row col) (Cert.KernelQiIdeal.Pt.D (m ((c : Thread nD τ).loc main_arg0)) (m ((c : Thread nD τ).loc main_arg1)) row (Cert.KernelQiIdeal.Pt.rot col)) h).symm
    exact congrArg₂ (· + ·) (congrArg (· * _) (Cert.KernelQiIdeal.Pt.D_eq _ _ row (Cert.KernelQiIdeal.Pt.rot col) _ _
        (by show _ = 3072 + (col.val / 64 * 64 + (col.val % 64 + 32) % 64); omega)))
      (congrArg (· * _) (Cert.KernelQiIdeal.Pt.D_eq _ _ row col _ _ (by omega)))

/-- The reference leaves its arguments unchanged, and it has no semaphores. -/
theorem frame : Cert.quiescent_ReferenceQiIdeal (hReferenceQiIdeal := Cert.ReferenceQiIdeal.Gen.facts) := by
  intro m ρ _
  refine (θ_run _ _ _).mono (fun r h => ⟨fun c => (h c).2, ?_⟩) (Cert.ReferenceQiIdeal.Value.run m ρ)
  exact sem_eq_zero_of_no_sems rfl _

/-- Over the extended reals the launch leaves the rotated projection that the plain product and the rotation give. -/
theorem same : Cert.algebraic_KernelQiIdeal_ReferenceQiIdeal (hKernelQiIdeal := Cert.KernelQiIdeal.Gen.facts) (hReferenceQiIdeal := Cert.ReferenceQiIdeal.Gen.facts) := by
  pair_intro
  · run_from Cert.KernelQiIdeal.Gen.run_main m g
  · run_from Cert.ReferenceQiIdeal.Value.run m' g'
    refine Eq.trans (funext fun i => ?_) (Cert.KernelQiIdeal.Pt.final4 m c).symm
    rw [← ix2_eta i]
    refine (ref_v47 m' c (i 0) (i 1)).trans ?_
    rw [(hagree c).1, (hagree c).2]
    rfl
end Cert.ReferenceQiIdeal.Pt
-- ==== Proof.Ki.lean ====
module

public import proofs.«01_k».proof.Defs
public import proofs.«01_k».proof.Proof.Gen.KernelKiIdeal.Frame
public import proofs.«01_k».proof.Proof.Gen.ReferenceKiIdeal.Run
public import proofs.«01_k».proof.Proof.Rope
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)
open Cert.Rot

/-! The odd layers' projection: the rotated keys of the sparse attention's index (columns 4096 to 4159, one head of 64). -/

namespace Cert.KernelKiIdeal.Pt
open Cert.KernelKiIdeal Cert.KernelKiIdeal.Gen
variable (m : (ℓ : Loc nD τ sig) → Buf (Elt Ideal) ℓ)

/-- The projection's sum for one row (batch and position together) and one of the group's columns. -/
def D (X : FVec Ideal S2x4096x2048 .f32) (W : FVec Ideal S2048x7248 .f32) (row : Fin 8192) (col : Fin 64) : EReal :=
  ∑ k : Fin 2048, X (ix3 (⟨row.val / 4096, by omega⟩ : Fin 2) (⟨row.val % 4096, by omega⟩ : Fin 4096) k)
    * W (ix2 k (⟨4096 + col.val, by omega⟩ : Fin 7248))

/-- The same sum with its column written out. -/
theorem D_eq (X : FVec Ideal S2x4096x2048 .f32) (W : FVec Ideal S2048x7248 .f32) (row : Fin 8192) (col : Fin 64) (n : ℕ)
    (hn : n < 7248) (h : n = 4096 + col.val) :
    (∑ k : Fin 2048, X (ix3 (⟨row.val / 4096, by omega⟩ : Fin 2) (⟨row.val % 4096, by omega⟩ : Fin 4096) k)
      * W (ix2 k (⟨n, hn⟩ : Fin 7248))) = D X W row col := by
  subst h; rfl

/-- The partner of a column within its head. -/
def rot (l : Fin 64) : Fin 64 := ⟨l.val / 64 * 64 + (l.val % 64 + 32) % 64, by omega⟩

/-- The rotated projection at one element. -/
def OUT (X : FVec Ideal S2x4096x2048 .f32) (W : FVec Ideal S2048x7248 .f32) (row : Fin 8192) (col : Fin 64) : EReal :=
  rotVal 1107296256#32 32 (row.val % 4096) (col.val % 64) (D X W row col) (D X W row (rot col))

/-- The grid point's blocks: a block of rows, the columns whole, the tables' block of the positions. -/
theorem idx : ∀ t : Fin cfg0.N, win0_0.index t = ![t.val, 0] ∧ win0_1.index t = ![0, 0] ∧ win0_2.index t = ![t.val % 4, 0]
    ∧ win0_3.index t = ![t.val % 4, 0] ∧ win0_4.index t = ![t.val, 0] :=
  (by decide +kernel : ∀ t : Fin grid0.N, _)

/-- The product of two blocks at an element. -/
def A (x0 : FVec Ideal S1024x2048 .bf16) (x1 : FVec Ideal S2048x128 .bf16) (r : Fin 1024) (l : Fin 128) : EReal :=
  ∑ k : Fin 2048, x0 (ix2 r k) * x1 (ix2 k l)

/-- The point's product at one of the columns that are not filled up. -/
theorem acc_at (c : Dev nD) (t : Fin cfg0.N) (r : Fin 1024) (l : Fin 64) (n : Fin 128) (hn : n.val = l.val) (row : Fin 8192) (h : row.val = t.val * 1024 + r.val) :
    A (iblk m c 0 t) (iblk m c 1 t) r n
      = D (m ((c : Thread nD τ).loc main_arg0)) (m ((c : Thread nD τ).loc main_arg1)) row l := by
  have hlt : l.val < 64 := l.isLt
  unfold A D
  refine Finset.sum_congr rfl fun k _ => ?_
  blk_simp [iblk]
  simp only [V, hostOps0, hostOps0_1, hostOps0_2, List.flatten_cons, List.flatten_nil, List.append_nil, List.cons_append, List.nil_append]
  entry_read
  simp only [StableHlo.TRef.toBuf, StableHlo.TRef.ofBuf, cast_cast, cast_eq]
  pointwise
  split
  · blk_point [idx t]
  · rename_i hc
    exact absurd (by blk_simp [idx t]; omega) hc

/-- The table of cosines at an element. -/
theorem cos_at (c : Dev nD) (t : Fin cfg0.N) (r : Fin 1024) (l : Fin 128) (p : ℕ) (hp : t.val % 4 * 1024 + r.val = p) :
    (show FVec Ideal S1024x128 .f32 from iblk m c 2 t) (ix2 r l)
      = if l.val % 64 < 32 then Ideal.cos (ang 1107296256#32 p (l.val % 64)) else Ideal.cos (ang 1107296256#32 p (l.val % 64 - 32)) := by
  subst hp
  blk_simp [iblk]
  simp only [V, hostOps0, hostOps0_1, hostOps0_2, List.flatten_cons, List.flatten_nil, List.append_nil, List.cons_append, List.nil_append]
  entry_read
  pointwise
  blk_simp [idx t]
  rfl

/-- The table of signed sines at an element. -/
theorem sin_at (c : Dev nD) (t : Fin cfg0.N) (r : Fin 1024) (l : Fin 128) (p : ℕ) (hp : t.val % 4 * 1024 + r.val = p) :
    (show FVec Ideal S1024x128 .f32 from iblk m c 3 t) (ix2 r l)
      = if l.val % 64 < 32 then -Ideal.sin (ang 1107296256#32 p (l.val % 64)) else Ideal.sin (ang 1107296256#32 p (l.val % 64 - 32)) := by
  subst hp
  blk_simp [iblk]
  simp only [V, hostOps0, hostOps0_1, hostOps0_2, List.flatten_cons, List.flatten_nil, List.append_nil, List.cons_append, List.nil_append]
  entry_read
  pointwise
  blk_simp [idx t]
  rfl

/-- Rotation of a block of sums by blocks of tables, at one element. -/
def K (x0 : FVec Ideal S1024x2048 .bf16) (x1 : FVec Ideal S2048x128 .bf16) (x2 x3 : FVec Ideal S1024x128 .f32) (r : Fin 1024) (l : Fin 64) : EReal :=
  A x0 x1 r (⟨l.val, by omega⟩ : Fin 128) * x2 (ix2 r (⟨l.val, by omega⟩ : Fin 128))
    + A x0 x1 r (⟨(rot l).val, by omega⟩ : Fin 128) * x3 (ix2 r (⟨l.val, by omega⟩ : Fin 128))

/-- A point's rotated block is the rotated projection's. -/
theorem core (c : Dev nD) (t : Fin cfg0.N) (r : Fin 1024) (l : Fin 64) (row : Fin 8192) (h : row.val = t.val * 1024 + r.val) :
    K (iblk m c 0 t) (iblk m c 1 t) (iblk m c 2 t) (iblk m c 3 t) r l
      = OUT (m ((c : Thread nD τ).loc main_arg0)) (m ((c : Thread nD τ).loc main_arg1)) row l := by
  have hp : t.val % 4 * 1024 + r.val = row.val % 4096 := by omega
  have h1 := acc_at m c t r l (⟨l.val, by omega⟩ : Fin 128) rfl row h
  have h2 := acc_at m c t r (rot l) (⟨(rot l).val, by omega⟩ : Fin 128) rfl row h
  have h3 := cos_at m c t r (⟨l.val, by omega⟩ : Fin 128) _ hp
  have h4 := sin_at m c t r (⟨l.val, by omega⟩ : Fin 128) _ hp
  refine (congrArg₂ (· + ·) (congrArg₂ (· * ·) h1 h3) (congrArg₂ (· * ·) h2 h4)).trans ?_
  unfold OUT
  generalize D _ _ row l = a
  generalize D _ _ row (rot l) = b
  dsimp only
  unfold rotVal
  split <;> rfl

/-- The lane's half within its head, as the launch's integer remainder tells it. -/
theorem half_bit : ∀ x : Fin 128, IntOp.cmpi CmpIPredicate.slt (Scalar.select (IntOp.andi
      (IntOp.xori (IntOp.cmpi CmpIPredicate.slt (IntOp.remsi ArithUnit.vector (BitVec.ofNat 32 x.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
      (IntOp.cmpi CmpIPredicate.ne (IntOp.remsi ArithUnit.vector (BitVec.ofNat 32 x.val) (Scalar.select (Scalar.cmpi CmpIPredicate.eq 64#32 0#32) 1#32 64#32)) 0#32)) (IntOp.addi (IntOp.remsi ArithUnit.vector (BitVec.ofNat 32 x.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 x.val) (Scalar.select (Scalar.cmpi CmpIPredicate.eq 64#32 0#32) 1#32 64#32))) 32#32
      = if x.val % 64 < 32 then 1#1 else 0#1 := by decide +kernel

/-- The choice between the two lane shifts: by the lane's half within its head. -/
theorem pick (n : ℕ) (hn : n < 128) (a b : EReal) : Scalar.select (IntOp.cmpi CmpIPredicate.slt (Scalar.select (IntOp.andi
      (IntOp.xori (IntOp.cmpi CmpIPredicate.slt (IntOp.remsi ArithUnit.vector (BitVec.ofNat 32 n) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
      (IntOp.cmpi CmpIPredicate.ne (IntOp.remsi ArithUnit.vector (BitVec.ofNat 32 n) (Scalar.select (Scalar.cmpi CmpIPredicate.eq 64#32 0#32) 1#32 64#32)) 0#32)) (IntOp.addi (IntOp.remsi ArithUnit.vector (BitVec.ofNat 32 n) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 n) (Scalar.select (Scalar.cmpi CmpIPredicate.eq 64#32 0#32) 1#32 64#32))) 32#32) a b
      = if n % 64 < 32 then a else b := by
  rw [half_bit ⟨n, hn⟩]
  split <;> rfl

/-- What a point stores at an element: the rotation. -/
theorem stored (x0 : FVec Ideal S1024x2048 .bf16) (x1 : FVec Ideal S2048x128 .bf16) (x2 x3 : FVec Ideal S1024x128 .f32)
    (r : Fin 1024) (l : Fin 64) :
    k0_pay1 (F := Ideal) x0 x1 x2 x3 (ix2 r l) = K x0 x1 x2 x3 r l := by
  have hx : l.val < 128 := by omega
  unfold K A rot
  pointwise [k0_pay1]
  rw [pick _ hx]
  split <;> blk_point []

/-- The result's array after the launch. -/
theorem final4 (c : Dev nD) : (dats m 0 c).arrAt 4 (cfgs 0).N
    = fun i => OUT (m ((c : Thread nD τ).loc main_arg0)) (m ((c : Thread nD τ).loc main_arg1)) (i 0) (i 1) := by
  refine (dats m 0 c).arrAt_eq_of_covers 4 _ (by decide +kernel) fun t _ y => ?_
  blk_simp
  rw [after0_4]
  frame_out
  have ht : t.val < 8 := lt_of_lt_of_eq t.isLt N_0
  have hy0 : (y 0).val < 1024 := (y 0).isLt
  refine (congrArg _ (ix2_eta y).symm).trans ?_
  refine (stored _ _ _ _ (y 0) (y 1)).trans ?_
  refine (core m c t (y 0) (y 1) (⟨t.val * 1024 + (y 0).val, by omega⟩ : Fin 8192) rfl).trans ?_
  refine congrArg₂ (OUT _ _) (Fin.ext ?_) (Fin.ext ?_) <;> blk_simp [idx t]

end Cert.KernelKiIdeal.Pt

namespace Cert.ReferenceKiIdeal.Pt
open Cert.ReferenceKiIdeal Cert.ReferenceKiIdeal.Gen
variable (m : (ℓ : Loc nD τ sig) → Buf (Elt Ideal) ℓ)

/-- The two reshapes of the rotated columns, read together. -/
theorem cast_at (C : FVec Ideal S2x4096x1x64 .f32) (row : Fin 8192) (col : Fin 64) :
    shapeCast S8192x64 (shapeCast S2x4096x64 C shapeCasts_S2x4096x1x64_S2x4096x64) shapeCasts_S2x4096x64_S8192x64 (ix2 row col)
      = C (ix4 (⟨row.val / 4096, by omega⟩ : Fin 2) (⟨row.val % 4096, by omega⟩ : Fin 4096) (0 : Fin 1) col) := by
  pointwise

/-- The reference's rotated projection at an element. -/
theorem ref_v47 (c : Dev nD) (row : Fin 8192) (col : Fin 64) :
    Value.res_main_v47 (F := Ideal) m c (ix2 row col)
      = Cert.KernelKiIdeal.Pt.OUT (m ((c : Thread nD τ).loc main_arg0)) (m ((c : Thread nD τ).loc main_arg1)) row col := by
  have e : Cert.KernelKiIdeal.Pt.OUT (m ((c : Thread nD τ).loc main_arg0)) (m ((c : Thread nD τ).loc main_arg1)) row col = rotVal 1107296256#32 32 (row.val % 4096) col.val (Cert.KernelKiIdeal.Pt.D (m ((c : Thread nD τ).loc main_arg0)) (m ((c : Thread nD τ).loc main_arg1)) row col) (Cert.KernelKiIdeal.Pt.D (m ((c : Thread nD τ).loc main_arg0)) (m ((c : Thread nD τ).loc main_arg1)) row (Cert.KernelKiIdeal.Pt.rot col)) := by
    have e' : col.val % 64 = col.val := by omega
    unfold Cert.KernelKiIdeal.Pt.OUT
    rw [e']
  unfold Value.res_main_v47
  refine (cast_at _ row col).trans ?_
  pointwise
  split
  · rename_i h
    refine Eq.trans ?_ (e.trans (rotVal_lo 1107296256#32 32 _ _ (Cert.KernelKiIdeal.Pt.D (m ((c : Thread nD τ).loc main_arg0)) (m ((c : Thread nD τ).loc main_arg1)) row col) (Cert.KernelKiIdeal.Pt.D (m ((c : Thread nD τ).loc main_arg0)) (m ((c : Thread nD τ).loc main_arg1)) row (Cert.KernelKiIdeal.Pt.rot col)) h)).symm
    exact congrArg₂ (· - ·) (congrArg (· * _) (Cert.KernelKiIdeal.Pt.D_eq _ _ row col _ _ (by omega)))
      (congrArg (· * _) (Cert.KernelKiIdeal.Pt.D_eq _ _ row (Cert.KernelKiIdeal.Pt.rot col) _ _
        (by show _ = 4096 + (col.val / 64 * 64 + (col.val % 64 + 32) % 64); omega)))
  · rename_i h
    refine Eq.trans ?_ (e.trans (rotVal_hi 1107296256#32 32 _ _ (Cert.KernelKiIdeal.Pt.D (m ((c : Thread nD τ).loc main_arg0)) (m ((c : Thread nD τ).loc main_arg1)) row col) (Cert.KernelKiIdeal.Pt.D (m ((c : Thread nD τ).loc main_arg0)) (m ((c : Thread nD τ).loc main_arg1)) row (Cert.KernelKiIdeal.Pt.rot col)) h)).symm
    exact congrArg₂ (· + ·) (congrArg (· * _) (Cert.KernelKiIdeal.Pt.D_eq _ _ row (Cert.KernelKiIdeal.Pt.rot col) _ _
        (by show _ = 4096 + (col.val / 64 * 64 + (col.val % 64 + 32) % 64); omega)))
      (congrArg (· * _) (Cert.KernelKiIdeal.Pt.D_eq _ _ row col _ _ (by omega)))

/-- The reference leaves its arguments unchanged, and it has no semaphores. -/
theorem frame : Cert.quiescent_ReferenceKiIdeal (hReferenceKiIdeal := Cert.ReferenceKiIdeal.Gen.facts) := by
  intro m ρ _
  refine (θ_run _ _ _).mono (fun r h => ⟨fun c => (h c).2, ?_⟩) (Cert.ReferenceKiIdeal.Value.run m ρ)
  exact sem_eq_zero_of_no_sems rfl _

/-- Over the extended reals the launch leaves the rotated projection that the plain product and the rotation give. -/
theorem same : Cert.algebraic_KernelKiIdeal_ReferenceKiIdeal (hKernelKiIdeal := Cert.KernelKiIdeal.Gen.facts) (hReferenceKiIdeal := Cert.ReferenceKiIdeal.Gen.facts) := by
  pair_intro
  · run_from Cert.KernelKiIdeal.Gen.run_main m g
    · exact Cert.KernelKiIdeal.Gen.V_main_arg0 m c
    · exact Cert.KernelKiIdeal.Gen.V_main_arg1 m c
  · run_from Cert.ReferenceKiIdeal.Value.run m' g'
    refine Eq.trans (funext fun i => ?_) (Cert.KernelKiIdeal.Pt.final4 m c).symm
    rw [← ix2_eta i]
    refine (ref_v47 m' c (i 0) (i 1)).trans ?_
    rw [(hagree c).1, (hagree c).2]
    rfl
end Cert.ReferenceKiIdeal.Pt
-- ==== Proof.Wi.lean ====
module

public import proofs.«01_k».proof.Defs
public import proofs.«01_k».proof.Proof.Gen.KernelWiIdeal.Frame
public import proofs.«01_k».proof.Proof.Gen.ReferenceWiIdeal.Run
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)

/-! The odd layers' projection: the weights of the sparse attention's index (columns 4160 to 4175). -/

namespace Cert.KernelWiIdeal.Pt
open Cert.KernelWiIdeal Cert.KernelWiIdeal.Gen
variable (m : (ℓ : Loc nD τ sig) → Buf (Elt Ideal) ℓ)

/-- The integer zero as a number. -/
theorem zero : (FloatOps.sitofp FTy.f32 0#32 : Ideal .f32) = (0 : EReal) := by
  show ((((0#32 : BitVec 32).toInt : ℝ)) : EReal) = 0
  simp

/-- The integer zero as a number in the narrow format. -/
theorem zero' : (FloatOps.sitofp FTy.bf16 0#32 : Ideal .bf16) = (0 : EReal) := zero

/-- The projection's sum for one row and one of the sixteen columns, and zero in the columns that fill the lanes up. -/
def D (X : FVec Ideal S2x4096x2048 .f32) (W : FVec Ideal S2048x7248 .f32) (row : Fin 8192) (col : Fin 128) : EReal :=
  if h : col.val < 16 then
    ∑ k : Fin 2048, X (ix3 (⟨row.val / 4096, by omega⟩ : Fin 2) (⟨row.val % 4096, by omega⟩ : Fin 4096) k)
      * W (ix2 k (⟨4160 + col.val, by omega⟩ : Fin 7248))
  else 0

/-- The grid point's blocks: a block of rows, a block of columns. -/
theorem idx : ∀ t : Fin cfg0.N, win0_0.index t = ![t.val, 0] ∧ win0_1.index t = ![0, 0] ∧ win0_2.index t = ![t.val, 0] :=
  (by decide +kernel : ∀ t : Fin grid0.N, _)

/-- What a point's product leaves at an element is the sum at the element's place in the result. -/
theorem point2 (c : Dev nD) (t : Fin cfg0.N) (r : Fin 1024) (l : Fin 128) (row : Fin 8192) (col : Fin 128)
    (hr : row.val = t.val * 1024 + r.val) (hl : col.val = l.val) :
    k0_pay1 (F := Ideal) (iblk m c 0 t) (iblk m c 1 t) (ix2 r l)
      = D (m ((c : Thread nD τ).loc main_arg0)) (m ((c : Thread nD τ).loc main_arg1)) row col := by
  have hlt : l.val < 128 := l.isLt
  unfold D
  split
  · rename_i h
    pointwise [k0_pay1]
    refine Finset.sum_congr rfl fun k _ => ?_
    blk_simp [iblk]
    simp only [V, hostOps0, hostOps0_1, List.flatten_cons, List.flatten_nil, List.append_nil, List.cons_append, List.nil_append]
    entry_read
    simp only [StableHlo.TRef.toBuf, StableHlo.TRef.ofBuf, cast_cast, cast_eq]
    pointwise
    split
    · blk_point [idx t]
    · rename_i hc
      exact absurd (by blk_simp [idx t]; omega) hc
  · rename_i h
    pointwise [k0_pay1]
    refine Finset.sum_eq_zero fun k _ => ?_
    blk_simp [iblk]
    simp only [V, hostOps0, hostOps0_1, List.flatten_cons, List.flatten_nil, List.append_nil, List.cons_append, List.nil_append]
    entry_read
    simp only [StableHlo.TRef.toBuf, StableHlo.TRef.ofBuf, cast_cast, cast_eq]
    pointwise
    split
    · rename_i hc
      refine absurd ?_ h
      blk_simp [idx t] at hc
      omega
    · rw [zero']
      exact mul_zero (M₀ := EReal) _

/-- The result's array after the launch. -/
theorem final2 (c : Dev nD) : (dats m 0 c).arrAt 2 (cfgs 0).N
    = fun i => D (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  frame_out
  have ht : t.val < 8 := lt_of_lt_of_eq t.isLt N_0
  have hy0 : (y 0).val < 1024 := (y 0).isLt
  have hy1 : (y 1).val < 128 := (y 1).isLt
  refine (congrArg _ (ix2_eta y).symm).trans ?_
  refine (point2 m c t (y 0) (y 1) (⟨t.val * 1024 + (y 0).val, by omega⟩ : Fin 8192)
    (⟨(y 1).val, by omega⟩ : Fin 128) rfl rfl).trans ?_
  refine congrArg₂ (D _ _) (Fin.ext ?_) (Fin.ext ?_) <;> blk_simp [idx t]

end Cert.KernelWiIdeal.Pt

namespace Cert.ReferenceWiIdeal.Pt

/-- The reference leaves its arguments unchanged, and it has no semaphores. -/
theorem frame : Cert.quiescent_ReferenceWiIdeal (hReferenceWiIdeal := Cert.ReferenceWiIdeal.Gen.facts) := by
  intro m ρ _
  refine (θ_run _ _ _).mono (fun r h => ⟨fun c => (h c).2, ?_⟩) (Cert.ReferenceWiIdeal.Value.run m ρ)
  exact sem_eq_zero_of_no_sems rfl _

/-- Over the extended reals the launch leaves the projection's columns that the plain product and its slices give. -/
theorem same : Cert.algebraic_KernelWiIdeal_ReferenceWiIdeal (hKernelWiIdeal := Cert.KernelWiIdeal.Gen.facts) (hReferenceWiIdeal := Cert.ReferenceWiIdeal.Gen.facts) := by
  pair_intro
  · run_from Cert.KernelWiIdeal.Gen.run_main m g
    · exact Cert.KernelWiIdeal.Gen.V_main_arg0 m c
    · exact Cert.KernelWiIdeal.Gen.V_main_arg1 m c
  · run_from Cert.ReferenceWiIdeal.Value.run m' g'
    rw [Cert.KernelWiIdeal.Pt.final2 m c]
    funext i
    rw [← ix2_eta i]
    pointwise [Cert.KernelWiIdeal.Pt.D]
    refine dite_congr rfl (fun _ => rfl) fun _ => ?_
    exact Cert.KernelWiIdeal.Pt.zero
end Cert.ReferenceWiIdeal.Pt
-- ==== Proof.Qkd.lean ====
module

public import proofs.«01_k».proof.Defs
public import proofs.«01_k».proof.Proof.Gen.KernelQkdIdeal.Frame
public import proofs.«01_k».proof.Proof.Gen.ReferenceQkdIdeal.Run
public import proofs.«01_k».proof.Proof.Rope
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)
open Cert.Rot

/-! The odd layers' projection: the rotated queries and keys of the retention (columns 4176 to 5199). -/

namespace Cert.KernelQkdIdeal.Pt
open Cert.KernelQkdIdeal Cert.KernelQkdIdeal.Gen
variable (m : (ℓ : Loc nD τ sig) → Buf (Elt Ideal) ℓ)

/-- The projection's sum for one row (batch and position together) and one of the group's columns. -/
def D (X : FVec Ideal S2x4096x2048 .f32) (W : FVec Ideal S2048x7248 .f32) (row : Fin 8192) (col : Fin 1024) : EReal :=
  ∑ k : Fin 2048, X (ix3 (⟨row.val / 4096, by omega⟩ : Fin 2) (⟨row.val % 4096, by omega⟩ : Fin 4096) k)
    * W (ix2 k (⟨4176 + col.val, by omega⟩ : Fin 7248))

/-- The same sum with its column written out. -/
theorem D_eq (X : FVec Ideal S2x4096x2048 .f32) (W : FVec Ideal S2048x7248 .f32) (row : Fin 8192) (col : Fin 1024) (n : ℕ)
    (hn : n < 7248) (h : n = 4176 + col.val) :
    (∑ k : Fin 2048, X (ix3 (⟨row.val / 4096, by omega⟩ : Fin 2) (⟨row.val % 4096, by omega⟩ : Fin 4096) k)
      * W (ix2 k (⟨n, hn⟩ : Fin 7248))) = D X W row col := by
  subst h; rfl

/-- The partner of a column within its head. -/
def rot (l : Fin 1024) : Fin 1024 := ⟨l.val / 128 * 128 + (l.val % 128 + 64) % 128, by omega⟩

/-- The rotated projection at one element. -/
def OUT (X : FVec Ideal S2x4096x2048 .f32) (W : FVec Ideal S2048x7248 .f32) (row : Fin 8192) (col : Fin 1024) : EReal :=
  rotVal 1115684864#32 64 (row.val % 4096) (col.val % 128) (D X W row col) (D X W row (rot col))

/-- The grid point's blocks: a block of rows, the columns whole, the tables' block of the positions. -/
theorem idx : ∀ t : Fin cfg0.N, win0_0.index t = ![t.val, 0] ∧ win0_1.index t = ![0, 0] ∧ win0_2.index t = ![t.val % 4, 0]
    ∧ win0_3.index t = ![t.val % 4, 0] ∧ win0_4.index t = ![t.val, 0] :=
  (by decide +kernel : ∀ t : Fin grid0.N, _)

/-- The point's product at an element. -/
theorem acc_at (c : Dev nD) (t : Fin cfg0.N) (r l : Fin 1024) (row : Fin 8192) (h : row.val = t.val * 1024 + r.val) :
    k0_pay5 (F := Ideal) (iblk m c 0 t) (iblk m c 1 t) (ix2 r l)
      = D (m ((c : Thread nD τ).loc main_arg0)) (m ((c : Thread nD τ).loc main_arg1)) row l := by
  pointwise [k0_pay5, D]
  blk_point [iblk, V, idx t]

/-- The table of cosines at an element. -/
theorem cos_at (c : Dev nD) (t : Fin cfg0.N) (r : Fin 1024) (l : Fin 128) (p : ℕ) (hp : t.val % 4 * 1024 + r.val = p) :
    k0_pay6 (F := Ideal) (iblk m c 2 t) (ix2 r l)
      = if l.val < 64 then Ideal.cos (ang 1115684864#32 p (l.val)) else Ideal.cos (ang 1115684864#32 p (l.val - 64)) := by
  subst hp
  pointwise [k0_pay6]
  blk_simp [iblk]
  entry_read
  pointwise
  blk_simp [idx t]
  rfl

/-- The table of signed sines at an element. -/
theorem sin_at (c : Dev nD) (t : Fin cfg0.N) (r : Fin 1024) (l : Fin 128) (p : ℕ) (hp : t.val % 4 * 1024 + r.val = p) :
    k0_pay7 (F := Ideal) (iblk m c 3 t) (ix2 r l)
      = if l.val < 64 then -Ideal.sin (ang 1115684864#32 p (l.val)) else Ideal.sin (ang 1115684864#32 p (l.val - 64)) := by
  subst hp
  pointwise [k0_pay7]
  blk_simp [iblk]
  entry_read
  pointwise
  blk_simp [idx t]
  rfl

/-- Rotation of a block of sums by blocks of tables, at one element. -/
def K (A : FVec Ideal S1024x1024 .f32) (C S : FVec Ideal S1024x128 .f32) (r l : Fin 1024) : EReal :=
  A (ix2 r l) * C (ix2 r (⟨l.val % 128, by omega⟩ : Fin 128)) + A (ix2 r (rot l)) * S (ix2 r (⟨l.val % 128, by omega⟩ : Fin 128))

/-- A point's rotated block is the rotated projection's. -/
theorem core (c : Dev nD) (t : Fin cfg0.N) (r l : Fin 1024) (row : Fin 8192) (h : row.val = t.val * 1024 + r.val) :
    K (k0_pay5 (F := Ideal) (iblk m c 0 t) (iblk m c 1 t)) (k0_pay6 (F := Ideal) (iblk m c 2 t)) (k0_pay7 (F := Ideal) (iblk m c 3 t)) r l
      = OUT (m ((c : Thread nD τ).loc main_arg0)) (m ((c : Thread nD τ).loc main_arg1)) row l := by
  have hp : t.val % 4 * 1024 + r.val = row.val % 4096 := by omega
  have h1 := acc_at m c t r l row h
  have h2 := acc_at m c t r (rot l) row h
  have h3 := cos_at m c t r (⟨l.val % 128, by omega⟩ : Fin 128) _ hp
  have h4 := sin_at m c t r (⟨l.val % 128, by omega⟩ : Fin 128) _ hp
  unfold K OUT
  rw [h1, h2, h3, h4]
  clear h1 h2 h3 h4
  generalize D _ _ row l = a
  generalize D _ _ row (rot l) = b
  dsimp only
  unfold rotVal
  split <;> rfl

/-- The stored tiles of a point together: the rotation at every element. -/
theorem tiles4 (x0 : FVec Ideal S1024x2048 .bf16) (x1 : FVec Ideal S2048x1024 .bf16) (x2 x3 : FVec Ideal S1024x128 .f32)
    (y : S1024x1024.Idx) (r l : Fin 1024) (hr : (y 0).val = r.val) (hl : (y 1).val = l.val) :
    out0_4 (F := Ideal) x0 x1 x2 x3 y = K (k0_pay5 x0 x1) (k0_pay6 x2) (k0_pay7 x3) r l := by
  unfold K rot
  canon_tiles x h
  all_goals
    open_payloads
    pointwise
    blk_point []

/-- The result's array after the launch. -/
theorem final4 (c : Dev nD) : (dats m 0 c).arrAt 4 (cfgs 0).N
    = fun i => OUT (m ((c : Thread nD τ).loc main_arg0)) (m ((c : Thread nD τ).loc main_arg1)) (i 0) (i 1) := by
  refine (dats m 0 c).arrAt_eq_of_covers 4 _ (by decide +kernel) fun t _ y => ?_
  blk_simp
  rw [after0_4]
  have ht : t.val < 8 := lt_of_lt_of_eq t.isLt N_0
  have hy0 : (y 0).val < 1024 := (y 0).isLt
  refine (tiles4 _ _ _ _ y (y 0) (y 1) rfl rfl).trans ?_
  refine (core m c t (y 0) (y 1) (⟨t.val * 1024 + (y 0).val, by omega⟩ : Fin 8192) rfl).trans ?_
  refine congrArg₂ (OUT _ _) (Fin.ext ?_) (Fin.ext ?_) <;> blk_simp [idx t]

end Cert.KernelQkdIdeal.Pt

namespace Cert.ReferenceQkdIdeal.Pt
open Cert.ReferenceQkdIdeal Cert.ReferenceQkdIdeal.Gen
variable (m : (ℓ : Loc nD τ sig) → Buf (Elt Ideal) ℓ)

/-- The reference's rotated queries and keys at an element. -/
theorem ref_v82 (c : Dev nD) (row : Fin 8192) (col : Fin 1024) :
    Value.res_main_v82 (F := Ideal) m c (ix2 row col)
      = Cert.KernelQkdIdeal.Pt.OUT (m ((c : Thread nD τ).loc main_arg0)) (m ((c : Thread nD τ).loc main_arg1)) row col := by
  pointwise [Value.res_main_v82]
  split
  · rename_i h0
    split
    · rename_i h
      refine Eq.trans ?_ (rotVal_lo 1115684864#32 64 _ _ (Cert.KernelQkdIdeal.Pt.D (m ((c : Thread nD τ).loc main_arg0)) (m ((c : Thread nD τ).loc main_arg1)) row col) (Cert.KernelQkdIdeal.Pt.D (m ((c : Thread nD τ).loc main_arg0)) (m ((c : Thread nD τ).loc main_arg1)) row (Cert.KernelQkdIdeal.Pt.rot col)) h).symm
      exact congrArg₂ (· - ·) (congrArg (· * _) (Cert.KernelQkdIdeal.Pt.D_eq _ _ row col _ _ (by omega)))
        (congrArg (· * _) (Cert.KernelQkdIdeal.Pt.D_eq _ _ row (Cert.KernelQkdIdeal.Pt.rot col) _ _
          (by show _ = 4176 + (col.val / 128 * 128 + (col.val % 128 + 64) % 128); omega)))
    · rename_i h
      refine Eq.trans ?_ (rotVal_hi 1115684864#32 64 _ _ (Cert.KernelQkdIdeal.Pt.D (m ((c : Thread nD τ).loc main_arg0)) (m ((c : Thread nD τ).loc main_arg1)) row col) (Cert.KernelQkdIdeal.Pt.D (m ((c : Thread nD τ).loc main_arg0)) (m ((c : Thread nD τ).loc main_arg1)) row (Cert.KernelQkdIdeal.Pt.rot col)) h).symm
      exact congrArg₂ (· + ·) (congrArg (· * _) (Cert.KernelQkdIdeal.Pt.D_eq _ _ row (Cert.KernelQkdIdeal.Pt.rot col) _ _
          (by show _ = 4176 + (col.val / 128 * 128 + (col.val % 128 + 64) % 128); omega)))
        (congrArg (· * _) (Cert.KernelQkdIdeal.Pt.D_eq _ _ row col _ _ (by omega)))
  · rename_i h0
    have e : Cert.KernelQkdIdeal.Pt.OUT (m ((c : Thread nD τ).loc main_arg0)) (m ((c : Thread nD τ).loc main_arg1)) row col = rotVal 1115684864#32 64 (row.val % 4096) ((col.val - 512) % 128) (Cert.KernelQkdIdeal.Pt.D (m ((c : Thread nD τ).loc main_arg0)) (m ((c : Thread nD τ).loc main_arg1)) row col) (Cert.KernelQkdIdeal.Pt.D (m ((c : Thread nD τ).loc main_arg0)) (m ((c : Thread nD τ).loc main_arg1)) row (Cert.KernelQkdIdeal.Pt.rot col)) := by
      have e' : (col.val - 512) % 128 = col.val % 128 := by omega
      rw [e']; rfl
    split
    · rename_i h
      refine Eq.trans ?_ (e.trans (rotVal_lo 1115684864#32 64 _ _ (Cert.KernelQkdIdeal.Pt.D (m ((c : Thread nD τ).loc main_arg0)) (m ((c : Thread nD τ).loc main_arg1)) row col) (Cert.KernelQkdIdeal.Pt.D (m ((c : Thread nD τ).loc main_arg0)) (m ((c : Thread nD τ).loc main_arg1)) row (Cert.KernelQkdIdeal.Pt.rot col)) h)).symm
      exact congrArg₂ (· - ·) (congrArg (· * _) (Cert.KernelQkdIdeal.Pt.D_eq _ _ row col _ _ (by omega)))
        (congrArg (· * _) (Cert.KernelQkdIdeal.Pt.D_eq _ _ row (Cert.KernelQkdIdeal.Pt.rot col) _ _
          (by show _ = 4176 + (col.val / 128 * 128 + (col.val % 128 + 64) % 128); omega)))
    · rename_i h
      refine Eq.trans ?_ (e.trans (rotVal_hi 1115684864#32 64 _ _ (Cert.KernelQkdIdeal.Pt.D (m ((c : Thread nD τ).loc main_arg0)) (m ((c : Thread nD τ).loc main_arg1)) row col) (Cert.KernelQkdIdeal.Pt.D (m ((c : Thread nD τ).loc main_arg0)) (m ((c : Thread nD τ).loc main_arg1)) row (Cert.KernelQkdIdeal.Pt.rot col)) h)).symm
      exact congrArg₂ (· + ·) (congrArg (· * _) (Cert.KernelQkdIdeal.Pt.D_eq _ _ row (Cert.KernelQkdIdeal.Pt.rot col) _ _
          (by show _ = 4176 + (col.val / 128 * 128 + (col.val % 128 + 64) % 128); omega)))
        (congrArg (· * _) (Cert.KernelQkdIdeal.Pt.D_eq _ _ row col _ _ (by omega)))

/-- The reference leaves its arguments unchanged, and it has no semaphores. -/
theorem frame : Cert.quiescent_ReferenceQkdIdeal (hReferenceQkdIdeal := Cert.ReferenceQkdIdeal.Gen.facts) := by
  intro m ρ _
  refine (θ_run _ _ _).mono (fun r h => ⟨fun c => (h c).2, ?_⟩) (Cert.ReferenceQkdIdeal.Value.run m ρ)
  exact sem_eq_zero_of_no_sems rfl _

/-- Over the extended reals the launch leaves the rotated projection that the plain product and the rotation give. -/
theorem same : Cert.algebraic_KernelQkdIdeal_ReferenceQkdIdeal (hKernelQkdIdeal := Cert.KernelQkdIdeal.Gen.facts) (hReferenceQkdIdeal := Cert.ReferenceQkdIdeal.Gen.facts) := by
  pair_intro
  · run_from Cert.KernelQkdIdeal.Gen.run_main m g
  · run_from Cert.ReferenceQkdIdeal.Value.run m' g'
    refine Eq.trans (funext fun i => ?_) (Cert.KernelQkdIdeal.Pt.final4 m c).symm
    rw [← ix2_eta i]
    refine (ref_v82 m' c (i 0) (i 1)).trans ?_
    rw [(hagree c).1, (hagree c).2]
    rfl
end Cert.ReferenceQkdIdeal.Pt
-- ==== Proof.Vgd.lean ====
module

public import proofs.«01_k».proof.Defs
public import proofs.«01_k».proof.Proof.Gen.KernelVgdIdeal.Frame
public import proofs.«01_k».proof.Proof.Gen.ReferenceVgdIdeal.Run
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)

/-! The odd layers' projection: values and gates of the retention (columns 5200 to 7247). -/

namespace Cert.KernelVgdIdeal.Pt
open Cert.KernelVgdIdeal Cert.KernelVgdIdeal.Gen
variable (m : (ℓ : Loc nD τ sig) → Buf (Elt Ideal) ℓ)

/-- The projection's sum for one row (batch and position together) and one of the group's columns. -/
def D (X : FVec Ideal S2x4096x2048 .f32) (W : FVec Ideal S2048x7248 .f32) (row : Fin 8192) (col : Fin 2048) : EReal :=
  ∑ k : Fin 2048, X (ix3 (⟨row.val / 4096, by omega⟩ : Fin 2) (⟨row.val % 4096, by omega⟩ : Fin 4096) k)
    * W (ix2 k (⟨5200 + col.val, by omega⟩ : Fin 7248))

/-- The same sum with its column written out. -/
theorem D_eq (X : FVec Ideal S2x4096x2048 .f32) (W : FVec Ideal S2048x7248 .f32) (row : Fin 8192) (col : Fin 2048) (n : ℕ)
    (hn : n < 7248) (h : n = 5200 + col.val) :
    (∑ k : Fin 2048, X (ix3 (⟨row.val / 4096, by omega⟩ : Fin 2) (⟨row.val % 4096, by omega⟩ : Fin 4096) k)
      * W (ix2 k (⟨n, hn⟩ : Fin 7248))) = D X W row col := by
  subst h; rfl

/-- The grid point's blocks: a block of rows, a block of columns. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- What a point's product leaves at an element is the sum at the element's place in the result. -/
theorem point2 (c : Dev nD) (t : Fin cfg0.N) (r l : Fin 1024) (row : Fin 8192) (col : Fin 2048)
    (hr : row.val = (t.val / 2) * 1024 + r.val) (hl : col.val = t.val % 2 * 1024 + l.val) :
    k0_pay1 (F := Ideal) (iblk m c 0 t) (iblk m c 1 t) (ix2 r l)
      = D (m ((c : Thread nD τ).loc main_arg0)) (m ((c : Thread nD τ).loc main_arg1)) row col := by
  pointwise [k0_pay1, D]
  blk_point [iblk, V, idx t]

/-- The result's array after the launch. -/
theorem final2 (c : Dev nD) : (dats m 0 c).arrAt 2 (cfgs 0).N
    = fun i => D (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  frame_out
  have ht : t.val < 16 := lt_of_lt_of_eq t.isLt N_0
  have hy0 : (y 0).val < 1024 := (y 0).isLt
  have hy1 : (y 1).val < 1024 := (y 1).isLt
  refine (congrArg _ (ix2_eta y).symm).trans ?_
  refine (point2 m c t (y 0) (y 1) (⟨(t.val / 2) * 1024 + (y 0).val, by omega⟩ : Fin 8192)
    (⟨t.val % 2 * 1024 + (y 1).val, by omega⟩ : Fin 2048) rfl rfl).trans ?_
  refine congrArg₂ (D _ _) (Fin.ext ?_) (Fin.ext ?_) <;> blk_simp [idx t]

end Cert.KernelVgdIdeal.Pt

namespace Cert.ReferenceVgdIdeal.Pt

/-- The reference leaves its arguments unchanged, and it has no semaphores. -/
theorem frame : Cert.quiescent_ReferenceVgdIdeal (hReferenceVgdIdeal := Cert.ReferenceVgdIdeal.Gen.facts) := by
  intro m ρ _
  refine (θ_run _ _ _).mono (fun r h => ⟨fun c => (h c).2, ?_⟩) (Cert.ReferenceVgdIdeal.Value.run m ρ)
  exact sem_eq_zero_of_no_sems rfl _

/-- Over the extended reals the launch leaves the projection's columns that the plain product and its slices give. -/
theorem same : Cert.algebraic_KernelVgdIdeal_ReferenceVgdIdeal (hKernelVgdIdeal := Cert.KernelVgdIdeal.Gen.facts) (hReferenceVgdIdeal := Cert.ReferenceVgdIdeal.Gen.facts) := by
  pair_intro
  · run_from Cert.KernelVgdIdeal.Gen.run_main m g
  · run_from Cert.ReferenceVgdIdeal.Value.run m' g'
    rw [Cert.KernelVgdIdeal.Pt.final2 m c]
    funext i
    rw [← ix2_eta i]
    pointwise
    have h1 : (i 1).val < 2048 := (i 1).isLt
    repeat' split
    all_goals exact Cert.KernelVgdIdeal.Pt.D_eq _ _ (i 0) (i 1) _ _ (by omega)
end Cert.ReferenceVgdIdeal.Pt
-- ==== Proof.Kbs.lean ====
module

public import proofs.«01_k».proof.Defs
public import proofs.«01_k».proof.Proof.Gen.KernelKbsIdeal.Frame
public import proofs.«01_k».proof.Proof.Gen.ReferenceKbsIdeal.Run
public import proofs.«01_k».proof.Proof.Rope
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)
open Cert.Rot

/-! The even layers' projection on the sample: the rotated keys of the differential attention (columns 5136 to 6159). -/

namespace Cert.KernelKbsIdeal.Pt
open Cert.KernelKbsIdeal Cert.KernelKbsIdeal.Gen
variable (m : (ℓ : Loc nD τ sig) → Buf (Elt Ideal) ℓ)

/-- The projection's sum for one of the sixteen rows (the rows from the eighth on are filled up) and one of the group's columns. -/
def D (X : FVec Ideal S8x1x2048 .f32) (W : FVec Ideal S2048x7184 .f32) (row : Fin 16) (col : Fin 1024) : EReal :=
  ∑ k : Fin 2048, (if h : row.val < 8 then X (ix3 (⟨row.val, h⟩ : Fin 8) (0 : Fin 1) k) else FloatOps.sitofp (F := Ideal) .f32 0#32)
    * W (ix2 k (⟨5136 + col.val, by omega⟩ : Fin 7184))

/-- The same sum for one of the first eight rows, with its column written out. -/
theorem D_eq (X : FVec Ideal S8x1x2048 .f32) (W : FVec Ideal S2048x7184 .f32) (row : Fin 8) (col : Fin 1024) (n : ℕ)
    (hn : n < 7184) (h : n = 5136 + col.val) :
    (∑ k : Fin 2048, X (ix3 row (0 : Fin 1) k) * W (ix2 k (⟨n, hn⟩ : Fin 7184))) = D X W (⟨row.val, by omega⟩ : Fin 16) col := by
  subst h
  refine Finset.sum_congr rfl fun k _ => ?_
  rw [dif_pos row.isLt]

/-- The partner of a column within its head. -/
def rot (l : Fin 1024) : Fin 1024 := ⟨l.val / 128 * 128 + (l.val % 128 + 64) % 128, by omega⟩

/-- The rotated projection at one element. -/
def OUT (X : FVec Ideal S8x1x2048 .f32) (W : FVec Ideal S2048x7184 .f32) (row : Fin 16) (col : Fin 1024) : EReal :=
  rotVal 1115684864#32 64 16384 (col.val % 128) (D X W row col) (D X W row (rot col))

/-- The grid point's blocks: the rows whole, the columns whole, the tables whole. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The point's product at an element. -/
theorem acc_at (c : Dev nD) (t : Fin cfg0.N) (r : Fin 16) (l : Fin 1024) (row : Fin 16) (h : row.val = r.val) :
    k0_pay5 (F := Ideal) (iblk m c 0 t) (iblk m c 1 t) (ix2 r l)
      = D (m ((c : Thread nD τ).loc main_arg0)) (m ((c : Thread nD τ).loc main_arg1)) row l := by
  pointwise [k0_pay5, D]
  refine Finset.sum_congr rfl fun k _ => ?_
  blk_simp [iblk]
  simp only [V, V0, hostOps0, hostOps0_1, hostOps0_2, List.flatten_cons, List.flatten_nil, List.append_nil, List.cons_append, List.nil_append]
  entry_read
  simp only [StableHlo.TRef.toBuf, StableHlo.TRef.ofBuf, cast_cast, cast_eq]
  pointwise
  refine congrArg₂ (· * ·) ?_ ?_
  · by_cases hr : row.val < 8
    · rw [dif_pos hr, dif_pos (by blk_simp [idx t]; omega)]
      blk_point [idx t]
    · rw [dif_neg hr, dif_neg (by blk_simp [idx t]; omega)]
  · blk_point [idx t]

/-- The table of cosines at an element. -/
theorem cos_at (c : Dev nD) (t : Fin cfg0.N) (r : Fin 16) (l : Fin 128) (p : ℕ) (hp : 16384 = p) :
    k0_pay6 (F := Ideal) (iblk m c 2 t) (ix2 r l)
      = if l.val < 64 then Ideal.cos (ang 1115684864#32 p (l.val)) else Ideal.cos (ang 1115684864#32 p (l.val - 64)) := by
  subst hp
  pointwise [k0_pay6]
  blk_simp [iblk]
  simp only [V, V0, hostOps0, hostOps0_1, hostOps0_2, List.flatten_cons, List.flatten_nil, List.append_nil, List.cons_append, List.nil_append]
  entry_read
  pointwise
  blk_simp [idx t]
  rfl

/-- The table of signed sines at an element. -/
theorem sin_at (c : Dev nD) (t : Fin cfg0.N) (r : Fin 16) (l : Fin 128) (p : ℕ) (hp : 16384 = p) :
    k0_pay7 (F := Ideal) (iblk m c 3 t) (ix2 r l)
      = if l.val < 64 then -Ideal.sin (ang 1115684864#32 p (l.val)) else Ideal.sin (ang 1115684864#32 p (l.val - 64)) := by
  subst hp
  pointwise [k0_pay7]
  blk_simp [iblk]
  simp only [V, V0, hostOps0, hostOps0_1, hostOps0_2, List.flatten_cons, List.flatten_nil, List.append_nil, List.cons_append, List.nil_append]
  entry_read
  pointwise
  blk_simp [idx t]
  rfl

/-- Rotation of a block of sums by blocks of tables, at one element. -/
def K (A : FVec Ideal S16x1024 .f32) (C S : FVec Ideal S16x128 .f32) (r : Fin 16) (l : Fin 1024) : EReal :=
  A (ix2 r l) * C (ix2 r (⟨l.val % 128, by omega⟩ : Fin 128)) + A (ix2 r (rot l)) * S (ix2 r (⟨l.val % 128, by omega⟩ : Fin 128))

/-- A point's rotated block is the rotated projection's. -/
theorem core (c : Dev nD) (t : Fin cfg0.N) (r : Fin 16) (l : Fin 1024) (row : Fin 16) (h : row.val = r.val) :
    K (k0_pay5 (F := Ideal) (iblk m c 0 t) (iblk m c 1 t)) (k0_pay6 (F := Ideal) (iblk m c 2 t)) (k0_pay7 (F := Ideal) (iblk m c 3 t)) r l
      = OUT (m ((c : Thread nD τ).loc main_arg0)) (m ((c : Thread nD τ).loc main_arg1)) row l := by
  have hp : 16384 = 16384 := rfl
  have h1 := acc_at m c t r l row h
  have h2 := acc_at m c t r (rot l) row h
  have h3 := cos_at m c t r (⟨l.val % 128, by omega⟩ : Fin 128) _ hp
  have h4 := sin_at m c t r (⟨l.val % 128, by omega⟩ : Fin 128) _ hp
  unfold K OUT
  rw [h1, h2, h3, h4]
  clear h1 h2 h3 h4
  generalize D _ _ row l = a
  generalize D _ _ row (rot l) = b
  dsimp only
  unfold rotVal
  split <;> rfl

/-- The stored tiles of a point together: the rotation at every element. -/
theorem tiles4 (x0 : FVec Ideal S16x2048 .bf16) (x1 : FVec Ideal S2048x1024 .bf16) (x2 x3 : FVec Ideal S16x128 .f32)
    (y : S16x1024.Idx) (r : Fin 16) (l : Fin 1024) (hr : (y 0).val = r.val) (hl : (y 1).val = l.val) :
    out0_4 (F := Ideal) x0 x1 x2 x3 y = K (k0_pay5 x0 x1) (k0_pay6 x2) (k0_pay7 x3) r l := by
  unfold K rot
  canon_tiles x h
  all_goals
    open_payloads
    pointwise
    blk_point []

/-- The result's array after the launch. -/
theorem final4 (c : Dev nD) : (dats m 0 c).arrAt 4 (cfgs 0).N
    = fun i => OUT (m ((c : Thread nD τ).loc main_arg0)) (m ((c : Thread nD τ).loc main_arg1)) (i 0) (i 1) := by
  refine (dats m 0 c).arrAt_eq_of_covers 4 _ (by decide +kernel) fun t _ y => ?_
  blk_simp
  rw [after0_4]
  have ht : t.val < 1 := lt_of_lt_of_eq t.isLt N_0
  have hy0 : (y 0).val < 16 := (y 0).isLt
  refine (tiles4 _ _ _ _ y (y 0) (y 1) rfl rfl).trans ?_
  refine (core m c t (y 0) (y 1) (y 0) rfl).trans ?_
  refine congrArg₂ (OUT _ _) (Fin.ext ?_) (Fin.ext ?_) <;> blk_simp [idx t]

/-- The result: the first eight rows of the padded result's array. -/
theorem out (c : Dev nD) : Pipeline.afterTail₀ cfgs (dats m) 0 (V0 m) [hostOps1] c main_v30
    = fun i => OUT (m ((c : Thread nD τ).loc main_arg0)) (m ((c : Thread nD τ).loc main_arg1)) (⟨(i 0).val, lt_of_lt_of_le (i 0).isLt (show 8 ≤ 16 by decide)⟩ : Fin 16) (i 1) := by
  have e : Pipeline.withArrays spec0 c (V0 m c) (fun w => (dats m 0 c).arrAt w (cfgs 0).N) (Proc.devRef .tc main_v29)
      = (dats m 0 c).arrAt 4 (cfgs 0).N := Pipeline.withArrays_arr spec0 (by decide) c _ _ 4
  unfold Pipeline.afterTail₀
  simp only [hostOps1, List.flatten_cons, List.flatten_nil, List.append_nil, List.cons_append, List.nil_append]
  entry_read
  refine (congrArg (fun z => extractStridedSlice S8x1024 ![0, 0] z slices_S16x1024_S8x1024_0_0) (e.trans (final4 m c))).trans ?_
  funext i
  rw [← ix2_eta i]
  pointwise

end Cert.KernelKbsIdeal.Pt

namespace Cert.ReferenceKbsIdeal.Pt
open Cert.ReferenceKbsIdeal Cert.ReferenceKbsIdeal.Gen
variable (m : (ℓ : Loc nD τ sig) → Buf (Elt Ideal) ℓ)

/-- The reference's rotated projection at an element. -/
theorem ref_v46 (c : Dev nD) (row : Fin 8) (col : Fin 1024) :
    Value.res_main_v46 (F := Ideal) m c (ix2 row col)
      = Cert.KernelKbsIdeal.Pt.OUT (m ((c : Thread nD τ).loc main_arg0)) (m ((c : Thread nD τ).loc main_arg1)) (⟨row.val, by omega⟩ : Fin 16) col := by
  pointwise [Value.res_main_v46]
  split
  · rename_i h
    refine Eq.trans ?_ (rotVal_lo 1115684864#32 64 _ _ (Cert.KernelKbsIdeal.Pt.D (m ((c : Thread nD τ).loc main_arg0)) (m ((c : Thread nD τ).loc main_arg1)) (⟨row.val, by omega⟩ : Fin 16) col) (Cert.KernelKbsIdeal.Pt.D (m ((c : Thread nD τ).loc main_arg0)) (m ((c : Thread nD τ).loc main_arg1)) (⟨row.val, by omega⟩ : Fin 16) (Cert.KernelKbsIdeal.Pt.rot col)) h).symm
    exact congrArg₂ (· - ·) (congrArg (· * _) (Cert.KernelKbsIdeal.Pt.D_eq _ _ row col _ _ (by omega)))
      (congrArg (· * _) (Cert.KernelKbsIdeal.Pt.D_eq _ _ row (Cert.KernelKbsIdeal.Pt.rot col) _ _
        (by show _ = 5136 + (col.val / 128 * 128 + (col.val % 128 + 64) % 128); omega)))
  · rename_i h
    refine Eq.trans ?_ (rotVal_hi 1115684864#32 64 _ _ (Cert.KernelKbsIdeal.Pt.D (m ((c : Thread nD τ).loc main_arg0)) (m ((c : Thread nD τ).loc main_arg1)) (⟨row.val, by omega⟩ : Fin 16) col) (Cert.KernelKbsIdeal.Pt.D (m ((c : Thread nD τ).loc main_arg0)) (m ((c : Thread nD τ).loc main_arg1)) (⟨row.val, by omega⟩ : Fin 16) (Cert.KernelKbsIdeal.Pt.rot col)) h).symm
    exact congrArg₂ (· + ·) (congrArg (· * _) (Cert.KernelKbsIdeal.Pt.D_eq _ _ row (Cert.KernelKbsIdeal.Pt.rot col) _ _
        (by show _ = 5136 + (col.val / 128 * 128 + (col.val % 128 + 64) % 128); omega)))
      (congrArg (· * _) (Cert.KernelKbsIdeal.Pt.D_eq _ _ row col _ _ (by omega)))

/-- The reference leaves its arguments unchanged, and it has no semaphores. -/
theorem frame : Cert.quiescent_ReferenceKbsIdeal (hReferenceKbsIdeal := Cert.ReferenceKbsIdeal.Gen.facts) := by
  intro m ρ _
  refine (θ_run _ _ _).mono (fun r h => ⟨fun c => (h c).2, ?_⟩) (Cert.ReferenceKbsIdeal.Value.run m ρ)
  exact sem_eq_zero_of_no_sems rfl _

/-- Over the extended reals the launch leaves the rotated projection that the plain product and the rotation give. -/
theorem same : Cert.algebraic_KernelKbsIdeal_ReferenceKbsIdeal (hKernelKbsIdeal := Cert.KernelKbsIdeal.Gen.facts) (hReferenceKbsIdeal := Cert.ReferenceKbsIdeal.Gen.facts) := by
  pair_intro
  · run_from Cert.KernelKbsIdeal.Gen.run_main m g
    · exact Cert.KernelKbsIdeal.Gen.W_main_arg0 m (Cert.KernelKbsIdeal.Gen.dats m) c
    · exact Cert.KernelKbsIdeal.Gen.W_main_arg1 m (Cert.KernelKbsIdeal.Gen.dats m) c
  · run_from Cert.ReferenceKbsIdeal.Value.run m' g'
    refine Eq.trans (funext fun i => ?_) (Cert.KernelKbsIdeal.Pt.out m c).symm
    rw [← ix2_eta i]
    refine (ref_v46 m' c (i 0) (i 1)).trans ?_
    rw [(hagree c).1, (hagree c).2]
    rfl
end Cert.ReferenceKbsIdeal.Pt
-- ==== Proof.Vbs.lean ====
module

public import proofs.«01_k».proof.Defs
public import proofs.«01_k».proof.Proof.Gen.KernelVbsIdeal.Frame
public import proofs.«01_k».proof.Proof.Gen.ReferenceVbsIdeal.Run
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)

/-! The even layers' projection on the sample: the values of the differential attention (columns 6160 to 7183). -/

namespace Cert.KernelVbsIdeal.Pt
open Cert.KernelVbsIdeal Cert.KernelVbsIdeal.Gen
variable (m : (ℓ : Loc nD τ sig) → Buf (Elt Ideal) ℓ)

/-- The projection's sum for one of the sixteen rows (the rows from the eighth on are filled up) and one of the group's columns. -/
def D (X : FVec Ideal S8x1x2048 .f32) (W : FVec Ideal S2048x7184 .f32) (row : Fin 16) (col : Fin 1024) : EReal :=
  ∑ k : Fin 2048, (if h : row.val < 8 then X (ix3 (⟨row.val, h⟩ : Fin 8) (0 : Fin 1) k) else FloatOps.sitofp (F := Ideal) .f32 0#32)
    * W (ix2 k (⟨6160 + col.val, by omega⟩ : Fin 7184))

/-- The grid's only point: every block is its array whole. -/
theorem idx : ∀ t : Fin cfg0.N, win0_0.index t = ![0, 0] ∧ win0_1.index t = ![0, 0] ∧ win0_2.index t = ![0, 0] :=
  (by decide +kernel : ∀ t : Fin grid0.N, _)

/-- What the point's product leaves at an element. -/
theorem point2 (c : Dev nD) (t : Fin cfg0.N) (r : Fin 16) (l : Fin 1024) :
    k0_pay1 (F := Ideal) (iblk m c 0 t) (iblk m c 1 t) (ix2 r l)
      = D (m ((c : Thread nD τ).loc main_arg0)) (m ((c : Thread nD τ).loc main_arg1)) r l := by
  pointwise [k0_pay1, D]
  refine Finset.sum_congr rfl fun k _ => ?_
  blk_simp [iblk]
  simp only [V, V0, hostOps0, hostOps0_1, hostOps0_2, List.flatten_cons, List.flatten_nil, List.append_nil, List.cons_append, List.nil_append]
  entry_read
  simp only [StableHlo.TRef.toBuf, StableHlo.TRef.ofBuf, cast_cast, cast_eq]
  pointwise
  refine congrArg₂ (· * ·) ?_ ?_
  · by_cases hr : r.val < 8
    · rw [dif_pos hr, dif_pos (by blk_simp [idx t]; omega)]
      blk_point [idx t]
    · rw [dif_neg hr, dif_neg (by blk_simp [idx t]; omega)]
  · blk_point [idx t]

/-- The padded result's array after the launch. -/
theorem final2 (c : Dev nD) : (dats m 0 c).arrAt 2 (cfgs 0).N
    = fun i => D (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  frame_out
  refine (congrArg _ (ix2_eta y).symm).trans ?_
  refine (point2 m c t (y 0) (y 1)).trans ?_
  refine congrArg₂ (D _ _) (Fin.ext ?_) (Fin.ext ?_) <;> blk_simp [idx t]

/-- The result: the first eight rows of the padded result's array. -/
theorem out (c : Dev nD) : Pipeline.afterTail₀ cfgs (dats m) 0 (V0 m) [hostOps1] c main_v7
    = fun i => D (m ((c : Thread nD τ).loc main_arg0)) (m ((c : Thread nD τ).loc main_arg1)) (⟨(i 0).val, lt_of_lt_of_le (i 0).isLt (show 8 ≤ 16 by decide)⟩ : Fin 16) (i 1) := by
  have e : Pipeline.withArrays spec0 c (V0 m c) (fun w => (dats m 0 c).arrAt w (cfgs 0).N) (Proc.devRef .tc main_v6)
      = (dats m 0 c).arrAt 2 (cfgs 0).N := Pipeline.withArrays_arr spec0 (by decide) c _ _ 2
  unfold Pipeline.afterTail₀
  simp only [hostOps1, List.flatten_cons, List.flatten_nil, List.append_nil, List.cons_append, List.nil_append]
  entry_read
  refine (congrArg (fun z => extractStridedSlice S8x1024 ![0, 0] z slices_S16x1024_S8x1024_0_0) (e.trans (final2 m c))).trans ?_
  funext i
  rw [← ix2_eta i]
  pointwise

end Cert.KernelVbsIdeal.Pt

namespace Cert.ReferenceVbsIdeal.Pt
open Cert.ReferenceVbsIdeal Cert.ReferenceVbsIdeal.Gen

/-- The reference leaves its arguments unchanged, and it has no semaphores. -/
theorem frame : Cert.quiescent_ReferenceVbsIdeal (hReferenceVbsIdeal := Cert.ReferenceVbsIdeal.Gen.facts) := by
  intro m ρ _
  refine (θ_run _ _ _).mono (fun r h => ⟨fun c => (h c).2, ?_⟩) (Cert.ReferenceVbsIdeal.Value.run m ρ)
  exact sem_eq_zero_of_no_sems rfl _

/-- Over the extended reals the launch leaves the projection's columns that the plain product and its slices give. -/
theorem same : Cert.algebraic_KernelVbsIdeal_ReferenceVbsIdeal (hKernelVbsIdeal := Cert.KernelVbsIdeal.Gen.facts) (hReferenceVbsIdeal := Cert.ReferenceVbsIdeal.Gen.facts) := by
  pair_intro
  · run_from Cert.KernelVbsIdeal.Gen.run_main m g
    · exact Cert.KernelVbsIdeal.Gen.W_main_arg0 m (Cert.KernelVbsIdeal.Gen.dats m) c
    · exact Cert.KernelVbsIdeal.Gen.W_main_arg1 m (Cert.KernelVbsIdeal.Gen.dats m) c
  · run_from Cert.ReferenceVbsIdeal.Value.run m' g'
    refine Eq.trans (funext fun i => ?_) (Cert.KernelVbsIdeal.Pt.out m c).symm
    rw [← ix2_eta i]
    pointwise [Cert.KernelVbsIdeal.Pt.D]
end Cert.ReferenceVbsIdeal.Pt
-- ==== Proof.Kcs.lean ====
module

public import proofs.«01_k».proof.Defs
public import proofs.«01_k».proof.Proof.Gen.KernelKcsIdeal.Frame
public import proofs.«01_k».proof.Proof.Gen.ReferenceKcsIdeal.Run
public import proofs.«01_k».proof.Proof.Rope
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)
open Cert.Rot

/-! The odd layers' projection on the sample: the rotated keys of the sparse attention (columns 1024 to 2047). -/

namespace Cert.KernelKcsIdeal.Pt
open Cert.KernelKcsIdeal Cert.KernelKcsIdeal.Gen
variable (m : (ℓ : Loc nD τ sig) → Buf (Elt Ideal) ℓ)

/-- The projection's sum for one of the sixteen rows (the rows from the eighth on are filled up) and one of the group's columns. -/
def D (X : FVec Ideal S8x1x2048 .f32) (W : FVec Ideal S2048x7248 .f32) (row : Fin 16) (col : Fin 1024) : EReal :=
  ∑ k : Fin 2048, (if h : row.val < 8 then X (ix3 (⟨row.val, h⟩ : Fin 8) (0 : Fin 1) k) else FloatOps.sitofp (F := Ideal) .f32 0#32)
    * W (ix2 k (⟨1024 + col.val, by omega⟩ : Fin 7248))

/-- The same sum for one of the first eight rows, with its column written out. -/
theorem D_eq (X : FVec Ideal S8x1x2048 .f32) (W : FVec Ideal S2048x7248 .f32) (row : Fin 8) (col : Fin 1024) (n : ℕ)
    (hn : n < 7248) (h : n = 1024 + col.val) :
    (∑ k : Fin 2048, X (ix3 row (0 : Fin 1) k) * W (ix2 k (⟨n, hn⟩ : Fin 7248))) = D X W (⟨row.val, by omega⟩ : Fin 16) col := by
  subst h
  refine Finset.sum_congr rfl fun k _ => ?_
  rw [dif_pos row.isLt]

/-- The partner of a column within its head. -/
def rot (l : Fin 1024) : Fin 1024 := ⟨l.val / 128 * 128 + (l.val % 128 + 64) % 128, by omega⟩

/-- The rotated projection at one element. -/
def OUT (X : FVec Ideal S8x1x2048 .f32) (W : FVec Ideal S2048x7248 .f32) (row : Fin 16) (col : Fin 1024) : EReal :=
  rotVal 1115684864#32 64 16384 (col.val % 128) (D X W row col) (D X W row (rot col))

/-- The grid point's blocks: the rows whole, the columns whole, the tables whole. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The point's product at an element. -/
theorem acc_at (c : Dev nD) (t : Fin cfg0.N) (r : Fin 16) (l : Fin 1024) (row : Fin 16) (h : row.val = r.val) :
    k0_pay4 (F := Ideal) (iblk m c 0 t) (iblk m c 1 t) (ix2 r l)
      = D (m ((c : Thread nD τ).loc main_arg0)) (m ((c : Thread nD τ).loc main_arg1)) row l := by
  pointwise [k0_pay4, D]
  refine Finset.sum_congr rfl fun k _ => ?_
  blk_simp [iblk]
  simp only [V, V0, hostOps0, hostOps0_1, hostOps0_2, List.flatten_cons, List.flatten_nil, List.append_nil, List.cons_append, List.nil_append]
  entry_read
  simp only [StableHlo.TRef.toBuf, StableHlo.TRef.ofBuf, cast_cast, cast_eq]
  pointwise
  refine congrArg₂ (· * ·) ?_ ?_
  · by_cases hr : row.val < 8
    · rw [dif_pos hr, dif_pos (by blk_simp [idx t]; omega)]
      blk_point [idx t]
    · rw [dif_neg hr, dif_neg (by blk_simp [idx t]; omega)]
  · blk_point [idx t]

/-- The table of cosines at an element. -/
theorem cos_at (c : Dev nD) (t : Fin cfg0.N) (r : Fin 16) (l : Fin 128) (p : ℕ) (hp : 16384 = p) :
    k0_pay5 (F := Ideal) (iblk m c 2 t) (ix2 r l)
      = if l.val < 64 then Ideal.cos (ang 1115684864#32 p (l.val)) else Ideal.cos (ang 1115684864#32 p (l.val - 64)) := by
  subst hp
  pointwise [k0_pay5]
  blk_simp [iblk]
  simp only [V, V0, hostOps0, hostOps0_1, hostOps0_2, List.flatten_cons, List.flatten_nil, List.append_nil, List.cons_append, List.nil_append]
  entry_read
  pointwise
  blk_simp [idx t]
  rfl

/-- The table of signed sines at an element. -/
theorem sin_at (c : Dev nD) (t : Fin cfg0.N) (r : Fin 16) (l : Fin 128) (p : ℕ) (hp : 16384 = p) :
    k0_pay6 (F := Ideal) (iblk m c 3 t) (ix2 r l)
      = if l.val < 64 then -Ideal.sin (ang 1115684864#32 p (l.val)) else Ideal.sin (ang 1115684864#32 p (l.val - 64)) := by
  subst hp
  pointwise [k0_pay6]
  blk_simp [iblk]
  simp only [V, V0, hostOps0, hostOps0_1, hostOps0_2, List.flatten_cons, List.flatten_nil, List.append_nil, List.cons_append, List.nil_append]
  entry_read
  pointwise
  blk_simp [idx t]
  rfl

/-- Rotation of a block of sums by blocks of tables, at one element. -/
def K (A : FVec Ideal S16x1024 .f32) (C S : FVec Ideal S16x128 .f32) (r : Fin 16) (l : Fin 1024) : EReal :=
  A (ix2 r l) * C (ix2 r (⟨l.val % 128, by omega⟩ : Fin 128)) + A (ix2 r (rot l)) * S (ix2 r (⟨l.val % 128, by omega⟩ : Fin 128))

/-- A point's rotated block is the rotated projection's. -/
theorem core (c : Dev nD) (t : Fin cfg0.N) (r : Fin 16) (l : Fin 1024) (row : Fin 16) (h : row.val = r.val) :
    K (k0_pay4 (F := Ideal) (iblk m c 0 t) (iblk m c 1 t)) (k0_pay5 (F := Ideal) (iblk m c 2 t)) (k0_pay6 (F := Ideal) (iblk m c 3 t)) r l
      = OUT (m ((c : Thread nD τ).loc main_arg0)) (m ((c : Thread nD τ).loc main_arg1)) row l := by
  have hp : 16384 = 16384 := rfl
  have h1 := acc_at m c t r l row h
  have h2 := acc_at m c t r (rot l) row h
  have h3 := cos_at m c t r (⟨l.val % 128, by omega⟩ : Fin 128) _ hp
  have h4 := sin_at m c t r (⟨l.val % 128, by omega⟩ : Fin 128) _ hp
  unfold K OUT
  rw [h1, h2, h3, h4]
  clear h1 h2 h3 h4
  generalize D _ _ row l = a
  generalize D _ _ row (rot l) = b
  dsimp only
  unfold rotVal
  split <;> rfl

/-- The stored tiles of a point together: the rotation at every element. -/
theorem tiles4 (x0 : FVec Ideal S16x2048 .bf16) (x1 : FVec Ideal S2048x1024 .bf16) (x2 x3 : FVec Ideal S16x128 .f32)
    (y : S16x1024.Idx) (r : Fin 16) (l : Fin 1024) (hr : (y 0).val = r.val) (hl : (y 1).val = l.val) :
    out0_4 (F := Ideal) x0 x1 x2 x3 y = K (k0_pay4 x0 x1) (k0_pay5 x2) (k0_pay6 x3) r l := by
  unfold K rot
  canon_tiles x h
  all_goals
    open_payloads
    pointwise
    blk_point []

/-- The result's array after the launch. -/
theorem final4 (c : Dev nD) : (dats m 0 c).arrAt 4 (cfgs 0).N
    = fun i => OUT (m ((c : Thread nD τ).loc main_arg0)) (m ((c : Thread nD τ).loc main_arg1)) (i 0) (i 1) := by
  refine (dats m 0 c).arrAt_eq_of_covers 4 _ (by decide +kernel) fun t _ y => ?_
  blk_simp
  rw [after0_4]
  have ht : t.val < 1 := lt_of_lt_of_eq t.isLt N_0
  have hy0 : (y 0).val < 16 := (y 0).isLt
  refine (tiles4 _ _ _ _ y (y 0) (y 1) rfl rfl).trans ?_
  refine (core m c t (y 0) (y 1) (y 0) rfl).trans ?_
  refine congrArg₂ (OUT _ _) (Fin.ext ?_) (Fin.ext ?_) <;> blk_simp [idx t]

/-- The result: the first eight rows of the padded result's array. -/
theorem out (c : Dev nD) : Pipeline.afterTail₀ cfgs (dats m) 0 (V0 m) [hostOps1] c main_v30
    = fun i => OUT (m ((c : Thread nD τ).loc main_arg0)) (m ((c : Thread nD τ).loc main_arg1)) (⟨(i 0).val, lt_of_lt_of_le (i 0).isLt (show 8 ≤ 16 by decide)⟩ : Fin 16) (i 1) := by
  have e : Pipeline.withArrays spec0 c (V0 m c) (fun w => (dats m 0 c).arrAt w (cfgs 0).N) (Proc.devRef .tc main_v29_0)
      = (dats m 0 c).arrAt 4 (cfgs 0).N := Pipeline.withArrays_arr spec0 (by decide) c _ _ 4
  unfold Pipeline.afterTail₀
  simp only [hostOps1, List.flatten_cons, List.flatten_nil, List.append_nil, List.cons_append, List.nil_append]
  entry_read
  refine (congrArg (fun z => extractStridedSlice S8x1024 ![0, 0] z slices_S16x1024_S8x1024_0_0) (e.trans (final4 m c))).trans ?_
  funext i
  rw [← ix2_eta i]
  pointwise

end Cert.KernelKcsIdeal.Pt

namespace Cert.ReferenceKcsIdeal.Pt
open Cert.ReferenceKcsIdeal Cert.ReferenceKcsIdeal.Gen
variable (m : (ℓ : Loc nD τ sig) → Buf (Elt Ideal) ℓ)

/-- The reference's rotated projection at an element. -/
theorem ref_v47 (c : Dev nD) (row : Fin 8) (col : Fin 1024) :
    Value.res_main_v47 (F := Ideal) m c (ix2 row col)
      = Cert.KernelKcsIdeal.Pt.OUT (m ((c : Thread nD τ).loc main_arg0)) (m ((c : Thread nD τ).loc main_arg1)) (⟨row.val, by omega⟩ : Fin 16) col := by
  pointwise [Value.res_main_v47]
  split
  · rename_i h
    refine Eq.trans ?_ (rotVal_lo 1115684864#32 64 _ _ (Cert.KernelKcsIdeal.Pt.D (m ((c : Thread nD τ).loc main_arg0)) (m ((c : Thread nD τ).loc main_arg1)) (⟨row.val, by omega⟩ : Fin 16) col) (Cert.KernelKcsIdeal.Pt.D (m ((c : Thread nD τ).loc main_arg0)) (m ((c : Thread nD τ).loc main_arg1)) (⟨row.val, by omega⟩ : Fin 16) (Cert.KernelKcsIdeal.Pt.rot col)) h).symm
    exact congrArg₂ (· - ·) (congrArg (· * _) (Cert.KernelKcsIdeal.Pt.D_eq _ _ row col _ _ (by omega)))
      (congrArg (· * _) (Cert.KernelKcsIdeal.Pt.D_eq _ _ row (Cert.KernelKcsIdeal.Pt.rot col) _ _
        (by show _ = 1024 + (col.val / 128 * 128 + (col.val % 128 + 64) % 128); omega)))
  · rename_i h
    refine Eq.trans ?_ (rotVal_hi 1115684864#32 64 _ _ (Cert.KernelKcsIdeal.Pt.D (m ((c : Thread nD τ).loc main_arg0)) (m ((c : Thread nD τ).loc main_arg1)) (⟨row.val, by omega⟩ : Fin 16) col) (Cert.KernelKcsIdeal.Pt.D (m ((c : Thread nD τ).loc main_arg0)) (m ((c : Thread nD τ).loc main_arg1)) (⟨row.val, by omega⟩ : Fin 16) (Cert.KernelKcsIdeal.Pt.rot col)) h).symm
    exact congrArg₂ (· + ·) (congrArg (· * _) (Cert.KernelKcsIdeal.Pt.D_eq _ _ row (Cert.KernelKcsIdeal.Pt.rot col) _ _
        (by show _ = 1024 + (col.val / 128 * 128 + (col.val % 128 + 64) % 128); omega)))
      (congrArg (· * _) (Cert.KernelKcsIdeal.Pt.D_eq _ _ row col _ _ (by omega)))

/-- The reference leaves its arguments unchanged, and it has no semaphores. -/
theorem frame : Cert.quiescent_ReferenceKcsIdeal (hReferenceKcsIdeal := Cert.ReferenceKcsIdeal.Gen.facts) := by
  intro m ρ _
  refine (θ_run _ _ _).mono (fun r h => ⟨fun c => (h c).2, ?_⟩) (Cert.ReferenceKcsIdeal.Value.run m ρ)
  exact sem_eq_zero_of_no_sems rfl _

/-- Over the extended reals the launch leaves the rotated projection that the plain product and the rotation give. -/
theorem same : Cert.algebraic_KernelKcsIdeal_ReferenceKcsIdeal (hKernelKcsIdeal := Cert.KernelKcsIdeal.Gen.facts) (hReferenceKcsIdeal := Cert.ReferenceKcsIdeal.Gen.facts) := by
  pair_intro
  · run_from Cert.KernelKcsIdeal.Gen.run_main m g
    · exact Cert.KernelKcsIdeal.Gen.W_main_arg0 m (Cert.KernelKcsIdeal.Gen.dats m) c
    · exact Cert.KernelKcsIdeal.Gen.W_main_arg1 m (Cert.KernelKcsIdeal.Gen.dats m) c
  · run_from Cert.ReferenceKcsIdeal.Value.run m' g'
    refine Eq.trans (funext fun i => ?_) (Cert.KernelKcsIdeal.Pt.out m c).symm
    rw [← ix2_eta i]
    refine (ref_v47 m' c (i 0) (i 1)).trans ?_
    rw [(hagree c).1, (hagree c).2]
    rfl
end Cert.ReferenceKcsIdeal.Pt
-- ==== Proof.Vcs.lean ====
module

public import proofs.«01_k».proof.Defs
public import proofs.«01_k».proof.Proof.Gen.KernelVcsIdeal.Frame
public import proofs.«01_k».proof.Proof.Gen.ReferenceVcsIdeal.Run
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)

/-! The odd layers' projection on the sample: the values of the sparse attention (columns 2048 to 3071). -/

namespace Cert.KernelVcsIdeal.Pt
open Cert.KernelVcsIdeal Cert.KernelVcsIdeal.Gen
variable (m : (ℓ : Loc nD τ sig) → Buf (Elt Ideal) ℓ)

/-- The projection's sum for one of the sixteen rows (the rows from the eighth on are filled up) and one of the group's columns. -/
def D (X : FVec Ideal S8x1x2048 .f32) (W : FVec Ideal S2048x7248 .f32) (row : Fin 16) (col : Fin 1024) : EReal :=
  ∑ k : Fin 2048, (if h : row.val < 8 then X (ix3 (⟨row.val, h⟩ : Fin 8) (0 : Fin 1) k) else FloatOps.sitofp (F := Ideal) .f32 0#32)
    * W (ix2 k (⟨2048 + col.val, by omega⟩ : Fin 7248))

/-- The grid's only point: every block is its array whole. -/
theorem idx : ∀ t : Fin cfg0.N, win0_0.index t = ![0, 0] ∧ win0_1.index t = ![0, 0] ∧ win0_2.index t = ![0, 0] :=
  (by decide +kernel : ∀ t : Fin grid0.N, _)

/-- What the point's product leaves at an element. -/
theorem point2 (c : Dev nD) (t : Fin cfg0.N) (r : Fin 16) (l : Fin 1024) :
    k0_pay1 (F := Ideal) (iblk m c 0 t) (iblk m c 1 t) (ix2 r l)
      = D (m ((c : Thread nD τ).loc main_arg0)) (m ((c : Thread nD τ).loc main_arg1)) r l := by
  pointwise [k0_pay1, D]
  refine Finset.sum_congr rfl fun k _ => ?_
  blk_simp [iblk]
  simp only [V, V0, hostOps0, hostOps0_1, hostOps0_2, List.flatten_cons, List.flatten_nil, List.append_nil, List.cons_append, List.nil_append]
  entry_read
  simp only [StableHlo.TRef.toBuf, StableHlo.TRef.ofBuf, cast_cast, cast_eq]
  pointwise
  refine congrArg₂ (· * ·) ?_ ?_
  · by_cases hr : r.val < 8
    · rw [dif_pos hr, dif_pos (by blk_simp [idx t]; omega)]
      blk_point [idx t]
    · rw [dif_neg hr, dif_neg (by blk_simp [idx t]; omega)]
  · blk_point [idx t]

/-- The padded result's array after the launch. -/
theorem final2 (c : Dev nD) : (dats m 0 c).arrAt 2 (cfgs 0).N
    = fun i => D (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  frame_out
  refine (congrArg _ (ix2_eta y).symm).trans ?_
  refine (point2 m c t (y 0) (y 1)).trans ?_
  refine congrArg₂ (D _ _) (Fin.ext ?_) (Fin.ext ?_) <;> blk_simp [idx t]

/-- The result: the first eight rows of the padded result's array. -/
theorem out (c : Dev nD) : Pipeline.afterTail₀ cfgs (dats m) 0 (V0 m) [hostOps1] c main_v7
    = fun i => D (m ((c : Thread nD τ).loc main_arg0)) (m ((c : Thread nD τ).loc main_arg1)) (⟨(i 0).val, lt_of_lt_of_le (i 0).isLt (show 8 ≤ 16 by decide)⟩ : Fin 16) (i 1) := by
  have e : Pipeline.withArrays spec0 c (V0 m c) (fun w => (dats m 0 c).arrAt w (cfgs 0).N) (Proc.devRef .tc main_v6_0)
      = (dats m 0 c).arrAt 2 (cfgs 0).N := Pipeline.withArrays_arr spec0 (by decide) c _ _ 2
  unfold Pipeline.afterTail₀
  simp only [hostOps1, List.flatten_cons, List.flatten_nil, List.append_nil, List.cons_append, List.nil_append]
  entry_read
  refine (congrArg (fun z => extractStridedSlice S8x1024 ![0, 0] z slices_S16x1024_S8x1024_0_0) (e.trans (final2 m c))).trans ?_
  funext i
  rw [← ix2_eta i]
  pointwise

end Cert.KernelVcsIdeal.Pt

namespace Cert.ReferenceVcsIdeal.Pt
open Cert.ReferenceVcsIdeal Cert.ReferenceVcsIdeal.Gen

/-- The reference leaves its arguments unchanged, and it has no semaphores. -/
theorem frame : Cert.quiescent_ReferenceVcsIdeal (hReferenceVcsIdeal := Cert.ReferenceVcsIdeal.Gen.facts) := by
  intro m ρ _
  refine (θ_run _ _ _).mono (fun r h => ⟨fun c => (h c).2, ?_⟩) (Cert.ReferenceVcsIdeal.Value.run m ρ)
  exact sem_eq_zero_of_no_sems rfl _

/-- Over the extended reals the launch leaves the projection's columns that the plain product and its slices give. -/
theorem same : Cert.algebraic_KernelVcsIdeal_ReferenceVcsIdeal (hKernelVcsIdeal := Cert.KernelVcsIdeal.Gen.facts) (hReferenceVcsIdeal := Cert.ReferenceVcsIdeal.Gen.facts) := by
  pair_intro
  · run_from Cert.KernelVcsIdeal.Gen.run_main m g
    · exact Cert.KernelVcsIdeal.Gen.W_main_arg0 m (Cert.KernelVcsIdeal.Gen.dats m) c
    · exact Cert.KernelVcsIdeal.Gen.W_main_arg1 m (Cert.KernelVcsIdeal.Gen.dats m) c
  · run_from Cert.ReferenceVcsIdeal.Value.run m' g'
    refine Eq.trans (funext fun i => ?_) (Cert.KernelVcsIdeal.Pt.out m c).symm
    rw [← ix2_eta i]
    pointwise [Cert.KernelVcsIdeal.Pt.D]
end Cert.ReferenceVcsIdeal.Pt
-- ==== Proof.Kis.lean ====
module

public import proofs.«01_k».proof.Defs
public import proofs.«01_k».proof.Proof.Gen.KernelKisIdeal.Frame
public import proofs.«01_k».proof.Proof.Gen.ReferenceKisIdeal.Run
public import proofs.«01_k».proof.Proof.Rope
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)
open Cert.Rot

/-! The odd layers' projection: the rotated keys of the sparse attention's index (columns 4096 to 4159, one head of 64). -/

namespace Cert.KernelKisIdeal.Pt
open Cert.KernelKisIdeal Cert.KernelKisIdeal.Gen
variable (m : (ℓ : Loc nD τ sig) → Buf (Elt Ideal) ℓ)

/-- The projection's sum for one of the sixteen rows (the rows from the eighth on are filled up) and one of the group's columns. -/
def D (X : FVec Ideal S8x1x2048 .f32) (W : FVec Ideal S2048x7248 .f32) (row : Fin 16) (col : Fin 64) : EReal :=
  ∑ k : Fin 2048, (if h : row.val < 8 then X (ix3 (⟨row.val, h⟩ : Fin 8) (0 : Fin 1) k) else FloatOps.sitofp (F := Ideal) .f32 0#32)
    * W (ix2 k (⟨4096 + col.val, by omega⟩ : Fin 7248))

/-- The same sum for one of the first eight rows, with its column written out. -/
theorem D_eq (X : FVec Ideal S8x1x2048 .f32) (W : FVec Ideal S2048x7248 .f32) (row : Fin 8) (col : Fin 64) (n : ℕ)
    (hn : n < 7248) (h : n = 4096 + col.val) :
    (∑ k : Fin 2048, X (ix3 row (0 : Fin 1) k) * W (ix2 k (⟨n, hn⟩ : Fin 7248))) = D X W (⟨row.val, by omega⟩ : Fin 16) col := by
  subst h
  refine Finset.sum_congr rfl fun k _ => ?_
  rw [dif_pos row.isLt]

/-- The partner of a column within its head. -/
def rot (l : Fin 64) : Fin 64 := ⟨l.val / 64 * 64 + (l.val % 64 + 32) % 64, by omega⟩

/-- The rotated projection at one element. -/
def OUT (X : FVec Ideal S8x1x2048 .f32) (W : FVec Ideal S2048x7248 .f32) (row : Fin 16) (col : Fin 64) : EReal :=
  rotVal 1107296256#32 32 16384 (col.val % 64) (D X W row col) (D X W row (rot col))

/-- The grid point's blocks: the rows whole, the columns whole, the tables whole. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The product of two blocks at an element. -/
def A (x0 : FVec Ideal S16x2048 .bf16) (x1 : FVec Ideal S2048x128 .bf16) (r : Fin 16) (l : Fin 128) : EReal :=
  ∑ k : Fin 2048, x0 (ix2 r k) * x1 (ix2 k l)

/-- The point's product at one of the columns that are not filled up. -/
theorem acc_at (c : Dev nD) (t : Fin cfg0.N) (r : Fin 16) (l : Fin 64) (n : Fin 128) (hn : n.val = l.val) (row : Fin 16) (h : row.val = r.val) :
    A (iblk m c 0 t) (iblk m c 1 t) r n
      = D (m ((c : Thread nD τ).loc main_arg0)) (m ((c : Thread nD τ).loc main_arg1)) row l := by
  have hlt : l.val < 64 := l.isLt
  unfold A D
  refine Finset.sum_congr rfl fun k _ => ?_
  blk_simp [iblk]
  simp only [V, V0, hostOps0, hostOps0_1, hostOps0_2, List.flatten_cons, List.flatten_nil, List.append_nil, List.cons_append, List.nil_append]
  entry_read
  simp only [StableHlo.TRef.toBuf, StableHlo.TRef.ofBuf, cast_cast, cast_eq]
  pointwise
  refine congrArg₂ (· * ·) ?_ ?_
  · by_cases hr : row.val < 8
    · rw [dif_pos hr, dif_pos (by blk_simp [idx t]; omega)]
      blk_point [idx t]
    · rw [dif_neg hr, dif_neg (by blk_simp [idx t]; omega)]
  · rw [dif_pos (by blk_simp [idx t]; omega)]
    blk_point [idx t]

/-- The table of cosines at an element. -/
theorem cos_at (c : Dev nD) (t : Fin cfg0.N) (r : Fin 16) (l : Fin 128) (p : ℕ) (hp : 16384 = p) :
    (show FVec Ideal S16x128 .f32 from iblk m c 2 t) (ix2 r l)
      = if l.val % 64 < 32 then Ideal.cos (ang 1107296256#32 p (l.val % 64)) else Ideal.cos (ang 1107296256#32 p (l.val % 64 - 32)) := by
  subst hp
  blk_simp [iblk]
  simp only [V, V0, hostOps0, hostOps0_1, hostOps0_2, List.flatten_cons, List.flatten_nil, List.append_nil, List.cons_append, List.nil_append]
  entry_read
  pointwise
  blk_simp [idx t]
  rfl

/-- The table of signed sines at an element. -/
theorem sin_at (c : Dev nD) (t : Fin cfg0.N) (r : Fin 16) (l : Fin 128) (p : ℕ) (hp : 16384 = p) :
    (show FVec Ideal S16x128 .f32 from iblk m c 3 t) (ix2 r l)
      = if l.val % 64 < 32 then -Ideal.sin (ang 1107296256#32 p (l.val % 64)) else Ideal.sin (ang 1107296256#32 p (l.val % 64 - 32)) := by
  subst hp
  blk_simp [iblk]
  simp only [V, V0, hostOps0, hostOps0_1, hostOps0_2, List.flatten_cons, List.flatten_nil, List.append_nil, List.cons_append, List.nil_append]
  entry_read
  pointwise
  blk_simp [idx t]
  rfl

/-- Rotation of a block of sums by blocks of tables, at one element. -/
def K (x0 : FVec Ideal S16x2048 .bf16) (x1 : FVec Ideal S2048x128 .bf16) (x2 x3 : FVec Ideal S16x128 .f32) (r : Fin 16) (l : Fin 64) : EReal :=
  A x0 x1 r (⟨l.val, by omega⟩ : Fin 128) * x2 (ix2 r (⟨l.val, by omega⟩ : Fin 128))
    + A x0 x1 r (⟨(rot l).val, by omega⟩ : Fin 128) * x3 (ix2 r (⟨l.val, by omega⟩ : Fin 128))

/-- A point's rotated block is the rotated projection's. -/
theorem core (c : Dev nD) (t : Fin cfg0.N) (r : Fin 16) (l : Fin 64) (row : Fin 16) (h : row.val = r.val) :
    K (iblk m c 0 t) (iblk m c 1 t) (iblk m c 2 t) (iblk m c 3 t) r l
      = OUT (m ((c : Thread nD τ).loc main_arg0)) (m ((c : Thread nD τ).loc main_arg1)) row l := by
  have hp : 16384 = 16384 := rfl
  have h1 := acc_at m c t r l (⟨l.val, by omega⟩ : Fin 128) rfl row h
  have h2 := acc_at m c t r (rot l) (⟨(rot l).val, by omega⟩ : Fin 128) rfl row h
  have h3 := cos_at m c t r (⟨l.val, by omega⟩ : Fin 128) _ hp
  have h4 := sin_at m c t r (⟨l.val, by omega⟩ : Fin 128) _ hp
  refine (congrArg₂ (· + ·) (congrArg₂ (· * ·) h1 h3) (congrArg₂ (· * ·) h2 h4)).trans ?_
  unfold OUT
  generalize D _ _ row l = a
  generalize D _ _ row (rot l) = b
  dsimp only
  unfold rotVal
  split <;> rfl

/-- The lane's half within its head, as the launch's integer remainder tells it. -/
theorem half_bit : ∀ x : Fin 128, IntOp.cmpi CmpIPredicate.slt (Scalar.select (IntOp.andi
      (IntOp.xori (IntOp.cmpi CmpIPredicate.slt (IntOp.remsi ArithUnit.vector (BitVec.ofNat 32 x.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
      (IntOp.cmpi CmpIPredicate.ne (IntOp.remsi ArithUnit.vector (BitVec.ofNat 32 x.val) (Scalar.select (Scalar.cmpi CmpIPredicate.eq 64#32 0#32) 1#32 64#32)) 0#32)) (IntOp.addi (IntOp.remsi ArithUnit.vector (BitVec.ofNat 32 x.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 x.val) (Scalar.select (Scalar.cmpi CmpIPredicate.eq 64#32 0#32) 1#32 64#32))) 32#32
      = if x.val % 64 < 32 then 1#1 else 0#1 := by decide +kernel

/-- The choice between the two lane shifts: by the lane's half within its head. -/
theorem pick (n : ℕ) (hn : n < 128) (a b : EReal) : Scalar.select (IntOp.cmpi CmpIPredicate.slt (Scalar.select (IntOp.andi
      (IntOp.xori (IntOp.cmpi CmpIPredicate.slt (IntOp.remsi ArithUnit.vector (BitVec.ofNat 32 n) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
      (IntOp.cmpi CmpIPredicate.ne (IntOp.remsi ArithUnit.vector (BitVec.ofNat 32 n) (Scalar.select (Scalar.cmpi CmpIPredicate.eq 64#32 0#32) 1#32 64#32)) 0#32)) (IntOp.addi (IntOp.remsi ArithUnit.vector (BitVec.ofNat 32 n) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 n) (Scalar.select (Scalar.cmpi CmpIPredicate.eq 64#32 0#32) 1#32 64#32))) 32#32) a b
      = if n % 64 < 32 then a else b := by
  rw [half_bit ⟨n, hn⟩]
  split <;> rfl

/-- What a point stores at an element: the rotation. -/
theorem stored (x0 : FVec Ideal S16x2048 .bf16) (x1 : FVec Ideal S2048x128 .bf16) (x2 x3 : FVec Ideal S16x128 .f32)
    (r : Fin 16) (l : Fin 64) :
    k0_pay1 (F := Ideal) x0 x1 x2 x3 (ix2 r l) = K x0 x1 x2 x3 r l := by
  have hx : l.val < 128 := by omega
  unfold K A rot
  pointwise [k0_pay1]
  rw [pick _ hx]
  split <;> blk_point []

/-- The result's array after the launch. -/
theorem final4 (c : Dev nD) : (dats m 0 c).arrAt 4 (cfgs 0).N
    = fun i => OUT (m ((c : Thread nD τ).loc main_arg0)) (m ((c : Thread nD τ).loc main_arg1)) (i 0) (i 1) := by
  refine (dats m 0 c).arrAt_eq_of_covers 4 _ (by decide +kernel) fun t _ y => ?_
  blk_simp
  rw [after0_4]
  frame_out
  have ht : t.val < 1 := lt_of_lt_of_eq t.isLt N_0
  have hy0 : (y 0).val < 16 := (y 0).isLt
  refine (congrArg _ (ix2_eta y).symm).trans ?_
  refine (stored _ _ _ _ (y 0) (y 1)).trans ?_
  refine (core m c t (y 0) (y 1) (y 0) rfl).trans ?_
  refine congrArg₂ (OUT _ _) (Fin.ext ?_) (Fin.ext ?_) <;> blk_simp [idx t]

/-- The result: the first eight rows of the padded result's array. -/
theorem out (c : Dev nD) : Pipeline.afterTail₀ cfgs (dats m) 0 (V0 m) [hostOps1] c main_v31
    = fun i => OUT (m ((c : Thread nD τ).loc main_arg0)) (m ((c : Thread nD τ).loc main_arg1)) (⟨(i 0).val, lt_of_lt_of_le (i 0).isLt (show 8 ≤ 16 by decide)⟩ : Fin 16) (i 1) := by
  have e : Pipeline.withArrays spec0 c (V0 m c) (fun w => (dats m 0 c).arrAt w (cfgs 0).N) (Proc.devRef .tc main_v30)
      = (dats m 0 c).arrAt 4 (cfgs 0).N := Pipeline.withArrays_arr spec0 (by decide) c _ _ 4
  unfold Pipeline.afterTail₀
  simp only [hostOps1, List.flatten_cons, List.flatten_nil, List.append_nil, List.cons_append, List.nil_append]
  entry_read
  refine (congrArg (fun z => extractStridedSlice S8x64 ![0, 0] z slices_S16x64_S8x64_0_0) (e.trans (final4 m c))).trans ?_
  funext i
  rw [← ix2_eta i]
  pointwise

end Cert.KernelKisIdeal.Pt

namespace Cert.ReferenceKisIdeal.Pt
open Cert.ReferenceKisIdeal Cert.ReferenceKisIdeal.Gen
variable (m : (ℓ : Loc nD τ sig) → Buf (Elt Ideal) ℓ)

/-- The two reshapes of the rotated columns, read together. -/
theorem cast_at (C : FVec Ideal S8x1x1x64 .f32) (row : Fin 8) (col : Fin 64) :
    shapeCast S8x64 (shapeCast S8x1x64 C shapeCasts_S8x1x1x64_S8x1x64) shapeCasts_S8x1x64_S8x64 (ix2 row col)
      = C (ix4 row (0 : Fin 1) (0 : Fin 1) col) := by
  pointwise

/-- The reference's rotated projection at an element. -/
theorem ref_v48 (c : Dev nD) (row : Fin 8) (col : Fin 64) :
    Value.res_main_v48 (F := Ideal) m c (ix2 row col)
      = Cert.KernelKisIdeal.Pt.OUT (m ((c : Thread nD τ).loc main_arg0)) (m ((c : Thread nD τ).loc main_arg1)) (⟨row.val, by omega⟩ : Fin 16) col := by
  have e : Cert.KernelKisIdeal.Pt.OUT (m ((c : Thread nD τ).loc main_arg0)) (m ((c : Thread nD τ).loc main_arg1)) (⟨row.val, by omega⟩ : Fin 16) col = rotVal 1107296256#32 32 16384 col.val (Cert.KernelKisIdeal.Pt.D (m ((c : Thread nD τ).loc main_arg0)) (m ((c : Thread nD τ).loc main_arg1)) (⟨row.val, by omega⟩ : Fin 16) col) (Cert.KernelKisIdeal.Pt.D (m ((c : Thread nD τ).loc main_arg0)) (m ((c : Thread nD τ).loc main_arg1)) (⟨row.val, by omega⟩ : Fin 16) (Cert.KernelKisIdeal.Pt.rot col)) := by
    have e' : col.val % 64 = col.val := by omega
    unfold Cert.KernelKisIdeal.Pt.OUT
    rw [e']
  unfold Value.res_main_v48
  refine (cast_at _ row col).trans ?_
  pointwise
  split
  · rename_i h
    refine Eq.trans ?_ (e.trans (rotVal_lo 1107296256#32 32 _ _ (Cert.KernelKisIdeal.Pt.D (m ((c : Thread nD τ).loc main_arg0)) (m ((c : Thread nD τ).loc main_arg1)) (⟨row.val, by omega⟩ : Fin 16) col) (Cert.KernelKisIdeal.Pt.D (m ((c : Thread nD τ).loc main_arg0)) (m ((c : Thread nD τ).loc main_arg1)) (⟨row.val, by omega⟩ : Fin 16) (Cert.KernelKisIdeal.Pt.rot col)) h)).symm
    exact congrArg₂ (· - ·) (congrArg (· * _) (Cert.KernelKisIdeal.Pt.D_eq _ _ row col _ _ (by omega)))
      (congrArg (· * _) (Cert.KernelKisIdeal.Pt.D_eq _ _ row (Cert.KernelKisIdeal.Pt.rot col) _ _
        (by show _ = 4096 + (col.val / 64 * 64 + (col.val % 64 + 32) % 64); omega)))
  · rename_i h
    refine Eq.trans ?_ (e.trans (rotVal_hi 1107296256#32 32 _ _ (Cert.KernelKisIdeal.Pt.D (m ((c : Thread nD τ).loc main_arg0)) (m ((c : Thread nD τ).loc main_arg1)) (⟨row.val, by omega⟩ : Fin 16) col) (Cert.KernelKisIdeal.Pt.D (m ((c : Thread nD τ).loc main_arg0)) (m ((c : Thread nD τ).loc main_arg1)) (⟨row.val, by omega⟩ : Fin 16) (Cert.KernelKisIdeal.Pt.rot col)) h)).symm
    exact congrArg₂ (· + ·) (congrArg (· * _) (Cert.KernelKisIdeal.Pt.D_eq _ _ row (Cert.KernelKisIdeal.Pt.rot col) _ _
        (by show _ = 4096 + (col.val / 64 * 64 + (col.val % 64 + 32) % 64); omega)))
      (congrArg (· * _) (Cert.KernelKisIdeal.Pt.D_eq _ _ row col _ _ (by omega)))

/-- The reference leaves its arguments unchanged, and it has no semaphores. -/
theorem frame : Cert.quiescent_ReferenceKisIdeal (hReferenceKisIdeal := Cert.ReferenceKisIdeal.Gen.facts) := by
  intro m ρ _
  refine (θ_run _ _ _).mono (fun r h => ⟨fun c => (h c).2, ?_⟩) (Cert.ReferenceKisIdeal.Value.run m ρ)
  exact sem_eq_zero_of_no_sems rfl _

/-- Over the extended reals the launch leaves the rotated projection that the plain product and the rotation give. -/
theorem same : Cert.algebraic_KernelKisIdeal_ReferenceKisIdeal (hKernelKisIdeal := Cert.KernelKisIdeal.Gen.facts) (hReferenceKisIdeal := Cert.ReferenceKisIdeal.Gen.facts) := by
  pair_intro
  · run_from Cert.KernelKisIdeal.Gen.run_main m g
    · exact Cert.KernelKisIdeal.Gen.W_main_arg0 m (Cert.KernelKisIdeal.Gen.dats m) c
    · exact Cert.KernelKisIdeal.Gen.W_main_arg1 m (Cert.KernelKisIdeal.Gen.dats m) c
  · run_from Cert.ReferenceKisIdeal.Value.run m' g'
    refine Eq.trans (funext fun i => ?_) (Cert.KernelKisIdeal.Pt.out m c).symm
    rw [← ix2_eta i]
    refine (ref_v48 m' c (i 0) (i 1)).trans ?_
    rw [(hagree c).1, (hagree c).2]
    rfl
end Cert.ReferenceKisIdeal.Pt
-- ==== Proof.Lg.lean ====
module

public import proofs.«01_k».proof.Defs
public import proofs.«01_k».proof.Proof.Gen.KernelLgIdeal.Frame
public import proofs.«01_k».proof.Proof.Gen.ReferenceLgIdeal.Run
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)

/-! The router's logits, one row of the transposed result per expert. -/

namespace Cert.KernelLgIdeal.Pt
open Cert.KernelLgIdeal Cert.KernelLgIdeal.Gen
variable (m : (ℓ : Loc nD τ sig) → Buf (Elt Ideal) ℓ)

/-- One expert's logit of one token. -/
def D (X : FVec Ideal S8192x2048 .bf16) (W : FVec Ideal S2048x32 .f32) (e : Fin 32) (row : Fin 8192) : EReal :=
  ∑ k : Fin 2048, W (ix2 k e) * X (ix2 row k)

/-- The grid point's blocks: the experts' columns whole, a block of tokens. -/
theorem idx : ∀ t : Fin cfg0.N, win0_0.index t = ![0, 0] ∧ win0_1.index t = ![t.val, 0] ∧ win0_2.index t = ![0, t.val] :=
  (by decide +kernel : ∀ t : Fin grid0.N, _)

/-- What a point's product leaves at an element is the logit at the element's place in the result. -/
theorem point2 (c : Dev nD) (t : Fin cfg0.N) (e : Fin 32) (l : Fin 512) (row : Fin 8192)
    (hr : row.val = t.val * 512 + l.val) :
    k0_pay1 (F := Ideal) (iblk m c 0 t) (iblk m c 1 t) (ix2 e l)
      = D (m ((c : Thread nD τ).loc main_arg0)) (m ((c : Thread nD τ).loc main_arg1)) e row := by
  pointwise [k0_pay1, D]
  blk_point [iblk, V, idx t]

/-- The result's array after the launch. -/
theorem final2 (c : Dev nD) : (dats m 0 c).arrAt 2 (cfgs 0).N
    = fun i => D (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  frame_out
  have ht : t.val < 16 := lt_of_lt_of_eq t.isLt N_0
  have hy0 : (y 0).val < 32 := (y 0).isLt
  have hy1 : (y 1).val < 512 := (y 1).isLt
  refine (congrArg _ (ix2_eta y).symm).trans ?_
  refine (point2 m c t (y 0) (y 1) (⟨t.val * 512 + (y 1).val, by omega⟩ : Fin 8192) rfl).trans ?_
  refine congrArg₂ (D _ _) (Fin.ext ?_) (Fin.ext ?_) <;> blk_simp [idx t]

end Cert.KernelLgIdeal.Pt

namespace Cert.ReferenceLgIdeal.Pt

/-- The reference leaves its arguments unchanged, and it has no semaphores. -/
theorem frame : Cert.quiescent_ReferenceLgIdeal (hReferenceLgIdeal := Cert.ReferenceLgIdeal.Gen.facts) := by
  intro m ρ _
  refine (θ_run _ _ _).mono (fun r h => ⟨fun c => (h c).2, ?_⟩) (Cert.ReferenceLgIdeal.Value.run m ρ)
  exact sem_eq_zero_of_no_sems rfl _

/-- Over the extended reals the launch leaves the router's logits. -/
theorem same : Cert.algebraic_KernelLgIdeal_ReferenceLgIdeal (hKernelLgIdeal := Cert.KernelLgIdeal.Gen.facts) (hReferenceLgIdeal := Cert.ReferenceLgIdeal.Gen.facts) := by
  pair_intro
  · run_from Cert.KernelLgIdeal.Gen.run_main m g
  · run_from Cert.ReferenceLgIdeal.Value.run m' g'
    rw [Cert.KernelLgIdeal.Pt.final2 m c]
    funext i
    rw [← ix2_eta i]
    pointwise [Cert.KernelLgIdeal.Pt.D]
    exact Finset.sum_congr rfl fun k _ => mul_comm _ _

end Cert.ReferenceLgIdeal.Pt
-- ==== Proof.Pln.lean ====
module

public import proofs.«01_k».proof.Defs
public import proofs.«01_k».proof.Proof.Gen.KernelPlnIdeal.Frame
public import proofs.«01_k».proof.Proof.Gen.ReferencePlnIdeal.Run
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)

/-! The mixers' out-projection (two halves of the channels added), the scaled residual, and the layer norm of a row. -/

namespace Cert.KernelPlnIdeal.Pt
open Cert.KernelPlnIdeal Cert.KernelPlnIdeal.Gen
variable (m : (ℓ : Loc nD τ sig) → Buf (Elt Ideal) ℓ)

/-- The layer norm of a row `h`, at one channel. -/
def LN (h : Fin 2048 → EReal) (g b : EReal) (l : Fin 2048) : EReal :=
  (h l - Ideal.div (∑ x, h x) (Ideal.ofBits FTy.f32 1157627904#32)) *
      Ideal.rsqrt (Ideal.div (∑ x, (h x - Ideal.div (∑ x, h x) (Ideal.ofBits FTy.f32 1157627904#32))
          * (h x - Ideal.div (∑ x, h x) (Ideal.ofBits FTy.f32 1157627904#32))) (Ideal.ofBits FTy.f32 1157627904#32)
        + Ideal.ofBits FTy.f32 925353388#32) * g + b

/-- The scaled residual plus the out-projection, the sum over the channels in its two halves. -/
def H (A B : FVec Ideal S8192x1024 .bf16) (W : FVec Ideal S2048x2048 .f32) (X : FVec Ideal S8192x2048 .f32)
    (row : Fin 8192) (l : Fin 2048) : EReal :=
  Ideal.ofBits FTy.f32 1071072509#32 * X (ix2 row l)
    + (∑ k : Fin 1024, A (ix2 row k) * W (ix2 (⟨k.val, by omega⟩ : Fin 2048) l)
      + ∑ k : Fin 1024, B (ix2 row k) * W (ix2 (⟨1024 + k.val, by omega⟩ : Fin 2048) l))

/-- The result at one element. -/
def OUT (A B : FVec Ideal S8192x1024 .bf16) (W : FVec Ideal S2048x2048 .f32) (X : FVec Ideal S8192x2048 .f32)
    (G Bi : FVec Ideal S2048 .f32) (row : Fin 8192) (l : Fin 2048) : EReal :=
  LN (fun q => H A B W X row q) (G (ix1 l)) (Bi (ix1 l)) l

/-- The grid point's blocks: a block of rows; the weights' halves and the norm's scale and shift whole. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![t.val, 0] ∧ win0_8.index t = ![t.val, 0] :=
  (by decide +kernel : ∀ t : Fin grid0.N, _)

/-- A row of a point's blocks before the norm. -/
def HK (x0 x1 : FVec Ideal S256x1024 .bf16) (x2 x3 : FVec Ideal S1024x2048 .bf16) (x4 : FVec Ideal S256x2048 .f32) (r : Fin 256) (l : Fin 2048) : EReal :=
  Ideal.ofBits FTy.f32 1071072509#32 * x4 (ix2 r l)
    + (∑ k : Fin 1024, x0 (ix2 r k) * x2 (ix2 k l) + ∑ k : Fin 1024, x1 (ix2 r k) * x3 (ix2 k l))

/-- What a point stores in the first result, over its blocks. -/
theorem pay_at (x0 x1 : FVec Ideal S256x1024 .bf16) (x2 x3 : FVec Ideal S1024x2048 .bf16) (x4 : FVec Ideal S256x2048 .f32) (x5 x6 : FVec Ideal S1x2048 .f32)
    (r : Fin 256) (l : Fin 2048) :
    k0_pay3 (F := Ideal) x0 x1 x2 x3 x4 x5 x6 (ix2 r l)
      = LN (fun q => HK x0 x1 x2 x3 x4 r q) (x5 (ix2 (0 : Fin 1) l)) (x6 (ix2 (0 : Fin 1) l)) l := by
  unfold LN HK
  pointwise [k0_pay3, k0_pay2]

/-- What a point stores in the second result: the same numbers, rounded to themselves. -/
theorem pay_at' (x0 x1 : FVec Ideal S256x1024 .bf16) (x2 x3 : FVec Ideal S1024x2048 .bf16) (x4 : FVec Ideal S256x2048 .f32) (x5 x6 : FVec Ideal S1x2048 .f32)
    (r : Fin 256) (l : Fin 2048) :
    k0_pay1 (F := Ideal) (k0_pay3 (F := Ideal) x0 x1 x2 x3 x4 x5 x6) (ix2 r l)
      = LN (fun q => HK x0 x1 x2 x3 x4 r q) (x5 (ix2 (0 : Fin 1) l)) (x6 (ix2 (0 : Fin 1) l)) l := by
  refine Eq.trans ?_ (pay_at x0 x1 x2 x3 x4 x5 x6 r l)
  pointwise [k0_pay1]

/-- A row of a point's blocks is the row at its place. -/
theorem row_at (c : Dev nD) (t : Fin cfg0.N) (r : Fin 256) (l : Fin 2048) (row : Fin 8192) (h : row.val = t.val * 256 + r.val) :
    HK (iblk m c 0 t) (iblk m c 1 t) (iblk m c 2 t) (iblk m c 3 t) (iblk m c 4 t) r l
      = H (m ((c : Thread nD τ).loc main_arg0)) (m ((c : Thread nD τ).loc main_arg1)) (m ((c : Thread nD τ).loc main_arg2)) (m ((c : Thread nD τ).loc main_arg3)) row l := by
  unfold HK H
  blk_point [iblk, V, idx t]

/-- The norm's scale as a point reads it. -/
theorem scale_at (c : Dev nD) (t : Fin cfg0.N) (l : Fin 2048) :
    (show FVec Ideal S1x2048 .f32 from iblk m c 5 t) (ix2 (0 : Fin 1) l)
      = (show FVec Ideal S2048 .f32 from m ((c : Thread nD τ).loc main_arg4)) (ix1 l) := by
  blk_simp [iblk]
  entry_read
  pointwise
  blk_point [idx t]

/-- The norm's shift as a point reads it. -/
theorem shift_at (c : Dev nD) (t : Fin cfg0.N) (l : Fin 2048) :
    (show FVec Ideal S1x2048 .f32 from iblk m c 6 t) (ix2 (0 : Fin 1) l)
      = (show FVec Ideal S2048 .f32 from m ((c : Thread nD τ).loc main_arg5)) (ix1 l) := by
  blk_simp [iblk]
  entry_read
  pointwise
  blk_point [idx t]

/-- A point's normed row is the normed row at its place. -/
theorem core (c : Dev nD) (t : Fin cfg0.N) (r : Fin 256) (l : Fin 2048) (row : Fin 8192) (h : row.val = t.val * 256 + r.val) :
    LN (fun q => HK (iblk m c 0 t) (iblk m c 1 t) (iblk m c 2 t) (iblk m c 3 t) (iblk m c 4 t) r q)
        ((show FVec Ideal S1x2048 .f32 from iblk m c 5 t) (ix2 (0 : Fin 1) l)) ((show FVec Ideal S1x2048 .f32 from iblk m c 6 t) (ix2 (0 : Fin 1) l)) l
      = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) row l := by
  have e : (fun q => HK (iblk m c 0 t) (iblk m c 1 t) (iblk m c 2 t) (iblk m c 3 t) (iblk m c 4 t) r q) = _ :=
    funext fun q => row_at m c t r q row h
  rw [e, scale_at m c t l, shift_at m c t l]
  rfl

/-- What a point stores in the first result. -/
theorem stored (c : Dev nD) (t : Fin cfg0.N) (r : Fin 256) (l : Fin 2048) (row : Fin 8192) (h : row.val = t.val * 256 + r.val) :
    k0_pay3 (F := Ideal) (iblk m c 0 t) (iblk m c 1 t) (iblk m c 2 t) (iblk m c 3 t) (iblk m c 4 t) (iblk m c 5 t) (iblk m c 6 t) (ix2 r l)
      = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) row l :=
  (pay_at _ _ _ _ _ _ _ r l).trans (core m c t r l row h)

/-- What a point stores in the second result. -/
theorem stored' (c : Dev nD) (t : Fin cfg0.N) (r : Fin 256) (l : Fin 2048) (row : Fin 8192) (h : row.val = t.val * 256 + r.val) :
    k0_pay1 (F := Ideal) (k0_pay3 (F := Ideal) (iblk m c 0 t) (iblk m c 1 t) (iblk m c 2 t) (iblk m c 3 t) (iblk m c 4 t) (iblk m c 5 t) (iblk m c 6 t)) (ix2 r l)
      = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) row l :=
  (pay_at' _ _ _ _ _ _ _ r l).trans (core m c t r l row h)

/-- The result's array after the launch. -/
theorem final7 (c : Dev nD) : (dats m 0 c).arrAt 7 (cfgs 0).N
    = fun i => OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 7 _ (by decide +kernel) fun t _ y => ?_
  blk_simp
  rw [after0_7]
  frame_out
  have ht : t.val < 32 := lt_of_lt_of_eq t.isLt N_0
  have hy0 : (y 0).val < 256 := (y 0).isLt
  refine (congrArg _ (ix2_eta y).symm).trans ?_
  refine (stored m c t (y 0) (y 1) (⟨t.val * 256 + (y 0).val, by omega⟩ : Fin 8192) rfl).trans ?_
  refine congrArg₂ (OUT _ _ _ _ _ _) (Fin.ext ?_) (Fin.ext ?_) <;> blk_simp [idx t]

/-- The result's array after the launch. -/
theorem final8 (c : Dev nD) : (dats m 0 c).arrAt 8 (cfgs 0).N
    = fun i => OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 8 _ (by decide +kernel) fun t _ y => ?_
  blk_simp
  rw [after0_8]
  frame_out
  have ht : t.val < 32 := lt_of_lt_of_eq t.isLt N_0
  have hy0 : (y 0).val < 256 := (y 0).isLt
  refine (congrArg _ (ix2_eta y).symm).trans ?_
  refine (stored' m c t (y 0) (y 1) (⟨t.val * 256 + (y 0).val, by omega⟩ : Fin 8192) rfl).trans ?_
  refine congrArg₂ (OUT _ _ _ _ _ _) (Fin.ext ?_) (Fin.ext ?_) <;> blk_simp [idx t]

end Cert.KernelPlnIdeal.Pt

namespace Cert.ReferencePlnIdeal.Pt
open Cert.ReferencePlnIdeal Cert.ReferencePlnIdeal.Gen
variable (m : (ℓ : Loc nD τ sig) → Buf (Elt Ideal) ℓ)

/-- The scaled residual plus the product of the joined channels with the whole weights. -/
def HR (A B : FVec Ideal S8192x1024 .bf16) (W : FVec Ideal S2048x2048 .f32) (X : FVec Ideal S8192x2048 .f32)
    (row : Fin 8192) (l : Fin 2048) : EReal :=
  Ideal.ofBits FTy.f32 1071072509#32 * X (ix2 row l)
    + ∑ k : Fin 2048, (if h : k.val < 1024 then A (ix2 row (⟨k.val, h⟩ : Fin 1024)) else B (ix2 row (⟨k.val - 1024, by omega⟩ : Fin 1024))) * W (ix2 k l)

/-- The sum over the joined channels is the sum of the halves' sums. -/
theorem cat_sum (A B : FVec Ideal S8192x1024 .bf16) (W : FVec Ideal S2048x2048 .f32) (X : FVec Ideal S8192x2048 .f32)
    (row : Fin 8192) (l : Fin 2048) : HR A B W X row l = Cert.KernelPlnIdeal.Pt.H A B W X row l := by
  unfold HR Cert.KernelPlnIdeal.Pt.H
  refine congrArg (fun z : EReal => Ideal.ofBits FTy.f32 1071072509#32 * X (ix2 row l) + z) ?_
  refine (Fin.sum_univ_add (a := 1024) (b := 1024) _).trans ?_
  refine congrArg₂ (· + ·) (Finset.sum_congr rfl fun k _ => ?_) (Finset.sum_congr rfl fun k _ => ?_)
  · have hk : (Fin.castAdd 1024 k).val < 1024 := k.isLt
    rw [dif_pos hk]
    rfl
  · have hk : ¬ (Fin.natAdd 1024 k).val < 1024 := by simp
    rw [dif_neg hk]
    refine congrArg₂ (· * ·) (congrArg B (congrArg (ix2 row) (Fin.ext ?_))) rfl
    simp

/-- The reference's result at an element. -/
theorem ref_v29 (c : Dev nD) (row : Fin 8192) (l : Fin 2048) :
    Value.res_main_v29 (F := Ideal) m c (ix2 row l) = Cert.KernelPlnIdeal.Pt.OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) row l := by
  refine Eq.trans ?_ (congrArg (fun h => Cert.KernelPlnIdeal.Pt.LN h (m ((c : Thread nD τ).loc main_arg4) (ix1 l)) (m ((c : Thread nD τ).loc main_arg5) (ix1 l)) l)
    (funext fun q => cat_sum _ _ _ _ row q))
  unfold Cert.KernelPlnIdeal.Pt.LN HR
  pointwise [Value.res_main_v29]

/-- The reference's result at an element. -/
theorem ref_v30 (c : Dev nD) (row : Fin 8192) (l : Fin 2048) :
    Value.res_main_v30 (F := Ideal) m c (ix2 row l) = Cert.KernelPlnIdeal.Pt.OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) row l := by
  refine Eq.trans ?_ (congrArg (fun h => Cert.KernelPlnIdeal.Pt.LN h (m ((c : Thread nD τ).loc main_arg4) (ix1 l)) (m ((c : Thread nD τ).loc main_arg5) (ix1 l)) l)
    (funext fun q => cat_sum _ _ _ _ row q))
  unfold Cert.KernelPlnIdeal.Pt.LN HR
  pointwise [Value.res_main_v30]

/-- The reference leaves its arguments unchanged, and it has no semaphores. -/
theorem frame : Cert.quiescent_ReferencePlnIdeal (hReferencePlnIdeal := Cert.ReferencePlnIdeal.Gen.facts) := by
  intro m ρ _
  refine (θ_run _ _ _).mono (fun r h => ⟨fun c => (h c).2.2, ?_⟩) (Cert.ReferencePlnIdeal.Value.run m ρ)
  exact sem_eq_zero_of_no_sems rfl _

/-- Over the extended reals the launch leaves the layer norm of the scaled residual plus the projection. -/
theorem same : Cert.algebraic_KernelPlnIdeal_ReferencePlnIdeal (hKernelPlnIdeal := Cert.KernelPlnIdeal.Gen.facts) (hReferencePlnIdeal := Cert.ReferencePlnIdeal.Gen.facts) := by
  pair_intro
  · run_from Cert.KernelPlnIdeal.Gen.run_main m g
  · run_from Cert.ReferencePlnIdeal.Value.run m' g'
    · refine Eq.trans (funext fun i => ?_) (Cert.KernelPlnIdeal.Pt.final7 m c).symm
      rw [← ix2_eta i]
      refine (ref_v29 m' c (i 0) (i 1)).trans ?_
      rw [(hagree c).1, (hagree c).2.1, (hagree c).2.2.1, (hagree c).2.2.2.1, (hagree c).2.2.2.2.1, (hagree c).2.2.2.2.2]
      rfl
    · refine Eq.trans (funext fun i => ?_) (Cert.KernelPlnIdeal.Pt.final8 m c).symm
      rw [← ix2_eta i]
      refine (ref_v30 m' c (i 0) (i 1)).trans ?_
      rw [(hagree c).1, (hagree c).2.1, (hagree c).2.2.1, (hagree c).2.2.2.1, (hagree c).2.2.2.2.1, (hagree c).2.2.2.2.2]
      rfl

end Cert.ReferencePlnIdeal.Pt
-- ==== Proof.Spec.lean ====
module

public import Idealize.ShloMosaic.Lib.Pointwise
public import Idealize.ShloMosaic.Lib.IdealHost
public import Idealize.ShloMosaic.Lib.Tactic

@[expose] public section
set_option maxRecDepth 16384

/-! # Retention with one decay per head, chunk by chunk, over the extended reals

Both programs cut the 4096 positions of a row into 32 chunks of 128 and carry a 128 by 256 state per head.  This file
writes one chunk's step down once, as functions of the chunk's queries, keys and values, so that each program can be
read off against it. -/

noncomputable section
open Idealize.ShloMosaic Idealize.ShloMosaic.TcCoe Idealize.SL.Sem

namespace Cert.Ret

/-- The position `n` inside a chunk as a number: the word `n` converted. -/
def tv (n : ℕ) : EReal := FloatOps.sitofp (F := Ideal) .f32 (BitVec.ofNat 32 n)

/-- The constant 128 (the chunk's length), as written in the programs. -/
def c128 : EReal := Ideal.ofBits .f32 0x43000000#32
/-- The constant 127. -/
def c127 : EReal := Ideal.ofBits .f32 0x42FE0000#32
/-- The factor by which keys are scaled, one over the square root of 128 rounded. -/
def cSc : EReal := Ideal.ofBits .f32 0x3DB504F3#32
/-- The constant 256 (a head's value width). -/
def c256 : EReal := Ideal.ofBits .f32 0x43800000#32
/-- The constant added under the root. -/
def cEps : EReal := Ideal.ofBits .f32 0x3727C5AC#32

/-- The logarithm of head `h`'s decay, `log (1 - 2 ^ (-5 - h))`. -/
def lgam (h : Fin 4) : EReal :=
  Ideal.log (1 - Ideal.pow (Ideal.ofBits .f32 0x40000000#32) (Ideal.ofBits .f32 0xC0A00000#32 - tv h.val))

/-- The state after a chunk: the old state decayed over the chunk, plus the sum over the chunk's positions of key times
    value, each decayed from its position to the chunk's end. -/
def nextS (lg : EReal) (k : Fin 128 → Fin 128 → EReal) (v : Fin 128 → Fin 256 → EReal) (S : Fin 128 → Fin 256 → EReal)
    (d : Fin 128) (e : Fin 256) : EReal :=
  Ideal.exp (c128 * lg) * S d e + ∑ x : Fin 128, Ideal.exp ((c127 - tv x) * lg) * k x d * v x e

/-- A position's output before normalising: the decayed causal scores times the values, plus the query times the decayed
    old state. -/
def outRow (lg : EReal) (q k : Fin 128 → Fin 128 → EReal) (v : Fin 128 → Fin 256 → EReal) (S : Fin 128 → Fin 256 → EReal)
    (t : Fin 128) (e : Fin 256) : EReal :=
  (∑ x : Fin 128, ((∑ y, q t y * k x y)
      * if 0 ≤ tv t - tv x then Ideal.exp ((if 0 ≤ tv t - tv x then tv t - tv x else 0) * lg) else 0) * v x e)
    + Ideal.exp ((tv t + 1) * lg) * ∑ x, q t x * S x e

/-- Normalise a head's 256 outputs by their mean and variance, scale, and gate. -/
def normGate (o : Fin 256 → EReal) (g gd : EReal) (e : Fin 256) : EReal :=
  (o e - Ideal.div (∑ x, o x) c256)
      * Ideal.rsqrt (Ideal.div (∑ x, (o x - Ideal.div (∑ x, o x) c256) * (o x - Ideal.div (∑ x, o x) c256)) c256 + cEps)
      * g * (gd * Ideal.div 1 (1 + Ideal.exp (-gd)))

/-- Position `t` of chunk `c` in a row of 4096. -/
def row (c : ℕ) (t : Fin 128) : Fin 4096 := ⟨c % 32 * 128 + t.val, by have := t.isLt; omega⟩

/-- Queries of chunk `c`, head `h`, of row `b` of the array that holds queries and keys. -/
def qC (a0 : (⟨3, ![2, 4096, 1024]⟩ : Shape).Idx → EReal) (b : Fin 2) (h : Fin 4) (c : ℕ) (t d : Fin 128) : EReal :=
  a0 (ix3 b (row c t) ⟨h.val * 128 + d.val, by have := h.isLt; have := d.isLt; omega⟩)

/-- Keys of chunk `c`, head `h`, scaled. -/
def kC (a0 : (⟨3, ![2, 4096, 1024]⟩ : Shape).Idx → EReal) (b : Fin 2) (h : Fin 4) (c : ℕ) (t d : Fin 128) : EReal :=
  a0 (ix3 b (row c t) ⟨512 + (h.val * 128 + d.val), by have := h.isLt; have := d.isLt; omega⟩) * cSc

/-- Values of chunk `c`, head `h`. -/
def vC (a1 : (⟨3, ![2, 4096, 2048]⟩ : Shape).Idx → EReal) (b : Fin 2) (h : Fin 4) (c : ℕ) (t : Fin 128) (e : Fin 256) : EReal :=
  a1 (ix3 b (row c t) ⟨h.val * 256 + e.val, by have := h.isLt; have := e.isLt; omega⟩)

/-- The state of row `b`, head `h` before chunk `c`, from zero. -/
def stR (LG : Fin 4 → EReal) (a0 : (⟨3, ![2, 4096, 1024]⟩ : Shape).Idx → EReal)
    (a1 : (⟨3, ![2, 4096, 2048]⟩ : Shape).Idx → EReal) (b : Fin 2) (h : Fin 4) : ℕ → Fin 128 → Fin 256 → EReal
  | 0 => fun _ _ => 0
  | c + 1 => nextS (LG h) (kC a0 b h c) (vC a1 b h c) (stR LG a0 a1 b h c)

/-- The outputs of chunk `c` before normalising. -/
def outS (LG : Fin 4 → EReal) (a0 : (⟨3, ![2, 4096, 1024]⟩ : Shape).Idx → EReal)
    (a1 : (⟨3, ![2, 4096, 2048]⟩ : Shape).Idx → EReal) (b : Fin 2) (h : Fin 4) (c : ℕ) (t : Fin 128) (e : Fin 256) : EReal :=
  outRow (LG h) (qC a0 b h c) (kC a0 b h c) (vC a1 b h c) (stR LG a0 a1 b h c) t e

/-! ## Positions as numbers -/

theorem tv_eq {n : ℕ} (h : n < 128) : tv n = ((n : ℝ) : EReal) := by
  have e : (BitVec.ofNat 32 n).toInt = (n : ℤ) := by
    rw [BitVec.toInt_ofNat', Int.bmod_eq_of_le] <;> omega
  show (((BitVec.ofNat 32 n).toInt : ℝ) : EReal) = _
  rw [e]; norm_cast

theorem c128_eq : c128 = ((128 : ℝ) : EReal) := by
  unfold c128
  simp [Ideal.ofBits, Ideal.ieee, -EReal.coe_mul]; norm_num

/-- A position lies inside the chunk. -/
theorem tv_lt (n : Fin 128) : tv n < c128 := by
  rw [tv_eq n.isLt, c128_eq, EReal.coe_lt_coe_iff]
  exact_mod_cast n.isLt

/-- The difference of two positions taken on words, then converted, is the difference of the converted positions. -/
theorem tv_sub (a b : Fin 128) :
    FloatOps.sitofp (F := Ideal) .f32 (IntOp.subi (BitVec.ofNat 32 a.val) (BitVec.ofNat 32 b.val)) = tv a - tv b := by
  have ha := a.isLt
  have hb := b.isLt
  have e : (IntOp.subi (BitVec.ofNat 32 a.val) (BitVec.ofNat 32 b.val)).toInt = (a.val : ℤ) - b.val := by
    show (BitVec.ofNat 32 a.val - BitVec.ofNat 32 b.val).toInt = _
    rw [BitVec.toInt_sub, BitVec.toInt_ofNat', BitVec.toInt_ofNat', Int.bmod_eq_of_le (n := (a.val : ℤ)),
      Int.bmod_eq_of_le (n := (b.val : ℤ)), Int.bmod_eq_of_le] <;> omega
  rw [tv_eq ha, tv_eq hb]
  show (((IntOp.subi (BitVec.ofNat 32 a.val) (BitVec.ofNat 32 b.val)).toInt : ℝ) : EReal) = _
  rw [e, ← EReal.coe_sub]; push_cast; rfl

end Cert.Ret
-- ==== Proof.RetsHeads.lean ====
module

public import proofs.«01_k».proof.Proof.Gen.KernelRetsIdeal.Skeleton
public import proofs.«01_k».proof.Proof.Spec

@[expose] public section
set_option maxRecDepth 16384

/-! # What the sample's retention computes for one head

The sample runs the same launch on one live position: its row is filled up to 128 positions, and the constants that say
how many positions are live are 1 and 0 in place of 128 and 127.  For each of the four heads this file reads the state it
stores and the output row it stores at an index. -/

noncomputable section
open Idealize.ShloMosaic Idealize.ShloMosaic.TcCoe Idealize.SL.Sem
namespace Cert.KernelRetsIdeal.Ret
open Cert.KernelRetsIdeal Cert.KernelRetsIdeal.Gen Cert.Ret

variable (q k : Vec Ideal S1x128x128 .f32) (v : Vec Ideal S1x128x256 .f32) (gd : Vec Ideal S1x128x256 .f32)
  (lg : Vec Ideal S1x1x1 .f32) (g : Vec Ideal S1x1x256 .f32) (s : Vec Ideal S1x128x256 .f32)

/-- The state after the one live position: the old state decayed once, plus key times value. -/
def stepS (lg : EReal) (k : Fin 128 → EReal) (v : Fin 256 → EReal) (S : Fin 128 → Fin 256 → EReal) (d : Fin 128) (e : Fin 256) : EReal :=
  Ideal.exp (1 * lg) * S d e + k d * Ideal.exp ((0 - tv 0) * lg) * v e

/-- The one live position's output before normalising: its score times its value, plus the query times the decayed old
    state. -/
def stepO (lg : EReal) (q k : Fin 128 → EReal) (v : Fin 256 → EReal) (S : Fin 128 → Fin 256 → EReal) (e : Fin 256) : EReal :=
  (∑ y, q y * k y) * Ideal.exp ((tv 0 - tv 0) * lg) * v e + Ideal.exp ((tv 0 + 1) * lg) * ∑ x, q x * S x e

theorem tv_zero : tv 0 = 0 := by
  rw [tv_eq (by omega)]; simp

/-- Of a row of 128 positions the first one's output reads the first position alone. -/
theorem outRow_zero (lg : EReal) (q k : Fin 128 → Fin 128 → EReal) (v : Fin 128 → Fin 256 → EReal) (S : Fin 128 → Fin 256 → EReal)
    (e : Fin 256) : outRow lg q k v S 0 e = stepO lg (q 0) (k 0) (v 0) S e := by
  unfold outRow stepO
  refine congrArg₂ (· + ·) ?_ rfl
  rw [Finset.sum_eq_single (0 : Fin 128)]
  · have h : (0 : EReal) ≤ tv 0 - tv 0 := by rw [tv_zero]; simp
    show (_ * if 0 ≤ tv 0 - tv 0 then Ideal.exp ((if 0 ≤ tv 0 - tv 0 then tv 0 - tv 0 else 0) * lg) else 0) * _ = _
    rw [if_pos h, if_pos h]
  · intro x _ hx
    have h : ¬ (0 : EReal) ≤ tv (0 : Fin 128).val - tv x.val := by
      have hx' : 0 < x.val := Nat.pos_of_ne_zero fun h => hx (Fin.ext h)
      rw [show (0 : Fin 128).val = 0 from rfl, tv_zero, tv_eq x.isLt, zero_sub, ← EReal.coe_neg, ← EReal.coe_zero, EReal.coe_le_coe_iff]
      have : (0 : ℝ) < x.val := by exact_mod_cast hx'
      linarith
    rw [if_neg h, mul_zero, zero_mul]
  · intro h; exact absurd (Finset.mem_univ _) h

/-- The state a head stores, from its blocks of keys, values, decay and old state. -/
def headS (d : Fin 128) (e : Fin 256) : EReal :=
  stepS (lg (ix3 (0 : Fin 1) (0 : Fin 1) (0 : Fin 1))) (fun d => k (ix3 (0 : Fin 1) (0 : Fin 128) d) * cSc) (fun e => v (ix3 (0 : Fin 1) (0 : Fin 128) e)) (fun d e => s (ix3 (0 : Fin 1) d e)) d e

/-- The head's outputs before normalising. -/
def headO (t : Fin 128) (e : Fin 256) : EReal :=
  outRow (lg (ix3 (0 : Fin 1) (0 : Fin 1) (0 : Fin 1))) (fun x d => q (ix3 (0 : Fin 1) x d)) (fun x d => k (ix3 (0 : Fin 1) x d) * cSc)
    (fun x e => v (ix3 (0 : Fin 1) x e)) (fun d e => s (ix3 (0 : Fin 1) d e)) t e

/-- The outputs a head stores. -/
def headN (t : Fin 128) (e : Fin 256) : EReal :=
  normGate (headO q k v lg s t) (g (ix3 (0 : Fin 1) (0 : Fin 1) e)) (gd (ix3 (0 : Fin 1) t e)) e

/-- The stored state with the kernel's sum over all 128 positions and its test that a position is live. -/
theorem headS_eq (d : Fin 128) (e : Fin 256) :
    Ideal.exp (1 * lg (ix3 (0 : Fin 1) (0 : Fin 1) (0 : Fin 1))) * s (ix3 (0 : Fin 1) d e)
      + ∑ x : Fin 128, (k (ix3 (0 : Fin 1) x d) * cSc * if tv x < 1 then Ideal.exp ((0 - tv x) * lg (ix3 (0 : Fin 1) (0 : Fin 1) (0 : Fin 1))) else 0) * v (ix3 (0 : Fin 1) x e)
      = headS k v lg s d e := by
  unfold headS stepS
  refine congrArg₂ (· + ·) rfl ?_
  rw [Finset.sum_eq_single (0 : Fin 128)]
  · rw [if_pos (show tv (0 : Fin 128).val < 1 by rw [show (0 : Fin 128).val = 0 from rfl, tv_zero]; exact zero_lt_one)]; rfl
  · intro x _ hx
    have h : ¬ tv x.val < 1 := by
      have hx' : 1 ≤ x.val := Nat.one_le_iff_ne_zero.mpr fun h => hx (Fin.ext h)
      rw [tv_eq x.isLt, ← EReal.coe_one, EReal.coe_lt_coe_iff]
      have : (1 : ℝ) ≤ x.val := by exact_mod_cast hx'
      linarith
    rw [if_neg h, mul_zero, zero_mul]
  · intro h; exact absurd (Finset.mem_univ _) h

/-- Head 0 stores its new state. -/
theorem head0_state (d : Fin 128) (e : Fin 256) :
    (k0_pay13 k0_pay3 (k0_pay7 k) (k0_pay8 v) (k0_pay9 lg) (k0_pay10 s)) (ix3 (0 : Fin 1) d e) = headS k v lg s d e := by
  rw [← headS_eq]
  unfold cSc tv
  pointwise [k0_pay13, k0_pay3, k0_pay7, k0_pay8, k0_pay9, k0_pay10]

/-- Head 1 stores its new state. -/
theorem head1_state (d : Fin 128) (e : Fin 256) :
    (k0_pay25 (k0_pay18 k) (k0_pay19 v) (k0_pay23 lg s) (k0_pay24 k0_pay3 lg)) (ix3 (0 : Fin 1) d e) = headS k v lg s d e := by
  rw [← headS_eq]
  unfold cSc tv
  pointwise [k0_pay25, k0_pay18, k0_pay19, k0_pay23, k0_pay24, k0_pay3, k0_pay20, k0_pay21]

/-- Head 2 stores its new state. -/
theorem head2_state (d : Fin 128) (e : Fin 256) :
    (k0_pay36 k0_pay3 (k0_pay29 k) (k0_pay30 v) (k0_pay31 lg) (k0_pay32 s)) (ix3 (0 : Fin 1) d e) = headS k v lg s d e := by
  rw [← headS_eq]
  unfold cSc tv
  pointwise [k0_pay36, k0_pay3, k0_pay29, k0_pay30, k0_pay31, k0_pay32]

/-- Head 3 stores its new state. -/
theorem head3_state (d : Fin 128) (e : Fin 256) :
    (k0_pay50 (k0_pay49 k0_pay3 (k0_pay43 k) (k0_pay44 v) (k0_pay45 lg) s)) (ix3 (0 : Fin 1) d e) = headS k v lg s d e := by
  rw [← headS_eq]
  unfold cSc tv
  pointwise [k0_pay50, k0_pay49, k0_pay3, k0_pay43, k0_pay44, k0_pay45, k0_pay47]

/-- Head 0's outputs before normalising. -/
theorem head0_out (t : Fin 128) (e : Fin 256) :
    (k0_pay12 k0_pay3 (k0_pay6 q) (k0_pay8 v) (k0_pay9 lg) (k0_pay10 s) (k0_pay11 q k lg) : FVec Ideal S128x256 .f32) (ix2 t e) = headO q k v lg s t e := by
  unfold headO outRow
  simp only [← tv_sub]
  unfold tv cSc
  pointwise [k0_pay12, k0_pay3, k0_pay6, k0_pay8, k0_pay9, k0_pay10, k0_pay11, k0_pay5, k0_pay4, k0_pay7]

/-- Head 1's outputs before normalising. -/
theorem head1_out (t : Fin 128) (e : Fin 256) :
    (k0_pay22 k0_pay3 (k0_pay4 (F := Ideal)) (k0_pay5 (F := Ideal)) (k0_pay17 q) (k0_pay18 k) (k0_pay19 v) lg s : FVec Ideal S128x256 .f32) (ix2 t e) = headO q k v lg s t e := by
  unfold headO outRow
  simp only [← tv_sub]
  unfold tv cSc
  pointwise [k0_pay22, k0_pay3, k0_pay4, k0_pay5, k0_pay17, k0_pay18, k0_pay19, k0_pay20, k0_pay21]

/-- Head 2's outputs before normalising (minus their mean). -/
theorem head2_out (t : Fin 128) (e : Fin 256) :
    (k0_pay39 (k0_pay32 s) (k0_pay33 (k0_pay4 (F := Ideal)) (k0_pay5 (F := Ideal)) q k v lg) (k0_pay34 k0_pay3 lg) (k0_pay35 q) : FVec Ideal S128x256 .f32) (ix2 t e) = headO q k v lg s t e - Ideal.div (∑ x, headO q k v lg s t x) c256 := by
  unfold headO outRow c256
  simp only [← tv_sub]
  unfold tv cSc
  pointwise [k0_pay39, k0_pay32, k0_pay33, k0_pay4, k0_pay5, k0_pay34, k0_pay3, k0_pay35, k0_pay31, k0_pay28, k0_pay29, k0_pay30]

/-- Head 3's outputs before normalising. -/
theorem head3_out (t : Fin 128) (e : Fin 256) :
    (k0_pay48 k0_pay3 (k0_pay5 (F := Ideal)) (k0_pay42 q) (k0_pay43 k) (k0_pay44 v) (k0_pay45 lg) (k0_pay46 (k0_pay4 (F := Ideal)) (k0_pay5 (F := Ideal)) lg) s : FVec Ideal S128x256 .f32) (ix2 t e) = headO q k v lg s t e := by
  unfold headO outRow
  simp only [← tv_sub]
  unfold tv cSc
  pointwise [k0_pay48, k0_pay3, k0_pay5, k0_pay42, k0_pay43, k0_pay44, k0_pay45, k0_pay46, k0_pay4, k0_pay47]

/-- Subtracting from zero is negation. -/
theorem zero_sub' (x : EReal) : (0 : EReal) - x = -x := by rw [sub_eq_add_neg, zero_add]

/-- Normalising and gating head 0. -/
theorem head0_norm (w : FVec Ideal S128x256 .f32) (t : Fin 128) (e : Fin 256) :
    (k0_pay16 w (k0_pay14 gd) (k0_pay15 g)) (ix3 (0 : Fin 1) t e) = normGate (fun e => w (ix2 t e)) (g (ix3 (0 : Fin 1) (0 : Fin 1) e)) (gd (ix3 (0 : Fin 1) t e)) e := by
  unfold normGate c256 cEps
  simp only [← zero_sub']
  pointwise [k0_pay16, k0_pay14, k0_pay15]

/-- Normalising and gating head 1. -/
theorem head1_norm (w : FVec Ideal S128x256 .f32) (t : Fin 128) (e : Fin 256) :
    (k0_pay27 (k0_pay26 w gd g)) (ix3 (0 : Fin 1) t e) = normGate (fun e => w (ix2 t e)) (g (ix3 (0 : Fin 1) (0 : Fin 1) e)) (gd (ix3 (0 : Fin 1) t e)) e := by
  unfold normGate c256 cEps
  simp only [← zero_sub']
  pointwise [k0_pay27, k0_pay26]

/-- Normalising and gating head 3. -/
theorem head3_norm (w : FVec Ideal S128x256 .f32) (t : Fin 128) (e : Fin 256) :
    (k0_pay51 w gd g) (ix3 (0 : Fin 1) t e) = normGate (fun e => w (ix2 t e)) (g (ix3 (0 : Fin 1) (0 : Fin 1) e)) (gd (ix3 (0 : Fin 1) t e)) e := by
  unfold normGate c256 cEps
  simp only [← zero_sub']
  pointwise [k0_pay51]

/-- Head 0 stores its outputs. -/
theorem head0_store (t : Fin 128) (e : Fin 256) :
    (k0_pay16 (k0_pay12 k0_pay3 (k0_pay6 q) (k0_pay8 v) (k0_pay9 lg) (k0_pay10 s) (k0_pay11 q k lg)) (k0_pay14 gd) (k0_pay15 g)) (ix3 (0 : Fin 1) t e) = headN q k v gd lg g s t e := by
  rw [head0_norm]
  simp only [head0_out]
  rfl

/-- Head 1 stores its outputs. -/
theorem head1_store (t : Fin 128) (e : Fin 256) :
    (k0_pay27 (k0_pay26 (k0_pay22 k0_pay3 (k0_pay4 (F := Ideal)) (k0_pay5 (F := Ideal)) (k0_pay17 q) (k0_pay18 k) (k0_pay19 v) lg s) gd g)) (ix3 (0 : Fin 1) t e) = headN q k v gd lg g s t e := by
  rw [head1_norm]
  simp only [head1_out]
  rfl

/-- Head 3 stores its outputs. -/
theorem head3_store (t : Fin 128) (e : Fin 256) :
    (k0_pay51 (k0_pay48 k0_pay3 (k0_pay5 (F := Ideal)) (k0_pay42 q) (k0_pay43 k) (k0_pay44 v) (k0_pay45 lg) (k0_pay46 (k0_pay4 (F := Ideal)) (k0_pay5 (F := Ideal)) lg) s) gd g) (ix3 (0 : Fin 1) t e) = headN q k v gd lg g s t e := by
  rw [head3_norm]
  simp only [head3_out]
  rfl

/-- Head 2 stores its outputs. -/
theorem head2_store (t : Fin 128) (e : Fin 256) :
    (k0_pay41 (k0_pay37 gd) (k0_pay38 g) (k0_pay39 (k0_pay32 s) (k0_pay33 (k0_pay4 (F := Ideal)) (k0_pay5 (F := Ideal)) q k v lg) (k0_pay34 k0_pay3 lg) (k0_pay35 q)) (k0_pay40 (k0_pay32 s) (k0_pay33 (k0_pay4 (F := Ideal)) (k0_pay5 (F := Ideal)) q k v lg) (k0_pay34 k0_pay3 lg) (k0_pay35 q))) (ix3 (0 : Fin 1) t e)
      = headN q k v gd lg g s t e := by
  have h := head2_out q k v lg s
  unfold headN normGate
  simp only [← h]
  generalize (k0_pay33 (k0_pay4 (F := Ideal)) (k0_pay5 (F := Ideal)) q k v lg : FVec Ideal S128x256 .f32) = w1
  generalize (k0_pay34 k0_pay3 lg : FVec Ideal S128x1 .f32) = w2
  generalize (k0_pay35 q : FVec Ideal S128x128 .bf16) = w3
  generalize (k0_pay32 s : FVec Ideal S128x256 .f32) = w4
  unfold k0_pay40
  generalize k0_pay39 w4 w1 w2 w3 = w
  unfold c256 cEps
  simp only [← zero_sub']
  pointwise [k0_pay41, k0_pay37, k0_pay38]

end Cert.KernelRetsIdeal.Ret
-- ==== Proof.RetsTiles.lean ====
module

public import proofs.«01_k».proof.Proof.Gen.KernelRetsIdeal.Frame
public import proofs.«01_k».proof.Proof.RetsHeads
public import Idealize.ShloMosaic.Lib.Pointwise
public import Idealize.ShloMosaic.Lib.Pipeline.ValueKit
public import Idealize.ShloMosaic.Lib.Pipeline.ReadBack
public import Idealize.ShloMosaic.Lib.Tactic

@[expose] public section
set_option maxRecDepth 16384

/-! # What a grid point of the sample's retention leaves, at an index

A grid point handles one row.  The block of the second result ends up as the next state, and the first row of the output
block as the normalised output, of the point's input blocks. -/

noncomputable section
open Idealize.ShloMosaic Idealize.ShloMosaic.TcCoe Idealize.SL.Sem
namespace Cert.KernelRetsIdeal.Ret
open Cert.KernelRetsIdeal Cert.KernelRetsIdeal.Gen Cert.Ret

/-- The next state of head `h` from a point's blocks. -/
def blkS (x1 : Vec Ideal S1x128x512 .f32) (x2 : Vec Ideal S1x128x1024 .f32) (x4 : Vec Ideal S4x1x1 .f32)
    (s : Fin 4 → Fin 128 → Fin 256 → EReal) (h : Fin 4) (d : Fin 128) (e : Fin 256) : EReal :=
  stepS (x4 (ix3 h (0 : Fin 1) (0 : Fin 1)))
    (fun d => x1 (ix3 (0 : Fin 1) (0 : Fin 128) (⟨h.val * 128 + d.val, by omega⟩ : Fin 512)) * cSc)
    (fun e => x2 (ix3 (0 : Fin 1) (0 : Fin 128) (⟨h.val * 256 + e.val, by omega⟩ : Fin 1024))) (s h) d e

/-- The output of head `h` from a point's blocks. -/
def blkN (x0 x1 : Vec Ideal S1x128x512 .f32) (x2 x3 : Vec Ideal S1x128x1024 .f32) (x4 : Vec Ideal S4x1x1 .f32)
    (x5 : Vec Ideal S4x1x256 .f32) (s : Fin 4 → Fin 128 → Fin 256 → EReal) (h : Fin 4) (t : Fin 128) (e : Fin 256) : EReal :=
  normGate (outRow (x4 (ix3 h (0 : Fin 1) (0 : Fin 1)))
      (fun x d => x0 (ix3 (0 : Fin 1) x (⟨h.val * 128 + d.val, by omega⟩ : Fin 512)))
      (fun x d => x1 (ix3 (0 : Fin 1) x (⟨h.val * 128 + d.val, by omega⟩ : Fin 512)) * cSc)
      (fun x e => x2 (ix3 (0 : Fin 1) x (⟨h.val * 256 + e.val, by omega⟩ : Fin 1024))) (s h) t)
    (x5 (ix3 h (0 : Fin 1) e)) (x3 (ix3 (0 : Fin 1) t (⟨h.val * 256 + e.val, by omega⟩ : Fin 1024))) e

/-- Stores that cover an index hide every earlier one. -/
theorem canon_hide {s : Shape} {e : EltTy} {Val : EltTy → Type} [∀ e, Nonempty (Val e)] (L' : List (View.Piece Val s e)) :
    ∀ (L : List (View.Piece Val s e)) (y : s.Idx), (∃ p ∈ L, y ∈ p.1.set) → View.canon (L ++ L') y = View.canon L y
  | [], _, h => by obtain ⟨p, hp, _⟩ := h; simp at hp
  | p :: L, y, h => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans (Eq.trans ?_ (View.canon_cons_of_not_mem p L hm).symm)
      refine canon_hide L' L y ?_
      obtain ⟨q, hq, hy⟩ := h
      rcases List.mem_cons.mp hq with rfl | hq
      · exact absurd hy hm
      · exact ⟨q, hq, hy⟩

/-- An index of a block with one leading coordinate, by its other two. -/
theorem at3 (x : S1x128x256.Idx) (a : Fin 128) (b : Fin 256) (ha : (x 1).val = a.val) (hb : (x 2).val = b.val) :
    x = ix3 (0 : Fin 1) a b := by
  rw [eq_ix3 x, show x 0 = (0 : Fin 1) from Fin.fin_one_eq_zero (x 0), show x 1 = a from Fin.ext ha, show x 2 = b from Fin.ext hb]

/-- A head's state from parts of a point's blocks. -/
theorem headS_blk {k : Vec Ideal S1x128x128 .f32} {v : Vec Ideal S1x128x256 .f32} {lg : Vec Ideal S1x1x1 .f32}
    {s : Vec Ideal S1x128x256 .f32} {x1 : Vec Ideal S1x128x512 .f32} {x2 : Vec Ideal S1x128x1024 .f32} {x4 : Vec Ideal S4x1x1 .f32}
    {S : Fin 4 → Fin 128 → Fin 256 → EReal} {h : Fin 4}
    (hl : lg (ix3 (0 : Fin 1) (0 : Fin 1) (0 : Fin 1)) = x4 (ix3 h (0 : Fin 1) (0 : Fin 1)))
    (hk : ∀ (x : Fin 128) (d : Fin 128), k (ix3 (0 : Fin 1) x d) = x1 (ix3 (0 : Fin 1) x (⟨h.val * 128 + d.val, by omega⟩ : Fin 512)))
    (hv : ∀ (x : Fin 128) (e : Fin 256), v (ix3 (0 : Fin 1) x e) = x2 (ix3 (0 : Fin 1) x (⟨h.val * 256 + e.val, by omega⟩ : Fin 1024)))
    (hs : ∀ (d : Fin 128) (e : Fin 256), s (ix3 (0 : Fin 1) d e) = S h d e) (d : Fin 128) (e : Fin 256) :
    headS k v lg s d e = blkS x1 x2 x4 S h d e := by
  unfold headS blkS
  simp only [hl, hk, hv, hs]

/-- A head's outputs from parts of a point's blocks. -/
theorem headN_blk {q k : Vec Ideal S1x128x128 .f32} {v gd : Vec Ideal S1x128x256 .f32} {lg : Vec Ideal S1x1x1 .f32} {g : Vec Ideal S1x1x256 .f32}
    {s : Vec Ideal S1x128x256 .f32} {x0 x1 : Vec Ideal S1x128x512 .f32} {x2 x3 : Vec Ideal S1x128x1024 .f32} {x4 : Vec Ideal S4x1x1 .f32}
    {x5 : Vec Ideal S4x1x256 .f32} {S : Fin 4 → Fin 128 → Fin 256 → EReal} {h : Fin 4}
    (hl : lg (ix3 (0 : Fin 1) (0 : Fin 1) (0 : Fin 1)) = x4 (ix3 h (0 : Fin 1) (0 : Fin 1)))
    (hq : ∀ (x : Fin 128) (d : Fin 128), q (ix3 (0 : Fin 1) x d) = x0 (ix3 (0 : Fin 1) x (⟨h.val * 128 + d.val, by omega⟩ : Fin 512)))
    (hk : ∀ (x : Fin 128) (d : Fin 128), k (ix3 (0 : Fin 1) x d) = x1 (ix3 (0 : Fin 1) x (⟨h.val * 128 + d.val, by omega⟩ : Fin 512)))
    (hv : ∀ (x : Fin 128) (e : Fin 256), v (ix3 (0 : Fin 1) x e) = x2 (ix3 (0 : Fin 1) x (⟨h.val * 256 + e.val, by omega⟩ : Fin 1024)))
    (hg : ∀ e : Fin 256, g (ix3 (0 : Fin 1) (0 : Fin 1) e) = x5 (ix3 h (0 : Fin 1) e))
    (hgd : ∀ (x : Fin 128) (e : Fin 256), gd (ix3 (0 : Fin 1) x e) = x3 (ix3 (0 : Fin 1) x (⟨h.val * 256 + e.val, by omega⟩ : Fin 1024)))
    (hs : ∀ (d : Fin 128) (e : Fin 256), s (ix3 (0 : Fin 1) d e) = S h d e) (t : Fin 128) (e : Fin 256) :
    headN q k v gd lg g s t e = blkN x0 x1 x2 x3 x4 x5 S h t e := by
  unfold headN headO blkN
  simp only [hl, hq, hk, hv, hs, hg, hgd]

/-- The output block. -/
theorem out0_A_7_at (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S4x1x1 .f32) (harg6 : arg6.IsWhole) (arg7 : Memref sig .tc .vmem S4x1x256 .f32) (harg7 : arg7.IsWhole) (arg8 : Memref sig .tc .vmem S1x4x128x256 .f32) (harg8 : arg8.IsWhole) (arg9 : Memref sig .tc .vmem S1x128x1024 .bf16) (harg9 : arg9.IsWhole) (arg10 : Memref sig .tc .vmem S1x4x128x256 .f32) (harg10 : arg10.IsWhole) (arg11 : Memref sig .tc .vmem S4x128x256 .f32) (harg11 : arg11.IsWhole) (hc0 : cond0_0 i) (hc1 : cond0_1 i)
    (x0 : Vec Ideal S1x128x512 .f32) (x1 : Vec Ideal S1x128x512 .f32) (x2 : Vec Ideal S1x128x1024 .f32) (x3 : Vec Ideal S1x128x1024 .f32) (x4 : Vec Ideal S4x1x1 .f32) (x5 : Vec Ideal S4x1x256 .f32) (x6 : Vec Ideal S1x4x128x256 .f32) (y : S1x128x1024.Idx) (h : Fin 4) (t : Fin 128) (e : Fin 256) (hy1 : (y 1).val = t.val) (hy2 : (y 2).val = h.val * 256 + e.val) :
    out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 y = blkN x0 x1 x2 x3 x4 x5 (fun h d e => x6 (ix4 (0 : Fin 1) h d e)) h t e := by
  unfold out0_A_7
  rw [View.read_writes_junk_eq_canon]
  unfold kernelRun0_A
  dsimp only
  sl_unfold_words
  simp (disch := decide) only [↓ View.readCov_skip, ↓ View.readCov_fill, View.readAt_eq_ld, harg2.read_unread, harg3.read_unread, harg4.read_unread, harg5.read_unread, harg6.read_unread, harg7.read_unread, harg8.read_unread]
  canon_tiles x hh
  · obtain rfl : h = (3 : Fin 4) := Fin.ext (by show h.val = 3; omega)
    rw [show x = ix3 (0 : Fin 1) t e from at3 x t e (by omega) (by omega)]
    refine (head3_store _ _ _ _ _ _ _ t e).trans (headN_blk ?_ (fun x d => ?_) (fun x d => ?_) (fun x e => ?_) (fun e => ?_) (fun x e => ?_) (fun d e => ?_) t e)
    all_goals pointwise [k0_pay2]
  · obtain rfl : h = (2 : Fin 4) := Fin.ext (by show h.val = 2; omega)
    rw [show x = ix3 (0 : Fin 1) t e from at3 x t e (by omega) (by omega)]
    refine (head2_store _ _ _ _ _ _ _ t e).trans (headN_blk ?_ (fun x d => ?_) (fun x d => ?_) (fun x e => ?_) (fun e => ?_) (fun x e => ?_) (fun d e => ?_) t e)
    all_goals pointwise [k0_pay2]
  · obtain rfl : h = (1 : Fin 4) := Fin.ext (by show h.val = 1; omega)
    rw [show x = ix3 (0 : Fin 1) t e from at3 x t e (by omega) (by omega)]
    refine (head1_store _ _ _ _ _ _ _ t e).trans (headN_blk ?_ (fun x d => ?_) (fun x d => ?_) (fun x e => ?_) (fun e => ?_) (fun x e => ?_) (fun d e => ?_) t e)
    all_goals pointwise [k0_pay2]
  · obtain rfl : h = (0 : Fin 4) := Fin.ext (by show h.val = 0; omega)
    rw [show x = ix3 (0 : Fin 1) t e from at3 x t e (by omega) (by omega)]
    refine (head0_store _ _ _ _ _ _ _ t e).trans (headN_blk ?_ (fun x d => ?_) (fun x d => ?_) (fun x e => ?_) (fun e => ?_) (fun x e => ?_) (fun d e => ?_) t e)
    all_goals pointwise [k0_pay2]

/-- The block of the second result is the next state. -/
theorem out0_A_8_at (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S4x1x1 .f32) (harg6 : arg6.IsWhole) (arg7 : Memref sig .tc .vmem S4x1x256 .f32) (harg7 : arg7.IsWhole) (arg8 : Memref sig .tc .vmem S1x4x128x256 .f32) (harg8 : arg8.IsWhole) (arg9 : Memref sig .tc .vmem S1x128x1024 .bf16) (harg9 : arg9.IsWhole) (arg10 : Memref sig .tc .vmem S1x4x128x256 .f32) (harg10 : arg10.IsWhole) (arg11 : Memref sig .tc .vmem S4x128x256 .f32) (harg11 : arg11.IsWhole) (hc0 : cond0_0 i) (hc1 : cond0_1 i)
    (x0 : Vec Ideal S1x128x512 .f32) (x1 : Vec Ideal S1x128x512 .f32) (x2 : Vec Ideal S1x128x1024 .f32) (x3 : Vec Ideal S1x128x1024 .f32) (x4 : Vec Ideal S4x1x1 .f32) (x5 : Vec Ideal S4x1x256 .f32) (x6 : Vec Ideal S1x4x128x256 .f32) (y : S1x4x128x256.Idx) (h : Fin 4) (d : Fin 128) (e : Fin 256) (hy : y = ix4 (0 : Fin 1) h d e) :
    out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 y = blkS x1 x2 x4 (fun h d e => x6 (ix4 (0 : Fin 1) h d e)) h d e := by
  subst hy
  unfold out0_A_8
  rw [View.read_writes_junk_eq_canon]
  unfold kernelRun0_A
  dsimp only
  sl_unfold_words
  rw [View.canon_cons_unit_lit _ _ _ (by decide), View.readCov_eq_canon']
  have key : ∀ X : Vec Ideal S4x128x256 .f32,
      k0_pay1 (View.ld X (Rect.unit ![0, 0, 0] ![4, 128, 256] inb_S4x128x256_S4x128x256_0_0_0)) (ix4 (0 : Fin 1) h d e) = X (ix3 h d e) := fun X => by
    pointwise [k0_pay1]
  refine (key _).trans ?_
  obtain ⟨y, hy⟩ : ∃ y : S4x128x256.Idx, y = ix3 h d e := ⟨_, rfl⟩
  have hy0 : (y 0).val = h.val := by rw [hy]; rfl
  have hy1 : (y 1).val = d.val := by rw [hy]; rfl
  have hy2 : (y 2).val = e.val := by rw [hy]; rfl
  rw [← hy]
  clear key hy
  simp (disch := decide) only [↓ View.readCov_skip, ↓ View.readCov_fill, View.readAt_eq_ld, harg2.read_unread, harg3.read_unread, harg4.read_unread, harg5.read_unread, harg6.read_unread, harg7.read_unread, harg8.read_unread]
  refine (canon_hide [_] [_, _, _, _] y ?_).trans ?_
  · exact View.cover_of_tiledL (s := S4x128x256) _ ![1, 128, 256] (by sl_kernel_rfl) y
  canon_tiles x hh
  · obtain rfl : h = (3 : Fin 4) := Fin.ext (by show h.val = 3; omega)
    rw [show x = ix3 (0 : Fin 1) d e from at3 x d e (by omega) (by omega)]
    refine (head3_state _ _ _ _ d e).trans (headS_blk ?_ (fun x d => ?_) (fun x e => ?_) (fun d e => ?_) d e)
    all_goals pointwise [k0_pay2]
  · obtain rfl : h = (2 : Fin 4) := Fin.ext (by show h.val = 2; omega)
    rw [show x = ix3 (0 : Fin 1) d e from at3 x d e (by omega) (by omega)]
    refine (head2_state _ _ _ _ d e).trans (headS_blk ?_ (fun x d => ?_) (fun x e => ?_) (fun d e => ?_) d e)
    all_goals pointwise [k0_pay2]
  · obtain rfl : h = (1 : Fin 4) := Fin.ext (by show h.val = 1; omega)
    rw [show x = ix3 (0 : Fin 1) d e from at3 x d e (by omega) (by omega)]
    refine (head1_state _ _ _ _ d e).trans (headS_blk ?_ (fun x d => ?_) (fun x e => ?_) (fun d e => ?_) d e)
    all_goals pointwise [k0_pay2]
  · obtain rfl : h = (0 : Fin 4) := Fin.ext (by show h.val = 0; omega)
    rw [show x = ix3 (0 : Fin 1) d e from at3 x d e (by omega) (by omega)]
    refine (head0_state _ _ _ _ d e).trans (headS_blk ?_ (fun x d => ?_) (fun x e => ?_) (fun d e => ?_) d e)
    all_goals pointwise [k0_pay2]

end Cert.KernelRetsIdeal.Ret
-- ==== Proof.Rets.lean ====
module

public import proofs.«01_k».proof.Defs
public import proofs.«01_k».proof.Proof.RetsTiles
public import proofs.«01_k».proof.Proof.Gen.ReferenceRetsIdeal.Run
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)
open Cert.Ret

/-! The retention on the sample: one live position per row, from a given state. -/

namespace Cert.KernelRetsIdeal.Ret
open Cert.KernelRetsIdeal Cert.KernelRetsIdeal.Gen
variable (m : (ℓ : Loc nD τ sig) → Buf (Elt Ideal) ℓ) (c : Dev nD)

/-- Where each window's block lies at grid point `t`: row `t`. -/
theorem idx : ∀ t : Fin cfg0.N,
    win0_0.index t = ![t.val, 0, 0] ∧ win0_1.index t = ![t.val, 0, 1]
    ∧ win0_2.index t = ![t.val, 0, 0] ∧ win0_3.index t = ![t.val, 0, 1]
    ∧ win0_4.index t = ![0, 0, 0] ∧ win0_5.index t = ![0, 0, 0] ∧ win0_6.index t = ![t.val, 0, 0, 0]
    ∧ win0_7.index t = ![t.val, 0, 0] ∧ win0_8.index t = ![t.val, 0, 0, 0] :=
  (by decide +kernel : ∀ t : Fin grid0.N, _)

/-- The row a grid point works on. -/
def rowOf (t : Fin cfg0.N) : Fin 8 := ⟨t.val, lt_of_lt_of_eq t.isLt N_0⟩

/-- Queries and keys, the first argument. -/
abbrev A0 : (⟨2, ![8, 1024]⟩ : Shape).Idx → EReal := m ((c : Thread nD τ).loc main_arg0)
/-- Values and gates, the second argument. -/
abbrev A1 : (⟨2, ![8, 2048]⟩ : Shape).Idx → EReal := m ((c : Thread nD τ).loc main_arg1)
/-- Scales, the third argument. -/
abbrev A2 : (⟨2, ![4, 256]⟩ : Shape).Idx → EReal := m ((c : Thread nD τ).loc main_arg2)
/-- The old states, the fourth argument. -/
abbrev A3 : (⟨4, ![8, 4, 128, 256]⟩ : Shape).Idx → EReal := m ((c : Thread nD τ).loc main_arg3)

/-- The first position of the filled-up queries and keys is the argument's row. -/
theorem pad0 (b : Fin 8) (l : Fin 1024) : V m c main_v9 (ix3 b (0 : Fin 128) l) = A0 m c (ix2 b l) := by
  simp only [V, V0, hostOps0, hostOps0_1, hostOps0_2, hostOps0_3, hostOps0_4, List.flatten_cons, List.flatten_nil, List.append_nil, List.cons_append, List.nil_append]
  entry_read
  simp only [StableHlo.TRef.toBuf, StableHlo.TRef.ofBuf, cast_cast, cast_eq]
  pointwise

/-- The first position of the filled-up values and gates is the argument's row. -/
theorem pad1 (b : Fin 8) (l : Fin 2048) : V m c main_v11 (ix3 b (0 : Fin 128) l) = A1 m c (ix2 b l) := by
  simp only [V, V0, hostOps0, hostOps0_1, hostOps0_2, hostOps0_3, hostOps0_4, List.flatten_cons, List.flatten_nil, List.append_nil, List.cons_append, List.nil_append]
  entry_read
  simp only [StableHlo.TRef.toBuf, StableHlo.TRef.ofBuf, cast_cast, cast_eq]
  pointwise

/-- The host's logarithms of the decays, as the kernel is given them. -/
theorem lg_at (h : Fin 4) : V m c main_v12 (ix3 h (0 : Fin 1) (0 : Fin 1)) = lgam h := by
  simp only [V, V0, hostOps0, hostOps0_1, hostOps0_2, hostOps0_3, hostOps0_4, List.flatten_cons, List.flatten_nil, List.append_nil, List.cons_append, List.nil_append]
  entry_read
  unfold lgam tv
  pointwise

/-- The scales, as the kernel is given them. -/
theorem g_at (h : Fin 4) (e : Fin 256) : V m c main_v13 (ix3 h (0 : Fin 1) e) = A2 m c (ix2 h e) := by
  simp only [V, V0, hostOps0, hostOps0_1, hostOps0_2, hostOps0_3, hostOps0_4, List.flatten_cons, List.flatten_nil, List.append_nil, List.cons_append, List.nil_append]
  entry_read
  pointwise

theorem q_blk (t : Fin cfg0.N) (d : Fin 512) :
    iblk m c 0 t (ix3 (0 : Fin 1) (0 : Fin 128) d) = A0 m c (ix2 (rowOf t) (⟨d.val, by omega⟩ : Fin 1024)) := by
  refine Eq.trans ?_ (pad0 m c _ _)
  unfold rowOf
  blk_ext [iblk, idx t]

theorem k_blk (t : Fin cfg0.N) (d : Fin 512) :
    iblk m c 1 t (ix3 (0 : Fin 1) (0 : Fin 128) d) = A0 m c (ix2 (rowOf t) (⟨512 + d.val, by omega⟩ : Fin 1024)) := by
  refine Eq.trans ?_ (pad0 m c _ _)
  unfold rowOf
  blk_ext [iblk, idx t]

theorem v_blk (t : Fin cfg0.N) (e : Fin 1024) :
    iblk m c 2 t (ix3 (0 : Fin 1) (0 : Fin 128) e) = A1 m c (ix2 (rowOf t) (⟨e.val, by omega⟩ : Fin 2048)) := by
  refine Eq.trans ?_ (pad1 m c _ _)
  unfold rowOf
  blk_ext [iblk, idx t]

theorem gd_blk (t : Fin cfg0.N) (e : Fin 1024) :
    iblk m c 3 t (ix3 (0 : Fin 1) (0 : Fin 128) e) = A1 m c (ix2 (rowOf t) (⟨1024 + e.val, by omega⟩ : Fin 2048)) := by
  refine Eq.trans ?_ (pad1 m c _ _)
  unfold rowOf
  blk_ext [iblk, idx t]

theorem lg_blk (t : Fin cfg0.N) (h : Fin 4) : iblk m c 4 t (ix3 h (0 : Fin 1) (0 : Fin 1)) = lgam h := by
  refine Eq.trans ?_ (lg_at m c h)
  blk_ext [iblk, idx t]

theorem g_blk (t : Fin cfg0.N) (h : Fin 4) (e : Fin 256) : iblk m c 5 t (ix3 h (0 : Fin 1) e) = A2 m c (ix2 h e) := by
  refine Eq.trans ?_ (g_at m c h e)
  blk_ext [iblk, idx t]

theorem s_blk (t : Fin cfg0.N) (h : Fin 4) (d : Fin 128) (e : Fin 256) :
    iblk m c 6 t (ix4 (0 : Fin 1) h d e) = A3 m c (ix4 (rowOf t) h d e) := by
  unfold rowOf
  blk_ext [iblk, V, idx t]

/-- The next state of row `b`, head `h`, from the arguments. -/
def NS (a0 : (⟨2, ![8, 1024]⟩ : Shape).Idx → EReal) (a1 : (⟨2, ![8, 2048]⟩ : Shape).Idx → EReal)
    (a3 : (⟨4, ![8, 4, 128, 256]⟩ : Shape).Idx → EReal) (b : Fin 8) (h : Fin 4) (d : Fin 128) (e : Fin 256) : EReal :=
  stepS (lgam h) (fun d => a0 (ix2 b (⟨512 + (h.val * 128 + d.val), by omega⟩ : Fin 1024)) * cSc)
    (fun e => a1 (ix2 b (⟨h.val * 256 + e.val, by omega⟩ : Fin 2048))) (fun d e => a3 (ix4 b h d e)) d e

/-- The normalised, gated output of row `b`, head `h`, from the arguments. -/
def NO (a0 : (⟨2, ![8, 1024]⟩ : Shape).Idx → EReal) (a1 : (⟨2, ![8, 2048]⟩ : Shape).Idx → EReal)
    (a2 : (⟨2, ![4, 256]⟩ : Shape).Idx → EReal)
    (a3 : (⟨4, ![8, 4, 128, 256]⟩ : Shape).Idx → EReal) (b : Fin 8) (h : Fin 4) (e : Fin 256) : EReal :=
  normGate (stepO (lgam h) (fun d => a0 (ix2 b (⟨h.val * 128 + d.val, by omega⟩ : Fin 1024)))
      (fun d => a0 (ix2 b (⟨512 + (h.val * 128 + d.val), by omega⟩ : Fin 1024)) * cSc)
      (fun e => a1 (ix2 b (⟨h.val * 256 + e.val, by omega⟩ : Fin 2048))) (fun d e => a3 (ix4 b h d e)))
    (a2 (ix2 h e)) (a1 (ix2 b (⟨1024 + (h.val * 256 + e.val), by omega⟩ : Fin 2048))) e

/-- A point's next state, over the arguments. -/
theorem blkS_at (t : Fin cfg0.N) (h : Fin 4) (d : Fin 128) (e : Fin 256) :
    blkS (iblk m c 1 t) (iblk m c 2 t) (iblk m c 4 t) (fun h d e => iblk m c 6 t (ix4 (0 : Fin 1) h d e)) h d e
      = NS (A0 m c) (A1 m c) (A3 m c) (rowOf t) h d e := by
  unfold blkS NS
  simp only [k_blk, v_blk, lg_blk, s_blk]

/-- A point's output at its live position, over the arguments. -/
theorem blkN_at (t : Fin cfg0.N) (h : Fin 4) (e : Fin 256) :
    blkN (iblk m c 0 t) (iblk m c 1 t) (iblk m c 2 t) (iblk m c 3 t) (iblk m c 4 t) (iblk m c 5 t) (fun h d e => iblk m c 6 t (ix4 (0 : Fin 1) h d e)) h 0 e
      = NO (A0 m c) (A1 m c) (A2 m c) (A3 m c) (rowOf t) h e := by
  unfold blkN NO
  rw [show ∀ lg q k v S, outRow lg q k v S 0 = stepO lg (q 0) (k 0) (v 0) S from fun lg q k v S => funext fun e => outRow_zero lg q k v S e]
  simp only [q_blk, k_blk, v_blk, lg_blk, g_blk, gd_blk, s_blk]

/-- The array of the second result after the launch. -/
theorem final8 : (dats m 0 c).arrAt 8 (cfgs 0).N
    = fun i => NS (A0 m c) (A1 m c) (A3 m c) (i 0) (i 1) (i 2) (i 3) := by
  refine (dats m 0 c).arrAt_eq_of_covers 8 _ (by decide +kernel) fun t _ y => ?_
  blk_simp
  rw [after0_8]
  have ht : t.val < 8 := lt_of_lt_of_eq t.isLt N_0
  unfold outsAt0
  dsimp only
  refine (out0_A_8_at (y := y) (h := y 1) (d := y 2) (e := y 3) (hy := ?_) ..).trans ?_
  · have h0 : y 0 = (0 : Fin 1) := Subsingleton.elim (α := Fin 1) _ _
    exact (eq_ix4 y).trans (congrArg (fun a : Fin 1 => (ix4 a (y 1) (y 2) (y 3) : S1x4x128x256.Idx)) h0)
  refine (blkS_at m c t (y 1) (y 2) (y 3)).trans ?_
  have key : ∀ (b b' : Fin 8) (h h' : Fin 4) (d d' : Fin 128) (e e' : Fin 256), b = b' → h = h' → d = d' → e = e' →
      NS (A0 m c) (A1 m c) (A3 m c) b h d e = NS (A0 m c) (A1 m c) (A3 m c) b' h' d' e' := by
    rintro _ _ _ _ _ _ _ _ rfl rfl rfl rfl; rfl
  unfold rowOf
  refine key _ _ _ _ _ _ _ _ (Fin.ext ?_) (Fin.ext ?_) (Fin.ext ?_) (Fin.ext ?_) <;> blk_simp [idx t]

/-- The array of the first result after the launch, as what each point leaves. -/
theorem final7 : (dats m 0 c).arrAt 7 (cfgs 0).N
    = fun i => (outsAt0 m c (⟨(i 0).val, lt_of_lt_of_eq (i 0).isLt N_0.symm⟩ : Fin cfg0.N)).1 (ix3 (0 : Fin 1) (i 1) (i 2)) := by
  refine (dats m 0 c).arrAt_eq_of_covers 7 _ (by decide +kernel) fun t _ y => ?_
  blk_simp
  rw [after0_7]
  have ht : t.val < 8 := lt_of_lt_of_eq t.isLt N_0
  have key : ∀ (t' : Fin cfg0.N) (y' : S1x128x1024.Idx), t' = t → y' = y → (outsAt0 m c t).1 y = (outsAt0 m c t').1 y' := by
    rintro _ _ rfl rfl; rfl
  refine key _ _ (Fin.ext ?_) ?_
  · blk_simp [idx t]
  · funext a; apply Fin.ext
    match a with
    | ⟨0, _⟩ => have h0 : (y 0).val < 1 := (y 0).isLt
                show 0 = (y 0).val; omega
    | ⟨1, _⟩ => blk_simp [idx t]; rfl
    | ⟨2, _⟩ => blk_simp [idx t]; rfl

/-- The first result's array at the live position of a row. -/
theorem final7_at (b : Fin 8) (l : Fin 1024) : (dats m 0 c).arrAt 7 (cfgs 0).N (ix3 b (0 : Fin 128) l)
    = NO (A0 m c) (A1 m c) (A2 m c) (A3 m c) b (⟨l.val / 256, by omega⟩ : Fin 4) (⟨l.val % 256, by omega⟩ : Fin 256) := by
  rw [final7]
  unfold outsAt0
  dsimp only
  refine (out0_A_7_at (h := (⟨l.val / 256, by omega⟩ : Fin 4)) (t := 0) (e := (⟨l.val % 256, by omega⟩ : Fin 256)) (hy1 := ?_) (hy2 := ?_) ..).trans ?_
  · rfl
  · show l.val = l.val / 256 * 256 + l.val % 256; omega
  exact blkN_at m c _ _ _

/-- The first result. -/
theorem out0 : Pipeline.afterTail₀ cfgs (dats m) 0 (V0 m) [hostOps1] c main_v16
    = fun i => NO (A0 m c) (A1 m c) (A2 m c) (A3 m c) (i 0) (⟨(i 1).val / 256, by have : (i 1).val < 1024 := (i 1).isLt; omega⟩ : Fin 4) (⟨(i 1).val % 256, by omega⟩ : Fin 256) := by
  have e : Pipeline.withArrays spec0 c (V0 m c) (fun w => (dats m 0 c).arrAt w (cfgs 0).N) (Proc.devRef .tc main_v14_0)
      = (dats m 0 c).arrAt 7 (cfgs 0).N := Pipeline.Dat.withArrays_arrAt (dats m 0 c) sharedIn0 (V0 m c) (fun w => A_eq m c w) 7
  unfold Pipeline.afterTail₀
  simp only [hostOps1, List.flatten_cons, List.flatten_nil, List.append_nil, List.cons_append, List.nil_append]
  entry_read
  funext i
  rw [← ix2_eta i]
  refine Eq.trans ?_ (final7_at m c (i 0) (i 1))
  rw [← e]
  pointwise

end Cert.KernelRetsIdeal.Ret

namespace Cert.ReferenceRetsIdeal.Pt
open Cert.ReferenceRetsIdeal Cert.ReferenceRetsIdeal.Gen
variable (m : (ℓ : Loc nD τ sig) → Buf (Elt Ideal) ℓ)

/-- The reference leaves its arguments unchanged, and it has no semaphores. -/
theorem frame : Cert.quiescent_ReferenceRetsIdeal (hReferenceRetsIdeal := Cert.ReferenceRetsIdeal.Gen.facts) := by
  intro m ρ _
  refine (θ_run _ _ _).mono (fun r h => ⟨fun c => (h c).2.2, ?_⟩) (Cert.ReferenceRetsIdeal.Value.run m ρ)
  exact sem_eq_zero_of_no_sems rfl _

/-- The output before normalising, with the tests that a position is not after itself. -/
theorem stepO_if (lg : EReal) (q k : Fin 128 → EReal) (v : Fin 256 → EReal) (S : Fin 128 → Fin 256 → EReal) :
    Cert.KernelRetsIdeal.Ret.stepO lg q k v S = fun e => ((∑ y, q y * k y)
      * if 0 ≤ tv 0 - tv 0 then Ideal.exp ((if 0 ≤ tv 0 - tv 0 then tv 0 - tv 0 else 0) * lg) else 0) * v e
      + Ideal.exp ((tv 0 + 1) * lg) * ∑ x, q x * S x e := by
  have h : (0 : EReal) ≤ tv 0 - tv 0 := by rw [Cert.KernelRetsIdeal.Ret.tv_zero]; simp
  funext e
  rw [if_pos h, if_pos h]
  rfl

/-- The reference's output at an element. -/
theorem ref_out (c : Dev nD) (b : Fin 8) (h : Fin 4) (e : Fin 256) :
    Value.res_main_v97 (F := Ideal) m c (ix2 b (⟨h.val * 256 + e.val, by omega⟩ : Fin 1024))
      = Cert.KernelRetsIdeal.Ret.NO (m ((c : Thread nD τ).loc main_arg0)) (m ((c : Thread nD τ).loc main_arg1)) (m ((c : Thread nD τ).loc main_arg2)) (m ((c : Thread nD τ).loc main_arg3)) b h e := by
  unfold Cert.KernelRetsIdeal.Ret.NO normGate
  simp only [stepO_if]
  unfold cSc lgam tv c256 cEps
  pointwise [Value.res_main_v97]
  have hz : (id (constant (F := Ideal) S_ .f32 0x00000000#32) ix0 : EReal) = 0 := Ideal.ofBits_zero_f32
  simp only [hz, Finset.univ_unique, Finset.sum_singleton]

/-- Over the extended reals the launch leaves what one step of the retention gives. -/
theorem same : Cert.algebraic_KernelRetsIdeal_ReferenceRetsIdeal (hKernelRetsIdeal := Cert.KernelRetsIdeal.Gen.facts) (hReferenceRetsIdeal := Cert.ReferenceRetsIdeal.Gen.facts) := by
  pair_intro
  · run_from Cert.KernelRetsIdeal.Gen.run_main m g
    · exact Cert.KernelRetsIdeal.Gen.W_main_arg0 m (Cert.KernelRetsIdeal.Gen.dats m) c
    · exact Cert.KernelRetsIdeal.Gen.W_main_arg1 m (Cert.KernelRetsIdeal.Gen.dats m) c
    · exact Cert.KernelRetsIdeal.Gen.W_main_arg2 m (Cert.KernelRetsIdeal.Gen.dats m) c
  · run_from Cert.ReferenceRetsIdeal.Value.run m' g'
    · refine Eq.trans (funext fun i => ?_) (Cert.KernelRetsIdeal.Ret.out0 m c).symm
      rw [← ix2_eta i]
      have hi : (i 1).val < 1024 := (i 1).isLt
      have key := ref_out m' c (i 0) (⟨(i 1).val / 256, by omega⟩ : Fin 4) (⟨(i 1).val % 256, by omega⟩ : Fin 256)
      rw [(hagree c).1, (hagree c).2.1, (hagree c).2.2.1, (hagree c).2.2.2] at key
      refine Eq.trans (congrArg (Value.res_main_v97 (F := Ideal) m' c) ?_) key
      refine congrArg (ix2 (i 0)) (Fin.ext ?_)
      show (i 1).val = (i 1).val / 256 * 256 + (i 1).val % 256
      omega
    · refine Eq.trans (funext fun i => ?_) ((Cert.KernelRetsIdeal.Ret.final8 m c).trans rfl).symm
      obtain ⟨b, h, d, e, rfl⟩ : ∃ (b : Fin 8) (h : Fin 4) (d : Fin 128) (e : Fin 256), i = ix4 b h d e := ⟨i 0, i 1, i 2, i 3, eq_ix4 i⟩
      show _ = Cert.KernelRetsIdeal.Ret.NS (Cert.KernelRetsIdeal.Ret.A0 m c) (Cert.KernelRetsIdeal.Ret.A1 m c) (Cert.KernelRetsIdeal.Ret.A3 m c) b h d e
      unfold Cert.KernelRetsIdeal.Ret.NS Cert.KernelRetsIdeal.Ret.stepS Cert.KernelRetsIdeal.Ret.A0 Cert.KernelRetsIdeal.Ret.A1 Cert.KernelRetsIdeal.Ret.A3 cSc lgam tv
      pointwise
      simp only [Finset.univ_unique, Finset.sum_singleton]
      rw [mul_comm (Ideal.exp ((0 - _) * _)) _]
end Cert.ReferenceRetsIdeal.Pt
-- ==== Proof.MlsHeads.lean ====
module

public import proofs.«01_k».proof.Proof.Gen.KernelMlsIdeal.Skeleton
public import Idealize.ShloMosaic.Lib.Pointwise
public import Idealize.ShloMosaic.Lib.Tactic

@[expose] public section
set_option maxRecDepth 16384

/-! # What the sample's mLSTM stores for one head

The launch does the same work for each of its eight heads.  Here the three states a head stores (matrix, normaliser,
maximum) are written as functions of the blocks it reads, and the eight heads are shown to be the same functions. -/

noncomputable section
open Idealize.ShloMosaic Idealize.ShloMosaic.TcCoe Idealize.SL.Sem
namespace Cert.KernelMlsIdeal.Ret
open Cert.KernelMlsIdeal Cert.KernelMlsIdeal.Gen

/-- The state matrix the first head stores, from the blocks it reads. -/
def headC (k v c : Vec Ideal S1x128x128 .f32) (ig fg : Vec Ideal S1x1x1x128 .f32) (bi bf : Vec Ideal S1x1x1 .f32) (m : Vec Ideal S1x1x1 .f32) : FVec Ideal S1x128x128 .f32 :=
  k0_pay42 (k0_pay12 k) (k0_pay13 v) (k0_pay18 c) (k0_pay38 (k0_pay20 m) (k0_pay25 (iota .tc S1x128 32 [1] iota_S1x128_d1_w32) (k0_pay23 (k0_pay16 fg bf)) k0_pay24 4#32) (k0_pay29 (k0_pay20 m) (iota .tc S1x128 32 [1] iota_S1x128_d1_w32) (k0_pay27 (k0_pay22 (k0_pay15 ig bi)) (iota .tc S1x128 32 [1] iota_S1x128_d1_w32) (k0_pay23 (k0_pay16 fg bf)) k0_pay24 4#32) (k0_pay28 (k0_pay22 (k0_pay15 ig bi)) (iota .tc S1x128 32 [1] iota_S1x128_d1_w32) (k0_pay23 (k0_pay16 fg bf)) k0_pay24 4#32))) (k0_pay40 (k0_pay22 (k0_pay15 ig bi)) (k0_pay25 (iota .tc S1x128 32 [1] iota_S1x128_d1_w32) (k0_pay23 (k0_pay16 fg bf)) k0_pay24 4#32) (k0_pay29 (k0_pay20 m) (iota .tc S1x128 32 [1] iota_S1x128_d1_w32) (k0_pay27 (k0_pay22 (k0_pay15 ig bi)) (iota .tc S1x128 32 [1] iota_S1x128_d1_w32) (k0_pay23 (k0_pay16 fg bf)) k0_pay24 4#32) (k0_pay28 (k0_pay22 (k0_pay15 ig bi)) (iota .tc S1x128 32 [1] iota_S1x128_d1_w32) (k0_pay23 (k0_pay16 fg bf)) k0_pay24 4#32)))

/-- The normaliser the first head stores, from the blocks it reads. -/
def headN (k : Vec Ideal S1x128x128 .f32) (ig fg : Vec Ideal S1x1x1x128 .f32) (bi bf : Vec Ideal S1x1x1 .f32) (n : Vec Ideal S1x1x128 .f32) (m : Vec Ideal S1x1x1 .f32) : FVec Ideal S1x1x128 .f32 :=
  k0_pay43 (k0_pay12 k) (k0_pay19 n) (k0_pay38 (k0_pay20 m) (k0_pay25 (iota .tc S1x128 32 [1] iota_S1x128_d1_w32) (k0_pay23 (k0_pay16 fg bf)) k0_pay24 4#32) (k0_pay29 (k0_pay20 m) (iota .tc S1x128 32 [1] iota_S1x128_d1_w32) (k0_pay27 (k0_pay22 (k0_pay15 ig bi)) (iota .tc S1x128 32 [1] iota_S1x128_d1_w32) (k0_pay23 (k0_pay16 fg bf)) k0_pay24 4#32) (k0_pay28 (k0_pay22 (k0_pay15 ig bi)) (iota .tc S1x128 32 [1] iota_S1x128_d1_w32) (k0_pay23 (k0_pay16 fg bf)) k0_pay24 4#32))) (k0_pay39 (k0_pay22 (k0_pay15 ig bi)) (k0_pay25 (iota .tc S1x128 32 [1] iota_S1x128_d1_w32) (k0_pay23 (k0_pay16 fg bf)) k0_pay24 4#32) (k0_pay29 (k0_pay20 m) (iota .tc S1x128 32 [1] iota_S1x128_d1_w32) (k0_pay27 (k0_pay22 (k0_pay15 ig bi)) (iota .tc S1x128 32 [1] iota_S1x128_d1_w32) (k0_pay23 (k0_pay16 fg bf)) k0_pay24 4#32) (k0_pay28 (k0_pay22 (k0_pay15 ig bi)) (iota .tc S1x128 32 [1] iota_S1x128_d1_w32) (k0_pay23 (k0_pay16 fg bf)) k0_pay24 4#32)))

/-- The maximum the first head stores, from the blocks it reads. -/
def headM (ig fg : Vec Ideal S1x1x1x128 .f32) (bi bf : Vec Ideal S1x1x1 .f32) (m : Vec Ideal S1x1x1 .f32) : FVec Ideal S1x1x1 .f32 :=
  k0_pay44 (k0_pay37 (k0_pay25 (iota .tc S1x128 32 [1] iota_S1x128_d1_w32) (k0_pay23 (k0_pay16 fg bf)) k0_pay24 4#32) (k0_pay29 (k0_pay20 m) (iota .tc S1x128 32 [1] iota_S1x128_d1_w32) (k0_pay27 (k0_pay22 (k0_pay15 ig bi)) (iota .tc S1x128 32 [1] iota_S1x128_d1_w32) (k0_pay23 (k0_pay16 fg bf)) k0_pay24 4#32) (k0_pay28 (k0_pay22 (k0_pay15 ig bi)) (iota .tc S1x128 32 [1] iota_S1x128_d1_w32) (k0_pay23 (k0_pay16 fg bf)) k0_pay24 4#32)))

/-! The state matrix of the other heads is the same function of their own blocks. -/

theorem head1C (k v c : Vec Ideal S1x128x128 .f32) (ig fg : Vec Ideal S1x1x1x128 .f32) (bi bf : Vec Ideal S1x1x1 .f32) (m : Vec Ideal S1x1x1 .f32) :
    k0_pay80 (k0_pay76 (k0_pay47 (k0_pay46 k)) (k0_pay48 v) (k0_pay53 c) (k0_pay55 m) (k0_pay57 (k0_pay50 ig bi)) (k0_pay60 (iota .tc S1x128 32 [1] iota_S1x128_d1_w32) (k0_pay58 (k0_pay51 fg bf) (Scalar.ofBits .f32 0x00000000#32)) k0_pay59 16#32) (k0_pay64 (k0_pay55 m) (iota .tc S1x128 32 [1] iota_S1x128_d1_w32) (k0_pay62 (k0_pay57 (k0_pay50 ig bi)) (iota .tc S1x128 32 [1] iota_S1x128_d1_w32) (k0_pay58 (k0_pay51 fg bf) (Scalar.ofBits .f32 0x00000000#32)) k0_pay59 16#32) (k0_pay63 (k0_pay57 (k0_pay50 ig bi)) (iota .tc S1x128 32 [1] iota_S1x128_d1_w32) (k0_pay58 (k0_pay51 fg bf) (Scalar.ofBits .f32 0x00000000#32)) k0_pay59 16#32)))
      = headC k v c ig fg bi bf m := rfl

theorem head2C (k v c : Vec Ideal S1x128x128 .f32) (ig fg : Vec Ideal S1x1x1x128 .f32) (bi bf : Vec Ideal S1x1x1 .f32) (m : Vec Ideal S1x1x1 .f32) :
    k0_pay114 (k0_pay84 k) (k0_pay85 v) (k0_pay88 c) (k0_pay90 m) (k0_pay93 ig bi) (k0_pay97 (k0_pay95 (k0_pay91 fg bf) k0_pay92 (k0_pay94 (F := Ideal))) k0_pay96 64#32) (k0_pay101 (k0_pay90 m) (iota .tc S1x128 32 [1] iota_S1x128_d1_w32) (k0_pay99 (k0_pay93 ig bi) (k0_pay95 (k0_pay91 fg bf) k0_pay92 (k0_pay94 (F := Ideal))) k0_pay96 64#32) (k0_pay100 (k0_pay93 ig bi) (k0_pay95 (k0_pay91 fg bf) k0_pay92 (k0_pay94 (F := Ideal))) k0_pay96 64#32))
      = headC k v c ig fg bi bf m := rfl

theorem head3C (k v c : Vec Ideal S1x128x128 .f32) (ig fg : Vec Ideal S1x1x1x128 .f32) (bi bf : Vec Ideal S1x1x1 .f32) (m : Vec Ideal S1x1x1 .f32) :
    k0_pay154 (k0_pay118 k) (k0_pay119 v) (k0_pay124 c) (k0_pay149 (k0_pay126 m) (k0_pay133 (iota .tc S1x128 32 [1] iota_S1x128_d1_w32) (k0_pay129 (k0_pay122 fg) bf) k0_pay130 (k0_pay131 (k0_pay122 fg) bf) (k0_pay132 (F := Ideal))) (k0_pay137 (k0_pay126 m) (iota .tc S1x128 32 [1] iota_S1x128_d1_w32) (k0_pay135 (k0_pay128 (k0_pay121 ig bi)) (iota .tc S1x128 32 [1] iota_S1x128_d1_w32) (k0_pay129 (k0_pay122 fg) bf) k0_pay130 (k0_pay131 (k0_pay122 fg) bf) (k0_pay132 (F := Ideal))) k0_pay136)) k0_pay150 (k0_pay151 (k0_pay128 (k0_pay121 ig bi)) (k0_pay133 (iota .tc S1x128 32 [1] iota_S1x128_d1_w32) (k0_pay129 (k0_pay122 fg) bf) k0_pay130 (k0_pay131 (k0_pay122 fg) bf) (k0_pay132 (F := Ideal))) (k0_pay137 (k0_pay126 m) (iota .tc S1x128 32 [1] iota_S1x128_d1_w32) (k0_pay135 (k0_pay128 (k0_pay121 ig bi)) (iota .tc S1x128 32 [1] iota_S1x128_d1_w32) (k0_pay129 (k0_pay122 fg) bf) k0_pay130 (k0_pay131 (k0_pay122 fg) bf) (k0_pay132 (F := Ideal))) k0_pay136)) (Scalar.ofBits .f32 0x00000000#32)
      = headC k v c ig fg bi bf m := rfl

theorem head4C (k v c : Vec Ideal S1x128x128 .f32) (ig fg : Vec Ideal S1x1x1x128 .f32) (bi bf : Vec Ideal S1x1x1 .f32) (m : Vec Ideal S1x1x1 .f32) :
    k0_pay192 (k0_pay188 (k0_pay158 k) (k0_pay159 v) (k0_pay164 c) (k0_pay166 m) (k0_pay168 (k0_pay161 ig bi)) (k0_pay173 (iota .tc S1x128 32 [1] iota_S1x128_d1_w32) (k0_pay169 (k0_pay162 fg bf)) k0_pay170 (k0_pay171 (k0_pay162 fg bf)) (k0_pay172 (F := Ideal))) (k0_pay177 (k0_pay166 m) (iota .tc S1x128 32 [1] iota_S1x128_d1_w32) (k0_pay175 (k0_pay168 (k0_pay161 ig bi)) (iota .tc S1x128 32 [1] iota_S1x128_d1_w32) (k0_pay169 (k0_pay162 fg bf)) k0_pay170 (k0_pay171 (k0_pay162 fg bf)) (k0_pay172 (F := Ideal))) k0_pay176))
      = headC k v c ig fg bi bf m := rfl

theorem head5C (k v c : Vec Ideal S1x128x128 .f32) (ig fg : Vec Ideal S1x1x1x128 .f32) (bi bf : Vec Ideal S1x1x1 .f32) (m : Vec Ideal S1x1x1 .f32) :
    k0_pay231 (k0_pay228 (k0_pay196 k) (k0_pay197 v) (k0_pay201 c) (k0_pay203 m) (k0_pay207 (k0_pay199 ig bi) (iota .tc S1x128 32 [1] iota_S1x128_d1_w32) k0_pay205) (k0_pay212 (iota .tc S1x128 32 [1] iota_S1x128_d1_w32) (k0_pay208 (k0_pay204 fg bf) (iota .tc S1x128 32 [1] iota_S1x128_d1_w32) k0_pay205) k0_pay209 (k0_pay210 (k0_pay204 fg bf) (iota .tc S1x128 32 [1] iota_S1x128_d1_w32) k0_pay205) (k0_pay211 (F := Ideal))) (k0_pay216 (k0_pay203 m) (iota .tc S1x128 32 [1] iota_S1x128_d1_w32) (k0_pay214 (k0_pay207 (k0_pay199 ig bi) (iota .tc S1x128 32 [1] iota_S1x128_d1_w32) k0_pay205) (iota .tc S1x128 32 [1] iota_S1x128_d1_w32) (k0_pay208 (k0_pay204 fg bf) (iota .tc S1x128 32 [1] iota_S1x128_d1_w32) k0_pay205) k0_pay209 (k0_pay210 (k0_pay204 fg bf) (iota .tc S1x128 32 [1] iota_S1x128_d1_w32) k0_pay205) (k0_pay211 (F := Ideal))) k0_pay215))
      = headC k v c ig fg bi bf m := rfl

theorem head6C (k v c : Vec Ideal S1x128x128 .f32) (ig fg : Vec Ideal S1x1x1x128 .f32) (bi bf : Vec Ideal S1x1x1 .f32) (m : Vec Ideal S1x1x1 .f32) :
    k0_pay265 (k0_pay235 k) (k0_pay236 v) (k0_pay240 c) (k0_pay261 (k0_pay242 m) (k0_pay246 (iota .tc S1x128 32 [1] iota_S1x128_d1_w32) (k0_pay245 fg bf) 2#32) (k0_pay250 (k0_pay242 m) (k0_pay247 (k0_pay244 (k0_pay238 ig bi)) (iota .tc S1x128 32 [1] iota_S1x128_d1_w32) (k0_pay245 fg bf) 2#32) (iota .tc S1x128 32 [1] iota_S1x128_d1_w32) k0_pay248 (k0_pay249 (k0_pay244 (k0_pay238 ig bi)) (iota .tc S1x128 32 [1] iota_S1x128_d1_w32) (k0_pay245 fg bf) 2#32))) (k0_pay262 (k0_pay244 (k0_pay238 ig bi)) (k0_pay246 (iota .tc S1x128 32 [1] iota_S1x128_d1_w32) (k0_pay245 fg bf) 2#32) (k0_pay250 (k0_pay242 m) (k0_pay247 (k0_pay244 (k0_pay238 ig bi)) (iota .tc S1x128 32 [1] iota_S1x128_d1_w32) (k0_pay245 fg bf) 2#32) (iota .tc S1x128 32 [1] iota_S1x128_d1_w32) k0_pay248 (k0_pay249 (k0_pay244 (k0_pay238 ig bi)) (iota .tc S1x128 32 [1] iota_S1x128_d1_w32) (k0_pay245 fg bf) 2#32)))
      = headC k v c ig fg bi bf m := rfl

theorem head7C (k v c : Vec Ideal S1x128x128 .f32) (ig fg : Vec Ideal S1x1x1x128 .f32) (bi bf : Vec Ideal S1x1x1 .f32) (m : Vec Ideal S1x1x1 .f32) :
    k0_pay2 (k0_pay300 (k0_pay297 (k0_pay275 c) (k0_pay277 m) (k0_pay281 (iota .tc S1x128 32 [1] iota_S1x128_d1_w32) (k0_pay280 (k0_pay273 fg bf)) 8#32) (k0_pay286 (k0_pay277 m) (iota .tc S1x128 32 [1] iota_S1x128_d1_w32) (k0_pay283 (k0_pay279 (k0_pay272 ig bi)) (iota .tc S1x128 32 [1] iota_S1x128_d1_w32) (k0_pay280 (k0_pay273 fg bf)) 8#32) k0_pay284 (k0_pay285 (k0_pay279 (k0_pay272 ig bi)) (iota .tc S1x128 32 [1] iota_S1x128_d1_w32) (k0_pay280 (k0_pay273 fg bf)) 8#32))) (k0_pay298 (k0_pay269 k) (k0_pay279 (k0_pay272 ig bi)) (k0_pay281 (iota .tc S1x128 32 [1] iota_S1x128_d1_w32) (k0_pay280 (k0_pay273 fg bf)) 8#32) (k0_pay286 (k0_pay277 m) (iota .tc S1x128 32 [1] iota_S1x128_d1_w32) (k0_pay283 (k0_pay279 (k0_pay272 ig bi)) (iota .tc S1x128 32 [1] iota_S1x128_d1_w32) (k0_pay280 (k0_pay273 fg bf)) 8#32) k0_pay284 (k0_pay285 (k0_pay279 (k0_pay272 ig bi)) (iota .tc S1x128 32 [1] iota_S1x128_d1_w32) (k0_pay280 (k0_pay273 fg bf)) 8#32))) (k0_pay299 (k0_pay270 v)))
      = headC k v c ig fg bi bf m := rfl

/-! The normaliser of the other heads is the same function of their own blocks. -/

theorem head1N (k : Vec Ideal S1x128x128 .f32) (ig fg : Vec Ideal S1x1x1x128 .f32) (bi bf : Vec Ideal S1x1x1 .f32) (n : Vec Ideal S1x1x128 .f32) (m : Vec Ideal S1x1x1 .f32) :
    k0_pay81 (k0_pay77 (k0_pay54 n) (k0_pay55 m) (k0_pay60 (iota .tc S1x128 32 [1] iota_S1x128_d1_w32) (k0_pay58 (k0_pay51 fg bf) (Scalar.ofBits .f32 0x00000000#32)) k0_pay59 16#32) (k0_pay64 (k0_pay55 m) (iota .tc S1x128 32 [1] iota_S1x128_d1_w32) (k0_pay62 (k0_pay57 (k0_pay50 ig bi)) (iota .tc S1x128 32 [1] iota_S1x128_d1_w32) (k0_pay58 (k0_pay51 fg bf) (Scalar.ofBits .f32 0x00000000#32)) k0_pay59 16#32) (k0_pay63 (k0_pay57 (k0_pay50 ig bi)) (iota .tc S1x128 32 [1] iota_S1x128_d1_w32) (k0_pay58 (k0_pay51 fg bf) (Scalar.ofBits .f32 0x00000000#32)) k0_pay59 16#32))) (k0_pay78 (k0_pay47 (k0_pay46 k)) (k0_pay57 (k0_pay50 ig bi)) (k0_pay60 (iota .tc S1x128 32 [1] iota_S1x128_d1_w32) (k0_pay58 (k0_pay51 fg bf) (Scalar.ofBits .f32 0x00000000#32)) k0_pay59 16#32) (k0_pay64 (k0_pay55 m) (iota .tc S1x128 32 [1] iota_S1x128_d1_w32) (k0_pay62 (k0_pay57 (k0_pay50 ig bi)) (iota .tc S1x128 32 [1] iota_S1x128_d1_w32) (k0_pay58 (k0_pay51 fg bf) (Scalar.ofBits .f32 0x00000000#32)) k0_pay59 16#32) (k0_pay63 (k0_pay57 (k0_pay50 ig bi)) (iota .tc S1x128 32 [1] iota_S1x128_d1_w32) (k0_pay58 (k0_pay51 fg bf) (Scalar.ofBits .f32 0x00000000#32)) k0_pay59 16#32)))
      = headN k ig fg bi bf n m := rfl

theorem head2N (k : Vec Ideal S1x128x128 .f32) (ig fg : Vec Ideal S1x1x1x128 .f32) (bi bf : Vec Ideal S1x1x1 .f32) (n : Vec Ideal S1x1x128 .f32) (m : Vec Ideal S1x1x1 .f32) :
    k0_pay115 (k0_pay112 (k0_pay84 k) (k0_pay89 n) (k0_pay90 m) (k0_pay93 ig bi) (k0_pay97 (k0_pay95 (k0_pay91 fg bf) k0_pay92 (k0_pay94 (F := Ideal))) k0_pay96 64#32) (k0_pay101 (k0_pay90 m) (iota .tc S1x128 32 [1] iota_S1x128_d1_w32) (k0_pay99 (k0_pay93 ig bi) (k0_pay95 (k0_pay91 fg bf) k0_pay92 (k0_pay94 (F := Ideal))) k0_pay96 64#32) (k0_pay100 (k0_pay93 ig bi) (k0_pay95 (k0_pay91 fg bf) k0_pay92 (k0_pay94 (F := Ideal))) k0_pay96 64#32)))
      = headN k ig fg bi bf n m := rfl

theorem head3N (k : Vec Ideal S1x128x128 .f32) (ig fg : Vec Ideal S1x1x1x128 .f32) (bi bf : Vec Ideal S1x1x1 .f32) (n : Vec Ideal S1x1x128 .f32) (m : Vec Ideal S1x1x1 .f32) :
    k0_pay155 (k0_pay118 k) (k0_pay125 n) (k0_pay149 (k0_pay126 m) (k0_pay133 (iota .tc S1x128 32 [1] iota_S1x128_d1_w32) (k0_pay129 (k0_pay122 fg) bf) k0_pay130 (k0_pay131 (k0_pay122 fg) bf) (k0_pay132 (F := Ideal))) (k0_pay137 (k0_pay126 m) (iota .tc S1x128 32 [1] iota_S1x128_d1_w32) (k0_pay135 (k0_pay128 (k0_pay121 ig bi)) (iota .tc S1x128 32 [1] iota_S1x128_d1_w32) (k0_pay129 (k0_pay122 fg) bf) k0_pay130 (k0_pay131 (k0_pay122 fg) bf) (k0_pay132 (F := Ideal))) k0_pay136)) k0_pay150 (k0_pay151 (k0_pay128 (k0_pay121 ig bi)) (k0_pay133 (iota .tc S1x128 32 [1] iota_S1x128_d1_w32) (k0_pay129 (k0_pay122 fg) bf) k0_pay130 (k0_pay131 (k0_pay122 fg) bf) (k0_pay132 (F := Ideal))) (k0_pay137 (k0_pay126 m) (iota .tc S1x128 32 [1] iota_S1x128_d1_w32) (k0_pay135 (k0_pay128 (k0_pay121 ig bi)) (iota .tc S1x128 32 [1] iota_S1x128_d1_w32) (k0_pay129 (k0_pay122 fg) bf) k0_pay130 (k0_pay131 (k0_pay122 fg) bf) (k0_pay132 (F := Ideal))) k0_pay136)) (Scalar.ofBits .f32 0x00000000#32)
      = headN k ig fg bi bf n m := rfl

theorem head4N (k : Vec Ideal S1x128x128 .f32) (ig fg : Vec Ideal S1x1x1x128 .f32) (bi bf : Vec Ideal S1x1x1 .f32) (n : Vec Ideal S1x1x128 .f32) (m : Vec Ideal S1x1x1 .f32) :
    k0_pay193 (k0_pay158 k) (k0_pay189 (k0_pay165 n) (k0_pay166 m) (k0_pay173 (iota .tc S1x128 32 [1] iota_S1x128_d1_w32) (k0_pay169 (k0_pay162 fg bf)) k0_pay170 (k0_pay171 (k0_pay162 fg bf)) (k0_pay172 (F := Ideal))) (k0_pay177 (k0_pay166 m) (iota .tc S1x128 32 [1] iota_S1x128_d1_w32) (k0_pay175 (k0_pay168 (k0_pay161 ig bi)) (iota .tc S1x128 32 [1] iota_S1x128_d1_w32) (k0_pay169 (k0_pay162 fg bf)) k0_pay170 (k0_pay171 (k0_pay162 fg bf)) (k0_pay172 (F := Ideal))) k0_pay176)) (k0_pay190 (k0_pay168 (k0_pay161 ig bi)) (k0_pay173 (iota .tc S1x128 32 [1] iota_S1x128_d1_w32) (k0_pay169 (k0_pay162 fg bf)) k0_pay170 (k0_pay171 (k0_pay162 fg bf)) (k0_pay172 (F := Ideal))) (k0_pay177 (k0_pay166 m) (iota .tc S1x128 32 [1] iota_S1x128_d1_w32) (k0_pay175 (k0_pay168 (k0_pay161 ig bi)) (iota .tc S1x128 32 [1] iota_S1x128_d1_w32) (k0_pay169 (k0_pay162 fg bf)) k0_pay170 (k0_pay171 (k0_pay162 fg bf)) (k0_pay172 (F := Ideal))) k0_pay176))
      = headN k ig fg bi bf n m := rfl

theorem head5N (k : Vec Ideal S1x128x128 .f32) (ig fg : Vec Ideal S1x1x1x128 .f32) (bi bf : Vec Ideal S1x1x1 .f32) (n : Vec Ideal S1x1x128 .f32) (m : Vec Ideal S1x1x1 .f32) :
    k0_pay232 (k0_pay229 (k0_pay196 k) (k0_pay202 n) (k0_pay203 m) (k0_pay207 (k0_pay199 ig bi) (iota .tc S1x128 32 [1] iota_S1x128_d1_w32) k0_pay205) (k0_pay212 (iota .tc S1x128 32 [1] iota_S1x128_d1_w32) (k0_pay208 (k0_pay204 fg bf) (iota .tc S1x128 32 [1] iota_S1x128_d1_w32) k0_pay205) k0_pay209 (k0_pay210 (k0_pay204 fg bf) (iota .tc S1x128 32 [1] iota_S1x128_d1_w32) k0_pay205) (k0_pay211 (F := Ideal))) (k0_pay216 (k0_pay203 m) (iota .tc S1x128 32 [1] iota_S1x128_d1_w32) (k0_pay214 (k0_pay207 (k0_pay199 ig bi) (iota .tc S1x128 32 [1] iota_S1x128_d1_w32) k0_pay205) (iota .tc S1x128 32 [1] iota_S1x128_d1_w32) (k0_pay208 (k0_pay204 fg bf) (iota .tc S1x128 32 [1] iota_S1x128_d1_w32) k0_pay205) k0_pay209 (k0_pay210 (k0_pay204 fg bf) (iota .tc S1x128 32 [1] iota_S1x128_d1_w32) k0_pay205) (k0_pay211 (F := Ideal))) k0_pay215))
      = headN k ig fg bi bf n m := rfl

theorem head6N (k : Vec Ideal S1x128x128 .f32) (ig fg : Vec Ideal S1x1x1x128 .f32) (bi bf : Vec Ideal S1x1x1 .f32) (n : Vec Ideal S1x1x128 .f32) (m : Vec Ideal S1x1x1 .f32) :
    k0_pay266 (k0_pay235 k) (k0_pay241 n) (k0_pay261 (k0_pay242 m) (k0_pay246 (iota .tc S1x128 32 [1] iota_S1x128_d1_w32) (k0_pay245 fg bf) 2#32) (k0_pay250 (k0_pay242 m) (k0_pay247 (k0_pay244 (k0_pay238 ig bi)) (iota .tc S1x128 32 [1] iota_S1x128_d1_w32) (k0_pay245 fg bf) 2#32) (iota .tc S1x128 32 [1] iota_S1x128_d1_w32) k0_pay248 (k0_pay249 (k0_pay244 (k0_pay238 ig bi)) (iota .tc S1x128 32 [1] iota_S1x128_d1_w32) (k0_pay245 fg bf) 2#32))) (k0_pay262 (k0_pay244 (k0_pay238 ig bi)) (k0_pay246 (iota .tc S1x128 32 [1] iota_S1x128_d1_w32) (k0_pay245 fg bf) 2#32) (k0_pay250 (k0_pay242 m) (k0_pay247 (k0_pay244 (k0_pay238 ig bi)) (iota .tc S1x128 32 [1] iota_S1x128_d1_w32) (k0_pay245 fg bf) 2#32) (iota .tc S1x128 32 [1] iota_S1x128_d1_w32) k0_pay248 (k0_pay249 (k0_pay244 (k0_pay238 ig bi)) (iota .tc S1x128 32 [1] iota_S1x128_d1_w32) (k0_pay245 fg bf) 2#32)))
      = headN k ig fg bi bf n m := rfl

theorem head7N (k : Vec Ideal S1x128x128 .f32) (ig fg : Vec Ideal S1x1x1x128 .f32) (bi bf : Vec Ideal S1x1x1 .f32) (n : Vec Ideal S1x1x128 .f32) (m : Vec Ideal S1x1x1 .f32) :
    k0_pay3 (k0_pay269 k) (k0_pay301 (k0_pay276 n) (k0_pay295 (k0_pay277 m) (k0_pay281 (iota .tc S1x128 32 [1] iota_S1x128_d1_w32) (k0_pay280 (k0_pay273 fg bf)) 8#32) (k0_pay286 (k0_pay277 m) (iota .tc S1x128 32 [1] iota_S1x128_d1_w32) (k0_pay283 (k0_pay279 (k0_pay272 ig bi)) (iota .tc S1x128 32 [1] iota_S1x128_d1_w32) (k0_pay280 (k0_pay273 fg bf)) 8#32) k0_pay284 (k0_pay285 (k0_pay279 (k0_pay272 ig bi)) (iota .tc S1x128 32 [1] iota_S1x128_d1_w32) (k0_pay280 (k0_pay273 fg bf)) 8#32)))) (k0_pay302 (k0_pay296 (k0_pay279 (k0_pay272 ig bi)) (k0_pay281 (iota .tc S1x128 32 [1] iota_S1x128_d1_w32) (k0_pay280 (k0_pay273 fg bf)) 8#32) (k0_pay286 (k0_pay277 m) (iota .tc S1x128 32 [1] iota_S1x128_d1_w32) (k0_pay283 (k0_pay279 (k0_pay272 ig bi)) (iota .tc S1x128 32 [1] iota_S1x128_d1_w32) (k0_pay280 (k0_pay273 fg bf)) 8#32) k0_pay284 (k0_pay285 (k0_pay279 (k0_pay272 ig bi)) (iota .tc S1x128 32 [1] iota_S1x128_d1_w32) (k0_pay280 (k0_pay273 fg bf)) 8#32))))
      = headN k ig fg bi bf n m := rfl

/-! The maximum of the other heads is the same function of their own blocks. -/

theorem head1M (ig fg : Vec Ideal S1x1x1x128 .f32) (bi bf : Vec Ideal S1x1x1 .f32) (m : Vec Ideal S1x1x1 .f32) :
    k0_pay82 (k0_pay73 (k0_pay60 (iota .tc S1x128 32 [1] iota_S1x128_d1_w32) (k0_pay58 (k0_pay51 fg bf) (Scalar.ofBits .f32 0x00000000#32)) k0_pay59 16#32) (k0_pay64 (k0_pay55 m) (iota .tc S1x128 32 [1] iota_S1x128_d1_w32) (k0_pay62 (k0_pay57 (k0_pay50 ig bi)) (iota .tc S1x128 32 [1] iota_S1x128_d1_w32) (k0_pay58 (k0_pay51 fg bf) (Scalar.ofBits .f32 0x00000000#32)) k0_pay59 16#32) (k0_pay63 (k0_pay57 (k0_pay50 ig bi)) (iota .tc S1x128 32 [1] iota_S1x128_d1_w32) (k0_pay58 (k0_pay51 fg bf) (Scalar.ofBits .f32 0x00000000#32)) k0_pay59 16#32)))
      = headM ig fg bi bf m := rfl

theorem head2M (ig fg : Vec Ideal S1x1x1x128 .f32) (bi bf : Vec Ideal S1x1x1 .f32) (m : Vec Ideal S1x1x1 .f32) :
    k0_pay116 (k0_pay109 (k0_pay97 (k0_pay95 (k0_pay91 fg bf) k0_pay92 (k0_pay94 (F := Ideal))) k0_pay96 64#32) (k0_pay101 (k0_pay90 m) (iota .tc S1x128 32 [1] iota_S1x128_d1_w32) (k0_pay99 (k0_pay93 ig bi) (k0_pay95 (k0_pay91 fg bf) k0_pay92 (k0_pay94 (F := Ideal))) k0_pay96 64#32) (k0_pay100 (k0_pay93 ig bi) (k0_pay95 (k0_pay91 fg bf) k0_pay92 (k0_pay94 (F := Ideal))) k0_pay96 64#32)))
      = headM ig fg bi bf m := rfl

theorem head3M (ig fg : Vec Ideal S1x1x1x128 .f32) (bi bf : Vec Ideal S1x1x1 .f32) (m : Vec Ideal S1x1x1 .f32) :
    k0_pay156 (k0_pay148 (k0_pay133 (iota .tc S1x128 32 [1] iota_S1x128_d1_w32) (k0_pay129 (k0_pay122 fg) bf) k0_pay130 (k0_pay131 (k0_pay122 fg) bf) (k0_pay132 (F := Ideal))) (k0_pay137 (k0_pay126 m) (iota .tc S1x128 32 [1] iota_S1x128_d1_w32) (k0_pay135 (k0_pay128 (k0_pay121 ig bi)) (iota .tc S1x128 32 [1] iota_S1x128_d1_w32) (k0_pay129 (k0_pay122 fg) bf) k0_pay130 (k0_pay131 (k0_pay122 fg) bf) (k0_pay132 (F := Ideal))) k0_pay136))
      = headM ig fg bi bf m := rfl

theorem head4M (ig fg : Vec Ideal S1x1x1x128 .f32) (bi bf : Vec Ideal S1x1x1 .f32) (m : Vec Ideal S1x1x1 .f32) :
    k0_pay194 (k0_pay185 (k0_pay173 (iota .tc S1x128 32 [1] iota_S1x128_d1_w32) (k0_pay169 (k0_pay162 fg bf)) k0_pay170 (k0_pay171 (k0_pay162 fg bf)) (k0_pay172 (F := Ideal))) (k0_pay177 (k0_pay166 m) (iota .tc S1x128 32 [1] iota_S1x128_d1_w32) (k0_pay175 (k0_pay168 (k0_pay161 ig bi)) (iota .tc S1x128 32 [1] iota_S1x128_d1_w32) (k0_pay169 (k0_pay162 fg bf)) k0_pay170 (k0_pay171 (k0_pay162 fg bf)) (k0_pay172 (F := Ideal))) k0_pay176))
      = headM ig fg bi bf m := rfl

theorem head5M (ig fg : Vec Ideal S1x1x1x128 .f32) (bi bf : Vec Ideal S1x1x1 .f32) (m : Vec Ideal S1x1x1 .f32) :
    k0_pay233 (k0_pay225 (k0_pay212 (iota .tc S1x128 32 [1] iota_S1x128_d1_w32) (k0_pay208 (k0_pay204 fg bf) (iota .tc S1x128 32 [1] iota_S1x128_d1_w32) k0_pay205) k0_pay209 (k0_pay210 (k0_pay204 fg bf) (iota .tc S1x128 32 [1] iota_S1x128_d1_w32) k0_pay205) (k0_pay211 (F := Ideal))) (k0_pay216 (k0_pay203 m) (iota .tc S1x128 32 [1] iota_S1x128_d1_w32) (k0_pay214 (k0_pay207 (k0_pay199 ig bi) (iota .tc S1x128 32 [1] iota_S1x128_d1_w32) k0_pay205) (iota .tc S1x128 32 [1] iota_S1x128_d1_w32) (k0_pay208 (k0_pay204 fg bf) (iota .tc S1x128 32 [1] iota_S1x128_d1_w32) k0_pay205) k0_pay209 (k0_pay210 (k0_pay204 fg bf) (iota .tc S1x128 32 [1] iota_S1x128_d1_w32) k0_pay205) (k0_pay211 (F := Ideal))) k0_pay215))
      = headM ig fg bi bf m := rfl

theorem head6M (ig fg : Vec Ideal S1x1x1x128 .f32) (bi bf : Vec Ideal S1x1x1 .f32) (m : Vec Ideal S1x1x1 .f32) :
    k0_pay267 (k0_pay260 (k0_pay246 (iota .tc S1x128 32 [1] iota_S1x128_d1_w32) (k0_pay245 fg bf) 2#32) (k0_pay250 (k0_pay242 m) (k0_pay247 (k0_pay244 (k0_pay238 ig bi)) (iota .tc S1x128 32 [1] iota_S1x128_d1_w32) (k0_pay245 fg bf) 2#32) (iota .tc S1x128 32 [1] iota_S1x128_d1_w32) k0_pay248 (k0_pay249 (k0_pay244 (k0_pay238 ig bi)) (iota .tc S1x128 32 [1] iota_S1x128_d1_w32) (k0_pay245 fg bf) 2#32)))
      = headM ig fg bi bf m := rfl

theorem head7M (ig fg : Vec Ideal S1x1x1x128 .f32) (bi bf : Vec Ideal S1x1x1 .f32) (m : Vec Ideal S1x1x1 .f32) :
    k0_pay4 (k0_pay294 (k0_pay281 (iota .tc S1x128 32 [1] iota_S1x128_d1_w32) (k0_pay280 (k0_pay273 fg bf)) 8#32) (k0_pay286 (k0_pay277 m) (iota .tc S1x128 32 [1] iota_S1x128_d1_w32) (k0_pay283 (k0_pay279 (k0_pay272 ig bi)) (iota .tc S1x128 32 [1] iota_S1x128_d1_w32) (k0_pay280 (k0_pay273 fg bf)) 8#32) k0_pay284 (k0_pay285 (k0_pay279 (k0_pay272 ig bi)) (iota .tc S1x128 32 [1] iota_S1x128_d1_w32) (k0_pay280 (k0_pay273 fg bf)) 8#32)))
      = headM ig fg bi bf m := rfl

end Cert.KernelMlsIdeal.Ret
-- ==== Proof.MlsVal.lean ====
module

public import proofs.«01_k».proof.Proof.MlsHeads
public import Idealize.ShloMosaic.Lib.Pointwise
public import Idealize.ShloMosaic.Lib.Tactic
public import Idealize.ShloMosaic.Lib.WordCmp
public import Idealize.ShloMosaic.Lib.KernelVsHost

@[expose] public section
set_option maxRecDepth 16384

/-! # One head's states in the sample's memory call

Only the first lane of a head's gates is live: the others carry 0 for the logarithm of the forget gate and minus infinity
for the input gate.  So the running sum is the first lane's value in every lane, the running maximum too, and the states
are one step of the recurrence. -/

noncomputable section
open Idealize.ShloMosaic Idealize.ShloMosaic.TcCoe Idealize.SL.Sem
namespace Cert.KernelMlsIdeal.Ret
open Cert.KernelMlsIdeal Cert.KernelMlsIdeal.Gen

/-- The scale of the keys, the kernel's and the reference's constant. -/
def kSc : EReal := Ideal.ofBits .f32 0x3DB504F3#32

/-- The logarithm of the logistic function of `f`. -/
def lfS (f : EReal) : EReal := min f 0 - Ideal.log1p (Ideal.exp (0 - max f (-f)))

/-- The new stabiliser. -/
def mS (lf ig m : EReal) : EReal := lf + max (ig - lf) m

/-- An element of the new matrix memory. -/
def cS (lf ig m c k v : EReal) : EReal :=
  Ideal.exp (lf + m - mS lf ig m) * c + k * Ideal.exp (lf - lf + ig - mS lf ig m) * v

/-- An element of the new normaliser. -/
def nS (lf ig m n k : EReal) : EReal :=
  Ideal.exp (lf + m - mS lf ig m) * n + Ideal.exp (lf - lf + ig - mS lf ig m) * k

/-- The word of minus infinity. -/
theorem ofBits_bot : Ideal.ofBits .f32 0xFF800000#32 = ⊥ := by simp [Ideal.ofBits, Ideal.ieee]

/-- A choice by whether a lane is at least `n`. -/
theorem sge_sel (n t : ℕ) (hn : n < 128) (ht : t < 128) (a b : EReal) :
    Scalar.select (IntOp.cmpi .sge (BitVec.ofNat 32 t) (BitVec.ofNat 32 n)) a b = if n ≤ t then a else b := by
  rw [Idealize.ShloMosaic.WordCmp.cmpi_sge_ofNat (lt_trans ht (by decide)) (lt_trans hn (by decide))]
  unfold Scalar.select
  by_cases h : n ≤ t <;> simp [h]

/-- A choice by whether a lane is below `n`. -/
theorem slt_sel (n t : ℕ) (hn : n < 128) (ht : t < 128) (a b : EReal) :
    Scalar.select (IntOp.cmpi .slt (BitVec.ofNat 32 t) (BitVec.ofNat 32 n)) a b = if t < n then a else b := by
  rw [Idealize.ShloMosaic.WordCmp.cmpi_slt_ofNat (lt_trans ht (by decide)) (lt_trans hn (by decide))]
  unfold Scalar.select
  by_cases h : t < n <;> simp [h]

/-- A choice by whether two lanes are the same. -/
theorem eq_sel (n t : Fin 128) (a b : EReal) :
    Scalar.select (IntOp.cmpi .eq (BitVec.ofNat 32 t.val) (BitVec.ofNat 32 n.val)) a b = if t = n then a else b := by
  have h : ∀ n t : Fin 128, (BitVec.ofNat 32 t.val).toNat = t.val := fun n t => by
    rw [BitVec.toNat_ofNat]; exact Nat.mod_eq_of_lt (lt_trans t.isLt (by decide))
  rw [Idealize.ShloMosaic.WordCmp.cmpi_eq_eq_toNat, h n t, h t n]
  unfold Scalar.select
  by_cases e : t = n
  · simp [e]
  · have e' : ¬ t.val = n.val := fun q => e (Fin.ext q)
    simp [e, e']

/-- Adding to each lane the lane `s` before it. -/
def stAdd (s : BitVec 32) (x : FVec Ideal S1x128 .f32) : FVec Ideal S1x128 .f32 :=
  addf x (select (cmpi .sge (iota .tc S1x128 32 [1] iota_S1x128_d1_w32) (broadcast S1x128 s))
    (dynamicRotate 1 s none x rotates_S1x128_d1) (broadcast S1x128 (Scalar.ofBits .f32 0x00000000#32 : Ideal .f32)))

/-- Taking in each lane the larger of it and the lane `s` before it. -/
def stMax (s : BitVec 32) (x : FVec Ideal S1x128 .f32) : FVec Ideal S1x128 .f32 :=
  maximumf x (select (cmpi .sge (iota .tc S1x128 32 [1] iota_S1x128_d1_w32) (broadcast S1x128 s))
    (dynamicRotate 1 s none x rotates_S1x128_d1) (broadcast S1x128 (Scalar.ofBits .f32 0xFF800000#32 : Ideal .f32)))

/-- The running sum over the lanes. -/
def sumAll (x : FVec Ideal S1x128 .f32) : FVec Ideal S1x128 .f32 :=
  stAdd 64#32 (stAdd 32#32 (stAdd 16#32 (stAdd 8#32 (stAdd 4#32 (stAdd 2#32 (stAdd 1#32 x))))))

/-- The running maximum over the lanes. -/
def maxAll (x : FVec Ideal S1x128 .f32) : FVec Ideal S1x128 .f32 :=
  stMax 64#32 (stMax 32#32 (stMax 16#32 (stMax 8#32 (stMax 4#32 (stMax 2#32 (stMax 1#32 x))))))

/-- Adding the lane 1 before, at a lane. -/
theorem stAdd1_at (x : FVec Ideal S1x128 .f32) (t : Fin 128) : stAdd 1#32 x (ix2 (0 : Fin 1) t)
    = x (ix2 (0 : Fin 1) t) + if 1 ≤ t.val then x (ix2 (0 : Fin 1) (⟨(t.val + 128 - 1) % 128, by omega⟩ : Fin 128)) else 0 := by
  rw [← sge_sel 1 t.val (by decide) t.isLt]
  unfold stAdd
  pointwise

/-- The larger of a lane and the lane 1 before, at a lane. -/
theorem stMax1_at (x : FVec Ideal S1x128 .f32) (t : Fin 128) : stMax 1#32 x (ix2 (0 : Fin 1) t)
    = max (x (ix2 (0 : Fin 1) t)) (if 1 ≤ t.val then x (ix2 (0 : Fin 1) (⟨(t.val + 128 - 1) % 128, by omega⟩ : Fin 128)) else ⊥) := by
  rw [← sge_sel 1 t.val (by decide) t.isLt, ← ofBits_bot]
  unfold stMax
  pointwise

/-- Adding the lane 2 before, at a lane. -/
theorem stAdd2_at (x : FVec Ideal S1x128 .f32) (t : Fin 128) : stAdd 2#32 x (ix2 (0 : Fin 1) t)
    = x (ix2 (0 : Fin 1) t) + if 2 ≤ t.val then x (ix2 (0 : Fin 1) (⟨(t.val + 128 - 2) % 128, by omega⟩ : Fin 128)) else 0 := by
  rw [← sge_sel 2 t.val (by decide) t.isLt]
  unfold stAdd
  pointwise

/-- The larger of a lane and the lane 2 before, at a lane. -/
theorem stMax2_at (x : FVec Ideal S1x128 .f32) (t : Fin 128) : stMax 2#32 x (ix2 (0 : Fin 1) t)
    = max (x (ix2 (0 : Fin 1) t)) (if 2 ≤ t.val then x (ix2 (0 : Fin 1) (⟨(t.val + 128 - 2) % 128, by omega⟩ : Fin 128)) else ⊥) := by
  rw [← sge_sel 2 t.val (by decide) t.isLt, ← ofBits_bot]
  unfold stMax
  pointwise

/-- Adding the lane 4 before, at a lane. -/
theorem stAdd4_at (x : FVec Ideal S1x128 .f32) (t : Fin 128) : stAdd 4#32 x (ix2 (0 : Fin 1) t)
    = x (ix2 (0 : Fin 1) t) + if 4 ≤ t.val then x (ix2 (0 : Fin 1) (⟨(t.val + 128 - 4) % 128, by omega⟩ : Fin 128)) else 0 := by
  rw [← sge_sel 4 t.val (by decide) t.isLt]
  unfold stAdd
  pointwise

/-- The larger of a lane and the lane 4 before, at a lane. -/
theorem stMax4_at (x : FVec Ideal S1x128 .f32) (t : Fin 128) : stMax 4#32 x (ix2 (0 : Fin 1) t)
    = max (x (ix2 (0 : Fin 1) t)) (if 4 ≤ t.val then x (ix2 (0 : Fin 1) (⟨(t.val + 128 - 4) % 128, by omega⟩ : Fin 128)) else ⊥) := by
  rw [← sge_sel 4 t.val (by decide) t.isLt, ← ofBits_bot]
  unfold stMax
  pointwise

/-- Adding the lane 8 before, at a lane. -/
theorem stAdd8_at (x : FVec Ideal S1x128 .f32) (t : Fin 128) : stAdd 8#32 x (ix2 (0 : Fin 1) t)
    = x (ix2 (0 : Fin 1) t) + if 8 ≤ t.val then x (ix2 (0 : Fin 1) (⟨(t.val + 128 - 8) % 128, by omega⟩ : Fin 128)) else 0 := by
  rw [← sge_sel 8 t.val (by decide) t.isLt]
  unfold stAdd
  pointwise

/-- The larger of a lane and the lane 8 before, at a lane. -/
theorem stMax8_at (x : FVec Ideal S1x128 .f32) (t : Fin 128) : stMax 8#32 x (ix2 (0 : Fin 1) t)
    = max (x (ix2 (0 : Fin 1) t)) (if 8 ≤ t.val then x (ix2 (0 : Fin 1) (⟨(t.val + 128 - 8) % 128, by omega⟩ : Fin 128)) else ⊥) := by
  rw [← sge_sel 8 t.val (by decide) t.isLt, ← ofBits_bot]
  unfold stMax
  pointwise

/-- Adding the lane 16 before, at a lane. -/
theorem stAdd16_at (x : FVec Ideal S1x128 .f32) (t : Fin 128) : stAdd 16#32 x (ix2 (0 : Fin 1) t)
    = x (ix2 (0 : Fin 1) t) + if 16 ≤ t.val then x (ix2 (0 : Fin 1) (⟨(t.val + 128 - 16) % 128, by omega⟩ : Fin 128)) else 0 := by
  rw [← sge_sel 16 t.val (by decide) t.isLt]
  unfold stAdd
  pointwise

/-- The larger of a lane and the lane 16 before, at a lane. -/
theorem stMax16_at (x : FVec Ideal S1x128 .f32) (t : Fin 128) : stMax 16#32 x (ix2 (0 : Fin 1) t)
    = max (x (ix2 (0 : Fin 1) t)) (if 16 ≤ t.val then x (ix2 (0 : Fin 1) (⟨(t.val + 128 - 16) % 128, by omega⟩ : Fin 128)) else ⊥) := by
  rw [← sge_sel 16 t.val (by decide) t.isLt, ← ofBits_bot]
  unfold stMax
  pointwise

/-- Adding the lane 32 before, at a lane. -/
theorem stAdd32_at (x : FVec Ideal S1x128 .f32) (t : Fin 128) : stAdd 32#32 x (ix2 (0 : Fin 1) t)
    = x (ix2 (0 : Fin 1) t) + if 32 ≤ t.val then x (ix2 (0 : Fin 1) (⟨(t.val + 128 - 32) % 128, by omega⟩ : Fin 128)) else 0 := by
  rw [← sge_sel 32 t.val (by decide) t.isLt]
  unfold stAdd
  pointwise

/-- The larger of a lane and the lane 32 before, at a lane. -/
theorem stMax32_at (x : FVec Ideal S1x128 .f32) (t : Fin 128) : stMax 32#32 x (ix2 (0 : Fin 1) t)
    = max (x (ix2 (0 : Fin 1) t)) (if 32 ≤ t.val then x (ix2 (0 : Fin 1) (⟨(t.val + 128 - 32) % 128, by omega⟩ : Fin 128)) else ⊥) := by
  rw [← sge_sel 32 t.val (by decide) t.isLt, ← ofBits_bot]
  unfold stMax
  pointwise

/-- Adding the lane 64 before, at a lane. -/
theorem stAdd64_at (x : FVec Ideal S1x128 .f32) (t : Fin 128) : stAdd 64#32 x (ix2 (0 : Fin 1) t)
    = x (ix2 (0 : Fin 1) t) + if 64 ≤ t.val then x (ix2 (0 : Fin 1) (⟨(t.val + 128 - 64) % 128, by omega⟩ : Fin 128)) else 0 := by
  rw [← sge_sel 64 t.val (by decide) t.isLt]
  unfold stAdd
  pointwise

/-- The larger of a lane and the lane 64 before, at a lane. -/
theorem stMax64_at (x : FVec Ideal S1x128 .f32) (t : Fin 128) : stMax 64#32 x (ix2 (0 : Fin 1) t)
    = max (x (ix2 (0 : Fin 1) t)) (if 64 ≤ t.val then x (ix2 (0 : Fin 1) (⟨(t.val + 128 - 64) % 128, by omega⟩ : Fin 128)) else ⊥) := by
  rw [← sge_sel 64 t.val (by decide) t.isLt, ← ofBits_bot]
  unfold stMax
  pointwise

/-- One doubling: a value in the first `n` lanes is in the first `2 n` after the step. -/
theorem dbl (op : EReal → EReal → EReal) (z : EReal) (h0 : ∀ a, op a z = a) (h1 : ∀ a, op z a = a) (n n2 : ℕ) (h2 : n2 = n + n)
    (hn : 0 < n) (hn' : n ≤ 64) {x y : Fin 128 → EReal} (a : EReal)
    (hy : ∀ t : Fin 128, y t = op (x t) (if n ≤ t.val then x (⟨(t.val + 128 - n) % 128, by omega⟩ : Fin 128) else z))
    (hx : ∀ t : Fin 128, x t = if t.val < n then a else z) (t : Fin 128) : y t = if t.val < n2 then a else z := by
  have ht := t.isLt
  subst h2
  rw [hy]
  by_cases h : t.val < n
  · rw [if_neg (show ¬ n ≤ t.val by omega), h0, hx, if_pos h, if_pos (show t.val < n + n by omega)]
  · rw [if_pos (show n ≤ t.val by omega), hx t, if_neg h, h1, hx]
    by_cases h' : t.val < n + n
    · rw [if_pos h', if_pos (show (t.val + 128 - n) % 128 < n by omega)]
    · rw [if_neg h', if_neg (show ¬ (t.val + 128 - n) % 128 < n by omega)]

/-- The running sum of one live lane. -/
theorem sumAll_at (x : FVec Ideal S1x128 .f32) (a : EReal) (hx : ∀ t : Fin 128, x (ix2 (0 : Fin 1) t) = if t.val < 1 then a else 0)
    (t : Fin 128) : sumAll x (ix2 (0 : Fin 1) t) = a := by
  have h1 := dbl (fun a b => a + b) 0 add_zero zero_add 1 2 rfl (by decide) (by decide) (x := fun t => x (ix2 (0 : Fin 1) t)) (y := fun t => stAdd 1#32 x (ix2 (0 : Fin 1) t)) a (stAdd1_at _) hx
  have h2 := dbl (fun a b => a + b) 0 add_zero zero_add 2 4 rfl (by decide) (by decide) (x := fun t => (stAdd 1#32 x) (ix2 (0 : Fin 1) t)) (y := fun t => stAdd 2#32 (stAdd 1#32 x) (ix2 (0 : Fin 1) t)) a (stAdd2_at _) h1
  have h4 := dbl (fun a b => a + b) 0 add_zero zero_add 4 8 rfl (by decide) (by decide) (x := fun t => (stAdd 2#32 (stAdd 1#32 x)) (ix2 (0 : Fin 1) t)) (y := fun t => stAdd 4#32 (stAdd 2#32 (stAdd 1#32 x)) (ix2 (0 : Fin 1) t)) a (stAdd4_at _) h2
  have h8 := dbl (fun a b => a + b) 0 add_zero zero_add 8 16 rfl (by decide) (by decide) (x := fun t => (stAdd 4#32 (stAdd 2#32 (stAdd 1#32 x))) (ix2 (0 : Fin 1) t)) (y := fun t => stAdd 8#32 (stAdd 4#32 (stAdd 2#32 (stAdd 1#32 x))) (ix2 (0 : Fin 1) t)) a (stAdd8_at _) h4
  have h16 := dbl (fun a b => a + b) 0 add_zero zero_add 16 32 rfl (by decide) (by decide) (x := fun t => (stAdd 8#32 (stAdd 4#32 (stAdd 2#32 (stAdd 1#32 x)))) (ix2 (0 : Fin 1) t)) (y := fun t => stAdd 16#32 (stAdd 8#32 (stAdd 4#32 (stAdd 2#32 (stAdd 1#32 x)))) (ix2 (0 : Fin 1) t)) a (stAdd16_at _) h8
  have h32 := dbl (fun a b => a + b) 0 add_zero zero_add 32 64 rfl (by decide) (by decide) (x := fun t => (stAdd 16#32 (stAdd 8#32 (stAdd 4#32 (stAdd 2#32 (stAdd 1#32 x))))) (ix2 (0 : Fin 1) t)) (y := fun t => stAdd 32#32 (stAdd 16#32 (stAdd 8#32 (stAdd 4#32 (stAdd 2#32 (stAdd 1#32 x))))) (ix2 (0 : Fin 1) t)) a (stAdd32_at _) h16
  have h64 := dbl (fun a b => a + b) 0 add_zero zero_add 64 128 rfl (by decide) (by decide) (x := fun t => (stAdd 32#32 (stAdd 16#32 (stAdd 8#32 (stAdd 4#32 (stAdd 2#32 (stAdd 1#32 x)))))) (ix2 (0 : Fin 1) t)) (y := fun t => stAdd 64#32 (stAdd 32#32 (stAdd 16#32 (stAdd 8#32 (stAdd 4#32 (stAdd 2#32 (stAdd 1#32 x)))))) (ix2 (0 : Fin 1) t)) a (stAdd64_at _) h32
  exact (h64 t).trans (if_pos t.isLt)

/-- The running maximum of one live lane. -/
theorem maxAll_at (x : FVec Ideal S1x128 .f32) (a : EReal) (hx : ∀ t : Fin 128, x (ix2 (0 : Fin 1) t) = if t.val < 1 then a else ⊥)
    (t : Fin 128) : maxAll x (ix2 (0 : Fin 1) t) = a := by
  have h1 := dbl (fun a b => max a b) ⊥ (fun a => max_eq_left bot_le) (fun a => max_eq_right bot_le) 1 2 rfl (by decide) (by decide) (x := fun t => x (ix2 (0 : Fin 1) t)) (y := fun t => stMax 1#32 x (ix2 (0 : Fin 1) t)) a (stMax1_at _) hx
  have h2 := dbl (fun a b => max a b) ⊥ (fun a => max_eq_left bot_le) (fun a => max_eq_right bot_le) 2 4 rfl (by decide) (by decide) (x := fun t => (stMax 1#32 x) (ix2 (0 : Fin 1) t)) (y := fun t => stMax 2#32 (stMax 1#32 x) (ix2 (0 : Fin 1) t)) a (stMax2_at _) h1
  have h4 := dbl (fun a b => max a b) ⊥ (fun a => max_eq_left bot_le) (fun a => max_eq_right bot_le) 4 8 rfl (by decide) (by decide) (x := fun t => (stMax 2#32 (stMax 1#32 x)) (ix2 (0 : Fin 1) t)) (y := fun t => stMax 4#32 (stMax 2#32 (stMax 1#32 x)) (ix2 (0 : Fin 1) t)) a (stMax4_at _) h2
  have h8 := dbl (fun a b => max a b) ⊥ (fun a => max_eq_left bot_le) (fun a => max_eq_right bot_le) 8 16 rfl (by decide) (by decide) (x := fun t => (stMax 4#32 (stMax 2#32 (stMax 1#32 x))) (ix2 (0 : Fin 1) t)) (y := fun t => stMax 8#32 (stMax 4#32 (stMax 2#32 (stMax 1#32 x))) (ix2 (0 : Fin 1) t)) a (stMax8_at _) h4
  have h16 := dbl (fun a b => max a b) ⊥ (fun a => max_eq_left bot_le) (fun a => max_eq_right bot_le) 16 32 rfl (by decide) (by decide) (x := fun t => (stMax 8#32 (stMax 4#32 (stMax 2#32 (stMax 1#32 x)))) (ix2 (0 : Fin 1) t)) (y := fun t => stMax 16#32 (stMax 8#32 (stMax 4#32 (stMax 2#32 (stMax 1#32 x)))) (ix2 (0 : Fin 1) t)) a (stMax16_at _) h8
  have h32 := dbl (fun a b => max a b) ⊥ (fun a => max_eq_left bot_le) (fun a => max_eq_right bot_le) 32 64 rfl (by decide) (by decide) (x := fun t => (stMax 16#32 (stMax 8#32 (stMax 4#32 (stMax 2#32 (stMax 1#32 x))))) (ix2 (0 : Fin 1) t)) (y := fun t => stMax 32#32 (stMax 16#32 (stMax 8#32 (stMax 4#32 (stMax 2#32 (stMax 1#32 x))))) (ix2 (0 : Fin 1) t)) a (stMax32_at _) h16
  have h64 := dbl (fun a b => max a b) ⊥ (fun a => max_eq_left bot_le) (fun a => max_eq_right bot_le) 64 128 rfl (by decide) (by decide) (x := fun t => (stMax 32#32 (stMax 16#32 (stMax 8#32 (stMax 4#32 (stMax 2#32 (stMax 1#32 x)))))) (ix2 (0 : Fin 1) t)) (y := fun t => stMax 64#32 (stMax 32#32 (stMax 16#32 (stMax 8#32 (stMax 4#32 (stMax 2#32 (stMax 1#32 x)))))) (ix2 (0 : Fin 1) t)) a (stMax64_at _) h32
  exact (h64 t).trans (if_pos t.isLt)

/-- The logarithm of the forget gate in each live lane, 0 in the others. -/
def lfRow (fg : Vec Ideal S1x1x1x128 .f32) (bf : Vec Ideal S1x1x1 .f32) : FVec Ideal S1x128 .f32 :=
  select k0_pay21 (subf (minimumf (k0_pay16 fg bf) (broadcast S1x128 (Scalar.ofBits .f32 0x00000000#32 : Ideal .f32)))
    (log1p (exp (subf (broadcast S1x128 (Scalar.ofBits .f32 0x00000000#32 : Ideal .f32)) (absf (k0_pay16 fg bf))))))
    (broadcast S1x128 (Scalar.ofBits .f32 0x00000000#32 : Ideal .f32))

/-- The kernel's running sum of the gates' logarithms. -/
theorem sum_row (fg : Vec Ideal S1x1x1x128 .f32) (bf : Vec Ideal S1x1x1 .f32) :
    k0_pay25 (iota .tc S1x128 32 [1] iota_S1x128_d1_w32) (k0_pay23 (k0_pay16 fg bf)) k0_pay24 4#32 = sumAll (lfRow fg bf) := rfl

/-- The kernel's running maximum, with the old stabiliser. -/
theorem max_row (ig fg : Vec Ideal S1x1x1x128 .f32) (bi bf m : Vec Ideal S1x1x1 .f32) :
    k0_pay29 (k0_pay20 m) (iota .tc S1x128 32 [1] iota_S1x128_d1_w32) (k0_pay27 (k0_pay22 (k0_pay15 ig bi)) (iota .tc S1x128 32 [1] iota_S1x128_d1_w32) (k0_pay23 (k0_pay16 fg bf)) k0_pay24 4#32) (k0_pay28 (k0_pay22 (k0_pay15 ig bi)) (iota .tc S1x128 32 [1] iota_S1x128_d1_w32) (k0_pay23 (k0_pay16 fg bf)) k0_pay24 4#32)
      = maximumf (maxAll (subf (k0_pay22 (k0_pay15 ig bi)) (sumAll (lfRow fg bf)))) (broadcastTo S1x128 (k0_pay20 m) broadcasts_S1x1_S1x128) := rfl

/-- The forget gates' logarithms lane by lane. -/
theorem lfRow_at (fg : Vec Ideal S1x1x1x128 .f32) (bf : Vec Ideal S1x1x1 .f32) (t : Fin 128) : lfRow fg bf (ix2 (0 : Fin 1) t)
    = if t.val < 1 then lfS (fg (ix4 (0 : Fin 1) (0 : Fin 1) (0 : Fin 1) (0 : Fin 128)) + bf (ix3 (0 : Fin 1) (0 : Fin 1) (0 : Fin 1))) else 0 := by
  have h : lfRow fg bf (ix2 (0 : Fin 1) t)
      = if t.val < 1 then lfS (fg (ix4 (0 : Fin 1) (0 : Fin 1) (0 : Fin 1) t) + bf (ix3 (0 : Fin 1) (0 : Fin 1) (0 : Fin 1))) else 0 := by
    rw [← slt_sel 1 t.val (by decide) t.isLt]
    unfold lfRow lfS
    pointwise [k0_pay21, k0_pay16]
    try rfl
  rw [h]
  by_cases ht : t.val < 1
  · obtain rfl : t = 0 := Fin.ext (by show t.val = 0; omega)
    rfl
  · rw [if_neg ht, if_neg ht]

/-- The input gates lane by lane. -/
theorem igRow_at (ig : Vec Ideal S1x1x1x128 .f32) (bi : Vec Ideal S1x1x1 .f32) (t : Fin 128) : k0_pay22 (k0_pay15 ig bi) (ix2 (0 : Fin 1) t)
    = if t.val < 1 then ig (ix4 (0 : Fin 1) (0 : Fin 1) (0 : Fin 1) (0 : Fin 128)) + bi (ix3 (0 : Fin 1) (0 : Fin 1) (0 : Fin 1)) else ⊥ := by
  have h : k0_pay22 (k0_pay15 ig bi) (ix2 (0 : Fin 1) t)
      = if t.val < 1 then ig (ix4 (0 : Fin 1) (0 : Fin 1) (0 : Fin 1) t) + bi (ix3 (0 : Fin 1) (0 : Fin 1) (0 : Fin 1)) else ⊥ := by
    rw [← slt_sel 1 t.val (by decide) t.isLt, ← ofBits_bot]
    pointwise [k0_pay21, k0_pay22, k0_pay15]
  rw [h]
  by_cases ht : t.val < 1
  · obtain rfl : t = 0 := Fin.ext (by show t.val = 0; omega)
    rfl
  · rw [if_neg ht, if_neg ht]

/-- A dead lane's weight is 0. -/
theorem dead (lf mm : EReal) : Ideal.exp (lf - lf + ⊥ - mm) = 0 := by
  rw [EReal.add_bot, sub_eq_add_neg, EReal.bot_add]; rfl

/-- The matrix memory with one live lane. -/
theorem C_val (K V C : FVec Ideal S128x128 .f32) (M : FVec Ideal S1x1 .f32) (I A R : FVec Ideal S1x128 .f32) (lf ig m : EReal)
    (hA : ∀ t : Fin 128, A (ix2 (0 : Fin 1) t) = lf) (hI : ∀ t : Fin 128, I (ix2 (0 : Fin 1) t) = if t.val < 1 then ig else ⊥)
    (hR : R (ix2 (0 : Fin 1) (127 : Fin 128)) = max (ig - lf) m) (hM : M (ix2 (0 : Fin 1) (0 : Fin 1)) = m) (d e : Fin 128) :
    k0_pay42 K V C (k0_pay38 M A R) (k0_pay40 I A R) (ix3 (0 : Fin 1) d e)
      = cS lf ig m (C (ix2 d e)) (K (ix2 (0 : Fin 128) d)) (V (ix2 (0 : Fin 128) e)) := by
  have h : k0_pay42 K V C (k0_pay38 M A R) (k0_pay40 I A R) (ix3 (0 : Fin 1) d e)
      = Ideal.exp (A (ix2 (0 : Fin 1) (127 : Fin 128)) + M (ix2 (0 : Fin 1) (0 : Fin 1)) - (A (ix2 (0 : Fin 1) (127 : Fin 128)) + R (ix2 (0 : Fin 1) (127 : Fin 128)))) * C (ix2 d e)
        + ∑ x : Fin 128, (K (ix2 x d) * ∑ y : Fin 128, Scalar.select (IntOp.cmpi .eq (BitVec.ofNat 32 x.val) (BitVec.ofNat 32 y.val))
            (Ideal.exp (A (ix2 (0 : Fin 1) (127 : Fin 128)) - A (ix2 (0 : Fin 1) y) + I (ix2 (0 : Fin 1) y) - (A (ix2 (0 : Fin 1) (127 : Fin 128)) + R (ix2 (0 : Fin 1) (127 : Fin 128))))) 0) * V (ix2 x e) := by
    pointwise [k0_pay42, k0_pay38, k0_pay40, k0_pay36, k0_pay37, k0_pay39]
  rw [h]
  simp only [eq_sel, hA, hI, hR, hM, Finset.sum_ite_eq, Finset.mem_univ, if_true]
  unfold cS mS
  refine congrArg (fun z => Ideal.exp (lf + m - (lf + max (ig - lf) m)) * C (ix2 d e) + z) ?_
  refine (Finset.sum_eq_single (0 : Fin 128) (fun x _ hx => ?_) (fun hx => absurd (Finset.mem_univ _) hx)).trans ?_
  · have hx' : ¬ x.val < 1 := fun q => hx (Fin.ext (by show x.val = 0; omega))
    rw [if_neg hx', dead, mul_zero, zero_mul]
  · rfl

/-- The normaliser with one live lane. -/
theorem N_val (K : FVec Ideal S128x128 .f32) (N : FVec Ideal S1x128 .f32) (M : FVec Ideal S1x1 .f32) (I A R : FVec Ideal S1x128 .f32) (lf ig m : EReal)
    (hA : ∀ t : Fin 128, A (ix2 (0 : Fin 1) t) = lf) (hI : ∀ t : Fin 128, I (ix2 (0 : Fin 1) t) = if t.val < 1 then ig else ⊥)
    (hR : R (ix2 (0 : Fin 1) (127 : Fin 128)) = max (ig - lf) m) (hM : M (ix2 (0 : Fin 1) (0 : Fin 1)) = m) (d : Fin 128) :
    k0_pay43 K N (k0_pay38 M A R) (k0_pay39 I A R) (ix3 (0 : Fin 1) (0 : Fin 1) d)
      = nS lf ig m (N (ix2 (0 : Fin 1) d)) (K (ix2 (0 : Fin 128) d)) := by
  have h : k0_pay43 K N (k0_pay38 M A R) (k0_pay39 I A R) (ix3 (0 : Fin 1) (0 : Fin 1) d)
      = Ideal.exp (A (ix2 (0 : Fin 1) (127 : Fin 128)) + M (ix2 (0 : Fin 1) (0 : Fin 1)) - (A (ix2 (0 : Fin 1) (127 : Fin 128)) + R (ix2 (0 : Fin 1) (127 : Fin 128)))) * N (ix2 (0 : Fin 1) d)
        + ∑ x : Fin 128, (∑ y : Fin 128, Scalar.select (IntOp.cmpi .eq (BitVec.ofNat 32 x.val) (BitVec.ofNat 32 y.val)) (Ideal.exp (A (ix2 (0 : Fin 1) (127 : Fin 128)) - A (ix2 (0 : Fin 1) y) + I (ix2 (0 : Fin 1) y) - (A (ix2 (0 : Fin 1) (127 : Fin 128)) + R (ix2 (0 : Fin 1) (127 : Fin 128))))) 0) * K (ix2 x d) := by
    pointwise [k0_pay43, k0_pay38, k0_pay40, k0_pay36, k0_pay37, k0_pay39]
  rw [h]
  simp only [eq_sel, hA, hI, hR, hM, Finset.sum_ite_eq, Finset.mem_univ, if_true]
  unfold nS mS
  refine congrArg (fun z => Ideal.exp (lf + m - (lf + max (ig - lf) m)) * N (ix2 (0 : Fin 1) d) + z) ?_
  refine (Finset.sum_eq_single (0 : Fin 128) (fun x _ hx => ?_) (fun hx => absurd (Finset.mem_univ _) hx)).trans ?_
  · have hx' : ¬ x.val < 1 := fun q => hx (Fin.ext (by show x.val = 0; omega))
    rw [if_neg hx', dead, zero_mul]
  · rfl

/-- The stabiliser. -/
theorem M_val (A R : FVec Ideal S1x128 .f32) (lf ig m : EReal)
    (hA : ∀ t : Fin 128, A (ix2 (0 : Fin 1) t) = lf) (hR : R (ix2 (0 : Fin 1) (127 : Fin 128)) = max (ig - lf) m) :
    k0_pay44 (k0_pay37 A R) (ix3 (0 : Fin 1) (0 : Fin 1) (0 : Fin 1)) = mS lf ig m := by
  have h : k0_pay44 (k0_pay37 A R) (ix3 (0 : Fin 1) (0 : Fin 1) (0 : Fin 1))
      = A (ix2 (0 : Fin 1) (127 : Fin 128)) + R (ix2 (0 : Fin 1) (127 : Fin 128)) := by
    pointwise [k0_pay44, k0_pay36, k0_pay37]
  rw [h, hA, hR]
  rfl

/-- The running sum in every lane. -/
theorem A_at (fg : Vec Ideal S1x1x1x128 .f32) (bf : Vec Ideal S1x1x1 .f32) (t : Fin 128) :
    k0_pay25 (iota .tc S1x128 32 [1] iota_S1x128_d1_w32) (k0_pay23 (k0_pay16 fg bf)) k0_pay24 4#32 (ix2 (0 : Fin 1) t)
      = lfS (fg (ix4 (0 : Fin 1) (0 : Fin 1) (0 : Fin 1) (0 : Fin 128)) + bf (ix3 (0 : Fin 1) (0 : Fin 1) (0 : Fin 1))) := by
  rw [sum_row]
  exact sumAll_at _ _ (lfRow_at fg bf) t

/-- The running maximum at the last lane. -/
theorem R_at (ig fg : Vec Ideal S1x1x1x128 .f32) (bi bf m : Vec Ideal S1x1x1 .f32) :
    k0_pay29 (k0_pay20 m) (iota .tc S1x128 32 [1] iota_S1x128_d1_w32) (k0_pay27 (k0_pay22 (k0_pay15 ig bi)) (iota .tc S1x128 32 [1] iota_S1x128_d1_w32) (k0_pay23 (k0_pay16 fg bf)) k0_pay24 4#32) (k0_pay28 (k0_pay22 (k0_pay15 ig bi)) (iota .tc S1x128 32 [1] iota_S1x128_d1_w32) (k0_pay23 (k0_pay16 fg bf)) k0_pay24 4#32) (ix2 (0 : Fin 1) (127 : Fin 128))
      = max ((ig (ix4 (0 : Fin 1) (0 : Fin 1) (0 : Fin 1) (0 : Fin 128)) + bi (ix3 (0 : Fin 1) (0 : Fin 1) (0 : Fin 1))) - lfS (fg (ix4 (0 : Fin 1) (0 : Fin 1) (0 : Fin 1) (0 : Fin 128)) + bf (ix3 (0 : Fin 1) (0 : Fin 1) (0 : Fin 1))))
          (m (ix3 (0 : Fin 1) (0 : Fin 1) (0 : Fin 1))) := by
  rw [max_row]
  have h : ∀ X : FVec Ideal S1x128 .f32, maximumf X (broadcastTo S1x128 (k0_pay20 m) broadcasts_S1x1_S1x128) (ix2 (0 : Fin 1) (127 : Fin 128))
      = max (X (ix2 (0 : Fin 1) (127 : Fin 128))) (m (ix3 (0 : Fin 1) (0 : Fin 1) (0 : Fin 1))) := fun X => by pointwise [k0_pay20]
  rw [h]
  refine congrArg (fun z => max z (m (ix3 (0 : Fin 1) (0 : Fin 1) (0 : Fin 1)))) (maxAll_at _ _ (fun t => ?_) _)
  have h' : ∀ X Y : FVec Ideal S1x128 .f32, subf X Y (ix2 (0 : Fin 1) t) = X (ix2 (0 : Fin 1) t) - Y (ix2 (0 : Fin 1) t) := fun X Y => rfl
  rw [h', igRow_at, sumAll_at _ _ (lfRow_at fg bf) t]
  by_cases ht : t.val < 1
  · rw [if_pos ht, if_pos ht]
  · rw [if_neg ht, if_neg ht, sub_eq_add_neg, EReal.bot_add]

/-- A head's new matrix memory. -/
theorem headC_at (k v cc : Vec Ideal S1x128x128 .f32) (ig fg : Vec Ideal S1x1x1x128 .f32) (bi bf m : Vec Ideal S1x1x1 .f32) (d e : Fin 128) :
    headC k v cc ig fg bi bf m (ix3 (0 : Fin 1) d e)
      = cS (lfS (fg (ix4 (0 : Fin 1) (0 : Fin 1) (0 : Fin 1) (0 : Fin 128)) + bf (ix3 (0 : Fin 1) (0 : Fin 1) (0 : Fin 1)))) (ig (ix4 (0 : Fin 1) (0 : Fin 1) (0 : Fin 1) (0 : Fin 128)) + bi (ix3 (0 : Fin 1) (0 : Fin 1) (0 : Fin 1))) (m (ix3 (0 : Fin 1) (0 : Fin 1) (0 : Fin 1))) (cc (ix3 (0 : Fin 1) d e)) (k (ix3 (0 : Fin 1) (0 : Fin 128) d) * kSc) (v (ix3 (0 : Fin 1) (0 : Fin 128) e)) := by
  have hM : k0_pay20 m (ix2 (0 : Fin 1) (0 : Fin 1)) = (m (ix3 (0 : Fin 1) (0 : Fin 1) (0 : Fin 1))) := by pointwise [k0_pay20]
  have hK : k0_pay12 k (ix2 (0 : Fin 128) d) = k (ix3 (0 : Fin 1) (0 : Fin 128) d) * kSc := by unfold kSc; pointwise [k0_pay12]
  have hV : k0_pay13 v (ix2 (0 : Fin 128) e) = v (ix3 (0 : Fin 1) (0 : Fin 128) e) := by pointwise [k0_pay13]
  have hC : k0_pay18 cc (ix2 d e) = cc (ix3 (0 : Fin 1) d e) := by pointwise [k0_pay18]
  unfold headC
  refine (C_val _ _ _ _ _ _ _ (lfS (fg (ix4 (0 : Fin 1) (0 : Fin 1) (0 : Fin 1) (0 : Fin 128)) + bf (ix3 (0 : Fin 1) (0 : Fin 1) (0 : Fin 1)))) (ig (ix4 (0 : Fin 1) (0 : Fin 1) (0 : Fin 1) (0 : Fin 128)) + bi (ix3 (0 : Fin 1) (0 : Fin 1) (0 : Fin 1))) (m (ix3 (0 : Fin 1) (0 : Fin 1) (0 : Fin 1))) (A_at fg bf) (igRow_at ig bi) (R_at ig fg bi bf m) hM d e).trans ?_
  rw [hK, hV, hC]

/-- A head's new normaliser. -/
theorem headN_at (k : Vec Ideal S1x128x128 .f32) (ig fg : Vec Ideal S1x1x1x128 .f32) (bi bf : Vec Ideal S1x1x1 .f32) (n : Vec Ideal S1x1x128 .f32) (m : Vec Ideal S1x1x1 .f32) (d : Fin 128) :
    headN k ig fg bi bf n m (ix3 (0 : Fin 1) (0 : Fin 1) d)
      = nS (lfS (fg (ix4 (0 : Fin 1) (0 : Fin 1) (0 : Fin 1) (0 : Fin 128)) + bf (ix3 (0 : Fin 1) (0 : Fin 1) (0 : Fin 1)))) (ig (ix4 (0 : Fin 1) (0 : Fin 1) (0 : Fin 1) (0 : Fin 128)) + bi (ix3 (0 : Fin 1) (0 : Fin 1) (0 : Fin 1))) (m (ix3 (0 : Fin 1) (0 : Fin 1) (0 : Fin 1))) (n (ix3 (0 : Fin 1) (0 : Fin 1) d)) (k (ix3 (0 : Fin 1) (0 : Fin 128) d) * kSc) := by
  have hM : k0_pay20 m (ix2 (0 : Fin 1) (0 : Fin 1)) = (m (ix3 (0 : Fin 1) (0 : Fin 1) (0 : Fin 1))) := by pointwise [k0_pay20]
  have hK : k0_pay12 k (ix2 (0 : Fin 128) d) = k (ix3 (0 : Fin 1) (0 : Fin 128) d) * kSc := by unfold kSc; pointwise [k0_pay12]
  have hN : k0_pay19 n (ix2 (0 : Fin 1) d) = n (ix3 (0 : Fin 1) (0 : Fin 1) d) := by pointwise [k0_pay19]
  unfold headN
  refine (N_val _ _ _ _ _ _ (lfS (fg (ix4 (0 : Fin 1) (0 : Fin 1) (0 : Fin 1) (0 : Fin 128)) + bf (ix3 (0 : Fin 1) (0 : Fin 1) (0 : Fin 1)))) (ig (ix4 (0 : Fin 1) (0 : Fin 1) (0 : Fin 1) (0 : Fin 128)) + bi (ix3 (0 : Fin 1) (0 : Fin 1) (0 : Fin 1))) (m (ix3 (0 : Fin 1) (0 : Fin 1) (0 : Fin 1))) (A_at fg bf) (igRow_at ig bi) (R_at ig fg bi bf m) hM d).trans ?_
  rw [hK, hN]

/-- A head's new stabiliser. -/
theorem headM_at (ig fg : Vec Ideal S1x1x1x128 .f32) (bi bf m : Vec Ideal S1x1x1 .f32) :
    headM ig fg bi bf m (ix3 (0 : Fin 1) (0 : Fin 1) (0 : Fin 1)) = mS (lfS (fg (ix4 (0 : Fin 1) (0 : Fin 1) (0 : Fin 1) (0 : Fin 128)) + bf (ix3 (0 : Fin 1) (0 : Fin 1) (0 : Fin 1)))) (ig (ix4 (0 : Fin 1) (0 : Fin 1) (0 : Fin 1) (0 : Fin 128)) + bi (ix3 (0 : Fin 1) (0 : Fin 1) (0 : Fin 1))) (m (ix3 (0 : Fin 1) (0 : Fin 1) (0 : Fin 1))) := by
  unfold headM
  exact M_val _ _ (lfS (fg (ix4 (0 : Fin 1) (0 : Fin 1) (0 : Fin 1) (0 : Fin 128)) + bf (ix3 (0 : Fin 1) (0 : Fin 1) (0 : Fin 1)))) (ig (ix4 (0 : Fin 1) (0 : Fin 1) (0 : Fin 1) (0 : Fin 128)) + bi (ix3 (0 : Fin 1) (0 : Fin 1) (0 : Fin 1))) (m (ix3 (0 : Fin 1) (0 : Fin 1) (0 : Fin 1))) (A_at fg bf) (R_at ig fg bi bf m)

/-! The reference's way of writing the same. -/

/-- The exponential is never negative. -/
theorem exp_ge (x : EReal) : 0 ≤ Ideal.exp x := by
  induction x with
  | bot => exact le_refl _
  | top => exact le_top
  | coe r => exact EReal.coe_nonneg.mpr (Real.exp_pos r).le

/-- The logarithm of one more than something non-negative is non-negative. -/
theorem log1p_ge (x : EReal) (hx : 0 ≤ x) : 0 ≤ Ideal.log1p x := by
  unfold Ideal.log1p
  induction x with
  | bot => exact absurd hx (by simp)
  | top => rw [show (1 : EReal) + ⊤ = ⊤ from EReal.coe_add_top 1]; exact le_top
  | coe r =>
    have hr : 0 ≤ r := EReal.coe_nonneg.mp hx
    rw [show (1 : EReal) + (r : EReal) = ((1 + r : ℝ) : EReal) from by push_cast; rfl]
    show (0 : EReal) ≤ if 1 + r ≤ 0 then ⊥ else (Real.log (1 + r) : EReal)
    rw [if_neg (by linarith)]
    exact EReal.coe_nonneg.mpr (Real.log_nonneg (by linarith))

/-- The logistic's logarithm is at most 0. -/
theorem lfS_le (f : EReal) : lfS f ≤ 0 := by
  unfold lfS
  have h : 0 ≤ Ideal.log1p (Ideal.exp (0 - max f (-f))) := log1p_ge _ (exp_ge _)
  have h2 : -Ideal.log1p (Ideal.exp (0 - max f (-f))) ≤ 0 := by simpa using EReal.neg_le_neg_iff.mpr h
  rw [sub_eq_add_neg]
  calc min f 0 + -Ideal.log1p (Ideal.exp (0 - max f (-f))) ≤ 0 + 0 := add_le_add (min_le_right _ _) h2
    _ = 0 := add_zero 0

/-- The logistic's logarithm as minus a softplus. -/
theorem lfS_ref (f : EReal) : -(if -f ≠ -f then -f else max (-f) 0 + Ideal.log1p (Ideal.exp (-max (-f) (-(-f))))) = lfS f := by
  have h : 0 ≤ Ideal.log1p (Ideal.exp (-max (-f) (-(-f)))) := log1p_ge _ (exp_ge _)
  have e : -max (-f) (-(-f)) = 0 - max f (-f) := by rw [neg_neg, max_comm, zero_sub]
  have e2 : -max (-f) 0 = min f 0 := by
    rcases le_total f 0 with hf | hf
    · rw [max_eq_left (EReal.le_neg_of_le_neg (by simpa using hf)), neg_neg, min_eq_left hf]
    · rw [max_eq_right (EReal.neg_le_of_neg_le (by simpa using hf)), neg_zero, min_eq_right hf]
  have hm : (0 : EReal) ≤ max (-f) 0 := le_max_right _ _
  rw [if_neg (by simp), EReal.neg_add (Or.inl (fun q => by rw [q] at hm; exact absurd hm (by simp))) (Or.inr (fun q => by rw [q] at h; exact absurd h (by simp))), e2, e]
  rfl

/-- The new stabiliser as the larger of the two exponents. -/
theorem mS_ref (lf ig m : EReal) (h : lf ≤ 0) : max (lf + m) (lf - lf + ig) = mS lf ig m := by
  unfold mS
  induction lf with
  | bot => rw [sub_eq_add_neg, EReal.bot_add, EReal.bot_add, EReal.bot_add, EReal.bot_add, max_self]
  | top => exact absurd h (by simp)
  | coe r =>
    have hs : ((r : ℝ) : EReal) - (r : EReal) = 0 := by rw [← EReal.coe_sub, sub_self]; rfl
    have hc : ((r : ℝ) : EReal) + (ig - (r : EReal)) = ig := by
      rw [sub_eq_add_neg, add_left_comm, ← sub_eq_add_neg, hs, add_zero]
    have hmono : Monotone (fun z : EReal => (r : EReal) + z) := fun a b q => add_le_add le_rfl q
    rw [hs, zero_add, max_comm]
    refine Eq.trans ?_ (hmono.map_max (a := ig - (r : EReal)) (b := m)).symm
    show max ig _ = max ((r : EReal) + (ig - (r : EReal))) _
    rw [hc]
end Cert.KernelMlsIdeal.Ret
-- ==== Proof.MlsTiles.lean ====
module

public import proofs.«01_k».proof.Proof.Gen.KernelMlsIdeal.Frame
public import proofs.«01_k».proof.Proof.MlsVal
public import Idealize.ShloMosaic.Lib.Pointwise
public import Idealize.ShloMosaic.Lib.Pipeline.ValueKit
public import Idealize.ShloMosaic.Lib.Pipeline.ReadBack
public import Idealize.ShloMosaic.Lib.Tactic

@[expose] public section
set_option maxRecDepth 16384

/-! # What a grid point of the sample's memory call leaves, at an index

A grid point handles one row.  The blocks of the three states end up as the next states of the point's input blocks. -/

noncomputable section
open Idealize.ShloMosaic Idealize.ShloMosaic.TcCoe Idealize.SL.Sem
namespace Cert.KernelMlsIdeal.Ret
open Cert.KernelMlsIdeal Cert.KernelMlsIdeal.Gen

/-- The next matrix memory of head `h` from a point's blocks. -/
def blkC (x1 x2 : Vec Ideal S1x128x1024 .f32) (x4 x5 : Vec Ideal S1x8x1x128 .f32) (x6 x7 : Vec Ideal S8x1x1 .f32) (x9 : Vec Ideal S1x8x128x128 .f32) (x11 : Vec Ideal S1x8x1x1 .f32)
    (h : Fin 8) (d e : Fin 128) : EReal :=
  cS (lfS (x5 (ix4 (0 : Fin 1) h (0 : Fin 1) (0 : Fin 128)) + x7 (ix3 h (0 : Fin 1) (0 : Fin 1)))) (x4 (ix4 (0 : Fin 1) h (0 : Fin 1) (0 : Fin 128)) + x6 (ix3 h (0 : Fin 1) (0 : Fin 1))) (x11 (ix4 (0 : Fin 1) h (0 : Fin 1) (0 : Fin 1))) (x9 (ix4 (0 : Fin 1) h d e)) ((x1 (ix3 (0 : Fin 1) (0 : Fin 128) (⟨h.val * 128 + d.val, by omega⟩ : Fin 1024))) * kSc) (x2 (ix3 (0 : Fin 1) (0 : Fin 128) (⟨h.val * 128 + e.val, by omega⟩ : Fin 1024)))

/-- The next normaliser of head `h` from a point's blocks. -/
def blkN (x1 : Vec Ideal S1x128x1024 .f32) (x4 x5 : Vec Ideal S1x8x1x128 .f32) (x6 x7 : Vec Ideal S8x1x1 .f32) (x10 : Vec Ideal S1x8x1x128 .f32) (x11 : Vec Ideal S1x8x1x1 .f32)
    (h : Fin 8) (d : Fin 128) : EReal :=
  nS (lfS (x5 (ix4 (0 : Fin 1) h (0 : Fin 1) (0 : Fin 128)) + x7 (ix3 h (0 : Fin 1) (0 : Fin 1)))) (x4 (ix4 (0 : Fin 1) h (0 : Fin 1) (0 : Fin 128)) + x6 (ix3 h (0 : Fin 1) (0 : Fin 1))) (x11 (ix4 (0 : Fin 1) h (0 : Fin 1) (0 : Fin 1))) (x10 (ix4 (0 : Fin 1) h (0 : Fin 1) d)) ((x1 (ix3 (0 : Fin 1) (0 : Fin 128) (⟨h.val * 128 + d.val, by omega⟩ : Fin 1024))) * kSc)

/-- The next stabiliser of head `h` from a point's blocks. -/
def blkM (x4 x5 : Vec Ideal S1x8x1x128 .f32) (x6 x7 : Vec Ideal S8x1x1 .f32) (x11 : Vec Ideal S1x8x1x1 .f32) (h : Fin 8) : EReal :=
  mS (lfS (x5 (ix4 (0 : Fin 1) h (0 : Fin 1) (0 : Fin 128)) + x7 (ix3 h (0 : Fin 1) (0 : Fin 1)))) (x4 (ix4 (0 : Fin 1) h (0 : Fin 1) (0 : Fin 128)) + x6 (ix3 h (0 : Fin 1) (0 : Fin 1))) (x11 (ix4 (0 : Fin 1) h (0 : Fin 1) (0 : Fin 1)))

/-- Stores that cover an index hide every earlier one. -/
theorem canon_hide {s : Shape} {e : EltTy} {Val : EltTy → Type} [∀ e, Nonempty (Val e)] (L' : List (View.Piece Val s e)) :
    ∀ (L : List (View.Piece Val s e)) (y : s.Idx), (∃ p ∈ L, y ∈ p.1.set) → View.canon (L ++ L') y = View.canon L y
  | [], _, h => by obtain ⟨p, hp, _⟩ := h; simp at hp
  | p :: L, y, h => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans (Eq.trans ?_ (View.canon_cons_of_not_mem p L hm).symm)
      refine canon_hide L' L y ?_
      obtain ⟨q, hq, hy⟩ := h
      rcases List.mem_cons.mp hq with rfl | hq
      · exact absurd hy hm
      · exact ⟨q, hq, hy⟩

/-- An index of a block with one leading coordinate, by its other two. -/
theorem at3 (x : S1x128x128.Idx) (a : Fin 128) (b : Fin 128) (ha : (x 1).val = a.val) (hb : (x 2).val = b.val) :
    x = ix3 (0 : Fin 1) a b := by
  rw [eq_ix3 x, show x 0 = (0 : Fin 1) from Fin.fin_one_eq_zero (x 0), show x 1 = a from Fin.ext ha, show x 2 = b from Fin.ext hb]

/-- An index of a row block, by its last coordinate. -/
theorem at3n (x : S1x1x128.Idx) (b : Fin 128) (hb : (x 2).val = b.val) : x = ix3 (0 : Fin 1) (0 : Fin 1) b := by
  rw [eq_ix3 x, show x 0 = (0 : Fin 1) from Fin.fin_one_eq_zero (x 0), show x 1 = (0 : Fin 1) from Fin.fin_one_eq_zero (x 1), show x 2 = b from Fin.ext hb]

/-- The only index of a one-element block. -/
theorem at3m (x : S1x1x1.Idx) : x = ix3 (0 : Fin 1) (0 : Fin 1) (0 : Fin 1) := by
  rw [eq_ix3 x, show x 0 = (0 : Fin 1) from Fin.fin_one_eq_zero (x 0), show x 1 = (0 : Fin 1) from Fin.fin_one_eq_zero (x 1), show x 2 = (0 : Fin 1) from Fin.fin_one_eq_zero (x 2)]

/-- A head's matrix memory from parts of a point's blocks. -/
theorem headC_blk {k v cc : Vec Ideal S1x128x128 .f32} {ig fg : Vec Ideal S1x1x1x128 .f32} {bi bf mm : Vec Ideal S1x1x1 .f32}
    {x1 x2 : Vec Ideal S1x128x1024 .f32} {x4 x5 : Vec Ideal S1x8x1x128 .f32} {x6 x7 : Vec Ideal S8x1x1 .f32} {x9 : Vec Ideal S1x8x128x128 .f32} {x11 : Vec Ideal S1x8x1x1 .f32} {h : Fin 8} {d e : Fin 128}
    (hig : ig (ix4 (0 : Fin 1) (0 : Fin 1) (0 : Fin 1) (0 : Fin 128)) = x4 (ix4 (0 : Fin 1) h (0 : Fin 1) (0 : Fin 128)))
    (hfg : fg (ix4 (0 : Fin 1) (0 : Fin 1) (0 : Fin 1) (0 : Fin 128)) = x5 (ix4 (0 : Fin 1) h (0 : Fin 1) (0 : Fin 128)))
    (hbi : bi (ix3 (0 : Fin 1) (0 : Fin 1) (0 : Fin 1)) = x6 (ix3 h (0 : Fin 1) (0 : Fin 1))) (hbf : bf (ix3 (0 : Fin 1) (0 : Fin 1) (0 : Fin 1)) = x7 (ix3 h (0 : Fin 1) (0 : Fin 1)))
    (hm : mm (ix3 (0 : Fin 1) (0 : Fin 1) (0 : Fin 1)) = x11 (ix4 (0 : Fin 1) h (0 : Fin 1) (0 : Fin 1)))
    (hk : k (ix3 (0 : Fin 1) (0 : Fin 128) d) = x1 (ix3 (0 : Fin 1) (0 : Fin 128) (⟨h.val * 128 + d.val, by omega⟩ : Fin 1024))) (hv : v (ix3 (0 : Fin 1) (0 : Fin 128) e) = x2 (ix3 (0 : Fin 1) (0 : Fin 128) (⟨h.val * 128 + e.val, by omega⟩ : Fin 1024)))
    (hc : cc (ix3 (0 : Fin 1) d e) = x9 (ix4 (0 : Fin 1) h d e)) :
    headC k v cc ig fg bi bf mm (ix3 (0 : Fin 1) d e) = blkC x1 x2 x4 x5 x6 x7 x9 x11 h d e := by
  rw [headC_at, hig, hfg, hbi, hbf, hm, hk, hv, hc]
  rfl

/-- A head's normaliser from parts of a point's blocks. -/
theorem headN_blk {k : Vec Ideal S1x128x128 .f32} {nn : Vec Ideal S1x1x128 .f32} {ig fg : Vec Ideal S1x1x1x128 .f32} {bi bf mm : Vec Ideal S1x1x1 .f32}
    {x1 : Vec Ideal S1x128x1024 .f32} {x4 x5 : Vec Ideal S1x8x1x128 .f32} {x6 x7 : Vec Ideal S8x1x1 .f32} {x10 : Vec Ideal S1x8x1x128 .f32} {x11 : Vec Ideal S1x8x1x1 .f32} {h : Fin 8} {d : Fin 128}
    (hig : ig (ix4 (0 : Fin 1) (0 : Fin 1) (0 : Fin 1) (0 : Fin 128)) = x4 (ix4 (0 : Fin 1) h (0 : Fin 1) (0 : Fin 128)))
    (hfg : fg (ix4 (0 : Fin 1) (0 : Fin 1) (0 : Fin 1) (0 : Fin 128)) = x5 (ix4 (0 : Fin 1) h (0 : Fin 1) (0 : Fin 128)))
    (hbi : bi (ix3 (0 : Fin 1) (0 : Fin 1) (0 : Fin 1)) = x6 (ix3 h (0 : Fin 1) (0 : Fin 1))) (hbf : bf (ix3 (0 : Fin 1) (0 : Fin 1) (0 : Fin 1)) = x7 (ix3 h (0 : Fin 1) (0 : Fin 1)))
    (hm : mm (ix3 (0 : Fin 1) (0 : Fin 1) (0 : Fin 1)) = x11 (ix4 (0 : Fin 1) h (0 : Fin 1) (0 : Fin 1)))
    (hk : k (ix3 (0 : Fin 1) (0 : Fin 128) d) = x1 (ix3 (0 : Fin 1) (0 : Fin 128) (⟨h.val * 128 + d.val, by omega⟩ : Fin 1024)))
    (hn : nn (ix3 (0 : Fin 1) (0 : Fin 1) d) = x10 (ix4 (0 : Fin 1) h (0 : Fin 1) d)) :
    headN k ig fg bi bf nn mm (ix3 (0 : Fin 1) (0 : Fin 1) d) = blkN x1 x4 x5 x6 x7 x10 x11 h d := by
  rw [headN_at, hig, hfg, hbi, hbf, hm, hk, hn]
  rfl

/-- A head's stabiliser from parts of a point's blocks. -/
theorem headM_blk {ig fg : Vec Ideal S1x1x1x128 .f32} {bi bf mm : Vec Ideal S1x1x1 .f32}
    {x4 x5 : Vec Ideal S1x8x1x128 .f32} {x6 x7 : Vec Ideal S8x1x1 .f32} {x11 : Vec Ideal S1x8x1x1 .f32} {h : Fin 8}
    (hig : ig (ix4 (0 : Fin 1) (0 : Fin 1) (0 : Fin 1) (0 : Fin 128)) = x4 (ix4 (0 : Fin 1) h (0 : Fin 1) (0 : Fin 128)))
    (hfg : fg (ix4 (0 : Fin 1) (0 : Fin 1) (0 : Fin 1) (0 : Fin 128)) = x5 (ix4 (0 : Fin 1) h (0 : Fin 1) (0 : Fin 128)))
    (hbi : bi (ix3 (0 : Fin 1) (0 : Fin 1) (0 : Fin 1)) = x6 (ix3 h (0 : Fin 1) (0 : Fin 1))) (hbf : bf (ix3 (0 : Fin 1) (0 : Fin 1) (0 : Fin 1)) = x7 (ix3 h (0 : Fin 1) (0 : Fin 1)))
    (hm : mm (ix3 (0 : Fin 1) (0 : Fin 1) (0 : Fin 1)) = x11 (ix4 (0 : Fin 1) h (0 : Fin 1) (0 : Fin 1))) :
    headM ig fg bi bf mm (ix3 (0 : Fin 1) (0 : Fin 1) (0 : Fin 1)) = blkM x4 x5 x6 x7 x11 h := by
  rw [headM_at, hig, hfg, hbi, hbf, hm]
  rfl

/-- The first head's. -/
theorem head0C (k v c : Vec Ideal S1x128x128 .f32) (ig fg : Vec Ideal S1x1x1x128 .f32) (bi bf : Vec Ideal S1x1x1 .f32) (m : Vec Ideal S1x1x1 .f32) :
    k0_pay42 (k0_pay12 k) (k0_pay13 v) (k0_pay18 c) (k0_pay38 (k0_pay20 m) (k0_pay25 (iota .tc S1x128 32 [1] iota_S1x128_d1_w32) (k0_pay23 (k0_pay16 fg bf)) k0_pay24 4#32) (k0_pay29 (k0_pay20 m) (iota .tc S1x128 32 [1] iota_S1x128_d1_w32) (k0_pay27 (k0_pay22 (k0_pay15 ig bi)) (iota .tc S1x128 32 [1] iota_S1x128_d1_w32) (k0_pay23 (k0_pay16 fg bf)) k0_pay24 4#32) (k0_pay28 (k0_pay22 (k0_pay15 ig bi)) (iota .tc S1x128 32 [1] iota_S1x128_d1_w32) (k0_pay23 (k0_pay16 fg bf)) k0_pay24 4#32))) (k0_pay40 (k0_pay22 (k0_pay15 ig bi)) (k0_pay25 (iota .tc S1x128 32 [1] iota_S1x128_d1_w32) (k0_pay23 (k0_pay16 fg bf)) k0_pay24 4#32) (k0_pay29 (k0_pay20 m) (iota .tc S1x128 32 [1] iota_S1x128_d1_w32) (k0_pay27 (k0_pay22 (k0_pay15 ig bi)) (iota .tc S1x128 32 [1] iota_S1x128_d1_w32) (k0_pay23 (k0_pay16 fg bf)) k0_pay24 4#32) (k0_pay28 (k0_pay22 (k0_pay15 ig bi)) (iota .tc S1x128 32 [1] iota_S1x128_d1_w32) (k0_pay23 (k0_pay16 fg bf)) k0_pay24 4#32))) = headC k v c ig fg bi bf m := rfl

/-- The first head's. -/
theorem head0N (k : Vec Ideal S1x128x128 .f32) (ig fg : Vec Ideal S1x1x1x128 .f32) (bi bf : Vec Ideal S1x1x1 .f32) (n : Vec Ideal S1x1x128 .f32) (m : Vec Ideal S1x1x1 .f32) :
    k0_pay43 (k0_pay12 k) (k0_pay19 n) (k0_pay38 (k0_pay20 m) (k0_pay25 (iota .tc S1x128 32 [1] iota_S1x128_d1_w32) (k0_pay23 (k0_pay16 fg bf)) k0_pay24 4#32) (k0_pay29 (k0_pay20 m) (iota .tc S1x128 32 [1] iota_S1x128_d1_w32) (k0_pay27 (k0_pay22 (k0_pay15 ig bi)) (iota .tc S1x128 32 [1] iota_S1x128_d1_w32) (k0_pay23 (k0_pay16 fg bf)) k0_pay24 4#32) (k0_pay28 (k0_pay22 (k0_pay15 ig bi)) (iota .tc S1x128 32 [1] iota_S1x128_d1_w32) (k0_pay23 (k0_pay16 fg bf)) k0_pay24 4#32))) (k0_pay39 (k0_pay22 (k0_pay15 ig bi)) (k0_pay25 (iota .tc S1x128 32 [1] iota_S1x128_d1_w32) (k0_pay23 (k0_pay16 fg bf)) k0_pay24 4#32) (k0_pay29 (k0_pay20 m) (iota .tc S1x128 32 [1] iota_S1x128_d1_w32) (k0_pay27 (k0_pay22 (k0_pay15 ig bi)) (iota .tc S1x128 32 [1] iota_S1x128_d1_w32) (k0_pay23 (k0_pay16 fg bf)) k0_pay24 4#32) (k0_pay28 (k0_pay22 (k0_pay15 ig bi)) (iota .tc S1x128 32 [1] iota_S1x128_d1_w32) (k0_pay23 (k0_pay16 fg bf)) k0_pay24 4#32))) = headN k ig fg bi bf n m := rfl

/-- The first head's. -/
theorem head0M (ig fg : Vec Ideal S1x1x1x128 .f32) (bi bf : Vec Ideal S1x1x1 .f32) (m : Vec Ideal S1x1x1 .f32) :
    k0_pay44 (k0_pay37 (k0_pay25 (iota .tc S1x128 32 [1] iota_S1x128_d1_w32) (k0_pay23 (k0_pay16 fg bf)) k0_pay24 4#32) (k0_pay29 (k0_pay20 m) (iota .tc S1x128 32 [1] iota_S1x128_d1_w32) (k0_pay27 (k0_pay22 (k0_pay15 ig bi)) (iota .tc S1x128 32 [1] iota_S1x128_d1_w32) (k0_pay23 (k0_pay16 fg bf)) k0_pay24 4#32) (k0_pay28 (k0_pay22 (k0_pay15 ig bi)) (iota .tc S1x128 32 [1] iota_S1x128_d1_w32) (k0_pay23 (k0_pay16 fg bf)) k0_pay24 4#32))) = headM ig fg bi bf m := rfl

/-- The block of the matrix memories. -/
theorem out0_A_13_at (c : Dev nD) (i : grid0.Coords) (arg2 : Memref sig .tc .vmem S1x128x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x8x1x128 .f32) (harg6 : arg6.IsWhole) (arg7 : Memref sig .tc .vmem S1x8x1x128 .f32) (harg7 : arg7.IsWhole) (arg8 : Memref sig .tc .vmem S8x1x1 .f32) (harg8 : arg8.IsWhole) (arg9 : Memref sig .tc .vmem S8x1x1 .f32) (harg9 : arg9.IsWhole) (arg10 : Memref sig .tc .vmem S8x1x128 .f32) (harg10 : arg10.IsWhole) (arg11 : Memref sig .tc .vmem S1x8x128x128 .f32) (harg11 : arg11.IsWhole) (arg12 : Memref sig .tc .vmem S1x8x1x128 .f32) (harg12 : arg12.IsWhole) (arg13 : Memref sig .tc .vmem S1x8x1x1 .f32) (harg13 : arg13.IsWhole) (arg14 : Memref sig .tc .vmem S1x128x1024 .bf16) (harg14 : arg14.IsWhole) (arg15 : Memref sig .tc .vmem S1x8x128x128 .f32) (harg15 : arg15.IsWhole) (arg16 : Memref sig .tc .vmem S1x8x1x128 .f32) (harg16 : arg16.IsWhole) (arg17 : Memref sig .tc .vmem S1x8x1x1 .f32) (harg17 : arg17.IsWhole) (arg18 : Memref sig .tc .vmem S8x128x128 .f32) (harg18 : arg18.IsWhole) (arg19 : Memref sig .tc .vmem S8x1x128 .f32) (harg19 : arg19.IsWhole) (arg20 : Memref sig .tc .vmem S8x1x1 .f32) (harg20 : arg20.IsWhole) (hc0 : cond0_0 i) (hc1 : cond0_1 i)
    (x0 : Vec Ideal S1x128x1024 .f32) (x1 : Vec Ideal S1x128x1024 .f32) (x2 : Vec Ideal S1x128x1024 .f32) (x3 : Vec Ideal S1x128x1024 .f32) (x4 : Vec Ideal S1x8x1x128 .f32) (x5 : Vec Ideal S1x8x1x128 .f32) (x6 : Vec Ideal S8x1x1 .f32) (x7 : Vec Ideal S8x1x1 .f32) (x8 : Vec Ideal S8x1x128 .f32) (x9 : Vec Ideal S1x8x128x128 .f32) (x10 : Vec Ideal S1x8x1x128 .f32) (x11 : Vec Ideal S1x8x1x1 .f32) (y : S1x8x128x128.Idx) (h : Fin 8) (d e : Fin 128) (hy : y = ix4 (0 : Fin 1) h d e) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 y = blkC x1 x2 x4 x5 x6 x7 x9 x11 h d e := by
  subst hy
  unfold out0_A_13
  rw [View.read_writes_junk_eq_canon]
  unfold kernelRun0_A
  dsimp only
  sl_unfold_words
  rw [View.canon_cons_unit_lit _ _ _ (by decide), View.readCov_eq_canon']
  have key : ∀ X : Vec Ideal S8x128x128 .f32,
      k0_pay5 (View.ld X (Rect.unit ![0, 0, 0] ![8, 128, 128] inb_S8x128x128_S8x128x128_0_0_0)) (ix4 (0 : Fin 1) h d e) = X (ix3 h d e) := fun X => by
    pointwise [k0_pay5]
  refine (key _).trans ?_
  obtain ⟨y, hy⟩ : ∃ y : S8x128x128.Idx, y = ix3 h d e := ⟨_, rfl⟩
  have hy0 : (y 0).val = h.val := by rw [hy]; rfl
  have hy1 : (y 1).val = d.val := by rw [hy]; rfl
  have hy2 : (y 2).val = e.val := by rw [hy]; rfl
  rw [← hy]
  clear key hy
  simp (disch := decide) only [↓ View.readCov_skip, ↓ View.readCov_fill, View.readAt_eq_ld, harg2.read_unread, harg3.read_unread, harg4.read_unread, harg5.read_unread, harg6.read_unread, harg7.read_unread, harg8.read_unread, harg9.read_unread, harg10.read_unread, harg11.read_unread, harg12.read_unread, harg13.read_unread]
  refine (canon_hide [_] [_, _, _, _, _, _, _, _] y ?_).trans ?_
  · exact View.cover_of_tiledL (s := S8x128x128) _ ![1, 128, 128] (by sl_kernel_rfl) y
  canon_tiles x hh
  · obtain rfl : h = (7 : Fin 8) := Fin.ext (by show h.val = 7; omega)
    rw [show x = ix3 (0 : Fin 1) d e from at3 x d e (by omega) (by omega)]
    refine (congrFun (head7C _ _ _ _ _ _ _ _) _).trans (headC_blk ?_ ?_ ?_ ?_ ?_ ?_ ?_ ?_)
    all_goals pointwise [k0_pay8, k0_pay9, k0_pay10]
  · obtain rfl : h = (6 : Fin 8) := Fin.ext (by show h.val = 6; omega)
    rw [show x = ix3 (0 : Fin 1) d e from at3 x d e (by omega) (by omega)]
    refine (congrFun (head6C _ _ _ _ _ _ _ _) _).trans (headC_blk ?_ ?_ ?_ ?_ ?_ ?_ ?_ ?_)
    all_goals pointwise [k0_pay8, k0_pay9, k0_pay10]
  · obtain rfl : h = (5 : Fin 8) := Fin.ext (by show h.val = 5; omega)
    rw [show x = ix3 (0 : Fin 1) d e from at3 x d e (by omega) (by omega)]
    refine (congrFun (head5C _ _ _ _ _ _ _ _) _).trans (headC_blk ?_ ?_ ?_ ?_ ?_ ?_ ?_ ?_)
    all_goals pointwise [k0_pay8, k0_pay9, k0_pay10]
  · obtain rfl : h = (4 : Fin 8) := Fin.ext (by show h.val = 4; omega)
    rw [show x = ix3 (0 : Fin 1) d e from at3 x d e (by omega) (by omega)]
    refine (congrFun (head4C _ _ _ _ _ _ _ _) _).trans (headC_blk ?_ ?_ ?_ ?_ ?_ ?_ ?_ ?_)
    all_goals pointwise [k0_pay8, k0_pay9, k0_pay10]
  · obtain rfl : h = (3 : Fin 8) := Fin.ext (by show h.val = 3; omega)
    rw [show x = ix3 (0 : Fin 1) d e from at3 x d e (by omega) (by omega)]
    refine (congrFun (head3C _ _ _ _ _ _ _ _) _).trans (headC_blk ?_ ?_ ?_ ?_ ?_ ?_ ?_ ?_)
    all_goals pointwise [k0_pay8, k0_pay9, k0_pay10]
  · obtain rfl : h = (2 : Fin 8) := Fin.ext (by show h.val = 2; omega)
    rw [show x = ix3 (0 : Fin 1) d e from at3 x d e (by omega) (by omega)]
    refine (congrFun (head2C _ _ _ _ _ _ _ _) _).trans (headC_blk ?_ ?_ ?_ ?_ ?_ ?_ ?_ ?_)
    all_goals pointwise [k0_pay8, k0_pay9, k0_pay10]
  · obtain rfl : h = (1 : Fin 8) := Fin.ext (by show h.val = 1; omega)
    rw [show x = ix3 (0 : Fin 1) d e from at3 x d e (by omega) (by omega)]
    refine (congrFun (head1C _ _ _ _ _ _ _ _) _).trans (headC_blk ?_ ?_ ?_ ?_ ?_ ?_ ?_ ?_)
    all_goals pointwise [k0_pay8, k0_pay9, k0_pay10]
  · obtain rfl : h = (0 : Fin 8) := Fin.ext (by show h.val = 0; omega)
    rw [show x = ix3 (0 : Fin 1) d e from at3 x d e (by omega) (by omega)]
    refine (congrFun (head0C _ _ _ _ _ _ _ _) _).trans (headC_blk ?_ ?_ ?_ ?_ ?_ ?_ ?_ ?_)
    all_goals pointwise [k0_pay8, k0_pay9, k0_pay10]

/-- The block of the normalisers. -/
theorem out0_A_14_at (c : Dev nD) (i : grid0.Coords) (arg2 : Memref sig .tc .vmem S1x128x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x8x1x128 .f32) (harg6 : arg6.IsWhole) (arg7 : Memref sig .tc .vmem S1x8x1x128 .f32) (harg7 : arg7.IsWhole) (arg8 : Memref sig .tc .vmem S8x1x1 .f32) (harg8 : arg8.IsWhole) (arg9 : Memref sig .tc .vmem S8x1x1 .f32) (harg9 : arg9.IsWhole) (arg10 : Memref sig .tc .vmem S8x1x128 .f32) (harg10 : arg10.IsWhole) (arg11 : Memref sig .tc .vmem S1x8x128x128 .f32) (harg11 : arg11.IsWhole) (arg12 : Memref sig .tc .vmem S1x8x1x128 .f32) (harg12 : arg12.IsWhole) (arg13 : Memref sig .tc .vmem S1x8x1x1 .f32) (harg13 : arg13.IsWhole) (arg14 : Memref sig .tc .vmem S1x128x1024 .bf16) (harg14 : arg14.IsWhole) (arg15 : Memref sig .tc .vmem S1x8x128x128 .f32) (harg15 : arg15.IsWhole) (arg16 : Memref sig .tc .vmem S1x8x1x128 .f32) (harg16 : arg16.IsWhole) (arg17 : Memref sig .tc .vmem S1x8x1x1 .f32) (harg17 : arg17.IsWhole) (arg18 : Memref sig .tc .vmem S8x128x128 .f32) (harg18 : arg18.IsWhole) (arg19 : Memref sig .tc .vmem S8x1x128 .f32) (harg19 : arg19.IsWhole) (arg20 : Memref sig .tc .vmem S8x1x1 .f32) (harg20 : arg20.IsWhole) (hc0 : cond0_0 i) (hc1 : cond0_1 i)
    (x0 : Vec Ideal S1x128x1024 .f32) (x1 : Vec Ideal S1x128x1024 .f32) (x2 : Vec Ideal S1x128x1024 .f32) (x3 : Vec Ideal S1x128x1024 .f32) (x4 : Vec Ideal S1x8x1x128 .f32) (x5 : Vec Ideal S1x8x1x128 .f32) (x6 : Vec Ideal S8x1x1 .f32) (x7 : Vec Ideal S8x1x1 .f32) (x8 : Vec Ideal S8x1x128 .f32) (x9 : Vec Ideal S1x8x128x128 .f32) (x10 : Vec Ideal S1x8x1x128 .f32) (x11 : Vec Ideal S1x8x1x1 .f32) (y : S1x8x1x128.Idx) (h : Fin 8) (d : Fin 128) (hy : y = ix4 (0 : Fin 1) h (0 : Fin 1) d) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 y = blkN x1 x4 x5 x6 x7 x10 x11 h d := by
  subst hy
  unfold out0_A_14
  rw [View.read_writes_junk_eq_canon]
  unfold kernelRun0_A
  dsimp only
  sl_unfold_words
  rw [View.canon_cons_unit_lit _ _ _ (by decide), View.readCov_eq_canon']
  have key : ∀ X : Vec Ideal S8x1x128 .f32,
      k0_pay6 (View.ld X (Rect.unit ![0, 0, 0] ![8, 1, 128] inb_S8x1x128_S8x1x128_0_0_0)) (ix4 (0 : Fin 1) h (0 : Fin 1) d) = X (ix3 h (0 : Fin 1) d) := fun X => by
    pointwise [k0_pay6]
  refine (key _).trans ?_
  obtain ⟨y, hy⟩ : ∃ y : S8x1x128.Idx, y = ix3 h (0 : Fin 1) d := ⟨_, rfl⟩
  have hy0 : (y 0).val = h.val := by rw [hy]; rfl
  have hy2 : (y 2).val = d.val := by rw [hy]; rfl
  rw [← hy]
  clear key hy
  simp (disch := decide) only [↓ View.readCov_skip, ↓ View.readCov_fill, View.readAt_eq_ld, harg2.read_unread, harg3.read_unread, harg4.read_unread, harg5.read_unread, harg6.read_unread, harg7.read_unread, harg8.read_unread, harg9.read_unread, harg10.read_unread, harg11.read_unread, harg12.read_unread, harg13.read_unread]
  refine (canon_hide [_] [_, _, _, _, _, _, _, _] y ?_).trans ?_
  · exact View.cover_of_tiledL (s := S8x1x128) _ ![1, 1, 128] (by sl_kernel_rfl) y
  canon_tiles x hh
  · obtain rfl : h = (7 : Fin 8) := Fin.ext (by show h.val = 7; omega)
    rw [show x = ix3 (0 : Fin 1) (0 : Fin 1) d from at3n x d (by omega)]
    refine (congrFun (head7N _ _ _ _ _ _ _) _).trans (headN_blk ?_ ?_ ?_ ?_ ?_ ?_ ?_)
    all_goals pointwise [k0_pay8, k0_pay9, k0_pay10]
  · obtain rfl : h = (6 : Fin 8) := Fin.ext (by show h.val = 6; omega)
    rw [show x = ix3 (0 : Fin 1) (0 : Fin 1) d from at3n x d (by omega)]
    refine (congrFun (head6N _ _ _ _ _ _ _) _).trans (headN_blk ?_ ?_ ?_ ?_ ?_ ?_ ?_)
    all_goals pointwise [k0_pay8, k0_pay9, k0_pay10]
  · obtain rfl : h = (5 : Fin 8) := Fin.ext (by show h.val = 5; omega)
    rw [show x = ix3 (0 : Fin 1) (0 : Fin 1) d from at3n x d (by omega)]
    refine (congrFun (head5N _ _ _ _ _ _ _) _).trans (headN_blk ?_ ?_ ?_ ?_ ?_ ?_ ?_)
    all_goals pointwise [k0_pay8, k0_pay9, k0_pay10]
  · obtain rfl : h = (4 : Fin 8) := Fin.ext (by show h.val = 4; omega)
    rw [show x = ix3 (0 : Fin 1) (0 : Fin 1) d from at3n x d (by omega)]
    refine (congrFun (head4N _ _ _ _ _ _ _) _).trans (headN_blk ?_ ?_ ?_ ?_ ?_ ?_ ?_)
    all_goals pointwise [k0_pay8, k0_pay9, k0_pay10]
  · obtain rfl : h = (3 : Fin 8) := Fin.ext (by show h.val = 3; omega)
    rw [show x = ix3 (0 : Fin 1) (0 : Fin 1) d from at3n x d (by omega)]
    refine (congrFun (head3N _ _ _ _ _ _ _) _).trans (headN_blk ?_ ?_ ?_ ?_ ?_ ?_ ?_)
    all_goals pointwise [k0_pay8, k0_pay9, k0_pay10]
  · obtain rfl : h = (2 : Fin 8) := Fin.ext (by show h.val = 2; omega)
    rw [show x = ix3 (0 : Fin 1) (0 : Fin 1) d from at3n x d (by omega)]
    refine (congrFun (head2N _ _ _ _ _ _ _) _).trans (headN_blk ?_ ?_ ?_ ?_ ?_ ?_ ?_)
    all_goals pointwise [k0_pay8, k0_pay9, k0_pay10]
  · obtain rfl : h = (1 : Fin 8) := Fin.ext (by show h.val = 1; omega)
    rw [show x = ix3 (0 : Fin 1) (0 : Fin 1) d from at3n x d (by omega)]
    refine (congrFun (head1N _ _ _ _ _ _ _) _).trans (headN_blk ?_ ?_ ?_ ?_ ?_ ?_ ?_)
    all_goals pointwise [k0_pay8, k0_pay9, k0_pay10]
  · obtain rfl : h = (0 : Fin 8) := Fin.ext (by show h.val = 0; omega)
    rw [show x = ix3 (0 : Fin 1) (0 : Fin 1) d from at3n x d (by omega)]
    refine (congrFun (head0N _ _ _ _ _ _ _) _).trans (headN_blk ?_ ?_ ?_ ?_ ?_ ?_ ?_)
    all_goals pointwise [k0_pay8, k0_pay9, k0_pay10]

/-- The block of the stabilisers. -/
theorem out0_A_15_at (c : Dev nD) (i : grid0.Coords) (arg2 : Memref sig .tc .vmem S1x128x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x8x1x128 .f32) (harg6 : arg6.IsWhole) (arg7 : Memref sig .tc .vmem S1x8x1x128 .f32) (harg7 : arg7.IsWhole) (arg8 : Memref sig .tc .vmem S8x1x1 .f32) (harg8 : arg8.IsWhole) (arg9 : Memref sig .tc .vmem S8x1x1 .f32) (harg9 : arg9.IsWhole) (arg10 : Memref sig .tc .vmem S8x1x128 .f32) (harg10 : arg10.IsWhole) (arg11 : Memref sig .tc .vmem S1x8x128x128 .f32) (harg11 : arg11.IsWhole) (arg12 : Memref sig .tc .vmem S1x8x1x128 .f32) (harg12 : arg12.IsWhole) (arg13 : Memref sig .tc .vmem S1x8x1x1 .f32) (harg13 : arg13.IsWhole) (arg14 : Memref sig .tc .vmem S1x128x1024 .bf16) (harg14 : arg14.IsWhole) (arg15 : Memref sig .tc .vmem S1x8x128x128 .f32) (harg15 : arg15.IsWhole) (arg16 : Memref sig .tc .vmem S1x8x1x128 .f32) (harg16 : arg16.IsWhole) (arg17 : Memref sig .tc .vmem S1x8x1x1 .f32) (harg17 : arg17.IsWhole) (arg18 : Memref sig .tc .vmem S8x128x128 .f32) (harg18 : arg18.IsWhole) (arg19 : Memref sig .tc .vmem S8x1x128 .f32) (harg19 : arg19.IsWhole) (arg20 : Memref sig .tc .vmem S8x1x1 .f32) (harg20 : arg20.IsWhole) (hc0 : cond0_0 i) (hc1 : cond0_1 i)
    (x0 : Vec Ideal S1x128x1024 .f32) (x1 : Vec Ideal S1x128x1024 .f32) (x2 : Vec Ideal S1x128x1024 .f32) (x3 : Vec Ideal S1x128x1024 .f32) (x4 : Vec Ideal S1x8x1x128 .f32) (x5 : Vec Ideal S1x8x1x128 .f32) (x6 : Vec Ideal S8x1x1 .f32) (x7 : Vec Ideal S8x1x1 .f32) (x8 : Vec Ideal S8x1x128 .f32) (x9 : Vec Ideal S1x8x128x128 .f32) (x10 : Vec Ideal S1x8x1x128 .f32) (x11 : Vec Ideal S1x8x1x1 .f32) (y : S1x8x1x1.Idx) (h : Fin 8) (hy : y = ix4 (0 : Fin 1) h (0 : Fin 1) (0 : Fin 1)) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 y = blkM x4 x5 x6 x7 x11 h := by
  subst hy
  unfold out0_A_15
  rw [View.read_writes_junk_eq_canon]
  unfold kernelRun0_A
  dsimp only
  sl_unfold_words
  rw [View.canon_cons_unit_lit _ _ _ (by decide), View.readCov_eq_canon']
  have key : ∀ X : Vec Ideal S8x1x1 .f32,
      k0_pay7 (View.ld X (Rect.unit ![0, 0, 0] ![8, 1, 1] inb_S8x1x1_S8x1x1_0_0_0)) (ix4 (0 : Fin 1) h (0 : Fin 1) (0 : Fin 1)) = X (ix3 h (0 : Fin 1) (0 : Fin 1)) := fun X => by
    pointwise [k0_pay7]
  refine (key _).trans ?_
  obtain ⟨y, hy⟩ : ∃ y : S8x1x1.Idx, y = ix3 h (0 : Fin 1) (0 : Fin 1) := ⟨_, rfl⟩
  have hy0 : (y 0).val = h.val := by rw [hy]; rfl
  rw [← hy]
  clear key hy
  simp (disch := decide) only [↓ View.readCov_skip, ↓ View.readCov_fill, View.readAt_eq_ld, harg2.read_unread, harg3.read_unread, harg4.read_unread, harg5.read_unread, harg6.read_unread, harg7.read_unread, harg8.read_unread, harg9.read_unread, harg10.read_unread, harg11.read_unread, harg12.read_unread, harg13.read_unread]
  refine (canon_hide [_] [_, _, _, _, _, _, _, _] y ?_).trans ?_
  · exact View.cover_of_tiledL (s := S8x1x1) _ ![1, 1, 1] (by sl_kernel_rfl) y
  canon_tiles x hh
  · obtain rfl : h = (7 : Fin 8) := Fin.ext (by show h.val = 7; omega)
    rw [show x = ix3 (0 : Fin 1) (0 : Fin 1) (0 : Fin 1) from at3m x]
    refine (congrFun (head7M _ _ _ _ _) _).trans (headM_blk ?_ ?_ ?_ ?_ ?_)
    all_goals pointwise [k0_pay8, k0_pay9, k0_pay10]
  · obtain rfl : h = (6 : Fin 8) := Fin.ext (by show h.val = 6; omega)
    rw [show x = ix3 (0 : Fin 1) (0 : Fin 1) (0 : Fin 1) from at3m x]
    refine (congrFun (head6M _ _ _ _ _) _).trans (headM_blk ?_ ?_ ?_ ?_ ?_)
    all_goals pointwise [k0_pay8, k0_pay9, k0_pay10]
  · obtain rfl : h = (5 : Fin 8) := Fin.ext (by show h.val = 5; omega)
    rw [show x = ix3 (0 : Fin 1) (0 : Fin 1) (0 : Fin 1) from at3m x]
    refine (congrFun (head5M _ _ _ _ _) _).trans (headM_blk ?_ ?_ ?_ ?_ ?_)
    all_goals pointwise [k0_pay8, k0_pay9, k0_pay10]
  · obtain rfl : h = (4 : Fin 8) := Fin.ext (by show h.val = 4; omega)
    rw [show x = ix3 (0 : Fin 1) (0 : Fin 1) (0 : Fin 1) from at3m x]
    refine (congrFun (head4M _ _ _ _ _) _).trans (headM_blk ?_ ?_ ?_ ?_ ?_)
    all_goals pointwise [k0_pay8, k0_pay9, k0_pay10]
  · obtain rfl : h = (3 : Fin 8) := Fin.ext (by show h.val = 3; omega)
    rw [show x = ix3 (0 : Fin 1) (0 : Fin 1) (0 : Fin 1) from at3m x]
    refine (congrFun (head3M _ _ _ _ _) _).trans (headM_blk ?_ ?_ ?_ ?_ ?_)
    all_goals pointwise [k0_pay8, k0_pay9, k0_pay10]
  · obtain rfl : h = (2 : Fin 8) := Fin.ext (by show h.val = 2; omega)
    rw [show x = ix3 (0 : Fin 1) (0 : Fin 1) (0 : Fin 1) from at3m x]
    refine (congrFun (head2M _ _ _ _ _) _).trans (headM_blk ?_ ?_ ?_ ?_ ?_)
    all_goals pointwise [k0_pay8, k0_pay9, k0_pay10]
  · obtain rfl : h = (1 : Fin 8) := Fin.ext (by show h.val = 1; omega)
    rw [show x = ix3 (0 : Fin 1) (0 : Fin 1) (0 : Fin 1) from at3m x]
    refine (congrFun (head1M _ _ _ _ _) _).trans (headM_blk ?_ ?_ ?_ ?_ ?_)
    all_goals pointwise [k0_pay8, k0_pay9, k0_pay10]
  · obtain rfl : h = (0 : Fin 8) := Fin.ext (by show h.val = 0; omega)
    rw [show x = ix3 (0 : Fin 1) (0 : Fin 1) (0 : Fin 1) from at3m x]
    refine (congrFun (head0M _ _ _ _ _) _).trans (headM_blk ?_ ?_ ?_ ?_ ?_)
    all_goals pointwise [k0_pay8, k0_pay9, k0_pay10]

end Cert.KernelMlsIdeal.Ret
-- ==== Proof.Mls.lean ====
module

public import proofs.«01_k».proof.Defs
public import proofs.«01_k».proof.Proof.MlsTiles
public import proofs.«01_k».proof.Proof.Gen.ReferenceMlsIdeal.Run
public import Idealize.ShloMosaic.Lib.Pointwise
public import Idealize.ShloMosaic.Lib.Pipeline.ValueKit
public import Idealize.ShloMosaic.Lib.Tactic
public import Idealize.ShloMosaic.Adequacy
public import Idealize.ShloMosaic.Init

@[expose] public section
set_option maxRecDepth 16384

noncomputable section
open Idealize.ShloMosaic Idealize.ShloMosaic.TcCoe Idealize.SL.Sem
open Idealize.ShloMosaic.Pipeline (Dat)

/-! The gated memory's states on the sample: one live position per row, from given states. -/

namespace Cert.KernelMlsIdeal.Ret
open Cert.KernelMlsIdeal Cert.KernelMlsIdeal.Gen
variable (m : (ℓ : Loc nD τ sig) → Buf (Elt Ideal) ℓ) (c : Dev nD)

/-- Where each window's block lies at grid point `t`: row `t`. -/
theorem idx : ∀ t : Fin cfg0.N,
    win0_1.index t = ![t.val, 0, 1] ∧ win0_2.index t = ![t.val, 0, 2]
    ∧ win0_4.index t = ![t.val, 0, 0, 0] ∧ win0_5.index t = ![t.val, 1, 0, 0]
    ∧ win0_6.index t = ![0, 0, 0] ∧ win0_7.index t = ![0, 0, 0] ∧ win0_9.index t = ![t.val, 0, 0, 0]
    ∧ win0_10.index t = ![t.val, 0, 0, 0] ∧ win0_11.index t = ![t.val, 0, 0, 0]
    ∧ win0_13.index t = ![t.val, 0, 0, 0] ∧ win0_14.index t = ![t.val, 0, 0, 0] ∧ win0_15.index t = ![t.val, 0, 0, 0] :=
  (by decide +kernel : ∀ t : Fin grid0.N, _)

/-- The row a grid point works on. -/
def rowOf (t : Fin cfg0.N) : Fin 8 := ⟨t.val, lt_of_lt_of_eq t.isLt N_0⟩

/-- Queries, keys, values and output gates, the first argument. -/
abbrev A0 : (⟨2, ![8, 4096]⟩ : Shape).Idx → EReal := m ((c : Thread nD τ).loc main_arg0)
/-- Input and forget gates, the second argument. -/
abbrev A1 : (⟨2, ![8, 16]⟩ : Shape).Idx → EReal := m ((c : Thread nD τ).loc main_arg1)
/-- The input gates' biases. -/
abbrev A2 : (⟨1, ![8]⟩ : Shape).Idx → EReal := m ((c : Thread nD τ).loc main_arg2)
/-- The forget gates' biases. -/
abbrev A3 : (⟨1, ![8]⟩ : Shape).Idx → EReal := m ((c : Thread nD τ).loc main_arg3)
/-- The old matrix memories. -/
abbrev A5 : (⟨4, ![8, 8, 128, 128]⟩ : Shape).Idx → EReal := m ((c : Thread nD τ).loc main_arg5)
/-- The old normalisers. -/
abbrev A6 : (⟨3, ![8, 8, 128]⟩ : Shape).Idx → EReal := m ((c : Thread nD τ).loc main_arg6)
/-- The old stabilisers. -/
abbrev A7 : (⟨2, ![8, 8]⟩ : Shape).Idx → EReal := m ((c : Thread nD τ).loc main_arg7)

/-- The first position of the filled-up first argument is its row. -/
theorem pad_z (b : Fin 8) (l : Fin 4096) : V m c main_v3 (ix3 b (0 : Fin 128) l) = A0 m c (ix2 b l) := by
  simp only [V, V0, hostOps0, hostOps0_1, hostOps0_2, hostOps0_3, hostOps0_4, List.flatten_cons, List.flatten_nil, List.append_nil, List.cons_append, List.nil_append]
  entry_read
  simp only [StableHlo.TRef.toBuf, StableHlo.TRef.ofBuf, cast_cast, cast_eq]
  pointwise

/-- The first position of the filled-up gates is their row. -/
theorem pad_g (b : Fin 8) (j : Fin 16) : V m c main_v1 (ix4 b j (0 : Fin 1) (0 : Fin 128)) = A1 m c (ix2 b j) := by
  simp only [V, V0, hostOps0, hostOps0_1, hostOps0_2, hostOps0_3, hostOps0_4, List.flatten_cons, List.flatten_nil, List.append_nil, List.cons_append, List.nil_append]
  entry_read
  simp only [StableHlo.TRef.toBuf, StableHlo.TRef.ofBuf, cast_cast, cast_eq]
  pointwise

/-- The input gates' biases, as the kernel is given them. -/
theorem bi_at (h : Fin 8) : V m c main_v4 (ix3 h (0 : Fin 1) (0 : Fin 1)) = A2 m c (ix1 h) := by
  simp only [V, V0, hostOps0, hostOps0_1, hostOps0_2, hostOps0_3, hostOps0_4, List.flatten_cons, List.flatten_nil, List.append_nil, List.cons_append, List.nil_append]
  entry_read
  pointwise

/-- The forget gates' biases, as the kernel is given them. -/
theorem bf_at (h : Fin 8) : V m c main_v5 (ix3 h (0 : Fin 1) (0 : Fin 1)) = A3 m c (ix1 h) := by
  simp only [V, V0, hostOps0, hostOps0_1, hostOps0_2, hostOps0_3, hostOps0_4, List.flatten_cons, List.flatten_nil, List.append_nil, List.cons_append, List.nil_append]
  entry_read
  pointwise

/-- The old normalisers, as the kernel is given them. -/
theorem n_at (b h : Fin 8) (d : Fin 128) : V m c main_v7 (ix4 b h (0 : Fin 1) d) = A6 m c (ix3 b h d) := by
  simp only [V, V0, hostOps0, hostOps0_1, hostOps0_2, hostOps0_3, hostOps0_4, List.flatten_cons, List.flatten_nil, List.append_nil, List.cons_append, List.nil_append]
  entry_read
  pointwise

/-- The old stabilisers, as the kernel is given them. -/
theorem m_at (b h : Fin 8) : V m c main_v8 (ix4 b h (0 : Fin 1) (0 : Fin 1)) = A7 m c (ix2 b h) := by
  simp only [V, V0, hostOps0, hostOps0_1, hostOps0_2, hostOps0_3, hostOps0_4, List.flatten_cons, List.flatten_nil, List.append_nil, List.cons_append, List.nil_append]
  entry_read
  pointwise

theorem k_blk (t : Fin cfg0.N) (d : Fin 1024) : iblk m c 1 t (ix3 (0 : Fin 1) (0 : Fin 128) d) = A0 m c (ix2 (rowOf t) (⟨1024 + d.val, by omega⟩ : Fin 4096)) := by
  refine Eq.trans ?_ (pad_z m c _ _)
  unfold rowOf
  blk_ext [iblk, idx t]

theorem v_blk (t : Fin cfg0.N) (d : Fin 1024) : iblk m c 2 t (ix3 (0 : Fin 1) (0 : Fin 128) d) = A0 m c (ix2 (rowOf t) (⟨2048 + d.val, by omega⟩ : Fin 4096)) := by
  refine Eq.trans ?_ (pad_z m c _ _)
  unfold rowOf
  blk_ext [iblk, idx t]

theorem ig_blk (t : Fin cfg0.N) (h : Fin 8) : iblk m c 4 t (ix4 (0 : Fin 1) h (0 : Fin 1) (0 : Fin 128)) = A1 m c (ix2 (rowOf t) (⟨h.val, by omega⟩ : Fin 16)) := by
  refine Eq.trans ?_ (pad_g m c _ _)
  unfold rowOf
  blk_ext [iblk, idx t]

theorem fg_blk (t : Fin cfg0.N) (h : Fin 8) : iblk m c 5 t (ix4 (0 : Fin 1) h (0 : Fin 1) (0 : Fin 128)) = A1 m c (ix2 (rowOf t) (⟨8 + h.val, by omega⟩ : Fin 16)) := by
  refine Eq.trans ?_ (pad_g m c _ _)
  unfold rowOf
  blk_ext [iblk, idx t]

theorem bi_blk (t : Fin cfg0.N) (h : Fin 8) : iblk m c 6 t (ix3 h (0 : Fin 1) (0 : Fin 1)) = A2 m c (ix1 h) := by
  refine Eq.trans ?_ (bi_at m c _)
  blk_ext [iblk, idx t]

theorem bf_blk (t : Fin cfg0.N) (h : Fin 8) : iblk m c 7 t (ix3 h (0 : Fin 1) (0 : Fin 1)) = A3 m c (ix1 h) := by
  refine Eq.trans ?_ (bf_at m c _)
  blk_ext [iblk, idx t]

theorem c_blk (t : Fin cfg0.N) (h : Fin 8) (d e : Fin 128) : iblk m c 9 t (ix4 (0 : Fin 1) h d e) = A5 m c (ix4 (rowOf t) h d e) := by
  unfold rowOf
  blk_ext [iblk, V, idx t]

theorem n_blk (t : Fin cfg0.N) (h : Fin 8) (d : Fin 128) : iblk m c 10 t (ix4 (0 : Fin 1) h (0 : Fin 1) d) = A6 m c (ix3 (rowOf t) h d) := by
  refine Eq.trans ?_ (n_at m c _ _ _)
  unfold rowOf
  blk_ext [iblk, idx t]

theorem m_blk (t : Fin cfg0.N) (h : Fin 8) : iblk m c 11 t (ix4 (0 : Fin 1) h (0 : Fin 1) (0 : Fin 1)) = A7 m c (ix2 (rowOf t) h) := by
  refine Eq.trans ?_ (m_at m c _ _)
  unfold rowOf
  blk_ext [iblk, idx t]

/-- The next matrix memory of row `b`, head `h`, from the arguments. -/
def NC (a0 : (⟨2, ![8, 4096]⟩ : Shape).Idx → EReal) (a1 : (⟨2, ![8, 16]⟩ : Shape).Idx → EReal) (a2 a3 : (⟨1, ![8]⟩ : Shape).Idx → EReal)
    (a5 : (⟨4, ![8, 8, 128, 128]⟩ : Shape).Idx → EReal) (a7 : (⟨2, ![8, 8]⟩ : Shape).Idx → EReal) (b h : Fin 8) (d e : Fin 128) : EReal :=
  cS (lfS (a1 (ix2 b (⟨8 + h.val, by omega⟩ : Fin 16)) + a3 (ix1 h))) (a1 (ix2 b (⟨h.val, by omega⟩ : Fin 16)) + a2 (ix1 h)) (a7 (ix2 b h)) (a5 (ix4 b h d e)) (a0 (ix2 b (⟨1024 + (h.val * 128 + d.val), by omega⟩ : Fin 4096)) * kSc) (a0 (ix2 b (⟨2048 + (h.val * 128 + e.val), by omega⟩ : Fin 4096)))

/-- The next normaliser of row `b`, head `h`, from the arguments. -/
def NN (a0 : (⟨2, ![8, 4096]⟩ : Shape).Idx → EReal) (a1 : (⟨2, ![8, 16]⟩ : Shape).Idx → EReal) (a2 a3 : (⟨1, ![8]⟩ : Shape).Idx → EReal)
    (a6 : (⟨3, ![8, 8, 128]⟩ : Shape).Idx → EReal) (a7 : (⟨2, ![8, 8]⟩ : Shape).Idx → EReal) (b h : Fin 8) (d : Fin 128) : EReal :=
  nS (lfS (a1 (ix2 b (⟨8 + h.val, by omega⟩ : Fin 16)) + a3 (ix1 h))) (a1 (ix2 b (⟨h.val, by omega⟩ : Fin 16)) + a2 (ix1 h)) (a7 (ix2 b h)) (a6 (ix3 b h d)) (a0 (ix2 b (⟨1024 + (h.val * 128 + d.val), by omega⟩ : Fin 4096)) * kSc)

/-- The next stabiliser of row `b`, head `h`, from the arguments. -/
def NM (a1 : (⟨2, ![8, 16]⟩ : Shape).Idx → EReal) (a2 a3 : (⟨1, ![8]⟩ : Shape).Idx → EReal)
    (a7 : (⟨2, ![8, 8]⟩ : Shape).Idx → EReal) (b h : Fin 8) : EReal :=
  mS (lfS (a1 (ix2 b (⟨8 + h.val, by omega⟩ : Fin 16)) + a3 (ix1 h))) (a1 (ix2 b (⟨h.val, by omega⟩ : Fin 16)) + a2 (ix1 h)) (a7 (ix2 b h))

/-- A point's next matrix memory, over the arguments. -/
theorem blkC_at (t : Fin cfg0.N) (h : Fin 8) (d e : Fin 128) :
    blkC (iblk m c 1 t) (iblk m c 2 t) (iblk m c 4 t) (iblk m c 5 t) (iblk m c 6 t) (iblk m c 7 t) (iblk m c 9 t) (iblk m c 11 t) h d e = NC (A0 m c) (A1 m c) (A2 m c) (A3 m c) (A5 m c) (A7 m c) (rowOf t) h d e := by
  unfold blkC NC
  simp only [k_blk, v_blk, ig_blk, fg_blk, bi_blk, bf_blk, c_blk, m_blk]

/-- A point's next normaliser, over the arguments. -/
theorem blkN_at (t : Fin cfg0.N) (h : Fin 8) (d : Fin 128) :
    blkN (iblk m c 1 t) (iblk m c 4 t) (iblk m c 5 t) (iblk m c 6 t) (iblk m c 7 t) (iblk m c 10 t) (iblk m c 11 t) h d = NN (A0 m c) (A1 m c) (A2 m c) (A3 m c) (A6 m c) (A7 m c) (rowOf t) h d := by
  unfold blkN NN
  simp only [k_blk, ig_blk, fg_blk, bi_blk, bf_blk, n_blk, m_blk]

/-- A point's next stabiliser, over the arguments. -/
theorem blkM_at (t : Fin cfg0.N) (h : Fin 8) :
    blkM (iblk m c 4 t) (iblk m c 5 t) (iblk m c 6 t) (iblk m c 7 t) (iblk m c 11 t) h = NM (A1 m c) (A2 m c) (A3 m c) (A7 m c) (rowOf t) h := by
  unfold blkM NM
  simp only [ig_blk, fg_blk, bi_blk, bf_blk, m_blk]

/-- The array of the matrix memories after the launch. -/
theorem final13 : (dats m 0 c).arrAt 13 (cfgs 0).N = fun i => NC (A0 m c) (A1 m c) (A2 m c) (A3 m c) (A5 m c) (A7 m c) (i 0) (i 1) (i 2) (i 3) := by
  refine (dats m 0 c).arrAt_eq_of_covers 13 _ (by decide +kernel) fun t _ y => ?_
  blk_simp
  rw [after0_13]
  have ht : t.val < 8 := lt_of_lt_of_eq t.isLt N_0
  unfold outsAt0
  dsimp only
  refine (out0_A_13_at (y := y) (h := y 1) (d := y 2) (e := y 3) (hy := ?_) ..).trans ?_
  · refine (eq_ix4 y).trans ?_
    have fz : ∀ a : Fin 1, a = 0 := fun a => Subsingleton.elim _ _
    have kz : ∀ (a a' : Fin 1) (b b' : Fin 8) (e e' : Fin 128) (g g' : Fin 128), a = a' → b = b' → e = e' → g = g' → (ix4 a b e g : (⟨4, ![1, 8, 128, 128]⟩ : Shape).Idx) = ix4 a' b' e' g' := by
      rintro _ _ _ _ _ _ _ _ rfl rfl rfl rfl; rfl
    exact kz _ _ _ _ _ _ _ _ (fz _) rfl rfl rfl
  refine (blkC_at m c t (y 1) (y 2) (y 3)).trans ?_
  have key : ∀ (b b' : Fin 8) (h h' : Fin 8) (d d' : Fin 128) (e e' : Fin 128), b = b' → h = h' → d = d' → e = e' → NC (A0 m c) (A1 m c) (A2 m c) (A3 m c) (A5 m c) (A7 m c) b h d e = NC (A0 m c) (A1 m c) (A2 m c) (A3 m c) (A5 m c) (A7 m c) b' h' d' e' := by
    rintro _ _ _ _ _ _ _ _ rfl rfl rfl rfl; rfl
  unfold rowOf
  refine key _ _ _ _ _ _ _ _ (Fin.ext ?_) (Fin.ext ?_) (Fin.ext ?_) (Fin.ext ?_) <;> blk_simp [idx t]

/-- The array of the normalisers after the launch. -/
theorem final14 : (dats m 0 c).arrAt 14 (cfgs 0).N = fun i => NN (A0 m c) (A1 m c) (A2 m c) (A3 m c) (A6 m c) (A7 m c) (i 0) (i 1) (i 3) := by
  refine (dats m 0 c).arrAt_eq_of_covers 14 _ (by decide +kernel) fun t _ y => ?_
  blk_simp
  rw [after0_14]
  have ht : t.val < 8 := lt_of_lt_of_eq t.isLt N_0
  unfold outsAt0
  dsimp only
  refine (out0_A_14_at (y := y) (h := y 1) (d := y 3) (hy := ?_) ..).trans ?_
  · refine (eq_ix4 y).trans ?_
    have fz : ∀ a : Fin 1, a = 0 := fun a => Subsingleton.elim _ _
    have kz : ∀ (a a' : Fin 1) (b b' : Fin 8) (e e' : Fin 1) (g g' : Fin 128), a = a' → b = b' → e = e' → g = g' → (ix4 a b e g : (⟨4, ![1, 8, 1, 128]⟩ : Shape).Idx) = ix4 a' b' e' g' := by
      rintro _ _ _ _ _ _ _ _ rfl rfl rfl rfl; rfl
    exact kz _ _ _ _ _ _ _ _ (fz _) rfl (fz _) rfl
  refine (blkN_at m c t (y 1) (y 3)).trans ?_
  have key : ∀ (b b' : Fin 8) (h h' : Fin 8) (d d' : Fin 128), b = b' → h = h' → d = d' → NN (A0 m c) (A1 m c) (A2 m c) (A3 m c) (A6 m c) (A7 m c) b h d = NN (A0 m c) (A1 m c) (A2 m c) (A3 m c) (A6 m c) (A7 m c) b' h' d' := by
    rintro _ _ _ _ _ _ rfl rfl rfl; rfl
  unfold rowOf
  refine key _ _ _ _ _ _ (Fin.ext ?_) (Fin.ext ?_) (Fin.ext ?_) <;> blk_simp [idx t]

/-- The array of the stabilisers after the launch. -/
theorem final15 : (dats m 0 c).arrAt 15 (cfgs 0).N = fun i => NM (A1 m c) (A2 m c) (A3 m c) (A7 m c) (i 0) (i 1) := by
  refine (dats m 0 c).arrAt_eq_of_covers 15 _ (by decide +kernel) fun t _ y => ?_
  blk_simp
  rw [after0_15]
  have ht : t.val < 8 := lt_of_lt_of_eq t.isLt N_0
  unfold outsAt0
  dsimp only
  refine (out0_A_15_at (y := y) (h := y 1) (hy := ?_) ..).trans ?_
  · refine (eq_ix4 y).trans ?_
    have fz : ∀ a : Fin 1, a = 0 := fun a => Subsingleton.elim _ _
    have kz : ∀ (a a' : Fin 1) (b b' : Fin 8) (e e' : Fin 1) (g g' : Fin 1), a = a' → b = b' → e = e' → g = g' → (ix4 a b e g : (⟨4, ![1, 8, 1, 1]⟩ : Shape).Idx) = ix4 a' b' e' g' := by
      rintro _ _ _ _ _ _ _ _ rfl rfl rfl rfl; rfl
    exact kz _ _ _ _ _ _ _ _ (fz _) rfl (fz _) (fz _)
  refine (blkM_at m c t (y 1)).trans ?_
  have key : ∀ (b b' : Fin 8) (h h' : Fin 8), b = b' → h = h' → NM (A1 m c) (A2 m c) (A3 m c) (A7 m c) b h = NM (A1 m c) (A2 m c) (A3 m c) (A7 m c) b' h' := by
    rintro _ _ _ _ rfl rfl; rfl
  unfold rowOf
  refine key _ _ _ _ (Fin.ext ?_) (Fin.ext ?_) <;> blk_simp [idx t]

/-- The second result. -/
theorem out1 : Pipeline.afterTail₀ cfgs (dats m) 0 (V0 m) [hostOps1] c main_v10 = fun i => NN (A0 m c) (A1 m c) (A2 m c) (A3 m c) (A6 m c) (A7 m c) (i 0) (i 1) (i 2) := by
  have e : Pipeline.withArrays spec0 c (V0 m c) (fun w => (dats m 0 c).arrAt w (cfgs 0).N) (Proc.devRef .tc main_v9_2)
      = (dats m 0 c).arrAt 14 (cfgs 0).N := Pipeline.Dat.withArrays_arrAt (dats m 0 c) sharedIn0 (V0 m c) (fun w => A_eq m c w) 14
  unfold Pipeline.afterTail₀
  simp only [hostOps1, List.flatten_cons, List.flatten_nil, List.append_nil, List.cons_append, List.nil_append]
  entry_read
  funext i
  rw [← ix3_eta i]
  refine Eq.trans ?_ (congrFun (final14 m c) (ix4 (i 0) (i 1) (0 : Fin 1) (i 2)))
  rw [← e]
  pointwise

/-- The third result. -/
theorem out2 : Pipeline.afterTail₀ cfgs (dats m) 0 (V0 m) [hostOps1] c main_v11 = fun i => NM (A1 m c) (A2 m c) (A3 m c) (A7 m c) (i 0) (i 1) := by
  have e : Pipeline.withArrays spec0 c (V0 m c) (fun w => (dats m 0 c).arrAt w (cfgs 0).N) (Proc.devRef .tc main_v9_3)
      = (dats m 0 c).arrAt 15 (cfgs 0).N := Pipeline.Dat.withArrays_arrAt (dats m 0 c) sharedIn0 (V0 m c) (fun w => A_eq m c w) 15
  unfold Pipeline.afterTail₀
  simp only [hostOps1, List.flatten_cons, List.flatten_nil, List.append_nil, List.cons_append, List.nil_append]
  entry_read
  funext i
  rw [← ix2_eta i]
  refine Eq.trans ?_ (congrFun (final15 m c) (ix4 (i 0) (i 1) (0 : Fin 1) (0 : Fin 1)))
  rw [← e]
  pointwise

end Cert.KernelMlsIdeal.Ret

namespace Cert.ReferenceMlsIdeal.Pt
open Cert.ReferenceMlsIdeal Cert.ReferenceMlsIdeal.Gen
variable (m : (ℓ : Loc nD τ sig) → Buf (Elt Ideal) ℓ)

/-- The reference leaves its arguments unchanged, and it has no semaphores. -/
theorem frame : Cert.quiescent_ReferenceMlsIdeal (hReferenceMlsIdeal := Cert.ReferenceMlsIdeal.Gen.facts) := by
  intro m ρ _
  refine (θ_run _ _ _).mono (fun r h => ⟨fun c => (h c).2.2.2, ?_⟩) (Cert.ReferenceMlsIdeal.Value.run m ρ)
  exact sem_eq_zero_of_no_sems rfl _

/-- The logistic's logarithm as the reference writes it. -/
theorem lf_ref (f : EReal) : -(if -f ≠ -f then -f else max (-f) 0 + Ideal.log1p (Ideal.exp (-FloatOps.absf (F := Ideal) (φ := .f32) (-f)))) = Cert.KernelMlsIdeal.Ret.lfS f :=
  Cert.KernelMlsIdeal.Ret.lfS_ref f

/-- A position is not after itself. -/
theorem tri (a b : EReal) : Scalar.select (Scalar.select (IntOp.cmpi .sge (IntOp.addi 0#32 0#32) 0#32) 1#1 0#1) a b = a := rfl

/-- The reference's stabiliser at an element. -/
theorem ref_m (c : Dev nD) (b h : Fin 8) :
    Value.res_main_v33 (F := Ideal) m c (ix2 b h) = Cert.KernelMlsIdeal.Ret.NM (m ((c : Thread nD τ).loc main_arg1)) (m ((c : Thread nD τ).loc main_arg2)) (m ((c : Thread nD τ).loc main_arg3)) (m ((c : Thread nD τ).loc main_arg7)) b h := by
  unfold Cert.KernelMlsIdeal.Ret.NM
  pointwise [Value.res_main_v33]
  simp only [lf_ref, tri, Finset.univ_unique, Finset.fold_singleton, Finset.sum_singleton, max_eq_left bot_le, Cert.KernelMlsIdeal.Ret.ofBits_bot, Cert.KernelMlsIdeal.Ret.mS_ref _ _ _ (Cert.KernelMlsIdeal.Ret.lfS_le _)]

/-- The reference's normaliser at an element. -/
theorem ref_n (c : Dev nD) (b h : Fin 8) (d : Fin 128) :
    Value.res_main_v55 (F := Ideal) m c (ix3 b h d) = Cert.KernelMlsIdeal.Ret.NN (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) b h d := by
  unfold Cert.KernelMlsIdeal.Ret.NN Cert.KernelMlsIdeal.Ret.nS Cert.KernelMlsIdeal.Ret.kSc
  pointwise [Value.res_main_v55]
  simp only [lf_ref, tri, Finset.univ_unique, Finset.fold_singleton, Finset.sum_singleton, max_eq_left bot_le, Cert.KernelMlsIdeal.Ret.ofBits_bot, Cert.KernelMlsIdeal.Ret.mS_ref _ _ _ (Cert.KernelMlsIdeal.Ret.lfS_le _)]

/-- The reference's matrix memory at an element. -/
theorem ref_c (c : Dev nD) (b h : Fin 8) (d e : Fin 128) :
    Value.res_main_v50 (F := Ideal) m c (ix4 b h d e) = Cert.KernelMlsIdeal.Ret.NC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) b h d e := by
  unfold Cert.KernelMlsIdeal.Ret.NC Cert.KernelMlsIdeal.Ret.cS Cert.KernelMlsIdeal.Ret.kSc
  pointwise [Value.res_main_v50]
  simp only [lf_ref, tri, Finset.univ_unique, Finset.fold_singleton, Finset.sum_singleton, max_eq_left bot_le, Cert.KernelMlsIdeal.Ret.ofBits_bot, Cert.KernelMlsIdeal.Ret.mS_ref _ _ _ (Cert.KernelMlsIdeal.Ret.lfS_le _)]
  rw [mul_comm (Ideal.exp (Cert.KernelMlsIdeal.Ret.lfS _ - _ + _ - _)) _]

/-- The same, with the arguments by name. -/
theorem ref_m_of (c : Dev nD) (b h : Fin 8) {a1 : (⟨2, ![8, 16]⟩ : Shape).Idx → EReal} {a2 : (⟨1, ![8]⟩ : Shape).Idx → EReal} {a3 : (⟨1, ![8]⟩ : Shape).Idx → EReal} {a7 : (⟨2, ![8, 8]⟩ : Shape).Idx → EReal}
    (h1 : m ((c : Thread nD τ).loc main_arg1) = a1) (h2 : m ((c : Thread nD τ).loc main_arg2) = a2) (h3 : m ((c : Thread nD τ).loc main_arg3) = a3) (h7 : m ((c : Thread nD τ).loc main_arg7) = a7) :
    Value.res_main_v33 (F := Ideal) m c (ix2 b h) = Cert.KernelMlsIdeal.Ret.NM a1 a2 a3 a7 b h := by
  rw [← h1, ← h2, ← h3, ← h7]
  exact ref_m m c b h

/-- The same, with the arguments by name. -/
theorem ref_n_of (c : Dev nD) (b h : Fin 8) (d : Fin 128) {a0 : (⟨2, ![8, 4096]⟩ : Shape).Idx → EReal} {a1 : (⟨2, ![8, 16]⟩ : Shape).Idx → EReal} {a2 : (⟨1, ![8]⟩ : Shape).Idx → EReal} {a3 : (⟨1, ![8]⟩ : Shape).Idx → EReal} {a6 : (⟨3, ![8, 8, 128]⟩ : Shape).Idx → EReal} {a7 : (⟨2, ![8, 8]⟩ : Shape).Idx → EReal}
    (h0 : m ((c : Thread nD τ).loc main_arg0) = a0) (h1 : m ((c : Thread nD τ).loc main_arg1) = a1) (h2 : m ((c : Thread nD τ).loc main_arg2) = a2) (h3 : m ((c : Thread nD τ).loc main_arg3) = a3) (h6 : m ((c : Thread nD τ).loc main_arg6) = a6) (h7 : m ((c : Thread nD τ).loc main_arg7) = a7) :
    Value.res_main_v55 (F := Ideal) m c (ix3 b h d) = Cert.KernelMlsIdeal.Ret.NN a0 a1 a2 a3 a6 a7 b h d := by
  rw [← h0, ← h1, ← h2, ← h3, ← h6, ← h7]
  exact ref_n m c b h d

/-- The same, with the arguments by name. -/
theorem ref_c_of (c : Dev nD) (b h : Fin 8) (d e : Fin 128) {a0 : (⟨2, ![8, 4096]⟩ : Shape).Idx → EReal} {a1 : (⟨2, ![8, 16]⟩ : Shape).Idx → EReal} {a2 : (⟨1, ![8]⟩ : Shape).Idx → EReal} {a3 : (⟨1, ![8]⟩ : Shape).Idx → EReal} {a5 : (⟨4, ![8, 8, 128, 128]⟩ : Shape).Idx → EReal} {a7 : (⟨2, ![8, 8]⟩ : Shape).Idx → EReal}
    (h0 : m ((c : Thread nD τ).loc main_arg0) = a0) (h1 : m ((c : Thread nD τ).loc main_arg1) = a1) (h2 : m ((c : Thread nD τ).loc main_arg2) = a2) (h3 : m ((c : Thread nD τ).loc main_arg3) = a3) (h5 : m ((c : Thread nD τ).loc main_arg5) = a5) (h7 : m ((c : Thread nD τ).loc main_arg7) = a7) :
    Value.res_main_v50 (F := Ideal) m c (ix4 b h d e) = Cert.KernelMlsIdeal.Ret.NC a0 a1 a2 a3 a5 a7 b h d e := by
  rw [← h0, ← h1, ← h2, ← h3, ← h5, ← h7]
  exact ref_c m c b h d e

/-- Over the extended reals the launch leaves what one step of the gated memory gives. -/
theorem same : Cert.algebraic_KernelMlsIdeal_ReferenceMlsIdeal (hKernelMlsIdeal := Cert.KernelMlsIdeal.Gen.facts) (hReferenceMlsIdeal := Cert.ReferenceMlsIdeal.Gen.facts) := by
  pair_intro
  · run_from Cert.KernelMlsIdeal.Gen.run_main m g
    · exact Cert.KernelMlsIdeal.Gen.W_main_arg0 m (Cert.KernelMlsIdeal.Gen.dats m) c
    · exact Cert.KernelMlsIdeal.Gen.W_main_arg1 m (Cert.KernelMlsIdeal.Gen.dats m) c
    · exact Cert.KernelMlsIdeal.Gen.W_main_arg2 m (Cert.KernelMlsIdeal.Gen.dats m) c
    · exact Cert.KernelMlsIdeal.Gen.W_main_arg3 m (Cert.KernelMlsIdeal.Gen.dats m) c
    · exact Cert.KernelMlsIdeal.Gen.W_main_arg4 m (Cert.KernelMlsIdeal.Gen.dats m) c
    · exact Cert.KernelMlsIdeal.Gen.W_main_arg6 m (Cert.KernelMlsIdeal.Gen.dats m) c
    · exact Cert.KernelMlsIdeal.Gen.W_main_arg7 m (Cert.KernelMlsIdeal.Gen.dats m) c
  · run_from Cert.ReferenceMlsIdeal.Value.run m' g'
    · refine Eq.trans (funext fun i => ?_) ((Cert.KernelMlsIdeal.Ret.final13 m c).trans rfl).symm
      obtain ⟨b, h, d, e, rfl⟩ : ∃ (b h : Fin 8) (d e : Fin 128), i = ix4 b h d e := ⟨i 0, i 1, i 2, i 3, eq_ix4 i⟩
      exact ref_c_of m' c b h d e (hagree c).1 (hagree c).2.1 (hagree c).2.2.1 (hagree c).2.2.2.1 (hagree c).2.2.2.2.2.1 (hagree c).2.2.2.2.2.2.2
    · refine Eq.trans (funext fun i => ?_) (Cert.KernelMlsIdeal.Ret.out1 m c).symm
      rw [← ix3_eta i]
      exact ref_n_of m' c (i 0) (i 1) (i 2) (hagree c).1 (hagree c).2.1 (hagree c).2.2.1 (hagree c).2.2.2.1 (hagree c).2.2.2.2.2.2.1 (hagree c).2.2.2.2.2.2.2
    · refine Eq.trans (funext fun i => ?_) (Cert.KernelMlsIdeal.Ret.out2 m c).symm
      rw [← ix2_eta i]
      exact ref_m_of m' c (i 0) (i 1) (hagree c).2.1 (hagree c).2.2.1 (hagree c).2.2.2.1 (hagree c).2.2.2.2.2.2.2
end Cert.ReferenceMlsIdeal.Pt
-- ==== Proof.Heads.lean ====
module

public import proofs.«01_k».proof.Proof.Gen.KernelIdeal.Skeleton
public import proofs.«01_k».proof.Proof.Spec

@[expose] public section
set_option maxRecDepth 16384

/-! # What the kernel computes for one head of one chunk

The kernel's text treats its four heads one after the other.  For each head this file reads two expressions at an index:
the state it stores, as `Ret.nextS`, and the output row it stores, as `Ret.normGate` of `Ret.outRow`. -/

noncomputable section
open Idealize.ShloMosaic Idealize.ShloMosaic.TcCoe Idealize.SL.Sem
namespace Cert.KernelIdeal.Ret
open Cert.KernelIdeal Cert.KernelIdeal.Gen Cert.Ret

variable (q k : Vec Ideal S1x128x128 .f32) (v : Vec Ideal S1x128x256 .f32) (gd : Vec Ideal S1x128x256 .f32)
  (lg : Vec Ideal S1x1x1 .f32) (g : Vec Ideal S1x1x256 .f32) (s : Vec Ideal S1x128x256 .f32)

/-- The state a head stores, from its blocks of keys, values, decay and old state. -/
def headS (d : Fin 128) (e : Fin 256) : EReal :=
  nextS (lg (ix3 (0 : Fin 1) (0 : Fin 1) (0 : Fin 1))) (fun x d => k (ix3 (0 : Fin 1) x d) * cSc) (fun x e => v (ix3 (0 : Fin 1) x e)) (fun d e => s (ix3 (0 : Fin 1) d e)) d e

/-- The head's outputs before normalising. -/
def headO (t : Fin 128) (e : Fin 256) : EReal :=
  outRow (lg (ix3 (0 : Fin 1) (0 : Fin 1) (0 : Fin 1))) (fun x d => q (ix3 (0 : Fin 1) x d)) (fun x d => k (ix3 (0 : Fin 1) x d) * cSc)
    (fun x e => v (ix3 (0 : Fin 1) x e)) (fun d e => s (ix3 (0 : Fin 1) d e)) t e

/-- The outputs a head stores. -/
def headN (t : Fin 128) (e : Fin 256) : EReal :=
  normGate (headO q k v lg s t) (g (ix3 (0 : Fin 1) (0 : Fin 1) e)) (gd (ix3 (0 : Fin 1) t e)) e

/-- The stored state with the kernel's order of factors and its test that a position lies in the chunk. -/
theorem headS_eq (d : Fin 128) (e : Fin 256) :
    Ideal.exp (c128 * lg (ix3 (0 : Fin 1) (0 : Fin 1) (0 : Fin 1))) * s (ix3 (0 : Fin 1) d e)
      + ∑ x : Fin 128, (k (ix3 (0 : Fin 1) x d) * cSc * if tv x < c128 then Ideal.exp ((c127 - tv x) * lg (ix3 (0 : Fin 1) (0 : Fin 1) (0 : Fin 1))) else 0) * v (ix3 (0 : Fin 1) x e)
      = headS k v lg s d e := by
  unfold headS nextS
  congr 1
  refine Finset.sum_congr rfl fun x _ => ?_
  rw [if_pos (tv_lt x), mul_comm (k (ix3 (0 : Fin 1) x d) * cSc)]

/-- Head 0 stores its new state. -/
theorem head0_state (d : Fin 128) (e : Fin 256) :
    (k0_pay13 k0_pay3 (k0_pay7 k) (k0_pay8 v) (k0_pay9 lg) (k0_pay10 s)) (ix3 (0 : Fin 1) d e) = headS k v lg s d e := by
  rw [← headS_eq]
  unfold c128 c127 cSc tv
  pointwise [k0_pay13, k0_pay3, k0_pay7, k0_pay8, k0_pay9, k0_pay10]

/-- Head 1 stores its new state. -/
theorem head1_state (d : Fin 128) (e : Fin 256) :
    (k0_pay25 (k0_pay18 k) (k0_pay19 v) (k0_pay23 lg s) (k0_pay24 k0_pay3 lg)) (ix3 (0 : Fin 1) d e) = headS k v lg s d e := by
  rw [← headS_eq]
  unfold c128 c127 cSc tv
  pointwise [k0_pay25, k0_pay18, k0_pay19, k0_pay23, k0_pay24, k0_pay3, k0_pay20, k0_pay21]

/-- Head 2 stores its new state. -/
theorem head2_state (d : Fin 128) (e : Fin 256) :
    (k0_pay36 k0_pay3 (k0_pay29 k) (k0_pay30 v) (k0_pay31 lg) (k0_pay32 s)) (ix3 (0 : Fin 1) d e) = headS k v lg s d e := by
  rw [← headS_eq]
  unfold c128 c127 cSc tv
  pointwise [k0_pay36, k0_pay3, k0_pay29, k0_pay30, k0_pay31, k0_pay32]

/-- Head 3 stores its new state. -/
theorem head3_state (d : Fin 128) (e : Fin 256) :
    (k0_pay50 (k0_pay49 k0_pay3 (k0_pay43 k) (k0_pay44 v) (k0_pay45 lg) s)) (ix3 (0 : Fin 1) d e) = headS k v lg s d e := by
  rw [← headS_eq]
  unfold c128 c127 cSc tv
  pointwise [k0_pay50, k0_pay49, k0_pay3, k0_pay43, k0_pay44, k0_pay45, k0_pay47]

/-- Head 0's outputs before normalising. -/
theorem head0_out (t : Fin 128) (e : Fin 256) :
    (k0_pay12 k0_pay3 (k0_pay6 q) (k0_pay8 v) (k0_pay9 lg) (k0_pay10 s) (k0_pay11 q k lg) : FVec Ideal S128x256 .f32) (ix2 t e) = headO q k v lg s t e := by
  unfold headO outRow
  simp only [← tv_sub]
  unfold tv cSc
  pointwise [k0_pay12, k0_pay3, k0_pay6, k0_pay8, k0_pay9, k0_pay10, k0_pay11, k0_pay5, k0_pay4, k0_pay7]

/-- Head 1's outputs before normalising. -/
theorem head1_out (t : Fin 128) (e : Fin 256) :
    (k0_pay22 k0_pay3 (k0_pay4 (F := Ideal)) (k0_pay5 (F := Ideal)) (k0_pay17 q) (k0_pay18 k) (k0_pay19 v) lg s : FVec Ideal S128x256 .f32) (ix2 t e) = headO q k v lg s t e := by
  unfold headO outRow
  simp only [← tv_sub]
  unfold tv cSc
  pointwise [k0_pay22, k0_pay3, k0_pay4, k0_pay5, k0_pay17, k0_pay18, k0_pay19, k0_pay20, k0_pay21]

/-- Head 2's outputs before normalising (minus their mean). -/
theorem head2_out (t : Fin 128) (e : Fin 256) :
    (k0_pay39 (k0_pay32 s) (k0_pay33 (k0_pay4 (F := Ideal)) (k0_pay5 (F := Ideal)) q k v lg) (k0_pay34 k0_pay3 lg) (k0_pay35 q) : FVec Ideal S128x256 .f32) (ix2 t e) = headO q k v lg s t e - Ideal.div (∑ x, headO q k v lg s t x) c256 := by
  unfold headO outRow c256
  simp only [← tv_sub]
  unfold tv cSc
  pointwise [k0_pay39, k0_pay32, k0_pay33, k0_pay4, k0_pay5, k0_pay34, k0_pay3, k0_pay35, k0_pay31, k0_pay28, k0_pay29, k0_pay30]

/-- Head 3's outputs before normalising. -/
theorem head3_out (t : Fin 128) (e : Fin 256) :
    (k0_pay48 k0_pay3 (k0_pay5 (F := Ideal)) (k0_pay42 q) (k0_pay43 k) (k0_pay44 v) (k0_pay45 lg) (k0_pay46 (k0_pay4 (F := Ideal)) (k0_pay5 (F := Ideal)) lg) s : FVec Ideal S128x256 .f32) (ix2 t e) = headO q k v lg s t e := by
  unfold headO outRow
  simp only [← tv_sub]
  unfold tv cSc
  pointwise [k0_pay48, k0_pay3, k0_pay5, k0_pay42, k0_pay43, k0_pay44, k0_pay45, k0_pay46, k0_pay4, k0_pay47]

/-- Subtracting from zero is negation. -/
theorem zero_sub' (x : EReal) : (0 : EReal) - x = -x := by rw [sub_eq_add_neg, zero_add]

/-- Normalising and gating head 0. -/
theorem head0_norm (w : FVec Ideal S128x256 .f32) (t : Fin 128) (e : Fin 256) :
    (k0_pay16 w (k0_pay14 gd) (k0_pay15 g)) (ix3 (0 : Fin 1) t e) = normGate (fun e => w (ix2 t e)) (g (ix3 (0 : Fin 1) (0 : Fin 1) e)) (gd (ix3 (0 : Fin 1) t e)) e := by
  unfold normGate c256 cEps
  simp only [← zero_sub']
  pointwise [k0_pay16, k0_pay14, k0_pay15]

/-- Normalising and gating head 1. -/
theorem head1_norm (w : FVec Ideal S128x256 .f32) (t : Fin 128) (e : Fin 256) :
    (k0_pay27 (k0_pay26 w gd g)) (ix3 (0 : Fin 1) t e) = normGate (fun e => w (ix2 t e)) (g (ix3 (0 : Fin 1) (0 : Fin 1) e)) (gd (ix3 (0 : Fin 1) t e)) e := by
  unfold normGate c256 cEps
  simp only [← zero_sub']
  pointwise [k0_pay27, k0_pay26]

/-- Normalising and gating head 3. -/
theorem head3_norm (w : FVec Ideal S128x256 .f32) (t : Fin 128) (e : Fin 256) :
    (k0_pay51 w gd g) (ix3 (0 : Fin 1) t e) = normGate (fun e => w (ix2 t e)) (g (ix3 (0 : Fin 1) (0 : Fin 1) e)) (gd (ix3 (0 : Fin 1) t e)) e := by
  unfold normGate c256 cEps
  simp only [← zero_sub']
  pointwise [k0_pay51]

/-- Head 0 stores its outputs. -/
theorem head0_store (t : Fin 128) (e : Fin 256) :
    (k0_pay16 (k0_pay12 k0_pay3 (k0_pay6 q) (k0_pay8 v) (k0_pay9 lg) (k0_pay10 s) (k0_pay11 q k lg)) (k0_pay14 gd) (k0_pay15 g)) (ix3 (0 : Fin 1) t e) = headN q k v gd lg g s t e := by
  rw [head0_norm]
  simp only [head0_out]
  rfl

/-- Head 1 stores its outputs. -/
theorem head1_store (t : Fin 128) (e : Fin 256) :
    (k0_pay27 (k0_pay26 (k0_pay22 k0_pay3 (k0_pay4 (F := Ideal)) (k0_pay5 (F := Ideal)) (k0_pay17 q) (k0_pay18 k) (k0_pay19 v) lg s) gd g)) (ix3 (0 : Fin 1) t e) = headN q k v gd lg g s t e := by
  rw [head1_norm]
  simp only [head1_out]
  rfl

/-- Head 3 stores its outputs. -/
theorem head3_store (t : Fin 128) (e : Fin 256) :
    (k0_pay51 (k0_pay48 k0_pay3 (k0_pay5 (F := Ideal)) (k0_pay42 q) (k0_pay43 k) (k0_pay44 v) (k0_pay45 lg) (k0_pay46 (k0_pay4 (F := Ideal)) (k0_pay5 (F := Ideal)) lg) s) gd g) (ix3 (0 : Fin 1) t e) = headN q k v gd lg g s t e := by
  rw [head3_norm]
  simp only [head3_out]
  rfl

/-- Head 2 stores its outputs. -/
theorem head2_store (t : Fin 128) (e : Fin 256) :
    (k0_pay41 (k0_pay37 gd) (k0_pay38 g) (k0_pay39 (k0_pay32 s) (k0_pay33 (k0_pay4 (F := Ideal)) (k0_pay5 (F := Ideal)) q k v lg) (k0_pay34 k0_pay3 lg) (k0_pay35 q)) (k0_pay40 (k0_pay32 s) (k0_pay33 (k0_pay4 (F := Ideal)) (k0_pay5 (F := Ideal)) q k v lg) (k0_pay34 k0_pay3 lg) (k0_pay35 q))) (ix3 (0 : Fin 1) t e)
      = headN q k v gd lg g s t e := by
  have h := head2_out q k v lg s
  unfold headN normGate
  simp only [← h]
  generalize (k0_pay33 (k0_pay4 (F := Ideal)) (k0_pay5 (F := Ideal)) q k v lg : FVec Ideal S128x256 .f32) = w1
  generalize (k0_pay34 k0_pay3 lg : FVec Ideal S128x1 .f32) = w2
  generalize (k0_pay35 q : FVec Ideal S128x128 .bf16) = w3
  generalize (k0_pay32 s : FVec Ideal S128x256 .f32) = w4
  unfold k0_pay40
  generalize k0_pay39 w4 w1 w2 w3 = w
  unfold c256 cEps
  simp only [← zero_sub']
  pointwise [k0_pay41, k0_pay37, k0_pay38]

end Cert.KernelIdeal.Ret
-- ==== Proof.Tiles.lean ====
module

public import proofs.«01_k».proof.Proof.Gen.KernelIdeal.Value
public import proofs.«01_k».proof.Proof.Heads
public import Idealize.ShloMosaic.Lib.Pointwise
public import Idealize.ShloMosaic.Lib.Pipeline.ValueKit
public import Idealize.ShloMosaic.Lib.Pipeline.ReadBack
public import Idealize.ShloMosaic.Lib.Tactic

@[expose] public section
set_option maxRecDepth 16384

/-! # What a grid point of the kernel leaves, at an index

A grid point handles one chunk of 128 positions of one row.  In all three cases (first chunk of a row, a chunk in
between, last chunk) the carried scratch ends up as the next state and the output block as the normalised outputs, of
the point's input blocks and the state it started from. -/

noncomputable section
open Idealize.ShloMosaic Idealize.ShloMosaic.TcCoe Idealize.SL.Sem
namespace Cert.KernelIdeal.Ret
open Cert.KernelIdeal Cert.KernelIdeal.Gen Cert.Ret

/-- The next state of head `h` from a point's blocks. -/
def blkS (x1 : Vec Ideal S1x128x512 .f32) (x2 : Vec Ideal S1x128x1024 .f32) (x4 : Vec Ideal S4x1x1 .f32)
    (s : Fin 4 → Fin 128 → Fin 256 → EReal) (h : Fin 4) (d : Fin 128) (e : Fin 256) : EReal :=
  nextS (x4 (ix3 h (0 : Fin 1) (0 : Fin 1)))
    (fun x d => x1 (ix3 (0 : Fin 1) x (⟨h.val * 128 + d.val, by omega⟩ : Fin 512)) * cSc)
    (fun x e => x2 (ix3 (0 : Fin 1) x (⟨h.val * 256 + e.val, by omega⟩ : Fin 1024))) (s h) d e

/-- The output of head `h` from a point's blocks. -/
def blkN (x0 x1 : Vec Ideal S1x128x512 .f32) (x2 x3 : Vec Ideal S1x128x1024 .f32) (x4 : Vec Ideal S4x1x1 .f32)
    (x5 : Vec Ideal S4x1x256 .f32) (s : Fin 4 → Fin 128 → Fin 256 → EReal) (h : Fin 4) (t : Fin 128) (e : Fin 256) : EReal :=
  normGate (outRow (x4 (ix3 h (0 : Fin 1) (0 : Fin 1)))
      (fun x d => x0 (ix3 (0 : Fin 1) x (⟨h.val * 128 + d.val, by omega⟩ : Fin 512)))
      (fun x d => x1 (ix3 (0 : Fin 1) x (⟨h.val * 128 + d.val, by omega⟩ : Fin 512)) * cSc)
      (fun x e => x2 (ix3 (0 : Fin 1) x (⟨h.val * 256 + e.val, by omega⟩ : Fin 1024))) (s h) t)
    (x5 (ix3 h (0 : Fin 1) e)) (x3 (ix3 (0 : Fin 1) t (⟨h.val * 256 + e.val, by omega⟩ : Fin 1024))) e

/-- Stores that cover an index hide every earlier one. -/
theorem canon_hide {s : Shape} {e : EltTy} {Val : EltTy → Type} [∀ e, Nonempty (Val e)] (L' : List (View.Piece Val s e)) :
    ∀ (L : List (View.Piece Val s e)) (y : s.Idx), (∃ p ∈ L, y ∈ p.1.set) → View.canon (L ++ L') y = View.canon L y
  | [], _, h => by obtain ⟨p, hp, _⟩ := h; simp at hp
  | p :: L, y, h => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans (Eq.trans ?_ (View.canon_cons_of_not_mem p L hm).symm)
      refine canon_hide L' L y ?_
      obtain ⟨q, hq, hy⟩ := h
      rcases List.mem_cons.mp hq with rfl | hq
      · exact absurd hy hm
      · exact ⟨q, hq, hy⟩

/-- An index of a block with one leading coordinate, by its other two. -/
theorem at3 (x : S1x128x256.Idx) (a : Fin 128) (b : Fin 256) (ha : (x 1).val = a.val) (hb : (x 2).val = b.val) :
    x = ix3 (0 : Fin 1) a b := by
  rw [eq_ix3 x, show x 0 = (0 : Fin 1) from Fin.fin_one_eq_zero (x 0), show x 1 = a from Fin.ext ha, show x 2 = b from Fin.ext hb]

/-- A head's state from parts of a point's blocks. -/
theorem headS_blk {k : Vec Ideal S1x128x128 .f32} {v : Vec Ideal S1x128x256 .f32} {lg : Vec Ideal S1x1x1 .f32}
    {s : Vec Ideal S1x128x256 .f32} {x1 : Vec Ideal S1x128x512 .f32} {x2 : Vec Ideal S1x128x1024 .f32} {x4 : Vec Ideal S4x1x1 .f32}
    {S : Fin 4 → Fin 128 → Fin 256 → EReal} {h : Fin 4}
    (hl : lg (ix3 (0 : Fin 1) (0 : Fin 1) (0 : Fin 1)) = x4 (ix3 h (0 : Fin 1) (0 : Fin 1)))
    (hk : ∀ (x : Fin 128) (d : Fin 128), k (ix3 (0 : Fin 1) x d) = x1 (ix3 (0 : Fin 1) x (⟨h.val * 128 + d.val, by omega⟩ : Fin 512)))
    (hv : ∀ (x : Fin 128) (e : Fin 256), v (ix3 (0 : Fin 1) x e) = x2 (ix3 (0 : Fin 1) x (⟨h.val * 256 + e.val, by omega⟩ : Fin 1024)))
    (hs : ∀ (d : Fin 128) (e : Fin 256), s (ix3 (0 : Fin 1) d e) = S h d e) (d : Fin 128) (e : Fin 256) :
    headS k v lg s d e = blkS x1 x2 x4 S h d e := by
  unfold headS blkS
  simp only [hl, hk, hv, hs]

/-- A head's outputs from parts of a point's blocks. -/
theorem headN_blk {q k : Vec Ideal S1x128x128 .f32} {v gd : Vec Ideal S1x128x256 .f32} {lg : Vec Ideal S1x1x1 .f32} {g : Vec Ideal S1x1x256 .f32}
    {s : Vec Ideal S1x128x256 .f32} {x0 x1 : Vec Ideal S1x128x512 .f32} {x2 x3 : Vec Ideal S1x128x1024 .f32} {x4 : Vec Ideal S4x1x1 .f32}
    {x5 : Vec Ideal S4x1x256 .f32} {S : Fin 4 → Fin 128 → Fin 256 → EReal} {h : Fin 4}
    (hl : lg (ix3 (0 : Fin 1) (0 : Fin 1) (0 : Fin 1)) = x4 (ix3 h (0 : Fin 1) (0 : Fin 1)))
    (hq : ∀ (x : Fin 128) (d : Fin 128), q (ix3 (0 : Fin 1) x d) = x0 (ix3 (0 : Fin 1) x (⟨h.val * 128 + d.val, by omega⟩ : Fin 512)))
    (hk : ∀ (x : Fin 128) (d : Fin 128), k (ix3 (0 : Fin 1) x d) = x1 (ix3 (0 : Fin 1) x (⟨h.val * 128 + d.val, by omega⟩ : Fin 512)))
    (hv : ∀ (x : Fin 128) (e : Fin 256), v (ix3 (0 : Fin 1) x e) = x2 (ix3 (0 : Fin 1) x (⟨h.val * 256 + e.val, by omega⟩ : Fin 1024)))
    (hg : ∀ e : Fin 256, g (ix3 (0 : Fin 1) (0 : Fin 1) e) = x5 (ix3 h (0 : Fin 1) e))
    (hgd : ∀ (x : Fin 128) (e : Fin 256), gd (ix3 (0 : Fin 1) x e) = x3 (ix3 (0 : Fin 1) x (⟨h.val * 256 + e.val, by omega⟩ : Fin 1024)))
    (hs : ∀ (d : Fin 128) (e : Fin 256), s (ix3 (0 : Fin 1) d e) = S h d e) (t : Fin 128) (e : Fin 256) :
    headN q k v gd lg g s t e = blkN x0 x1 x2 x3 x4 x5 S h t e := by
  unfold headN headO blkN
  simp only [hl, hq, hk, hv, hs, hg, hgd]

/-- Case A: the carried state. -/
theorem sout0_A_0_at (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S4x1x1 .f32) (harg6 : arg6.IsWhole) (arg7 : Memref sig .tc .vmem S4x1x256 .f32) (harg7 : arg7.IsWhole) (arg8 : Memref sig .tc .vmem S1x4x128x256 .f32) (harg8 : arg8.IsWhole) (arg9 : Memref sig .tc .vmem S1x128x1024 .bf16) (harg9 : arg9.IsWhole) (arg10 : Memref sig .tc .vmem S1x4x128x256 .f32) (harg10 : arg10.IsWhole) (arg11 : Memref sig .tc .vmem S4x128x256 .f32) (harg11 : arg11.IsWhole) (hc0 : cond0_0 i) (hc1 : ¬cond0_1 i)
    (x0 : Vec Ideal S1x128x512 .f32) (x1 : Vec Ideal S1x128x512 .f32) (x2 : Vec Ideal S1x128x1024 .f32) (x3 : Vec Ideal S1x128x1024 .f32) (x4 : Vec Ideal S4x1x1 .f32) (x5 : Vec Ideal S4x1x256 .f32) (x6 : Vec Ideal S1x4x128x256 .f32) (y : S4x128x256.Idx) (h : Fin 4) (d : Fin 128) (e : Fin 256) (hy0 : (y 0).val = h.val) (hy1 : (y 1).val = d.val) (hy2 : (y 2).val = e.val) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 y = blkS x1 x2 x4 (fun h d e => x6 (ix4 (0 : Fin 1) h d e)) h d e := by
  unfold sout0_A_0
  rw [View.read_writes_junk_eq_canon]
  unfold kernelRun0_A
  dsimp only
  sl_unfold_words
  simp (disch := decide) only [↓ View.readCov_skip, ↓ View.readCov_fill, View.readAt_eq_ld, harg2.read_unread, harg3.read_unread, harg4.read_unread, harg5.read_unread, harg6.read_unread, harg7.read_unread, harg8.read_unread]
  refine (canon_hide [_] [_, _, _, _] y ?_).trans ?_
  · exact View.cover_of_tiledL (s := S4x128x256) _ ![1, 128, 256] (by sl_kernel_rfl) y
  canon_tiles x hh
  · obtain rfl : h = (3 : Fin 4) := Fin.ext (by show h.val = 3; omega)
    rw [show x = ix3 (0 : Fin 1) d e from at3 x d e (by omega) (by omega)]
    refine (head3_state _ _ _ _ d e).trans (headS_blk ?_ (fun x d => ?_) (fun x e => ?_) (fun d e => ?_) d e)
    all_goals pointwise [k0_pay2]
  · obtain rfl : h = (2 : Fin 4) := Fin.ext (by show h.val = 2; omega)
    rw [show x = ix3 (0 : Fin 1) d e from at3 x d e (by omega) (by omega)]
    refine (head2_state _ _ _ _ d e).trans (headS_blk ?_ (fun x d => ?_) (fun x e => ?_) (fun d e => ?_) d e)
    all_goals pointwise [k0_pay2]
  · obtain rfl : h = (1 : Fin 4) := Fin.ext (by show h.val = 1; omega)
    rw [show x = ix3 (0 : Fin 1) d e from at3 x d e (by omega) (by omega)]
    refine (head1_state _ _ _ _ d e).trans (headS_blk ?_ (fun x d => ?_) (fun x e => ?_) (fun d e => ?_) d e)
    all_goals pointwise [k0_pay2]
  · obtain rfl : h = (0 : Fin 4) := Fin.ext (by show h.val = 0; omega)
    rw [show x = ix3 (0 : Fin 1) d e from at3 x d e (by omega) (by omega)]
    refine (head0_state _ _ _ _ d e).trans (headS_blk ?_ (fun x d => ?_) (fun x e => ?_) (fun d e => ?_) d e)
    all_goals pointwise [k0_pay2]

/-- Case B: the carried state. -/
theorem sout0_B_0_at (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S4x1x1 .f32) (harg6 : arg6.IsWhole) (arg7 : Memref sig .tc .vmem S4x1x256 .f32) (harg7 : arg7.IsWhole) (arg8 : Memref sig .tc .vmem S1x4x128x256 .f32) (harg8 : arg8.IsWhole) (arg9 : Memref sig .tc .vmem S1x128x1024 .bf16) (harg9 : arg9.IsWhole) (arg10 : Memref sig .tc .vmem S1x4x128x256 .f32) (harg10 : arg10.IsWhole) (arg11 : Memref sig .tc .vmem S4x128x256 .f32) (harg11 : arg11.IsWhole) (hc0 : ¬cond0_0 i) (hc1 : ¬cond0_1 i)
    (x0 : Vec Ideal S1x128x512 .f32) (x1 : Vec Ideal S1x128x512 .f32) (x2 : Vec Ideal S1x128x1024 .f32) (x3 : Vec Ideal S1x128x1024 .f32) (x4 : Vec Ideal S4x1x1 .f32) (x5 : Vec Ideal S4x1x256 .f32) (x6 : Vec Ideal S1x4x128x256 .f32) (xs0 : Vec Ideal S4x128x256 .f32) (y : S4x128x256.Idx) (h : Fin 4) (d : Fin 128) (e : Fin 256) (hy0 : (y 0).val = h.val) (hy1 : (y 1).val = d.val) (hy2 : (y 2).val = e.val) :
    sout0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0 y = blkS x1 x2 x4 (fun h d e => xs0 (ix3 h d e)) h d e := by
  unfold sout0_B_0
  rw [View.read_writes_junk_eq_canon]
  unfold kernelRun0_B
  dsimp only
  sl_unfold_words
  simp (disch := decide) only [↓ View.readCov_skip, ↓ View.readCov_fill, View.readAt_eq_ld, harg2.read_unread, harg3.read_unread, harg4.read_unread, harg5.read_unread, harg6.read_unread, harg7.read_unread, harg8.read_unread, harg11.read_unread]
  canon_tiles x hh
  · obtain rfl : h = (3 : Fin 4) := Fin.ext (by show h.val = 3; omega)
    rw [show x = ix3 (0 : Fin 1) d e from at3 x d e (by omega) (by omega)]
    refine (head3_state _ _ _ _ d e).trans (headS_blk ?_ (fun x d => ?_) (fun x e => ?_) (fun d e => ?_) d e)
    all_goals pointwise [k0_pay2]
  · obtain rfl : h = (2 : Fin 4) := Fin.ext (by show h.val = 2; omega)
    rw [show x = ix3 (0 : Fin 1) d e from at3 x d e (by omega) (by omega)]
    refine (head2_state _ _ _ _ d e).trans (headS_blk ?_ (fun x d => ?_) (fun x e => ?_) (fun d e => ?_) d e)
    all_goals pointwise [k0_pay2]
  · obtain rfl : h = (1 : Fin 4) := Fin.ext (by show h.val = 1; omega)
    rw [show x = ix3 (0 : Fin 1) d e from at3 x d e (by omega) (by omega)]
    refine (head1_state _ _ _ _ d e).trans (headS_blk ?_ (fun x d => ?_) (fun x e => ?_) (fun d e => ?_) d e)
    all_goals pointwise [k0_pay2]
  · obtain rfl : h = (0 : Fin 4) := Fin.ext (by show h.val = 0; omega)
    rw [show x = ix3 (0 : Fin 1) d e from at3 x d e (by omega) (by omega)]
    refine (head0_state _ _ _ _ d e).trans (headS_blk ?_ (fun x d => ?_) (fun x e => ?_) (fun d e => ?_) d e)
    all_goals pointwise [k0_pay2]

/-- Case C: the carried state. -/
theorem sout0_C_0_at (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S4x1x1 .f32) (harg6 : arg6.IsWhole) (arg7 : Memref sig .tc .vmem S4x1x256 .f32) (harg7 : arg7.IsWhole) (arg8 : Memref sig .tc .vmem S1x4x128x256 .f32) (harg8 : arg8.IsWhole) (arg9 : Memref sig .tc .vmem S1x128x1024 .bf16) (harg9 : arg9.IsWhole) (arg10 : Memref sig .tc .vmem S1x4x128x256 .f32) (harg10 : arg10.IsWhole) (arg11 : Memref sig .tc .vmem S4x128x256 .f32) (harg11 : arg11.IsWhole) (hc0 : ¬cond0_0 i) (hc1 : cond0_1 i)
    (x0 : Vec Ideal S1x128x512 .f32) (x1 : Vec Ideal S1x128x512 .f32) (x2 : Vec Ideal S1x128x1024 .f32) (x3 : Vec Ideal S1x128x1024 .f32) (x4 : Vec Ideal S4x1x1 .f32) (x5 : Vec Ideal S4x1x256 .f32) (x6 : Vec Ideal S1x4x128x256 .f32) (xs0 : Vec Ideal S4x128x256 .f32) (y : S4x128x256.Idx) (h : Fin 4) (d : Fin 128) (e : Fin 256) (hy0 : (y 0).val = h.val) (hy1 : (y 1).val = d.val) (hy2 : (y 2).val = e.val) :
    sout0_C_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0 y = blkS x1 x2 x4 (fun h d e => xs0 (ix3 h d e)) h d e := by
  unfold sout0_C_0
  rw [View.read_writes_junk_eq_canon]
  unfold kernelRun0_C
  dsimp only
  sl_unfold_words
  simp (disch := decide) only [↓ View.readCov_skip, ↓ View.readCov_fill, View.readAt_eq_ld, harg2.read_unread, harg3.read_unread, harg4.read_unread, harg5.read_unread, harg6.read_unread, harg7.read_unread, harg8.read_unread, harg11.read_unread]
  canon_tiles x hh
  · obtain rfl : h = (3 : Fin 4) := Fin.ext (by show h.val = 3; omega)
    rw [show x = ix3 (0 : Fin 1) d e from at3 x d e (by omega) (by omega)]
    refine (head3_state _ _ _ _ d e).trans (headS_blk ?_ (fun x d => ?_) (fun x e => ?_) (fun d e => ?_) d e)
    all_goals pointwise [k0_pay2]
  · obtain rfl : h = (2 : Fin 4) := Fin.ext (by show h.val = 2; omega)
    rw [show x = ix3 (0 : Fin 1) d e from at3 x d e (by omega) (by omega)]
    refine (head2_state _ _ _ _ d e).trans (headS_blk ?_ (fun x d => ?_) (fun x e => ?_) (fun d e => ?_) d e)
    all_goals pointwise [k0_pay2]
  · obtain rfl : h = (1 : Fin 4) := Fin.ext (by show h.val = 1; omega)
    rw [show x = ix3 (0 : Fin 1) d e from at3 x d e (by omega) (by omega)]
    refine (head1_state _ _ _ _ d e).trans (headS_blk ?_ (fun x d => ?_) (fun x e => ?_) (fun d e => ?_) d e)
    all_goals pointwise [k0_pay2]
  · obtain rfl : h = (0 : Fin 4) := Fin.ext (by show h.val = 0; omega)
    rw [show x = ix3 (0 : Fin 1) d e from at3 x d e (by omega) (by omega)]
    refine (head0_state _ _ _ _ d e).trans (headS_blk ?_ (fun x d => ?_) (fun x e => ?_) (fun d e => ?_) d e)
    all_goals pointwise [k0_pay2]

/-- Case A: the output block. -/
theorem out0_A_7_at (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S4x1x1 .f32) (harg6 : arg6.IsWhole) (arg7 : Memref sig .tc .vmem S4x1x256 .f32) (harg7 : arg7.IsWhole) (arg8 : Memref sig .tc .vmem S1x4x128x256 .f32) (harg8 : arg8.IsWhole) (arg9 : Memref sig .tc .vmem S1x128x1024 .bf16) (harg9 : arg9.IsWhole) (arg10 : Memref sig .tc .vmem S1x4x128x256 .f32) (harg10 : arg10.IsWhole) (arg11 : Memref sig .tc .vmem S4x128x256 .f32) (harg11 : arg11.IsWhole) (hc0 : cond0_0 i) (hc1 : ¬cond0_1 i)
    (x0 : Vec Ideal S1x128x512 .f32) (x1 : Vec Ideal S1x128x512 .f32) (x2 : Vec Ideal S1x128x1024 .f32) (x3 : Vec Ideal S1x128x1024 .f32) (x4 : Vec Ideal S4x1x1 .f32) (x5 : Vec Ideal S4x1x256 .f32) (x6 : Vec Ideal S1x4x128x256 .f32) (y : S1x128x1024.Idx) (h : Fin 4) (t : Fin 128) (e : Fin 256) (hy1 : (y 1).val = t.val) (hy2 : (y 2).val = h.val * 256 + e.val) :
    out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 y = blkN x0 x1 x2 x3 x4 x5 (fun h d e => x6 (ix4 (0 : Fin 1) h d e)) h t e := by
  unfold out0_A_7
  rw [View.read_writes_junk_eq_canon]
  unfold kernelRun0_A
  dsimp only
  sl_unfold_words
  simp (disch := decide) only [↓ View.readCov_skip, ↓ View.readCov_fill, View.readAt_eq_ld, harg2.read_unread, harg3.read_unread, harg4.read_unread, harg5.read_unread, harg6.read_unread, harg7.read_unread, harg8.read_unread]
  canon_tiles x hh
  · obtain rfl : h = (3 : Fin 4) := Fin.ext (by show h.val = 3; omega)
    rw [show x = ix3 (0 : Fin 1) t e from at3 x t e (by omega) (by omega)]
    refine (head3_store _ _ _ _ _ _ _ t e).trans (headN_blk ?_ (fun x d => ?_) (fun x d => ?_) (fun x e => ?_) (fun e => ?_) (fun x e => ?_) (fun d e => ?_) t e)
    all_goals pointwise [k0_pay2]
  · obtain rfl : h = (2 : Fin 4) := Fin.ext (by show h.val = 2; omega)
    rw [show x = ix3 (0 : Fin 1) t e from at3 x t e (by omega) (by omega)]
    refine (head2_store _ _ _ _ _ _ _ t e).trans (headN_blk ?_ (fun x d => ?_) (fun x d => ?_) (fun x e => ?_) (fun e => ?_) (fun x e => ?_) (fun d e => ?_) t e)
    all_goals pointwise [k0_pay2]
  · obtain rfl : h = (1 : Fin 4) := Fin.ext (by show h.val = 1; omega)
    rw [show x = ix3 (0 : Fin 1) t e from at3 x t e (by omega) (by omega)]
    refine (head1_store _ _ _ _ _ _ _ t e).trans (headN_blk ?_ (fun x d => ?_) (fun x d => ?_) (fun x e => ?_) (fun e => ?_) (fun x e => ?_) (fun d e => ?_) t e)
    all_goals pointwise [k0_pay2]
  · obtain rfl : h = (0 : Fin 4) := Fin.ext (by show h.val = 0; omega)
    rw [show x = ix3 (0 : Fin 1) t e from at3 x t e (by omega) (by omega)]
    refine (head0_store _ _ _ _ _ _ _ t e).trans (headN_blk ?_ (fun x d => ?_) (fun x d => ?_) (fun x e => ?_) (fun e => ?_) (fun x e => ?_) (fun d e => ?_) t e)
    all_goals pointwise [k0_pay2]

/-- Case B: the output block. -/
theorem out0_B_7_at (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S4x1x1 .f32) (harg6 : arg6.IsWhole) (arg7 : Memref sig .tc .vmem S4x1x256 .f32) (harg7 : arg7.IsWhole) (arg8 : Memref sig .tc .vmem S1x4x128x256 .f32) (harg8 : arg8.IsWhole) (arg9 : Memref sig .tc .vmem S1x128x1024 .bf16) (harg9 : arg9.IsWhole) (arg10 : Memref sig .tc .vmem S1x4x128x256 .f32) (harg10 : arg10.IsWhole) (arg11 : Memref sig .tc .vmem S4x128x256 .f32) (harg11 : arg11.IsWhole) (hc0 : ¬cond0_0 i) (hc1 : ¬cond0_1 i)
    (x0 : Vec Ideal S1x128x512 .f32) (x1 : Vec Ideal S1x128x512 .f32) (x2 : Vec Ideal S1x128x1024 .f32) (x3 : Vec Ideal S1x128x1024 .f32) (x4 : Vec Ideal S4x1x1 .f32) (x5 : Vec Ideal S4x1x256 .f32) (x6 : Vec Ideal S1x4x128x256 .f32) (xs0 : Vec Ideal S4x128x256 .f32) (y : S1x128x1024.Idx) (h : Fin 4) (t : Fin 128) (e : Fin 256) (hy1 : (y 1).val = t.val) (hy2 : (y 2).val = h.val * 256 + e.val) :
    out0_B_7 (F := Ideal) c i arg2 harg2 arg3 harg3 arg4 harg4 arg5 harg5 arg6 harg6 arg7 harg7 arg8 harg8 arg9 harg9 arg10 harg10 arg11 harg11 hc0 hc1 x0 x1 x2 x3 x4 x5 x6 xs0 y = blkN x0 x1 x2 x3 x4 x5 (fun h d e => xs0 (ix3 h d e)) h t e := by
  unfold out0_B_7
  rw [View.read_writes_junk_eq_canon]
  unfold kernelRun0_B
  dsimp only
  sl_unfold_words
  simp (disch := decide) only [↓ View.readCov_skip, ↓ View.readCov_fill, View.readAt_eq_ld, harg2.read_unread, harg3.read_unread, harg4.read_unread, harg5.read_unread, harg6.read_unread, harg7.read_unread, harg8.read_unread, harg11.read_unread]
  canon_tiles x hh
  · obtain rfl : h = (3 : Fin 4) := Fin.ext (by show h.val = 3; omega)
    rw [show x = ix3 (0 : Fin 1) t e from at3 x t e (by omega) (by omega)]
    refine (head3_store _ _ _ _ _ _ _ t e).trans (headN_blk ?_ (fun x d => ?_) (fun x d => ?_) (fun x e => ?_) (fun e => ?_) (fun x e => ?_) (fun d e => ?_) t e)
    all_goals pointwise [k0_pay2]
  · obtain rfl : h = (2 : Fin 4) := Fin.ext (by show h.val = 2; omega)
    rw [show x = ix3 (0 : Fin 1) t e from at3 x t e (by omega) (by omega)]
    refine (head2_store _ _ _ _ _ _ _ t e).trans (headN_blk ?_ (fun x d => ?_) (fun x d => ?_) (fun x e => ?_) (fun e => ?_) (fun x e => ?_) (fun d e => ?_) t e)
    all_goals pointwise [k0_pay2]
  · obtain rfl : h = (1 : Fin 4) := Fin.ext (by show h.val = 1; omega)
    rw [show x = ix3 (0 : Fin 1) t e from at3 x t e (by omega) (by omega)]
    refine (head1_store _ _ _ _ _ _ _ t e).trans (headN_blk ?_ (fun x d => ?_) (fun x d => ?_) (fun x e => ?_) (fun e => ?_) (fun x e => ?_) (fun d e => ?_) t e)
    all_goals pointwise [k0_pay2]
  · obtain rfl : h = (0 : Fin 4) := Fin.ext (by show h.val = 0; omega)
    rw [show x = ix3 (0 : Fin 1) t e from at3 x t e (by omega) (by omega)]
    refine (head0_store _ _ _ _ _ _ _ t e).trans (headN_blk ?_ (fun x d => ?_) (fun x d => ?_) (fun x e => ?_) (fun e => ?_) (fun x e => ?_) (fun d e => ?_) t e)
    all_goals pointwise [k0_pay2]

/-- Case C: the output block. -/
theorem out0_C_7_at (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S4x1x1 .f32) (harg6 : arg6.IsWhole) (arg7 : Memref sig .tc .vmem S4x1x256 .f32) (harg7 : arg7.IsWhole) (arg8 : Memref sig .tc .vmem S1x4x128x256 .f32) (harg8 : arg8.IsWhole) (arg9 : Memref sig .tc .vmem S1x128x1024 .bf16) (harg9 : arg9.IsWhole) (arg10 : Memref sig .tc .vmem S1x4x128x256 .f32) (harg10 : arg10.IsWhole) (arg11 : Memref sig .tc .vmem S4x128x256 .f32) (harg11 : arg11.IsWhole) (hc0 : ¬cond0_0 i) (hc1 : cond0_1 i)
    (x0 : Vec Ideal S1x128x512 .f32) (x1 : Vec Ideal S1x128x512 .f32) (x2 : Vec Ideal S1x128x1024 .f32) (x3 : Vec Ideal S1x128x1024 .f32) (x4 : Vec Ideal S4x1x1 .f32) (x5 : Vec Ideal S4x1x256 .f32) (x6 : Vec Ideal S1x4x128x256 .f32) (xs0 : Vec Ideal S4x128x256 .f32) (y : S1x128x1024.Idx) (h : Fin 4) (t : Fin 128) (e : Fin 256) (hy1 : (y 1).val = t.val) (hy2 : (y 2).val = h.val * 256 + e.val) :
    out0_C_7 (F := Ideal) c i arg2 harg2 arg3 harg3 arg4 harg4 arg5 harg5 arg6 harg6 arg7 harg7 arg8 harg8 arg9 harg9 arg10 harg10 arg11 harg11 hc0 hc1 x0 x1 x2 x3 x4 x5 x6 xs0 y = blkN x0 x1 x2 x3 x4 x5 (fun h d e => xs0 (ix3 h d e)) h t e := by
  unfold out0_C_7
  rw [View.read_writes_junk_eq_canon]
  unfold kernelRun0_C
  dsimp only
  sl_unfold_words
  simp (disch := decide) only [↓ View.readCov_skip, ↓ View.readCov_fill, View.readAt_eq_ld, harg2.read_unread, harg3.read_unread, harg4.read_unread, harg5.read_unread, harg6.read_unread, harg7.read_unread, harg8.read_unread, harg11.read_unread]
  canon_tiles x hh
  · obtain rfl : h = (3 : Fin 4) := Fin.ext (by show h.val = 3; omega)
    rw [show x = ix3 (0 : Fin 1) t e from at3 x t e (by omega) (by omega)]
    refine (head3_store _ _ _ _ _ _ _ t e).trans (headN_blk ?_ (fun x d => ?_) (fun x d => ?_) (fun x e => ?_) (fun e => ?_) (fun x e => ?_) (fun d e => ?_) t e)
    all_goals pointwise [k0_pay2]
  · obtain rfl : h = (2 : Fin 4) := Fin.ext (by show h.val = 2; omega)
    rw [show x = ix3 (0 : Fin 1) t e from at3 x t e (by omega) (by omega)]
    refine (head2_store _ _ _ _ _ _ _ t e).trans (headN_blk ?_ (fun x d => ?_) (fun x d => ?_) (fun x e => ?_) (fun e => ?_) (fun x e => ?_) (fun d e => ?_) t e)
    all_goals pointwise [k0_pay2]
  · obtain rfl : h = (1 : Fin 4) := Fin.ext (by show h.val = 1; omega)
    rw [show x = ix3 (0 : Fin 1) t e from at3 x t e (by omega) (by omega)]
    refine (head1_store _ _ _ _ _ _ _ t e).trans (headN_blk ?_ (fun x d => ?_) (fun x d => ?_) (fun x e => ?_) (fun e => ?_) (fun x e => ?_) (fun d e => ?_) t e)
    all_goals pointwise [k0_pay2]
  · obtain rfl : h = (0 : Fin 4) := Fin.ext (by show h.val = 0; omega)
    rw [show x = ix3 (0 : Fin 1) t e from at3 x t e (by omega) (by omega)]
    refine (head0_store _ _ _ _ _ _ _ t e).trans (headN_blk ?_ (fun x d => ?_) (fun x d => ?_) (fun x e => ?_) (fun e => ?_) (fun x e => ?_) (fun d e => ?_) t e)
    all_goals pointwise [k0_pay2]

/-- Case C: the block of the last result is the carried state. -/
theorem out0_C_8_at (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S4x1x1 .f32) (harg6 : arg6.IsWhole) (arg7 : Memref sig .tc .vmem S4x1x256 .f32) (harg7 : arg7.IsWhole) (arg8 : Memref sig .tc .vmem S1x4x128x256 .f32) (harg8 : arg8.IsWhole) (arg9 : Memref sig .tc .vmem S1x128x1024 .bf16) (harg9 : arg9.IsWhole) (arg10 : Memref sig .tc .vmem S1x4x128x256 .f32) (harg10 : arg10.IsWhole) (arg11 : Memref sig .tc .vmem S4x128x256 .f32) (harg11 : arg11.IsWhole) (hc0 : ¬cond0_0 i) (hc1 : cond0_1 i)
    (x0 : Vec Ideal S1x128x512 .f32) (x1 : Vec Ideal S1x128x512 .f32) (x2 : Vec Ideal S1x128x1024 .f32) (x3 : Vec Ideal S1x128x1024 .f32) (x4 : Vec Ideal S4x1x1 .f32) (x5 : Vec Ideal S4x1x256 .f32) (x6 : Vec Ideal S1x4x128x256 .f32) (xs0 : Vec Ideal S4x128x256 .f32) (y : S1x4x128x256.Idx) (h : Fin 4) (d : Fin 128) (e : Fin 256) (hy : y = ix4 (0 : Fin 1) h d e) :
    out0_C_8 (F := Ideal) c i arg2 harg2 arg3 harg3 arg4 harg4 arg5 harg5 arg6 harg6 arg7 harg7 arg8 harg8 arg9 harg9 arg10 harg10 arg11 harg11 hc0 hc1 x0 x1 x2 x3 x4 x5 x6 xs0 y = blkS x1 x2 x4 (fun h d e => xs0 (ix3 h d e)) h d e := by
  refine Eq.trans ?_ (sout0_C_0_at c i arg2 harg2 arg3 harg3 arg4 harg4 arg5 harg5 arg6 harg6 arg7 harg7 arg8 harg8 arg9 harg9 arg10 harg10 arg11 harg11 hc0 hc1 x0 x1 x2 x3 x4 x5 x6 xs0 (ix3 h d e) h d e rfl rfl rfl)
  subst hy
  unfold out0_C_8 sout0_C_0
  rw [View.read_writes_junk_eq_canon, View.read_writes_junk_eq_canon]
  unfold kernelRun0_C
  dsimp only
  sl_unfold_words
  rw [View.canon_cons_unit_lit _ _ _ (by decide), View.readCov_eq_canon']
  have key : ∀ X : Vec Ideal S4x128x256 .f32,
      k0_pay1 (View.ld X (Rect.unit ![0, 0, 0] ![4, 128, 256] inb_S4x128x256_S4x128x256_0_0_0)) (ix4 (0 : Fin 1) h d e) = X (ix3 h d e) := fun X => by
    pointwise [k0_pay1]
  exact key _

end Cert.KernelIdeal.Ret
-- ==== Proof.Points.lean ====
module

public import proofs.«01_k».proof.Proof.Tiles
public import Idealize.ShloMosaic.Lib.Claim

@[expose] public section
set_option maxRecDepth 16384

/-! # The kernel over its 64 grid points

Grid point `t` handles chunk `t % 32` of row `t / 32`.  This file reads each input block as a part of an argument, shows
by induction over the points that the carried scratch holds the state of `Ret.stR`, and reads both results off. -/

noncomputable section
open Idealize.ShloMosaic Idealize.ShloMosaic.TcCoe Idealize.SL.Sem
namespace Cert.KernelIdeal.Ret
open Cert.KernelIdeal Cert.KernelIdeal.Gen Cert.KernelIdeal.Value Cert.Ret

variable (m : (ℓ : Loc nD τ sig) → Buf (Elt Ideal) ℓ) (c : Dev nD)

/-- Where each window's block lies at grid point `t`: row `t / 32`, chunk `t % 32`. -/
theorem idx : ∀ t : Fin cfg0.N,
    win0_0.index t = ![t.val / 32, t.val % 32, 0] ∧ win0_1.index t = ![t.val / 32, t.val % 32, 1]
    ∧ win0_2.index t = ![t.val / 32, t.val % 32, 0] ∧ win0_3.index t = ![t.val / 32, t.val % 32, 1]
    ∧ win0_4.index t = ![0, 0, 0] ∧ win0_5.index t = ![0, 0, 0] ∧ win0_6.index t = ![t.val / 32, 0, 0, 0] :=
  (by decide +kernel : ∀ t : Fin grid0.N, _)

/-- The host's logarithms of the decays, as the kernel is given them. -/
theorem lg_at (h : Fin 4) : V m c main_v9 (ix3 h (0 : Fin 1) (0 : Fin 1)) = lgam h := by
  entry_read
  unfold lgam tv
  pointwise

/-- The scales, as the kernel is given them. -/
theorem g_at (h : Fin 4) (e : Fin 256) : V m c main_v10 (ix3 h (0 : Fin 1) e) = m ((c : Thread nD τ).loc main_arg2) (ix2 h e) := by
  entry_read
  pointwise

/-- The first state is zero. -/
theorem z_at (b : Fin 2) (h : Fin 4) (d : Fin 128) (e : Fin 256) : V m c main_v8 (ix4 b h d e) = (0 : EReal) := by
  entry_read
  pointwise

/-- The row a grid point works on. -/
def rowOf (t : Fin cfg0.N) : Fin 2 := ⟨t.val / 32, by have := lt_of_lt_of_eq t.isLt N_0; omega⟩

/-- Queries and keys, the first argument. -/
abbrev A0 : (⟨3, ![2, 4096, 1024]⟩ : Shape).Idx → EReal := m ((c : Thread nD τ).loc main_arg0)
/-- Values and gates, the second argument. -/
abbrev A1 : (⟨3, ![2, 4096, 2048]⟩ : Shape).Idx → EReal := m ((c : Thread nD τ).loc main_arg1)
/-- Scales, the third argument. -/
abbrev A2 : (⟨2, ![4, 256]⟩ : Shape).Idx → EReal := m ((c : Thread nD τ).loc main_arg2)

theorem q_blk (t : Fin cfg0.N) (x : Fin 128) (d : Fin 512) :
    iblk m c 0 t (ix3 (0 : Fin 1) x d) = A0 m c (ix3 (rowOf t) (row (t.val % 32) x) (⟨d.val, by omega⟩ : Fin 1024)) := by
  unfold row rowOf
  blk_ext [iblk, V, idx t]

theorem k_blk (t : Fin cfg0.N) (x : Fin 128) (d : Fin 512) :
    iblk m c 1 t (ix3 (0 : Fin 1) x d) = A0 m c (ix3 (rowOf t) (row (t.val % 32) x) (⟨512 + d.val, by omega⟩ : Fin 1024)) := by
  unfold row rowOf
  blk_ext [iblk, V, idx t]

theorem v_blk (t : Fin cfg0.N) (x : Fin 128) (e : Fin 1024) :
    iblk m c 2 t (ix3 (0 : Fin 1) x e) = A1 m c (ix3 (rowOf t) (row (t.val % 32) x) (⟨e.val, by omega⟩ : Fin 2048)) := by
  unfold row rowOf
  blk_ext [iblk, V, idx t]

theorem gd_blk (t : Fin cfg0.N) (x : Fin 128) (e : Fin 1024) :
    iblk m c 3 t (ix3 (0 : Fin 1) x e) = A1 m c (ix3 (rowOf t) (row (t.val % 32) x) (⟨1024 + e.val, by omega⟩ : Fin 2048)) := by
  unfold row rowOf
  blk_ext [iblk, V, idx t]

theorem lg_blk (t : Fin cfg0.N) (h : Fin 4) : iblk m c 4 t (ix3 h (0 : Fin 1) (0 : Fin 1)) = lgam h := by
  refine Eq.trans ?_ (lg_at m c h)
  blk_ext [iblk, idx t]

theorem g_blk (t : Fin cfg0.N) (h : Fin 4) (e : Fin 256) : iblk m c 5 t (ix3 h (0 : Fin 1) e) = A2 m c (ix2 h e) := by
  refine Eq.trans ?_ (g_at m c h e)
  blk_ext [iblk, idx t]

theorem z_blk (t : Fin cfg0.N) (h : Fin 4) (d : Fin 128) (e : Fin 256) : iblk m c 6 t (ix4 (0 : Fin 1) h d e) = (0 : EReal) := by
  refine Eq.trans ?_ (z_at m c (rowOf t) h d e)
  unfold rowOf
  blk_ext [iblk, idx t]

/-- A point's next state, over the arguments. -/
theorem blkS_at (t : Fin cfg0.N) (S : Fin 4 → Fin 128 → Fin 256 → EReal) (h : Fin 4) (d : Fin 128) (e : Fin 256) :
    blkS (iblk m c 1 t) (iblk m c 2 t) (iblk m c 4 t) S h d e
      = nextS (lgam h) (kC (A0 m c) (rowOf t) h (t.val % 32)) (vC (A1 m c) (rowOf t) h (t.val % 32)) (S h) d e := by
  unfold blkS
  simp only [k_blk, v_blk, lg_blk]
  rfl

/-- A point's outputs, over the arguments. -/
theorem blkN_at (t : Fin cfg0.N) (S : Fin 4 → Fin 128 → Fin 256 → EReal) (h : Fin 4) (x : Fin 128) (e : Fin 256) :
    blkN (iblk m c 0 t) (iblk m c 1 t) (iblk m c 2 t) (iblk m c 3 t) (iblk m c 4 t) (iblk m c 5 t) S h x e
      = normGate (outRow (lgam h) (qC (A0 m c) (rowOf t) h (t.val % 32)) (kC (A0 m c) (rowOf t) h (t.val % 32))
          (vC (A1 m c) (rowOf t) h (t.val % 32)) (S h) x) (A2 m c (ix2 h e))
          (A1 m c (ix3 (rowOf t) (row (t.val % 32) x) (⟨1024 + (h.val * 256 + e.val), by omega⟩ : Fin 2048))) e := by
  unfold blkN
  simp only [q_blk, k_blk, v_blk, lg_blk, g_blk, gd_blk]
  rfl

theorem st_A (t : Fin cfg0.N) (h0 : t.val % 32 = 0) (h1 : ¬t.val % 32 = 31) (h : Fin 4) (d : Fin 128) (e : Fin 256) :
    (outsAt0 m c t.val t.isLt).2.2 (ix3 h d e)
      = blkS (iblk m c 1 t) (iblk m c 2 t) (iblk m c 4 t) (fun h d e => iblk m c 6 t (ix4 (0 : Fin 1) h d e)) h d e := by
  rw [outsAt0_A m c t h0 h1]
  dsimp only
  rw [sout0_A_0_at (h := h) (d := d) (e := e)]
  all_goals rfl

theorem ot_A (t : Fin cfg0.N) (h0 : t.val % 32 = 0) (h1 : ¬t.val % 32 = 31) (h : Fin 4) (x : Fin 128) (e : Fin 256) (y : S1x128x1024.Idx)
    (hy1 : (y 1).val = x.val) (hy2 : (y 2).val = h.val * 256 + e.val) :
    (outsAt0 m c t.val t.isLt).1 y
      = blkN (iblk m c 0 t) (iblk m c 1 t) (iblk m c 2 t) (iblk m c 3 t) (iblk m c 4 t) (iblk m c 5 t) (fun h d e => iblk m c 6 t (ix4 (0 : Fin 1) h d e)) h x e := by
  rw [outsAt0_A m c t h0 h1]
  dsimp only
  rw [out0_A_7_at (h := h) (t := x) (e := e) (hy1 := hy1) (hy2 := hy2)]

theorem st_B (t : Fin cfg0.N) (h0 : ¬t.val % 32 = 0) (h1 : ¬t.val % 32 = 31) (h : Fin 4) (d : Fin 128) (e : Fin 256) :
    (outsAt0 m c t.val t.isLt).2.2 (ix3 h d e)
      = blkS (iblk m c 1 t) (iblk m c 2 t) (iblk m c 4 t) (fun h d e => (outsAt0 m c (t.val - 1) (Nat.lt_of_le_of_lt (Nat.sub_le _ _) t.isLt)).2.2 (ix3 h d e)) h d e := by
  rw [outsAt0_B m c t h0 h1]
  dsimp only
  rw [sout0_B_0_at (h := h) (d := d) (e := e)]
  all_goals rfl

theorem ot_B (t : Fin cfg0.N) (h0 : ¬t.val % 32 = 0) (h1 : ¬t.val % 32 = 31) (h : Fin 4) (x : Fin 128) (e : Fin 256) (y : S1x128x1024.Idx)
    (hy1 : (y 1).val = x.val) (hy2 : (y 2).val = h.val * 256 + e.val) :
    (outsAt0 m c t.val t.isLt).1 y
      = blkN (iblk m c 0 t) (iblk m c 1 t) (iblk m c 2 t) (iblk m c 3 t) (iblk m c 4 t) (iblk m c 5 t) (fun h d e => (outsAt0 m c (t.val - 1) (Nat.lt_of_le_of_lt (Nat.sub_le _ _) t.isLt)).2.2 (ix3 h d e)) h x e := by
  rw [outsAt0_B m c t h0 h1]
  dsimp only
  rw [out0_B_7_at (h := h) (t := x) (e := e) (hy1 := hy1) (hy2 := hy2)]

theorem st_C (t : Fin cfg0.N) (h0 : ¬t.val % 32 = 0) (h1 : t.val % 32 = 31) (h : Fin 4) (d : Fin 128) (e : Fin 256) :
    (outsAt0 m c t.val t.isLt).2.2 (ix3 h d e)
      = blkS (iblk m c 1 t) (iblk m c 2 t) (iblk m c 4 t) (fun h d e => (outsAt0 m c (t.val - 1) (Nat.lt_of_le_of_lt (Nat.sub_le _ _) t.isLt)).2.2 (ix3 h d e)) h d e := by
  rw [outsAt0_C m c t h0 h1]
  dsimp only
  rw [sout0_C_0_at (h := h) (d := d) (e := e)]
  all_goals rfl

theorem ot_C (t : Fin cfg0.N) (h0 : ¬t.val % 32 = 0) (h1 : t.val % 32 = 31) (h : Fin 4) (x : Fin 128) (e : Fin 256) (y : S1x128x1024.Idx)
    (hy1 : (y 1).val = x.val) (hy2 : (y 2).val = h.val * 256 + e.val) :
    (outsAt0 m c t.val t.isLt).1 y
      = blkN (iblk m c 0 t) (iblk m c 1 t) (iblk m c 2 t) (iblk m c 3 t) (iblk m c 4 t) (iblk m c 5 t) (fun h d e => (outsAt0 m c (t.val - 1) (Nat.lt_of_le_of_lt (Nat.sub_le _ _) t.isLt)).2.2 (ix3 h d e)) h x e := by
  rw [outsAt0_C m c t h0 h1]
  dsimp only
  rw [out0_C_7_at (h := h) (t := x) (e := e) (hy1 := hy1) (hy2 := hy2)]

theorem fin_C (t : Fin cfg0.N) (h0 : ¬t.val % 32 = 0) (h1 : t.val % 32 = 31) (h : Fin 4) (d : Fin 128) (e : Fin 256) (y : S1x4x128x256.Idx)
    (hy : y = ix4 (0 : Fin 1) h d e) :
    (outsAt0 m c t.val t.isLt).2.1 y
      = blkS (iblk m c 1 t) (iblk m c 2 t) (iblk m c 4 t) (fun h d e => (outsAt0 m c (t.val - 1) (Nat.lt_of_le_of_lt (Nat.sub_le _ _) t.isLt)).2.2 (ix3 h d e)) h d e := by
  rw [outsAt0_C m c t h0 h1]
  dsimp only
  rw [out0_C_8_at (h := h) (d := d) (e := e) (hy := hy)]

/-- After point `n` the carried scratch is the state after chunk `n % 32` of row `n / 32`. -/
theorem state_at : ∀ (n : ℕ) (hn : n < cfg0.N) (h : Fin 4) (d : Fin 128) (e : Fin 256),
    (outsAt0 m c n hn).2.2 (ix3 h d e) = stR lgam (A0 m c) (A1 m c) (rowOf ⟨n, hn⟩) h (n % 32 + 1) d e := by
  intro n
  induction n with
  | zero =>
    intro hn h d e
    refine (st_A m c ⟨0, hn⟩ (by rfl) (by show ¬(0 % 32 = 31); decide) h d e).trans ?_
    rw [blkS_at]
    simp only [z_blk]
    rfl
  | succ n ih =>
    intro hn h d e
    have hN := lt_of_lt_of_eq hn N_0
    by_cases h0 : (n + 1) % 32 = 0
    · refine (st_A m c ⟨n + 1, hn⟩ h0 (by dsimp only; omega) h d e).trans ?_
      rw [blkS_at]
      simp only [z_blk, h0]
      rfl
    · have key : ∀ d e, (outsAt0 m c n (by omega)).2.2 (ix3 h d e)
          = stR lgam (A0 m c) (A1 m c) (rowOf ⟨n + 1, hn⟩) h ((n + 1) % 32) d e := fun d e => by
        rw [ih (by omega) h d e, show rowOf ⟨n, by omega⟩ = rowOf ⟨n + 1, hn⟩ from Fin.ext (by show n / 32 = (n + 1) / 32; omega),
          show n % 32 + 1 = (n + 1) % 32 by omega]
      by_cases h1 : (n + 1) % 32 = 31
      · refine (st_C m c ⟨n + 1, hn⟩ h0 h1 h d e).trans ?_
        rw [blkS_at]
        show nextS _ _ _ (fun d e => (outsAt0 m c n _).2.2 (ix3 h d e)) d e = _
        simp only [key]
        rfl
      · refine (st_B m c ⟨n + 1, hn⟩ h0 h1 h d e).trans ?_
        rw [blkS_at]
        show nextS _ _ _ (fun d e => (outsAt0 m c n _).2.2 (ix3 h d e)) d e = _
        simp only [key]
        rfl

/-- After point `n` the output block holds the normalised outputs of chunk `n % 32` of row `n / 32`. -/
theorem out_at (n : ℕ) (hn : n < cfg0.N) (h : Fin 4) (x : Fin 128) (e : Fin 256) (y : S1x128x1024.Idx) (hy1 : (y 1).val = x.val)
    (hy2 : (y 2).val = h.val * 256 + e.val) :
    (outsAt0 m c n hn).1 y = normGate (outS lgam (A0 m c) (A1 m c) (rowOf ⟨n, hn⟩) h (n % 32) x) (A2 m c (ix2 h e))
          (A1 m c (ix3 (rowOf ⟨n, hn⟩) (row (n % 32) x) (⟨1024 + (h.val * 256 + e.val), by omega⟩ : Fin 2048))) e := by
  have hN := lt_of_lt_of_eq hn N_0
  by_cases h0 : n % 32 = 0
  · refine (ot_A m c ⟨n, hn⟩ h0 (by dsimp only; omega) h x e y hy1 hy2).trans ?_
    rw [blkN_at]
    simp only [z_blk, h0]
    rfl
  · obtain ⟨n, rfl⟩ : ∃ k, n = k + 1 := ⟨n - 1, by omega⟩
    have key : ∀ d e, (outsAt0 m c n (by omega)).2.2 (ix3 h d e)
        = stR lgam (A0 m c) (A1 m c) (rowOf ⟨n + 1, hn⟩) h ((n + 1) % 32) d e := fun d e => by
      rw [state_at m c n (by omega) h d e, show rowOf ⟨n, by omega⟩ = rowOf ⟨n + 1, hn⟩ from Fin.ext (by show n / 32 = (n + 1) / 32; omega),
        show n % 32 + 1 = (n + 1) % 32 by omega]
    by_cases h1 : (n + 1) % 32 = 31
    · refine (ot_C m c ⟨n + 1, hn⟩ h0 h1 h x e y hy1 hy2).trans ?_
      rw [blkN_at]
      show normGate (outRow _ _ _ _ (fun d e => (outsAt0 m c n _).2.2 (ix3 h d e)) x) _ _ e = _
      simp only [key]
      rfl
    · refine (ot_B m c ⟨n + 1, hn⟩ h0 h1 h x e y hy1 hy2).trans ?_
      rw [blkN_at]
      show normGate (outRow _ _ _ _ (fun d e => (outsAt0 m c n _).2.2 (ix3 h d e)) x) _ _ e = _
      simp only [key]
      rfl

/-- At the last chunk of a row the block of the second result holds the row's final state. -/
theorem fin_at (n : ℕ) (hn : n < cfg0.N) (h1 : n % 32 = 31) (h : Fin 4) (d : Fin 128) (e : Fin 256) (y : S1x4x128x256.Idx)
    (hy : y = ix4 (0 : Fin 1) h d e) :
    (outsAt0 m c n hn).2.1 y = stR lgam (A0 m c) (A1 m c) (rowOf ⟨n, hn⟩) h 32 d e := by
  have hN := lt_of_lt_of_eq hn N_0
  refine Eq.trans ?_ ((state_at m c n hn h d e).trans (by rw [h1]))
  have h0 : ¬n % 32 = 0 := by omega
  exact (fin_C m c ⟨n, hn⟩ h0 h1 h d e y hy).trans (st_C m c ⟨n, hn⟩ h0 h1 h d e).symm

/-- The first result, index by index. -/
theorem G7_at (b : Fin 2) (t : Fin 4096) (e : Fin 1024) :
    G7 m c (ix3 b t e) = normGate (outS lgam (A0 m c) (A1 m c) b (⟨e.val / 256, by omega⟩ : Fin 4) (t.val / 128) (⟨t.val % 128, by omega⟩ : Fin 128))
      (A2 m c (ix2 (⟨e.val / 256, by omega⟩ : Fin 4) (⟨e.val % 256, by omega⟩ : Fin 256)))
      (A1 m c (ix3 b t (⟨1024 + e.val, by omega⟩ : Fin 2048))) (⟨e.val % 256, by omega⟩ : Fin 256) := by
  have hb := b.isLt
  have ht := t.isLt
  have he := e.isLt
  have hp : pt7Of (ix3 b t e) = 32 * b.val + t.val / 128 := by
    show 32 * (b.val / 1 - 0) + 1 * (t.val / 128 - 0) + 1 * (e.val / 1024 - 0) = _
    omega
  have hlt : 32 * b.val + t.val / 128 < cfg0.N := by rw [show cfg0.N = 64 from N_0]; omega
  unfold G7
  rw [dif_pos (by rw [hp]; exact hlt)]
  rw [fold0_congr m c _ _ _ (by rw [Nat.zero_add]; exact hlt) hp, ← outsAt0_sweep m c _ hlt]
  refine (out_at m c _ hlt (⟨e.val / 256, by omega⟩ : Fin 4) (⟨t.val % 128, by omega⟩ : Fin 128) (⟨e.val % 256, by omega⟩ : Fin 256) _ ?_ ?_).trans ?_
  · show t.val % 128 = t.val % 128; rfl
  · show e.val % 1024 = e.val / 256 * 256 + e.val % 256; omega
  · have e1 : rowOf ⟨32 * b.val + t.val / 128, hlt⟩ = b := Fin.ext (by show (32 * b.val + t.val / 128) / 32 = b.val; omega)
    have e2 : (32 * b.val + t.val / 128) % 32 = t.val / 128 := by omega
    have e3 : row (t.val / 128) (⟨t.val % 128, by omega⟩ : Fin 128) = t := Fin.ext (by show t.val / 128 % 32 * 128 + t.val % 128 = t.val; omega)
    have e4 : (⟨1024 + (e.val / 256 * 256 + e.val % 256), by omega⟩ : Fin 2048) = ⟨1024 + e.val, by omega⟩ := Fin.ext (by show 1024 + (e.val / 256 * 256 + e.val % 256) = 1024 + e.val; omega)
    rw [e1, e2, e3, e4]

/-- The second result, index by index. -/
theorem G8_at (b : Fin 2) (h : Fin 4) (d : Fin 128) (e : Fin 256) :
    G8 m c (ix4 b h d e) = stR lgam (A0 m c) (A1 m c) b h 32 d e := by
  have hb := b.isLt
  have hh := h.isLt
  have hp : pt8Of (ix4 b h d e) = 32 * b.val + 31 := by
    show 32 * (1 * (b.val / 1 - 0) + 1 * (h.val / 4 - 0) + 1 * (d.val / 128 - 0) + 1 * (e.val / 256 - 0)) + 31 = _
    omega
  have hlt : 32 * b.val + 31 < cfg0.N := by rw [show cfg0.N = 64 from N_0]; omega
  unfold G8
  rw [dif_pos (by rw [hp]; exact hlt)]
  rw [fold0_congr m c _ _ _ (by rw [Nat.zero_add]; exact hlt) hp, ← outsAt0_sweep m c _ hlt]
  refine (fin_at m c _ hlt (by omega) h d e _ ?_).trans ?_
  · funext a; apply Fin.ext
    match a with
    | ⟨0, _⟩ => show b.val % 1 = 0; omega
    | ⟨1, _⟩ => show h.val % 4 = h.val; omega
    | ⟨2, _⟩ => show d.val % 128 = d.val; omega
    | ⟨3, _⟩ => show e.val % 256 = e.val; omega
  · rw [show rowOf ⟨32 * b.val + 31, hlt⟩ = b from Fin.ext (by show (32 * b.val + 31) / 32 = b.val; omega)]

end Cert.KernelIdeal.Ret
-- ==== Proof.RefRun.lean ====
module

public import proofs.«01_k».proof.Proof.Gen.ReferenceIdeal.Run
public import proofs.«01_k».proof.Proof.Gen.ReferenceIdeal.Step

@[expose] public section
set_option maxRecDepth 16384

/-! # The reference's run, by the states its loop goes through -/

noncomputable section
open Idealize.ShloMosaic Idealize.ShloMosaic.TcCoe Idealize.SL.Sem Idealize.ShloMosaic.StableHlo

namespace Cert.ReferenceIdeal.Ret
open Cert.ReferenceIdeal Cert.ReferenceIdeal.Gen Cert.ReferenceIdeal.Value Cert.ReferenceIdeal.Step

variable {F : FTy → Type} [FloatOps F]

/-- The buffers the loop carries hold the state `s` before trip `j`. -/
def At (V : Valuation τ sig (Elt F)) (s : State F) (j : ℕ) : Prop :=
  (V (Proc.devRef .tc main_v24_5) = s.main_v24_5 ∧ V (Proc.devRef .tc main_v24_6) = s.main_v24_6)
  ∧ (V (Proc.devRef .tc main_v24_0) = s.main_v24_0 ∧ V (Proc.devRef .tc main_v24_1) = s.main_v24_1
    ∧ V (Proc.devRef .tc main_v24_2) = s.main_v24_2)
  ∧ V (Proc.devRef .tc main_v24_4) = constantI S_ 32 (BitVec.ofNat 32 j)
  ∧ V (Proc.devRef .tc main_v24_3) = K_main_v15 (F := F)

variable {V : Valuation τ sig (Elt F)} {s : State F} {j : ℕ}

theorem at_q (h : At V s j) : res_main_while0b_v54 V = b5 j s := by
  obtain ⟨_, ⟨h0, _, _⟩, h4, _⟩ := h
  unfold res_main_while0b_v54 b5 b4
  rw [h0, h4]; rfl

theorem at_k (h : At V s j) : res_main_while0b_v55 V = b11 j s := by
  obtain ⟨_, ⟨_, h0, _⟩, h4, _⟩ := h
  unfold res_main_while0b_v55 b11 b10
  rw [h0, h4]; rfl

theorem at_v (h : At V s j) : res_main_while0b_v56 V = b17 j s := by
  obtain ⟨_, ⟨_, _, h0⟩, h4, _⟩ := h
  unfold res_main_while0b_v56 b17 b16
  rw [h0, h4]; rfl

/-- The state a trip leaves. -/
theorem at_state (h : At V s j) : Value.step_main_v24_5 V = b84 j s := by
  unfold Value.step_main_v24_5
  rw [at_k h, at_v h]
  obtain ⟨⟨h5, _⟩, _, _, h3⟩ := h
  rw [h5, h3]; rfl

/-- The stacked outputs a trip leaves. -/
theorem at_outs (h : At V s j) : Value.step_main_v24_6 V = b90 j s := by
  unfold Value.step_main_v24_6
  rw [at_q h, at_k h, at_v h]
  obtain ⟨⟨h5, h6⟩, _, h4, h3⟩ := h
  rw [h5, h6, h4, h3]; rfl

/-- One trip goes to the next state. -/
theorem at_step (h : At V s j) : At (STEP V) (step j s) (j + 1) := by
  refine ⟨⟨(STEP_main_v24_5 V).trans (at_state h), (STEP_main_v24_6 V).trans (at_outs h)⟩,
    ⟨(STEP_main_v24_0 V).trans h.2.1.1, (STEP_main_v24_1 V).trans h.2.1.2.1, (STEP_main_v24_2 V).trans h.2.1.2.2⟩,
    (STEP_main_v24_4 V).trans ?_, (STEP_main_v24_3 V).trans h.2.2.2⟩
  unfold Value.step_main_v24_4
  rw [h.2.2.1]
  funext i
  show BitVec.ofNat 32 j + 1#32 = BitVec.ofNat 32 (j + 1)
  rw [BitVec.ofNat_add]

variable (m : (ℓ : Loc nD τ sig) → Buf (Elt F) ℓ) (c : Dev nD)

set_option maxRecDepth 65536 in
/-- What the operations before the loop leave. -/
theorem at_entry : At (entryContents preI m c) (init (m ((c.tc : Thread nD τ).loc main_arg0)) (m ((c.tc : Thread nD τ).loc main_arg1))) 0 := by
  refine ⟨⟨?_, ?_⟩, ⟨?_, ?_, ?_⟩, ?_, ?_⟩ <;> (simp only [entryContents, afterL_cons, afterL_nil]; after_reads_simp) <;> rfl

/-- The states the loop goes through. -/
def iter (a0 : (⟨S2x4096x1024, .f32⟩ : BufTy).Contents (Elt F)) (a1 : (⟨S2x4096x2048, .f32⟩ : BufTy).Contents (Elt F)) : ℕ → State F
  | 0 => init a0 a1
  | n + 1 => step n (iter a0 a1 n)

theorem at_iter : ∀ n, At (STEP^[n] (entryContents preI m c)) (iter (m ((c.tc : Thread nD τ).loc main_arg0)) (m ((c.tc : Thread nD τ).loc main_arg1)) n) n
  | 0 => at_entry m c
  | n + 1 => by
    rw [Function.iterate_succ_apply']
    exact at_step (at_iter n)

/-- The reference ends with its results read off state 32, its arguments unchanged. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v53) = R_main_v53 (iter (m ((c.tc : Thread nD τ).loc main_arg0)) (m ((c.tc : Thread nD τ).loc main_arg1)) 32) (m ((c.tc : Thread nD τ).loc main_arg1)) (m ((c.tc : Thread nD τ).loc main_arg2))
      ∧ r.2.mem ((c.tc : Thread nD τ).loc main_v24_5) = (iter (m ((c.tc : Thread nD τ).loc main_arg0)) (m ((c.tc : Thread nD τ).loc main_arg1)) 32).main_v24_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    have hk := at_iter m c 32
    refine ⟨(h c).1.trans ?_, (h c).2.1.trans hk.1.1, (h c).2.2.1, (h c).2.2.2.1, (h c).2.2.2.2⟩
    unfold out_main_v53 R_main_v53
    rw [hk.1.2, iter_main_arg1 m c 32, iter_main_arg2 m c 32]; rfl) (Value.run m ρ)

end Cert.ReferenceIdeal.Ret
-- ==== Proof.RefRead.lean ====
module

public import proofs.«01_k».proof.Proof.RefRun
public import proofs.«01_k».proof.Proof.Spec
public import Idealize.ShloMosaic.Lib.Pointwise
public import Idealize.ShloMosaic.Lib.DynamicIndex
public import Idealize.ShloMosaic.Lib.WordCmp
public import Idealize.ShloMosaic.Lib.Pipeline.Value
public import Idealize.ShloMosaic.Lib.IdealHost
public import Idealize.ShloMosaic.Lib.Tactic

@[expose] public section
set_option maxRecDepth 16384

/-! # The reference's loop, read index by index -/

noncomputable section
open Idealize.ShloMosaic Idealize.ShloMosaic.TcCoe Idealize.SL.Sem

namespace Cert.ReferenceIdeal.Ret
open Cert.ReferenceIdeal Cert.ReferenceIdeal.Gen Cert.ReferenceIdeal.Step Cert.Ret

/-- The reference's log decay of head `h`. -/
theorem K15_at (h : Fin 4) : K_main_v15 (F := Ideal) (ix1 h) = lgam h := by
  pointwise [K_main_v15, K_main_v14, K_main_v13, K_main_v12, K_main_v11, K_main_v10, K_main_v9, K_main_v8, K_main_cst_0, K_main_cst_1, K_main_cst_2, lgam, tv]

/-! ## A trip's chunk -/

theorem start_eq {k : Fin 5} {j : ℕ} (hj : j < 32) (w : Fin 5 → (⟨S_, .i32⟩ : BufTy).Contents (Elt Ideal))
    (hw : w = ![(constantI S_ 32 (BitVec.ofNat 32 j) : (⟨S_, .i32⟩ : BufTy).Contents (Elt Ideal)), constantI S_ 32 0#32, constantI S_ 32 0#32, constantI S_ 32 0#32, constantI S_ 32 0#32]) :
    (w k (Shape.Idx.first h_S_)).toInt = ((![j, 0, 0, 0, 0] : Fin 5 → ℕ) k : ℤ) := by
  subst hw
  match k with
  | ⟨0, _⟩ => exact toInt_ofNat_of_lt (by omega)
  | ⟨1, _⟩ => rfl
  | ⟨2, _⟩ => rfl
  | ⟨3, _⟩ => rfl
  | ⟨4, _⟩ => rfl

theorem fits_qk {j : ℕ} (hj : j < 32) : S32x2x4x128x128.Slices (![j, 0, 0, 0, 0] : Fin 5 → ℕ) S1x2x4x128x128 :=
  ⟨rfl, fun a => by
    match a with
    | ⟨0, _⟩ => show j + 1 ≤ 32; omega
    | ⟨1, _⟩ => exact (by decide : 0 + 2 ≤ 2)
    | ⟨2, _⟩ => exact (by decide : 0 + 4 ≤ 4)
    | ⟨3, _⟩ => exact (by decide : 0 + 128 ≤ 128)
    | ⟨4, _⟩ => exact (by decide : 0 + 128 ≤ 128)⟩

theorem fits_v {j : ℕ} (hj : j < 32) : S32x2x4x128x256.Slices (![j, 0, 0, 0, 0] : Fin 5 → ℕ) S1x2x4x128x256 :=
  ⟨rfl, fun a => by
    match a with
    | ⟨0, _⟩ => show j + 1 ≤ 32; omega
    | ⟨1, _⟩ => exact (by decide : 0 + 2 ≤ 2)
    | ⟨2, _⟩ => exact (by decide : 0 + 4 ≤ 4)
    | ⟨3, _⟩ => exact (by decide : 0 + 128 ≤ 128)
    | ⟨4, _⟩ => exact (by decide : 0 + 256 ≤ 256)⟩

variable (s : State Ideal)

/-- A trip's queries are chunk `j` of the stacked queries. -/
theorem b5_at {j : ℕ} (hj : j < 32) (b : Fin 2) (h : Fin 4) (t d : Fin 128) :
    b5 j s (ix4 b h t d) = s.main_v24_0 (ix5 (⟨j, hj⟩ : Fin 32) b h t d) := by
  unfold b5 b4
  rw [Host.dynamicSlice_eq_extractStridedSlice _ _ _ (![j, 0, 0, 0, 0] : Fin 5 → ℕ) _ (fits_qk hj) (fun a => start_eq hj _ rfl)]
  pointwise

/-- A trip's keys are chunk `j` of the stacked keys. -/
theorem b11_at {j : ℕ} (hj : j < 32) (b : Fin 2) (h : Fin 4) (t d : Fin 128) :
    b11 j s (ix4 b h t d) = s.main_v24_1 (ix5 (⟨j, hj⟩ : Fin 32) b h t d) := by
  unfold b11 b10
  rw [Host.dynamicSlice_eq_extractStridedSlice _ _ _ (![j, 0, 0, 0, 0] : Fin 5 → ℕ) _ (fits_qk hj) (fun a => start_eq hj _ rfl)]
  pointwise

/-- A trip's values are chunk `j` of the stacked values. -/
theorem b17_at {j : ℕ} (hj : j < 32) (b : Fin 2) (h : Fin 4) (t : Fin 128) (e : Fin 256) :
    b17 j s (ix4 b h t e) = s.main_v24_2 (ix5 (⟨j, hj⟩ : Fin 32) b h t e) := by
  unfold b17 b16
  rw [Host.dynamicSlice_eq_extractStridedSlice _ _ _ (![j, 0, 0, 0, 0] : Fin 5 → ℕ) _ (fits_v hj) (fun a => start_eq hj _ rfl)]
  pointwise

/-- The state after a trip. -/
theorem b84_at (j : ℕ) (b : Fin 2) (h : Fin 4) (d : Fin 128) (e : Fin 256) :
    b84 j s (ix4 b h d e) = nextS (lgam h) (fun x d => b11 j s (ix4 b h x d)) (fun x e => b17 j s (ix4 b h x e))
      (fun d e => s.main_v24_5 (ix4 b h d e)) d e := by
  rw [← K15_at h]
  unfold b84 nextS c128 c127 tv
  pointwise [b83, b82, b81, b80, b79, b78, b77, b76, b75, b74, b73, b72, b71, b70, b69, b68, b67, b66, b65, b64, b63, b62, b18]

/-- A trip's outputs. -/
theorem b61_at (j : ℕ) (b : Fin 2) (h : Fin 4) (t : Fin 128) (e : Fin 256) :
    b61 j s (ix4 b h t e) = outRow (lgam h) (fun x d => b5 j s (ix4 b h x d)) (fun x d => b11 j s (ix4 b h x d))
      (fun x e => b17 j s (ix4 b h x e)) (fun d e => s.main_v24_5 (ix4 b h d e)) t e := by
  rw [← K15_at h]
  unfold outRow tv
  pointwise [b61, b60, b59, b58, b57, b56, b55, b54, b53, b52, b51, b50, b49, b48, b47, b46, b45, b44, b43, b42, b41, b40, b39, b38, b37, b36, b35, b34, b33, b32, b31, b30, b29, b28, b27, b26, b25, b24, b23, b22, b21, b20, b19, b18]

/-- The stacked outputs after a trip: the trip's outputs at chunk `j`, the others as they were. -/
theorem b90_at {j : ℕ} (hj : j < 32) (c : Fin 32) (b : Fin 2) (h : Fin 4) (t : Fin 128) (e : Fin 256) :
    b90 j s (ix5 c b h t e) = if c.val = j then b61 j s (ix4 b h t e) else s.main_v24_6 (ix5 c b h t e) := by
  unfold b90
  rw [WordCmp.dynamicUpdateSlice_eq_update _ _ _ _ (![j, 0, 0, 0, 0] : Fin 5 → ℕ) (fits_v hj) (fun a => start_eq hj _ rfl)]
  by_cases hc : c.val = j
  · subst hc
    rw [if_pos rfl]
    unfold updateSlice
    rw [dif_pos (fun a => by
      match a with
      | ⟨0, _⟩ => exact ⟨le_refl _, by show c.val < c.val + 1; omega⟩
      | ⟨1, _⟩ => exact ⟨Nat.zero_le _, by show b.val < 0 + 2; omega⟩
      | ⟨2, _⟩ => exact ⟨Nat.zero_le _, by show h.val < 0 + 4; omega⟩
      | ⟨3, _⟩ => exact ⟨Nat.zero_le _, by show t.val < 0 + 128; omega⟩
      | ⟨4, _⟩ => exact ⟨Nat.zero_le _, by show e.val < 0 + 256; omega⟩)]
    unfold b85
    show b61 c.val s _ = _
    refine congrArg (b61 c.val s) ?_
    funext a
    apply Fin.ext
    match a with
    | ⟨0, _⟩ => rfl
    | ⟨1, _⟩ => rfl
    | ⟨2, _⟩ => rfl
    | ⟨3, _⟩ => rfl
  · rw [if_neg hc]
    unfold updateSlice
    rw [dif_neg (fun hh => hc (by have h0 := hh 0; have h1 : j ≤ c.val := h0.1; have h2 : c.val < j + 1 := h0.2; omega))]

/-- The result before the cast, of the stacked outputs. -/
theorem R_at (a1 : (⟨S2x4096x2048, .f32⟩ : BufTy).Contents (Elt Ideal)) (a2 : (⟨S4x256, .f32⟩ : BufTy).Contents (Elt Ideal))
    (b : Fin 2) (t : Fin 4096) (e : Fin 1024) :
    R_main_v53 s a1 a2 (ix3 b t e)
      = normGate (fun x => s.main_v24_6 (ix5 (⟨t.val / 128, by omega⟩ : Fin 32) b (⟨e.val / 256, by omega⟩ : Fin 4) (⟨t.val % 128, by omega⟩ : Fin 128) x))
          (a2 (ix2 (⟨e.val / 256, by omega⟩ : Fin 4) (⟨e.val % 256, by omega⟩ : Fin 256)))
          (a1 (ix3 b t (⟨1024 + e.val, by omega⟩ : Fin 2048))) (⟨e.val % 256, by omega⟩ : Fin 256) := by
  unfold normGate c256 cEps
  pointwise [R_main_v53]

variable (a0 : (⟨S2x4096x1024, .f32⟩ : BufTy).Contents (Elt Ideal)) (a1 : (⟨S2x4096x2048, .f32⟩ : BufTy).Contents (Elt Ideal))

theorem row_lt {c : ℕ} (hc : c < 32) (t : Fin 128) : row c t = ⟨c * 128 + t.val, by omega⟩ :=
  Fin.ext (by show c % 32 * 128 + t.val = _; rw [Nat.mod_eq_of_lt hc])

theorem A18_at {c : ℕ} (hc : c < 32) (b : Fin 2) (h : Fin 4) (t d : Fin 128) :
    A_main_v18 a0 a1 (ix5 (⟨c, hc⟩ : Fin 32) b h t d) = qC a0 b h c t d := by
  unfold qC
  rw [row_lt hc]
  pointwise [A_main_v18, A_main_v17, A_main_v3, A_main_v0]

theorem A20_at {c : ℕ} (hc : c < 32) (b : Fin 2) (h : Fin 4) (t d : Fin 128) :
    A_main_v20 a0 a1 (ix5 (⟨c, hc⟩ : Fin 32) b h t d) = kC a0 b h c t d := by
  unfold kC cSc
  rw [row_lt hc]
  pointwise [A_main_v20, A_main_v19, A_main_v6, A_main_v4, A_main_v1, K_main_v5, K_main_cst]

theorem A22_at {c : ℕ} (hc : c < 32) (b : Fin 2) (h : Fin 4) (t : Fin 128) (e : Fin 256) :
    A_main_v22 a0 a1 (ix5 (⟨c, hc⟩ : Fin 32) b h t e) = vC a1 b h c t e := by
  unfold vC
  rw [row_lt hc]
  pointwise [A_main_v22, A_main_v21, A_main_v7, A_main_v2]

/-! ## The loop -/

/-- After `n` chunks: the chunks are as at the start, the state is the specification's after `n` chunks, and the first
    `n` stacked outputs are the specification's. -/
theorem iter_at : ∀ n, n ≤ 32 →
    ((iter a0 a1 n).main_v24_0 = A_main_v18 a0 a1 ∧ (iter a0 a1 n).main_v24_1 = A_main_v20 a0 a1 ∧ (iter a0 a1 n).main_v24_2 = A_main_v22 a0 a1)
    ∧ (∀ b h d e, (iter a0 a1 n).main_v24_5 (ix4 b h d e) = stR lgam a0 a1 b h n d e)
    ∧ (∀ (c : Fin 32) b h t e, c.val < n → (iter a0 a1 n).main_v24_6 (ix5 c b h t e) = outS lgam a0 a1 b h c.val t e)
  | 0, _ => ⟨⟨rfl, rfl, rfl⟩, fun b h d e => by
      show K_main_v16 (F := Ideal) (ix4 b h d e) = 0
      pointwise [K_main_v16, K_main_cst_3], fun c _ _ _ _ hc => absurd hc (Nat.not_lt_zero _)⟩
  | n + 1, hn => by
      obtain ⟨⟨h0, h1, h2⟩, hs, ho⟩ := iter_at n (by omega)
      have hn' : n < 32 := by omega
      have ek : ∀ b h, (fun x d => b11 n (iter a0 a1 n) (ix4 b h x d)) = kC a0 b h n := fun b h => by
        funext x d; rw [b11_at _ hn', h1, A20_at]
      have ev : ∀ b h, (fun x e => b17 n (iter a0 a1 n) (ix4 b h x e)) = vC a1 b h n := fun b h => by
        funext x d; rw [b17_at _ hn', h2, A22_at]
      have eq : ∀ b h, (fun x d => b5 n (iter a0 a1 n) (ix4 b h x d)) = qC a0 b h n := fun b h => by
        funext x d; rw [b5_at _ hn', h0, A18_at]
      have es : ∀ b h, (fun d e => (iter a0 a1 n).main_v24_5 (ix4 b h d e)) = stR lgam a0 a1 b h n := fun b h => by
        funext d e; exact hs b h d e
      refine ⟨⟨h0, h1, h2⟩, fun b h d e => ?_, fun c b h t e hc => ?_⟩
      · show b84 n (iter a0 a1 n) (ix4 b h d e) = _
        rw [b84_at, ek, ev, es]; rfl
      · show b90 n (iter a0 a1 n) (ix5 c b h t e) = _
        rw [b90_at _ hn']
        split
        · next hcn =>
          rw [b61_at, eq, ek, ev, es, hcn]; rfl
        · next hcn => exact ho c b h t e (by omega)

/-- The reference's first result, index by index. -/
theorem out_at (a2 : (⟨S4x256, .f32⟩ : BufTy).Contents (Elt Ideal)) (b : Fin 2) (t : Fin 4096) (e : Fin 1024) :
    R_main_v53 (iter a0 a1 32) a1 a2 (ix3 b t e)
      = normGate (outS lgam a0 a1 b (⟨e.val / 256, by omega⟩ : Fin 4) (t.val / 128) (⟨t.val % 128, by omega⟩ : Fin 128))
          (a2 (ix2 (⟨e.val / 256, by omega⟩ : Fin 4) (⟨e.val % 256, by omega⟩ : Fin 256)))
          (a1 (ix3 b t (⟨1024 + e.val, by omega⟩ : Fin 2048))) (⟨e.val % 256, by omega⟩ : Fin 256) := by
  rw [R_at]
  refine congrArg (fun o => normGate o _ _ _) (funext fun x => ?_)
  exact (iter_at a0 a1 32 le_rfl).2.2 _ _ _ _ _ (by show t.val / 128 < 32; omega)

/-- The reference's second result, index by index. -/
theorem fin_at (b : Fin 2) (h : Fin 4) (d : Fin 128) (e : Fin 256) :
    (iter a0 a1 32).main_v24_5 (ix4 b h d e) = stR lgam a0 a1 b h 32 d e :=
  (iter_at a0 a1 32 le_rfl).2.1 b h d e

end Cert.ReferenceIdeal.Ret
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Z
public import proofs.«01_k».proof.Proof.Gen.KernelZ
public import proofs.«01_k».proof.Proof.Gen.KernelZ.Skeleton
public import proofs.«01_k».proof.Proof.Gen.KernelZ.Launch
public import proofs.«01_k».proof.Proof.Gen.KernelZ.Points
public import proofs.«01_k».proof.Proof.Gen.KernelZ.Frame
public import proofs.«01_k».proof.Proof.Gen.KernelZIdeal
public import proofs.«01_k».proof.Proof.Gen.KernelZIdeal.Skeleton
public import proofs.«01_k».proof.Proof.Gen.KernelZIdeal.Launch
public import proofs.«01_k».proof.Proof.Gen.KernelZIdeal.Points
public import proofs.«01_k».proof.Proof.Gen.KernelZIdeal.Frame
public import proofs.«01_k».proof.Proof.Gen.ReferenceZIdeal
public import proofs.«01_k».proof.Proof.Gen.ReferenceZIdeal.Run
public import proofs.«01_k».proof.Proof.Gen.KernelQb
public import proofs.«01_k».proof.Proof.Gen.KernelQb.Skeleton
public import proofs.«01_k».proof.Proof.Gen.KernelQb.Launch
public import proofs.«01_k».proof.Proof.Gen.KernelQb.Points
public import proofs.«01_k».proof.Proof.Gen.KernelQb.Frame
public import proofs.«01_k».proof.Proof.Gen.KernelQbIdeal
public import proofs.«01_k».proof.Proof.Gen.KernelQbIdeal.Skeleton
public import proofs.«01_k».proof.Proof.Gen.KernelQbIdeal.Launch
public import proofs.«01_k».proof.Proof.Gen.KernelQbIdeal.Points
public import proofs.«01_k».proof.Proof.Gen.KernelQbIdeal.Frame
public import proofs.«01_k».proof.Proof.Gen.ReferenceQbIdeal
public import proofs.«01_k».proof.Proof.Gen.ReferenceQbIdeal.Run
public import proofs.«01_k».proof.Proof.Gen.KernelKb
public import proofs.«01_k».proof.Proof.Gen.KernelKb.Skeleton
public import proofs.«01_k».proof.Proof.Gen.KernelKb.Launch
public import proofs.«01_k».proof.Proof.Gen.KernelKb.Points
public import proofs.«01_k».proof.Proof.Gen.KernelKb.Frame
public import proofs.«01_k».proof.Proof.Gen.KernelKbIdeal
public import proofs.«01_k».proof.Proof.Gen.KernelKbIdeal.Skeleton
public import proofs.«01_k».proof.Proof.Gen.KernelKbIdeal.Launch
public import proofs.«01_k».proof.Proof.Gen.KernelKbIdeal.Points
public import proofs.«01_k».proof.Proof.Gen.KernelKbIdeal.Frame
public import proofs.«01_k».proof.Proof.Gen.ReferenceKbIdeal
public import proofs.«01_k».proof.Proof.Gen.ReferenceKbIdeal.Run
public import proofs.«01_k».proof.Proof.Gen.KernelVb
public import proofs.«01_k».proof.Proof.Gen.KernelVb.Skeleton
public import proofs.«01_k».proof.Proof.Gen.KernelVb.Launch
public import proofs.«01_k».proof.Proof.Gen.KernelVb.Points
public import proofs.«01_k».proof.Proof.Gen.KernelVb.Frame
public import proofs.«01_k».proof.Proof.Gen.KernelVbIdeal
public import proofs.«01_k».proof.Proof.Gen.KernelVbIdeal.Skeleton
public import proofs.«01_k».proof.Proof.Gen.KernelVbIdeal.Launch
public import proofs.«01_k».proof.Proof.Gen.KernelVbIdeal.Points
public import proofs.«01_k».proof.Proof.Gen.KernelVbIdeal.Frame
public import proofs.«01_k».proof.Proof.Gen.ReferenceVbIdeal
public import proofs.«01_k».proof.Proof.Gen.ReferenceVbIdeal.Run
public import proofs.«01_k».proof.Proof.Gen.KernelQc
public import proofs.«01_k».proof.Proof.Gen.KernelQc.Skeleton
public import proofs.«01_k».proof.Proof.Gen.KernelQc.Launch
public import proofs.«01_k».proof.Proof.Gen.KernelQc.Points
public import proofs.«01_k».proof.Proof.Gen.KernelQc.Frame
public import proofs.«01_k».proof.Proof.Gen.KernelQcIdeal
public import proofs.«01_k».proof.Proof.Gen.KernelQcIdeal.Skeleton
public import proofs.«01_k».proof.Proof.Gen.KernelQcIdeal.Launch
public import proofs.«01_k».proof.Proof.Gen.KernelQcIdeal.Points
public import proofs.«01_k».proof.Proof.Gen.KernelQcIdeal.Frame
public import proofs.«01_k».proof.Proof.Gen.ReferenceQcIdeal
public import proofs.«01_k».proof.Proof.Gen.ReferenceQcIdeal.Run
public import proofs.«01_k».proof.Proof.Gen.KernelKc
public import proofs.«01_k».proof.Proof.Gen.KernelKc.Skeleton
public import proofs.«01_k».proof.Proof.Gen.KernelKc.Launch
public import proofs.«01_k».proof.Proof.Gen.KernelKc.Points
public import proofs.«01_k».proof.Proof.Gen.KernelKc.Frame
public import proofs.«01_k».proof.Proof.Gen.KernelKcIdeal
public import proofs.«01_k».proof.Proof.Gen.KernelKcIdeal.Skeleton
public import proofs.«01_k».proof.Proof.Gen.KernelKcIdeal.Launch
public import proofs.«01_k».proof.Proof.Gen.KernelKcIdeal.Points
public import proofs.«01_k».proof.Proof.Gen.KernelKcIdeal.Frame
public import proofs.«01_k».proof.Proof.Gen.ReferenceKcIdeal
public import proofs.«01_k».proof.Proof.Gen.ReferenceKcIdeal.Run
public import proofs.«01_k».proof.Proof.Gen.KernelVc
public import proofs.«01_k».proof.Proof.Gen.KernelVc.Skeleton
public import proofs.«01_k».proof.Proof.Gen.KernelVc.Launch
public import proofs.«01_k».proof.Proof.Gen.KernelVc.Points
public import proofs.«01_k».proof.Proof.Gen.KernelVc.Frame
public import proofs.«01_k».proof.Proof.Gen.KernelVcIdeal
public import proofs.«01_k».proof.Proof.Gen.KernelVcIdeal.Skeleton
public import proofs.«01_k».proof.Proof.Gen.KernelVcIdeal.Launch
public import proofs.«01_k».proof.Proof.Gen.KernelVcIdeal.Points
public import proofs.«01_k».proof.Proof.Gen.KernelVcIdeal.Frame
public import proofs.«01_k».proof.Proof.Gen.ReferenceVcIdeal
public import proofs.«01_k».proof.Proof.Gen.ReferenceVcIdeal.Run
public import proofs.«01_k».proof.Proof.Gen.KernelQi
public import proofs.«01_k».proof.Proof.Gen.KernelQi.Skeleton
public import proofs.«01_k».proof.Proof.Gen.KernelQi.Launch
public import proofs.«01_k».proof.Proof.Gen.KernelQi.Points
public import proofs.«01_k».proof.Proof.Gen.KernelQi.Frame
public import proofs.«01_k».proof.Proof.Gen.KernelQiIdeal
public import proofs.«01_k».proof.Proof.Gen.KernelQiIdeal.Skeleton
public import proofs.«01_k».proof.Proof.Gen.KernelQiIdeal.Launch
public import proofs.«01_k».proof.Proof.Gen.KernelQiIdeal.Points
public import proofs.«01_k».proof.Proof.Gen.KernelQiIdeal.Frame
public import proofs.«01_k».proof.Proof.Gen.ReferenceQiIdeal
public import proofs.«01_k».proof.Proof.Gen.ReferenceQiIdeal.Run
public import proofs.«01_k».proof.Proof.Gen.KernelKi
public import proofs.«01_k».proof.Proof.Gen.KernelKi.Skeleton
public import proofs.«01_k».proof.Proof.Gen.KernelKi.Launch
public import proofs.«01_k».proof.Proof.Gen.KernelKi.Points
public import proofs.«01_k».proof.Proof.Gen.KernelKi.Frame
public import proofs.«01_k».proof.Proof.Gen.KernelKiIdeal
public import proofs.«01_k».proof.Proof.Gen.KernelKiIdeal.Skeleton
public import proofs.«01_k».proof.Proof.Gen.KernelKiIdeal.Launch
public import proofs.«01_k».proof.Proof.Gen.KernelKiIdeal.Points
public import proofs.«01_k».proof.Proof.Gen.KernelKiIdeal.Frame
public import proofs.«01_k».proof.Proof.Gen.ReferenceKiIdeal
public import proofs.«01_k».proof.Proof.Gen.ReferenceKiIdeal.Run
public import proofs.«01_k».proof.Proof.Gen.KernelWi
public import proofs.«01_k».proof.Proof.Gen.KernelWi.Skeleton
public import proofs.«01_k».proof.Proof.Gen.KernelWi.Launch
public import proofs.«01_k».proof.Proof.Gen.KernelWi.Points
public import proofs.«01_k».proof.Proof.Gen.KernelWi.Frame
public import proofs.«01_k».proof.Proof.Gen.KernelWiIdeal
public import proofs.«01_k».proof.Proof.Gen.KernelWiIdeal.Skeleton
public import proofs.«01_k».proof.Proof.Gen.KernelWiIdeal.Launch
public import proofs.«01_k».proof.Proof.Gen.KernelWiIdeal.Points
public import proofs.«01_k».proof.Proof.Gen.KernelWiIdeal.Frame
public import proofs.«01_k».proof.Proof.Gen.ReferenceWiIdeal
public import proofs.«01_k».proof.Proof.Gen.ReferenceWiIdeal.Run
public import proofs.«01_k».proof.Proof.Gen.KernelQkd
public import proofs.«01_k».proof.Proof.Gen.KernelQkd.Skeleton
public import proofs.«01_k».proof.Proof.Gen.KernelQkd.Launch
public import proofs.«01_k».proof.Proof.Gen.KernelQkd.Points
public import proofs.«01_k».proof.Proof.Gen.KernelQkd.Frame
public import proofs.«01_k».proof.Proof.Gen.KernelQkdIdeal
public import proofs.«01_k».proof.Proof.Gen.KernelQkdIdeal.Skeleton
public import proofs.«01_k».proof.Proof.Gen.KernelQkdIdeal.Launch
public import proofs.«01_k».proof.Proof.Gen.KernelQkdIdeal.Points
public import proofs.«01_k».proof.Proof.Gen.KernelQkdIdeal.Frame
public import proofs.«01_k».proof.Proof.Gen.ReferenceQkdIdeal
public import proofs.«01_k».proof.Proof.Gen.ReferenceQkdIdeal.Run
public import proofs.«01_k».proof.Proof.Gen.KernelVgd
public import proofs.«01_k».proof.Proof.Gen.KernelVgd.Skeleton
public import proofs.«01_k».proof.Proof.Gen.KernelVgd.Launch
public import proofs.«01_k».proof.Proof.Gen.KernelVgd.Points
public import proofs.«01_k».proof.Proof.Gen.KernelVgd.Frame
public import proofs.«01_k».proof.Proof.Gen.KernelVgdIdeal
public import proofs.«01_k».proof.Proof.Gen.KernelVgdIdeal.Skeleton
public import proofs.«01_k».proof.Proof.Gen.KernelVgdIdeal.Launch
public import proofs.«01_k».proof.Proof.Gen.KernelVgdIdeal.Points
public import proofs.«01_k».proof.Proof.Gen.KernelVgdIdeal.Frame
public import proofs.«01_k».proof.Proof.Gen.ReferenceVgdIdeal
public import proofs.«01_k».proof.Proof.Gen.ReferenceVgdIdeal.Run
public import proofs.«01_k».proof.Proof.Gen.KernelKbs
public import proofs.«01_k».proof.Proof.Gen.KernelKbs.Skeleton
public import proofs.«01_k».proof.Proof.Gen.KernelKbs.Launch
public import proofs.«01_k».proof.Proof.Gen.KernelKbs.Points
public import proofs.«01_k».proof.Proof.Gen.KernelKbs.Frame
public import proofs.«01_k».proof.Proof.Gen.KernelKbsIdeal
public import proofs.«01_k».proof.Proof.Gen.KernelKbsIdeal.Skeleton
public import proofs.«01_k».proof.Proof.Gen.KernelKbsIdeal.Launch
public import proofs.«01_k».proof.Proof.Gen.KernelKbsIdeal.Points
public import proofs.«01_k».proof.Proof.Gen.KernelKbsIdeal.Frame
public import proofs.«01_k».proof.Proof.Gen.ReferenceKbsIdeal
public import proofs.«01_k».proof.Proof.Gen.ReferenceKbsIdeal.Run
public import proofs.«01_k».proof.Proof.Gen.KernelVbs
public import proofs.«01_k».proof.Proof.Gen.KernelVbs.Skeleton
public import proofs.«01_k».proof.Proof.Gen.KernelVbs.Launch
public import proofs.«01_k».proof.Proof.Gen.KernelVbs.Points
public import proofs.«01_k».proof.Proof.Gen.KernelVbs.Frame
public import proofs.«01_k».proof.Proof.Gen.KernelVbsIdeal
public import proofs.«01_k».proof.Proof.Gen.KernelVbsIdeal.Skeleton
public import proofs.«01_k».proof.Proof.Gen.KernelVbsIdeal.Launch
public import proofs.«01_k».proof.Proof.Gen.KernelVbsIdeal.Points
public import proofs.«01_k».proof.Proof.Gen.KernelVbsIdeal.Frame
public import proofs.«01_k».proof.Proof.Gen.ReferenceVbsIdeal
public import proofs.«01_k».proof.Proof.Gen.ReferenceVbsIdeal.Run
public import proofs.«01_k».proof.Proof.Gen.KernelKcs
public import proofs.«01_k».proof.Proof.Gen.KernelKcs.Skeleton
public import proofs.«01_k».proof.Proof.Gen.KernelKcs.Launch
public import proofs.«01_k».proof.Proof.Gen.KernelKcs.Points
public import proofs.«01_k».proof.Proof.Gen.KernelKcs.Frame
public import proofs.«01_k».proof.Proof.Gen.KernelKcsIdeal
public import proofs.«01_k».proof.Proof.Gen.KernelKcsIdeal.Skeleton
public import proofs.«01_k».proof.Proof.Gen.KernelKcsIdeal.Launch
public import proofs.«01_k».proof.Proof.Gen.KernelKcsIdeal.Points
public import proofs.«01_k».proof.Proof.Gen.KernelKcsIdeal.Frame
public import proofs.«01_k».proof.Proof.Gen.ReferenceKcsIdeal
public import proofs.«01_k».proof.Proof.Gen.ReferenceKcsIdeal.Run
public import proofs.«01_k».proof.Proof.Gen.KernelVcs
public import proofs.«01_k».proof.Proof.Gen.KernelVcs.Skeleton
public import proofs.«01_k».proof.Proof.Gen.KernelVcs.Launch
public import proofs.«01_k».proof.Proof.Gen.KernelVcs.Points
public import proofs.«01_k».proof.Proof.Gen.KernelVcs.Frame
public import proofs.«01_k».proof.Proof.Gen.KernelVcsIdeal
public import proofs.«01_k».proof.Proof.Gen.KernelVcsIdeal.Skeleton
public import proofs.«01_k».proof.Proof.Gen.KernelVcsIdeal.Launch
public import proofs.«01_k».proof.Proof.Gen.KernelVcsIdeal.Points
public import proofs.«01_k».proof.Proof.Gen.KernelVcsIdeal.Frame
public import proofs.«01_k».proof.Proof.Gen.ReferenceVcsIdeal
public import proofs.«01_k».proof.Proof.Gen.ReferenceVcsIdeal.Run
public import proofs.«01_k».proof.Proof.Gen.KernelKis
public import proofs.«01_k».proof.Proof.Gen.KernelKis.Skeleton
public import proofs.«01_k».proof.Proof.Gen.KernelKis.Launch
public import proofs.«01_k».proof.Proof.Gen.KernelKis.Points
public import proofs.«01_k».proof.Proof.Gen.KernelKis.Frame
public import proofs.«01_k».proof.Proof.Gen.KernelKisIdeal
public import proofs.«01_k».proof.Proof.Gen.KernelKisIdeal.Skeleton
public import proofs.«01_k».proof.Proof.Gen.KernelKisIdeal.Launch
public import proofs.«01_k».proof.Proof.Gen.KernelKisIdeal.Points
public import proofs.«01_k».proof.Proof.Gen.KernelKisIdeal.Frame
public import proofs.«01_k».proof.Proof.Gen.ReferenceKisIdeal
public import proofs.«01_k».proof.Proof.Gen.ReferenceKisIdeal.Run
public import proofs.«01_k».proof.Proof.Gen.KernelLg
public import proofs.«01_k».proof.Proof.Gen.KernelLg.Skeleton
public import proofs.«01_k».proof.Proof.Gen.KernelLg.Launch
public import proofs.«01_k».proof.Proof.Gen.KernelLg.Points
public import proofs.«01_k».proof.Proof.Gen.KernelLg.Frame
public import proofs.«01_k».proof.Proof.Gen.KernelLgIdeal
public import proofs.«01_k».proof.Proof.Gen.KernelLgIdeal.Skeleton
public import proofs.«01_k».proof.Proof.Gen.KernelLgIdeal.Launch
public import proofs.«01_k».proof.Proof.Gen.KernelLgIdeal.Points
public import proofs.«01_k».proof.Proof.Gen.KernelLgIdeal.Frame
public import proofs.«01_k».proof.Proof.Gen.ReferenceLgIdeal
public import proofs.«01_k».proof.Proof.Gen.ReferenceLgIdeal.Run
public import proofs.«01_k».proof.Proof.Gen.KernelPln
public import proofs.«01_k».proof.Proof.Gen.KernelPln.Skeleton
public import proofs.«01_k».proof.Proof.Gen.KernelPln.Launch
public import proofs.«01_k».proof.Proof.Gen.KernelPln.Points
public import proofs.«01_k».proof.Proof.Gen.KernelPln.Frame
public import proofs.«01_k».proof.Proof.Gen.KernelPlnIdeal
public import proofs.«01_k».proof.Proof.Gen.KernelPlnIdeal.Skeleton
public import proofs.«01_k».proof.Proof.Gen.KernelPlnIdeal.Launch
public import proofs.«01_k».proof.Proof.Gen.KernelPlnIdeal.Points
public import proofs.«01_k».proof.Proof.Gen.KernelPlnIdeal.Frame
public import proofs.«01_k».proof.Proof.Gen.ReferencePlnIdeal
public import proofs.«01_k».proof.Proof.Gen.ReferencePlnIdeal.Run
public import proofs.«01_k».proof.Proof.Gen.KernelRets
public import proofs.«01_k».proof.Proof.Gen.KernelRets.Skeleton
public import proofs.«01_k».proof.Proof.Gen.KernelRets.Launch
public import proofs.«01_k».proof.Proof.Gen.KernelRets.Points
public import proofs.«01_k».proof.Proof.Gen.KernelRets.Frame
public import proofs.«01_k».proof.Proof.Gen.KernelRetsIdeal
public import proofs.«01_k».proof.Proof.Gen.KernelRetsIdeal.Skeleton
public import proofs.«01_k».proof.Proof.Gen.KernelRetsIdeal.Launch
public import proofs.«01_k».proof.Proof.Gen.KernelRetsIdeal.Points
public import proofs.«01_k».proof.Proof.Gen.KernelRetsIdeal.Frame
public import proofs.«01_k».proof.Proof.Gen.ReferenceRetsIdeal
public import proofs.«01_k».proof.Proof.Gen.ReferenceRetsIdeal.Run
public import proofs.«01_k».proof.Proof.Gen.KernelMls
public import proofs.«01_k».proof.Proof.Gen.KernelMls.Skeleton
public import proofs.«01_k».proof.Proof.Gen.KernelMls.Launch
public import proofs.«01_k».proof.Proof.Gen.KernelMls.Points
public import proofs.«01_k».proof.Proof.Gen.KernelMls.Frame
public import proofs.«01_k».proof.Proof.Gen.KernelMlsIdeal
public import proofs.«01_k».proof.Proof.Gen.KernelMlsIdeal.Skeleton
public import proofs.«01_k».proof.Proof.Gen.KernelMlsIdeal.Launch
public import proofs.«01_k».proof.Proof.Gen.KernelMlsIdeal.Points
public import proofs.«01_k».proof.Proof.Gen.KernelMlsIdeal.Frame
public import proofs.«01_k».proof.Proof.Gen.ReferenceMlsIdeal
public import proofs.«01_k».proof.Proof.Gen.ReferenceMlsIdeal.Run
public import proofs.«01_k».proof.Proof.Z
public import proofs.«01_k».proof.Proof.Qb
public import proofs.«01_k».proof.Proof.Kb
public import proofs.«01_k».proof.Proof.Vb
public import proofs.«01_k».proof.Proof.Qc
public import proofs.«01_k».proof.Proof.Kc
public import proofs.«01_k».proof.Proof.Vc
public import proofs.«01_k».proof.Proof.Qi
public import proofs.«01_k».proof.Proof.Ki
public import proofs.«01_k».proof.Proof.Wi
public import proofs.«01_k».proof.Proof.Qkd
public import proofs.«01_k».proof.Proof.Vgd
public import proofs.«01_k».proof.Proof.Kbs
public import proofs.«01_k».proof.Proof.Vbs
public import proofs.«01_k».proof.Proof.Kcs
public import proofs.«01_k».proof.Proof.Vcs
public import proofs.«01_k».proof.Proof.Kis
public import proofs.«01_k».proof.Proof.Lg
public import proofs.«01_k».proof.Proof.Pln
public import proofs.«01_k».proof.Proof.Rets
public import proofs.«01_k».proof.Proof.Mls
public import proofs.«01_k».proof.Proof.Points
public import proofs.«01_k».proof.Proof.RefRead
public import Idealize.ShloMosaic.Adequacy
public import Idealize.ShloMosaic.Init

@[expose] public section

noncomputable section

namespace Cert.Proof

open Idealize.ShloMosaic Idealize.SL.Sem Cert.Kernel

/-- The frame of the reference: its run leaves the arguments unchanged, and it has no semaphores. -/
theorem frame_ref : Cert.quiescent_ReferenceIdeal (hReferenceIdeal := Cert.ReferenceIdeal.Gen.facts) := by
  intro m ρ _
  refine (θ_run _ _ _).mono (fun r h => ⟨fun c => (h c).2.2, ?_⟩) (Cert.ReferenceIdeal.Ret.run_states m ρ)
  exact sem_eq_zero_of_no_sems rfl _

/-- Over the extended reals the launch and the chunkwise recurrence have the same two results. -/
theorem same : Cert.algebraic_KernelIdeal_ReferenceIdeal (hKernelIdeal := Cert.KernelIdeal.Gen.facts) (hReferenceIdeal := Cert.ReferenceIdeal.Gen.facts) := by
  pair_intro
  · run_from Cert.KernelIdeal.Value.run m g
  · run_from Cert.ReferenceIdeal.Ret.run_states m' g'
    · funext i
      rw [← ix3_eta i]
      exact (Cert.ReferenceIdeal.Ret.out_at _ _ _ _ _ _).trans (Cert.KernelIdeal.Ret.G7_at m c _ _ _).symm
    · funext i
      rw [← ix4_eta i]
      exact (Cert.ReferenceIdeal.Ret.fin_at _ _ _ _ _ _).trans (Cert.KernelIdeal.Ret.G8_at m c _ _ _ _).symm

/-- All the claims: the frames of every program, then of each pair that nothing was lost in the ideal reading and that the two agree. -/
theorem claim : Cert.Claim := ⟨Cert.Kernel.Gen.facts, Cert.KernelIdeal.Gen.facts, Cert.ReferenceIdeal.Gen.facts,
  Cert.KernelZ.Gen.facts, Cert.KernelZIdeal.Gen.facts, Cert.ReferenceZIdeal.Gen.facts,
  Cert.KernelQb.Gen.facts, Cert.KernelQbIdeal.Gen.facts, Cert.ReferenceQbIdeal.Gen.facts,
  Cert.KernelKb.Gen.facts, Cert.KernelKbIdeal.Gen.facts, Cert.ReferenceKbIdeal.Gen.facts,
  Cert.KernelVb.Gen.facts, Cert.KernelVbIdeal.Gen.facts, Cert.ReferenceVbIdeal.Gen.facts,
  Cert.KernelQc.Gen.facts, Cert.KernelQcIdeal.Gen.facts, Cert.ReferenceQcIdeal.Gen.facts,
  Cert.KernelKc.Gen.facts, Cert.KernelKcIdeal.Gen.facts, Cert.ReferenceKcIdeal.Gen.facts,
  Cert.KernelVc.Gen.facts, Cert.KernelVcIdeal.Gen.facts, Cert.ReferenceVcIdeal.Gen.facts,
  Cert.KernelQi.Gen.facts, Cert.KernelQiIdeal.Gen.facts, Cert.ReferenceQiIdeal.Gen.facts,
  Cert.KernelKi.Gen.facts, Cert.KernelKiIdeal.Gen.facts, Cert.ReferenceKiIdeal.Gen.facts,
  Cert.KernelWi.Gen.facts, Cert.KernelWiIdeal.Gen.facts, Cert.ReferenceWiIdeal.Gen.facts,
  Cert.KernelQkd.Gen.facts, Cert.KernelQkdIdeal.Gen.facts, Cert.ReferenceQkdIdeal.Gen.facts,
  Cert.KernelVgd.Gen.facts, Cert.KernelVgdIdeal.Gen.facts, Cert.ReferenceVgdIdeal.Gen.facts,
  Cert.KernelKbs.Gen.facts, Cert.KernelKbsIdeal.Gen.facts, Cert.ReferenceKbsIdeal.Gen.facts,
  Cert.KernelVbs.Gen.facts, Cert.KernelVbsIdeal.Gen.facts, Cert.ReferenceVbsIdeal.Gen.facts,
  Cert.KernelKcs.Gen.facts, Cert.KernelKcsIdeal.Gen.facts, Cert.ReferenceKcsIdeal.Gen.facts,
  Cert.KernelVcs.Gen.facts, Cert.KernelVcsIdeal.Gen.facts, Cert.ReferenceVcsIdeal.Gen.facts,
  Cert.KernelKis.Gen.facts, Cert.KernelKisIdeal.Gen.facts, Cert.ReferenceKisIdeal.Gen.facts,
  Cert.KernelLg.Gen.facts, Cert.KernelLgIdeal.Gen.facts, Cert.ReferenceLgIdeal.Gen.facts,
  Cert.KernelPln.Gen.facts, Cert.KernelPlnIdeal.Gen.facts, Cert.ReferencePlnIdeal.Gen.facts,
  Cert.KernelRets.Gen.facts, Cert.KernelRetsIdeal.Gen.facts, Cert.ReferenceRetsIdeal.Gen.facts,
  Cert.KernelMls.Gen.facts, Cert.KernelMlsIdeal.Gen.facts, Cert.ReferenceMlsIdeal.Gen.facts,
  fun m ρ _ => Cert.Kernel.Gen.frame m ρ, fun m ρ _ => Cert.KernelIdeal.Gen.frame m ρ, frame_ref,
  fun m ρ _ => Cert.KernelZ.Gen.frame m ρ, fun m ρ _ => Cert.KernelZIdeal.Gen.frame m ρ, Cert.ReferenceZIdeal.Pt.frame,
  fun m ρ _ => Cert.KernelQb.Gen.frame m ρ, fun m ρ _ => Cert.KernelQbIdeal.Gen.frame m ρ, Cert.ReferenceQbIdeal.Pt.frame,
  fun m ρ _ => Cert.KernelKb.Gen.frame m ρ, fun m ρ _ => Cert.KernelKbIdeal.Gen.frame m ρ, Cert.ReferenceKbIdeal.Pt.frame,
  fun m ρ _ => Cert.KernelVb.Gen.frame m ρ, fun m ρ _ => Cert.KernelVbIdeal.Gen.frame m ρ, Cert.ReferenceVbIdeal.Pt.frame,
  fun m ρ _ => Cert.KernelQc.Gen.frame m ρ, fun m ρ _ => Cert.KernelQcIdeal.Gen.frame m ρ, Cert.ReferenceQcIdeal.Pt.frame,
  fun m ρ _ => Cert.KernelKc.Gen.frame m ρ, fun m ρ _ => Cert.KernelKcIdeal.Gen.frame m ρ, Cert.ReferenceKcIdeal.Pt.frame,
  fun m ρ _ => Cert.KernelVc.Gen.frame m ρ, fun m ρ _ => Cert.KernelVcIdeal.Gen.frame m ρ, Cert.ReferenceVcIdeal.Pt.frame,
  fun m ρ _ => Cert.KernelQi.Gen.frame m ρ, fun m ρ _ => Cert.KernelQiIdeal.Gen.frame m ρ, Cert.ReferenceQiIdeal.Pt.frame,
  fun m ρ _ => Cert.KernelKi.Gen.frame m ρ, fun m ρ _ => Cert.KernelKiIdeal.Gen.frame m ρ, Cert.ReferenceKiIdeal.Pt.frame,
  fun m ρ _ => Cert.KernelWi.Gen.frame m ρ, fun m ρ _ => Cert.KernelWiIdeal.Gen.frame m ρ, Cert.ReferenceWiIdeal.Pt.frame,
  fun m ρ _ => Cert.KernelQkd.Gen.frame m ρ, fun m ρ _ => Cert.KernelQkdIdeal.Gen.frame m ρ, Cert.ReferenceQkdIdeal.Pt.frame,
  fun m ρ _ => Cert.KernelVgd.Gen.frame m ρ, fun m ρ _ => Cert.KernelVgdIdeal.Gen.frame m ρ, Cert.ReferenceVgdIdeal.Pt.frame,
  fun m ρ _ => Cert.KernelKbs.Gen.frame m ρ, fun m ρ _ => Cert.KernelKbsIdeal.Gen.frame m ρ, Cert.ReferenceKbsIdeal.Pt.frame,
  fun m ρ _ => Cert.KernelVbs.Gen.frame m ρ, fun m ρ _ => Cert.KernelVbsIdeal.Gen.frame m ρ, Cert.ReferenceVbsIdeal.Pt.frame,
  fun m ρ _ => Cert.KernelKcs.Gen.frame m ρ, fun m ρ _ => Cert.KernelKcsIdeal.Gen.frame m ρ, Cert.ReferenceKcsIdeal.Pt.frame,
  fun m ρ _ => Cert.KernelVcs.Gen.frame m ρ, fun m ρ _ => Cert.KernelVcsIdeal.Gen.frame m ρ, Cert.ReferenceVcsIdeal.Pt.frame,
  fun m ρ _ => Cert.KernelKis.Gen.frame m ρ, fun m ρ _ => Cert.KernelKisIdeal.Gen.frame m ρ, Cert.ReferenceKisIdeal.Pt.frame,
  fun m ρ _ => Cert.KernelLg.Gen.frame m ρ, fun m ρ _ => Cert.KernelLgIdeal.Gen.frame m ρ, Cert.ReferenceLgIdeal.Pt.frame,
  fun m ρ _ => Cert.KernelPln.Gen.frame m ρ, fun m ρ _ => Cert.KernelPlnIdeal.Gen.frame m ρ, Cert.ReferencePlnIdeal.Pt.frame,
  fun m ρ _ => Cert.KernelRets.Gen.frame m ρ, fun m ρ _ => Cert.KernelRetsIdeal.Gen.frame m ρ, Cert.ReferenceRetsIdeal.Pt.frame,
  fun m ρ _ => Cert.KernelMls.Gen.frame m ρ, fun m ρ _ => Cert.KernelMlsIdeal.Gen.frame m ρ, Cert.ReferenceMlsIdeal.Pt.frame,
  trivial, same,
  trivial, Cert.ReferenceZIdeal.Pt.same,
  trivial, Cert.ReferenceQbIdeal.Pt.same,
  trivial, Cert.ReferenceKbIdeal.Pt.same,
  trivial, Cert.ReferenceVbIdeal.Pt.same,
  trivial, Cert.ReferenceQcIdeal.Pt.same,
  trivial, Cert.ReferenceKcIdeal.Pt.same,
  trivial, Cert.ReferenceVcIdeal.Pt.same,
  trivial, Cert.ReferenceQiIdeal.Pt.same,
  trivial, Cert.ReferenceKiIdeal.Pt.same,
  trivial, Cert.ReferenceWiIdeal.Pt.same,
  trivial, Cert.ReferenceQkdIdeal.Pt.same,
  trivial, Cert.ReferenceVgdIdeal.Pt.same,
  trivial, Cert.ReferenceKbsIdeal.Pt.same,
  trivial, Cert.ReferenceVbsIdeal.Pt.same,
  trivial, Cert.ReferenceKcsIdeal.Pt.same,
  trivial, Cert.ReferenceVcsIdeal.Pt.same,
  trivial, Cert.ReferenceKisIdeal.Pt.same,
  trivial, Cert.ReferenceLgIdeal.Pt.same,
  trivial, Cert.ReferencePlnIdeal.Pt.same,
  trivial, Cert.ReferenceRetsIdeal.Pt.same,
  trivial, Cert.ReferenceMlsIdeal.Pt.same⟩

end Cert.Proof

end
